-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 [hPre_placed37 : Cert.Pre_placed37.Facts] (m : (ℓ : Loc Cert.Kernel37.nD Cert.Kernel37.τ Cert.Kernel37.sig) → Buf (Elt Bits) ℓ) : Prop :=
  ∀ c : Dev Cert.Kernel37.nD,
    (Cert.Pre_placed37.fn (F := Bits) (m ((c.tc : Thread Cert.Kernel37.nD Cert.Kernel37.τ).loc Cert.Kernel37.main_arg0)) (m ((c.tc : Thread Cert.Kernel37.nD Cert.Kernel37.τ).loc Cert.Kernel37.main_arg1)) (m ((c.tc : Thread Cert.Kernel37.nD Cert.Kernel37.τ).loc Cert.Kernel37.main_arg2)) (m ((c.tc : Thread Cert.Kernel37.nD Cert.Kernel37.τ).loc Cert.Kernel37.main_arg3))) = (fun _ => 1#1)

def Pre_Kernel37Ideal [hPre_placed37 : Cert.Pre_placed37.Facts] (m : (ℓ : Loc Cert.Kernel37Ideal.nD Cert.Kernel37Ideal.τ Cert.Kernel37Ideal.sig) → Buf (Elt Ideal) ℓ) : Prop :=
  ∀ c : Dev Cert.Kernel37Ideal.nD,
    (Cert.Pre_placed37.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2)) (m ((c.tc : Thread Cert.Kernel37Ideal.nD Cert.Kernel37Ideal.τ).loc Cert.Kernel37Ideal.main_arg3))) = (fun _ => 1#1)

def Pre_Reference37Ideal (m : (ℓ : Loc Cert.Reference37Ideal.nD Cert.Reference37Ideal.τ Cert.Reference37Ideal.sig) → Buf (Elt Ideal) ℓ) : Prop :=
  True

def Pre_Reference37Ideal_placed37 [hPre_placed37 : Cert.Pre_placed37.Facts] (m : (ℓ : Loc Cert.Reference37Ideal.nD Cert.Reference37Ideal.τ Cert.Reference37Ideal.sig) → Buf (Elt Ideal) ℓ) : Prop :=
  ∀ c : Dev Cert.Reference37Ideal.nD,
    (Cert.Pre_placed37.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2)) (m ((c.tc : Thread Cert.Reference37Ideal.nD Cert.Reference37Ideal.τ).loc Cert.Reference37Ideal.main_arg3))) = (fun _ => 1#1)

def Pre_Kernel38 [hPre_placed38 : Cert.Pre_placed38.Facts] (m : (ℓ : Loc Cert.Kernel38.nD Cert.Kernel38.τ Cert.Kernel38.sig) → Buf (Elt Bits) ℓ) : Prop :=
  ∀ c : Dev Cert.Kernel38.nD,
    (Cert.Pre_placed38.fn (F := Bits) (m ((c.tc : Thread Cert.Kernel38.nD Cert.Kernel38.τ).loc Cert.Kernel38.main_arg0)) (m ((c.tc : Thread Cert.Kernel38.nD Cert.Kernel38.τ).loc Cert.Kernel38.main_arg1)) (m ((c.tc : Thread Cert.Kernel38.nD Cert.Kernel38.τ).loc Cert.Kernel38.main_arg2)) (m ((c.tc : Thread Cert.Kernel38.nD Cert.Kernel38.τ).loc Cert.Kernel38.main_arg3))) = (fun _ => 1#1)

def Pre_Kernel38Ideal [hPre_placed38 : Cert.Pre_placed38.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_placed38.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2)) (m ((c.tc : Thread Cert.Kernel38Ideal.nD Cert.Kernel38Ideal.τ).loc Cert.Kernel38Ideal.main_arg3))) = (fun _ => 1#1)

def Pre_Reference38Ideal (m : (ℓ : Loc Cert.Reference38Ideal.nD Cert.Reference38Ideal.τ Cert.Reference38Ideal.sig) → Buf (Elt Ideal) ℓ) : Prop :=
  True

def Pre_Reference38Ideal_placed38 [hPre_placed38 : Cert.Pre_placed38.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_placed38.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2)) (m ((c.tc : Thread Cert.Reference38Ideal.nD Cert.Reference38Ideal.τ).loc Cert.Reference38Ideal.main_arg3))) = (fun _ => 1#1)

def Pre_Kernel39 [hPre_placed39 : Cert.Pre_placed39.Facts] (m : (ℓ : Loc Cert.Kernel39.nD Cert.Kernel39.τ Cert.Kernel39.sig) → Buf (Elt Bits) ℓ) : Prop :=
  ∀ c : Dev Cert.Kernel39.nD,
    (Cert.Pre_placed39.fn (F := Bits) (m ((c.tc : Thread Cert.Kernel39.nD Cert.Kernel39.τ).loc Cert.Kernel39.main_arg0)) (m ((c.tc : Thread Cert.Kernel39.nD Cert.Kernel39.τ).loc Cert.Kernel39.main_arg1)) (m ((c.tc : Thread Cert.Kernel39.nD Cert.Kernel39.τ).loc Cert.Kernel39.main_arg2)) (m ((c.tc : Thread Cert.Kernel39.nD Cert.Kernel39.τ).loc Cert.Kernel39.main_arg3))) = (fun _ => 1#1)

def Pre_Kernel39Ideal [hPre_placed39 : Cert.Pre_placed39.Facts] (m : (ℓ : Loc Cert.Kernel39Ideal.nD Cert.Kernel39Ideal.τ Cert.Kernel39Ideal.sig) → Buf (Elt Ideal) ℓ) : Prop :=
  ∀ c : Dev Cert.Kernel39Ideal.nD,
    (Cert.Pre_placed39.fn (F := Ideal) (m ((c.tc : Thread Cert.Kernel39Ideal.nD Cert.Kernel39Ideal.τ).loc Cert.Kernel39Ideal.main_arg0)) (m ((c.tc : Thread Cert.Kernel39Ideal.nD Cert.Kernel39Ideal.τ).loc Cert.Kernel39Ideal.main_arg1)) (m ((c.tc : Thread Cert.Kernel39Ideal.nD Cert.Kernel39Ideal.τ).loc Cert.Kernel39Ideal.main_arg2)) (m ((c.tc : Thread Cert.Kernel39Ideal.nD Cert.Kernel39Ideal.τ).loc Cert.Kernel39Ideal.main_arg3))) = (fun _ => 1#1)

def Pre_Reference39Ideal (m : (ℓ : Loc Cert.Reference39Ideal.nD Cert.Reference39Ideal.τ Cert.Reference39Ideal.sig) → Buf (Elt Ideal) ℓ) : Prop :=
  True

def Pre_Reference39Ideal_placed39 [hPre_placed39 : Cert.Pre_placed39.Facts] (m : (ℓ : Loc Cert.Reference39Ideal.nD Cert.Reference39Ideal.τ Cert.Reference39Ideal.sig) → Buf (Elt Ideal) ℓ) : Prop :=
  ∀ c : Dev Cert.Reference39Ideal.nD,
    (Cert.Pre_placed39.fn (F := Ideal) (m ((c.tc : Thread Cert.Reference39Ideal.nD Cert.Reference39Ideal.τ).loc Cert.Reference39Ideal.main_arg0)) (m ((c.tc : Thread Cert.Reference39Ideal.nD Cert.Reference39Ideal.τ).loc Cert.Reference39Ideal.main_arg1)) (m ((c.tc : Thread Cert.Reference39Ideal.nD Cert.Reference39Ideal.τ).loc Cert.Reference39Ideal.main_arg2)) (m ((c.tc : Thread Cert.Reference39Ideal.nD Cert.Reference39Ideal.τ).loc Cert.Reference39Ideal.main_arg3))) = (fun _ => 1#1)

def Pre_Kernel40 [hPre_placed40 : Cert.Pre_placed40.Facts] (m : (ℓ : Loc Cert.Kernel40.nD Cert.Kernel40.τ Cert.Kernel40.sig) → Buf (Elt Bits) ℓ) : Prop :=
  ∀ c : Dev Cert.Kernel40.nD,
    (Cert.Pre_placed40.fn (F := Bits) (m ((c.tc : Thread Cert.Kernel40.nD Cert.Kernel40.τ).loc Cert.Kernel40.main_arg0)) (m ((c.tc : Thread Cert.Kernel40.nD Cert.Kernel40.τ).loc Cert.Kernel40.main_arg1)) (m ((c.tc : Thread Cert.Kernel40.nD Cert.Kernel40.τ).loc Cert.Kernel40.main_arg2)) (m ((c.tc : Thread Cert.Kernel40.nD Cert.Kernel40.τ).loc Cert.Kernel40.main_arg3))) = (fun _ => 1#1)

def Pre_Kernel40Ideal [hPre_placed40 : Cert.Pre_placed40.Facts] (m : (ℓ : Loc Cert.Kernel40Ideal.nD Cert.Kernel40Ideal.τ Cert.Kernel40Ideal.sig) → Buf (Elt Ideal) ℓ) : Prop :=
  ∀ c : Dev Cert.Kernel40Ideal.nD,
    (Cert.Pre_placed40.fn (F := Ideal) (m ((c.tc : Thread Cert.Kernel40Ideal.nD Cert.Kernel40Ideal.τ).loc Cert.Kernel40Ideal.main_arg0)) (m ((c.tc : Thread Cert.Kernel40Ideal.nD Cert.Kernel40Ideal.τ).loc Cert.Kernel40Ideal.main_arg1)) (m ((c.tc : Thread Cert.Kernel40Ideal.nD Cert.Kernel40Ideal.τ).loc Cert.Kernel40Ideal.main_arg2)) (m ((c.tc : Thread Cert.Kernel40Ideal.nD Cert.Kernel40Ideal.τ).loc Cert.Kernel40Ideal.main_arg3))) = (fun _ => 1#1)

def Pre_Reference40Ideal (m : (ℓ : Loc Cert.Reference40Ideal.nD Cert.Reference40Ideal.τ Cert.Reference40Ideal.sig) → Buf (Elt Ideal) ℓ) : Prop :=
  True

def Pre_Reference40Ideal_placed40 [hPre_placed40 : Cert.Pre_placed40.Facts] (m : (ℓ : Loc Cert.Reference40Ideal.nD Cert.Reference40Ideal.τ Cert.Reference40Ideal.sig) → Buf (Elt Ideal) ℓ) : Prop :=
  ∀ c : Dev Cert.Reference40Ideal.nD,
    (Cert.Pre_placed40.fn (F := Ideal) (m ((c.tc : Thread Cert.Reference40Ideal.nD Cert.Reference40Ideal.τ).loc Cert.Reference40Ideal.main_arg0)) (m ((c.tc : Thread Cert.Reference40Ideal.nD Cert.Reference40Ideal.τ).loc Cert.Reference40Ideal.main_arg1)) (m ((c.tc : Thread Cert.Reference40Ideal.nD Cert.Reference40Ideal.τ).loc Cert.Reference40Ideal.main_arg2)) (m ((c.tc : Thread Cert.Reference40Ideal.nD Cert.Reference40Ideal.τ).loc Cert.Reference40Ideal.main_arg3))) = (fun _ => 1#1)

def Pre_Kernel41 [hPre_placed41 : Cert.Pre_placed41.Facts] (m : (ℓ : Loc Cert.Kernel41.nD Cert.Kernel41.τ Cert.Kernel41.sig) → Buf (Elt Bits) ℓ) : Prop :=
  ∀ c : Dev Cert.Kernel41.nD,
    (Cert.Pre_placed41.fn (F := Bits) (m ((c.tc : Thread Cert.Kernel41.nD Cert.Kernel41.τ).loc Cert.Kernel41.main_arg0)) (m ((c.tc : Thread Cert.Kernel41.nD Cert.Kernel41.τ).loc Cert.Kernel41.main_arg1)) (m ((c.tc : Thread Cert.Kernel41.nD Cert.Kernel41.τ).loc Cert.Kernel41.main_arg2)) (m ((c.tc : Thread Cert.Kernel41.nD Cert.Kernel41.τ).loc Cert.Kernel41.main_arg3)) (m ((c.tc : Thread Cert.Kernel41.nD Cert.Kernel41.τ).loc Cert.Kernel41.main_arg4))) = (fun _ => 1#1)

def Pre_Kernel41Ideal [hPre_placed41 : Cert.Pre_placed41.Facts] (m : (ℓ : Loc Cert.Kernel41Ideal.nD Cert.Kernel41Ideal.τ Cert.Kernel41Ideal.sig) → Buf (Elt Ideal) ℓ) : Prop :=
  ∀ c : Dev Cert.Kernel41Ideal.nD,
    (Cert.Pre_placed41.fn (F := Ideal) (m ((c.tc : Thread Cert.Kernel41Ideal.nD Cert.Kernel41Ideal.τ).loc Cert.Kernel41Ideal.main_arg0)) (m ((c.tc : Thread Cert.Kernel41Ideal.nD Cert.Kernel41Ideal.τ).loc Cert.Kernel41Ideal.main_arg1)) (m ((c.tc : Thread Cert.Kernel41Ideal.nD Cert.Kernel41Ideal.τ).loc Cert.Kernel41Ideal.main_arg2)) (m ((c.tc : Thread Cert.Kernel41Ideal.nD Cert.Kernel41Ideal.τ).loc Cert.Kernel41Ideal.main_arg3)) (m ((c.tc : Thread Cert.Kernel41Ideal.nD Cert.Kernel41Ideal.τ).loc Cert.Kernel41Ideal.main_arg4))) = (fun _ => 1#1)

def Pre_Reference41Ideal (m : (ℓ : Loc Cert.Reference41Ideal.nD Cert.Reference41Ideal.τ Cert.Reference41Ideal.sig) → Buf (Elt Ideal) ℓ) : Prop :=
  True

def Pre_Reference41Ideal_placed41 [hPre_placed41 : Cert.Pre_placed41.Facts] (m : (ℓ : Loc Cert.Reference41Ideal.nD Cert.Reference41Ideal.τ Cert.Reference41Ideal.sig) → Buf (Elt Ideal) ℓ) : Prop :=
  ∀ c : Dev Cert.Reference41Ideal.nD,
    (Cert.Pre_placed41.fn (F := Ideal) (m ((c.tc : Thread Cert.Reference41Ideal.nD Cert.Reference41Ideal.τ).loc Cert.Reference41Ideal.main_arg0)) (m ((c.tc : Thread Cert.Reference41Ideal.nD Cert.Reference41Ideal.τ).loc Cert.Reference41Ideal.main_arg1)) (m ((c.tc : Thread Cert.Reference41Ideal.nD Cert.Reference41Ideal.τ).loc Cert.Reference41Ideal.main_arg2)) (m ((c.tc : Thread Cert.Reference41Ideal.nD Cert.Reference41Ideal.τ).loc Cert.Reference41Ideal.main_arg3)) (m ((c.tc : Thread Cert.Reference41Ideal.nD Cert.Reference41Ideal.τ).loc Cert.Reference41Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5))
      ∧ r.2.sem = fun _ => 0)

def quiescent_Kernel37 [hKernel37 : Cert.Kernel37.Facts] [hPre_placed37 : Cert.Pre_placed37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] [hPre_placed37 : Cert.Pre_placed37.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Reference37Ideal_pre_placed37 [hReference37Ideal : Cert.Reference37Ideal.Facts] [hPre_placed37 : Cert.Pre_placed37.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal_placed37 m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] [hPre_placed38 : Cert.Pre_placed38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] [hPre_placed38 : Cert.Pre_placed38.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Reference38Ideal_pre_placed38 [hReference38Ideal : Cert.Reference38Ideal.Facts] [hPre_placed38 : Cert.Pre_placed38.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal_placed38 m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] [hPre_placed39 : Cert.Pre_placed39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] [hPre_placed39 : Cert.Pre_placed39.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Reference39Ideal_pre_placed39 [hReference39Ideal : Cert.Reference39Ideal.Facts] [hPre_placed39 : Cert.Pre_placed39.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal_placed39 m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] [hPre_placed40 : Cert.Pre_placed40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] [hPre_placed40 : Cert.Pre_placed40.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Reference40Ideal_pre_placed40 [hReference40Ideal : Cert.Reference40Ideal.Facts] [hPre_placed40 : Cert.Pre_placed40.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal_placed40 m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] [hPre_placed41 : Cert.Pre_placed41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4))
      ∧ r.2.sem = fun _ => 0)

def quiescent_Kernel41Ideal [hKernel41Ideal : Cert.Kernel41Ideal.Facts] [hPre_placed41 : Cert.Pre_placed41.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4))
      ∧ r.2.sem = fun _ => 0)

def quiescent_Reference41Ideal_pre_placed41 [hReference41Ideal : Cert.Reference41Ideal.Facts] [hPre_placed41 : Cert.Pre_placed41.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal_placed41 m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_4) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_v60) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v9) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v4_0)) (v1 : (c : Dev Cert.Kernel26Ideal.nD) → Buf (Elt Ideal) ((c.tc : Thread Cert.Kernel26Ideal.nD Cert.Kernel26Ideal.τ).loc Cert.Kernel26Ideal.main_v4_1)) (v2 : (c : Dev Cert.Kernel26Ideal.nD) → Buf (Elt Ideal) ((c.tc : Thread Cert.Kernel26Ideal.nD Cert.Kernel26Ideal.τ).loc Cert.Kernel26Ideal.main_v4_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v4_0) = v0 c
          ∧ r.2.mem ((c.tc : Thread Cert.Kernel26Ideal.nD Cert.Kernel26Ideal.τ).loc Cert.Kernel26Ideal.main_v4_1) = v1 c
          ∧ r.2.mem ((c.tc : Thread Cert.Kernel26Ideal.nD Cert.Kernel26Ideal.τ).loc Cert.Kernel26Ideal.main_v4_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v26) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4_0)) (v1 : (c : Dev Cert.Kernel27Ideal.nD) → Buf (Elt Ideal) ((c.tc : Thread Cert.Kernel27Ideal.nD Cert.Kernel27Ideal.τ).loc Cert.Kernel27Ideal.main_v4_1)) (v2 : (c : Dev Cert.Kernel27Ideal.nD) → Buf (Elt Ideal) ((c.tc : Thread Cert.Kernel27Ideal.nD Cert.Kernel27Ideal.τ).loc Cert.Kernel27Ideal.main_v4_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4_0) = v0 c
          ∧ r.2.mem ((c.tc : Thread Cert.Kernel27Ideal.nD Cert.Kernel27Ideal.τ).loc Cert.Kernel27Ideal.main_v4_1) = v1 c
          ∧ r.2.mem ((c.tc : Thread Cert.Kernel27Ideal.nD Cert.Kernel27Ideal.τ).loc Cert.Kernel27Ideal.main_v4_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v24) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v26) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v4_0)) (v1 : (c : Dev Cert.Kernel28Ideal.nD) → Buf (Elt Ideal) ((c.tc : Thread Cert.Kernel28Ideal.nD Cert.Kernel28Ideal.τ).loc Cert.Kernel28Ideal.main_v4_1)) (v2 : (c : Dev Cert.Kernel28Ideal.nD) → Buf (Elt Ideal) ((c.tc : Thread Cert.Kernel28Ideal.nD Cert.Kernel28Ideal.τ).loc Cert.Kernel28Ideal.main_v4_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v4_0) = v0 c
          ∧ r.2.mem ((c.tc : Thread Cert.Kernel28Ideal.nD Cert.Kernel28Ideal.τ).loc Cert.Kernel28Ideal.main_v4_1) = v1 c
          ∧ r.2.mem ((c.tc : Thread Cert.Kernel28Ideal.nD Cert.Kernel28Ideal.τ).loc Cert.Kernel28Ideal.main_v4_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v24) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v26) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v24) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v26) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v24) = v0 c
          ∧ r.2.mem ((c.tc : Thread Cert.Reference30Ideal.nD Cert.Reference30Ideal.τ).loc Cert.Reference30Ideal.main_v25) = v1 c
          ∧ r.2.mem ((c.tc : Thread Cert.Reference30Ideal.nD Cert.Reference30Ideal.τ).loc Cert.Reference30Ideal.main_v26) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v26) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v40)) (v1 : (c : Dev Cert.Kernel35Ideal.nD) → Buf (Elt Ideal) ((c.tc : Thread Cert.Kernel35Ideal.nD Cert.Kernel35Ideal.τ).loc Cert.Kernel35Ideal.main_v79)) (v2 : (c : Dev Cert.Kernel35Ideal.nD) → Buf (Elt Ideal) ((c.tc : Thread Cert.Kernel35Ideal.nD Cert.Kernel35Ideal.τ).loc Cert.Kernel35Ideal.main_v4)) (v3 : (c : Dev Cert.Kernel35Ideal.nD) → Buf (Elt Ideal) ((c.tc : Thread Cert.Kernel35Ideal.nD Cert.Kernel35Ideal.τ).loc Cert.Kernel35Ideal.main_v6)) (v4 : (c : Dev Cert.Kernel35Ideal.nD) → Buf (Elt Ideal) ((c.tc : Thread Cert.Kernel35Ideal.nD Cert.Kernel35Ideal.τ).loc Cert.Kernel35Ideal.main_v7)) (v5 : (c : Dev Cert.Kernel35Ideal.nD) → Buf (Elt Ideal) ((c.tc : Thread Cert.Kernel35Ideal.nD Cert.Kernel35Ideal.τ).loc Cert.Kernel35Ideal.main_v45)) (v6 : (c : Dev Cert.Kernel35Ideal.nD) → Buf (Elt Ideal) ((c.tc : Thread Cert.Kernel35Ideal.nD Cert.Kernel35Ideal.τ).loc Cert.Kernel35Ideal.main_v11)) (v7 : (c : Dev Cert.Kernel35Ideal.nD) → Buf (Elt Ideal) ((c.tc : Thread Cert.Kernel35Ideal.nD Cert.Kernel35Ideal.τ).loc Cert.Kernel35Ideal.main_v13)) (v8 : (c : Dev Cert.Kernel35Ideal.nD) → Buf (Elt Ideal) ((c.tc : Thread Cert.Kernel35Ideal.nD Cert.Kernel35Ideal.τ).loc Cert.Kernel35Ideal.main_v15)) (v9 : (c : Dev Cert.Kernel35Ideal.nD) → Buf (Elt Ideal) ((c.tc : Thread Cert.Kernel35Ideal.nD Cert.Kernel35Ideal.τ).loc Cert.Kernel35Ideal.main_v17)) (v10 : (c : Dev Cert.Kernel35Ideal.nD) → Buf (Elt Ideal) ((c.tc : Thread Cert.Kernel35Ideal.nD Cert.Kernel35Ideal.τ).loc Cert.Kernel35Ideal.main_v19)) (v11 : (c : Dev Cert.Kernel35Ideal.nD) → Buf (Elt Ideal) ((c.tc : Thread Cert.Kernel35Ideal.nD Cert.Kernel35Ideal.τ).loc Cert.Kernel35Ideal.main_v21)) (v12 : (c : Dev Cert.Kernel35Ideal.nD) → Buf (Elt Ideal) ((c.tc : Thread Cert.Kernel35Ideal.nD Cert.Kernel35Ideal.τ).loc Cert.Kernel35Ideal.main_v23)) (v13 : (c : Dev Cert.Kernel35Ideal.nD) → Buf (Elt Ideal) ((c.tc : Thread Cert.Kernel35Ideal.nD Cert.Kernel35Ideal.τ).loc Cert.Kernel35Ideal.main_v50)) (v14 : (c : Dev Cert.Kernel35Ideal.nD) → Buf (Elt Ideal) ((c.tc : Thread Cert.Kernel35Ideal.nD Cert.Kernel35Ideal.τ).loc Cert.Kernel35Ideal.main_v55)) (v15 : (c : Dev Cert.Kernel35Ideal.nD) → Buf (Elt Ideal) ((c.tc : Thread Cert.Kernel35Ideal.nD Cert.Kernel35Ideal.τ).loc Cert.Kernel35Ideal.main_v60)) (v16 : (c : Dev Cert.Kernel35Ideal.nD) → Buf (Elt Ideal) ((c.tc : Thread Cert.Kernel35Ideal.nD Cert.Kernel35Ideal.τ).loc Cert.Kernel35Ideal.main_v65)) (v17 : (c : Dev Cert.Kernel35Ideal.nD) → Buf (Elt Ideal) ((c.tc : Thread Cert.Kernel35Ideal.nD Cert.Kernel35Ideal.τ).loc Cert.Kernel35Ideal.main_v70)) (v18 : (c : Dev Cert.Kernel35Ideal.nD) → Buf (Elt Ideal) ((c.tc : Thread Cert.Kernel35Ideal.nD Cert.Kernel35Ideal.τ).loc Cert.Kernel35Ideal.main_v75)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v40) = v0 c
          ∧ r.2.mem ((c.tc : Thread Cert.Kernel35Ideal.nD Cert.Kernel35Ideal.τ).loc Cert.Kernel35Ideal.main_v79) = v1 c
          ∧ r.2.mem ((c.tc : Thread Cert.Kernel35Ideal.nD Cert.Kernel35Ideal.τ).loc Cert.Kernel35Ideal.main_v4) = v2 c
          ∧ r.2.mem ((c.tc : Thread Cert.Kernel35Ideal.nD Cert.Kernel35Ideal.τ).loc Cert.Kernel35Ideal.main_v6) = v3 c
          ∧ r.2.mem ((c.tc : Thread Cert.Kernel35Ideal.nD Cert.Kernel35Ideal.τ).loc Cert.Kernel35Ideal.main_v7) = v4 c
          ∧ r.2.mem ((c.tc : Thread Cert.Kernel35Ideal.nD Cert.Kernel35Ideal.τ).loc Cert.Kernel35Ideal.main_v45) = v5 c
          ∧ r.2.mem ((c.tc : Thread Cert.Kernel35Ideal.nD Cert.Kernel35Ideal.τ).loc Cert.Kernel35Ideal.main_v11) = v6 c
          ∧ r.2.mem ((c.tc : Thread Cert.Kernel35Ideal.nD Cert.Kernel35Ideal.τ).loc Cert.Kernel35Ideal.main_v13) = v7 c
          ∧ r.2.mem ((c.tc : Thread Cert.Kernel35Ideal.nD Cert.Kernel35Ideal.τ).loc Cert.Kernel35Ideal.main_v15) = v8 c
          ∧ r.2.mem ((c.tc : Thread Cert.Kernel35Ideal.nD Cert.Kernel35Ideal.τ).loc Cert.Kernel35Ideal.main_v17) = v9 c
          ∧ r.2.mem ((c.tc : Thread Cert.Kernel35Ideal.nD Cert.Kernel35Ideal.τ).loc Cert.Kernel35Ideal.main_v19) = v10 c
          ∧ r.2.mem ((c.tc : Thread Cert.Kernel35Ideal.nD Cert.Kernel35Ideal.τ).loc Cert.Kernel35Ideal.main_v21) = v11 c
          ∧ r.2.mem ((c.tc : Thread Cert.Kernel35Ideal.nD Cert.Kernel35Ideal.τ).loc Cert.Kernel35Ideal.main_v23) = v12 c
          ∧ r.2.mem ((c.tc : Thread Cert.Kernel35Ideal.nD Cert.Kernel35Ideal.τ).loc Cert.Kernel35Ideal.main_v50) = v13 c
          ∧ r.2.mem ((c.tc : Thread Cert.Kernel35Ideal.nD Cert.Kernel35Ideal.τ).loc Cert.Kernel35Ideal.main_v55) = v14 c
          ∧ r.2.mem ((c.tc : Thread Cert.Kernel35Ideal.nD Cert.Kernel35Ideal.τ).loc Cert.Kernel35Ideal.main_v60) = v15 c
          ∧ r.2.mem ((c.tc : Thread Cert.Kernel35Ideal.nD Cert.Kernel35Ideal.τ).loc Cert.Kernel35Ideal.main_v65) = v16 c
          ∧ r.2.mem ((c.tc : Thread Cert.Kernel35Ideal.nD Cert.Kernel35Ideal.τ).loc Cert.Kernel35Ideal.main_v70) = v17 c
          ∧ r.2.mem ((c.tc : Thread Cert.Kernel35Ideal.nD Cert.Kernel35Ideal.τ).loc Cert.Kernel35Ideal.main_v75) = v18 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v3) = v0 c
          ∧ r.2.mem ((c.tc : Thread Cert.Reference35Ideal.nD Cert.Reference35Ideal.τ).loc Cert.Reference35Ideal.main_v78) = v1 c
          ∧ r.2.mem ((c.tc : Thread Cert.Reference35Ideal.nD Cert.Reference35Ideal.τ).loc Cert.Reference35Ideal.main_v5) = v2 c
          ∧ r.2.mem ((c.tc : Thread Cert.Reference35Ideal.nD Cert.Reference35Ideal.τ).loc Cert.Reference35Ideal.main_v7) = v3 c
          ∧ r.2.mem ((c.tc : Thread Cert.Reference35Ideal.nD Cert.Reference35Ideal.τ).loc Cert.Reference35Ideal.main_v8) = v4 c
          ∧ r.2.mem ((c.tc : Thread Cert.Reference35Ideal.nD Cert.Reference35Ideal.τ).loc Cert.Reference35Ideal.main_v15) = v5 c
          ∧ r.2.mem ((c.tc : Thread Cert.Reference35Ideal.nD Cert.Reference35Ideal.τ).loc Cert.Reference35Ideal.main_v17) = v6 c
          ∧ r.2.mem ((c.tc : Thread Cert.Reference35Ideal.nD Cert.Reference35Ideal.τ).loc Cert.Reference35Ideal.main_v19) = v7 c
          ∧ r.2.mem ((c.tc : Thread Cert.Reference35Ideal.nD Cert.Reference35Ideal.τ).loc Cert.Reference35Ideal.main_v21) = v8 c
          ∧ r.2.mem ((c.tc : Thread Cert.Reference35Ideal.nD Cert.Reference35Ideal.τ).loc Cert.Reference35Ideal.main_v23) = v9 c
          ∧ r.2.mem ((c.tc : Thread Cert.Reference35Ideal.nD Cert.Reference35Ideal.τ).loc Cert.Reference35Ideal.main_v25) = v10 c
          ∧ r.2.mem ((c.tc : Thread Cert.Reference35Ideal.nD Cert.Reference35Ideal.τ).loc Cert.Reference35Ideal.main_v27) = v11 c
          ∧ r.2.mem ((c.tc : Thread Cert.Reference35Ideal.nD Cert.Reference35Ideal.τ).loc Cert.Reference35Ideal.main_v29) = v12 c
          ∧ r.2.mem ((c.tc : Thread Cert.Reference35Ideal.nD Cert.Reference35Ideal.τ).loc Cert.Reference35Ideal.main_v36) = v13 c
          ∧ r.2.mem ((c.tc : Thread Cert.Reference35Ideal.nD Cert.Reference35Ideal.τ).loc Cert.Reference35Ideal.main_v43) = v14 c
          ∧ r.2.mem ((c.tc : Thread Cert.Reference35Ideal.nD Cert.Reference35Ideal.τ).loc Cert.Reference35Ideal.main_v50) = v15 c
          ∧ r.2.mem ((c.tc : Thread Cert.Reference35Ideal.nD Cert.Reference35Ideal.τ).loc Cert.Reference35Ideal.main_v57) = v16 c
          ∧ r.2.mem ((c.tc : Thread Cert.Reference35Ideal.nD Cert.Reference35Ideal.τ).loc Cert.Reference35Ideal.main_v64) = v17 c
          ∧ r.2.mem ((c.tc : Thread Cert.Reference35Ideal.nD Cert.Reference35Ideal.τ).loc Cert.Reference35Ideal.main_v71) = v18 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)
      ∧ m' ((c.tc : Thread Cert.Reference36Ideal.nD Cert.Reference36Ideal.τ).loc Cert.Reference36Ideal.main_arg5) = m ((c.tc : Thread Cert.Kernel36Ideal.nD Cert.Kernel36Ideal.τ).loc Cert.Kernel36Ideal.main_arg5)) →
    ∃ (v0 : (c : Dev Cert.Kernel36Ideal.nD) → Buf (Elt Ideal) ((c.tc : Thread Cert.Kernel36Ideal.nD Cert.Kernel36Ideal.τ).loc Cert.Kernel36Ideal.main_v19)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v19) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
          ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v11) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4)
          ∧ r.2.mem ((c.tc : Thread Cert.Reference36Ideal.nD Cert.Reference36Ideal.τ).loc Cert.Reference36Ideal.main_arg5) = m' ((c.tc : Thread Cert.Reference36Ideal.nD Cert.Reference36Ideal.τ).loc Cert.Reference36Ideal.main_arg5))

def preserves_Kernel37_Kernel37Ideal : Prop :=
  True

def algebraic_Kernel37Ideal_Reference37Ideal [hKernel37Ideal : Cert.Kernel37Ideal.Facts] [hReference37Ideal : Cert.Reference37Ideal.Facts] [hPre_placed37 : Cert.Pre_placed37.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v7)) (v1 : (c : Dev Cert.Kernel37Ideal.nD) → Buf (Elt Ideal) ((c.tc : Thread Cert.Kernel37Ideal.nD Cert.Kernel37Ideal.τ).loc Cert.Kernel37Ideal.main_v8)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v7) = v0 c
          ∧ r.2.mem ((c.tc : Thread Cert.Kernel37Ideal.nD Cert.Kernel37Ideal.τ).loc Cert.Kernel37Ideal.main_v8) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v26) = v0 c
          ∧ r.2.mem ((c.tc : Thread Cert.Reference37Ideal.nD Cert.Reference37Ideal.τ).loc Cert.Reference37Ideal.main_v27) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] [hPre_placed38 : Cert.Pre_placed38.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v7)) (v1 : (c : Dev Cert.Kernel38Ideal.nD) → Buf (Elt Ideal) ((c.tc : Thread Cert.Kernel38Ideal.nD Cert.Kernel38Ideal.τ).loc Cert.Kernel38Ideal.main_v8)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v7) = v0 c
          ∧ r.2.mem ((c.tc : Thread Cert.Kernel38Ideal.nD Cert.Kernel38Ideal.τ).loc Cert.Kernel38Ideal.main_v8) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v26) = v0 c
          ∧ r.2.mem ((c.tc : Thread Cert.Reference38Ideal.nD Cert.Reference38Ideal.τ).loc Cert.Reference38Ideal.main_v27) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] [hPre_placed39 : Cert.Pre_placed39.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v6)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v6) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v25) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] [hPre_placed40 : Cert.Pre_placed40.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v7)) (v1 : (c : Dev Cert.Kernel40Ideal.nD) → Buf (Elt Ideal) ((c.tc : Thread Cert.Kernel40Ideal.nD Cert.Kernel40Ideal.τ).loc Cert.Kernel40Ideal.main_v8)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v7) = v0 c
          ∧ r.2.mem ((c.tc : Thread Cert.Kernel40Ideal.nD Cert.Kernel40Ideal.τ).loc Cert.Kernel40Ideal.main_v8) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v26) = v0 c
          ∧ r.2.mem ((c.tc : Thread Cert.Reference40Ideal.nD Cert.Reference40Ideal.τ).loc Cert.Reference40Ideal.main_v27) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] [hPre_placed41 : Cert.Pre_placed41.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)) →
    ∃ (v0 : (c : Dev Cert.Kernel41Ideal.nD) → Buf (Elt Ideal) ((c.tc : Thread Cert.Kernel41Ideal.nD Cert.Kernel41Ideal.τ).loc Cert.Kernel41Ideal.main_v6)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v6) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v15) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hPre_finite : Cert.Pre_finite.Facts) (hPre_finite5 : Cert.Pre_finite5.Facts) (hPre_placed37 : Cert.Pre_placed37.Facts) (hPre_placed38 : Cert.Pre_placed38.Facts) (hPre_placed39 : Cert.Pre_placed39.Facts) (hPre_placed40 : Cert.Pre_placed40.Facts) (hPre_placed41 : Cert.Pre_placed41.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37) (hPre_placed37 := hPre_placed37)
    ∧ quiescent_Kernel37Ideal (hKernel37Ideal := hKernel37Ideal) (hPre_placed37 := hPre_placed37)
    ∧ quiescent_Reference37Ideal (hReference37Ideal := hReference37Ideal)
    ∧ quiescent_Reference37Ideal_pre_placed37 (hReference37Ideal := hReference37Ideal) (hPre_placed37 := hPre_placed37)
    ∧ quiescent_Kernel38 (hKernel38 := hKernel38) (hPre_placed38 := hPre_placed38)
    ∧ quiescent_Kernel38Ideal (hKernel38Ideal := hKernel38Ideal) (hPre_placed38 := hPre_placed38)
    ∧ quiescent_Reference38Ideal (hReference38Ideal := hReference38Ideal)
    ∧ quiescent_Reference38Ideal_pre_placed38 (hReference38Ideal := hReference38Ideal) (hPre_placed38 := hPre_placed38)
    ∧ quiescent_Kernel39 (hKernel39 := hKernel39) (hPre_placed39 := hPre_placed39)
    ∧ quiescent_Kernel39Ideal (hKernel39Ideal := hKernel39Ideal) (hPre_placed39 := hPre_placed39)
    ∧ quiescent_Reference39Ideal (hReference39Ideal := hReference39Ideal)
    ∧ quiescent_Reference39Ideal_pre_placed39 (hReference39Ideal := hReference39Ideal) (hPre_placed39 := hPre_placed39)
    ∧ quiescent_Kernel40 (hKernel40 := hKernel40) (hPre_placed40 := hPre_placed40)
    ∧ quiescent_Kernel40Ideal (hKernel40Ideal := hKernel40Ideal) (hPre_placed40 := hPre_placed40)
    ∧ quiescent_Reference40Ideal (hReference40Ideal := hReference40Ideal)
    ∧ quiescent_Reference40Ideal_pre_placed40 (hReference40Ideal := hReference40Ideal) (hPre_placed40 := hPre_placed40)
    ∧ quiescent_Kernel41 (hKernel41 := hKernel41) (hPre_placed41 := hPre_placed41)
    ∧ quiescent_Kernel41Ideal (hKernel41Ideal := hKernel41Ideal) (hPre_placed41 := hPre_placed41)
    ∧ quiescent_Reference41Ideal (hReference41Ideal := hReference41Ideal)
    ∧ quiescent_Reference41Ideal_pre_placed41 (hReference41Ideal := hReference41Ideal) (hPre_placed41 := hPre_placed41)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal) (hPre_placed37 := hPre_placed37)
    ∧ preserves_Kernel38_Kernel38Ideal
    ∧ algebraic_Kernel38Ideal_Reference38Ideal (hKernel38Ideal := hKernel38Ideal) (hReference38Ideal := hReference38Ideal) (hPre_placed38 := hPre_placed38)
    ∧ preserves_Kernel39_Kernel39Ideal
    ∧ algebraic_Kernel39Ideal_Reference39Ideal (hKernel39Ideal := hKernel39Ideal) (hReference39Ideal := hReference39Ideal) (hPre_placed39 := hPre_placed39)
    ∧ preserves_Kernel40_Kernel40Ideal
    ∧ algebraic_Kernel40Ideal_Reference40Ideal (hKernel40Ideal := hKernel40Ideal) (hReference40Ideal := hReference40Ideal) (hPre_placed40 := hPre_placed40)
    ∧ preserves_Kernel41_Kernel41Ideal
    ∧ algebraic_Kernel41Ideal_Reference41Ideal (hKernel41Ideal := hKernel41Ideal) (hReference41Ideal := hReference41Ideal) (hPre_placed41 := hPre_placed41)
-- ==== Pre_finite.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x5632 : S_.BroadcastsInDim S4096x5632 (![] : Fin 0 → Fin S4096x5632.rank)

variable [Facts]

def fn {F : FTy → Type} [FloatOps F] (main_arg0 : FVec F S4096x1024 .bf16) (main_arg1 : FVec F S2816x1024 .bf16) (main_arg2 : FVec F S4096x5632 .bf16) : IVec S4096x1024 1 × IVec S2816x1024 1 × IVec S4096x5632 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x5632 .f32 := (extf .f32 · bitsLt_bf16_f32) main_arg2
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Pre_finite5.lean ====
abbrev S4352x4096 : Shape := ⟨2, ![4352, 4096]⟩
abbrev S4352x32 : Shape := ⟨2, ![4352, 32]⟩
abbrev S32 : Shape := ⟨1, ![32]⟩
abbrev S17x32x64x128 : Shape := ⟨4, ![17, 32, 64, 128]⟩
abbrev S4352x2048 : Shape := ⟨2, ![4352, 2048]⟩
abbrev S_ : Shape := ⟨0, ![]⟩

class Facts : Prop where
  bcast_S_S4352x4096 : S_.BroadcastsInDim S4352x4096 (![] : Fin 0 → Fin S4352x4096.rank)
  bcast_S_S4352x32 : S_.BroadcastsInDim S4352x32 (![] : Fin 0 → Fin S4352x32.rank)
  bcast_S_S32 : S_.BroadcastsInDim S32 (![] : Fin 0 → Fin S32.rank)
  bcast_S_S4352x2048 : S_.BroadcastsInDim S4352x2048 (![] : Fin 0 → Fin S4352x2048.rank)

variable [Facts]

def fn {F : FTy → Type} [FloatOps F] (main_arg0 : FVec F S4352x4096 .f32) (main_arg1 : FVec F S4352x32 .f32) (main_arg2 : FVec F S32 .f32) (main_arg3 : FVec F S17x32x64x128 .f32) (main_arg4 : FVec F S4352x2048 .f32) : IVec S4352x4096 1 × IVec S4352x32 1 × IVec S32 1 × IVec S4352x2048 1 :=
  let main_v0 : FVec F S4352x4096 .f32 := Host.absf main_arg0
  let main_cst : FVec F S_ .f32 := constant S_ .f32 0x7F800000#32
  let main_v1 : FVec F S4352x4096 .f32 := broadcastInDim S4352x4096 ![] bcast_S_S4352x4096 main_cst
  let main_v2 : IVec S4352x4096 1 := cmpf .olt main_v0 main_v1
  let main_v3 : FVec F S4352x32 .f32 := Host.absf main_arg1
  let main_cst_0 : FVec F S_ .f32 := constant S_ .f32 0x7F800000#32
  let main_v4 : FVec F S4352x32 .f32 := broadcastInDim S4352x32 ![] bcast_S_S4352x32 main_cst_0
  let main_v5 : IVec S4352x32 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S4352x2048 .f32 := Host.absf main_arg4
  let main_cst_2 : FVec F S_ .f32 := constant S_ .f32 0x7F800000#32
  let main_v10 : FVec F S4352x2048 .f32 := broadcastInDim S4352x2048 ![] bcast_S_S4352x2048 main_cst_2
  let main_v11 : IVec S4352x2048 1 := cmpf .olt main_v9 main_v10
  (main_v2, main_v5, main_v8, main_v11)
-- ==== Pre_placed37.lean ====
abbrev S4x2x608x1024 : Shape := ⟨4, ![4, 2, 608, 1024]⟩
abbrev S7x608x1024 : Shape := ⟨3, ![7, 608, 1024]⟩
abbrev S2 : Shape := ⟨1, ![2]⟩
abbrev S608x1024 : Shape := ⟨2, ![608, 1024]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x2x608x1024 .bf16) (main_arg1 : FVec F S7x608x1024 .bf16) (main_arg2 : IVec S2 32) (main_arg3 : FVec F S608x1024 .f32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Pre_placed38.lean ====
abbrev S4x2x480x1024 : Shape := ⟨4, ![4, 2, 480, 1024]⟩
abbrev S7x480x1024 : Shape := ⟨3, ![7, 480, 1024]⟩
abbrev S2 : Shape := ⟨1, ![2]⟩
abbrev S480x1024 : Shape := ⟨2, ![480, 1024]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x2x480x1024 .bf16) (main_arg1 : FVec F S7x480x1024 .bf16) (main_arg2 : IVec S2 32) (main_arg3 : FVec F S480x1024 .f32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Pre_placed39.lean ====
abbrev S4x2x512x1408 : Shape := ⟨4, ![4, 2, 512, 1408]⟩
abbrev S7x512x1408 : Shape := ⟨3, ![7, 512, 1408]⟩
abbrev S2 : Shape := ⟨1, ![2]⟩
abbrev S512x1408 : Shape := ⟨2, ![512, 1408]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x2x512x1408 .bf16) (main_arg1 : FVec F S7x512x1408 .bf16) (main_arg2 : IVec S2 32) (main_arg3 : FVec F S512x1408 .f32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Pre_placed40.lean ====
abbrev S4x2x512x1920 : Shape := ⟨4, ![4, 2, 512, 1920]⟩
abbrev S7x512x1920 : Shape := ⟨3, ![7, 512, 1920]⟩
abbrev S2 : Shape := ⟨1, ![2]⟩
abbrev S512x1920 : Shape := ⟨2, ![512, 1920]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 4#32 | 1 => 2#32
  | _ => 0#32

def fn {F : FTy → Type} [FloatOps F] (main_arg0 : FVec F S4x2x512x1920 .bf16) (main_arg1 : FVec F S7x512x1920 .bf16) (main_arg2 : IVec S2 32) (main_arg3 : FVec F S512x1920 .f32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg2 main_v0
  let main_v2 : IVec S2 1 := cmpi .slt main_arg2 main_c
  let main_v3 : IVec S2 1 := andi main_v1 main_v2
  main_v3
-- ==== Pre_placed41.lean ====
abbrev S4x512x1664 : Shape := ⟨3, ![4, 512, 1664]⟩
abbrev S3x512x1664 : Shape := ⟨3, ![3, 512, 1664]⟩
abbrev S1 : Shape := ⟨1, ![1]⟩
abbrev S512x1664 : Shape := ⟨2, ![512, 1664]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x512x1664 .f32) (main_arg1 : FVec F S3x512x1664 .bf16) (main_arg2 : IVec S1 32) (main_arg3 : IVec S1 32) (main_arg4 : FVec F S512x1664 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S4096x1024 : Shape := ⟨2, ![4096, 1024]⟩
abbrev S2816x1024 : Shape := ⟨2, ![2816, 1024]⟩
abbrev S4096x5632 : Shape := ⟨2, ![4096, 5632]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x1024, .f32⟩
  | .hbm, ⟨4, _⟩ => ⟨S2816x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== Kernel2.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x5632 : Shape := ⟨2, ![4096, 5632]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x5632, .f32⟩
  | .hbm, ⟨3, _⟩ => ⟨S1024x5632, .f32⟩
  | .hbm, ⟨4, _⟩ => ⟨S_, .f32⟩
  | .hbm, ⟨5, _⟩ => ⟨S4096x1024, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4352x4096 : Shape := ⟨2, ![4352, 4096]⟩
abbrev S4352x32 : Shape := ⟨2, ![4352, 32]⟩
abbrev S32 : Shape := ⟨1, ![32]⟩
abbrev S17x32x64x128 : Shape := ⟨4, ![17, 32, 64, 128]⟩
abbrev S4352x2048 : Shape := ⟨2, ![4352, 2048]⟩
abbrev S17x256x2048 : Shape := ⟨3, ![17, 256, 2048]⟩
abbrev S17x2048x256 : Shape := ⟨3, ![17, 2048, 256]⟩
abbrev S17x256x32 : Shape := ⟨3, ![17, 256, 32]⟩
abbrev S17x32x256 : Shape := ⟨3, ![17, 32, 256]⟩
abbrev S1x32 : Shape := ⟨2, ![1, 32]⟩
abbrev S32x1 : Shape := ⟨2, ![32, 1]⟩
abbrev S4352x1024 : Shape := ⟨2, ![4352, 1024]⟩
abbrev S256x2048 : Shape := ⟨2, ![256, 2048]⟩
abbrev S1x2048x256 : Shape := ⟨3, ![1, 2048, 256]⟩
abbrev S256x1024 : Shape := ⟨2, ![256, 1024]⟩
abbrev S1x256x32 : Shape := ⟨3, ![1, 256, 32]⟩
abbrev S1x32x256 : Shape := ⟨3, ![1, 32, 256]⟩
abbrev S1x32x64x128 : Shape := ⟨4, ![1, 32, 64, 128]⟩
abbrev S32x64x128 : Shape := ⟨3, ![32, 64, 128]⟩
abbrev S256x32 : Shape := ⟨2, ![256, 32]⟩
abbrev S32x256 : Shape := ⟨2, ![32, 256]⟩
abbrev S256x256 : Shape := ⟨2, ![256, 256]⟩
abbrev S256x1 : Shape := ⟨2, ![256, 1]⟩
abbrev S256x128 : Shape := ⟨2, ![256, 128]⟩
abbrev S1x64x128 : Shape := ⟨3, ![1, 64, 128]⟩
abbrev S64x128 : Shape := ⟨2, ![64, 128]⟩
abbrev S1x256 : Shape := ⟨2, ![1, 256]⟩
abbrev S256x64 : Shape := ⟨2, ![256, 64]⟩
abbrev S1x1x64x128 : Shape := ⟨4, ![1, 1, 64, 128]⟩
abbrev S1x64x256 : Shape := ⟨3, ![1, 64, 256]⟩
abbrev S64x256 : Shape := ⟨2, ![64, 256]⟩
abbrev S1x1 : Shape := ⟨2, ![1, 1]⟩
abbrev S256 : Shape := ⟨1, ![256]⟩
abbrev S1 : Shape := ⟨1, ![1]⟩
abbrev S64 : Shape := ⟨1, ![64]⟩
abbrev S64x1 : Shape := ⟨2, ![64, 1]⟩

abbrev nBuf : Space → Nat
  | .hbm => 20
  | .vmem => 34
  | .smem => 0
  | _ => 0

abbrev bufTy : (tb : Table) → Fin (tcTables nBuf tb) → BufTy
  | .hbm, ⟨0, _⟩ => ⟨S4352x4096, .f32⟩
  | .hbm, ⟨1, _⟩ => ⟨S4352x32, .f32⟩
  | .hbm, ⟨2, _⟩ => ⟨S32, .f32⟩
  | .hbm, ⟨3, _⟩ => ⟨S17x32x64x128, .f32⟩
  | .hbm, ⟨4, _⟩ => ⟨S4352x2048, .f32⟩
  | .hbm, ⟨5, _⟩ => ⟨S4352x2048, .f32⟩
  | .hbm, ⟨6, _⟩ => ⟨S17x256x2048, .f32⟩
  | .hbm, ⟨7, _⟩ => ⟨S17x2048x256, .f32⟩
  | .hbm, ⟨8, _⟩ => ⟨S17x256x32, .f32⟩
  | .hbm, ⟨9, _⟩ => ⟨S17x256x32, .f32⟩
  | .hbm, ⟨10, _⟩ => ⟨S17x32x256, .f32⟩
  | .hbm, ⟨11, _⟩ => ⟨S1x32, .f32⟩
  | .hbm, ⟨12, _⟩ => ⟨S32x1, .f32⟩
  | .hbm, ⟨13, _⟩ => ⟨S17x256x2048, .f32⟩
  | .hbm, ⟨14, _⟩ => ⟨S17x2048x256, .f32⟩
  | .hbm, ⟨15, _⟩ => ⟨S4352x2048, .f32⟩
  | .hbm, ⟨16, _⟩ => ⟨S4352x1024, .f32⟩
  | .hbm, ⟨17, _⟩ => ⟨S4352x1024, .f32⟩
  | .hbm, ⟨18, _⟩ => ⟨S17x256x32, .f32⟩
  | .hbm, ⟨19, _⟩ => ⟨S17x256x32, .f32⟩
  | .local _ .vmem, ⟨0, _⟩ => ⟨S256x2048, .f32⟩
  | .local _ .vmem, ⟨1, _⟩ => ⟨S256x2048, .f32⟩
  | .local _ .vmem, ⟨2, _⟩ => ⟨S1x2048x256, .f32⟩
  | .local _ .vmem, ⟨3, _⟩ => ⟨S1x2048x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x256x32, .f32⟩
  | .local _ .vmem, ⟨9, _⟩ => ⟨S1x256x32, .f32⟩
  | .local _ .vmem, ⟨10, _⟩ => ⟨S1x32x256, .f32⟩
  | .local _ .vmem, ⟨11, _⟩ => ⟨S1x32x256, .f32⟩
  | .local _ .vmem, ⟨12, _⟩ => ⟨S1x32, .f32⟩
  | .local _ .vmem, ⟨13, _⟩ => ⟨S32x1, .f32⟩
  | .local _ .vmem, ⟨14, _⟩ => ⟨S1x32x64x128, .f32⟩
  | .local _ .vmem, ⟨15, _⟩ => ⟨S1x32x64x128, .f32⟩
  | .local _ .vmem, ⟨16, _⟩ => ⟨S256x2048, .f32⟩
  | .local _ .vmem, ⟨17, _⟩ => ⟨S256x2048, .f32⟩
  | .local _ .vmem, ⟨18, _⟩ => ⟨S1x2048x256, .f32⟩
  | .local _ .vmem, ⟨19, _⟩ => ⟨S1x2048x256, .f32⟩
  | .local _ .vmem, ⟨20, _⟩ => ⟨S256x2048, .f32⟩
  | .local _ .vmem, ⟨21, _⟩ => ⟨S256x2048, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S1x256x32, .f32⟩
  | .local _ .vmem, ⟨27, _⟩ => ⟨S1x256x32, .f32⟩
  | .local _ .vmem, ⟨28, _⟩ => ⟨S1x256x32, .f32⟩
  | .local _ .vmem, ⟨29, _⟩ => ⟨S1x256x32, .f32⟩
  | .local _ .vmem, ⟨30, _⟩ => ⟨S32x64x128, .f32⟩
  | .local _ .vmem, ⟨31, _⟩ => ⟨S256x32, .f32⟩
  | .local _ .vmem, ⟨32, _⟩ => ⟨S256x32, .f32⟩
  | .local _ .vmem, ⟨33, _⟩ => ⟨S32x256, .f32⟩
  | _, _ => ⟨S4352x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.subi c16_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c16_i32 : BitVec 32 := 16#32
  let v0 : BitVec 32 := Scalar.subi c16_i32 arg0
  let c3_i32 : BitVec 32 := 3#32
  let c0_i32 : BitVec 32 := 0#32
  ![v0.toNat, c3_i32.toNat]

def cc0_transform_4 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_14 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 3 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S4352x4096 : Shape := ⟨2, ![4352, 4096]⟩
abbrev S4352x32 : Shape := ⟨2, ![4352, 32]⟩
abbrev S32 : Shape := ⟨1, ![32]⟩
abbrev S17x32x64x128 : Shape := ⟨4, ![17, 32, 64, 128]⟩
abbrev S4352x2048 : Shape := ⟨2, ![4352, 2048]⟩
abbrev S4352x32x64 : Shape := ⟨3, ![4352, 32, 64]⟩
abbrev S4352x1024 : Shape := ⟨2, ![4352, 1024]⟩
abbrev S4352x8x128 : Shape := ⟨3, ![4352, 8, 128]⟩
abbrev S1x32 : Shape := ⟨2, ![1, 32]⟩
abbrev S4352 : Shape := ⟨1, ![4352]⟩
abbrev S4352x1 : Shape := ⟨2, ![4352, 1]⟩
abbrev S1x4352 : Shape := ⟨2, ![1, 4352]⟩
abbrev S4352x4352 : Shape := ⟨2, ![4352, 4352]⟩
abbrev S4352x4352x1 : Shape := ⟨3, ![4352, 4352, 1]⟩
abbrev S4352x1x32 : Shape := ⟨3, ![4352, 1, 32]⟩
abbrev S1x4352x32 : Shape := ⟨3, ![1, 4352, 32]⟩
abbrev S4352x4352x32 : Shape := ⟨3, ![4352, 4352, 32]⟩
abbrev S_ : Shape := ⟨0, ![]⟩
abbrev S8x4352x4352 : Shape := ⟨3, ![8, 4352, 4352]⟩
abbrev S4352x4352x8 : Shape := ⟨3, ![4352, 4352, 8]⟩
abbrev S4352x4352x8x1 : Shape := ⟨4, ![4352, 4352, 8, 1]⟩
abbrev S4352x4352x8x4 : Shape := ⟨4, ![4352, 4352, 8, 4]⟩
abbrev S4352x32x1 : Shape := ⟨3, ![4352, 32, 1]⟩
abbrev S4352x8x4x64 : Shape := ⟨4, ![4352, 8, 4, 64]⟩
abbrev S8x4x64x4352 : Shape := ⟨4, ![8, 4, 64, 4352]⟩
abbrev S8x4x4352x4352 : Shape := ⟨4, ![8, 4, 4352, 4352]⟩
abbrev S8x4352x128 : Shape := ⟨3, ![8, 4352, 128]⟩
abbrev S17x256x32 : Shape := ⟨3, ![17, 256, 32]⟩

abbrev nBuf : Space → Nat
  | .hbm => 74
  | .vmem => 0
  | .smem => 0
  | _ => 0

abbrev bufTy : (tb : Table) → Fin (tcTables nBuf tb) → BufTy
  | .hbm, ⟨0, _⟩ => ⟨S4352x4096, .f32⟩
  | .hbm, ⟨1, _⟩ => ⟨S4352x32, .f32⟩
  | .hbm, ⟨2, _⟩ => ⟨S32, .f32⟩
  | .hbm, ⟨3, _⟩ => ⟨S17x32x64x128, .f32⟩
  | .hbm, ⟨4, _⟩ => ⟨S4352x2048, .f32⟩
  | .hbm, ⟨5, _⟩ => ⟨S4352x2048, .f32⟩
  | .hbm, ⟨6, _⟩ => ⟨S4352x32x64, .f32⟩
  | .hbm, ⟨7, _⟩ => ⟨S4352x1024, .f32⟩
  | .hbm, ⟨8, _⟩ => ⟨S4352x8x128, .f32⟩
  | .hbm, ⟨9, _⟩ => ⟨S4352x1024, .f32⟩
  | .hbm, ⟨10, _⟩ => ⟨S4352x8x128, .f32⟩
  | .hbm, ⟨11, _⟩ => ⟨S1x32, .f32⟩
  | .hbm, ⟨12, _⟩ => ⟨S4352x32, .f32⟩
  | .hbm, ⟨13, _⟩ => ⟨S4352x32, .f32⟩
  | .hbm, ⟨14, _⟩ => ⟨S4352, .i32⟩
  | .hbm, ⟨15, _⟩ => ⟨S4352x1, .i32⟩
  | .hbm, ⟨16, _⟩ => ⟨S4352, .i32⟩
  | .hbm, ⟨17, _⟩ => ⟨S1x4352, .i32⟩
  | .hbm, ⟨18, _⟩ => ⟨S4352x4352, .i32⟩
  | .hbm, ⟨19, _⟩ => ⟨S4352x4352, .i32⟩
  | .hbm, ⟨20, _⟩ => ⟨S4352x4352, .i1⟩
  | .hbm, ⟨21, _⟩ => ⟨S4352x4352, .f32⟩
  | .hbm, ⟨22, _⟩ => ⟨S4352x32, .f32⟩
  | .hbm, ⟨23, _⟩ => ⟨S4352x4352x1, .i1⟩
  | .hbm, ⟨24, _⟩ => ⟨S4352x1x32, .f32⟩
  | .hbm, ⟨25, _⟩ => ⟨S1x4352x32, .f32⟩
  | .hbm, ⟨26, _⟩ => ⟨S4352x4352x32, .f32⟩
  | .hbm, ⟨27, _⟩ => ⟨S4352x4352x32, .f32⟩
  | .hbm, ⟨28, _⟩ => ⟨S4352x4352x32, .f32⟩
  | .hbm, ⟨29, _⟩ => ⟨S_, .f32⟩
  | .hbm, ⟨30, _⟩ => ⟨S_, .f32⟩
  | .hbm, ⟨31, _⟩ => ⟨S4352x4352x32, .i1⟩
  | .hbm, ⟨32, _⟩ => ⟨S4352x4352x32, .f32⟩
  | .hbm, ⟨33, _⟩ => ⟨S4352x4352x32, .f32⟩
  | .hbm, ⟨34, _⟩ => ⟨S4352x4352x32, .f32⟩
  | .hbm, ⟨35, _⟩ => ⟨S8x4352x4352, .f32⟩
  | .hbm, ⟨36, _⟩ => ⟨S4352x4352x8, .f32⟩
  | .hbm, ⟨37, _⟩ => ⟨S4352x4352x8x1, .f32⟩
  | .hbm, ⟨38, _⟩ => ⟨S4352x4352x8x4, .f32⟩
  | .hbm, ⟨39, _⟩ => ⟨S4352x4352x8x4, .f32⟩
  | .hbm, ⟨40, _⟩ => ⟨S4352x4352x8x4, .f32⟩
  | .hbm, ⟨41, _⟩ => ⟨S4352x32x1, .f32⟩
  | .hbm, ⟨42, _⟩ => ⟨S4352x32x64, .f32⟩
  | .hbm, ⟨43, _⟩ => ⟨S4352x32x64, .f32⟩
  | .hbm, ⟨44, _⟩ => ⟨S4352x8x4x64, .f32⟩
  | .hbm, ⟨45, _⟩ => ⟨S8x4x64x4352, .f32⟩
  | .hbm, ⟨46, _⟩ => ⟨S4352x8x4x64, .f32⟩
  | .hbm, ⟨47, _⟩ => ⟨S4352x8x4x64, .f32⟩
  | .hbm, ⟨48, _⟩ => ⟨S8x4x64x4352, .f32⟩
  | .hbm, ⟨49, _⟩ => ⟨S8x4x4352x4352, .f32⟩
  | .hbm, ⟨50, _⟩ => ⟨S4352x4352x8x4, .f32⟩
  | .hbm, ⟨51, _⟩ => ⟨S8x4x64x4352, .f32⟩
  | .hbm, ⟨52, _⟩ => ⟨S4352x8x4x64, .f32⟩
  | .hbm, ⟨53, _⟩ => ⟨S4352x32x64, .f32⟩
  | .hbm, ⟨54, _⟩ => ⟨S4352x32x64, .f32⟩
  | .hbm, ⟨55, _⟩ => ⟨S_, .f32⟩
  | .hbm, ⟨56, _⟩ => ⟨S4352x32, .f32⟩
  | .hbm, ⟨57, _⟩ => ⟨S4352x32x1, .f32⟩
  | .hbm, ⟨58, _⟩ => ⟨S4352x32x64, .f32⟩
  | .hbm, ⟨59, _⟩ => ⟨S4352x32x64, .f32⟩
  | .hbm, ⟨60, _⟩ => ⟨S_, .f32⟩
  | .hbm, ⟨61, _⟩ => ⟨S4352x32, .f32⟩
  | .hbm, ⟨62, _⟩ => ⟨S4352x4352x8x4, .f32⟩
  | .hbm, ⟨63, _⟩ => ⟨S_, .f32⟩
  | .hbm, ⟨64, _⟩ => ⟨S4352x4352x8, .f32⟩
  | .hbm, ⟨65, _⟩ => ⟨S4352x4352x8x1, .f32⟩
  | .hbm, ⟨66, _⟩ => ⟨S_, .f32⟩
  | .hbm, ⟨67, _⟩ => ⟨S4352x4352x8, .f32⟩
  | .hbm, ⟨68, _⟩ => ⟨S8x4352x4352, .f32⟩
  | .hbm, ⟨69, _⟩ => ⟨S8x4352x128, .f32⟩
  | .hbm, ⟨70, _⟩ => ⟨S4352x8x128, .f32⟩
  | .hbm, ⟨71, _⟩ => ⟨S4352x2048, .f32⟩
  | .hbm, ⟨72, _⟩ => ⟨S4352x1024, .f32⟩
  | .hbm, ⟨73, _⟩ => ⟨S17x256x32, .f32⟩
  | _, _ => ⟨S4352x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_0 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_1 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_v53 : Ref sig .tc := ⟨.hbm, 65, rfl⟩
abbrev main_cst_3 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== Kernel6.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4352x4096 : Shape := ⟨2, ![4352, 4096]⟩
abbrev S1024x4096 : Shape := ⟨2, ![1024, 4096]⟩
abbrev S4352x1024 : Shape := ⟨2, ![4352, 1024]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x4096, .bf16⟩
  | .hbm, ⟨1, _⟩ => ⟨S1024x4096, .bf16⟩
  | .hbm, ⟨2, _⟩ => ⟨S4352x1024, .f32⟩
  | .hbm, ⟨3, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4352x4096 : Shape := ⟨2, ![4352, 4096]⟩
abbrev S1024x4096 : Shape := ⟨2, ![1024, 4096]⟩
abbrev S4352x1024 : Shape := ⟨2, ![4352, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S1024x4096, .bf16⟩
  | .hbm, ⟨2, _⟩ => ⟨S4352x1024, .f32⟩
  | .hbm, ⟨3, _⟩ => ⟨S4352x4096, .f32⟩
  | .hbm, ⟨4, _⟩ => ⟨S1024x4096, .f32⟩
  | .hbm, ⟨5, _⟩ => ⟨S_, .f32⟩
  | .hbm, ⟨6, _⟩ => ⟨S4352x1024, .f32⟩
  | .hbm, ⟨7, _⟩ => ⟨S4352x4096, .f32⟩
  | .hbm, ⟨8, _⟩ => ⟨S4352x1024, .f32⟩
  | .hbm, ⟨9, _⟩ => ⟨S4352x1024, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel13.lean ====
abbrev S4352x2048 : Shape := ⟨2, ![4352, 2048]⟩
abbrev S1024x2048 : Shape := ⟨2, ![1024, 2048]⟩
abbrev S4352x1024 : Shape := ⟨2, ![4352, 1024]⟩
abbrev S1088x2048 : Shape := ⟨2, ![1088, 2048]⟩
abbrev S1088x1024 : Shape := ⟨2, ![1088, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S4352x1024, .f32⟩
  | .hbm, ⟨3, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4352x2048 : Shape := ⟨2, ![4352, 2048]⟩
abbrev S1024x2048 : Shape := ⟨2, ![1024, 2048]⟩
abbrev S4352x1024 : Shape := ⟨2, ![4352, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S4352x1024, .f32⟩
  | .hbm, ⟨3, _⟩ => ⟨S4352x2048, .f32⟩
  | .hbm, ⟨4, _⟩ => ⟨S1024x2048, .f32⟩
  | .hbm, ⟨5, _⟩ => ⟨S_, .f32⟩
  | .hbm, ⟨6, _⟩ => ⟨S4352x1024, .f32⟩
  | .hbm, ⟨7, _⟩ => ⟨S4352x2048, .f32⟩
  | .hbm, ⟨8, _⟩ => ⟨S4352x1024, .f32⟩
  | .hbm, ⟨9, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel14.lean ====
abbrev S4352x1024 : Shape := ⟨2, ![4352, 1024]⟩
abbrev S4352x4096 : Shape := ⟨2, ![4352, 4096]⟩
abbrev S1024x4096 : Shape := ⟨2, ![1024, 4096]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S1024x4096, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4352x1024 : Shape := ⟨2, ![4352, 1024]⟩
abbrev S4352x4096 : Shape := ⟨2, ![4352, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S4352x1024, .f32⟩
  | .hbm, ⟨3, _⟩ => ⟨S4352x4096, .f32⟩
  | .hbm, ⟨4, _⟩ => ⟨S_, .f32⟩
  | .hbm, ⟨5, _⟩ => ⟨S1024x4096, .f32⟩
  | .hbm, ⟨6, _⟩ => ⟨S4352x4096, .f32⟩
  | .hbm, ⟨7, _⟩ => ⟨S4096x1024, .f32⟩
  | .hbm, ⟨8, _⟩ => ⟨S1024x4096, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4352x1024 : Shape := ⟨2, ![4352, 1024]⟩
abbrev S4352x2048 : Shape := ⟨2, ![4352, 2048]⟩
abbrev S1024x2048 : Shape := ⟨2, ![1024, 2048]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S1024x2048, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4352x1024 : Shape := ⟨2, ![4352, 1024]⟩
abbrev S4352x2048 : Shape := ⟨2, ![4352, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S4352x1024, .f32⟩
  | .hbm, ⟨3, _⟩ => ⟨S4352x2048, .f32⟩
  | .hbm, ⟨4, _⟩ => ⟨S_, .f32⟩
  | .hbm, ⟨5, _⟩ => ⟨S1024x2048, .f32⟩
  | .hbm, ⟨6, _⟩ => ⟨S4352x2048, .f32⟩
  | .hbm, ⟨7, _⟩ => ⟨S2048x1024, .f32⟩
  | .hbm, ⟨8, _⟩ => ⟨S1024x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4352x1024 : Shape := ⟨2, ![4352, 1024]⟩
abbrev S4352x128 : Shape := ⟨2, ![4352, 128]⟩
abbrev S1024x128 : Shape := ⟨2, ![1024, 128]⟩
abbrev S2176x1024 : Shape := ⟨2, ![2176, 1024]⟩
abbrev S2176x128 : Shape := ⟨2, ![2176, 128]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x128, .bf16⟩
  | .hbm, ⟨2, _⟩ => ⟨S1024x128, .f32⟩
  | .local _ .vmem, ⟨0, _⟩ => ⟨S2176x1024, .bf16⟩
  | .local _ .vmem, ⟨1, _⟩ => ⟨S2176x1024, .bf16⟩
  | .local _ .vmem, ⟨2, _⟩ => ⟨S2176x128, .bf16⟩
  | .local _ .vmem, ⟨3, _⟩ => ⟨S2176x128, .bf16⟩
  | .local _ .vmem, ⟨4, _⟩ => ⟨S1024x128, .f32⟩
  | .local _ .vmem, ⟨5, _⟩ => ⟨S1024x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4352x1024 : Shape := ⟨2, ![4352, 1024]⟩
abbrev S4352x128 : Shape := ⟨2, ![4352, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x128, .bf16⟩
  | .hbm, ⟨2, _⟩ => ⟨S4352x1024, .f32⟩
  | .hbm, ⟨3, _⟩ => ⟨S4352x128, .f32⟩
  | .hbm, ⟨4, _⟩ => ⟨S_, .f32⟩
  | .hbm, ⟨5, _⟩ => ⟨S1024x128, .f32⟩
  | .hbm, ⟨6, _⟩ => ⟨S4352x128, .f32⟩
  | .hbm, ⟨7, _⟩ => ⟨S128x1024, .f32⟩
  | .hbm, ⟨8, _⟩ => ⟨S1024x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4352x128 : Shape := ⟨2, ![4352, 128]⟩
abbrev S1024x128 : Shape := ⟨2, ![1024, 128]⟩
abbrev S4352x1024 : Shape := ⟨2, ![4352, 1024]⟩
abbrev S1088x128 : Shape := ⟨2, ![1088, 128]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x128, .bf16⟩
  | .hbm, ⟨1, _⟩ => ⟨S1024x128, .bf16⟩
  | .hbm, ⟨2, _⟩ => ⟨S4352x1024, .f32⟩
  | .local _ .vmem, ⟨0, _⟩ => ⟨S1088x128, .bf16⟩
  | .local _ .vmem, ⟨1, _⟩ => ⟨S1088x128, .bf16⟩
  | .local _ .vmem, ⟨2, _⟩ => ⟨S1024x128, .bf16⟩
  | .local _ .vmem, ⟨3, _⟩ => ⟨S1088x1024, .f32⟩
  | .local _ .vmem, ⟨4, _⟩ => ⟨S1088x1024, .f32⟩
  | _, _ => ⟨S4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4352x128 : Shape := ⟨2, ![4352, 128]⟩
abbrev S1024x128 : Shape := ⟨2, ![1024, 128]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x128, .bf16⟩
  | .hbm, ⟨1, _⟩ => ⟨S1024x128, .bf16⟩
  | .hbm, ⟨2, _⟩ => ⟨S4352x128, .f32⟩
  | .hbm, ⟨3, _⟩ => ⟨S1024x128, .f32⟩
  | .hbm, ⟨4, _⟩ => ⟨S_, .f32⟩
  | .hbm, ⟨5, _⟩ => ⟨S4352x1024, .f32⟩
  | .hbm, ⟨6, _⟩ => ⟨S4352x128, .f32⟩
  | .hbm, ⟨7, _⟩ => ⟨S4352x1024, .f32⟩
  | _, _ => ⟨S4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S256x1024 : Shape := ⟨2, ![256, 1024]⟩
abbrev S1024x2816 : Shape := ⟨2, ![1024, 2816]⟩
abbrev S256x5632 : Shape := ⟨2, ![256, 5632]⟩
abbrev S256x2816 : Shape := ⟨2, ![256, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x2816, .bf16⟩
  | .local _ .vmem, ⟨3, _⟩ => ⟨S1024x2816, .bf16⟩
  | .local _ .vmem, ⟨4, _⟩ => ⟨S256x5632, .bf16⟩
  | .local _ .vmem, ⟨5, _⟩ => ⟨S256x5632, .bf16⟩
  | .local _ .vmem, ⟨6, _⟩ => ⟨S256x2816, .bf16⟩
  | .local _ .vmem, ⟨7, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel19.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x2048, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4352x1024 : Shape := ⟨2, ![4352, 1024]⟩
abbrev S1024x2048 : Shape := ⟨2, ![1024, 2048]⟩
abbrev S4352x2048 : Shape := ⟨2, ![4352, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x1024, .f32⟩
  | .hbm, ⟨3, _⟩ => ⟨S1024x2048, .f32⟩
  | .hbm, ⟨4, _⟩ => ⟨S4352x2048, .f32⟩
  | .hbm, ⟨5, _⟩ => ⟨S4352x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4352x1024 : Shape := ⟨2, ![4352, 1024]⟩
abbrev S1024x4096 : Shape := ⟨2, ![1024, 4096]⟩
abbrev S4352x4096 : Shape := ⟨2, ![4352, 4096]⟩
abbrev S1088x1024 : Shape := ⟨2, ![1088, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x4096, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4352x1024 : Shape := ⟨2, ![4352, 1024]⟩
abbrev S1024x4096 : Shape := ⟨2, ![1024, 4096]⟩
abbrev S4352x4096 : Shape := ⟨2, ![4352, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x1024, .f32⟩
  | .hbm, ⟨3, _⟩ => ⟨S1024x4096, .f32⟩
  | .hbm, ⟨4, _⟩ => ⟨S4352x4096, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4352x1024 : Shape := ⟨2, ![4352, 1024]⟩
abbrev S1024x128 : Shape := ⟨2, ![1024, 128]⟩
abbrev S4352x128 : Shape := ⟨2, ![4352, 128]⟩
abbrev S1088x1024 : Shape := ⟨2, ![1088, 1024]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x128, .bf16⟩
  | .hbm, ⟨2, _⟩ => ⟨S4352x128, .f32⟩
  | .local _ .vmem, ⟨0, _⟩ => ⟨S1088x1024, .bf16⟩
  | .local _ .vmem, ⟨1, _⟩ => ⟨S1088x1024, .bf16⟩
  | .local _ .vmem, ⟨2, _⟩ => ⟨S1024x128, .bf16⟩
  | .local _ .vmem, ⟨3, _⟩ => ⟨S1088x128, .f32⟩
  | .local _ .vmem, ⟨4, _⟩ => ⟨S1088x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4352x1024 : Shape := ⟨2, ![4352, 1024]⟩
abbrev S1024x128 : Shape := ⟨2, ![1024, 128]⟩
abbrev S4352x128 : Shape := ⟨2, ![4352, 128]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x128, .bf16⟩
  | .hbm, ⟨2, _⟩ => ⟨S4352x1024, .f32⟩
  | .hbm, ⟨3, _⟩ => ⟨S1024x128, .f32⟩
  | .hbm, ⟨4, _⟩ => ⟨S4352x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel27.lean ====
abbrev S1x1024x1552 : Shape := ⟨3, ![1, 1024, 1552]⟩
abbrev S1024x1552 : Shape := ⟨2, ![1024, 1552]⟩
abbrev S256x1552 : Shape := ⟨2, ![256, 1552]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1552, .f32⟩
  | .hbm, ⟨1, _⟩ => ⟨S1x1024x1552, .f32⟩
  | .hbm, ⟨2, _⟩ => ⟨S1x1024x1552, .f32⟩
  | .hbm, ⟨3, _⟩ => ⟨S1x1024x1552, .f32⟩
  | .hbm, ⟨4, _⟩ => ⟨S1024x1552, .f32⟩
  | .hbm, ⟨5, _⟩ => ⟨S1024x1552, .f32⟩
  | .hbm, ⟨6, _⟩ => ⟨S1024x1552, .f32⟩
  | .hbm, ⟨7, _⟩ => ⟨S1024x1552, .f32⟩
  | .hbm, ⟨8, _⟩ => ⟨S1024x1552, .f32⟩
  | .hbm, ⟨9, _⟩ => ⟨S1024x1552, .f32⟩
  | .hbm, ⟨10, _⟩ => ⟨S1024x1552, .f32⟩
  | .local _ .vmem, ⟨0, _⟩ => ⟨S256x1552, .f32⟩
  | .local _ .vmem, ⟨1, _⟩ => ⟨S256x1552, .f32⟩
  | .local _ .vmem, ⟨2, _⟩ => ⟨S256x1552, .f32⟩
  | .local _ .vmem, ⟨3, _⟩ => ⟨S256x1552, .f32⟩
  | .local _ .vmem, ⟨4, _⟩ => ⟨S256x1552, .f32⟩
  | .local _ .vmem, ⟨5, _⟩ => ⟨S256x1552, .f32⟩
  | .local _ .vmem, ⟨6, _⟩ => ⟨S256x1552, .f32⟩
  | .local _ .vmem, ⟨7, _⟩ => ⟨S256x1552, .f32⟩
  | .local _ .vmem, ⟨8, _⟩ => ⟨S256x1552, .f32⟩
  | .local _ .vmem, ⟨9, _⟩ => ⟨S256x1552, .f32⟩
  | .local _ .vmem, ⟨10, _⟩ => ⟨S256x1552, .f32⟩
  | .local _ .vmem, ⟨11, _⟩ => ⟨S256x1552, .f32⟩
  | .local _ .vmem, ⟨12, _⟩ => ⟨S256x1552, .f32⟩
  | .local _ .vmem, ⟨13, _⟩ => ⟨S256x1552, .f32⟩
  | _, _ => ⟨S1x1024x1552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1552 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1552 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1552 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1552 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1552 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1552 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1552 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S1x1024x1552 : Shape := ⟨3, ![1, 1024, 1552]⟩
abbrev S_ : Shape := ⟨0, ![]⟩
abbrev S1024x1552 : Shape := ⟨2, ![1024, 1552]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1552, .f32⟩
  | .hbm, ⟨1, _⟩ => ⟨S1x1024x1552, .f32⟩
  | .hbm, ⟨2, _⟩ => ⟨S1x1024x1552, .f32⟩
  | .hbm, ⟨3, _⟩ => ⟨S1x1024x1552, .f32⟩
  | .hbm, ⟨4, _⟩ => ⟨S_, .f32⟩
  | .hbm, ⟨5, _⟩ => ⟨S1x1024x1552, .f32⟩
  | .hbm, ⟨6, _⟩ => ⟨S1x1024x1552, .f32⟩
  | .hbm, ⟨7, _⟩ => ⟨S_, .f32⟩
  | .hbm, ⟨8, _⟩ => ⟨S1x1024x1552, .f32⟩
  | .hbm, ⟨9, _⟩ => ⟨S1x1024x1552, .f32⟩
  | .hbm, ⟨10, _⟩ => ⟨S1x1024x1552, .f32⟩
  | .hbm, ⟨11, _⟩ => ⟨S_, .f32⟩
  | .hbm, ⟨12, _⟩ => ⟨S1x1024x1552, .f32⟩
  | .hbm, ⟨13, _⟩ => ⟨S1x1024x1552, .f32⟩
  | .hbm, ⟨14, _⟩ => ⟨S1x1024x1552, .f32⟩
  | .hbm, ⟨15, _⟩ => ⟨S_, .f32⟩
  | .hbm, ⟨16, _⟩ => ⟨S1x1024x1552, .f32⟩
  | .hbm, ⟨17, _⟩ => ⟨S1x1024x1552, .f32⟩
  | .hbm, ⟨18, _⟩ => ⟨S1x1024x1552, .f32⟩
  | .hbm, ⟨19, _⟩ => ⟨S_, .f32⟩
  | .hbm, ⟨20, _⟩ => ⟨S1x1024x1552, .f32⟩
  | .hbm, ⟨21, _⟩ => ⟨S1x1024x1552, .f32⟩
  | .hbm, ⟨22, _⟩ => ⟨S_, .f32⟩
  | .hbm, ⟨23, _⟩ => ⟨S1x1024x1552, .f32⟩
  | .hbm, ⟨24, _⟩ => ⟨S1x1024x1552, .f32⟩
  | .hbm, ⟨25, _⟩ => ⟨S1x1024x1552, .f32⟩
  | .hbm, ⟨26, _⟩ => ⟨S_, .f32⟩
  | .hbm, ⟨27, _⟩ => ⟨S1x1024x1552, .f32⟩
  | .hbm, ⟨28, _⟩ => ⟨S1x1024x1552, .f32⟩
  | .hbm, ⟨29, _⟩ => ⟨S1x1024x1552, .f32⟩
  | .hbm, ⟨30, _⟩ => ⟨S_, .f32⟩
  | .hbm, ⟨31, _⟩ => ⟨S1x1024x1552, .f32⟩
  | .hbm, ⟨32, _⟩ => ⟨S1x1024x1552, .f32⟩
  | .hbm, ⟨33, _⟩ => ⟨S1x1024x1552, .f32⟩
  | .hbm, ⟨34, _⟩ => ⟨S_, .f32⟩
  | .hbm, ⟨35, _⟩ => ⟨S1x1024x1552, .f32⟩
  | .hbm, ⟨36, _⟩ => ⟨S1x1024x1552, .f32⟩
  | .hbm, ⟨37, _⟩ => ⟨S1024x1552, .f32⟩
  | .hbm, ⟨38, _⟩ => ⟨S1024x1552, .f32⟩
  | .hbm, ⟨39, _⟩ => ⟨S1024x1552, .f32⟩
  | _, _ => ⟨S1x1024x1552, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel28.lean ====
abbrev S1x512x1024 : Shape := ⟨3, ![1, 512, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S1x512x1024 : Shape := ⟨3, ![1, 512, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S_, .f32⟩
  | .hbm, ⟨5, _⟩ => ⟨S1x512x1024, .f32⟩
  | .hbm, ⟨6, _⟩ => ⟨S1x512x1024, .f32⟩
  | .hbm, ⟨7, _⟩ => ⟨S_, .f32⟩
  | .hbm, ⟨8, _⟩ => ⟨S1x512x1024, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S_, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel29.lean ====
abbrev S1x1024x512 : Shape := ⟨3, ![1, 1024, 512]⟩
abbrev S1024x512 : Shape := ⟨2, ![1024, 512]⟩

abbrev nBuf : Space → Nat
  | .hbm => 11
  | .vmem => 7
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference29Ideal.lean ====
abbrev S1x1024x512 : Shape := ⟨3, ![1, 1024, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel30.lean ====
abbrev S1x256x1024 : Shape := ⟨3, ![1, 256, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel31.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel32.lean ====
abbrev S2x704x1024 : Shape := ⟨3, ![2, 704, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel33.lean ====
abbrev S16x1024 : Shape := ⟨2, ![16, 1024]⟩
abbrev S16x1536 : Shape := ⟨2, ![16, 1536]⟩
abbrev S1024x1536 : Shape := ⟨2, ![1024, 1536]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x768, .f32⟩
  | .local _ .vmem, ⟨2, _⟩ => ⟨S16x768, .f32⟩
  | .local _ .vmem, ⟨3, _⟩ => ⟨S1024x768, .f32⟩
  | .local _ .vmem, ⟨4, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S16x1536, .f32⟩
  | .hbm, ⟨5, _⟩ => ⟨S1536x1024, .f32⟩
  | .hbm, ⟨6, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel34.lean ====
abbrev S16x1024 : Shape := ⟨2, ![16, 1024]⟩
abbrev S16x1536 : Shape := ⟨2, ![16, 1536]⟩
abbrev S1024x1536 : Shape := ⟨2, ![1024, 1536]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x768, .f32⟩
  | .local _ .vmem, ⟨2, _⟩ => ⟨S16x768, .f32⟩
  | .local _ .vmem, ⟨3, _⟩ => ⟨S1024x768, .f32⟩
  | .local _ .vmem, ⟨4, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S16x1536, .f32⟩
  | .hbm, ⟨5, _⟩ => ⟨S1536x1024, .f32⟩
  | .hbm, ⟨6, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel35.lean ====
abbrev S8x696x128 : Shape := ⟨3, ![8, 696, 128]⟩
abbrev S_ : Shape := ⟨0, ![]⟩
abbrev S696x128 : Shape := ⟨2, ![696, 128]⟩
abbrev S1x696x128 : Shape := ⟨3, ![1, 696, 128]⟩
abbrev S89088 : Shape := ⟨1, ![89088]⟩
abbrev S128 : Shape := ⟨1, ![128]⟩
abbrev S2048 : Shape := ⟨1, ![2048]⟩
abbrev S2x1024 : Shape := ⟨2, ![2, 1024]⟩
abbrev S1024 : Shape := ⟨1, ![1024]⟩
abbrev S20480 : Shape := ⟨1, ![20480]⟩
abbrev S1x5x4096 : Shape := ⟨3, ![1, 5, 4096]⟩
abbrev S4096 : Shape := ⟨1, ![4096]⟩
abbrev S1x4096 : Shape := ⟨2, ![1, 4096]⟩
abbrev S32 : Shape := ⟨1, ![32]⟩
abbrev S1x32 : Shape := ⟨2, ![1, 32]⟩
abbrev S1x2048 : Shape := ⟨2, ![1, 2048]⟩
abbrev S31744 : Shape := ⟨1, ![31744]⟩
abbrev S1x31x1024 : Shape := ⟨3, ![1, 31, 1024]⟩
abbrev S1x1024 : Shape := ⟨2, ![1, 1024]⟩
abbrev S6144 : Shape := ⟨1, ![6144]⟩
abbrev S1 : Shape := ⟨1, ![1]⟩
abbrev S1x5x1024 : Shape := ⟨3, ![1, 5, 1024]⟩
abbrev S1x512 : Shape := ⟨2, ![1, 512]⟩
abbrev S1x31x256 : Shape := ⟨3, ![1, 31, 256]⟩
abbrev S1x256 : Shape := ⟨2, ![1, 256]⟩
abbrev S1x6144 : Shape := ⟨2, ![1, 6144]⟩
abbrev S2x6144 : Shape := ⟨2, ![2, 6144]⟩

abbrev nBuf : Space → Nat
  | .hbm => 112
  | .vmem => 2
  | .smem => 0
  | _ => 0

abbrev bufTy : (tb : Table) → Fin (tcTables nBuf tb) → BufTy
  | .hbm, ⟨0, _⟩ => ⟨S8x696x128, .f32⟩
  | .hbm, ⟨1, _⟩ => ⟨S_, .i32⟩
  | .hbm, ⟨2, _⟩ => ⟨S696x128, .f32⟩
  | .hbm, ⟨3, _⟩ => ⟨S89088, .f32⟩
  | .hbm, ⟨4, _⟩ => ⟨S128, .f32⟩
  | .hbm, ⟨5, _⟩ => ⟨S2048, .f32⟩
  | .hbm, ⟨6, _⟩ => ⟨S2x1024, .f32⟩
  | .hbm, ⟨7, _⟩ => ⟨S2048, .f32⟩
  | .hbm, ⟨8, _⟩ => ⟨S2x1024, .f32⟩
  | .hbm, ⟨9, _⟩ => ⟨S1024, .f32⟩
  | .hbm, ⟨10, _⟩ => ⟨S20480, .f32⟩
  | .hbm, ⟨11, _⟩ => ⟨S1x5x4096, .f32⟩
  | .hbm, ⟨12, _⟩ => ⟨S4096, .f32⟩
  | .hbm, ⟨13, _⟩ => ⟨S1x4096, .f32⟩
  | .hbm, ⟨14, _⟩ => ⟨S32, .f32⟩
  | .hbm, ⟨15, _⟩ => ⟨S1x32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S1x32, .f32⟩
  | .hbm, ⟨20, _⟩ => ⟨S32, .f32⟩
  | .hbm, ⟨21, _⟩ => ⟨S1x32, .f32⟩
  | .hbm, ⟨22, _⟩ => ⟨S32, .f32⟩
  | .hbm, ⟨23, _⟩ => ⟨S1x32, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S31744, .f32⟩
  | .hbm, ⟨29, _⟩ => ⟨S1x31x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S6144, .f32⟩
  | .hbm, ⟨39, _⟩ => ⟨S6144, .f32⟩
  | .hbm, ⟨40, _⟩ => ⟨S6144, .f32⟩
  | .hbm, ⟨41, _⟩ => ⟨S1, .f32⟩
  | .hbm, ⟨42, _⟩ => ⟨S_, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x5x1024, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x512, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x31x256, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1x256, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S1x256, .f32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i1⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S1x256, .f32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i1⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S1x256, .f32⟩
  | .hbm, ⟨108, _⟩ => ⟨S6144, .f32⟩
  | .hbm, ⟨109, _⟩ => ⟨S1x6144, .f32⟩
  | .hbm, ⟨110, _⟩ => ⟨S1x6144, .f32⟩
  | .hbm, ⟨111, _⟩ => ⟨S2x6144, .f32⟩
  | .local _ .vmem, ⟨0, _⟩ => ⟨S8x696x128, .f32⟩
  | .local _ .vmem, ⟨1, _⟩ => ⟨S696x128, .f32⟩
  | _, _ => ⟨S8x696x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_c : Ref sig .tc := ⟨.hbm, 43, rfl⟩
abbrev main_v41 : Ref sig .tc := ⟨.hbm, 44, rfl⟩
abbrev main_c_0 : Ref sig .tc := ⟨.hbm, 45, rfl⟩
abbrev main_v42 : Ref sig .tc := ⟨.hbm, 46, rfl⟩
abbrev main_c_1 : Ref sig .tc := ⟨.hbm, 47, rfl⟩
abbrev main_v43 : Ref sig .tc := ⟨.hbm, 48, rfl⟩
abbrev main_v44 : Ref sig .tc := ⟨.hbm, 49, rfl⟩
abbrev main_c_2 : Ref sig .tc := ⟨.hbm, 50, rfl⟩
abbrev main_c_3 : Ref sig .tc := ⟨.hbm, 51, rfl⟩
abbrev main_v45 : Ref sig .tc := ⟨.hbm, 52, rfl⟩
abbrev main_c_4 : Ref sig .tc := ⟨.hbm, 53, rfl⟩
abbrev main_v46 : Ref sig .tc := ⟨.hbm, 54, rfl⟩
abbrev main_c_5 : Ref sig .tc := ⟨.hbm, 55, rfl⟩
abbrev main_v47 : Ref sig .tc := ⟨.hbm, 56, rfl⟩
abbrev main_c_6 : Ref sig .tc := ⟨.hbm, 57, rfl⟩
abbrev main_v48 : Ref sig .tc := ⟨.hbm, 58, rfl⟩
abbrev main_v49 : Ref sig .tc := ⟨.hbm, 59, rfl⟩
abbrev main_c_7 : Ref sig .tc := ⟨.hbm, 60, rfl⟩
abbrev main_v50 : Ref sig .tc := ⟨.hbm, 61, rfl⟩
abbrev main_c_8 : Ref sig .tc := ⟨.hbm, 62, rfl⟩
abbrev main_v51 : Ref sig .tc := ⟨.hbm, 63, rfl⟩
abbrev main_c_9 : Ref sig .tc := ⟨.hbm, 64, rfl⟩
abbrev main_v52 : Ref sig .tc := ⟨.hbm, 65, rfl⟩
abbrev main_c_10 : Ref sig .tc := ⟨.hbm, 66, rfl⟩
abbrev main_v53 : Ref sig .tc := ⟨.hbm, 67, rfl⟩
abbrev main_v54 : Ref sig .tc := ⟨.hbm, 68, rfl⟩
abbrev main_c_11 : Ref sig .tc := ⟨.hbm, 69, rfl⟩
abbrev main_c_12 : Ref sig .tc := ⟨.hbm, 70, rfl⟩
abbrev main_v55 : Ref sig .tc := ⟨.hbm, 71, rfl⟩
abbrev main_c_13 : Ref sig .tc := ⟨.hbm, 72, rfl⟩
abbrev main_v56 : Ref sig .tc := ⟨.hbm, 73, rfl⟩
abbrev main_c_14 : Ref sig .tc := ⟨.hbm, 74, rfl⟩
abbrev main_v57 : Ref sig .tc := ⟨.hbm, 75, rfl⟩
abbrev main_c_15 : Ref sig .tc := ⟨.hbm, 76, rfl⟩
abbrev main_v58 : Ref sig .tc := ⟨.hbm, 77, rfl⟩
abbrev main_v59 : Ref sig .tc := ⟨.hbm, 78, rfl⟩
abbrev main_c_16 : Ref sig .tc := ⟨.hbm, 79, rfl⟩
abbrev main_v60 : Ref sig .tc := ⟨.hbm, 80, rfl⟩
abbrev main_c_17 : Ref sig .tc := ⟨.hbm, 81, rfl⟩
abbrev main_v61 : Ref sig .tc := ⟨.hbm, 82, rfl⟩
abbrev main_c_18 : Ref sig .tc := ⟨.hbm, 83, rfl⟩
abbrev main_v62 : Ref sig .tc := ⟨.hbm, 84, rfl⟩
abbrev main_c_19 : Ref sig .tc := ⟨.hbm, 85, rfl⟩
abbrev main_v63 : Ref sig .tc := ⟨.hbm, 86, rfl⟩
abbrev main_v64 : Ref sig .tc := ⟨.hbm, 87, rfl⟩
abbrev main_c_20 : Ref sig .tc := ⟨.hbm, 88, rfl⟩
abbrev main_v65 : Ref sig .tc := ⟨.hbm, 89, rfl⟩
abbrev main_c_21 : Ref sig .tc := ⟨.hbm, 90, rfl⟩
abbrev main_v66 : Ref sig .tc := ⟨.hbm, 91, rfl⟩
abbrev main_c_22 : Ref sig .tc := ⟨.hbm, 92, rfl⟩
abbrev main_v67 : Ref sig .tc := ⟨.hbm, 93, rfl⟩
abbrev main_c_23 : Ref sig .tc := ⟨.hbm, 94, rfl⟩
abbrev main_v68 : Ref sig .tc := ⟨.hbm, 95, rfl⟩
abbrev main_v69 : Ref sig .tc := ⟨.hbm, 96, rfl⟩
abbrev main_c_24 : Ref sig .tc := ⟨.hbm, 97, rfl⟩
abbrev main_v70 : Ref sig .tc := ⟨.hbm, 98, rfl⟩
abbrev main_c_25 : Ref sig .tc := ⟨.hbm, 99, rfl⟩
abbrev main_v71 : Ref sig .tc := ⟨.hbm, 100, rfl⟩
abbrev main_c_26 : Ref sig .tc := ⟨.hbm, 101, rfl⟩
abbrev main_v72 : Ref sig .tc := ⟨.hbm, 102, rfl⟩
abbrev main_c_27 : Ref sig .tc := ⟨.hbm, 103, rfl⟩
abbrev main_v73 : Ref sig .tc := ⟨.hbm, 104, rfl⟩
abbrev main_v74 : Ref sig .tc := ⟨.hbm, 105, rfl⟩
abbrev main_c_28 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x696x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S696x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference35Ideal.lean ====
abbrev S8x696x128 : Shape := ⟨3, ![8, 696, 128]⟩
abbrev S_ : Shape := ⟨0, ![]⟩
abbrev S696x128 : Shape := ⟨2, ![696, 128]⟩
abbrev S89088 : Shape := ⟨1, ![89088]⟩
abbrev S1 : Shape := ⟨1, ![1]⟩
abbrev S2048 : Shape := ⟨1, ![2048]⟩
abbrev S2x1024 : Shape := ⟨2, ![2, 1024]⟩
abbrev S1024 : Shape := ⟨1, ![1024]⟩
abbrev S20480 : Shape := ⟨1, ![20480]⟩
abbrev S1x5x4096 : Shape := ⟨3, ![1, 5, 4096]⟩
abbrev S1x5x1024 : Shape := ⟨3, ![1, 5, 1024]⟩
abbrev S4096 : Shape := ⟨1, ![4096]⟩
abbrev S1x4096 : Shape := ⟨2, ![1, 4096]⟩
abbrev S32 : Shape := ⟨1, ![32]⟩
abbrev S1x32 : Shape := ⟨2, ![1, 32]⟩
abbrev S1x2048 : Shape := ⟨2, ![1, 2048]⟩
abbrev S1x512 : Shape := ⟨2, ![1, 512]⟩
abbrev S31744 : Shape := ⟨1, ![31744]⟩
abbrev S1x31x1024 : Shape := ⟨3, ![1, 31, 1024]⟩
abbrev S1x31x256 : Shape := ⟨3, ![1, 31, 256]⟩
abbrev S1x1024 : Shape := ⟨2, ![1, 1024]⟩
abbrev S1x256 : Shape := ⟨2, ![1, 256]⟩
abbrev S6144 : Shape := ⟨1, ![6144]⟩
abbrev S1x6144 : Shape := ⟨2, ![1, 6144]⟩
abbrev S2x6144 : Shape := ⟨2, ![2, 6144]⟩

abbrev nBuf : Space → Nat
  | .hbm => 112
  | .vmem => 0
  | .smem => 0
  | _ => 0

abbrev bufTy : (tb : Table) → Fin (tcTables nBuf tb) → BufTy
  | .hbm, ⟨0, _⟩ => ⟨S8x696x128, .f32⟩
  | .hbm, ⟨1, _⟩ => ⟨S_, .i32⟩
  | .hbm, ⟨2, _⟩ => ⟨S_, .f32⟩
  | .hbm, ⟨3, _⟩ => ⟨S696x128, .f32⟩
  | .hbm, ⟨4, _⟩ => ⟨S89088, .f32⟩
  | .hbm, ⟨5, _⟩ => ⟨S1, .f32⟩
  | .hbm, ⟨6, _⟩ => ⟨S_, .f32⟩
  | .hbm, ⟨7, _⟩ => ⟨S2048, .f32⟩
  | .hbm, ⟨8, _⟩ => ⟨S2x1024, .f32⟩
  | .hbm, ⟨9, _⟩ => ⟨S2048, .f32⟩
  | .hbm, ⟨10, _⟩ => ⟨S2x1024, .f32⟩
  | .hbm, ⟨11, _⟩ => ⟨S1024, .f32⟩
  | .hbm, ⟨12, _⟩ => ⟨S20480, .f32⟩
  | .hbm, ⟨13, _⟩ => ⟨S1x5x4096, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x5x1024, .f32⟩
  | .hbm, ⟨24, _⟩ => ⟨S4096, .f32⟩
  | .hbm, ⟨25, _⟩ => ⟨S1x4096, .f32⟩
  | .hbm, ⟨26, _⟩ => ⟨S32, .f32⟩
  | .hbm, ⟨27, _⟩ => ⟨S1x32, .f32⟩
  | .hbm, ⟨28, _⟩ => ⟨S32, .f32⟩
  | .hbm, ⟨29, _⟩ => ⟨S1x32, .f32⟩
  | .hbm, ⟨30, _⟩ => ⟨S32, .f32⟩
  | .hbm, ⟨31, _⟩ => ⟨S1x32, .f32⟩
  | .hbm, ⟨32, _⟩ => ⟨S32, .f32⟩
  | .hbm, ⟨33, _⟩ => ⟨S1x32, .f32⟩
  | .hbm, ⟨34, _⟩ => ⟨S32, .f32⟩
  | .hbm, ⟨35, _⟩ => ⟨S1x32, .f32⟩
  | .hbm, ⟨36, _⟩ => ⟨S2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x512, .f32⟩
  | .hbm, ⟨49, _⟩ => ⟨S31744, .f32⟩
  | .hbm, ⟨50, _⟩ => ⟨S1x31x1024, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x31x256, .f32⟩
  | .hbm, ⟨61, _⟩ => ⟨S1024, .f32⟩
  | .hbm, ⟨62, _⟩ => ⟨S1x1024, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x256, .f32⟩
  | .hbm, ⟨72, _⟩ => ⟨S1024, .f32⟩
  | .hbm, ⟨73, _⟩ => ⟨S1x1024, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x256, .f32⟩
  | .hbm, ⟨83, _⟩ => ⟨S1024, .f32⟩
  | .hbm, ⟨84, _⟩ => ⟨S1x1024, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i1⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S1x256, .f32⟩
  | .hbm, ⟨94, _⟩ => ⟨S1024, .f32⟩
  | .hbm, ⟨95, _⟩ => ⟨S1x1024, .f32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S1x256, .f32⟩
  | .hbm, ⟨105, _⟩ => ⟨S6144, .f32⟩
  | .hbm, ⟨106, _⟩ => ⟨S6144, .f32⟩
  | .hbm, ⟨107, _⟩ => ⟨S6144, .f32⟩
  | .hbm, ⟨108, _⟩ => ⟨S6144, .f32⟩
  | .hbm, ⟨109, _⟩ => ⟨S1x6144, .f32⟩
  | .hbm, ⟨110, _⟩ => ⟨S1x6144, .f32⟩
  | .hbm, ⟨111, _⟩ => ⟨S2x6144, .f32⟩
  | _, _ => ⟨S8x696x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_4 : Ref sig .tc := ⟨.hbm, 40, rfl⟩
abbrev main_v32 : Ref sig .tc := ⟨.hbm, 41, rfl⟩
abbrev main_c_5 : Ref sig .tc := ⟨.hbm, 42, rfl⟩
abbrev main_v33 : Ref sig .tc := ⟨.hbm, 43, rfl⟩
abbrev main_c_6 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_8 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_c_10 : Ref sig .tc := ⟨.hbm, 55, rfl⟩
abbrev main_v41 : Ref sig .tc := ⟨.hbm, 56, rfl⟩
abbrev main_v42 : Ref sig .tc := ⟨.hbm, 57, rfl⟩
abbrev main_c_11 : Ref sig .tc := ⟨.hbm, 58, rfl⟩
abbrev main_c_12 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_13 : Ref sig .tc := ⟨.hbm, 63, rfl⟩
abbrev main_v46 : Ref sig .tc := ⟨.hbm, 64, rfl⟩
abbrev main_c_14 : Ref sig .tc := ⟨.hbm, 65, rfl⟩
abbrev main_v47 : Ref sig .tc := ⟨.hbm, 66, rfl⟩
abbrev main_c_15 : Ref sig .tc := ⟨.hbm, 67, rfl⟩
abbrev main_v48 : Ref sig .tc := ⟨.hbm, 68, rfl⟩
abbrev main_v49 : Ref sig .tc := ⟨.hbm, 69, rfl⟩
abbrev main_c_16 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_17 : Ref sig .tc := ⟨.hbm, 74, rfl⟩
abbrev main_v53 : Ref sig .tc := ⟨.hbm, 75, rfl⟩
abbrev main_c_18 : Ref sig .tc := ⟨.hbm, 76, rfl⟩
abbrev main_v54 : Ref sig .tc := ⟨.hbm, 77, rfl⟩
abbrev main_c_19 : Ref sig .tc := ⟨.hbm, 78, rfl⟩
abbrev main_v55 : Ref sig .tc := ⟨.hbm, 79, rfl⟩
abbrev main_v56 : Ref sig .tc := ⟨.hbm, 80, rfl⟩
abbrev main_c_20 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_21 : Ref sig .tc := ⟨.hbm, 85, rfl⟩
abbrev main_v60 : Ref sig .tc := ⟨.hbm, 86, rfl⟩
abbrev main_c_22 : Ref sig .tc := ⟨.hbm, 87, rfl⟩
abbrev main_v61 : Ref sig .tc := ⟨.hbm, 88, rfl⟩
abbrev main_c_23 : Ref sig .tc := ⟨.hbm, 89, rfl⟩
abbrev main_v62 : Ref sig .tc := ⟨.hbm, 90, rfl⟩
abbrev main_v63 : Ref sig .tc := ⟨.hbm, 91, rfl⟩
abbrev main_c_24 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_25 : Ref sig .tc := ⟨.hbm, 96, rfl⟩
abbrev main_v67 : Ref sig .tc := ⟨.hbm, 97, rfl⟩
abbrev main_c_26 : Ref sig .tc := ⟨.hbm, 98, rfl⟩
abbrev main_v68 : Ref sig .tc := ⟨.hbm, 99, rfl⟩
abbrev main_c_27 : Ref sig .tc := ⟨.hbm, 100, rfl⟩
abbrev main_v69 : Ref sig .tc := ⟨.hbm, 101, rfl⟩
abbrev main_v70 : Ref sig .tc := ⟨.hbm, 102, rfl⟩
abbrev main_c_28 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== Kernel36.lean ====
abbrev S16x1536 : Shape := ⟨2, ![16, 1536]⟩
abbrev S1024x1536 : Shape := ⟨2, ![1024, 1536]⟩
abbrev S1024 : Shape := ⟨1, ![1024]⟩
abbrev S16x1024 : Shape := ⟨2, ![16, 1024]⟩
abbrev S8x1024 : Shape := ⟨2, ![8, 1024]⟩
abbrev S1x1024 : Shape := ⟨2, ![1, 1024]⟩
abbrev S_ : Shape := ⟨0, ![]⟩

abbrev nBuf : Space → Nat
  | .hbm => 30
  | .vmem => 3
  | .smem => 0
  | _ => 0

abbrev bufTy : (tb : Table) → Fin (tcTables nBuf tb) → BufTy
  | .hbm, ⟨0, _⟩ => ⟨S16x1536, .f32⟩
  | .hbm, ⟨1, _⟩ => ⟨S1024x1536, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S16x1024, .f32⟩
  | .hbm, ⟨7, _⟩ => ⟨S8x1024, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .local _ .vmem, ⟨0, _⟩ => ⟨S16x1536, .f32⟩
  | .local _ .vmem, ⟨1, _⟩ => ⟨S1024x1536, .f32⟩
  | .local _ .vmem, ⟨2, _⟩ => ⟨S16x1024, .f32⟩
  | _, _ => ⟨S16x1536, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference36Ideal.lean ====
abbrev S16x1536 : Shape := ⟨2, ![16, 1536]⟩
abbrev S1024x1536 : Shape := ⟨2, ![1024, 1536]⟩
abbrev S1024 : Shape := ⟨1, ![1024]⟩
abbrev S_ : Shape := ⟨0, ![]⟩
abbrev S1536 : Shape := ⟨1, ![1536]⟩
abbrev S1x1536 : Shape := ⟨2, ![1, 1536]⟩

abbrev nBuf : Space → Nat
  | .hbm => 35
  | .vmem => 0
  | .smem => 0
  | _ => 0

abbrev bufTy : (tb : Table) → Fin (tcTables nBuf tb) → BufTy
  | .hbm, ⟨0, _⟩ => ⟨S16x1536, .f32⟩
  | .hbm, ⟨1, _⟩ => ⟨S1024x1536, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1536, .f32⟩
  | .hbm, ⟨9, _⟩ => ⟨S1x1536, .f32⟩
  | .hbm, ⟨10, _⟩ => ⟨S1536, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | _, _ => ⟨S16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v8_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v8_1 : Ref sig .tc := ⟨.hbm, 26, rfl⟩
abbrev main_v8_0 : Ref sig .tc := ⟨.hbm, 27, rfl⟩
abbrev main_cst_0 : Ref sig .tc := ⟨.hbm, 28, rfl⟩
abbrev main_v9 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v10 : Ref sig .tc := ⟨.hbm, 33, rfl⟩
abbrev main_v11 : Ref sig .tc := ⟨.hbm, 34, rfl⟩

abbrev nD : Nat := 1
abbrev τ : Topo := Topo.v7x

variable {F : FTy → Type} [FloatOps F]
-- ==== Kernel37.lean ====
abbrev S4x2x608x1024 : Shape := ⟨4, ![4, 2, 608, 1024]⟩
abbrev S7x608x1024 : Shape := ⟨3, ![7, 608, 1024]⟩
abbrev S2 : Shape := ⟨1, ![2]⟩
abbrev S608x1024 : Shape := ⟨2, ![608, 1024]⟩
abbrev S1 : Shape := ⟨1, ![1]⟩
abbrev S_ : Shape := ⟨0, ![]⟩
abbrev S1x1x32x1024 : Shape := ⟨4, ![1, 1, 32, 1024]⟩
abbrev S7x32x1024 : Shape := ⟨3, ![7, 32, 1024]⟩
abbrev S32x1024 : Shape := ⟨2, ![32, 1024]⟩
abbrev S1x32x1024 : Shape := ⟨3, ![1, 32, 1024]⟩
abbrev S1216x1024 : Shape := ⟨2, ![1216, 1024]⟩
abbrev S512x1024 : Shape := ⟨2, ![512, 1024]⟩
abbrev S704x1024 : Shape := ⟨2, ![704, 1024]⟩

abbrev nBuf : Space → Nat
  | .hbm => 13
  | .vmem => 6
  | .smem => 1
  | _ => 0

abbrev bufTy : (tb : Table) → Fin (tcTables nBuf tb) → BufTy
  | .hbm, ⟨0, _⟩ => ⟨S4x2x608x1024, .bf16⟩
  | .hbm, ⟨1, _⟩ => ⟨S7x608x1024, .bf16⟩
  | .hbm, ⟨2, _⟩ => ⟨S608x1024, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S608x1024, .f32⟩
  | .hbm, ⟨8, _⟩ => ⟨S608x1024, .f32⟩
  | .hbm, ⟨9, _⟩ => ⟨S608x1024, .f32⟩
  | .hbm, ⟨10, _⟩ => ⟨S1216x1024, .f32⟩
  | .hbm, ⟨11, _⟩ => ⟨S512x1024, .f32⟩
  | .hbm, ⟨12, _⟩ => ⟨S704x1024, .f32⟩
  | .local _ .vmem, ⟨0, _⟩ => ⟨S1x1x32x1024, .bf16⟩
  | .local _ .vmem, ⟨1, _⟩ => ⟨S1x1x32x1024, .bf16⟩
  | .local _ .vmem, ⟨2, _⟩ => ⟨S7x32x1024, .bf16⟩
  | .local _ .vmem, ⟨3, _⟩ => ⟨S7x32x1024, .bf16⟩
  | .local _ .vmem, ⟨4, _⟩ => ⟨S32x1024, .f32⟩
  | .local _ .vmem, ⟨5, _⟩ => ⟨S32x1024, .f32⟩
  | .local _ .smem, ⟨0, _⟩ => ⟨S2, .i32⟩
  | _, _ => ⟨S4x2x608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![19], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference37Ideal.lean ====
abbrev S4x2x608x1024 : Shape := ⟨4, ![4, 2, 608, 1024]⟩
abbrev S7x608x1024 : Shape := ⟨3, ![7, 608, 1024]⟩
abbrev S2 : Shape := ⟨1, ![2]⟩
abbrev S608x1024 : Shape := ⟨2, ![608, 1024]⟩
abbrev S1 : Shape := ⟨1, ![1]⟩
abbrev S_ : Shape := ⟨0, ![]⟩
abbrev S4 : Shape := ⟨1, ![4]⟩
abbrev S4x1x1x1 : Shape := ⟨4, ![4, 1, 1, 1]⟩
abbrev S2x608x1024 : Shape := ⟨3, ![2, 608, 1024]⟩
abbrev S2x1x1 : Shape := ⟨3, ![2, 1, 1]⟩
abbrev S1216x1024 : Shape := ⟨2, ![1216, 1024]⟩
abbrev S512x1024 : Shape := ⟨2, ![512, 1024]⟩
abbrev S704x1024 : Shape := ⟨2, ![704, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x2x608x1024, .bf16⟩
  | .hbm, ⟨1, _⟩ => ⟨S7x608x1024, .bf16⟩
  | .hbm, ⟨2, _⟩ => ⟨S2, .i32⟩
  | .hbm, ⟨3, _⟩ => ⟨S608x1024, .f32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x2x608x1024, .f32⟩
  | .hbm, ⟨9, _⟩ => ⟨S1, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i1⟩
  | .hbm, ⟨14, _⟩ => ⟨S4x1x1x1, .i1⟩
  | .hbm, ⟨15, _⟩ => ⟨S_, .f32⟩
  | .hbm, ⟨16, _⟩ => ⟨S_, .f32⟩
  | .hbm, ⟨17, _⟩ => ⟨S4x2x608x1024, .i1⟩
  | .hbm, ⟨18, _⟩ => ⟨S4x2x608x1024, .f32⟩
  | .hbm, ⟨19, _⟩ => ⟨S4x2x608x1024, .f32⟩
  | .hbm, ⟨20, _⟩ => ⟨S_, .f32⟩
  | .hbm, ⟨21, _⟩ => ⟨S2x608x1024, .f32⟩
  | .hbm, ⟨22, _⟩ => ⟨S1, .i32⟩
  | .hbm, ⟨23, _⟩ => ⟨S_, .i32⟩
  | .hbm, ⟨24, _⟩ => ⟨S2, .i32⟩
  | .hbm, ⟨25, _⟩ => ⟨S2, .i32⟩
  | .hbm, ⟨26, _⟩ => ⟨S2, .i1⟩
  | .hbm, ⟨27, _⟩ => ⟨S2x1x1, .i1⟩
  | .hbm, ⟨28, _⟩ => ⟨S_, .f32⟩
  | .hbm, ⟨29, _⟩ => ⟨S_, .f32⟩
  | .hbm, ⟨30, _⟩ => ⟨S2x608x1024, .i1⟩
  | .hbm, ⟨31, _⟩ => ⟨S2x608x1024, .f32⟩
  | .hbm, ⟨32, _⟩ => ⟨S2x608x1024, .f32⟩
  | .hbm, ⟨33, _⟩ => ⟨S_, .f32⟩
  | .hbm, ⟨34, _⟩ => ⟨S608x1024, .f32⟩
  | .hbm, ⟨35, _⟩ => ⟨S7x608x1024, .f32⟩
  | .hbm, ⟨36, _⟩ => ⟨S_, .f32⟩
  | .hbm, ⟨37, _⟩ => ⟨S608x1024, .f32⟩
  | .hbm, ⟨38, _⟩ => ⟨S608x1024, .f32⟩
  | .hbm, ⟨39, _⟩ => ⟨S608x1024, .f32⟩
  | .hbm, ⟨40, _⟩ => ⟨S608x1024, .f32⟩
  | .hbm, ⟨41, _⟩ => ⟨S1216x1024, .f32⟩
  | .hbm, ⟨42, _⟩ => ⟨S512x1024, .f32⟩
  | .hbm, ⟨43, _⟩ => ⟨S704x1024, .f32⟩
  | _, _ => ⟨S4x2x608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel38.lean ====
abbrev S4x2x480x1024 : Shape := ⟨4, ![4, 2, 480, 1024]⟩
abbrev S7x480x1024 : Shape := ⟨3, ![7, 480, 1024]⟩
abbrev S2 : Shape := ⟨1, ![2]⟩
abbrev S480x1024 : Shape := ⟨2, ![480, 1024]⟩
abbrev S1 : Shape := ⟨1, ![1]⟩
abbrev S_ : Shape := ⟨0, ![]⟩
abbrev S1x1x240x1024 : Shape := ⟨4, ![1, 1, 240, 1024]⟩
abbrev S7x240x1024 : Shape := ⟨3, ![7, 240, 1024]⟩
abbrev S240x1024 : Shape := ⟨2, ![240, 1024]⟩
abbrev S1x240x1024 : Shape := ⟨3, ![1, 240, 1024]⟩
abbrev S960x1024 : Shape := ⟨2, ![960, 1024]⟩
abbrev S256x1024 : Shape := ⟨2, ![256, 1024]⟩
abbrev S704x1024 : Shape := ⟨2, ![704, 1024]⟩

abbrev nBuf : Space → Nat
  | .hbm => 13
  | .vmem => 6
  | .smem => 1
  | _ => 0

abbrev bufTy : (tb : Table) → Fin (tcTables nBuf tb) → BufTy
  | .hbm, ⟨0, _⟩ => ⟨S4x2x480x1024, .bf16⟩
  | .hbm, ⟨1, _⟩ => ⟨S7x480x1024, .bf16⟩
  | .hbm, ⟨2, _⟩ => ⟨S480x1024, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S480x1024, .f32⟩
  | .hbm, ⟨8, _⟩ => ⟨S480x1024, .f32⟩
  | .hbm, ⟨9, _⟩ => ⟨S480x1024, .f32⟩
  | .hbm, ⟨10, _⟩ => ⟨S960x1024, .f32⟩
  | .hbm, ⟨11, _⟩ => ⟨S256x1024, .f32⟩
  | .hbm, ⟨12, _⟩ => ⟨S704x1024, .f32⟩
  | .local _ .vmem, ⟨0, _⟩ => ⟨S1x1x240x1024, .bf16⟩
  | .local _ .vmem, ⟨1, _⟩ => ⟨S1x1x240x1024, .bf16⟩
  | .local _ .vmem, ⟨2, _⟩ => ⟨S7x240x1024, .bf16⟩
  | .local _ .vmem, ⟨3, _⟩ => ⟨S7x240x1024, .bf16⟩
  | .local _ .vmem, ⟨4, _⟩ => ⟨S240x1024, .f32⟩
  | .local _ .vmem, ⟨5, _⟩ => ⟨S240x1024, .f32⟩
  | .local _ .smem, ⟨0, _⟩ => ⟨S2, .i32⟩
  | _, _ => ⟨S4x2x480x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x240x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x240x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S240x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference38Ideal.lean ====
abbrev S4x2x480x1024 : Shape := ⟨4, ![4, 2, 480, 1024]⟩
abbrev S7x480x1024 : Shape := ⟨3, ![7, 480, 1024]⟩
abbrev S2 : Shape := ⟨1, ![2]⟩
abbrev S480x1024 : Shape := ⟨2, ![480, 1024]⟩
abbrev S1 : Shape := ⟨1, ![1]⟩
abbrev S_ : Shape := ⟨0, ![]⟩
abbrev S4 : Shape := ⟨1, ![4]⟩
abbrev S4x1x1x1 : Shape := ⟨4, ![4, 1, 1, 1]⟩
abbrev S2x480x1024 : Shape := ⟨3, ![2, 480, 1024]⟩
abbrev S2x1x1 : Shape := ⟨3, ![2, 1, 1]⟩
abbrev S960x1024 : Shape := ⟨2, ![960, 1024]⟩
abbrev S256x1024 : Shape := ⟨2, ![256, 1024]⟩
abbrev S704x1024 : Shape := ⟨2, ![704, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x2x480x1024, .bf16⟩
  | .hbm, ⟨1, _⟩ => ⟨S7x480x1024, .bf16⟩
  | .hbm, ⟨2, _⟩ => ⟨S2, .i32⟩
  | .hbm, ⟨3, _⟩ => ⟨S480x1024, .f32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x2x480x1024, .f32⟩
  | .hbm, ⟨9, _⟩ => ⟨S1, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i1⟩
  | .hbm, ⟨14, _⟩ => ⟨S4x1x1x1, .i1⟩
  | .hbm, ⟨15, _⟩ => ⟨S_, .f32⟩
  | .hbm, ⟨16, _⟩ => ⟨S_, .f32⟩
  | .hbm, ⟨17, _⟩ => ⟨S4x2x480x1024, .i1⟩
  | .hbm, ⟨18, _⟩ => ⟨S4x2x480x1024, .f32⟩
  | .hbm, ⟨19, _⟩ => ⟨S4x2x480x1024, .f32⟩
  | .hbm, ⟨20, _⟩ => ⟨S_, .f32⟩
  | .hbm, ⟨21, _⟩ => ⟨S2x480x1024, .f32⟩
  | .hbm, ⟨22, _⟩ => ⟨S1, .i32⟩
  | .hbm, ⟨23, _⟩ => ⟨S_, .i32⟩
  | .hbm, ⟨24, _⟩ => ⟨S2, .i32⟩
  | .hbm, ⟨25, _⟩ => ⟨S2, .i32⟩
  | .hbm, ⟨26, _⟩ => ⟨S2, .i1⟩
  | .hbm, ⟨27, _⟩ => ⟨S2x1x1, .i1⟩
  | .hbm, ⟨28, _⟩ => ⟨S_, .f32⟩
  | .hbm, ⟨29, _⟩ => ⟨S_, .f32⟩
  | .hbm, ⟨30, _⟩ => ⟨S2x480x1024, .i1⟩
  | .hbm, ⟨31, _⟩ => ⟨S2x480x1024, .f32⟩
  | .hbm, ⟨32, _⟩ => ⟨S2x480x1024, .f32⟩
  | .hbm, ⟨33, _⟩ => ⟨S_, .f32⟩
  | .hbm, ⟨34, _⟩ => ⟨S480x1024, .f32⟩
  | .hbm, ⟨35, _⟩ => ⟨S7x480x1024, .f32⟩
  | .hbm, ⟨36, _⟩ => ⟨S_, .f32⟩
  | .hbm, ⟨37, _⟩ => ⟨S480x1024, .f32⟩
  | .hbm, ⟨38, _⟩ => ⟨S480x1024, .f32⟩
  | .hbm, ⟨39, _⟩ => ⟨S480x1024, .f32⟩
  | .hbm, ⟨40, _⟩ => ⟨S480x1024, .f32⟩
  | .hbm, ⟨41, _⟩ => ⟨S960x1024, .f32⟩
  | .hbm, ⟨42, _⟩ => ⟨S256x1024, .f32⟩
  | .hbm, ⟨43, _⟩ => ⟨S704x1024, .f32⟩
  | _, _ => ⟨S4x2x480x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel39.lean ====
abbrev S4x2x512x1408 : Shape := ⟨4, ![4, 2, 512, 1408]⟩
abbrev S7x512x1408 : Shape := ⟨3, ![7, 512, 1408]⟩
abbrev S2 : Shape := ⟨1, ![2]⟩
abbrev S512x1408 : Shape := ⟨2, ![512, 1408]⟩
abbrev S1 : Shape := ⟨1, ![1]⟩
abbrev S_ : Shape := ⟨0, ![]⟩
abbrev S1x1x128x1408 : Shape := ⟨4, ![1, 1, 128, 1408]⟩
abbrev S7x128x1408 : Shape := ⟨3, ![7, 128, 1408]⟩
abbrev S128x1408 : Shape := ⟨2, ![128, 1408]⟩
abbrev S1x128x1408 : Shape := ⟨3, ![1, 128, 1408]⟩
abbrev S1024x1408 : Shape := ⟨2, ![1024, 1408]⟩

abbrev nBuf : Space → Nat
  | .hbm => 11
  | .vmem => 6
  | .smem => 1
  | _ => 0

abbrev bufTy : (tb : Table) → Fin (tcTables nBuf tb) → BufTy
  | .hbm, ⟨0, _⟩ => ⟨S4x2x512x1408, .bf16⟩
  | .hbm, ⟨1, _⟩ => ⟨S7x512x1408, .bf16⟩
  | .hbm, ⟨2, _⟩ => ⟨S512x1408, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S512x1408, .f32⟩
  | .hbm, ⟨8, _⟩ => ⟨S512x1408, .f32⟩
  | .hbm, ⟨9, _⟩ => ⟨S512x1408, .f32⟩
  | .hbm, ⟨10, _⟩ => ⟨S1024x1408, .f32⟩
  | .local _ .vmem, ⟨0, _⟩ => ⟨S1x1x128x1408, .bf16⟩
  | .local _ .vmem, ⟨1, _⟩ => ⟨S1x1x128x1408, .bf16⟩
  | .local _ .vmem, ⟨2, _⟩ => ⟨S7x128x1408, .bf16⟩
  | .local _ .vmem, ⟨3, _⟩ => ⟨S7x128x1408, .bf16⟩
  | .local _ .vmem, ⟨4, _⟩ => ⟨S128x1408, .f32⟩
  | .local _ .vmem, ⟨5, _⟩ => ⟨S128x1408, .f32⟩
  | .local _ .smem, ⟨0, _⟩ => ⟨S2, .i32⟩
  | _, _ => ⟨S4x2x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference39Ideal.lean ====
abbrev S4x2x512x1408 : Shape := ⟨4, ![4, 2, 512, 1408]⟩
abbrev S7x512x1408 : Shape := ⟨3, ![7, 512, 1408]⟩
abbrev S2 : Shape := ⟨1, ![2]⟩
abbrev S512x1408 : Shape := ⟨2, ![512, 1408]⟩
abbrev S1 : Shape := ⟨1, ![1]⟩
abbrev S_ : Shape := ⟨0, ![]⟩
abbrev S4 : Shape := ⟨1, ![4]⟩
abbrev S4x1x1x1 : Shape := ⟨4, ![4, 1, 1, 1]⟩
abbrev S2x512x1408 : Shape := ⟨3, ![2, 512, 1408]⟩
abbrev S2x1x1 : Shape := ⟨3, ![2, 1, 1]⟩
abbrev S1024x1408 : Shape := ⟨2, ![1024, 1408]⟩

abbrev nBuf : Space → Nat
  | .hbm => 42
  | .vmem => 0
  | .smem => 0
  | _ => 0

abbrev bufTy : (tb : Table) → Fin (tcTables nBuf tb) → BufTy
  | .hbm, ⟨0, _⟩ => ⟨S4x2x512x1408, .bf16⟩
  | .hbm, ⟨1, _⟩ => ⟨S7x512x1408, .bf16⟩
  | .hbm, ⟨2, _⟩ => ⟨S2, .i32⟩
  | .hbm, ⟨3, _⟩ => ⟨S512x1408, .f32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x2x512x1408, .f32⟩
  | .hbm, ⟨9, _⟩ => ⟨S1, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i1⟩
  | .hbm, ⟨14, _⟩ => ⟨S4x1x1x1, .i1⟩
  | .hbm, ⟨15, _⟩ => ⟨S_, .f32⟩
  | .hbm, ⟨16, _⟩ => ⟨S_, .f32⟩
  | .hbm, ⟨17, _⟩ => ⟨S4x2x512x1408, .i1⟩
  | .hbm, ⟨18, _⟩ => ⟨S4x2x512x1408, .f32⟩
  | .hbm, ⟨19, _⟩ => ⟨S4x2x512x1408, .f32⟩
  | .hbm, ⟨20, _⟩ => ⟨S_, .f32⟩
  | .hbm, ⟨21, _⟩ => ⟨S2x512x1408, .f32⟩
  | .hbm, ⟨22, _⟩ => ⟨S1, .i32⟩
  | .hbm, ⟨23, _⟩ => ⟨S_, .i32⟩
  | .hbm, ⟨24, _⟩ => ⟨S2, .i32⟩
  | .hbm, ⟨25, _⟩ => ⟨S2, .i32⟩
  | .hbm, ⟨26, _⟩ => ⟨S2, .i1⟩
  | .hbm, ⟨27, _⟩ => ⟨S2x1x1, .i1⟩
  | .hbm, ⟨28, _⟩ => ⟨S_, .f32⟩
  | .hbm, ⟨29, _⟩ => ⟨S_, .f32⟩
  | .hbm, ⟨30, _⟩ => ⟨S2x512x1408, .i1⟩
  | .hbm, ⟨31, _⟩ => ⟨S2x512x1408, .f32⟩
  | .hbm, ⟨32, _⟩ => ⟨S2x512x1408, .f32⟩
  | .hbm, ⟨33, _⟩ => ⟨S_, .f32⟩
  | .hbm, ⟨34, _⟩ => ⟨S512x1408, .f32⟩
  | .hbm, ⟨35, _⟩ => ⟨S7x512x1408, .f32⟩
  | .hbm, ⟨36, _⟩ => ⟨S_, .f32⟩
  | .hbm, ⟨37, _⟩ => ⟨S512x1408, .f32⟩
  | .hbm, ⟨38, _⟩ => ⟨S512x1408, .f32⟩
  | .hbm, ⟨39, _⟩ => ⟨S512x1408, .f32⟩
  | .hbm, ⟨40, _⟩ => ⟨S512x1408, .f32⟩
  | .hbm, ⟨41, _⟩ => ⟨S1024x1408, .f32⟩
  | _, _ => ⟨S4x2x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel40.lean ====
abbrev S4x2x512x1920 : Shape := ⟨4, ![4, 2, 512, 1920]⟩
abbrev S7x512x1920 : Shape := ⟨3, ![7, 512, 1920]⟩
abbrev S2 : Shape := ⟨1, ![2]⟩
abbrev S512x1920 : Shape := ⟨2, ![512, 1920]⟩
abbrev S1 : Shape := ⟨1, ![1]⟩
abbrev S_ : Shape := ⟨0, ![]⟩
abbrev S1x1x128x1920 : Shape := ⟨4, ![1, 1, 128, 1920]⟩
abbrev S7x128x1920 : Shape := ⟨3, ![7, 128, 1920]⟩
abbrev S128x1920 : Shape := ⟨2, ![128, 1920]⟩
abbrev S1x128x1920 : Shape := ⟨3, ![1, 128, 1920]⟩
abbrev S1024x1920 : Shape := ⟨2, ![1024, 1920]⟩
abbrev S1024x512 : Shape := ⟨2, ![1024, 512]⟩
abbrev S1024x1408 : Shape := ⟨2, ![1024, 1408]⟩

abbrev nBuf : Space → Nat
  | .hbm => 13
  | .vmem => 6
  | .smem => 1
  | _ => 0

abbrev bufTy : (tb : Table) → Fin (tcTables nBuf tb) → BufTy
  | .hbm, ⟨0, _⟩ => ⟨S4x2x512x1920, .bf16⟩
  | .hbm, ⟨1, _⟩ => ⟨S7x512x1920, .bf16⟩
  | .hbm, ⟨2, _⟩ => ⟨S512x1920, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S512x1920, .f32⟩
  | .hbm, ⟨8, _⟩ => ⟨S512x1920, .f32⟩
  | .hbm, ⟨9, _⟩ => ⟨S512x1920, .f32⟩
  | .hbm, ⟨10, _⟩ => ⟨S1024x1920, .f32⟩
  | .hbm, ⟨11, _⟩ => ⟨S1024x512, .f32⟩
  | .hbm, ⟨12, _⟩ => ⟨S1024x1408, .f32⟩
  | .local _ .vmem, ⟨0, _⟩ => ⟨S1x1x128x1920, .bf16⟩
  | .local _ .vmem, ⟨1, _⟩ => ⟨S1x1x128x1920, .bf16⟩
  | .local _ .vmem, ⟨2, _⟩ => ⟨S7x128x1920, .bf16⟩
  | .local _ .vmem, ⟨3, _⟩ => ⟨S7x128x1920, .bf16⟩
  | .local _ .vmem, ⟨4, _⟩ => ⟨S128x1920, .f32⟩
  | .local _ .vmem, ⟨5, _⟩ => ⟨S128x1920, .f32⟩
  | .local _ .smem, ⟨0, _⟩ => ⟨S2, .i32⟩
  | _, _ => ⟨S4x2x512x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c0_i32 : BitVec 32 := 0#32
  let c0_i32_0 : BitVec 32 := 0#32
  ![v0.toNat, v1.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x128x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference40Ideal.lean ====
abbrev S4x2x512x1920 : Shape := ⟨4, ![4, 2, 512, 1920]⟩
abbrev S7x512x1920 : Shape := ⟨3, ![7, 512, 1920]⟩
abbrev S2 : Shape := ⟨1, ![2]⟩
abbrev S512x1920 : Shape := ⟨2, ![512, 1920]⟩
abbrev S1 : Shape := ⟨1, ![1]⟩
abbrev S_ : Shape := ⟨0, ![]⟩
abbrev S4 : Shape := ⟨1, ![4]⟩
abbrev S4x1x1x1 : Shape := ⟨4, ![4, 1, 1, 1]⟩
abbrev S2x512x1920 : Shape := ⟨3, ![2, 512, 1920]⟩
abbrev S2x1x1 : Shape := ⟨3, ![2, 1, 1]⟩
abbrev S1024x1920 : Shape := ⟨2, ![1024, 1920]⟩
abbrev S1024x512 : Shape := ⟨2, ![1024, 512]⟩
abbrev S1024x1408 : Shape := ⟨2, ![1024, 1408]⟩

abbrev nBuf : Space → Nat
  | .hbm => 44
  | .vmem => 0
  | .smem => 0
  | _ => 0

abbrev bufTy : (tb : Table) → Fin (tcTables nBuf tb) → BufTy
  | .hbm, ⟨0, _⟩ => ⟨S4x2x512x1920, .bf16⟩
  | .hbm, ⟨1, _⟩ => ⟨S7x512x1920, .bf16⟩
  | .hbm, ⟨2, _⟩ => ⟨S2, .i32⟩
  | .hbm, ⟨3, _⟩ => ⟨S512x1920, .f32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S4x2x512x1920, .f32⟩
  | .hbm, ⟨9, _⟩ => ⟨S1, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i1⟩
  | .hbm, ⟨14, _⟩ => ⟨S4x1x1x1, .i1⟩
  | .hbm, ⟨15, _⟩ => ⟨S_, .f32⟩
  | .hbm, ⟨16, _⟩ => ⟨S_, .f32⟩
  | .hbm, ⟨17, _⟩ => ⟨S4x2x512x1920, .i1⟩
  | .hbm, ⟨18, _⟩ => ⟨S4x2x512x1920, .f32⟩
  | .hbm, ⟨19, _⟩ => ⟨S4x2x512x1920, .f32⟩
  | .hbm, ⟨20, _⟩ => ⟨S_, .f32⟩
  | .hbm, ⟨21, _⟩ => ⟨S2x512x1920, .f32⟩
  | .hbm, ⟨22, _⟩ => ⟨S1, .i32⟩
  | .hbm, ⟨23, _⟩ => ⟨S_, .i32⟩
  | .hbm, ⟨24, _⟩ => ⟨S2, .i32⟩
  | .hbm, ⟨25, _⟩ => ⟨S2, .i32⟩
  | .hbm, ⟨26, _⟩ => ⟨S2, .i1⟩
  | .hbm, ⟨27, _⟩ => ⟨S2x1x1, .i1⟩
  | .hbm, ⟨28, _⟩ => ⟨S_, .f32⟩
  | .hbm, ⟨29, _⟩ => ⟨S_, .f32⟩
  | .hbm, ⟨30, _⟩ => ⟨S2x512x1920, .i1⟩
  | .hbm, ⟨31, _⟩ => ⟨S2x512x1920, .f32⟩
  | .hbm, ⟨32, _⟩ => ⟨S2x512x1920, .f32⟩
  | .hbm, ⟨33, _⟩ => ⟨S_, .f32⟩
  | .hbm, ⟨34, _⟩ => ⟨S512x1920, .f32⟩
  | .hbm, ⟨35, _⟩ => ⟨S7x512x1920, .f32⟩
  | .hbm, ⟨36, _⟩ => ⟨S_, .f32⟩
  | .hbm, ⟨37, _⟩ => ⟨S512x1920, .f32⟩
  | .hbm, ⟨38, _⟩ => ⟨S512x1920, .f32⟩
  | .hbm, ⟨39, _⟩ => ⟨S512x1920, .f32⟩
  | .hbm, ⟨40, _⟩ => ⟨S512x1920, .f32⟩
  | .hbm, ⟨41, _⟩ => ⟨S1024x1920, .f32⟩
  | .hbm, ⟨42, _⟩ => ⟨S1024x512, .f32⟩
  | .hbm, ⟨43, _⟩ => ⟨S1024x1408, .f32⟩
  | _, _ => ⟨S4x2x512x1920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel41.lean ====
abbrev S4x512x1664 : Shape := ⟨3, ![4, 512, 1664]⟩
abbrev S3x512x1664 : Shape := ⟨3, ![3, 512, 1664]⟩
abbrev S1 : Shape := ⟨1, ![1]⟩
abbrev S512x1664 : Shape := ⟨2, ![512, 1664]⟩
abbrev S_ : Shape := ⟨0, ![]⟩
abbrev S1x256x1664 : Shape := ⟨3, ![1, 256, 1664]⟩
abbrev S3x256x1664 : Shape := ⟨3, ![3, 256, 1664]⟩
abbrev S256x1664 : Shape := ⟨2, ![256, 1664]⟩
abbrev S1024x1664 : Shape := ⟨2, ![1024, 1664]⟩
abbrev S1024x1552 : Shape := ⟨2, ![1024, 1552]⟩

abbrev nBuf : Space → Nat
  | .hbm => 12
  | .vmem => 6
  | .smem => 1
  | _ => 0

abbrev bufTy : (tb : Table) → Fin (tcTables nBuf tb) → BufTy
  | .hbm, ⟨0, _⟩ => ⟨S4x512x1664, .f32⟩
  | .hbm, ⟨1, _⟩ => ⟨S3x512x1664, .bf16⟩
  | .hbm, ⟨2, _⟩ => ⟨S1, .i32⟩
  | .hbm, ⟨3, _⟩ => ⟨S512x1664, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S512x1664, .f32⟩
  | .hbm, ⟨8, _⟩ => ⟨S512x1664, .f32⟩
  | .hbm, ⟨9, _⟩ => ⟨S512x1664, .f32⟩
  | .hbm, ⟨10, _⟩ => ⟨S1024x1664, .f32⟩
  | .hbm, ⟨11, _⟩ => ⟨S1024x1552, .f32⟩
  | .local _ .vmem, ⟨0, _⟩ => ⟨S1x256x1664, .f32⟩
  | .local _ .vmem, ⟨1, _⟩ => ⟨S1x256x1664, .f32⟩
  | .local _ .vmem, ⟨2, _⟩ => ⟨S3x256x1664, .bf16⟩
  | .local _ .vmem, ⟨3, _⟩ => ⟨S3x256x1664, .bf16⟩
  | .local _ .vmem, ⟨4, _⟩ => ⟨S256x1664, .f32⟩
  | .local _ .vmem, ⟨5, _⟩ => ⟨S256x1664, .f32⟩
  | .local _ .smem, ⟨0, _⟩ => ⟨S1, .i32⟩
  | _, _ => ⟨S4x512x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference41Ideal.lean ====
abbrev S4x512x1664 : Shape := ⟨3, ![4, 512, 1664]⟩
abbrev S3x512x1664 : Shape := ⟨3, ![3, 512, 1664]⟩
abbrev S1 : Shape := ⟨1, ![1]⟩
abbrev S512x1664 : Shape := ⟨2, ![512, 1664]⟩
abbrev S_ : Shape := ⟨0, ![]⟩
abbrev S4 : Shape := ⟨1, ![4]⟩
abbrev S4x1x1 : Shape := ⟨3, ![4, 1, 1]⟩
abbrev S1024x1664 : Shape := ⟨2, ![1024, 1664]⟩
abbrev S1024x1552 : Shape := ⟨2, ![1024, 1552]⟩

abbrev nBuf : Space → Nat
  | .hbm => 28
  | .vmem => 0
  | .smem => 0
  | _ => 0

abbrev bufTy : (tb : Table) → Fin (tcTables nBuf tb) → BufTy
  | .hbm, ⟨0, _⟩ => ⟨S4x512x1664, .f32⟩
  | .hbm, ⟨1, _⟩ => ⟨S3x512x1664, .bf16⟩
  | .hbm, ⟨2, _⟩ => ⟨S1, .i32⟩
  | .hbm, ⟨3, _⟩ => ⟨S1, .i32⟩
  | .hbm, ⟨4, _⟩ => ⟨S512x1664, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i1⟩
  | .hbm, ⟨12, _⟩ => ⟨S4x1x1, .i1⟩
  | .hbm, ⟨13, _⟩ => ⟨S_, .f32⟩
  | .hbm, ⟨14, _⟩ => ⟨S_, .f32⟩
  | .hbm, ⟨15, _⟩ => ⟨S4x512x1664, .i1⟩
  | .hbm, ⟨16, _⟩ => ⟨S4x512x1664, .f32⟩
  | .hbm, ⟨17, _⟩ => ⟨S4x512x1664, .f32⟩
  | .hbm, ⟨18, _⟩ => ⟨S_, .f32⟩
  | .hbm, ⟨19, _⟩ => ⟨S512x1664, .f32⟩
  | .hbm, ⟨20, _⟩ => ⟨S3x512x1664, .f32⟩
  | .hbm, ⟨21, _⟩ => ⟨S_, .f32⟩
  | .hbm, ⟨22, _⟩ => ⟨S512x1664, .f32⟩
  | .hbm, ⟨23, _⟩ => ⟨S512x1664, .f32⟩
  | .hbm, ⟨24, _⟩ => ⟨S512x1664, .f32⟩
  | .hbm, ⟨25, _⟩ => ⟨S512x1664, .f32⟩
  | .hbm, ⟨26, _⟩ => ⟨S1024x1664, .f32⟩
  | .hbm, ⟨27, _⟩ => ⟨S1024x1552, .f32⟩
  | _, _ => ⟨S4x512x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.AdamStep.lean ====
module

public import proofs.«01_k».proof.Defs

/-!
# One step of AdamW, on one entry

What the optimiser does with one entry of a weight, of its gradient and of its two moments. Every entry is treated alike, so
a step of a whole array is this formula at each index. The decimal constants are the single-precision numbers of the
programs: the decay rates 0.9 and 0.999 and their complements, the corrections of the tenth step's bias, the learning
rate, the small number added to the root, and the weight decay.
-/

@[expose] public section

noncomputable section

namespace Cert.AdamStep

open Idealize.ShloMosaic

/-- The new first moment: 0.9 of the old one and 0.1 of the gradient. -/
def first (g u : EReal) : EReal := Ideal.ofBits FTy.f32 1063675494#32 * u + Ideal.ofBits FTy.f32 1036831949#32 * g

/-- The new second moment: 0.999 of the old one and 0.001 of the gradient's square. -/
def second (g v : EReal) : EReal := Ideal.ofBits FTy.f32 1065336439#32 * v + Ideal.ofBits FTy.f32 981668463#32 * (g * g)

/-- The change of the weight: the corrected first moment over the root of the corrected second one, and the decay. -/
def change (w g u v : EReal) : EReal :=
  Ideal.ofBits FTy.f32 3129152111#32
    * (Ideal.div (Ideal.div (first g u) (Ideal.ofBits FTy.f32 1059503362#32))
        (Ideal.sqrt (Ideal.div (second g v) (Ideal.ofBits FTy.f32 1008933580#32)) + Ideal.ofBits FTy.f32 841731191#32)
      + Ideal.ofBits FTy.f32 1008981770#32 * w)

end Cert.AdamStep

end
-- ==== Proof.Adam26.lean ====
module

public import proofs.«01_k».proof.Proof.AdamStep
public import proofs.«01_k».proof.Proof.Gen.Kernel26Ideal.Value
public import proofs.«01_k».proof.Proof.Gen.Reference26Ideal.Read
public import Idealize.ShloMosaic.Lib.Pointwise
public import Idealize.ShloMosaic.Lib.Tactic

/-!
# The optimiser's step of `ada_w` is reference.py's formula

The host lays the weight, its gradient and its two moments out as 2048 rows of 1536, and each of the 8 grid points takes 256 of them. The reference
applies the formula to the arrays as they are and lays its three results out the same way.
-/

@[expose] public section

set_option maxRecDepth 16384

noncomputable section

namespace Cert.Kernel26Ideal.Adam

open Cert.Kernel26Ideal Cert.Kernel26Ideal.Gen Cert.Kernel26Ideal.Value
open Idealize.ShloMosaic Idealize.ShloMosaic.TcCoe Idealize.SL.Sem
open Cert.AdamStep

/-- An array's rows, the leading axes taken together. -/
abbrev rows (x : S2x1024x1536.Idx → EReal) : S2048x1536.Idx → EReal := shapeCast S2048x1536 x shapeCasts_S2x1024x1536_S2048x1536

theorem origin : (![(0 : ℕ), 0] : Fin 2 → ℕ) = fun _ => 0 := funext fun i => match i with | ⟨0, _⟩ => rfl | ⟨1, _⟩ => rfl

/-! ## One block -/

section Block
variable (w g u v : Vec Ideal S256x1536 .f32) (p : Fin 256) (q : Fin 1536)

theorem block_first : (out0_5 (F := Ideal) w g u v (ix2 p q) : EReal) = first (g (ix2 p q)) (u (ix2 p q)) := by
  simp only [out0_5, first, View.canon_unit_zero (S := S256x1536) origin, View.ld_unit_zero (S := S256x1536) origin]
  pointwise [k0_pay2, k0_pay1]

theorem block_second : (out0_6 (F := Ideal) w g u v (ix2 p q) : EReal) = second (g (ix2 p q)) (v (ix2 p q)) := by
  simp only [out0_6, second, View.canon_unit_zero (S := S256x1536) origin, View.ld_unit_zero (S := S256x1536) origin]
  pointwise [k0_pay3, k0_pay1]

theorem block_change : (out0_4 (F := Ideal) w g u v (ix2 p q) : EReal)
    = change (w (ix2 p q)) (g (ix2 p q)) (u (ix2 p q)) (v (ix2 p q)) := by
  simp only [out0_4, change, first, second, View.canon_unit_zero (S := S256x1536) origin, View.ld_unit_zero (S := S256x1536) origin]
  pointwise [k0_pay4, k0_pay3, k0_pay2, k0_pay1]

end Block

/-! ## The whole arrays -/

section Whole
variable (m : (ℓ : Loc nD τ sig) → Buf (Elt Ideal) ℓ) (c : Dev nD)

/-- The arguments' rows, as the run finds them: weight, gradient and the two moments. -/
abbrev W : S2048x1536.Idx → EReal := rows (m ((c : Thread nD τ).loc main_arg0))
abbrev G : S2048x1536.Idx → EReal := rows (m ((c : Thread nD τ).loc main_arg1))
abbrev M : S2048x1536.Idx → EReal := rows (m ((c : Thread nD τ).loc main_arg2))
abbrev U : S2048x1536.Idx → EReal := rows (m ((c : Thread nD τ).loc main_arg3))

/-- They are what the host prepares. -/
theorem host : V m c main_v0 = W m c ∧ V m c main_v1 = G m c ∧ V m c main_v2 = M m c ∧ V m c main_v3 = U m c := by
  refine ⟨?_, ?_, ?_, ?_⟩ <;> (entry_read; rfl)

/-- Every grid point writes its rows back. -/
theorem index : ∀ t : Fin cfg0.N, win0_4.index t (0 : Fin 2) = t.val ∧ win0_4.index t (1 : Fin 2) = 0 :=
  (by decide +kernel : ∀ t : Fin grid0.N, _)
theorem flush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- The index of the whole array that entry `(p, q)` of a point's block is; every window has the same. -/
abbrev place (t : Fin cfg0.N) (p : Fin 256) (q : Fin 1536) : S2048x1536.Idx := ((cfg0.win 4).blk t).view.emb (ix2 p q)

theorem inputs (t : Fin cfg0.N) (p : Fin 256) (q : Fin 1536) :
    iblk m c 0 t (ix2 p q) = W m c (place t p q) ∧ iblk m c 1 t (ix2 p q) = G m c (place t p q)
      ∧ iblk m c 2 t (ix2 p q) = M m c (place t p q) ∧ iblk m c 3 t (ix2 p q) = U m c (place t p q) := by
  obtain ⟨h0, h1, h2, h3⟩ := host m c
  rw [← h0, ← h1, ← h2, ← h3]
  exact ⟨rfl, rfl, rfl, rfl⟩

theorem covered (i : S2048x1536.Idx) : ∃ (t : Fin cfg0.N) (p : Fin 256) (q : Fin 1536), place t p q = i := by
  have hi : (i 0).val < 2048 := (i 0).isLt
  have hN : (i 0).val / 256 < cfg0.N := lt_of_lt_of_eq (by omega : (i 0).val / 256 < 8) N_0.symm
  refine ⟨⟨(i 0).val / 256, hN⟩, ⟨(i 0).val % 256, Nat.mod_lt _ (by decide)⟩, i 1, ?_⟩
  obtain ⟨e0, e1⟩ := index ⟨(i 0).val / 256, hN⟩
  funext x
  match x with
  | ⟨0, _⟩ =>
    refine Fin.ext ?_
    show win0_4.index _ (0 : Fin 2) * 256 + 1 * ((i 0).val % 256) = (i 0).val
    rw [e0]; show (i 0).val / 256 * 256 + 1 * ((i 0).val % 256) = (i 0).val; omega
  | ⟨1, _⟩ =>
    refine Fin.ext ?_
    show win0_4.index _ (1 : Fin 2) * 1536 + 1 * (i 1).val = (i 1).val
    rw [e1]; omega

/-- The three result arrays after the run, entry by entry. -/
theorem whole (i : S2048x1536.Idx) : (dats m 0 c).arrAt 4 cfg0.N i = change (W m c i) (G m c i) (M m c i) (U m c i)
    ∧ (dats m 0 c).arrAt 5 cfg0.N i = first (G m c i) (M m c i) ∧ (dats m 0 c).arrAt 6 cfg0.N i = second (G m c i) (U m c i) := by
  obtain ⟨t, p, q, rfl⟩ := covered i
  obtain ⟨h0, h1, h2, h3⟩ := inputs m c t p q
  obtain ⟨f4, f5, f6⟩ := flush t
  rw [← h0, ← h1, ← h2, ← h3]
  exact ⟨(congrFun ((blocks4 m c t f4).trans (flushed4 m c t)) (ix2 p q)).trans (block_change _ _ _ _ p q),
    (congrFun ((blocks5 m c t f5).trans (flushed5 m c t)) (ix2 p q)).trans (block_first _ _ _ _ p q),
    (congrFun ((blocks6 m c t f6).trans (flushed6 m c t)) (ix2 p q)).trans (block_second _ _ _ _ p q)⟩

end Whole

/-! ## The reference -/

section Reference
open Cert.Reference26Ideal.Read
variable (w g u v : S2x1024x1536.Idx → EReal)

theorem ref_first (j : S2x1024x1536.Idx) : (val_main_v4 (F := Ideal) g u j : EReal) = first (g j) (u j) := by
  unfold first
  pointwise [val_main_v4, val_main_v3, val_main_v2, val_main_v1, val_main_v0, val_main_cst, val_main_cst_0]

theorem ref_second (j : S2x1024x1536.Idx) : (val_main_v10 (F := Ideal) g v j : EReal) = second (g j) (v j) := by
  unfold second
  pointwise [val_main_v10, val_main_v9, val_main_v8, val_main_v7, val_main_v6, val_main_v5, val_main_cst_1, val_main_cst_2]

theorem ref_change (j : S2x1024x1536.Idx) : (val_main_v23 (F := Ideal) w g u v j : EReal) = change (w j) (g j) (u j) (v j) := by
  unfold change
  rw [← ref_first g u j, ← ref_second g v j]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

end Reference

/-- The claim: from the same arguments the kernel and the reference end with the same three results. -/
theorem algebraic : Cert.algebraic_Kernel26Ideal_Reference26Ideal := by
  intro m g m' g' _ h
  refine ⟨fun c => (dats m 0 c).arrAt 4 cfg0.N, fun c => (dats m 0 c).arrAt 5 cfg0.N, fun c => (dats m 0 c).arrAt 6 cfg0.N,
    run_blocks m g, (θ_run _ _ _).mono (fun r hr c => ?_) (Cert.Reference26Ideal.Value.run m' g')⟩
  obtain ⟨h0, h1, h2, h3⟩ := h c
  obtain ⟨hd, hu, hv, ha⟩ := hr c
  refine ⟨?_, ?_, ?_, ha⟩
  · rw [hd, h0, h1, h2, h3]
    exact funext fun i => (ref_change _ _ _ _ _).trans (whole m c i).1.symm
  · rw [hu, h1, h2]
    exact funext fun i => (ref_first _ _ _).trans (whole m c i).2.1.symm
  · rw [hv, h1, h3]
    exact funext fun i => (ref_second _ _ _).trans (whole m c i).2.2.symm

end Cert.Kernel26Ideal.Adam

end
-- ==== Proof.Adam27.lean ====
module

public import proofs.«01_k».proof.Proof.AdamStep
public import proofs.«01_k».proof.Proof.Gen.Kernel27Ideal.Value
public import proofs.«01_k».proof.Proof.Gen.Reference27Ideal.Read
public import Idealize.ShloMosaic.Lib.Pointwise
public import Idealize.ShloMosaic.Lib.Tactic

/-!
# The optimiser's step of `ssd_w_in` is reference.py's formula

The host lays the weight, its gradient and its two moments out as 1024 rows of 1552, and each of the 4 grid points takes 256 of them. The reference
applies the formula to the arrays as they are and lays its three results out the same way.
-/

@[expose] public section

set_option maxRecDepth 16384

noncomputable section

namespace Cert.Kernel27Ideal.Adam

open Cert.Kernel27Ideal Cert.Kernel27Ideal.Gen Cert.Kernel27Ideal.Value
open Idealize.ShloMosaic Idealize.ShloMosaic.TcCoe Idealize.SL.Sem
open Cert.AdamStep

/-- An array's rows, the leading axes taken together. -/
abbrev rows (x : S1x1024x1552.Idx → EReal) : S1024x1552.Idx → EReal := shapeCast S1024x1552 x shapeCasts_S1x1024x1552_S1024x1552

theorem origin : (![(0 : ℕ), 0] : Fin 2 → ℕ) = fun _ => 0 := funext fun i => match i with | ⟨0, _⟩ => rfl | ⟨1, _⟩ => rfl

/-! ## One block -/

section Block
variable (w g u v : Vec Ideal S256x1552 .f32) (p : Fin 256) (q : Fin 1552)

theorem block_first : (out0_5 (F := Ideal) w g u v (ix2 p q) : EReal) = first (g (ix2 p q)) (u (ix2 p q)) := by
  simp only [out0_5, first, View.canon_unit_zero (S := S256x1552) origin, View.ld_unit_zero (S := S256x1552) origin]
  pointwise [k0_pay2, k0_pay1]

theorem block_second : (out0_6 (F := Ideal) w g u v (ix2 p q) : EReal) = second (g (ix2 p q)) (v (ix2 p q)) := by
  simp only [out0_6, second, View.canon_unit_zero (S := S256x1552) origin, View.ld_unit_zero (S := S256x1552) origin]
  pointwise [k0_pay3, k0_pay1]

theorem block_change : (out0_4 (F := Ideal) w g u v (ix2 p q) : EReal)
    = change (w (ix2 p q)) (g (ix2 p q)) (u (ix2 p q)) (v (ix2 p q)) := by
  simp only [out0_4, change, first, second, View.canon_unit_zero (S := S256x1552) origin, View.ld_unit_zero (S := S256x1552) origin]
  pointwise [k0_pay4, k0_pay3, k0_pay2, k0_pay1]

end Block

/-! ## The whole arrays -/

section Whole
variable (m : (ℓ : Loc nD τ sig) → Buf (Elt Ideal) ℓ) (c : Dev nD)

/-- The arguments' rows, as the run finds them: weight, gradient and the two moments. -/
abbrev W : S1024x1552.Idx → EReal := rows (m ((c : Thread nD τ).loc main_arg0))
abbrev G : S1024x1552.Idx → EReal := rows (m ((c : Thread nD τ).loc main_arg1))
abbrev M : S1024x1552.Idx → EReal := rows (m ((c : Thread nD τ).loc main_arg2))
abbrev U : S1024x1552.Idx → EReal := rows (m ((c : Thread nD τ).loc main_arg3))

/-- They are what the host prepares. -/
theorem host : V m c main_v0 = W m c ∧ V m c main_v1 = G m c ∧ V m c main_v2 = M m c ∧ V m c main_v3 = U m c := by
  refine ⟨?_, ?_, ?_, ?_⟩ <;> (entry_read; rfl)

/-- Every grid point writes its rows back. -/
theorem index : ∀ t : Fin cfg0.N, win0_4.index t (0 : Fin 2) = t.val ∧ win0_4.index t (1 : Fin 2) = 0 :=
  (by decide +kernel : ∀ t : Fin grid0.N, _)
theorem flush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- The index of the whole array that entry `(p, q)` of a point's block is; every window has the same. -/
abbrev place (t : Fin cfg0.N) (p : Fin 256) (q : Fin 1552) : S1024x1552.Idx := ((cfg0.win 4).blk t).view.emb (ix2 p q)

theorem inputs (t : Fin cfg0.N) (p : Fin 256) (q : Fin 1552) :
    iblk m c 0 t (ix2 p q) = W m c (place t p q) ∧ iblk m c 1 t (ix2 p q) = G m c (place t p q)
      ∧ iblk m c 2 t (ix2 p q) = M m c (place t p q) ∧ iblk m c 3 t (ix2 p q) = U m c (place t p q) := by
  obtain ⟨h0, h1, h2, h3⟩ := host m c
  rw [← h0, ← h1, ← h2, ← h3]
  exact ⟨rfl, rfl, rfl, rfl⟩

theorem covered (i : S1024x1552.Idx) : ∃ (t : Fin cfg0.N) (p : Fin 256) (q : Fin 1552), place t p q = i := by
  have hi : (i 0).val < 1024 := (i 0).isLt
  have hN : (i 0).val / 256 < cfg0.N := lt_of_lt_of_eq (by omega : (i 0).val / 256 < 4) N_0.symm
  refine ⟨⟨(i 0).val / 256, hN⟩, ⟨(i 0).val % 256, Nat.mod_lt _ (by decide)⟩, i 1, ?_⟩
  obtain ⟨e0, e1⟩ := index ⟨(i 0).val / 256, hN⟩
  funext x
  match x with
  | ⟨0, _⟩ =>
    refine Fin.ext ?_
    show win0_4.index _ (0 : Fin 2) * 256 + 1 * ((i 0).val % 256) = (i 0).val
    rw [e0]; show (i 0).val / 256 * 256 + 1 * ((i 0).val % 256) = (i 0).val; omega
  | ⟨1, _⟩ =>
    refine Fin.ext ?_
    show win0_4.index _ (1 : Fin 2) * 1552 + 1 * (i 1).val = (i 1).val
    rw [e1]; omega

/-- The three result arrays after the run, entry by entry. -/
theorem whole (i : S1024x1552.Idx) : (dats m 0 c).arrAt 4 cfg0.N i = change (W m c i) (G m c i) (M m c i) (U m c i)
    ∧ (dats m 0 c).arrAt 5 cfg0.N i = first (G m c i) (M m c i) ∧ (dats m 0 c).arrAt 6 cfg0.N i = second (G m c i) (U m c i) := by
  obtain ⟨t, p, q, rfl⟩ := covered i
  obtain ⟨h0, h1, h2, h3⟩ := inputs m c t p q
  obtain ⟨f4, f5, f6⟩ := flush t
  rw [← h0, ← h1, ← h2, ← h3]
  exact ⟨(congrFun ((blocks4 m c t f4).trans (flushed4 m c t)) (ix2 p q)).trans (block_change _ _ _ _ p q),
    (congrFun ((blocks5 m c t f5).trans (flushed5 m c t)) (ix2 p q)).trans (block_first _ _ _ _ p q),
    (congrFun ((blocks6 m c t f6).trans (flushed6 m c t)) (ix2 p q)).trans (block_second _ _ _ _ p q)⟩

end Whole

/-! ## The reference -/

section Reference
open Cert.Reference27Ideal.Read
variable (w g u v : S1x1024x1552.Idx → EReal)

theorem ref_first (j : S1x1024x1552.Idx) : (val_main_v4 (F := Ideal) g u j : EReal) = first (g j) (u j) := by
  unfold first
  pointwise [val_main_v4, val_main_v3, val_main_v2, val_main_v1, val_main_v0, val_main_cst, val_main_cst_0]

theorem ref_second (j : S1x1024x1552.Idx) : (val_main_v10 (F := Ideal) g v j : EReal) = second (g j) (v j) := by
  unfold second
  pointwise [val_main_v10, val_main_v9, val_main_v8, val_main_v7, val_main_v6, val_main_v5, val_main_cst_1, val_main_cst_2]

theorem ref_change (j : S1x1024x1552.Idx) : (val_main_v23 (F := Ideal) w g u v j : EReal) = change (w j) (g j) (u j) (v j) := by
  unfold change
  rw [← ref_first g u j, ← ref_second g v j]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

end Reference

/-- The claim: from the same arguments the kernel and the reference end with the same three results. -/
theorem algebraic : Cert.algebraic_Kernel27Ideal_Reference27Ideal := by
  intro m g m' g' _ h
  refine ⟨fun c => (dats m 0 c).arrAt 4 cfg0.N, fun c => (dats m 0 c).arrAt 5 cfg0.N, fun c => (dats m 0 c).arrAt 6 cfg0.N,
    run_blocks m g, (θ_run _ _ _).mono (fun r hr c => ?_) (Cert.Reference27Ideal.Value.run m' g')⟩
  obtain ⟨h0, h1, h2, h3⟩ := h c
  obtain ⟨hd, hu, hv, ha⟩ := hr c
  refine ⟨?_, ?_, ?_, ha⟩
  · rw [hd, h0, h1, h2, h3]
    exact funext fun i => (ref_change _ _ _ _ _).trans (whole m c i).1.symm
  · rw [hu, h1, h2]
    exact funext fun i => (ref_first _ _ _).trans (whole m c i).2.1.symm
  · rw [hv, h1, h3]
    exact funext fun i => (ref_second _ _ _).trans (whole m c i).2.2.symm

end Cert.Kernel27Ideal.Adam

end
-- ==== Proof.Adam28.lean ====
module

public import proofs.«01_k».proof.Proof.AdamStep
public import proofs.«01_k».proof.Proof.Gen.Kernel28Ideal.Value
public import proofs.«01_k».proof.Proof.Gen.Reference28Ideal.Read
public import Idealize.ShloMosaic.Lib.Pointwise
public import Idealize.ShloMosaic.Lib.Tactic

/-!
# The optimiser's step of `ssd_w_out` is reference.py's formula

The host lays the weight, its gradient and its two moments out as 512 rows of 1024, and the one grid point takes them all. The reference
applies the formula to the arrays as they are and lays its three results out the same way.
-/

@[expose] public section

set_option maxRecDepth 16384

noncomputable section

namespace Cert.Kernel28Ideal.Adam

open Cert.Kernel28Ideal Cert.Kernel28Ideal.Gen Cert.Kernel28Ideal.Value
open Idealize.ShloMosaic Idealize.ShloMosaic.TcCoe Idealize.SL.Sem
open Cert.AdamStep

/-- An array's rows, the leading axes taken together. -/
abbrev rows (x : S1x512x1024.Idx → EReal) : S512x1024.Idx → EReal := shapeCast S512x1024 x shapeCasts_S1x512x1024_S512x1024

theorem origin : (![(0 : ℕ), 0] : Fin 2 → ℕ) = fun _ => 0 := funext fun i => match i with | ⟨0, _⟩ => rfl | ⟨1, _⟩ => rfl

/-! ## One block -/

section Block
variable (w g u v : Vec Ideal S512x1024 .f32) (p : Fin 512) (q : Fin 1024)

theorem block_first : (out0_5 (F := Ideal) w g u v (ix2 p q) : EReal) = first (g (ix2 p q)) (u (ix2 p q)) := by
  simp only [out0_5, first, View.canon_unit_zero (S := S512x1024) origin, View.ld_unit_zero (S := S512x1024) origin]
  pointwise [k0_pay2, k0_pay1]

theorem block_second : (out0_6 (F := Ideal) w g u v (ix2 p q) : EReal) = second (g (ix2 p q)) (v (ix2 p q)) := by
  simp only [out0_6, second, View.canon_unit_zero (S := S512x1024) origin, View.ld_unit_zero (S := S512x1024) origin]
  pointwise [k0_pay3, k0_pay1]

theorem block_change : (out0_4 (F := Ideal) w g u v (ix2 p q) : EReal)
    = change (w (ix2 p q)) (g (ix2 p q)) (u (ix2 p q)) (v (ix2 p q)) := by
  simp only [out0_4, change, first, second, View.canon_unit_zero (S := S512x1024) origin, View.ld_unit_zero (S := S512x1024) origin]
  pointwise [k0_pay4, k0_pay3, k0_pay2, k0_pay1]

end Block

/-! ## The whole arrays -/

section Whole
variable (m : (ℓ : Loc nD τ sig) → Buf (Elt Ideal) ℓ) (c : Dev nD)

/-- The arguments' rows, as the run finds them: weight, gradient and the two moments. -/
abbrev W : S512x1024.Idx → EReal := rows (m ((c : Thread nD τ).loc main_arg0))
abbrev G : S512x1024.Idx → EReal := rows (m ((c : Thread nD τ).loc main_arg1))
abbrev M : S512x1024.Idx → EReal := rows (m ((c : Thread nD τ).loc main_arg2))
abbrev U : S512x1024.Idx → EReal := rows (m ((c : Thread nD τ).loc main_arg3))

/-- They are what the host prepares. -/
theorem host : V m c main_v0 = W m c ∧ V m c main_v1 = G m c ∧ V m c main_v2 = M m c ∧ V m c main_v3 = U m c := by
  refine ⟨?_, ?_, ?_, ?_⟩ <;> (entry_read; rfl)

/-- Every grid point writes its rows back. -/
theorem index : ∀ t : Fin cfg0.N, win0_4.index t (0 : Fin 2) = t.val ∧ win0_4.index t (1 : Fin 2) = 0 :=
  (by decide +kernel : ∀ t : Fin grid0.N, _)
theorem flush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- The index of the whole array that entry `(p, q)` of a point's block is; every window has the same. -/
abbrev place (t : Fin cfg0.N) (p : Fin 512) (q : Fin 1024) : S512x1024.Idx := ((cfg0.win 4).blk t).view.emb (ix2 p q)

theorem inputs (t : Fin cfg0.N) (p : Fin 512) (q : Fin 1024) :
    iblk m c 0 t (ix2 p q) = W m c (place t p q) ∧ iblk m c 1 t (ix2 p q) = G m c (place t p q)
      ∧ iblk m c 2 t (ix2 p q) = M m c (place t p q) ∧ iblk m c 3 t (ix2 p q) = U m c (place t p q) := by
  obtain ⟨h0, h1, h2, h3⟩ := host m c
  rw [← h0, ← h1, ← h2, ← h3]
  exact ⟨rfl, rfl, rfl, rfl⟩

theorem covered (i : S512x1024.Idx) : ∃ (t : Fin cfg0.N) (p : Fin 512) (q : Fin 1024), place t p q = i := by
  have hi : (i 0).val < 512 := (i 0).isLt
  have hN : (i 0).val / 512 < cfg0.N := lt_of_lt_of_eq (by omega : (i 0).val / 512 < 1) N_0.symm
  refine ⟨⟨(i 0).val / 512, hN⟩, ⟨(i 0).val % 512, Nat.mod_lt _ (by decide)⟩, i 1, ?_⟩
  obtain ⟨e0, e1⟩ := index ⟨(i 0).val / 512, hN⟩
  funext x
  match x with
  | ⟨0, _⟩ =>
    refine Fin.ext ?_
    show win0_4.index _ (0 : Fin 2) * 512 + 1 * ((i 0).val % 512) = (i 0).val
    rw [e0]; show (i 0).val / 512 * 512 + 1 * ((i 0).val % 512) = (i 0).val; omega
  | ⟨1, _⟩ =>
    refine Fin.ext ?_
    show win0_4.index _ (1 : Fin 2) * 1024 + 1 * (i 1).val = (i 1).val
    rw [e1]; omega

/-- The three result arrays after the run, entry by entry. -/
theorem whole (i : S512x1024.Idx) : (dats m 0 c).arrAt 4 cfg0.N i = change (W m c i) (G m c i) (M m c i) (U m c i)
    ∧ (dats m 0 c).arrAt 5 cfg0.N i = first (G m c i) (M m c i) ∧ (dats m 0 c).arrAt 6 cfg0.N i = second (G m c i) (U m c i) := by
  obtain ⟨t, p, q, rfl⟩ := covered i
  obtain ⟨h0, h1, h2, h3⟩ := inputs m c t p q
  obtain ⟨f4, f5, f6⟩ := flush t
  rw [← h0, ← h1, ← h2, ← h3]
  exact ⟨(congrFun ((blocks4 m c t f4).trans (flushed4 m c t)) (ix2 p q)).trans (block_change _ _ _ _ p q),
    (congrFun ((blocks5 m c t f5).trans (flushed5 m c t)) (ix2 p q)).trans (block_first _ _ _ _ p q),
    (congrFun ((blocks6 m c t f6).trans (flushed6 m c t)) (ix2 p q)).trans (block_second _ _ _ _ p q)⟩

end Whole

/-! ## The reference -/

section Reference
open Cert.Reference28Ideal.Read
variable (w g u v : S1x512x1024.Idx → EReal)

theorem ref_first (j : S1x512x1024.Idx) : (val_main_v4 (F := Ideal) g u j : EReal) = first (g j) (u j) := by
  unfold first
  pointwise [val_main_v4, val_main_v3, val_main_v2, val_main_v1, val_main_v0, val_main_cst, val_main_cst_0]

theorem ref_second (j : S1x512x1024.Idx) : (val_main_v10 (F := Ideal) g v j : EReal) = second (g j) (v j) := by
  unfold second
  pointwise [val_main_v10, val_main_v9, val_main_v8, val_main_v7, val_main_v6, val_main_v5, val_main_cst_1, val_main_cst_2]

theorem ref_change (j : S1x512x1024.Idx) : (val_main_v23 (F := Ideal) w g u v j : EReal) = change (w j) (g j) (u j) (v j) := by
  unfold change
  rw [← ref_first g u j, ← ref_second g v j]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

end Reference

/-- The claim: from the same arguments the kernel and the reference end with the same three results. -/
theorem algebraic : Cert.algebraic_Kernel28Ideal_Reference28Ideal := by
  intro m g m' g' _ h
  refine ⟨fun c => (dats m 0 c).arrAt 4 cfg0.N, fun c => (dats m 0 c).arrAt 5 cfg0.N, fun c => (dats m 0 c).arrAt 6 cfg0.N,
    run_blocks m g, (θ_run _ _ _).mono (fun r hr c => ?_) (Cert.Reference28Ideal.Value.run m' g')⟩
  obtain ⟨h0, h1, h2, h3⟩ := h c
  obtain ⟨hd, hu, hv, ha⟩ := hr c
  refine ⟨?_, ?_, ?_, ha⟩
  · rw [hd, h0, h1, h2, h3]
    exact funext fun i => (ref_change _ _ _ _ _).trans (whole m c i).1.symm
  · rw [hu, h1, h2]
    exact funext fun i => (ref_first _ _ _).trans (whole m c i).2.1.symm
  · rw [hv, h1, h3]
    exact funext fun i => (ref_second _ _ _).trans (whole m c i).2.2.symm

end Cert.Kernel28Ideal.Adam

end
-- ==== Proof.Adam29.lean ====
module

public import proofs.«01_k».proof.Proof.AdamStep
public import proofs.«01_k».proof.Proof.Gen.Kernel29Ideal.Value
public import proofs.«01_k».proof.Proof.Gen.Reference29Ideal.Read
public import Idealize.ShloMosaic.Lib.Pointwise
public import Idealize.ShloMosaic.Lib.Tactic

/-!
# The optimiser's step of `conf_w_pw1` is reference.py's formula

The host lays the weight, its gradient and its two moments out as 1024 rows of 512, and the one grid point takes them all. The reference
applies the formula to the arrays as they are and lays its three results out the same way.
-/

@[expose] public section

set_option maxRecDepth 16384

noncomputable section

namespace Cert.Kernel29Ideal.Adam

open Cert.Kernel29Ideal Cert.Kernel29Ideal.Gen Cert.Kernel29Ideal.Value
open Idealize.ShloMosaic Idealize.ShloMosaic.TcCoe Idealize.SL.Sem
open Cert.AdamStep

/-- An array's rows, the leading axes taken together. -/
abbrev rows (x : S1x1024x512.Idx → EReal) : S1024x512.Idx → EReal := shapeCast S1024x512 x shapeCasts_S1x1024x512_S1024x512

theorem origin : (![(0 : ℕ), 0] : Fin 2 → ℕ) = fun _ => 0 := funext fun i => match i with | ⟨0, _⟩ => rfl | ⟨1, _⟩ => rfl

/-! ## One block -/

section Block
variable (w g u v : Vec Ideal S1024x512 .f32) (p : Fin 1024) (q : Fin 512)

theorem block_first : (out0_5 (F := Ideal) w g u v (ix2 p q) : EReal) = first (g (ix2 p q)) (u (ix2 p q)) := by
  simp only [out0_5, first, View.canon_unit_zero (S := S1024x512) origin, View.ld_unit_zero (S := S1024x512) origin]
  pointwise [k0_pay2, k0_pay1]

theorem block_second : (out0_6 (F := Ideal) w g u v (ix2 p q) : EReal) = second (g (ix2 p q)) (v (ix2 p q)) := by
  simp only [out0_6, second, View.canon_unit_zero (S := S1024x512) origin, View.ld_unit_zero (S := S1024x512) origin]
  pointwise [k0_pay3, k0_pay1]

theorem block_change : (out0_4 (F := Ideal) w g u v (ix2 p q) : EReal)
    = change (w (ix2 p q)) (g (ix2 p q)) (u (ix2 p q)) (v (ix2 p q)) := by
  simp only [out0_4, change, first, second, View.canon_unit_zero (S := S1024x512) origin, View.ld_unit_zero (S := S1024x512) origin]
  pointwise [k0_pay4, k0_pay3, k0_pay2, k0_pay1]

end Block

/-! ## The whole arrays -/

section Whole
variable (m : (ℓ : Loc nD τ sig) → Buf (Elt Ideal) ℓ) (c : Dev nD)

/-- The arguments' rows, as the run finds them: weight, gradient and the two moments. -/
abbrev W : S1024x512.Idx → EReal := rows (m ((c : Thread nD τ).loc main_arg0))
abbrev G : S1024x512.Idx → EReal := rows (m ((c : Thread nD τ).loc main_arg1))
abbrev M : S1024x512.Idx → EReal := rows (m ((c : Thread nD τ).loc main_arg2))
abbrev U : S1024x512.Idx → EReal := rows (m ((c : Thread nD τ).loc main_arg3))

/-- They are what the host prepares. -/
theorem host : V m c main_v0 = W m c ∧ V m c main_v1 = G m c ∧ V m c main_v2 = M m c ∧ V m c main_v3 = U m c := by
  refine ⟨?_, ?_, ?_, ?_⟩ <;> (entry_read; rfl)

/-- Every grid point writes its rows back. -/
theorem index : ∀ t : Fin cfg0.N, win0_4.index t (0 : Fin 2) = t.val ∧ win0_4.index t (1 : Fin 2) = 0 :=
  (by decide +kernel : ∀ t : Fin grid0.N, _)
theorem flush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- The index of the whole array that entry `(p, q)` of a point's block is; every window has the same. -/
abbrev place (t : Fin cfg0.N) (p : Fin 1024) (q : Fin 512) : S1024x512.Idx := ((cfg0.win 4).blk t).view.emb (ix2 p q)

theorem inputs (t : Fin cfg0.N) (p : Fin 1024) (q : Fin 512) :
    iblk m c 0 t (ix2 p q) = W m c (place t p q) ∧ iblk m c 1 t (ix2 p q) = G m c (place t p q)
      ∧ iblk m c 2 t (ix2 p q) = M m c (place t p q) ∧ iblk m c 3 t (ix2 p q) = U m c (place t p q) := by
  obtain ⟨h0, h1, h2, h3⟩ := host m c
  rw [← h0, ← h1, ← h2, ← h3]
  exact ⟨rfl, rfl, rfl, rfl⟩

theorem covered (i : S1024x512.Idx) : ∃ (t : Fin cfg0.N) (p : Fin 1024) (q : Fin 512), place t p q = i := by
  have hi : (i 0).val < 1024 := (i 0).isLt
  have hN : (i 0).val / 1024 < cfg0.N := lt_of_lt_of_eq (by omega : (i 0).val / 1024 < 1) N_0.symm
  refine ⟨⟨(i 0).val / 1024, hN⟩, ⟨(i 0).val % 1024, Nat.mod_lt _ (by decide)⟩, i 1, ?_⟩
  obtain ⟨e0, e1⟩ := index ⟨(i 0).val / 1024, hN⟩
  funext x
  match x with
  | ⟨0, _⟩ =>
    refine Fin.ext ?_
    show win0_4.index _ (0 : Fin 2) * 1024 + 1 * ((i 0).val % 1024) = (i 0).val
    rw [e0]; show (i 0).val / 1024 * 1024 + 1 * ((i 0).val % 1024) = (i 0).val; omega
  | ⟨1, _⟩ =>
    refine Fin.ext ?_
    show win0_4.index _ (1 : Fin 2) * 512 + 1 * (i 1).val = (i 1).val
    rw [e1]; omega

/-- The three result arrays after the run, entry by entry. -/
theorem whole (i : S1024x512.Idx) : (dats m 0 c).arrAt 4 cfg0.N i = change (W m c i) (G m c i) (M m c i) (U m c i)
    ∧ (dats m 0 c).arrAt 5 cfg0.N i = first (G m c i) (M m c i) ∧ (dats m 0 c).arrAt 6 cfg0.N i = second (G m c i) (U m c i) := by
  obtain ⟨t, p, q, rfl⟩ := covered i
  obtain ⟨h0, h1, h2, h3⟩ := inputs m c t p q
  obtain ⟨f4, f5, f6⟩ := flush t
  rw [← h0, ← h1, ← h2, ← h3]
  exact ⟨(congrFun ((blocks4 m c t f4).trans (flushed4 m c t)) (ix2 p q)).trans (block_change _ _ _ _ p q),
    (congrFun ((blocks5 m c t f5).trans (flushed5 m c t)) (ix2 p q)).trans (block_first _ _ _ _ p q),
    (congrFun ((blocks6 m c t f6).trans (flushed6 m c t)) (ix2 p q)).trans (block_second _ _ _ _ p q)⟩

end Whole

/-! ## The reference -/

section Reference
open Cert.Reference29Ideal.Read
variable (w g u v : S1x1024x512.Idx → EReal)

theorem ref_first (j : S1x1024x512.Idx) : (val_main_v4 (F := Ideal) g u j : EReal) = first (g j) (u j) := by
  unfold first
  pointwise [val_main_v4, val_main_v3, val_main_v2, val_main_v1, val_main_v0, val_main_cst, val_main_cst_0]

theorem ref_second (j : S1x1024x512.Idx) : (val_main_v10 (F := Ideal) g v j : EReal) = second (g j) (v j) := by
  unfold second
  pointwise [val_main_v10, val_main_v9, val_main_v8, val_main_v7, val_main_v6, val_main_v5, val_main_cst_1, val_main_cst_2]

theorem ref_change (j : S1x1024x512.Idx) : (val_main_v23 (F := Ideal) w g u v j : EReal) = change (w j) (g j) (u j) (v j) := by
  unfold change
  rw [← ref_first g u j, ← ref_second g v j]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

end Reference

/-- The claim: from the same arguments the kernel and the reference end with the same three results. -/
theorem algebraic : Cert.algebraic_Kernel29Ideal_Reference29Ideal := by
  intro m g m' g' _ h
  refine ⟨fun c => (dats m 0 c).arrAt 4 cfg0.N, fun c => (dats m 0 c).arrAt 5 cfg0.N, fun c => (dats m 0 c).arrAt 6 cfg0.N,
    run_blocks m g, (θ_run _ _ _).mono (fun r hr c => ?_) (Cert.Reference29Ideal.Value.run m' g')⟩
  obtain ⟨h0, h1, h2, h3⟩ := h c
  obtain ⟨hd, hu, hv, ha⟩ := hr c
  refine ⟨?_, ?_, ?_, ha⟩
  · rw [hd, h0, h1, h2, h3]
    exact funext fun i => (ref_change _ _ _ _ _).trans (whole m c i).1.symm
  · rw [hu, h1, h2]
    exact funext fun i => (ref_first _ _ _).trans (whole m c i).2.1.symm
  · rw [hv, h1, h3]
    exact funext fun i => (ref_second _ _ _).trans (whole m c i).2.2.symm

end Cert.Kernel29Ideal.Adam

end
-- ==== Proof.Adam30.lean ====
module

public import proofs.«01_k».proof.Proof.AdamStep
public import proofs.«01_k».proof.Proof.Gen.Kernel30Ideal.Value
public import proofs.«01_k».proof.Proof.Gen.Reference30Ideal.Read
public import Idealize.ShloMosaic.Lib.Pointwise
public import Idealize.ShloMosaic.Lib.Tactic

/-!
# The optimiser's step of `conf_w_pw2` is reference.py's formula

The host lays the weight, its gradient and its two moments out as 256 rows of 1024, and the one grid point takes them all. The reference
applies the formula to the arrays as they are and lays its three results out the same way.
-/

@[expose] public section

set_option maxRecDepth 16384

noncomputable section

namespace Cert.Kernel30Ideal.Adam

open Cert.Kernel30Ideal Cert.Kernel30Ideal.Gen Cert.Kernel30Ideal.Value
open Idealize.ShloMosaic Idealize.ShloMosaic.TcCoe Idealize.SL.Sem
open Cert.AdamStep

/-- An array's rows, the leading axes taken together. -/
abbrev rows (x : S1x256x1024.Idx → EReal) : S256x1024.Idx → EReal := shapeCast S256x1024 x shapeCasts_S1x256x1024_S256x1024

theorem origin : (![(0 : ℕ), 0] : Fin 2 → ℕ) = fun _ => 0 := funext fun i => match i with | ⟨0, _⟩ => rfl | ⟨1, _⟩ => rfl

/-! ## One block -/

section Block
variable (w g u v : Vec Ideal S256x1024 .f32) (p : Fin 256) (q : Fin 1024)

theorem block_first : (out0_5 (F := Ideal) w g u v (ix2 p q) : EReal) = first (g (ix2 p q)) (u (ix2 p q)) := by
  simp only [out0_5, first, View.canon_unit_zero (S := S256x1024) origin, View.ld_unit_zero (S := S256x1024) origin]
  pointwise [k0_pay2, k0_pay1]

theorem block_second : (out0_6 (F := Ideal) w g u v (ix2 p q) : EReal) = second (g (ix2 p q)) (v (ix2 p q)) := by
  simp only [out0_6, second, View.canon_unit_zero (S := S256x1024) origin, View.ld_unit_zero (S := S256x1024) origin]
  pointwise [k0_pay3, k0_pay1]

theorem block_change : (out0_4 (F := Ideal) w g u v (ix2 p q) : EReal)
    = change (w (ix2 p q)) (g (ix2 p q)) (u (ix2 p q)) (v (ix2 p q)) := by
  simp only [out0_4, change, first, second, View.canon_unit_zero (S := S256x1024) origin, View.ld_unit_zero (S := S256x1024) origin]
  pointwise [k0_pay4, k0_pay3, k0_pay2, k0_pay1]

end Block

/-! ## The whole arrays -/

section Whole
variable (m : (ℓ : Loc nD τ sig) → Buf (Elt Ideal) ℓ) (c : Dev nD)

/-- The arguments' rows, as the run finds them: weight, gradient and the two moments. -/
abbrev W : S256x1024.Idx → EReal := rows (m ((c : Thread nD τ).loc main_arg0))
abbrev G : S256x1024.Idx → EReal := rows (m ((c : Thread nD τ).loc main_arg1))
abbrev M : S256x1024.Idx → EReal := rows (m ((c : Thread nD τ).loc main_arg2))
abbrev U : S256x1024.Idx → EReal := rows (m ((c : Thread nD τ).loc main_arg3))

/-- They are what the host prepares. -/
theorem host : V m c main_v0 = W m c ∧ V m c main_v1 = G m c ∧ V m c main_v2 = M m c ∧ V m c main_v3 = U m c := by
  refine ⟨?_, ?_, ?_, ?_⟩ <;> (entry_read; rfl)

/-- Every grid point writes its rows back. -/
theorem index : ∀ t : Fin cfg0.N, win0_4.index t (0 : Fin 2) = t.val ∧ win0_4.index t (1 : Fin 2) = 0 :=
  (by decide +kernel : ∀ t : Fin grid0.N, _)
theorem flush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- The index of the whole array that entry `(p, q)` of a point's block is; every window has the same. -/
abbrev place (t : Fin cfg0.N) (p : Fin 256) (q : Fin 1024) : S256x1024.Idx := ((cfg0.win 4).blk t).view.emb (ix2 p q)

theorem inputs (t : Fin cfg0.N) (p : Fin 256) (q : Fin 1024) :
    iblk m c 0 t (ix2 p q) = W m c (place t p q) ∧ iblk m c 1 t (ix2 p q) = G m c (place t p q)
      ∧ iblk m c 2 t (ix2 p q) = M m c (place t p q) ∧ iblk m c 3 t (ix2 p q) = U m c (place t p q) := by
  obtain ⟨h0, h1, h2, h3⟩ := host m c
  rw [← h0, ← h1, ← h2, ← h3]
  exact ⟨rfl, rfl, rfl, rfl⟩

theorem covered (i : S256x1024.Idx) : ∃ (t : Fin cfg0.N) (p : Fin 256) (q : Fin 1024), place t p q = i := by
  have hi : (i 0).val < 256 := (i 0).isLt
  have hN : (i 0).val / 256 < cfg0.N := lt_of_lt_of_eq (by omega : (i 0).val / 256 < 1) N_0.symm
  refine ⟨⟨(i 0).val / 256, hN⟩, ⟨(i 0).val % 256, Nat.mod_lt _ (by decide)⟩, i 1, ?_⟩
  obtain ⟨e0, e1⟩ := index ⟨(i 0).val / 256, hN⟩
  funext x
  match x with
  | ⟨0, _⟩ =>
    refine Fin.ext ?_
    show win0_4.index _ (0 : Fin 2) * 256 + 1 * ((i 0).val % 256) = (i 0).val
    rw [e0]; show (i 0).val / 256 * 256 + 1 * ((i 0).val % 256) = (i 0).val; omega
  | ⟨1, _⟩ =>
    refine Fin.ext ?_
    show win0_4.index _ (1 : Fin 2) * 1024 + 1 * (i 1).val = (i 1).val
    rw [e1]; omega

/-- The three result arrays after the run, entry by entry. -/
theorem whole (i : S256x1024.Idx) : (dats m 0 c).arrAt 4 cfg0.N i = change (W m c i) (G m c i) (M m c i) (U m c i)
    ∧ (dats m 0 c).arrAt 5 cfg0.N i = first (G m c i) (M m c i) ∧ (dats m 0 c).arrAt 6 cfg0.N i = second (G m c i) (U m c i) := by
  obtain ⟨t, p, q, rfl⟩ := covered i
  obtain ⟨h0, h1, h2, h3⟩ := inputs m c t p q
  obtain ⟨f4, f5, f6⟩ := flush t
  rw [← h0, ← h1, ← h2, ← h3]
  exact ⟨(congrFun ((blocks4 m c t f4).trans (flushed4 m c t)) (ix2 p q)).trans (block_change _ _ _ _ p q),
    (congrFun ((blocks5 m c t f5).trans (flushed5 m c t)) (ix2 p q)).trans (block_first _ _ _ _ p q),
    (congrFun ((blocks6 m c t f6).trans (flushed6 m c t)) (ix2 p q)).trans (block_second _ _ _ _ p q)⟩

end Whole

/-! ## The reference -/

section Reference
open Cert.Reference30Ideal.Read
variable (w g u v : S1x256x1024.Idx → EReal)

theorem ref_first (j : S1x256x1024.Idx) : (val_main_v4 (F := Ideal) g u j : EReal) = first (g j) (u j) := by
  unfold first
  pointwise [val_main_v4, val_main_v3, val_main_v2, val_main_v1, val_main_v0, val_main_cst, val_main_cst_0]

theorem ref_second (j : S1x256x1024.Idx) : (val_main_v10 (F := Ideal) g v j : EReal) = second (g j) (v j) := by
  unfold second
  pointwise [val_main_v10, val_main_v9, val_main_v8, val_main_v7, val_main_v6, val_main_v5, val_main_cst_1, val_main_cst_2]

theorem ref_change (j : S1x256x1024.Idx) : (val_main_v23 (F := Ideal) w g u v j : EReal) = change (w j) (g j) (u j) (v j) := by
  unfold change
  rw [← ref_first g u j, ← ref_second g v j]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

end Reference

/-- The claim: from the same arguments the kernel and the reference end with the same three results. -/
theorem algebraic : Cert.algebraic_Kernel30Ideal_Reference30Ideal := by
  intro m g m' g' _ h
  refine ⟨fun c => (dats m 0 c).arrAt 4 cfg0.N, fun c => (dats m 0 c).arrAt 5 cfg0.N, fun c => (dats m 0 c).arrAt 6 cfg0.N,
    run_blocks m g, (θ_run _ _ _).mono (fun r hr c => ?_) (Cert.Reference30Ideal.Value.run m' g')⟩
  obtain ⟨h0, h1, h2, h3⟩ := h c
  obtain ⟨hd, hu, hv, ha⟩ := hr c
  refine ⟨?_, ?_, ?_, ha⟩
  · rw [hd, h0, h1, h2, h3]
    exact funext fun i => (ref_change _ _ _ _ _).trans (whole m c i).1.symm
  · rw [hu, h1, h2]
    exact funext fun i => (ref_first _ _ _).trans (whole m c i).2.1.symm
  · rw [hv, h1, h3]
    exact funext fun i => (ref_second _ _ _).trans (whole m c i).2.2.symm

end Cert.Kernel30Ideal.Adam

end
-- ==== Proof.Adam31.lean ====
module

public import proofs.«01_k».proof.Proof.AdamStep
public import proofs.«01_k».proof.Proof.Gen.Kernel31Ideal.Value
public import proofs.«01_k».proof.Proof.Gen.Reference31Ideal.Read
public import Idealize.ShloMosaic.Lib.Pointwise
public import Idealize.ShloMosaic.Lib.Tactic

/-!
# The optimiser's step of `ffn_w_in` is reference.py's formula

The host lays the weight, its gradient and its two moments out as 2048 rows of 1408, and each of the 8 grid points takes 256 of them. The reference
applies the formula to the arrays as they are and lays its three results out the same way.
-/

@[expose] public section

set_option maxRecDepth 16384

noncomputable section

namespace Cert.Kernel31Ideal.Adam

open Cert.Kernel31Ideal Cert.Kernel31Ideal.Gen Cert.Kernel31Ideal.Value
open Idealize.ShloMosaic Idealize.ShloMosaic.TcCoe Idealize.SL.Sem
open Cert.AdamStep

/-- An array's rows, the leading axes taken together. -/
abbrev rows (x : S2x1024x1408.Idx → EReal) : S2048x1408.Idx → EReal := shapeCast S2048x1408 x shapeCasts_S2x1024x1408_S2048x1408

theorem origin : (![(0 : ℕ), 0] : Fin 2 → ℕ) = fun _ => 0 := funext fun i => match i with | ⟨0, _⟩ => rfl | ⟨1, _⟩ => rfl

/-! ## One block -/

section Block
variable (w g u v : Vec Ideal S256x1408 .f32) (p : Fin 256) (q : Fin 1408)

theorem block_first : (out0_5 (F := Ideal) w g u v (ix2 p q) : EReal) = first (g (ix2 p q)) (u (ix2 p q)) := by
  simp only [out0_5, first, View.canon_unit_zero (S := S256x1408) origin, View.ld_unit_zero (S := S256x1408) origin]
  pointwise [k0_pay2, k0_pay1]

theorem block_second : (out0_6 (F := Ideal) w g u v (ix2 p q) : EReal) = second (g (ix2 p q)) (v (ix2 p q)) := by
  simp only [out0_6, second, View.canon_unit_zero (S := S256x1408) origin, View.ld_unit_zero (S := S256x1408) origin]
  pointwise [k0_pay3, k0_pay1]

theorem block_change : (out0_4 (F := Ideal) w g u v (ix2 p q) : EReal)
    = change (w (ix2 p q)) (g (ix2 p q)) (u (ix2 p q)) (v (ix2 p q)) := by
  simp only [out0_4, change, first, second, View.canon_unit_zero (S := S256x1408) origin, View.ld_unit_zero (S := S256x1408) origin]
  pointwise [k0_pay4, k0_pay3, k0_pay2, k0_pay1]

end Block

/-! ## The whole arrays -/

section Whole
variable (m : (ℓ : Loc nD τ sig) → Buf (Elt Ideal) ℓ) (c : Dev nD)

/-- The arguments' rows, as the run finds them: weight, gradient and the two moments. -/
abbrev W : S2048x1408.Idx → EReal := rows (m ((c : Thread nD τ).loc main_arg0))
abbrev G : S2048x1408.Idx → EReal := rows (m ((c : Thread nD τ).loc main_arg1))
abbrev M : S2048x1408.Idx → EReal := rows (m ((c : Thread nD τ).loc main_arg2))
abbrev U : S2048x1408.Idx → EReal := rows (m ((c : Thread nD τ).loc main_arg3))

/-- They are what the host prepares. -/
theorem host : V m c main_v0 = W m c ∧ V m c main_v1 = G m c ∧ V m c main_v2 = M m c ∧ V m c main_v3 = U m c := by
  refine ⟨?_, ?_, ?_, ?_⟩ <;> (entry_read; rfl)

/-- Every grid point writes its rows back. -/
theorem index : ∀ t : Fin cfg0.N, win0_4.index t (0 : Fin 2) = t.val ∧ win0_4.index t (1 : Fin 2) = 0 :=
  (by decide +kernel : ∀ t : Fin grid0.N, _)
theorem flush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- The index of the whole array that entry `(p, q)` of a point's block is; every window has the same. -/
abbrev place (t : Fin cfg0.N) (p : Fin 256) (q : Fin 1408) : S2048x1408.Idx := ((cfg0.win 4).blk t).view.emb (ix2 p q)

theorem inputs (t : Fin cfg0.N) (p : Fin 256) (q : Fin 1408) :
    iblk m c 0 t (ix2 p q) = W m c (place t p q) ∧ iblk m c 1 t (ix2 p q) = G m c (place t p q)
      ∧ iblk m c 2 t (ix2 p q) = M m c (place t p q) ∧ iblk m c 3 t (ix2 p q) = U m c (place t p q) := by
  obtain ⟨h0, h1, h2, h3⟩ := host m c
  rw [← h0, ← h1, ← h2, ← h3]
  exact ⟨rfl, rfl, rfl, rfl⟩

theorem covered (i : S2048x1408.Idx) : ∃ (t : Fin cfg0.N) (p : Fin 256) (q : Fin 1408), place t p q = i := by
  have hi : (i 0).val < 2048 := (i 0).isLt
  have hN : (i 0).val / 256 < cfg0.N := lt_of_lt_of_eq (by omega : (i 0).val / 256 < 8) N_0.symm
  refine ⟨⟨(i 0).val / 256, hN⟩, ⟨(i 0).val % 256, Nat.mod_lt _ (by decide)⟩, i 1, ?_⟩
  obtain ⟨e0, e1⟩ := index ⟨(i 0).val / 256, hN⟩
  funext x
  match x with
  | ⟨0, _⟩ =>
    refine Fin.ext ?_
    show win0_4.index _ (0 : Fin 2) * 256 + 1 * ((i 0).val % 256) = (i 0).val
    rw [e0]; show (i 0).val / 256 * 256 + 1 * ((i 0).val % 256) = (i 0).val; omega
  | ⟨1, _⟩ =>
    refine Fin.ext ?_
    show win0_4.index _ (1 : Fin 2) * 1408 + 1 * (i 1).val = (i 1).val
    rw [e1]; omega

/-- The three result arrays after the run, entry by entry. -/
theorem whole (i : S2048x1408.Idx) : (dats m 0 c).arrAt 4 cfg0.N i = change (W m c i) (G m c i) (M m c i) (U m c i)
    ∧ (dats m 0 c).arrAt 5 cfg0.N i = first (G m c i) (M m c i) ∧ (dats m 0 c).arrAt 6 cfg0.N i = second (G m c i) (U m c i) := by
  obtain ⟨t, p, q, rfl⟩ := covered i
  obtain ⟨h0, h1, h2, h3⟩ := inputs m c t p q
  obtain ⟨f4, f5, f6⟩ := flush t
  rw [← h0, ← h1, ← h2, ← h3]
  exact ⟨(congrFun ((blocks4 m c t f4).trans (flushed4 m c t)) (ix2 p q)).trans (block_change _ _ _ _ p q),
    (congrFun ((blocks5 m c t f5).trans (flushed5 m c t)) (ix2 p q)).trans (block_first _ _ _ _ p q),
    (congrFun ((blocks6 m c t f6).trans (flushed6 m c t)) (ix2 p q)).trans (block_second _ _ _ _ p q)⟩

end Whole

/-! ## The reference -/

section Reference
open Cert.Reference31Ideal.Read
variable (w g u v : S2x1024x1408.Idx → EReal)

theorem ref_first (j : S2x1024x1408.Idx) : (val_main_v4 (F := Ideal) g u j : EReal) = first (g j) (u j) := by
  unfold first
  pointwise [val_main_v4, val_main_v3, val_main_v2, val_main_v1, val_main_v0, val_main_cst, val_main_cst_0]

theorem ref_second (j : S2x1024x1408.Idx) : (val_main_v10 (F := Ideal) g v j : EReal) = second (g j) (v j) := by
  unfold second
  pointwise [val_main_v10, val_main_v9, val_main_v8, val_main_v7, val_main_v6, val_main_v5, val_main_cst_1, val_main_cst_2]

theorem ref_change (j : S2x1024x1408.Idx) : (val_main_v23 (F := Ideal) w g u v j : EReal) = change (w j) (g j) (u j) (v j) := by
  unfold change
  rw [← ref_first g u j, ← ref_second g v j]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

end Reference

/-- The claim: from the same arguments the kernel and the reference end with the same three results. -/
theorem algebraic : Cert.algebraic_Kernel31Ideal_Reference31Ideal := by
  intro m g m' g' _ h
  refine ⟨fun c => (dats m 0 c).arrAt 4 cfg0.N, fun c => (dats m 0 c).arrAt 5 cfg0.N, fun c => (dats m 0 c).arrAt 6 cfg0.N,
    run_blocks m g, (θ_run _ _ _).mono (fun r hr c => ?_) (Cert.Reference31Ideal.Value.run m' g')⟩
  obtain ⟨h0, h1, h2, h3⟩ := h c
  obtain ⟨hd, hu, hv, ha⟩ := hr c
  refine ⟨?_, ?_, ?_, ha⟩
  · rw [hd, h0, h1, h2, h3]
    exact funext fun i => (ref_change _ _ _ _ _).trans (whole m c i).1.symm
  · rw [hu, h1, h2]
    exact funext fun i => (ref_first _ _ _).trans (whole m c i).2.1.symm
  · rw [hv, h1, h3]
    exact funext fun i => (ref_second _ _ _).trans (whole m c i).2.2.symm

end Cert.Kernel31Ideal.Adam

end
-- ==== Proof.Adam32.lean ====
module

public import proofs.«01_k».proof.Proof.AdamStep
public import proofs.«01_k».proof.Proof.Gen.Kernel32Ideal.Value
public import proofs.«01_k».proof.Proof.Gen.Reference32Ideal.Read
public import Idealize.ShloMosaic.Lib.Pointwise
public import Idealize.ShloMosaic.Lib.Tactic

/-!
# The optimiser's step of `ffn_w_out` is reference.py's formula

The host lays the weight, its gradient and its two moments out as 1408 rows of 1024, and each of the 4 grid points takes 352 of them. The reference
applies the formula to the arrays as they are and lays its three results out the same way.
-/

@[expose] public section

set_option maxRecDepth 16384

noncomputable section

namespace Cert.Kernel32Ideal.Adam

open Cert.Kernel32Ideal Cert.Kernel32Ideal.Gen Cert.Kernel32Ideal.Value
open Idealize.ShloMosaic Idealize.ShloMosaic.TcCoe Idealize.SL.Sem
open Cert.AdamStep

/-- An array's rows, the leading axes taken together. -/
abbrev rows (x : S2x704x1024.Idx → EReal) : S1408x1024.Idx → EReal := shapeCast S1408x1024 x shapeCasts_S2x704x1024_S1408x1024

theorem origin : (![(0 : ℕ), 0] : Fin 2 → ℕ) = fun _ => 0 := funext fun i => match i with | ⟨0, _⟩ => rfl | ⟨1, _⟩ => rfl

/-! ## One block -/

section Block
variable (w g u v : Vec Ideal S352x1024 .f32) (p : Fin 352) (q : Fin 1024)

theorem block_first : (out0_5 (F := Ideal) w g u v (ix2 p q) : EReal) = first (g (ix2 p q)) (u (ix2 p q)) := by
  simp only [out0_5, first, View.canon_unit_zero (S := S352x1024) origin, View.ld_unit_zero (S := S352x1024) origin]
  pointwise [k0_pay2, k0_pay1]

theorem block_second : (out0_6 (F := Ideal) w g u v (ix2 p q) : EReal) = second (g (ix2 p q)) (v (ix2 p q)) := by
  simp only [out0_6, second, View.canon_unit_zero (S := S352x1024) origin, View.ld_unit_zero (S := S352x1024) origin]
  pointwise [k0_pay3, k0_pay1]

theorem block_change : (out0_4 (F := Ideal) w g u v (ix2 p q) : EReal)
    = change (w (ix2 p q)) (g (ix2 p q)) (u (ix2 p q)) (v (ix2 p q)) := by
  simp only [out0_4, change, first, second, View.canon_unit_zero (S := S352x1024) origin, View.ld_unit_zero (S := S352x1024) origin]
  pointwise [k0_pay4, k0_pay3, k0_pay2, k0_pay1]

end Block

/-! ## The whole arrays -/

section Whole
variable (m : (ℓ : Loc nD τ sig) → Buf (Elt Ideal) ℓ) (c : Dev nD)

/-- The arguments' rows, as the run finds them: weight, gradient and the two moments. -/
abbrev W : S1408x1024.Idx → EReal := rows (m ((c : Thread nD τ).loc main_arg0))
abbrev G : S1408x1024.Idx → EReal := rows (m ((c : Thread nD τ).loc main_arg1))
abbrev M : S1408x1024.Idx → EReal := rows (m ((c : Thread nD τ).loc main_arg2))
abbrev U : S1408x1024.Idx → EReal := rows (m ((c : Thread nD τ).loc main_arg3))

/-- They are what the host prepares. -/
theorem host : V m c main_v0 = W m c ∧ V m c main_v1 = G m c ∧ V m c main_v2 = M m c ∧ V m c main_v3 = U m c := by
  refine ⟨?_, ?_, ?_, ?_⟩ <;> (entry_read; rfl)

/-- Every grid point writes its rows back. -/
theorem index : ∀ t : Fin cfg0.N, win0_4.index t (0 : Fin 2) = t.val ∧ win0_4.index t (1 : Fin 2) = 0 :=
  (by decide +kernel : ∀ t : Fin grid0.N, _)
theorem flush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- The index of the whole array that entry `(p, q)` of a point's block is; every window has the same. -/
abbrev place (t : Fin cfg0.N) (p : Fin 352) (q : Fin 1024) : S1408x1024.Idx := ((cfg0.win 4).blk t).view.emb (ix2 p q)

theorem inputs (t : Fin cfg0.N) (p : Fin 352) (q : Fin 1024) :
    iblk m c 0 t (ix2 p q) = W m c (place t p q) ∧ iblk m c 1 t (ix2 p q) = G m c (place t p q)
      ∧ iblk m c 2 t (ix2 p q) = M m c (place t p q) ∧ iblk m c 3 t (ix2 p q) = U m c (place t p q) := by
  obtain ⟨h0, h1, h2, h3⟩ := host m c
  rw [← h0, ← h1, ← h2, ← h3]
  exact ⟨rfl, rfl, rfl, rfl⟩

theorem covered (i : S1408x1024.Idx) : ∃ (t : Fin cfg0.N) (p : Fin 352) (q : Fin 1024), place t p q = i := by
  have hi : (i 0).val < 1408 := (i 0).isLt
  have hN : (i 0).val / 352 < cfg0.N := lt_of_lt_of_eq (by omega : (i 0).val / 352 < 4) N_0.symm
  refine ⟨⟨(i 0).val / 352, hN⟩, ⟨(i 0).val % 352, Nat.mod_lt _ (by decide)⟩, i 1, ?_⟩
  obtain ⟨e0, e1⟩ := index ⟨(i 0).val / 352, hN⟩
  funext x
  match x with
  | ⟨0, _⟩ =>
    refine Fin.ext ?_
    show win0_4.index _ (0 : Fin 2) * 352 + 1 * ((i 0).val % 352) = (i 0).val
    rw [e0]; show (i 0).val / 352 * 352 + 1 * ((i 0).val % 352) = (i 0).val; omega
  | ⟨1, _⟩ =>
    refine Fin.ext ?_
    show win0_4.index _ (1 : Fin 2) * 1024 + 1 * (i 1).val = (i 1).val
    rw [e1]; omega

/-- The three result arrays after the run, entry by entry. -/
theorem whole (i : S1408x1024.Idx) : (dats m 0 c).arrAt 4 cfg0.N i = change (W m c i) (G m c i) (M m c i) (U m c i)
    ∧ (dats m 0 c).arrAt 5 cfg0.N i = first (G m c i) (M m c i) ∧ (dats m 0 c).arrAt 6 cfg0.N i = second (G m c i) (U m c i) := by
  obtain ⟨t, p, q, rfl⟩ := covered i
  obtain ⟨h0, h1, h2, h3⟩ := inputs m c t p q
  obtain ⟨f4, f5, f6⟩ := flush t
  rw [← h0, ← h1, ← h2, ← h3]
  exact ⟨(congrFun ((blocks4 m c t f4).trans (flushed4 m c t)) (ix2 p q)).trans (block_change _ _ _ _ p q),
    (congrFun ((blocks5 m c t f5).trans (flushed5 m c t)) (ix2 p q)).trans (block_first _ _ _ _ p q),
    (congrFun ((blocks6 m c t f6).trans (flushed6 m c t)) (ix2 p q)).trans (block_second _ _ _ _ p q)⟩

end Whole

/-! ## The reference -/

section Reference
open Cert.Reference32Ideal.Read
variable (w g u v : S2x704x1024.Idx → EReal)

theorem ref_first (j : S2x704x1024.Idx) : (val_main_v4 (F := Ideal) g u j : EReal) = first (g j) (u j) := by
  unfold first
  pointwise [val_main_v4, val_main_v3, val_main_v2, val_main_v1, val_main_v0, val_main_cst, val_main_cst_0]

theorem ref_second (j : S2x704x1024.Idx) : (val_main_v10 (F := Ideal) g v j : EReal) = second (g j) (v j) := by
  unfold second
  pointwise [val_main_v10, val_main_v9, val_main_v8, val_main_v7, val_main_v6, val_main_v5, val_main_cst_1, val_main_cst_2]

theorem ref_change (j : S2x704x1024.Idx) : (val_main_v23 (F := Ideal) w g u v j : EReal) = change (w j) (g j) (u j) (v j) := by
  unfold change
  rw [← ref_first g u j, ← ref_second g v j]
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]

end Reference

/-- The claim: from the same arguments the kernel and the reference end with the same three results. -/
theorem algebraic : Cert.algebraic_Kernel32Ideal_Reference32Ideal := by
  intro m g m' g' _ h
  refine ⟨fun c => (dats m 0 c).arrAt 4 cfg0.N, fun c => (dats m 0 c).arrAt 5 cfg0.N, fun c => (dats m 0 c).arrAt 6 cfg0.N,
    run_blocks m g, (θ_run _ _ _).mono (fun r hr c => ?_) (Cert.Reference32Ideal.Value.run m' g')⟩
  obtain ⟨h0, h1, h2, h3⟩ := h c
  obtain ⟨hd, hu, hv, ha⟩ := hr c
  refine ⟨?_, ?_, ?_, ha⟩
  · rw [hd, h0, h1, h2, h3]
    exact funext fun i => (ref_change _ _ _ _ _).trans (whole m c i).1.symm
  · rw [hu, h1, h2]
    exact funext fun i => (ref_first _ _ _).trans (whole m c i).2.1.symm
  · rw [hv, h1, h3]
    exact funext fun i => (ref_second _ _ _).trans (whole m c i).2.2.symm

end Cert.Kernel32Ideal.Adam

end
-- ==== Proof.Chips35.lean ====
module

public import proofs.«01_k».proof.Proof.Gen.Kernel35Ideal.Run
public import proofs.«01_k».proof.Proof.Gen.Reference35Ideal.Run
public import proofs.«01_k».proof.Defs
public import Idealize.ShloMosaic.Lib.Pointwise
public import Idealize.ShloMosaic.Lib.Tactic
public import Idealize.ShloMosaic.Lib.Pipeline.Value

/-!
# The sum of the eight devices' packed shares, unpacked

The body adds the eight devices' arrays one after another, starting with the first. What it leaves is the sum over the device,
and the lines after it cut the same parts out of that sum as the reference does.
-/

@[expose] public section

noncomputable section

namespace Cert.Kernel35Ideal.Chips

open Cert.Kernel35Ideal Cert.Kernel35Ideal.Gen Cert.Kernel35Ideal.Value
open Idealize.ShloMosaic Idealize.ShloMosaic.TcCoe Idealize.SL.Sem Finset

/-- Reading one device's share, as a matrix: the entry of the whole array at that device. -/
theorem share (x : Vec Ideal S8x696x128 .f32) (o : Fin 3 → ℕ) (h : ∀ d, o d + S1x696x128.size d ≤ S8x696x128.size d) (d : Fin 8)
    (h0 : o 0 = d.val) (h1 : o 1 = 0) (h2 : o 2 = 0) (i : S696x128.Idx) :
    shapeCast S696x128 (View.ld x (Rect.unit (s := S8x696x128) o S1x696x128.size h)) shapeCasts_S1x696x128_S696x128 i
      = x (ix3 d (i 0) (i 1)) := by
  refine (shapeCast_apply _ _ i (ix3 0 (i 0) (i 1)) ?_).trans (congrArg x (funext fun a => Fin.ext ?_))
  · rw [Shape.rowMajor_val_three, Shape.rowMajor_val_two]
    show (0 * 696 + (i 0).val) * 128 + (i 1).val = (i 0).val * 128 + (i 1).val
    omega
  · match a with
    | ⟨0, _⟩ => show o 0 + 1 * 0 = d.val; omega
    | ⟨1, _⟩ => show o 1 + 1 * (i 0).val = (i 0).val; omega
    | ⟨2, _⟩ => show o 2 + 1 * (i 1).val = (i 1).val; omega

/-- Adding one after another is the sum over the devices. -/
theorem total (x : Vec Ideal S8x696x128 .f32) (i : S696x128.Idx) : (out0_1 (F := Ideal) x i : EReal)
    = ∑ d : Fin 8, x (ix3 d (i 0) (i 1)) := by
  unfold out0_1
  rw [View.canon_unit_zero (S := S696x128) (funext fun a => match a with | ⟨0, _⟩ => rfl | ⟨1, _⟩ => rfl), Fin.sum_univ_eight]
  refine congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_ <;>
    exact share x _ _ _ rfl rfl rfl i

variable (m : (ℓ : Loc nD τ sig) → Buf (Elt Ideal) ℓ) (c : Dev nD)

/-- The one block of the first array is the array as launched. -/
theorem whole (t : Fin cfg0.N) : iblk m c 0 t = m ((c : Thread nD τ).loc main_arg0) := by
  refine Eq.trans (funext fun j => congrArg (V m c main_arg0) (funext fun a => Fin.ext ?_)) (V_main_arg0 m c)
  obtain ⟨e0, e1, e2⟩ := (by decide +kernel : ∀ t : Fin grid0.N,
    win0_0.index t (0 : Fin 3) = 0 ∧ win0_0.index t (1 : Fin 3) = 0 ∧ win0_0.index t (2 : Fin 3) = 0) t
  match a with
  | ⟨0, _⟩ => show win0_0.index t (0 : Fin 3) * 8 + 1 * (j 0).val = (j 0).val; omega
  | ⟨1, _⟩ => show win0_0.index t (1 : Fin 3) * 696 + 1 * (j 1).val = (j 1).val; omega
  | ⟨2, _⟩ => show win0_0.index t (2 : Fin 3) * 128 + 1 * (j 2).val = (j 2).val; omega

/-- The one block of the second array is the array. -/
theorem place (t : Fin cfg0.N) (j : S696x128.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 696 + 1 * (j 0).val = (j 0).val; omega
  | ⟨1, _⟩ => show win0_1.index t (1 : Fin 2) * 128 + 1 * (j 1).val = (j 1).val; omega

/-- Cutting the block out of an array and reading the array through the block give the same. -/
theorem same (t : Fin cfg0.N) (X : Vec Ideal S696x128 .f32) :
    (cfg0.win 1).cut (grid0.coords t) X = ((cfg0.win 1).blk t).view.read (Elt Ideal) X :=
  funext fun j => congrArg X (place t j).symm

/-- What the body leaves in its array: what it makes of the shares. -/
theorem left : reg_main_v0 m c = out0_1 (F := Ideal) (m ((c : Thread nD τ).loc main_arg0)) :=
  (dats m 0 c).arrAt_eq_of_cover 1 (out0_1 (F := Ideal) (m ((c : Thread nD τ).loc main_arg0)))
    (fun t _ => by
      show (cfg0.win 1).cut (grid0.coords t) ((dats m 0 c).after 1 t) = _
      rw [after0_1, whole]
      exact same t _)
    fun i => ⟨⟨0, by decide⟩, flush0_1 _, by
      have h := ((cfg0.win 1).blk (⟨0, by decide⟩ : Fin cfg0.N)).view.emb_mem_set i
      rwa [place] at h⟩

/-- The sum, laid out as one row. -/
theorem row : res_main_v1 (exitV m c) = shapeCast S89088 (Host.reduceAdd (m ((c : Thread nD τ).loc main_arg0))
    (constant (F := Ideal) Cert.Reference35Ideal.S_ .f32 0x00000000#32) Cert.Reference35Ideal.Gen.reducesTo_S8x696x128_S696x128_d0
    Cert.Reference35Ideal.Gen.h_S_) Cert.Reference35Ideal.Gen.shapeCasts_S696x128_S89088 := by
  unfold res_main_v1
  refine congrArg (fun x => shapeCast S89088 x Cert.Reference35Ideal.Gen.shapeCasts_S696x128_S89088) ?_
  refine (exit_main_v0 m c).trans ((left m c).trans (funext fun i => (total _ i).trans ?_))
  rw [eq_ix2 i]
  pointwise

set_option maxHeartbeats 4000000 in
/-- The claim: from the same shares and the same device number the kernel and the reference end with the same results. -/
theorem algebraic : Cert.algebraic_Kernel35Ideal_Reference35Ideal := by
  intro m g m' g' _ h
  refine ⟨_, _, _, _, _, _, _, _, _, _, _, _, _, _, _, _, _, _, _, Cert.Kernel35Ideal.Value.run (F := Ideal) m g,
    (θ_run _ _ _).mono (fun r hr c => ?_) (Cert.Reference35Ideal.Value.run m' g')⟩
  obtain ⟨k0, k1, k2, k3, k4, k5, k6, k7, k8, k9, k10, k11, k12, k13, k14, k15, k16, k17, k18, k⟩ := hr c
  obtain ⟨e0, e1⟩ := h c
  refine ⟨k0.trans ?_, k1.trans ?_, k2.trans ?_, k3.trans ?_, k4.trans ?_, k5.trans ?_, k6.trans ?_, k7.trans ?_, k8.trans ?_,
    k9.trans ?_, k10.trans ?_, k11.trans ?_, k12.trans ?_, k13.trans ?_, k14.trans ?_, k15.trans ?_, k16.trans ?_, k17.trans ?_,
    k18.trans ?_, k⟩
  · rw [e0, row m c]
    refine congrArg (fun x => shapeCast S_ x shapeCasts_S1_S_) (funext fun i => congrArg (shapeCast S89088 _ _) (funext fun a => Fin.ext ?_))
    match a with
    | ⟨0, _⟩ => show 0 + (i 0).val = 0 + (0 + (i 0).val); omega
  all_goals
    simp only [res_main_v41, res_main_v46, res_main_v51, res_main_v56, res_main_v61, res_main_v66, res_main_v71, exit_main_arg1]
    rw [e0, row m c]
    try rw [e1]
    try rfl

end Cert.Kernel35Ideal.Chips

end
-- ==== Proof.Context36.lean ====
module

public import proofs.«01_k».proof.Proof.Gen.Kernel36Ideal.Run
public import proofs.«01_k».proof.Proof.Gen.Reference36Ideal.Read
public import proofs.«01_k».proof.Defs
public import Idealize.ShloMosaic.Lib.Pointwise
public import Idealize.ShloMosaic.Lib.Tactic
public import Idealize.ShloMosaic.Lib.Pipeline.Value

/-!
# The gradient of the context's conditioning

The body multiplies the gathered rows of the modulation's gradient by the weight, transposed. The lines after it take the
context's row, add the other chips' rows and multiply by the derivative of the activation.
-/

@[expose] public section

set_option maxRecDepth 16384

noncomputable section

namespace Cert.Kernel36Ideal.Context

open Cert.Kernel36Ideal Cert.Kernel36Ideal.Gen Cert.Kernel36Ideal.Value
open Idealize.ShloMosaic Idealize.ShloMosaic.TcCoe Idealize.SL.Sem Finset

theorem origin : (![(0 : ℕ), 0] : Fin 2 → ℕ) = fun _ => 0 := funext fun i => match i with | ⟨0, _⟩ => rfl | ⟨1, _⟩ => rfl

/-- The two writings of the activation's derivative agree, at the infinities too. -/
theorem slope (x : EReal) : Ideal.logistic x + x * (Ideal.logistic x * (1 - Ideal.logistic x))
    = Ideal.logistic x * (1 + x * (1 - Ideal.logistic x)) := by
  have h1 : (1 : EReal) - 1 = 0 := by rw [← EReal.coe_one, ← EReal.coe_sub, sub_self, EReal.coe_zero]
  induction x using EReal.rec with
  | bot => simp
  | top => rw [Ideal.logistic_top, h1]; simp
  | coe r =>
    rw [Ideal.logistic_coe]
    generalize (1 + Real.exp (-r))⁻¹ = s
    rw [show (1 : EReal) = ((1 : ℝ) : EReal) from rfl]
    norm_cast
    ring

/-- What the body leaves in its array. -/
theorem entry (x : Vec Ideal S16x1536 .f32) (y : Vec Ideal S1024x1536 .f32) (p : Fin 16) (q : Fin 1024) :
    (out0_2 (F := Ideal) x y (ix2 p q) : EReal) = ∑ k : Fin 1536, x (ix2 p k) * y (ix2 q k) := by
  simp only [out0_2, View.canon_unit_zero (S := S16x1024) origin, View.ld_unit_zero (S := S16x1536) origin,
    View.ld_unit_zero (S := S1024x1536) origin]
  pointwise [k0_pay1]

variable (m : (ℓ : Loc nD τ sig) → Buf (Elt Ideal) ℓ) (c : Dev nD)

/-- Every block is its array. -/
theorem index : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem first (t : Fin cfg0.N) : iblk m c 0 t = m ((c : Thread nD τ).loc main_arg0) := by
  refine Eq.trans (funext fun j => congrArg (V m c main_arg0) (funext fun a => Fin.ext ?_)) (V_main_arg0 m c)
  obtain ⟨e0, e1, -⟩ := index t
  match a with
  | ⟨0, _⟩ => show win0_0.index t (0 : Fin 2) * 16 + 1 * (j 0).val = (j 0).val; omega
  | ⟨1, _⟩ => show win0_0.index t (1 : Fin 2) * 1536 + 1 * (j 1).val = (j 1).val; omega

theorem second (t : Fin cfg0.N) : iblk m c 1 t = m ((c : Thread nD τ).loc main_arg1) := by
  refine Eq.trans (funext fun j => congrArg (V m c main_arg1) (funext fun a => Fin.ext ?_)) (V_main_arg1 m c)
  obtain ⟨-, -, e0, e1, -⟩ := index t
  match a with
  | ⟨0, _⟩ => show win0_1.index t (0 : Fin 2) * 1024 + 1 * (j 0).val = (j 0).val; omega
  | ⟨1, _⟩ => show win0_1.index t (1 : Fin 2) * 1536 + 1 * (j 1).val = (j 1).val; omega

theorem place (t : Fin cfg0.N) (j : S16x1024.Idx) : ((cfg0.win 2).blk t).view.emb j = j := by
  obtain ⟨-, -, -, -, e0, e1⟩ := index t
  funext a; apply Fin.ext
  match a with
  | ⟨0, _⟩ => show win0_2.index t (0 : Fin 2) * 16 + 1 * (j 0).val = (j 0).val; omega
  | ⟨1, _⟩ => show win0_2.index t (1 : Fin 2) * 1024 + 1 * (j 1).val = (j 1).val; omega

theorem same (t : Fin cfg0.N) (X : Vec Ideal S16x1024 .f32) :
    (cfg0.win 2).cut (grid0.coords t) X = ((cfg0.win 2).blk t).view.read (Elt Ideal) X :=
  funext fun j => congrArg X (place t j).symm

/-- What the body leaves in its array: what it makes of the arguments. -/
theorem left : reg_main_v0 m c = out0_2 (F := Ideal) (m ((c : Thread nD τ).loc main_arg0)) (m ((c : Thread nD τ).loc main_arg1)) :=
  (dats m 0 c).arrAt_eq_of_cover 2 (out0_2 (F := Ideal) (m ((c : Thread nD τ).loc main_arg0)) (m ((c : Thread nD τ).loc main_arg1)))
    (fun t _ => by
      show (cfg0.win 2).cut (grid0.coords t) ((dats m 0 c).after 2 t) = _
      rw [after0_2, first, second]
      exact same t _)
    fun i => ⟨⟨0, by decide⟩, flush0_2 _, by
      have h := ((cfg0.win 2).blk (⟨0, by decide⟩ : Fin cfg0.N)).view.emb_mem_set i
      rwa [place] at h⟩

/-- The claim: from the same arguments the kernel and the reference end with the same gradient. -/
theorem algebraic : Cert.algebraic_Kernel36Ideal_Reference36Ideal := by
  intro m g m' g' _ h
  refine ⟨_, Cert.Kernel36Ideal.Value.run (F := Ideal) m g,
    (θ_run _ _ _).mono (fun r hr c => ⟨(hr c).1.trans ?_, (hr c).2⟩) (Cert.Reference36Ideal.Value.run m' g')⟩
  obtain ⟨h0, h1, h2, h3, h4, h5⟩ := h c
  rw [h0, h1, h2, h3, h4, h5, left]
  refine funext fun i => congrArg₂ (· * ·) (congrArg₂ (· + ·) (congrArg₂ (· + ·) (congrArg₂ (· + ·) ?_ rfl) rfl) rfl) ?_
  · refine Eq.trans ?_ (Eq.trans (entry (m ((c : Thread nD τ).loc main_arg0)) (m ((c : Thread nD τ).loc main_arg1)) 8 (i 0)).symm ?_)
    · pointwise
    · pointwise
  · pointwise
    exact slope _

end Cert.Kernel36Ideal.Context

end
-- ==== Proof.Math.lean ====
/-
  Arrays read by natural-number coordinates, and sums cut into equal chunks: the arithmetic that a product accumulated
  chunk by chunk along its contracted axis shares with the product taken at once.
-/
module

public import Idealize.ShloMosaic.Lib.Pointwise

@[expose] public section

noncomputable section

namespace Cert.Blocked

open Idealize.ShloMosaic Finset

/-- Entry `(i, j)` of a matrix over the extended reals, by natural numbers: `0` outside the matrix. -/
def rd {a b : ℕ} (x : (⟨2, ![a, b]⟩ : Shape).Idx → EReal) (i j : ℕ) : EReal :=
  if h : i < a ∧ j < b then x (ix2 ⟨i, h.1⟩ ⟨j, h.2⟩) else 0

/-- Inside the matrix the reading is the entry. -/
theorem rd_of_lt {a b : ℕ} (x : (⟨2, ![a, b]⟩ : Shape).Idx → EReal) {i j : ℕ} (hi : i < a) (hj : j < b) :
    rd x i j = x (ix2 ⟨i, hi⟩ ⟨j, hj⟩) := dif_pos ⟨hi, hj⟩

/-- An entry at an index with the given coordinates is the reading at those coordinates. -/
theorem eq_rd {a b : ℕ} (x : (⟨2, ![a, b]⟩ : Shape).Idx → EReal) (y : (⟨2, ![a, b]⟩ : Shape).Idx) {i j : ℕ}
    (hi : (y 0).val = i) (hj : (y 1).val = j) : x y = rd x i j := by
  subst hi hj
  rw [rd_of_lt x (y 0).isLt (y 1).isLt]
  exact congrArg x (eq_ix2 y)

/-- A sum over `Fin n` of a function of the position's value is the sum over the first `n` naturals. -/
theorem sum_fin (n : ℕ) (f : ℕ → EReal) : ∑ k : Fin n, f k.val = ∑ k ∈ range n, f k := (Finset.sum_range f).symm

/-- The first chunk of a chunked sum. -/
theorem chunk_first (n : ℕ) (f : ℕ → EReal) : ∑ k : Fin n, f (n * 0 + k.val) = ∑ k ∈ range (n * (0 + 1)), f k := by
  simp only [Nat.mul_zero, Nat.zero_add, Nat.mul_one]
  exact sum_fin n f

/-- The first `q` chunks of length `n`, and the next chunk, are the first `q + 1` chunks. -/
theorem chunk_next (n q : ℕ) (f : ℕ → EReal) :
    ∑ k ∈ range (n * q), f k + ∑ k : Fin n, f (n * q + k.val) = ∑ k ∈ range (n * (q + 1)), f k := by
  rw [Nat.mul_succ, sum_range_add, sum_fin n fun k => f (n * q + k)]

end Cert.Blocked

end
-- ==== Proof.Gate.lean ====
/-
  The gradient of the gated feed-forward block at the output of its first product. From the cotangent `df` of the
  block's output, the second weight `w` and the first product `u` (its halves `u1`, the gated one, and `u2`):
  with `d = df · wᵀ` and `s = 1 / (1 + exp (−u1))`, the result's left half is `d u2 s (1 + u1 (1 − s))` and its right
  half `d u1 s`. The kernel's result array is shown to be what differentiating `u1 · s · u2` in jax gives.
-/
module

public import proofs.«01_k».proof.Proof.Gen.KernelIdeal.Value
public import proofs.«01_k».proof.Proof.Gen.ReferenceIdeal.Read
public import proofs.«01_k».proof.Proof.Math
public import proofs.«01_k».proof.Defs
public import proofs.«01_k».proof.Proof.Gen.Pre_finite
public import Idealize.ShloMosaic.Lib.Pointwise
public import Idealize.ShloMosaic.Lib.Tactic

@[expose] public section

set_option maxRecDepth 16384

noncomputable section

namespace Cert.KernelIdeal.Gate

open Cert.KernelIdeal Cert.KernelIdeal.Gen Cert.KernelIdeal.Value Cert.Blocked
open Idealize.ShloMosaic Idealize.ShloMosaic.TcCoe Idealize.SL.Sem Finset
open Idealize.ShloMosaic.Pipeline (Dat)

/-! ## The arithmetic at one entry -/

/-- The kernel's two halves at one entry, from the product's entry `d` and the entries of `u`. -/
abbrev left (d a b : EReal) : EReal := d * b * Ideal.logistic a * (1 + a * (1 - Ideal.logistic a))
abbrev right (d a : EReal) : EReal := d * a * Ideal.logistic a

/-- The left half as the derivative rule of the gate groups it: equal where the entries are finite. -/
theorem left_eq (d a b : EReal) (hd : d ≠ ⊤ ∧ d ≠ ⊥) (ha : a ≠ ⊤ ∧ a ≠ ⊥) (hb : b ≠ ⊤ ∧ b ≠ ⊥) :
    left d a b = d * b * Ideal.logistic a + (a * (d * b)) * (Ideal.logistic a * (1 - Ideal.logistic a)) := by
  lift d to ℝ using hd
  lift a to ℝ using ha
  lift b to ℝ using hb
  unfold left
  rw [Ideal.logistic_coe]
  generalize (1 + Real.exp (-a))⁻¹ = s
  have h1 : (1 : EReal) = ((1 : ℝ) : EReal) := rfl
  rw [h1]
  norm_cast
  ring

/-- A finite sum of products of finite values is finite. -/
theorem sum_finite {n : ℕ} (f g : Fin n → EReal) (hf : ∀ k, f k ≠ ⊤ ∧ f k ≠ ⊥) (hg : ∀ k, g k ≠ ⊤ ∧ g k ≠ ⊥) :
    (∑ k, f k * g k) ≠ ⊤ ∧ (∑ k, f k * g k) ≠ ⊥ := by
  have h : ∃ r : ℝ, (∑ k, f k * g k) = (r : EReal) := by
    refine Finset.sum_induction _ (fun x => ∃ r : ℝ, x = (r : EReal)) ?_ ⟨0, rfl⟩ fun k _ => ?_
    · rintro _ _ ⟨p, rfl⟩ ⟨q, rfl⟩
      exact ⟨p + q, (EReal.coe_add p q).symm⟩
    · refine ⟨(f k).toReal * (g k).toReal, ?_⟩
      rw [EReal.coe_mul, EReal.coe_toReal (hf k).1 (hf k).2, EReal.coe_toReal (hg k).1 (hg k).2]
  obtain ⟨r, e⟩ := h
  rw [e]
  exact ⟨EReal.coe_ne_top r, EReal.coe_ne_bot r⟩

/-! ## The precondition: every argument is finite -/

theorem finite_of_bit {x : EReal} (h : BitVec.ofBool (decide (FloatOps.absf (F := Ideal) (φ := .f32) x < Ideal.ofBits .f32 0x7F800000#32)) = 1#1) :
    x ≠ ⊤ ∧ x ≠ ⊥ := by
  have e : Ideal.ofBits .f32 0x7F800000#32 = ⊤ := by simp [Ideal.ofBits, Ideal.ieee]
  rw [e, Ideal.absf_def] at h
  have h' : max x (-x) < ⊤ := by
    by_contra hc
    rw [decide_eq_false hc] at h
    exact absurd h (by decide)
  refine ⟨fun e => ?_, fun e => ?_⟩ <;> subst e <;> simp at h'

section Finite
variable [Cert.Pre_finite.Facts]
variable (x : Cert.Pre_finite.S4096x1024.Idx → EReal) (y : Cert.Pre_finite.S2816x1024.Idx → EReal) (z : Cert.Pre_finite.S4096x5632.Idx → EReal)

theorem first_finite (i) (h : (Cert.Pre_finite.fn (F := Ideal) x y z).1 = fun _ => 1#1) : x i ≠ ⊤ ∧ x i ≠ ⊥ := by
  refine finite_of_bit ?_
  have e := congrFun h i
  unfold Cert.Pre_finite.fn at e
  dsimp only at e
  revert e
  pointwise
  exact id

theorem second_finite (i) (h : (Cert.Pre_finite.fn (F := Ideal) x y z).2.1 = fun _ => 1#1) : y i ≠ ⊤ ∧ y i ≠ ⊥ := by
  refine finite_of_bit ?_
  have e := congrFun h i
  unfold Cert.Pre_finite.fn at e
  dsimp only at e
  revert e
  pointwise
  exact id

theorem third_finite (i) (h : (Cert.Pre_finite.fn (F := Ideal) x y z).2.2 = fun _ => 1#1) : z i ≠ ⊤ ∧ z i ≠ ⊥ := by
  refine finite_of_bit ?_
  have e := congrFun h i
  unfold Cert.Pre_finite.fn at e
  dsimp only at e
  revert e
  pointwise
  exact id

end Finite

/-! ## The kernel -/

/-- The cotangent of the gate, `df · wᵀ`, at row `I` and column `J`. -/
abbrev prod {n : ℕ} (x : (⟨2, ![n, 1024]⟩ : Shape).Idx → EReal) (y : S2816x1024.Idx → EReal) (I J : ℕ) : EReal :=
  ∑ k : Fin 1024, rd x I k.val * rd y J k.val

/-- The result at row `I` and column `J`. -/
def entry {n : ℕ} (x : (⟨2, ![n, 1024]⟩ : Shape).Idx → EReal) (y : S2816x1024.Idx → EReal)
    (z : (⟨2, ![n, 5632]⟩ : Shape).Idx → EReal) (I J : ℕ) : EReal :=
  if J < 2816 then left (prod x y I J) (rd z I J) (rd z I (2816 + J)) else right (prod x y I (J - 2816)) (rd z I (J - 2816))

theorem prod_eq {n : ℕ} (x : (⟨2, ![n, 1024]⟩ : Shape).Idx → EReal) (y : S2816x1024.Idx → EReal) (a : Fin n) (b : Fin 2816) :
    ∑ k : Fin 1024, x (ix2 a k) * y (ix2 b k) = prod x y a.val b.val :=
  Finset.sum_congr rfl fun k _ => congrArg₂ (· * ·) (rd_of_lt x a.isLt k.isLt).symm (rd_of_lt y b.isLt k.isLt).symm

/-- What the body stores in the left and in the right half of its result's block. -/
theorem left_pay (x0 : Vec Ideal S256x1024 .bf16) (x1 : Vec Ideal S2816x1024 .bf16) (x2 : Vec Ideal S256x5632 .bf16) (a : Fin 256) (b : Fin 2816) :
    k0_pay4 (F := Ideal) (View.ld x0 r0_0) (View.ld x1 r0_1) (View.ld x2 r0_2) (View.ld x2 r0_3) (ix2 a b)
      = left (∑ k : Fin 1024, (x0 (ix2 a k) : EReal) * (x1 (ix2 b k) : EReal)) (x2 (ix2 a ⟨b.val, by omega⟩)) (x2 (ix2 a ⟨2816 + b.val, by omega⟩)) := by
  pointwise [k0_pay4, k0_pay3, k0_pay2, k0_pay1]

theorem right_pay (x0 : Vec Ideal S256x1024 .bf16) (x1 : Vec Ideal S2816x1024 .bf16) (x2 : Vec Ideal S256x5632 .bf16) (a : Fin 256) (b : Fin 2816) :
    k0_pay5 (F := Ideal) (View.ld x0 r0_0) (View.ld x1 r0_1) (View.ld x2 r0_2) (ix2 a b)
      = right (∑ k : Fin 1024, (x0 (ix2 a k) : EReal) * (x1 (ix2 b k) : EReal)) (x2 (ix2 a ⟨b.val, by omega⟩)) := by
  pointwise [k0_pay5, k0_pay3, k0_pay2, k0_pay1]

/-- The result's block, entry by entry. -/
theorem out_entry (x0 : Vec Ideal S256x1024 .bf16) (x1 : Vec Ideal S2816x1024 .bf16) (x2 : Vec Ideal S256x5632 .bf16) (y : S256x5632.Idx) :
    (out0_3 (F := Ideal) x0 x1 x2 y : EReal) = entry (n := 256) x0 x1 x2 (y 0).val (y 1).val := by
  unfold out0_3
  refine View.canon_apply_of_pieces (Val := Elt Ideal) (e := .bf16)
    (fun y : S256x5632.Idx => (show Elt Ideal .bf16 from entry (n := 256) x0 x1 x2 (y 0).val (y 1).val)) _ ?_ y (cover0_3 _ _ y)
  intro p hp
  rcases List.mem_cons.mp hp with rfl | hp
  · intro x
    obtain ⟨a, b, rfl⟩ : ∃ (a : Fin 256) (b : Fin 2816), x = ix2 a b := ⟨x 0, x 1, eq_ix2 x⟩
    have ea : ((r0_3.emb (ix2 a b)) (0 : Fin 2)).val = a.val := by show 0 + 1 * a.val = _; omega
    have eb : ((r0_3.emb (ix2 a b)) (1 : Fin 2)).val = 2816 + b.val := by show 2816 + 1 * b.val = _; omega
    dsimp only
    rw [ea, eb, right_pay]
    unfold entry
    rw [if_neg (by omega), Nat.add_sub_cancel_left, prod_eq (n := 256), rd_of_lt (a := 256) (b := 5632) x2 a.isLt (by omega)]
  · obtain rfl := List.mem_singleton.mp hp
    intro x
    obtain ⟨a, b, rfl⟩ : ∃ (a : Fin 256) (b : Fin 2816), x = ix2 a b := ⟨x 0, x 1, eq_ix2 x⟩
    have ea : ((r0_2.emb (ix2 a b)) (0 : Fin 2)).val = a.val := by show 0 + 1 * a.val = _; omega
    have eb : ((r0_2.emb (ix2 a b)) (1 : Fin 2)).val = b.val := by show 0 + 1 * b.val = _; omega
    dsimp only
    rw [ea, eb, left_pay]
    unfold entry
    rw [if_pos b.isLt, prod_eq (n := 256), rd_of_lt (a := 256) (b := 5632) x2 a.isLt (by omega),
      rd_of_lt (a := 256) (b := 5632) x2 a.isLt (by omega)]

variable (m : (ℓ : Loc nD τ sig) → Buf (Elt Ideal) ℓ)

/-- The arguments, as the run finds them. -/
abbrev df (c : Dev nD) : S4096x1024.Idx → EReal := m ((c : Thread nD τ).loc main_arg0)
abbrev wout (c : Dev nD) : S2816x1024.Idx → EReal := m ((c : Thread nD τ).loc main_arg1)
abbrev u (c : Dev nD) : S4096x5632.Idx → EReal := m ((c : Thread nD τ).loc main_arg2)

/-- Which blocks a grid point reads and writes: rows of 256, the weight whole. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem flush3 : ∀ t : Fin cfg0.N, (cfg0.win 3).flush t = true :=
  (by decide +kernel : ∀ t : Fin grid0.N, win0_3.flush t = true)

theorem block0 (c : Dev nD) (t : Fin cfg0.N) (p : Fin 256) (q : Fin 1024) :
    rd (a := 256) (b := 1024) (iblk m c 0 t) p.val q.val = rd (df m c) (256 * t.val + p.val) q.val := by
  obtain ⟨e0, e1⟩ := index0 t
  rw [rd_of_lt (a := 256) (b := 1024) _ p.isLt q.isLt]
  unfold iblk
  rw [View.read_apply]
  refine eq_rd (df m c) _ ?_ ?_
  · show win0_0.index t (0 : Fin 2) * 256 + 1 * p.val = _
    rw [e0]; omega
  · show win0_0.index t (1 : Fin 2) * 1024 + 1 * q.val = _
    rw [e1]; omega

theorem block1 (c : Dev nD) (t : Fin cfg0.N) (p : Fin 2816) (q : Fin 1024) :
    rd (a := 2816) (b := 1024) (iblk m c 1 t) p.val q.val = rd (wout m c) p.val q.val := by
  obtain ⟨e0, e1⟩ := index1 t
  rw [rd_of_lt (a := 2816) (b := 1024) _ p.isLt q.isLt]
  unfold iblk
  rw [View.read_apply]
  refine eq_rd (wout m c) _ ?_ ?_
  · show win0_1.index t (0 : Fin 2) * 2816 + 1 * p.val = _
    rw [e0]; omega
  · show win0_1.index t (1 : Fin 2) * 1024 + 1 * q.val = _
    rw [e1]; omega

theorem block2 (c : Dev nD) (t : Fin cfg0.N) (p : Fin 256) (q : Fin 5632) :
    rd (a := 256) (b := 5632) (iblk m c 2 t) p.val q.val = rd (u m c) (256 * t.val + p.val) q.val := by
  obtain ⟨e0, e1⟩ := index2 t
  rw [rd_of_lt (a := 256) (b := 5632) _ p.isLt q.isLt]
  unfold iblk
  rw [View.read_apply]
  refine eq_rd (u m c) _ ?_ ?_
  · show win0_2.index t (0 : Fin 2) * 256 + 1 * p.val = _
    rw [e0]; omega
  · show win0_2.index t (1 : Fin 2) * 5632 + 1 * q.val = _
    rw [e1]; omega

/-- An entry computed from the blocks at a grid point is the entry computed from the whole arrays. -/
theorem entry_block (c : Dev nD) (t : Fin cfg0.N) (p : Fin 256) (q : Fin 5632) :
    entry (n := 256) (iblk m c 0 t) (iblk m c 1 t) (iblk m c 2 t) p.val q.val
      = entry (df m c) (wout m c) (u m c) (256 * t.val + p.val) q.val := by
  have hprod (J : ℕ) (hJ : J < 2816) : prod (n := 256) (iblk m c 0 t) (iblk m c 1 t) p.val J
      = prod (df m c) (wout m c) (256 * t.val + p.val) J :=
    Finset.sum_congr rfl fun k _ => congrArg₂ (· * ·) (block0 m c t p k) (block1 m c t ⟨J, hJ⟩ k)
  have hu (J : ℕ) (hJ : J < 5632) := block2 m c t p ⟨J, hJ⟩
  dsimp only at hu
  have hq := q.isLt
  unfold entry
  by_cases h : q.val < 2816
  · rw [if_pos h, if_pos h, hprod _ h, hu _ (by omega), hu _ (by omega)]
  · rw [if_neg h, if_neg h, hprod _ (by omega), hu _ (by omega)]

/-- The result array after the run, entry by entry. -/
theorem result_entry (c : Dev nD) (i : S4096x5632.Idx) :
    ((dats m 0 c).arrAt 3 cfg0.N i : EReal) = entry (df m c) (wout m c) (u m c) (i 0).val (i 1).val := by
  have hi0 : (i 0).val < 4096 := (i 0).isLt
  have hN : (i 0).val / 256 < cfg0.N := lt_of_lt_of_eq (by omega : (i 0).val / 256 < 16) (show 16 = cfg0.N from N_0.symm)
  let t : Fin cfg0.N := ⟨(i 0).val / 256, hN⟩
  obtain ⟨e0, e1⟩ := index3 t
  have hb := congrFun ((blocks3 m c t (flush3 t)).trans (flushed3 m c t))
    (ix2 (⟨(i 0).val % 256, Nat.mod_lt _ (by decide)⟩ : Fin 256) (i 1))
  rw [View.read_apply] at hb
  have hix : ((cfg0.win 3).blk t).view.emb (ix2 (⟨(i 0).val % 256, Nat.mod_lt _ (by decide)⟩ : Fin 256) (i 1)) = i := by
    funext x
    match x with
    | ⟨0, _⟩ =>
      refine Fin.ext ?_
      show win0_3.index t (0 : Fin 2) * 256 + 1 * ((i 0).val % 256) = (i 0).val
      rw [e0]; show (i 0).val / 256 * 256 + 1 * ((i 0).val % 256) = (i 0).val; omega
    | ⟨1, _⟩ =>
      refine Fin.ext ?_
      show win0_3.index t (1 : Fin 2) * 5632 + 1 * (i 1).val = (i 1).val
      rw [e1]; omega
  rw [hix] at hb
  refine hb.trans ?_
  refine (out_entry _ _ _ _).trans ?_
  refine (entry_block m c t ⟨(i 0).val % 256, Nat.mod_lt _ (by decide)⟩ (i 1)).trans ?_
  have e : 256 * t.val + (i 0).val % 256 = (i 0).val := by show 256 * ((i 0).val / 256) + (i 0).val % 256 = _; omega
  dsimp only
  rw [e]

/-! ## The reference -/

section Reference
variable (x0 : S4096x1024.Idx → EReal) (x1 : S2816x1024.Idx → EReal) (x2 : S4096x5632.Idx → EReal)

/-- The logistic, as the reference computes it. -/
theorem ref_logistic (a : Fin 4096) (b : Fin 2816) :
    (Cert.ReferenceIdeal.Read.val_main_v4_2 (F := Ideal) x2 (ix2 a b) : EReal) = Ideal.logistic (rd x2 a.val b.val) := by
  pointwise [Cert.ReferenceIdeal.Read.val_main_v4_2, Cert.ReferenceIdeal.Read.val_main_call0_v4, Cert.ReferenceIdeal.Read.val_main_call0_v3, Cert.ReferenceIdeal.Read.val_main_call0_v2, Cert.ReferenceIdeal.Read.val_main_call0_v1, Cert.ReferenceIdeal.Read.val_main_call0_v0, Cert.ReferenceIdeal.Read.val_main_call0_cst, Cert.ReferenceIdeal.Read.val_main_call0_cst_0, Cert.ReferenceIdeal.Read.val_main_v3, Cert.ReferenceIdeal.Read.val_main_v2]
  rw [rd_of_lt x2 a.isLt (by omega)]
  rfl

theorem ref_prod (a : Fin 4096) (b : Fin 2816) :
    (Cert.ReferenceIdeal.Read.val_main_v8 (F := Ideal) x0 x1 (ix2 a b) : EReal) = prod x0 x1 a.val b.val := by
  rw [← prod_eq]
  pointwise [Cert.ReferenceIdeal.Read.val_main_v8, Cert.ReferenceIdeal.Read.val_main_v1, Cert.ReferenceIdeal.Read.val_main_v0]

/-- The gated half of `u` and the other half, as the reference slices them. -/
theorem ref_u1 (a : Fin 4096) (b : Fin 2816) :
    (Cert.ReferenceIdeal.Read.val_main_v3 (F := Ideal) x2 (ix2 a b) : EReal) = rd x2 a.val b.val := by
  rw [rd_of_lt x2 a.isLt (by omega)]
  pointwise [Cert.ReferenceIdeal.Read.val_main_v3, Cert.ReferenceIdeal.Read.val_main_v2]
theorem ref_u2 (a : Fin 4096) (b : Fin 2816) :
    (Cert.ReferenceIdeal.Read.val_main_v5 (F := Ideal) x2 (ix2 a b) : EReal) = rd x2 a.val (2816 + b.val) := by
  rw [rd_of_lt x2 a.isLt (by omega)]
  pointwise [Cert.ReferenceIdeal.Read.val_main_v5, Cert.ReferenceIdeal.Read.val_main_v2]

/-- The reference's right half: the gate's other half times the cotangent. -/
theorem ref_right (a : Fin 4096) (b : Fin 2816) :
    (Cert.ReferenceIdeal.Read.val_main_v9 (F := Ideal) x0 x1 x2 (ix2 a b) : EReal) = right (prod x0 x1 a.val b.val) (rd x2 a.val b.val) := by
  pointwise [Cert.ReferenceIdeal.Read.val_main_v9, Cert.ReferenceIdeal.Read.val_main_v4_0]
  rw [ref_logistic, ref_prod, ref_u1]
  unfold right
  ac_rfl

/-- The reference's left half: the derivative rule of the gate. -/
theorem ref_left (a : Fin 4096) (b : Fin 2816) (h0 : ∀ i, x0 i ≠ ⊤ ∧ x0 i ≠ ⊥) (h1 : ∀ i, x1 i ≠ ⊤ ∧ x1 i ≠ ⊥) (h2 : ∀ i, x2 i ≠ ⊤ ∧ x2 i ≠ ⊥) :
    (Cert.ReferenceIdeal.Read.val_main_v12 (F := Ideal) x0 x1 x2 (ix2 a b) : EReal)
      = left (prod x0 x1 a.val b.val) (rd x2 a.val b.val) (rd x2 a.val (2816 + b.val)) := by
  rw [left_eq]
  · pointwise [Cert.ReferenceIdeal.Read.val_main_v12, Cert.ReferenceIdeal.Read.val_main_call1_v2, Cert.ReferenceIdeal.Read.val_main_call1_v1, Cert.ReferenceIdeal.Read.val_main_call1_v0, Cert.ReferenceIdeal.Read.val_main_v10, Cert.ReferenceIdeal.Read.val_main_v4_1, Cert.ReferenceIdeal.Read.val_main_call0_v7, Cert.ReferenceIdeal.Read.val_main_call0_v6, Cert.ReferenceIdeal.Read.val_main_call0_cst_1]
    rw [ref_logistic, ref_prod, ref_u1, ref_u2]
  · rw [← prod_eq]
    exact sum_finite _ _ (fun k => h0 _) (fun k => h1 _)
  · rw [rd_of_lt x2 a.isLt (by omega)]
    exact h2 _
  · rw [rd_of_lt x2 a.isLt (by omega)]
    exact h2 _

theorem ref_entry (h0 : ∀ i, x0 i ≠ ⊤ ∧ x0 i ≠ ⊥) (h1 : ∀ i, x1 i ≠ ⊤ ∧ x1 i ≠ ⊥) (h2 : ∀ i, x2 i ≠ ⊤ ∧ x2 i ≠ ⊥)
    (a : Fin 4096) (b : Fin 5632) :
    (Cert.ReferenceIdeal.Read.val_main_v15 (F := Ideal) x0 x1 x2 (ix2 a b) : EReal) = entry x0 x1 x2 a.val b.val := by
  have hb := b.isLt
  unfold entry
  by_cases h : b.val < 2816
  · rw [if_pos h, ← ref_left x0 x1 x2 a ⟨b.val, h⟩ h0 h1 h2]
    pointwise [Cert.ReferenceIdeal.Read.val_main_v15, Cert.ReferenceIdeal.Read.val_main_v14, Cert.ReferenceIdeal.Read.val_main_v13, Cert.ReferenceIdeal.Read.val_main_v11, Cert.ReferenceIdeal.Read.val_main_cst, Cert.ReferenceIdeal.Read.val_main_cst_0]
    rw [dif_neg (by omega), dif_pos h, zero_add]
  · rw [if_neg h, ← ref_right x0 x1 x2 a ⟨b.val - 2816, by omega⟩]
    pointwise [Cert.ReferenceIdeal.Read.val_main_v15, Cert.ReferenceIdeal.Read.val_main_v14, Cert.ReferenceIdeal.Read.val_main_v13, Cert.ReferenceIdeal.Read.val_main_v11, Cert.ReferenceIdeal.Read.val_main_cst, Cert.ReferenceIdeal.Read.val_main_cst_0]
    rw [dif_pos (by omega), dif_neg h, add_zero]

end Reference

/-- The result array is the reference's, whenever every argument is finite. -/
theorem result_eq [Cert.Pre_finite.Facts] (hm : Cert.Pre_KernelIdeal_finite m) (c : Dev nD) :
    (dats m 0 c).arrAt 3 cfg0.N = Cert.ReferenceIdeal.Read.val_main_v15 (F := Ideal) (df m c) (wout m c) (u m c) := by
  obtain ⟨h0, h1, h2⟩ := hm c
  funext i
  refine (result_entry m c i).trans ?_
  rw [eq_ix2 i]
  exact (ref_entry _ _ _ (fun i => first_finite _ _ _ i h0) (fun i => second_finite _ _ _ i h1) (fun i => third_finite _ _ _ i h2) (i 0) (i 1)).symm

/-- The claim: from the same finite arguments the kernel and the reference end with the same result array. -/
theorem algebraic : Cert.algebraic_KernelIdeal_ReferenceIdeal_pre_finite := by
  intro m g m' g' hm h
  refine ⟨fun c => (dats m 0 c).arrAt 3 cfg0.N, run_blocks m g, (θ_run _ _ _).mono (fun r hr c => ?_) (Cert.ReferenceIdeal.Value.run m' g')⟩
  obtain ⟨h0, h1, h2⟩ := h c
  obtain ⟨hv, ha⟩ := hr c
  refine ⟨?_, ha⟩
  rw [hv, h0, h1, h2]
  exact (result_eq m hm c).symm

end Cert.KernelIdeal.Gate

end
-- ==== Proof.GateForward.lean ====
/-
  The first half of the gated feed-forward block. From the rows `x` and the first weight `w` the kernel stores the product
  `u = x · w` (its left half, the gated one, and its right half, taken against two blocks of the weight) and the gated
  product `u1 s u2` with `s = 1 / (1 + exp (−u1))`. Both result arrays are shown to be the reference's.
-/
module

public import proofs.«01_k».proof.Proof.Gen.Kernel18Ideal.Value
public import proofs.«01_k».proof.Proof.Gen.Reference18Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel18Ideal.Gate

open Cert.Kernel18Ideal Cert.Kernel18Ideal.Gen Cert.Kernel18Ideal.Value Cert.Blocked
open Idealize.ShloMosaic Idealize.ShloMosaic.TcCoe Idealize.SL.Sem Finset

theorem origin : (![0, 0] : Fin 2 → Nat) = fun _ => 0 := funext fun a => by fin_cases a <;> rfl

/-- The product of the rows of `x` and the columns of `w`, at row `I` and column `J`. -/
abbrev prod {n k : ℕ} (x : (⟨2, ![n, 1024]⟩ : Shape).Idx → EReal) (w : (⟨2, ![1024, k]⟩ : Shape).Idx → EReal) (I J : ℕ) : EReal :=
  ∑ j : Fin 1024, rd x I j.val * rd w j.val J

/-- The gate, from an entry of either half. -/
abbrev gate (a b : EReal) : EReal := a * Ideal.logistic a * b

theorem prod_eq {n k : ℕ} (x : (⟨2, ![n, 1024]⟩ : Shape).Idx → EReal) (w : (⟨2, ![1024, k]⟩ : Shape).Idx → EReal) (a : Fin n) (b : Fin k) :
    ∑ j : Fin 1024, x (ix2 a j) * w (ix2 j b) = prod x w a.val b.val :=
  Finset.sum_congr rfl fun j _ => congrArg₂ (· * ·) (rd_of_lt x a.isLt j.isLt).symm (rd_of_lt w j.isLt b.isLt).symm

/-! ## What the body stores -/

theorem left_pay (x : Vec Ideal S256x1024 .bf16) (w : Vec Ideal S1024x2816 .bf16) (a : Fin 256) (b : Fin 2816) :
    (k0_pay1 (F := Ideal) x w (ix2 a b) : EReal) = prod (n := 256) (k := 2816) x w a.val b.val := by
  refine Eq.trans ?_ (prod_eq (n := 256) (k := 2816) x w a b)
  pointwise [k0_pay1]
theorem right_pay (x : Vec Ideal S256x1024 .bf16) (w : Vec Ideal S1024x2816 .bf16) (a : Fin 256) (b : Fin 2816) :
    (k0_pay2 (F := Ideal) x w (ix2 a b) : EReal) = prod (n := 256) (k := 2816) x w a.val b.val := by
  refine Eq.trans ?_ (prod_eq (n := 256) (k := 2816) x w a b)
  pointwise [k0_pay2]
theorem gate_pay (x : Vec Ideal S256x1024 .bf16) (w v : Vec Ideal S1024x2816 .bf16) (a : Fin 256) (b : Fin 2816) :
    (k0_pay3 (F := Ideal) x w v (ix2 a b) : EReal)
      = gate (prod (n := 256) (k := 2816) x w a.val b.val) (prod (n := 256) (k := 2816) x v a.val b.val) := by
  rw [← left_pay, ← right_pay]
  rfl

theorem whole0 (x : Vec Ideal S256x1024 .bf16) : View.ld x r0_0 = x := View.ld_unit_zero (S := S256x1024) origin _ x
theorem whole1 (x : Vec Ideal S1024x2816 .bf16) : View.ld x r0_1 = x := View.ld_unit_zero (S := S1024x2816) origin _ x

/-- The product's block, from a block of rows and the two halves of the weight. -/
def halves (x : S256x1024.Idx → EReal) (w v : S1024x2816.Idx → EReal) (I J : ℕ) : EReal :=
  if J < 2816 then prod (n := 256) (k := 2816) x w I J else prod (n := 256) (k := 2816) x v I (J - 2816)

theorem first_entry (x : Vec Ideal S256x1024 .bf16) (w v : Vec Ideal S1024x2816 .bf16) (y : S256x5632.Idx) :
    (out0_3 (F := Ideal) x w v y : EReal) = halves x w v (y 0).val (y 1).val := by
  unfold out0_3
  refine View.canon_apply_of_pieces (Val := Elt Ideal) (e := .bf16)
    (fun y : S256x5632.Idx => (show Elt Ideal .bf16 from halves x w v (y 0).val (y 1).val)) _ ?_ y (cover0_3 _ _ y)
  intro p hp
  rcases List.mem_cons.mp hp with rfl | hp
  · intro z
    obtain ⟨a, b, rfl⟩ : ∃ (a : Fin 256) (b : Fin 2816), z = ix2 a b := ⟨z 0, z 1, eq_ix2 z⟩
    have ea : ((r0_3.emb (ix2 a b)) (0 : Fin 2)).val = a.val := by show 0 + 1 * a.val = _; omega
    have eb : ((r0_3.emb (ix2 a b)) (1 : Fin 2)).val = 2816 + b.val := by show 2816 + 1 * b.val = _; omega
    dsimp only
    rw [ea, eb, whole0, whole1]
    unfold halves
    rw [if_neg (by omega), Nat.add_sub_cancel_left]
    exact right_pay x v a b
  · obtain rfl := List.mem_singleton.mp hp
    intro z
    obtain ⟨a, b, rfl⟩ : ∃ (a : Fin 256) (b : Fin 2816), z = ix2 a b := ⟨z 0, z 1, eq_ix2 z⟩
    have ea : ((r0_2.emb (ix2 a b)) (0 : Fin 2)).val = a.val := by show 0 + 1 * a.val = _; omega
    have eb : ((r0_2.emb (ix2 a b)) (1 : Fin 2)).val = b.val := by show 0 + 1 * b.val = _; omega
    dsimp only
    rw [ea, eb, whole0, whole1]
    unfold halves
    rw [if_pos b.isLt]
    exact left_pay x w a b

theorem second_entry (x : Vec Ideal S256x1024 .bf16) (w v : Vec Ideal S1024x2816 .bf16) (a : Fin 256) (b : Fin 2816) :
    (out0_4 (F := Ideal) x w v (ix2 a b) : EReal)
      = gate (prod (n := 256) (k := 2816) x w a.val b.val) (prod (n := 256) (k := 2816) x v a.val b.val) := by
  unfold out0_4
  rw [View.canon_unit_zero origin, whole0, whole1, whole1]
  exact gate_pay x w v a b

/-! ## The blocks a grid point reads -/

variable (m : (ℓ : Loc nD τ sig) → Buf (Elt Ideal) ℓ)

/-- The arguments, as the run finds them. -/
abbrev rows (c : Dev nD) : S4096x1024.Idx → EReal := m ((c : Thread nD τ).loc main_arg0)
abbrev weight (c : Dev nD) : S1024x5632.Idx → EReal := m ((c : Thread nD τ).loc main_arg1)

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 1 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem flush3 : ∀ t : Fin cfg0.N, (cfg0.win 3).flush t = true :=
  (by decide +kernel : ∀ t : Fin grid0.N, win0_3.flush t = true)
theorem flush4 : ∀ t : Fin cfg0.N, (cfg0.win 4).flush t = true :=
  (by decide +kernel : ∀ t : Fin grid0.N, win0_4.flush t = true)

theorem block0 (c : Dev nD) (t : Fin cfg0.N) (p : Fin 256) (q : Fin 1024) :
    rd (a := 256) (b := 1024) (iblk m c 0 t) p.val q.val = rd (rows m c) (256 * t.val + p.val) q.val := by
  obtain ⟨e0, e1⟩ := index0 t
  rw [rd_of_lt (a := 256) (b := 1024) _ p.isLt q.isLt]
  unfold iblk
  rw [View.read_apply]
  refine eq_rd (rows m c) _ ?_ ?_
  · show win0_0.index t (0 : Fin 2) * 256 + 1 * p.val = _
    rw [e0]; omega
  · show win0_0.index t (1 : Fin 2) * 1024 + 1 * q.val = _
    rw [e1]; omega

theorem block1 (c : Dev nD) (t : Fin cfg0.N) (p : Fin 1024) (q : Fin 2816) :
    rd (a := 1024) (b := 2816) (iblk m c 1 t) p.val q.val = rd (weight m c) p.val q.val := by
  obtain ⟨e0, e1⟩ := index1 t
  rw [rd_of_lt (a := 1024) (b := 2816) _ p.isLt q.isLt]
  unfold iblk
  rw [View.read_apply]
  refine eq_rd (weight m c) _ ?_ ?_
  · show win0_1.index t (0 : Fin 2) * 1024 + 1 * p.val = _
    rw [e0]; omega
  · show win0_1.index t (1 : Fin 2) * 2816 + 1 * q.val = _
    rw [e1]; omega

theorem block2 (c : Dev nD) (t : Fin cfg0.N) (p : Fin 1024) (q : Fin 2816) :
    rd (a := 1024) (b := 2816) (iblk m c 2 t) p.val q.val = rd (weight m c) p.val (2816 + q.val) := by
  obtain ⟨e0, e1⟩ := index2 t
  rw [rd_of_lt (a := 1024) (b := 2816) _ p.isLt q.isLt]
  unfold iblk
  rw [View.read_apply]
  refine eq_rd (weight m c) _ ?_ ?_
  · show win0_2.index t (0 : Fin 2) * 1024 + 1 * p.val = _
    rw [e0]; omega
  · show win0_2.index t (1 : Fin 2) * 2816 + 1 * q.val = _
    rw [e1]; omega

/-- Each half of the product computed from the blocks at a grid point is that of the whole arrays. -/
theorem prod_left (c : Dev nD) (t : Fin cfg0.N) (p : Fin 256) (q : Fin 2816) :
    prod (n := 256) (k := 2816) (iblk m c 0 t) (iblk m c 1 t) p.val q.val = prod (rows m c) (weight m c) (256 * t.val + p.val) q.val :=
  Finset.sum_congr rfl fun j _ => congrArg₂ (· * ·) (block0 m c t p j) (block1 m c t j q)
theorem prod_right (c : Dev nD) (t : Fin cfg0.N) (p : Fin 256) (q : Fin 2816) :
    prod (n := 256) (k := 2816) (iblk m c 0 t) (iblk m c 2 t) p.val q.val
      = prod (rows m c) (weight m c) (256 * t.val + p.val) (2816 + q.val) :=
  Finset.sum_congr rfl fun j _ => congrArg₂ (· * ·) (block0 m c t p j) (block2 m c t j q)

theorem halves_block (c : Dev nD) (t : Fin cfg0.N) (p : Fin 256) (q : Fin 5632) :
    halves (iblk m c 0 t) (iblk m c 1 t) (iblk m c 2 t) p.val q.val = prod (rows m c) (weight m c) (256 * t.val + p.val) q.val := by
  have hq := q.isLt
  unfold halves
  by_cases h : q.val < 2816
  · rw [if_pos h]
    exact prod_left m c t p ⟨q.val, h⟩
  · rw [if_neg h]
    refine (prod_right m c t p ⟨q.val - 2816, by omega⟩).trans ?_
    dsimp only
    rw [Nat.add_sub_cancel' (by omega)]

/-! ## The result arrays after the run -/

theorem first_result (c : Dev nD) (i : S4096x5632.Idx) :
    ((dats m 0 c).arrAt 3 cfg0.N i : EReal) = prod (rows m c) (weight m c) (i 0).val (i 1).val := by
  have hi0 : (i 0).val < 4096 := (i 0).isLt
  have hN : (i 0).val / 256 < cfg0.N := lt_of_lt_of_eq (by omega : (i 0).val / 256 < 16) (show 16 = cfg0.N from N_0.symm)
  obtain ⟨t, ht⟩ : ∃ t : Fin cfg0.N, t.val = (i 0).val / 256 := ⟨⟨_, hN⟩, rfl⟩
  obtain ⟨e0, e1⟩ := index3 t
  let p : Fin 256 := ⟨(i 0).val % 256, Nat.mod_lt _ (by decide)⟩
  have hb := congrFun ((blocks3 m c t (flush3 t)).trans (flushed3 m c t)) (ix2 p (i 1))
  rw [View.read_apply] at hb
  have hix : ((cfg0.win 3).blk t).view.emb (ix2 p (i 1)) = i := by
    funext x
    match x with
    | ⟨0, _⟩ =>
      refine Fin.ext ?_
      show win0_3.index t (0 : Fin 2) * 256 + 1 * ((i 0).val % 256) = (i 0).val
      rw [e0]; omega
    | ⟨1, _⟩ =>
      refine Fin.ext ?_
      show win0_3.index t (1 : Fin 2) * 5632 + 1 * (i 1).val = (i 1).val
      rw [e1]; omega
  rw [hix] at hb
  have e : 256 * t.val + p.val = (i 0).val := by show 256 * t.val + (i 0).val % 256 = _; omega
  exact (hb.trans (first_entry _ _ _ _)).trans ((halves_block m c t p (i 1)).trans (congrArg (fun r => prod (rows m c) (weight m c) r (i 1).val) e))

theorem second_result (c : Dev nD) (i : S4096x2816.Idx) :
    ((dats m 0 c).arrAt 4 cfg0.N i : EReal)
      = gate (prod (rows m c) (weight m c) (i 0).val (i 1).val) (prod (rows m c) (weight m c) (i 0).val (2816 + (i 1).val)) := by
  have hi0 : (i 0).val < 4096 := (i 0).isLt
  have hN : (i 0).val / 256 < cfg0.N := lt_of_lt_of_eq (by omega : (i 0).val / 256 < 16) (show 16 = cfg0.N from N_0.symm)
  obtain ⟨t, ht⟩ : ∃ t : Fin cfg0.N, t.val = (i 0).val / 256 := ⟨⟨_, hN⟩, rfl⟩
  obtain ⟨e0, e1⟩ := index4 t
  let p : Fin 256 := ⟨(i 0).val % 256, Nat.mod_lt _ (by decide)⟩
  have hb := congrFun ((blocks4 m c t (flush4 t)).trans (flushed4 m c t)) (ix2 p (i 1))
  rw [View.read_apply] at hb
  have hix : ((cfg0.win 4).blk t).view.emb (ix2 p (i 1)) = i := by
    funext x
    match x with
    | ⟨0, _⟩ =>
      refine Fin.ext ?_
      show win0_4.index t (0 : Fin 2) * 256 + 1 * ((i 0).val % 256) = (i 0).val
      rw [e0]; omega
    | ⟨1, _⟩ =>
      refine Fin.ext ?_
      show win0_4.index t (1 : Fin 2) * 2816 + 1 * (i 1).val = (i 1).val
      rw [e1]; omega
  rw [hix] at hb
  have e : 256 * t.val + p.val = (i 0).val := by show 256 * t.val + (i 0).val % 256 = _; omega
  refine (hb.trans (second_entry (iblk m c 0 t) (iblk m c 1 t) (iblk m c 2 t) p (i 1))).trans ?_
  refine congrArg₂ gate (prod_left m c t p (i 1)) (prod_right m c t p (i 1)) |>.trans ?_
  rw [e]

/-! ## The reference -/

section Reference
variable (x : S4096x1024.Idx → EReal) (w : S1024x5632.Idx → EReal)

theorem ref_first (a : Fin 4096) (b : Fin 5632) :
    (Cert.Reference18Ideal.Read.val_main_v3 (F := Ideal) x w (ix2 a b) : EReal) = prod x w a.val b.val := by
  rw [← prod_eq]
  pointwise [Cert.Reference18Ideal.Read.val_main_v3, Cert.Reference18Ideal.Read.val_main_v2, Cert.Reference18Ideal.Read.val_main_v1, Cert.Reference18Ideal.Read.val_main_v0]

theorem ref_left (a : Fin 4096) (b : Fin 2816) :
    (Cert.Reference18Ideal.Read.val_main_v5 (F := Ideal) x w (ix2 a b) : EReal) = prod x w a.val b.val := by
  refine Eq.trans ?_ (ref_first x w a ⟨b.val, by omega⟩)
  pointwise [Cert.Reference18Ideal.Read.val_main_v5, Cert.Reference18Ideal.Read.val_main_v4]
theorem ref_right (a : Fin 4096) (b : Fin 2816) :
    (Cert.Reference18Ideal.Read.val_main_v7 (F := Ideal) x w (ix2 a b) : EReal) = prod x w a.val (2816 + b.val) := by
  refine Eq.trans ?_ (ref_first x w a ⟨2816 + b.val, by omega⟩)
  pointwise [Cert.Reference18Ideal.Read.val_main_v7, Cert.Reference18Ideal.Read.val_main_v4]

/-- The logistic, as the reference computes it. -/
theorem ref_logistic (a : Fin 4096) (b : Fin 2816) :
    (Cert.Reference18Ideal.Read.val_main_call0_v5 (F := Ideal) x w (ix2 a b) : EReal) = Ideal.logistic (prod x w a.val b.val) := by
  rw [← ref_left]
  pointwise [Cert.Reference18Ideal.Read.val_main_call0_v5, Cert.Reference18Ideal.Read.val_main_call0_v4, Cert.Reference18Ideal.Read.val_main_call0_v3, Cert.Reference18Ideal.Read.val_main_call0_v2, Cert.Reference18Ideal.Read.val_main_call0_v1, Cert.Reference18Ideal.Read.val_main_call0_v0, Cert.Reference18Ideal.Read.val_main_call0_cst, Cert.Reference18Ideal.Read.val_main_call0_cst_0]
  rfl

theorem ref_second (a : Fin 4096) (b : Fin 2816) :
    (Cert.Reference18Ideal.Read.val_main_v9 (F := Ideal) x w (ix2 a b) : EReal)
      = gate (prod x w a.val b.val) (prod x w a.val (2816 + b.val)) := by
  pointwise [Cert.Reference18Ideal.Read.val_main_v9, Cert.Reference18Ideal.Read.val_main_v8, Cert.Reference18Ideal.Read.val_main_v6]
  rw [ref_logistic, ref_left, ref_right]

end Reference

theorem first_eq (c : Dev nD) :
    (dats m 0 c).arrAt 3 cfg0.N = Cert.Reference18Ideal.Read.val_main_v3 (F := Ideal) (rows m c) (weight m c) := by
  funext i
  refine (first_result m c i).trans ?_
  rw [eq_ix2 i]
  exact (ref_first _ _ (i 0) (i 1)).symm
theorem second_eq (c : Dev nD) :
    (dats m 0 c).arrAt 4 cfg0.N = Cert.Reference18Ideal.Read.val_main_v9 (F := Ideal) (rows m c) (weight m c) := by
  funext i
  refine (second_result m c i).trans ?_
  rw [eq_ix2 i]
  exact (ref_second _ _ (i 0) (i 1)).symm

/-- The claim: from the same arguments the kernel and the reference end with the same result arrays. -/
theorem algebraic : Cert.algebraic_Kernel18Ideal_Reference18Ideal := by
  intro m g m' g' _ h
  refine ⟨fun c => (dats m 0 c).arrAt 3 cfg0.N, fun c => (dats m 0 c).arrAt 4 cfg0.N, run_blocks m g,
    (θ_run _ _ _).mono (fun r hr c => ?_) (Cert.Reference18Ideal.Value.run m' g')⟩
  obtain ⟨h0, h1⟩ := h c
  obtain ⟨hv, hw, ha⟩ := hr c
  refine ⟨?_, ?_, ha⟩
  · rw [hv, h0, h1]
    exact (first_eq m c).symm
  · rw [hw, h0, h1]
    exact (second_eq m c).symm

end Cert.Kernel18Ideal.Gate

end
-- ==== Proof.PeerSum.lean ====
module

public import Idealize.ShloMosaic.Lib.Pointwise
public import Idealize.ShloMosaic.Lib.Tactic

/-!
# Picking a numbered block

What the sums over the devices need of their index: a checked number is in range, and a sum in which every other entry
counts as zero is the numbered entry.
-/

@[expose] public section

namespace Cert.PeerSum

open Idealize.ShloMosaic

/-- A word that passes the two comparisons is a number below the bound. -/
theorem below (x : BitVec 32) (k : ℕ) (hk : k < 2 ^ 31) (h : IntOp.andi (IntOp.cmpi .sge x 0#32) (IntOp.cmpi .slt x (BitVec.ofNat 32 k)) = 1#1) :
    x.toNat < k := by
  have hx := x.isLt
  by_contra hc
  revert h
  have hk' : (BitVec.ofNat 32 k).toInt = k := by
    rw [BitVec.toInt_eq_toNat_cond, BitVec.toNat_ofNat, Nat.mod_eq_of_lt (by omega)]; split <;> omega
  simp only [IntOp.andi, IntOp.cmpi, BitVec.sle_eq_decide, BitVec.slt_eq_decide, hk']
  have h0 : (0#32 : BitVec 32).toInt = 0 := rfl
  rw [h0]
  by_cases h1 : x.toNat < 2 ^ 31
  · have : x.toInt = x.toNat := by rw [BitVec.toInt_eq_toNat_cond]; split <;> omega
    rw [this, decide_eq_false (p := (x.toNat : ℤ) < k) (by omega)]
    cases decide ((0 : ℤ) ≤ x.toNat) <;> decide
  · have : x.toInt < 0 := by rw [BitVec.toInt_eq_toNat_cond]; split <;> omega
    rw [decide_eq_false (p := (0 : ℤ) ≤ x.toInt) (by omega)]
    cases decide (x.toInt < k) <;> decide

/-- The sum over a number's entries in which the others count as zero is the entry with that number. -/
theorem pick {n : ℕ} (f : Fin n → EReal) (a : Fin n) (x : BitVec 32) (hn : n < 2 ^ 32) (hx : x.toNat = a.val) :
    (0 : EReal) + ∑ k : Fin n, Scalar.select (IntOp.cmpi .eq (BitVec.ofNat 32 k.val) x) (f k) 0 = f a := by
  rw [zero_add, Finset.sum_eq_single a]
  · have : BitVec.ofNat 32 a.val = x := by rw [← hx]; exact BitVec.eq_of_toNat_eq (by rw [BitVec.toNat_ofNat, Nat.mod_eq_of_lt x.isLt])
    rw [this]; simp [Scalar.select, IntOp.cmpi]
  · intro k _ hk
    have : BitVec.ofNat 32 k.val ≠ x := by
      intro h
      apply hk
      have := congrArg BitVec.toNat h
      rw [BitVec.toNat_ofNat, Nat.mod_eq_of_lt (by omega), hx] at this
      exact Fin.ext this
    have : (BitVec.ofNat 32 k.val == x) = false := by simpa using this
    simp [Scalar.select, IntOp.cmpi, this]
  · simp

end Cert.PeerSum
-- ==== Proof.Peers37.lean ====
module

public import proofs.«01_k».proof.Proof.PeerSum
public import proofs.«01_k».proof.Proof.Gen.Kernel37.Frame
public import proofs.«01_k».proof.Proof.Gen.Kernel37Ideal.Frame
public import proofs.«01_k».proof.Proof.Gen.Pre_placed37
public import proofs.«01_k».proof.Proof.Gen.Reference37Ideal.Read
public import proofs.«01_k».proof.Defs
public import Idealize.ShloMosaic.Lib.Pointwise
public import Idealize.ShloMosaic.Lib.Tactic
public import Idealize.ShloMosaic.Lib.Pipeline.Value

/-!
# The sum over the devices of a large weight's gradient

The body adds the seven received blocks to the device's own block, which it finds by the two numbers of the index. The
precondition keeps the numbers in range. The reference picks the own block by a sum in which every other block counts
as zero.
-/

@[expose] public section

set_option maxRecDepth 16384

noncomputable section

/-! ## The index is in range -/

namespace Cert.Kernel37.Peers

open Cert.Kernel37 Cert.Kernel37.Gen Idealize.ShloMosaic Idealize.ShloMosaic.TcCoe Idealize.SL.Sem
open Cert.PeerSum

/-- The precondition bounds the two numbers. -/
theorem bounds {F : FTy → Type} [FloatOps F] (p : FVec F Cert.Pre_placed37.S4x2x608x1024 .bf16) (r : FVec F Cert.Pre_placed37.S7x608x1024 .bf16)
    (sc : IVec S2 32) (o : FVec F Cert.Pre_placed37.S608x1024 .f32) (h : Cert.Pre_placed37.fn (F := F) p r sc o = fun _ => 1#1) :
    (sc (ix1 0)).toNat < 4 ∧ (sc (ix1 1)).toNat < 2 := by
  have h0 := congrFun h (ix1 0)
  have h1 := congrFun h (ix1 1)
  exact ⟨below _ 4 (by decide) h0, below _ 2 (by decide) h1⟩

/-- The two words of the table. -/
theorem entry (pf : pre0.Contents (Elt Bits)) : pf.at 0 (Rect.unit (s := S2) ![0] S1.size inb_S2_S1_0) numel1_S1 = pf 0 (ix1 0)
    ∧ pf.at 0 (Rect.unit (s := S2) ![1] S1.size inb_S2_S1_1) numel1_S1 = pf 0 (ix1 1) :=
  ⟨congrArg (pf 0) (funext fun | ⟨0, _⟩ => Fin.ext rfl), congrArg (pf 0) (funext fun | ⟨0, _⟩ => Fin.ext rfl)⟩

/-- Every block the index names is inside the array. -/
theorem ok (m : (ℓ : Loc nD τ sig) → Buf (Elt Bits) ℓ) (h : Cert.Pre_Kernel37 m) : Ok m := by
  obtain ⟨b0, b1⟩ := bounds _ _ _ _ (h 0)
  obtain ⟨e0, e1⟩ := entry (tbl m)
  intro i
  have hi : (i 0).val < 19 := (i 0).isLt
  refine ⟨fun a => ?_, .inr (Affine.block_words_dvd (of_decide_eq_true rfl) (by decide))⟩
  rw [show tbl m 0 = m ((0 : Dev nD).tc.loc main_arg2) from V_main_arg2 m 0] at e0 e1
  unfold cc0_transform_0
  rw [e0, e1]
  match a with
  | ⟨0, _⟩ => show (BitVec.toNat _ + 1) * 1 ≤ 4; omega
  | ⟨1, _⟩ => show (BitVec.toNat _ + 1) * 1 ≤ 2; omega
  | ⟨2, _⟩ => show (BitVec.toNat _ + 1) * 32 ≤ 608; rw [BitVec.toNat_ofNat]; omega
  | ⟨3, _⟩ => show (BitVec.toNat _ + 1) * 1024 ≤ 1024; decide

end Cert.Kernel37.Peers

namespace Cert.Kernel37Ideal.Peers

open Cert.Kernel37Ideal Cert.Kernel37Ideal.Gen Idealize.ShloMosaic Idealize.ShloMosaic.TcCoe Idealize.SL.Sem
open Cert.PeerSum
open Cert.Kernel37.Peers (bounds)

/-- The two words of the table. -/
theorem entry (pf : pre0.Contents (Elt Ideal)) : pf.at 0 (Rect.unit (s := S2) ![0] S1.size inb_S2_S1_0) numel1_S1 = pf 0 (ix1 0)
    ∧ pf.at 0 (Rect.unit (s := S2) ![1] S1.size inb_S2_S1_1) numel1_S1 = pf 0 (ix1 1) :=
  ⟨congrArg (pf 0) (funext fun | ⟨0, _⟩ => Fin.ext rfl), congrArg (pf 0) (funext fun | ⟨0, _⟩ => Fin.ext rfl)⟩

/-- Every block the index names is inside the array. -/
theorem ok (m : (ℓ : Loc nD τ sig) → Buf (Elt Ideal) ℓ) (h : Cert.Pre_Kernel37Ideal m) : Ok m := by
  obtain ⟨b0, b1⟩ := bounds _ _ _ _ (h 0)
  obtain ⟨e0, e1⟩ := entry (tbl m)
  intro i
  have hi : (i 0).val < 19 := (i 0).isLt
  refine ⟨fun a => ?_, .inr (Affine.block_words_dvd (of_decide_eq_true rfl) (by decide))⟩
  rw [show tbl m 0 = m ((0 : Dev nD).tc.loc main_arg2) from V_main_arg2 m 0] at e0 e1
  unfold cc0_transform_0
  rw [e0, e1]
  match a with
  | ⟨0, _⟩ => show (BitVec.toNat _ + 1) * 1 ≤ 4; omega
  | ⟨1, _⟩ => show (BitVec.toNat _ + 1) * 1 ≤ 2; omega
  | ⟨2, _⟩ => show (BitVec.toNat _ + 1) * 32 ≤ 608; rw [BitVec.toNat_ofNat]; omega
  | ⟨3, _⟩ => show (BitVec.toNat _ + 1) * 1024 ≤ 1024; decide

/-! ## One block, and the reference -/

theorem origin2 : (![(0 : ℕ), 0] : Fin 2 → ℕ) = fun _ => 0 := funext fun i => match i with | ⟨0, _⟩ => rfl | ⟨1, _⟩ => rfl
theorem origin4 : (![(0 : ℕ), 0, 0, 0] : Fin 4 → ℕ) = fun _ => 0 := funext fun i => match i with | ⟨0, _⟩ => rfl | ⟨1, _⟩ => rfl | ⟨2, _⟩ => rfl | ⟨3, _⟩ => rfl

/-- A block of the result: the device's own block and the seven received ones, added up. -/
theorem block (c : Dev nD) (i : grid0.Coords) (arg2 : Memref sig .tc .vmem S1x1x32x1024 .bf16) (harg2 : arg2.IsWhole)
    (arg3 : Memref sig .tc .vmem S7x32x1024 .bf16) (harg3 : arg3.IsWhole) (arg4 : Memref sig .tc .vmem S32x1024 .f32) (harg4 : arg4.IsWhole)
    (x0 : Vec Ideal S1x1x32x1024 .bf16) (x1 : Vec Ideal S7x32x1024 .bf16) (xt0 : TbBuf0 (F := Ideal) c tbM0_0) (p : Fin 32) (q : Fin 1024) :
    (out0_A_2 (F := Ideal) c i arg2 harg2 arg3 harg3 arg4 harg4 x0 x1 xt0 (ix2 p q) : EReal)
      = x0 (ix4 0 0 p q) + ∑ k : Fin 7, (x1 (ix3 k p q) : EReal) := by
  unfold out0_A_2
  rw [View.read_writes_eq_canon _ _ _ (cover0_A_2 (F := Ideal) c i arg2 harg2 arg3 harg3 arg4 harg4 x0 x1 xt0)]
  simp only [kernelRun0_A, kernelRun0_A.sl.r]
  rw [View.canon_unit_zero (S := S32x1024) origin2]
  simp only [View.readAt_eq_ld, harg2.read_unread, harg3.read_unread, View.ld_unit_zero (S := S1x1x32x1024) origin4]
  rw [Fin.sum_univ_seven]
  pointwise [k0_pay1]
  simp only [add_assoc]

section Reference
open Cert.Reference37Ideal.Read

/-- The reference's sum, entry by entry. -/
theorem ref (P : S4x2x608x1024.Idx → EReal) (R : S7x608x1024.Idx → EReal) (sc : IVec S2 32) (a : Fin 4) (b : Fin 2)
    (ha : (sc (ix1 0)).toNat = a.val) (hb : (sc (ix1 1)).toNat = b.val) (p : Fin 608) (q : Fin 1024) :
    (val_main_v22 (F := Ideal) P R sc (ix2 p q) : EReal) = P (ix4 a b p q) + ∑ k : Fin 7, R (ix3 k p q) := by
  have h11 : ∀ k : Fin 2, (val_main_v11 (F := Ideal) P sc (ix3 k p q) : EReal) = P (ix4 a k p q) := by
    intro k
    refine Eq.trans ?_ (pick (fun j : Fin 4 => P (ix4 j k p q)) a (sc (ix1 0)) (by decide) ha)
    rw [val_main_v11_apply]
    pointwise [val_main_v10, val_main_call0_v1, val_main_call0_v2, val_main_call0_v0, val_main_cst, val_main_v9, val_main_v8, val_main_v7, val_main_v6, val_main_v5, val_main_v4, val_main_v3, val_main_cst_0]
    refine Finset.sum_congr rfl fun x _ => ?_
    rw [show idx_main_v11 (ix3 k p q) x = ix4 x k p q from funext fun | ⟨0, _⟩ => rfl | ⟨1, _⟩ => rfl | ⟨2, _⟩ => rfl | ⟨3, _⟩ => rfl]
    pointwise [id]
  have h19 : (val_main_v19 (F := Ideal) P sc (ix2 p q) : EReal) = P (ix4 a b p q) := by
    refine Eq.trans ?_ (pick (fun j : Fin 2 => P (ix4 a j p q)) b (sc (ix1 1)) (by decide) hb)
    rw [val_main_v19_apply]
    simp only [← h11]
    pointwise [val_main_v18, val_main_call1_v1, val_main_call1_v2, val_main_call1_v0, val_main_cst_1, val_main_v17, val_main_v16, val_main_v15, val_main_v14, val_main_v13, val_main_v12, val_main_cst_2]
    refine Finset.sum_congr rfl fun x _ => ?_
    rw [show idx_main_v19 (ix2 p q) x = ix3 x p q from funext fun | ⟨0, _⟩ => rfl | ⟨1, _⟩ => rfl | ⟨2, _⟩ => rfl]
    pointwise [id]
  rw [val_main_v22_apply, val_main_v21_apply, h19]
  pointwise [val_main_v20, val_main_cst_3]
  refine congrArg (_ + ·) (Finset.sum_congr rfl fun x _ => congrArg R (funext fun | ⟨0, _⟩ => rfl | ⟨1, _⟩ => rfl | ⟨2, _⟩ => rfl))
end Reference

section Whole
variable (m : (ℓ : Loc nD τ sig) → Buf (Elt Ideal) ℓ) (hO : Ok m) (c : Dev nD)
abbrev P : S4x2x608x1024.Idx → EReal := m ((c : Thread nD τ).loc main_arg0)
abbrev R : S7x608x1024.Idx → EReal := m ((c : Thread nD τ).loc main_arg1)
abbrev SC : IVec S2 32 := m ((c : Thread nD τ).loc main_arg2)

/-- The grid's points are numbered in order. -/
theorem number : ∀ t : Fin grid0.N, (BitVec.ofNat 32 (grid0.coords t 0).val).toNat = t.val := by decide +kernel

/-- The call leaves the reference's sum. -/
theorem left (a : Fin 4) (b : Fin 2) (ha : (SC m c (ix1 0)).toNat = a.val) (hb : (SC m c (ix1 1)).toNat = b.val) :
    (dats m hO 0 c).arrAt 2 (cfgM m hO).N = Cert.Reference37Ideal.Read.val_main_v22 (F := Ideal) (P m c) (R m c) (SC m c) := by
  have hc : c = 0 := Subsingleton.elim _ _
  subst hc
  have ha' : (m ((0 : Dev nD).tc.loc main_arg2) (ix1 0)).toNat = a.val := ha
  have hb' : (m ((0 : Dev nD).tc.loc main_arg2) (ix1 1)).toNat = b.val := hb
  obtain ⟨e0, e1⟩ := entry (tbl m)
  rw [show tbl m 0 = m ((0 : Dev nD).tc.loc main_arg2) from V_main_arg2 m 0] at e0 e1
  have place : ∀ (t : Fin (cfgM m hO).N) (p : Fin 32) (q : Fin 1024), (((cfgM m hO).win 2).blk t).view.emb (ix2 p q)
      = (ix2 ⟨t.val * 32 + p.val, by have := t.isLt; have : (cfgM m hO).N = 19 := N_0; omega⟩ q : S608x1024.Idx) := by
    intro t p q
    funext x; apply Fin.ext
    match x with
    | ⟨0, _⟩ => show (BitVec.ofNat 32 (grid0.coords t 0).val).toNat * 32 + 1 * p.val = t.val * 32 + p.val; rw [number t]; omega
    | ⟨1, _⟩ => show (0#32 : BitVec 32).toNat * 1024 + 1 * q.val = q.val; simp
  refine (dats m hO 0 0).arrAt_eq_of_cover 2 _ (fun t _ => ?_) fun (i : S608x1024.Idx) => ?_
  · show ((cfgM m hO).win 2).cut (grid0.coords t) ((dats m hO 0 0).after 2 t) = _
    rw [after0_2]
    unfold outsAt0
    refine funext fun (j : S32x1024.Idx) => ?_
    obtain ⟨p, q, rfl⟩ : ∃ p q, j = ix2 p q := ⟨j 0, j 1, funext fun | ⟨0, _⟩ => rfl | ⟨1, _⟩ => rfl⟩
    refine (block _ _ _ _ _ _ _ _ _ _ _ p q).trans ?_
    refine Eq.trans ?_ (congrArg (Cert.Reference37Ideal.Read.val_main_v22 (F := Ideal) (P m 0) (R m 0) (SC m 0)) (place t p q).symm)
    rw [ref _ _ _ a b ha hb]
    refine congrArg₂ (· + ·) ?_ (Finset.sum_congr rfl fun k _ => ?_)
    · refine Eq.trans (congrArg (V m 0 main_arg0) (funext fun x => Fin.ext ?_)) (congrFun (V_main_arg0 m 0) _)
      match x with
      | ⟨0, _⟩ => show ((tbl m).at 0 _ _).toNat * 1 + 1 * 0 = a.val; rw [e0, ha']; omega
      | ⟨1, _⟩ => show ((tbl m).at 0 _ _).toNat * 1 + 1 * 0 = b.val; rw [e1, hb']; omega
      | ⟨2, _⟩ => show (BitVec.ofNat 32 (grid0.coords t 0).val).toNat * 32 + 1 * p.val = t.val * 32 + p.val; rw [number t]; omega
      | ⟨3, _⟩ => show (0#32 : BitVec 32).toNat * 1024 + 1 * q.val = q.val; simp
    · refine Eq.trans (congrArg (V m 0 main_arg1) (funext fun x => Fin.ext ?_)) (congrFun (V_main_arg1 m 0) _)
      match x with
      | ⟨0, _⟩ => show (0#32 : BitVec 32).toNat * 7 + 1 * k.val = k.val; simp
      | ⟨1, _⟩ => show (BitVec.ofNat 32 (grid0.coords t 0).val).toNat * 32 + 1 * p.val = t.val * 32 + p.val; rw [number t]; omega
      | ⟨2, _⟩ => show (0#32 : BitVec 32).toNat * 1024 + 1 * q.val = q.val; simp
  · have hi : (i 0).val < 608 := (i 0).isLt
    have hN : (cfgM m hO).N = 19 := N_0
    refine ⟨⟨(i 0).val / 32, by omega⟩, flush0_2 _ _, ?_⟩
    let t : Fin (cfgM m hO).N := ⟨(i 0).val / 32, by omega⟩
    refine (congrArg (fun z => z ∈ (((cfgM m hO).win 2).blk t).view.set) ((place t ⟨(i 0).val % 32, Nat.mod_lt _ (by decide)⟩ (i 1)).trans
      (funext fun x => Fin.ext ?_))).mp (View.emb_mem_set _ _)
    match x with
    | ⟨0, _⟩ => show (i 0).val / 32 * 32 + (i 0).val % 32 = (i 0).val; omega
    | ⟨1, _⟩ => rfl

/-- What the lines after the call make of the flag, the call's array and the other half. -/
abbrev both (f : IVec S_ 1) (x o : S608x1024.Idx → EReal) : S1216x1024.Idx → EReal :=
  concatenate S1216x1024 0 [⟨S608x1024, select (broadcastInDim S608x1024 ![] bcast_S_S608x1024 f) x o⟩,
    ⟨S608x1024, select (broadcastInDim S608x1024 ![] bcast_S_S608x1024 f) o x⟩] concatenates_S608x1024_S608x1024_S1216x1024_d0

theorem alike {f f' : IVec S_ 1} {x x' o o' : S608x1024.Idx → EReal} (hf : f = f') (hx : x = x') (ho : o = o') : both f x o = both f' x' o' := by
  rw [hf, hx, ho]

/-- The lines after the call, from any contents. -/
theorem tail (W : Valuation τ sig (Elt Ideal)) :
    StableHlo.after (List.flatten [hostOps1, hostOps1_1, hostOps1_2]) W (Proc.devRef .tc main_v7)
      = extractStridedSlice S512x1024 ![0, 0] (both (W (Proc.devRef .tc main_v2)) (W (Proc.devRef .tc main_v3)) (W (Proc.devRef .tc main_arg3))) slices_S1216x1024_S512x1024_0_0
    ∧ StableHlo.after (List.flatten [hostOps1, hostOps1_1, hostOps1_2]) W (Proc.devRef .tc main_v8)
      = extractStridedSlice S704x1024 ![512, 0] (both (W (Proc.devRef .tc main_v2)) (W (Proc.devRef .tc main_v3)) (W (Proc.devRef .tc main_arg3))) slices_S1216x1024_S704x1024_512_0 := by
  constructor <;>
  · simp only [hostOps1, hostOps1_1, hostOps1_2, List.flatten_cons, List.flatten_nil, List.cons_append, List.nil_append, List.append_nil]
    after_results <;> rfl

/-- The flag the first lines compute. -/
theorem flag : V m c main_v2 = Cert.Reference37Ideal.Read.val_main_v2 (F := Ideal) (SC m c) := by
  entry_read
  rfl

abbrev O : S608x1024.Idx → EReal := m ((c : Thread nD τ).loc main_arg3)

open Cert.Reference37Ideal.Read in
/-- The kernel's run ends with the reference's two arrays. -/
theorem run (ρ : Dev nD → PrngReg) (h : Cert.Pre_Kernel37Ideal m) :
    θ_run defs (onTc (τ := τ) (main (F := Ideal))) ⟨m, fun _ => 0, ρ⟩ (fun r => ∀ c : Dev nD,
      r.2.mem ((c.tc : Thread nD τ).loc main_v7) = val_main_v26 (F := Ideal) (P m c) (R m c) (SC m c) (O m c)
      ∧ r.2.mem ((c.tc : Thread nD τ).loc main_v8) = val_main_v27 (F := Ideal) (P m c) (R m c) (SC m c) (O m c)) := by
  have hO := ok m h
  refine (θ_run _ _ _).mono (fun r hr c => ?_) (run_main m ρ hO)
  obtain ⟨b0, b1⟩ := bounds _ _ _ _ (h c)
  have h3 := left m hO c ⟨_, b0⟩ ⟨_, b1⟩ rfl rfl
  have q7 := (hr c).2 main_v7 (Pipeline.mem_restRefs_of main_v7 (by decide) (by exact (by decide : ∀ w, Pipeline.arrRef spec0 w ≠ main_v7)))
  have q8 := (hr c).2 main_v8 (Pipeline.mem_restRefs_of main_v8 (by decide) (by exact (by decide : ∀ w, Pipeline.arrRef spec0 w ≠ main_v8)))
  unfold Pipeline.afterTail at q7 q8
  rw [(tail _).1] at q7
  rw [(tail _).2] at q8
  have w2 := Pipeline.withArrays_of_ne spec0 c (V0 m c) (fun w => (dats m hO 0 c).arrAt w (cfgM m hO).N) main_v2
    (by exact (by decide : ∀ w, Pipeline.arrRef spec0 w ≠ main_v2))
  have wo := Pipeline.withArrays_of_ne spec0 c (V0 m c) (fun w => (dats m hO 0 c).arrAt w (cfgM m hO).N) main_arg3
    (by exact (by decide : ∀ w, Pipeline.arrRef spec0 w ≠ main_arg3))
  have w3 := Pipeline.withArrays_arr spec0 (launch0 (F := Ideal)).win.arr_inj c (V0 m c) (fun w => (dats m hO 0 c).arrAt w (cfgM m hO).N) 2
  have key := alike (w2.trans (flag m c)) (w3.trans h3) (wo.trans (V_main_arg3 m c))
  exact ⟨q7.trans (congrArg (fun z => extractStridedSlice S512x1024 ![0, 0] z slices_S1216x1024_S512x1024_0_0) key),
    q8.trans (congrArg (fun z => extractStridedSlice S704x1024 ![512, 0] z slices_S1216x1024_S704x1024_512_0) key)⟩

end Whole

/-- The claim: from the same arguments the kernel and the reference end with the same two arrays. -/
theorem algebraic : Cert.algebraic_Kernel37Ideal_Reference37Ideal := by
  intro m g m' g' hp h
  refine ⟨_, _, (θ_run _ _ _).mono (fun r hr c => ⟨(hr.1 c).1, (hr.1 c).2, hr.2 c⟩) (θ_run_and (run m g hp) (unchanged m g (ok m hp))),
    (θ_run _ _ _).mono (fun r hr c => ⟨(hr c).1.trans ?_, (hr c).2.1.trans ?_, (hr c).2.2⟩) (Cert.Reference37Ideal.Value.run m' g')⟩
  all_goals obtain ⟨h0, h1, h2, h3⟩ := h c; rw [h0, h1, h2, h3]
  · exact Cert.Reference37Ideal.Read.val_main_v26_eq _ _ _ _
  · exact Cert.Reference37Ideal.Read.val_main_v27_eq _ _ _ _

end Cert.Kernel37Ideal.Peers

end
-- ==== Proof.Peers38.lean ====
module

public import proofs.«01_k».proof.Proof.PeerSum
public import proofs.«01_k».proof.Proof.Gen.Kernel38.Frame
public import proofs.«01_k».proof.Proof.Gen.Kernel38Ideal.Frame
public import proofs.«01_k».proof.Proof.Gen.Pre_placed38
public import proofs.«01_k».proof.Proof.Gen.Reference38Ideal.Read
public import proofs.«01_k».proof.Defs
public import Idealize.ShloMosaic.Lib.Pointwise
public import Idealize.ShloMosaic.Lib.Tactic
public import Idealize.ShloMosaic.Lib.Pipeline.Value

/-!
# The sum over the devices of a large weight's gradient

The body adds the seven received blocks to the device's own block, which it finds by the two numbers of the index. The
precondition keeps the numbers in range. The reference picks the own block by a sum in which every other block counts
as zero.
-/

@[expose] public section

set_option maxRecDepth 16384

noncomputable section

/-! ## The index is in range -/

namespace Cert.Kernel38.Peers

open Cert.Kernel38 Cert.Kernel38.Gen Idealize.ShloMosaic Idealize.ShloMosaic.TcCoe Idealize.SL.Sem
open Cert.PeerSum

/-- The precondition bounds the two numbers. -/
theorem bounds {F : FTy → Type} [FloatOps F] (p : FVec F Cert.Pre_placed38.S4x2x480x1024 .bf16) (r : FVec F Cert.Pre_placed38.S7x480x1024 .bf16)
    (sc : IVec S2 32) (o : FVec F Cert.Pre_placed38.S480x1024 .f32) (h : Cert.Pre_placed38.fn (F := F) p r sc o = fun _ => 1#1) :
    (sc (ix1 0)).toNat < 4 ∧ (sc (ix1 1)).toNat < 2 := by
  have h0 := congrFun h (ix1 0)
  have h1 := congrFun h (ix1 1)
  exact ⟨below _ 4 (by decide) h0, below _ 2 (by decide) h1⟩

/-- The two words of the table. -/
theorem entry (pf : pre0.Contents (Elt Bits)) : pf.at 0 (Rect.unit (s := S2) ![0] S1.size inb_S2_S1_0) numel1_S1 = pf 0 (ix1 0)
    ∧ pf.at 0 (Rect.unit (s := S2) ![1] S1.size inb_S2_S1_1) numel1_S1 = pf 0 (ix1 1) :=
  ⟨congrArg (pf 0) (funext fun | ⟨0, _⟩ => Fin.ext rfl), congrArg (pf 0) (funext fun | ⟨0, _⟩ => Fin.ext rfl)⟩

/-- Every block the index names is inside the array. -/
theorem ok (m : (ℓ : Loc nD τ sig) → Buf (Elt Bits) ℓ) (h : Cert.Pre_Kernel38 m) : Ok m := by
  obtain ⟨b0, b1⟩ := bounds _ _ _ _ (h 0)
  obtain ⟨e0, e1⟩ := entry (tbl m)
  intro i
  have hi : (i 0).val < 2 := (i 0).isLt
  refine ⟨fun a => ?_, .inr (Affine.block_words_dvd (of_decide_eq_true rfl) (by decide))⟩
  rw [show tbl m 0 = m ((0 : Dev nD).tc.loc main_arg2) from V_main_arg2 m 0] at e0 e1
  unfold cc0_transform_0
  rw [e0, e1]
  match a with
  | ⟨0, _⟩ => show (BitVec.toNat _ + 1) * 1 ≤ 4; omega
  | ⟨1, _⟩ => show (BitVec.toNat _ + 1) * 1 ≤ 2; omega
  | ⟨2, _⟩ => show (BitVec.toNat _ + 1) * 240 ≤ 480; rw [BitVec.toNat_ofNat]; omega
  | ⟨3, _⟩ => show (BitVec.toNat _ + 1) * 1024 ≤ 1024; decide

end Cert.Kernel38.Peers

namespace Cert.Kernel38Ideal.Peers

open Cert.Kernel38Ideal Cert.Kernel38Ideal.Gen Idealize.ShloMosaic Idealize.ShloMosaic.TcCoe Idealize.SL.Sem
open Cert.PeerSum
open Cert.Kernel38.Peers (bounds)

/-- The two words of the table. -/
theorem entry (pf : pre0.Contents (Elt Ideal)) : pf.at 0 (Rect.unit (s := S2) ![0] S1.size inb_S2_S1_0) numel1_S1 = pf 0 (ix1 0)
    ∧ pf.at 0 (Rect.unit (s := S2) ![1] S1.size inb_S2_S1_1) numel1_S1 = pf 0 (ix1 1) :=
  ⟨congrArg (pf 0) (funext fun | ⟨0, _⟩ => Fin.ext rfl), congrArg (pf 0) (funext fun | ⟨0, _⟩ => Fin.ext rfl)⟩

/-- Every block the index names is inside the array. -/
theorem ok (m : (ℓ : Loc nD τ sig) → Buf (Elt Ideal) ℓ) (h : Cert.Pre_Kernel38Ideal m) : Ok m := by
  obtain ⟨b0, b1⟩ := bounds _ _ _ _ (h 0)
  obtain ⟨e0, e1⟩ := entry (tbl m)
  intro i
  have hi : (i 0).val < 2 := (i 0).isLt
  refine ⟨fun a => ?_, .inr (Affine.block_words_dvd (of_decide_eq_true rfl) (by decide))⟩
  rw [show tbl m 0 = m ((0 : Dev nD).tc.loc main_arg2) from V_main_arg2 m 0] at e0 e1
  unfold cc0_transform_0
  rw [e0, e1]
  match a with
  | ⟨0, _⟩ => show (BitVec.toNat _ + 1) * 1 ≤ 4; omega
  | ⟨1, _⟩ => show (BitVec.toNat _ + 1) * 1 ≤ 2; omega
  | ⟨2, _⟩ => show (BitVec.toNat _ + 1) * 240 ≤ 480; rw [BitVec.toNat_ofNat]; omega
  | ⟨3, _⟩ => show (BitVec.toNat _ + 1) * 1024 ≤ 1024; decide

/-! ## One block, and the reference -/

theorem origin2 : (![(0 : ℕ), 0] : Fin 2 → ℕ) = fun _ => 0 := funext fun i => match i with | ⟨0, _⟩ => rfl | ⟨1, _⟩ => rfl
theorem origin4 : (![(0 : ℕ), 0, 0, 0] : Fin 4 → ℕ) = fun _ => 0 := funext fun i => match i with | ⟨0, _⟩ => rfl | ⟨1, _⟩ => rfl | ⟨2, _⟩ => rfl | ⟨3, _⟩ => rfl

/-- A block of the result: the device's own block and the seven received ones, added up. -/
theorem block (c : Dev nD) (i : grid0.Coords) (arg2 : Memref sig .tc .vmem S1x1x240x1024 .bf16) (harg2 : arg2.IsWhole)
    (arg3 : Memref sig .tc .vmem S7x240x1024 .bf16) (harg3 : arg3.IsWhole) (arg4 : Memref sig .tc .vmem S240x1024 .f32) (harg4 : arg4.IsWhole)
    (x0 : Vec Ideal S1x1x240x1024 .bf16) (x1 : Vec Ideal S7x240x1024 .bf16) (xt0 : TbBuf0 (F := Ideal) c tbM0_0) (p : Fin 240) (q : Fin 1024) :
    (out0_A_2 (F := Ideal) c i arg2 harg2 arg3 harg3 arg4 harg4 x0 x1 xt0 (ix2 p q) : EReal)
      = x0 (ix4 0 0 p q) + ∑ k : Fin 7, (x1 (ix3 k p q) : EReal) := by
  unfold out0_A_2
  rw [View.read_writes_eq_canon _ _ _ (cover0_A_2 (F := Ideal) c i arg2 harg2 arg3 harg3 arg4 harg4 x0 x1 xt0)]
  simp only [kernelRun0_A, kernelRun0_A.sl.r]
  rw [View.canon_unit_zero (S := S240x1024) origin2]
  simp only [View.readAt_eq_ld, harg2.read_unread, harg3.read_unread, View.ld_unit_zero (S := S1x1x240x1024) origin4]
  rw [Fin.sum_univ_seven]
  pointwise [k0_pay1]
  simp only [add_assoc]

section Reference
open Cert.Reference38Ideal.Read

/-- The reference's sum, entry by entry. -/
theorem ref (P : S4x2x480x1024.Idx → EReal) (R : S7x480x1024.Idx → EReal) (sc : IVec S2 32) (a : Fin 4) (b : Fin 2)
    (ha : (sc (ix1 0)).toNat = a.val) (hb : (sc (ix1 1)).toNat = b.val) (p : Fin 480) (q : Fin 1024) :
    (val_main_v22 (F := Ideal) P R sc (ix2 p q) : EReal) = P (ix4 a b p q) + ∑ k : Fin 7, R (ix3 k p q) := by
  have h11 : ∀ k : Fin 2, (val_main_v11 (F := Ideal) P sc (ix3 k p q) : EReal) = P (ix4 a k p q) := by
    intro k
    refine Eq.trans ?_ (pick (fun j : Fin 4 => P (ix4 j k p q)) a (sc (ix1 0)) (by decide) ha)
    rw [val_main_v11_apply]
    pointwise [val_main_v10, val_main_call0_v1, val_main_call0_v2, val_main_call0_v0, val_main_cst, val_main_v9, val_main_v8, val_main_v7, val_main_v6, val_main_v5, val_main_v4, val_main_v3, val_main_cst_0]
    refine Finset.sum_congr rfl fun x _ => ?_
    rw [show idx_main_v11 (ix3 k p q) x = ix4 x k p q from funext fun | ⟨0, _⟩ => rfl | ⟨1, _⟩ => rfl | ⟨2, _⟩ => rfl | ⟨3, _⟩ => rfl]
    pointwise [id]
  have h19 : (val_main_v19 (F := Ideal) P sc (ix2 p q) : EReal) = P (ix4 a b p q) := by
    refine Eq.trans ?_ (pick (fun j : Fin 2 => P (ix4 a j p q)) b (sc (ix1 1)) (by decide) hb)
    rw [val_main_v19_apply]
    simp only [← h11]
    pointwise [val_main_v18, val_main_call1_v1, val_main_call1_v2, val_main_call1_v0, val_main_cst_1, val_main_v17, val_main_v16, val_main_v15, val_main_v14, val_main_v13, val_main_v12, val_main_cst_2]
    refine Finset.sum_congr rfl fun x _ => ?_
    rw [show idx_main_v19 (ix2 p q) x = ix3 x p q from funext fun | ⟨0, _⟩ => rfl | ⟨1, _⟩ => rfl | ⟨2, _⟩ => rfl]
    pointwise [id]
  rw [val_main_v22_apply, val_main_v21_apply, h19]
  pointwise [val_main_v20, val_main_cst_3]
  refine congrArg (_ + ·) (Finset.sum_congr rfl fun x _ => congrArg R (funext fun | ⟨0, _⟩ => rfl | ⟨1, _⟩ => rfl | ⟨2, _⟩ => rfl))
end Reference

section Whole
variable (m : (ℓ : Loc nD τ sig) → Buf (Elt Ideal) ℓ) (hO : Ok m) (c : Dev nD)
abbrev P : S4x2x480x1024.Idx → EReal := m ((c : Thread nD τ).loc main_arg0)
abbrev R : S7x480x1024.Idx → EReal := m ((c : Thread nD τ).loc main_arg1)
abbrev SC : IVec S2 32 := m ((c : Thread nD τ).loc main_arg2)

/-- The grid's points are numbered in order. -/
theorem number : ∀ t : Fin grid0.N, (BitVec.ofNat 32 (grid0.coords t 0).val).toNat = t.val := by decide +kernel

/-- The call leaves the reference's sum. -/
theorem left (a : Fin 4) (b : Fin 2) (ha : (SC m c (ix1 0)).toNat = a.val) (hb : (SC m c (ix1 1)).toNat = b.val) :
    (dats m hO 0 c).arrAt 2 (cfgM m hO).N = Cert.Reference38Ideal.Read.val_main_v22 (F := Ideal) (P m c) (R m c) (SC m c) := by
  have hc : c = 0 := Subsingleton.elim _ _
  subst hc
  have ha' : (m ((0 : Dev nD).tc.loc main_arg2) (ix1 0)).toNat = a.val := ha
  have hb' : (m ((0 : Dev nD).tc.loc main_arg2) (ix1 1)).toNat = b.val := hb
  obtain ⟨e0, e1⟩ := entry (tbl m)
  rw [show tbl m 0 = m ((0 : Dev nD).tc.loc main_arg2) from V_main_arg2 m 0] at e0 e1
  have place : ∀ (t : Fin (cfgM m hO).N) (p : Fin 240) (q : Fin 1024), (((cfgM m hO).win 2).blk t).view.emb (ix2 p q)
      = (ix2 ⟨t.val * 240 + p.val, by have := t.isLt; have : (cfgM m hO).N = 2 := N_0; omega⟩ q : S480x1024.Idx) := by
    intro t p q
    funext x; apply Fin.ext
    match x with
    | ⟨0, _⟩ => show (BitVec.ofNat 32 (grid0.coords t 0).val).toNat * 240 + 1 * p.val = t.val * 240 + p.val; rw [number t]; omega
    | ⟨1, _⟩ => show (0#32 : BitVec 32).toNat * 1024 + 1 * q.val = q.val; simp
  refine (dats m hO 0 0).arrAt_eq_of_cover 2 _ (fun t _ => ?_) fun (i : S480x1024.Idx) => ?_
  · show ((cfgM m hO).win 2).cut (grid0.coords t) ((dats m hO 0 0).after 2 t) = _
    rw [after0_2]
    unfold outsAt0
    refine funext fun (j : S240x1024.Idx) => ?_
    obtain ⟨p, q, rfl⟩ : ∃ p q, j = ix2 p q := ⟨j 0, j 1, funext fun | ⟨0, _⟩ => rfl | ⟨1, _⟩ => rfl⟩
    refine (block _ _ _ _ _ _ _ _ _ _ _ p q).trans ?_
    refine Eq.trans ?_ (congrArg (Cert.Reference38Ideal.Read.val_main_v22 (F := Ideal) (P m 0) (R m 0) (SC m 0)) (place t p q).symm)
    rw [ref _ _ _ a b ha hb]
    refine congrArg₂ (· + ·) ?_ (Finset.sum_congr rfl fun k _ => ?_)
    · refine Eq.trans (congrArg (V m 0 main_arg0) (funext fun x => Fin.ext ?_)) (congrFun (V_main_arg0 m 0) _)
      match x with
      | ⟨0, _⟩ => show ((tbl m).at 0 _ _).toNat * 1 + 1 * 0 = a.val; rw [e0, ha']; omega
      | ⟨1, _⟩ => show ((tbl m).at 0 _ _).toNat * 1 + 1 * 0 = b.val; rw [e1, hb']; omega
      | ⟨2, _⟩ => show (BitVec.ofNat 32 (grid0.coords t 0).val).toNat * 240 + 1 * p.val = t.val * 240 + p.val; rw [number t]; omega
      | ⟨3, _⟩ => show (0#32 : BitVec 32).toNat * 1024 + 1 * q.val = q.val; simp
    · refine Eq.trans (congrArg (V m 0 main_arg1) (funext fun x => Fin.ext ?_)) (congrFun (V_main_arg1 m 0) _)
      match x with
      | ⟨0, _⟩ => show (0#32 : BitVec 32).toNat * 7 + 1 * k.val = k.val; simp
      | ⟨1, _⟩ => show (BitVec.ofNat 32 (grid0.coords t 0).val).toNat * 240 + 1 * p.val = t.val * 240 + p.val; rw [number t]; omega
      | ⟨2, _⟩ => show (0#32 : BitVec 32).toNat * 1024 + 1 * q.val = q.val; simp
  · have hi : (i 0).val < 480 := (i 0).isLt
    have hN : (cfgM m hO).N = 2 := N_0
    refine ⟨⟨(i 0).val / 240, by omega⟩, flush0_2 _ _, ?_⟩
    let t : Fin (cfgM m hO).N := ⟨(i 0).val / 240, by omega⟩
    refine (congrArg (fun z => z ∈ (((cfgM m hO).win 2).blk t).view.set) ((place t ⟨(i 0).val % 240, Nat.mod_lt _ (by decide)⟩ (i 1)).trans
      (funext fun x => Fin.ext ?_))).mp (View.emb_mem_set _ _)
    match x with
    | ⟨0, _⟩ => show (i 0).val / 240 * 240 + (i 0).val % 240 = (i 0).val; omega
    | ⟨1, _⟩ => rfl

/-- What the lines after the call make of the flag, the call's array and the other half. -/
abbrev both (f : IVec S_ 1) (x o : S480x1024.Idx → EReal) : S960x1024.Idx → EReal :=
  concatenate S960x1024 0 [⟨S480x1024, select (broadcastInDim S480x1024 ![] bcast_S_S480x1024 f) x o⟩,
    ⟨S480x1024, select (broadcastInDim S480x1024 ![] bcast_S_S480x1024 f) o x⟩] concatenates_S480x1024_S480x1024_S960x1024_d0

theorem alike {f f' : IVec S_ 1} {x x' o o' : S480x1024.Idx → EReal} (hf : f = f') (hx : x = x') (ho : o = o') : both f x o = both f' x' o' := by
  rw [hf, hx, ho]

/-- The lines after the call, from any contents. -/
theorem tail (W : Valuation τ sig (Elt Ideal)) :
    StableHlo.after (List.flatten [hostOps1, hostOps1_1, hostOps1_2]) W (Proc.devRef .tc main_v7)
      = extractStridedSlice S256x1024 ![0, 0] (both (W (Proc.devRef .tc main_v2)) (W (Proc.devRef .tc main_v3)) (W (Proc.devRef .tc main_arg3))) slices_S960x1024_S256x1024_0_0
    ∧ StableHlo.after (List.flatten [hostOps1, hostOps1_1, hostOps1_2]) W (Proc.devRef .tc main_v8)
      = extractStridedSlice S704x1024 ![256, 0] (both (W (Proc.devRef .tc main_v2)) (W (Proc.devRef .tc main_v3)) (W (Proc.devRef .tc main_arg3))) slices_S960x1024_S704x1024_256_0 := by
  constructor <;>
  · simp only [hostOps1, hostOps1_1, hostOps1_2, List.flatten_cons, List.flatten_nil, List.cons_append, List.nil_append, List.append_nil]
    after_results <;> rfl

/-- The flag the first lines compute. -/
theorem flag : V m c main_v2 = Cert.Reference38Ideal.Read.val_main_v2 (F := Ideal) (SC m c) := by
  entry_read
  rfl

abbrev O : S480x1024.Idx → EReal := m ((c : Thread nD τ).loc main_arg3)

open Cert.Reference38Ideal.Read in
/-- The kernel's run ends with the reference's two arrays. -/
theorem run (ρ : Dev nD → PrngReg) (h : Cert.Pre_Kernel38Ideal m) :
    θ_run defs (onTc (τ := τ) (main (F := Ideal))) ⟨m, fun _ => 0, ρ⟩ (fun r => ∀ c : Dev nD,
      r.2.mem ((c.tc : Thread nD τ).loc main_v7) = val_main_v26 (F := Ideal) (P m c) (R m c) (SC m c) (O m c)
      ∧ r.2.mem ((c.tc : Thread nD τ).loc main_v8) = val_main_v27 (F := Ideal) (P m c) (R m c) (SC m c) (O m c)) := by
  have hO := ok m h
  refine (θ_run _ _ _).mono (fun r hr c => ?_) (run_main m ρ hO)
  obtain ⟨b0, b1⟩ := bounds _ _ _ _ (h c)
  have h3 := left m hO c ⟨_, b0⟩ ⟨_, b1⟩ rfl rfl
  have q7 := (hr c).2 main_v7 (Pipeline.mem_restRefs_of main_v7 (by decide) (by exact (by decide : ∀ w, Pipeline.arrRef spec0 w ≠ main_v7)))
  have q8 := (hr c).2 main_v8 (Pipeline.mem_restRefs_of main_v8 (by decide) (by exact (by decide : ∀ w, Pipeline.arrRef spec0 w ≠ main_v8)))
  unfold Pipeline.afterTail at q7 q8
  rw [(tail _).1] at q7
  rw [(tail _).2] at q8
  have w2 := Pipeline.withArrays_of_ne spec0 c (V0 m c) (fun w => (dats m hO 0 c).arrAt w (cfgM m hO).N) main_v2
    (by exact (by decide : ∀ w, Pipeline.arrRef spec0 w ≠ main_v2))
  have wo := Pipeline.withArrays_of_ne spec0 c (V0 m c) (fun w => (dats m hO 0 c).arrAt w (cfgM m hO).N) main_arg3
    (by exact (by decide : ∀ w, Pipeline.arrRef spec0 w ≠ main_arg3))
  have w3 := Pipeline.withArrays_arr spec0 (launch0 (F := Ideal)).win.arr_inj c (V0 m c) (fun w => (dats m hO 0 c).arrAt w (cfgM m hO).N) 2
  have key := alike (w2.trans (flag m c)) (w3.trans h3) (wo.trans (V_main_arg3 m c))
  exact ⟨q7.trans (congrArg (fun z => extractStridedSlice S256x1024 ![0, 0] z slices_S960x1024_S256x1024_0_0) key),
    q8.trans (congrArg (fun z => extractStridedSlice S704x1024 ![256, 0] z slices_S960x1024_S704x1024_256_0) key)⟩

end Whole

/-- The claim: from the same arguments the kernel and the reference end with the same two arrays. -/
theorem algebraic : Cert.algebraic_Kernel38Ideal_Reference38Ideal := by
  intro m g m' g' hp h
  refine ⟨_, _, (θ_run _ _ _).mono (fun r hr c => ⟨(hr.1 c).1, (hr.1 c).2, hr.2 c⟩) (θ_run_and (run m g hp) (unchanged m g (ok m hp))),
    (θ_run _ _ _).mono (fun r hr c => ⟨(hr c).1.trans ?_, (hr c).2.1.trans ?_, (hr c).2.2⟩) (Cert.Reference38Ideal.Value.run m' g')⟩
  all_goals obtain ⟨h0, h1, h2, h3⟩ := h c; rw [h0, h1, h2, h3]
  · exact Cert.Reference38Ideal.Read.val_main_v26_eq _ _ _ _
  · exact Cert.Reference38Ideal.Read.val_main_v27_eq _ _ _ _

end Cert.Kernel38Ideal.Peers

end
-- ==== Proof.Peers39.lean ====
module

public import proofs.«01_k».proof.Proof.PeerSum
public import proofs.«01_k».proof.Proof.Gen.Kernel39.Frame
public import proofs.«01_k».proof.Proof.Gen.Kernel39Ideal.Frame
public import proofs.«01_k».proof.Proof.Gen.Pre_placed39
public import proofs.«01_k».proof.Proof.Gen.Reference39Ideal.Read
public import proofs.«01_k».proof.Defs
public import Idealize.ShloMosaic.Lib.Pointwise
public import Idealize.ShloMosaic.Lib.Tactic
public import Idealize.ShloMosaic.Lib.Pipeline.Value

/-!
# The sum over the devices of a large weight's gradient

The body adds the seven received blocks to the device's own block, which it finds by the two numbers of the index. The
precondition keeps the numbers in range. The reference picks the own block by a sum in which every other block counts
as zero.
-/

@[expose] public section

set_option maxRecDepth 16384

noncomputable section

/-! ## The index is in range -/

namespace Cert.Kernel39.Peers

open Cert.Kernel39 Cert.Kernel39.Gen Idealize.ShloMosaic Idealize.ShloMosaic.TcCoe Idealize.SL.Sem
open Cert.PeerSum

/-- The precondition bounds the two numbers. -/
theorem bounds {F : FTy → Type} [FloatOps F] (p : FVec F Cert.Pre_placed39.S4x2x512x1408 .bf16) (r : FVec F Cert.Pre_placed39.S7x512x1408 .bf16)
    (sc : IVec S2 32) (o : FVec F Cert.Pre_placed39.S512x1408 .f32) (h : Cert.Pre_placed39.fn (F := F) p r sc o = fun _ => 1#1) :
    (sc (ix1 0)).toNat < 4 ∧ (sc (ix1 1)).toNat < 2 := by
  have h0 := congrFun h (ix1 0)
  have h1 := congrFun h (ix1 1)
  exact ⟨below _ 4 (by decide) h0, below _ 2 (by decide) h1⟩

/-- The two words of the table. -/
theorem entry (pf : pre0.Contents (Elt Bits)) : pf.at 0 (Rect.unit (s := S2) ![0] S1.size inb_S2_S1_0) numel1_S1 = pf 0 (ix1 0)
    ∧ pf.at 0 (Rect.unit (s := S2) ![1] S1.size inb_S2_S1_1) numel1_S1 = pf 0 (ix1 1) :=
  ⟨congrArg (pf 0) (funext fun | ⟨0, _⟩ => Fin.ext rfl), congrArg (pf 0) (funext fun | ⟨0, _⟩ => Fin.ext rfl)⟩

/-- Every block the index names is inside the array. -/
theorem ok (m : (ℓ : Loc nD τ sig) → Buf (Elt Bits) ℓ) (h : Cert.Pre_Kernel39 m) : Ok m := by
  obtain ⟨b0, b1⟩ := bounds _ _ _ _ (h 0)
  obtain ⟨e0, e1⟩ := entry (tbl m)
  intro i
  have hi : (i 0).val < 4 := (i 0).isLt
  refine ⟨fun a => ?_, .inr (Affine.block_words_dvd (of_decide_eq_true rfl) (by decide))⟩
  rw [show tbl m 0 = m ((0 : Dev nD).tc.loc main_arg2) from V_main_arg2 m 0] at e0 e1
  unfold cc0_transform_0
  rw [e0, e1]
  match a with
  | ⟨0, _⟩ => show (BitVec.toNat _ + 1) * 1 ≤ 4; omega
  | ⟨1, _⟩ => show (BitVec.toNat _ + 1) * 1 ≤ 2; omega
  | ⟨2, _⟩ => show (BitVec.toNat _ + 1) * 128 ≤ 512; rw [BitVec.toNat_ofNat]; omega
  | ⟨3, _⟩ => show (BitVec.toNat _ + 1) * 1408 ≤ 1408; decide

end Cert.Kernel39.Peers

namespace Cert.Kernel39Ideal.Peers

open Cert.Kernel39Ideal Cert.Kernel39Ideal.Gen Idealize.ShloMosaic Idealize.ShloMosaic.TcCoe Idealize.SL.Sem
open Cert.PeerSum
open Cert.Kernel39.Peers (bounds)

/-- The two words of the table. -/
theorem entry (pf : pre0.Contents (Elt Ideal)) : pf.at 0 (Rect.unit (s := S2) ![0] S1.size inb_S2_S1_0) numel1_S1 = pf 0 (ix1 0)
    ∧ pf.at 0 (Rect.unit (s := S2) ![1] S1.size inb_S2_S1_1) numel1_S1 = pf 0 (ix1 1) :=
  ⟨congrArg (pf 0) (funext fun | ⟨0, _⟩ => Fin.ext rfl), congrArg (pf 0) (funext fun | ⟨0, _⟩ => Fin.ext rfl)⟩

/-- Every block the index names is inside the array. -/
theorem ok (m : (ℓ : Loc nD τ sig) → Buf (Elt Ideal) ℓ) (h : Cert.Pre_Kernel39Ideal m) : Ok m := by
  obtain ⟨b0, b1⟩ := bounds _ _ _ _ (h 0)
  obtain ⟨e0, e1⟩ := entry (tbl m)
  intro i
  have hi : (i 0).val < 4 := (i 0).isLt
  refine ⟨fun a => ?_, .inr (Affine.block_words_dvd (of_decide_eq_true rfl) (by decide))⟩
  rw [show tbl m 0 = m ((0 : Dev nD).tc.loc main_arg2) from V_main_arg2 m 0] at e0 e1
  unfold cc0_transform_0
  rw [e0, e1]
  match a with
  | ⟨0, _⟩ => show (BitVec.toNat _ + 1) * 1 ≤ 4; omega
  | ⟨1, _⟩ => show (BitVec.toNat _ + 1) * 1 ≤ 2; omega
  | ⟨2, _⟩ => show (BitVec.toNat _ + 1) * 128 ≤ 512; rw [BitVec.toNat_ofNat]; omega
  | ⟨3, _⟩ => show (BitVec.toNat _ + 1) * 1408 ≤ 1408; decide

/-! ## One block, and the reference -/

theorem origin2 : (![(0 : ℕ), 0] : Fin 2 → ℕ) = fun _ => 0 := funext fun i => match i with | ⟨0, _⟩ => rfl | ⟨1, _⟩ => rfl
theorem origin4 : (![(0 : ℕ), 0, 0, 0] : Fin 4 → ℕ) = fun _ => 0 := funext fun i => match i with | ⟨0, _⟩ => rfl | ⟨1, _⟩ => rfl | ⟨2, _⟩ => rfl | ⟨3, _⟩ => rfl

/-- A block of the result: the device's own block and the seven received ones, added up. -/
theorem block (c : Dev nD) (i : grid0.Coords) (arg2 : Memref sig .tc .vmem S1x1x128x1408 .bf16) (harg2 : arg2.IsWhole)
    (arg3 : Memref sig .tc .vmem S7x128x1408 .bf16) (harg3 : arg3.IsWhole) (arg4 : Memref sig .tc .vmem S128x1408 .f32) (harg4 : arg4.IsWhole)
    (x0 : Vec Ideal S1x1x128x1408 .bf16) (x1 : Vec Ideal S7x128x1408 .bf16) (xt0 : TbBuf0 (F := Ideal) c tbM0_0) (p : Fin 128) (q : Fin 1408) :
    (out0_A_2 (F := Ideal) c i arg2 harg2 arg3 harg3 arg4 harg4 x0 x1 xt0 (ix2 p q) : EReal)
      = x0 (ix4 0 0 p q) + ∑ k : Fin 7, (x1 (ix3 k p q) : EReal) := by
  unfold out0_A_2
  rw [View.read_writes_eq_canon _ _ _ (cover0_A_2 (F := Ideal) c i arg2 harg2 arg3 harg3 arg4 harg4 x0 x1 xt0)]
  simp only [kernelRun0_A, kernelRun0_A.sl.r]
  rw [View.canon_unit_zero (S := S128x1408) origin2]
  simp only [View.readAt_eq_ld, harg2.read_unread, harg3.read_unread, View.ld_unit_zero (S := S1x1x128x1408) origin4]
  rw [Fin.sum_univ_seven]
  pointwise [k0_pay1]
  simp only [add_assoc]

section Reference
open Cert.Reference39Ideal.Read

/-- The reference's sum, entry by entry. -/
theorem ref (P : S4x2x512x1408.Idx → EReal) (R : S7x512x1408.Idx → EReal) (sc : IVec S2 32) (a : Fin 4) (b : Fin 2)
    (ha : (sc (ix1 0)).toNat = a.val) (hb : (sc (ix1 1)).toNat = b.val) (p : Fin 512) (q : Fin 1408) :
    (val_main_v22 (F := Ideal) P R sc (ix2 p q) : EReal) = P (ix4 a b p q) + ∑ k : Fin 7, R (ix3 k p q) := by
  have h11 : ∀ k : Fin 2, (val_main_v11 (F := Ideal) P sc (ix3 k p q) : EReal) = P (ix4 a k p q) := by
    intro k
    refine Eq.trans ?_ (pick (fun j : Fin 4 => P (ix4 j k p q)) a (sc (ix1 0)) (by decide) ha)
    rw [val_main_v11_apply]
    pointwise [val_main_v10, val_main_call0_v1, val_main_call0_v2, val_main_call0_v0, val_main_cst, val_main_v9, val_main_v8, val_main_v7, val_main_v6, val_main_v5, val_main_v4, val_main_v3, val_main_cst_0]
    refine Finset.sum_congr rfl fun x _ => ?_
    rw [show idx_main_v11 (ix3 k p q) x = ix4 x k p q from funext fun | ⟨0, _⟩ => rfl | ⟨1, _⟩ => rfl | ⟨2, _⟩ => rfl | ⟨3, _⟩ => rfl]
    pointwise [id]
  have h19 : (val_main_v19 (F := Ideal) P sc (ix2 p q) : EReal) = P (ix4 a b p q) := by
    refine Eq.trans ?_ (pick (fun j : Fin 2 => P (ix4 a j p q)) b (sc (ix1 1)) (by decide) hb)
    rw [val_main_v19_apply]
    simp only [← h11]
    pointwise [val_main_v18, val_main_call1_v1, val_main_call1_v2, val_main_call1_v0, val_main_cst_1, val_main_v17, val_main_v16, val_main_v15, val_main_v14, val_main_v13, val_main_v12, val_main_cst_2]
    refine Finset.sum_congr rfl fun x _ => ?_
    rw [show idx_main_v19 (ix2 p q) x = ix3 x p q from funext fun | ⟨0, _⟩ => rfl | ⟨1, _⟩ => rfl | ⟨2, _⟩ => rfl]
    pointwise [id]
  rw [val_main_v22_apply, val_main_v21_apply, h19]
  pointwise [val_main_v20, val_main_cst_3]
  refine congrArg (_ + ·) (Finset.sum_congr rfl fun x _ => congrArg R (funext fun | ⟨0, _⟩ => rfl | ⟨1, _⟩ => rfl | ⟨2, _⟩ => rfl))
end Reference

section Whole
variable (m : (ℓ : Loc nD τ sig) → Buf (Elt Ideal) ℓ) (hO : Ok m) (c : Dev nD)
abbrev P : S4x2x512x1408.Idx → EReal := m ((c : Thread nD τ).loc main_arg0)
abbrev R : S7x512x1408.Idx → EReal := m ((c : Thread nD τ).loc main_arg1)
abbrev SC : IVec S2 32 := m ((c : Thread nD τ).loc main_arg2)

/-- The grid's points are numbered in order. -/
theorem number : ∀ t : Fin grid0.N, (BitVec.ofNat 32 (grid0.coords t 0).val).toNat = t.val := by decide +kernel

/-- The call leaves the reference's sum. -/
theorem left (a : Fin 4) (b : Fin 2) (ha : (SC m c (ix1 0)).toNat = a.val) (hb : (SC m c (ix1 1)).toNat = b.val) :
    (dats m hO 0 c).arrAt 2 (cfgM m hO).N = Cert.Reference39Ideal.Read.val_main_v22 (F := Ideal) (P m c) (R m c) (SC m c) := by
  have hc : c = 0 := Subsingleton.elim _ _
  subst hc
  have ha' : (m ((0 : Dev nD).tc.loc main_arg2) (ix1 0)).toNat = a.val := ha
  have hb' : (m ((0 : Dev nD).tc.loc main_arg2) (ix1 1)).toNat = b.val := hb
  obtain ⟨e0, e1⟩ := entry (tbl m)
  rw [show tbl m 0 = m ((0 : Dev nD).tc.loc main_arg2) from V_main_arg2 m 0] at e0 e1
  have place : ∀ (t : Fin (cfgM m hO).N) (p : Fin 128) (q : Fin 1408), (((cfgM m hO).win 2).blk t).view.emb (ix2 p q)
      = (ix2 ⟨t.val * 128 + p.val, by have := t.isLt; have : (cfgM m hO).N = 4 := N_0; omega⟩ q : S512x1408.Idx) := by
    intro t p q
    funext x; apply Fin.ext
    match x with
    | ⟨0, _⟩ => show (BitVec.ofNat 32 (grid0.coords t 0).val).toNat * 128 + 1 * p.val = t.val * 128 + p.val; rw [number t]; omega
    | ⟨1, _⟩ => show (0#32 : BitVec 32).toNat * 1408 + 1 * q.val = q.val; simp
  refine (dats m hO 0 0).arrAt_eq_of_cover 2 _ (fun t _ => ?_) fun (i : S512x1408.Idx) => ?_
  · show ((cfgM m hO).win 2).cut (grid0.coords t) ((dats m hO 0 0).after 2 t) = _
    rw [after0_2]
    unfold outsAt0
    refine funext fun (j : S128x1408.Idx) => ?_
    obtain ⟨p, q, rfl⟩ : ∃ p q, j = ix2 p q := ⟨j 0, j 1, funext fun | ⟨0, _⟩ => rfl | ⟨1, _⟩ => rfl⟩
    refine (block _ _ _ _ _ _ _ _ _ _ _ p q).trans ?_
    refine Eq.trans ?_ (congrArg (Cert.Reference39Ideal.Read.val_main_v22 (F := Ideal) (P m 0) (R m 0) (SC m 0)) (place t p q).symm)
    rw [ref _ _ _ a b ha hb]
    refine congrArg₂ (· + ·) ?_ (Finset.sum_congr rfl fun k _ => ?_)
    · refine Eq.trans (congrArg (V m 0 main_arg0) (funext fun x => Fin.ext ?_)) (congrFun (V_main_arg0 m 0) _)
      match x with
      | ⟨0, _⟩ => show ((tbl m).at 0 _ _).toNat * 1 + 1 * 0 = a.val; rw [e0, ha']; omega
      | ⟨1, _⟩ => show ((tbl m).at 0 _ _).toNat * 1 + 1 * 0 = b.val; rw [e1, hb']; omega
      | ⟨2, _⟩ => show (BitVec.ofNat 32 (grid0.coords t 0).val).toNat * 128 + 1 * p.val = t.val * 128 + p.val; rw [number t]; omega
      | ⟨3, _⟩ => show (0#32 : BitVec 32).toNat * 1408 + 1 * q.val = q.val; simp
    · refine Eq.trans (congrArg (V m 0 main_arg1) (funext fun x => Fin.ext ?_)) (congrFun (V_main_arg1 m 0) _)
      match x with
      | ⟨0, _⟩ => show (0#32 : BitVec 32).toNat * 7 + 1 * k.val = k.val; simp
      | ⟨1, _⟩ => show (BitVec.ofNat 32 (grid0.coords t 0).val).toNat * 128 + 1 * p.val = t.val * 128 + p.val; rw [number t]; omega
      | ⟨2, _⟩ => show (0#32 : BitVec 32).toNat * 1408 + 1 * q.val = q.val; simp
  · have hi : (i 0).val < 512 := (i 0).isLt
    have hN : (cfgM m hO).N = 4 := N_0
    refine ⟨⟨(i 0).val / 128, by omega⟩, flush0_2 _ _, ?_⟩
    let t : Fin (cfgM m hO).N := ⟨(i 0).val / 128, by omega⟩
    refine (congrArg (fun z => z ∈ (((cfgM m hO).win 2).blk t).view.set) ((place t ⟨(i 0).val % 128, Nat.mod_lt _ (by decide)⟩ (i 1)).trans
      (funext fun x => Fin.ext ?_))).mp (View.emb_mem_set _ _)
    match x with
    | ⟨0, _⟩ => show (i 0).val / 128 * 128 + (i 0).val % 128 = (i 0).val; omega
    | ⟨1, _⟩ => rfl

/-- What the lines after the call make of the flag, the call's array and the other half. -/
abbrev both (f : IVec S_ 1) (x o : S512x1408.Idx → EReal) : S1024x1408.Idx → EReal :=
  concatenate S1024x1408 0 [⟨S512x1408, select (broadcastInDim S512x1408 ![] bcast_S_S512x1408 f) x o⟩,
    ⟨S512x1408, select (broadcastInDim S512x1408 ![] bcast_S_S512x1408 f) o x⟩] concatenates_S512x1408_S512x1408_S1024x1408_d0

theorem alike {f f' : IVec S_ 1} {x x' o o' : S512x1408.Idx → EReal} (hf : f = f') (hx : x = x') (ho : o = o') : both f x o = both f' x' o' := by
  rw [hf, hx, ho]

/-- The lines after the call, from any contents. -/
theorem tail (W : Valuation τ sig (Elt Ideal)) :
    StableHlo.after (List.flatten [hostOps1, hostOps1_1, hostOps1_2]) W (Proc.devRef .tc main_v6)
      = both (W (Proc.devRef .tc main_v2)) (W (Proc.devRef .tc main_v3)) (W (Proc.devRef .tc main_arg3)) := by
  simp only [hostOps1, hostOps1_1, hostOps1_2, List.flatten_cons, List.flatten_nil, List.cons_append, List.nil_append, List.append_nil]
  after_results <;> rfl

/-- The flag the first lines compute. -/
theorem flag : V m c main_v2 = Cert.Reference39Ideal.Read.val_main_v2 (F := Ideal) (SC m c) := by
  entry_read
  rfl

abbrev O : S512x1408.Idx → EReal := m ((c : Thread nD τ).loc main_arg3)

open Cert.Reference39Ideal.Read in
/-- The kernel's run ends with the reference's array. -/
theorem run (ρ : Dev nD → PrngReg) (h : Cert.Pre_Kernel39Ideal m) :
    θ_run defs (onTc (τ := τ) (main (F := Ideal))) ⟨m, fun _ => 0, ρ⟩ (fun r => ∀ c : Dev nD,
      r.2.mem ((c.tc : Thread nD τ).loc main_v6) = val_main_v25 (F := Ideal) (P m c) (R m c) (SC m c) (O m c)) := by
  have hO := ok m h
  refine (θ_run _ _ _).mono (fun r hr c => ?_) (run_main m ρ hO)
  obtain ⟨b0, b1⟩ := bounds _ _ _ _ (h c)
  have h3 := left m hO c ⟨_, b0⟩ ⟨_, b1⟩ rfl rfl
  have q7 := (hr c).2 main_v6 (Pipeline.mem_restRefs_of main_v6 (by decide) (by exact (by decide : ∀ w, Pipeline.arrRef spec0 w ≠ main_v6)))
  unfold Pipeline.afterTail at q7
  rw [tail _] at q7
  have w2 := Pipeline.withArrays_of_ne spec0 c (V0 m c) (fun w => (dats m hO 0 c).arrAt w (cfgM m hO).N) main_v2
    (by exact (by decide : ∀ w, Pipeline.arrRef spec0 w ≠ main_v2))
  have wo := Pipeline.withArrays_of_ne spec0 c (V0 m c) (fun w => (dats m hO 0 c).arrAt w (cfgM m hO).N) main_arg3
    (by exact (by decide : ∀ w, Pipeline.arrRef spec0 w ≠ main_arg3))
  have w3 := Pipeline.withArrays_arr spec0 (launch0 (F := Ideal)).win.arr_inj c (V0 m c) (fun w => (dats m hO 0 c).arrAt w (cfgM m hO).N) 2
  have key := alike (w2.trans (flag m c)) (w3.trans h3) (wo.trans (V_main_arg3 m c))
  exact q7.trans key

end Whole

/-- The claim: from the same arguments the kernel and the reference end with the same array. -/
theorem algebraic : Cert.algebraic_Kernel39Ideal_Reference39Ideal := by
  intro m g m' g' hp h
  refine ⟨_, (θ_run _ _ _).mono (fun r hr c => ⟨hr.1 c, hr.2 c⟩) (θ_run_and (run m g hp) (unchanged m g (ok m hp))),
    (θ_run _ _ _).mono (fun r hr c => ⟨(hr c).1.trans ?_, (hr c).2⟩) (Cert.Reference39Ideal.Value.run m' g')⟩
  obtain ⟨h0, h1, h2, h3⟩ := h c
  rw [h0, h1, h2, h3]
  exact Cert.Reference39Ideal.Read.val_main_v25_eq _ _ _ _

end Cert.Kernel39Ideal.Peers

end
-- ==== Proof.Peers40.lean ====
module

public import proofs.«01_k».proof.Proof.PeerSum
public import proofs.«01_k».proof.Proof.Gen.Kernel40.Frame
public import proofs.«01_k».proof.Proof.Gen.Kernel40Ideal.Frame
public import proofs.«01_k».proof.Proof.Gen.Pre_placed40
public import proofs.«01_k».proof.Proof.Gen.Reference40Ideal.Read
public import proofs.«01_k».proof.Defs
public import Idealize.ShloMosaic.Lib.Pointwise
public import Idealize.ShloMosaic.Lib.Tactic
public import Idealize.ShloMosaic.Lib.Pipeline.Value

/-!
# The sum over the devices of a large weight's gradient

The body adds the seven received blocks to the device's own block, which it finds by the two numbers of the index. The
precondition keeps the numbers in range. The reference picks the own block by a sum in which every other block counts
as zero.
-/

@[expose] public section

set_option maxRecDepth 16384

noncomputable section

/-! ## The index is in range -/

namespace Cert.Kernel40.Peers

open Cert.Kernel40 Cert.Kernel40.Gen Idealize.ShloMosaic Idealize.ShloMosaic.TcCoe Idealize.SL.Sem
open Cert.PeerSum

/-- The precondition bounds the two numbers. -/
theorem bounds {F : FTy → Type} [FloatOps F] (p : FVec F Cert.Pre_placed40.S4x2x512x1920 .bf16) (r : FVec F Cert.Pre_placed40.S7x512x1920 .bf16)
    (sc : IVec S2 32) (o : FVec F Cert.Pre_placed40.S512x1920 .f32) (h : Cert.Pre_placed40.fn (F := F) p r sc o = fun _ => 1#1) :
    (sc (ix1 0)).toNat < 4 ∧ (sc (ix1 1)).toNat < 2 := by
  have h0 := congrFun h (ix1 0)
  have h1 := congrFun h (ix1 1)
  exact ⟨below _ 4 (by decide) h0, below _ 2 (by decide) h1⟩

/-- The two words of the table. -/
theorem entry (pf : pre0.Contents (Elt Bits)) : pf.at 0 (Rect.unit (s := S2) ![0] S1.size inb_S2_S1_0) numel1_S1 = pf 0 (ix1 0)
    ∧ pf.at 0 (Rect.unit (s := S2) ![1] S1.size inb_S2_S1_1) numel1_S1 = pf 0 (ix1 1) :=
  ⟨congrArg (pf 0) (funext fun | ⟨0, _⟩ => Fin.ext rfl), congrArg (pf 0) (funext fun | ⟨0, _⟩ => Fin.ext rfl)⟩

/-- Every block the index names is inside the array. -/
theorem ok (m : (ℓ : Loc nD τ sig) → Buf (Elt Bits) ℓ) (h : Cert.Pre_Kernel40 m) : Ok m := by
  obtain ⟨b0, b1⟩ := bounds _ _ _ _ (h 0)
  obtain ⟨e0, e1⟩ := entry (tbl m)
  intro i
  have hi : (i 0).val < 4 := (i 0).isLt
  refine ⟨fun a => ?_, .inr (Affine.block_words_dvd (of_decide_eq_true rfl) (by decide))⟩
  rw [show tbl m 0 = m ((0 : Dev nD).tc.loc main_arg2) from V_main_arg2 m 0] at e0 e1
  unfold cc0_transform_0
  rw [e0, e1]
  match a with
  | ⟨0, _⟩ => show (BitVec.toNat _ + 1) * 1 ≤ 4; omega
  | ⟨1, _⟩ => show (BitVec.toNat _ + 1) * 1 ≤ 2; omega
  | ⟨2, _⟩ => show (BitVec.toNat _ + 1) * 128 ≤ 512; rw [BitVec.toNat_ofNat]; omega
  | ⟨3, _⟩ => show (BitVec.toNat _ + 1) * 1920 ≤ 1920; decide

end Cert.Kernel40.Peers

namespace Cert.Kernel40Ideal.Peers

open Cert.Kernel40Ideal Cert.Kernel40Ideal.Gen Idealize.ShloMosaic Idealize.ShloMosaic.TcCoe Idealize.SL.Sem
open Cert.PeerSum
open Cert.Kernel40.Peers (bounds)

/-- The two words of the table. -/
theorem entry (pf : pre0.Contents (Elt Ideal)) : pf.at 0 (Rect.unit (s := S2) ![0] S1.size inb_S2_S1_0) numel1_S1 = pf 0 (ix1 0)
    ∧ pf.at 0 (Rect.unit (s := S2) ![1] S1.size inb_S2_S1_1) numel1_S1 = pf 0 (ix1 1) :=
  ⟨congrArg (pf 0) (funext fun | ⟨0, _⟩ => Fin.ext rfl), congrArg (pf 0) (funext fun | ⟨0, _⟩ => Fin.ext rfl)⟩

/-- Every block the index names is inside the array. -/
theorem ok (m : (ℓ : Loc nD τ sig) → Buf (Elt Ideal) ℓ) (h : Cert.Pre_Kernel40Ideal m) : Ok m := by
  obtain ⟨b0, b1⟩ := bounds _ _ _ _ (h 0)
  obtain ⟨e0, e1⟩ := entry (tbl m)
  intro i
  have hi : (i 0).val < 4 := (i 0).isLt
  refine ⟨fun a => ?_, .inr (Affine.block_words_dvd (of_decide_eq_true rfl) (by decide))⟩
  rw [show tbl m 0 = m ((0 : Dev nD).tc.loc main_arg2) from V_main_arg2 m 0] at e0 e1
  unfold cc0_transform_0
  rw [e0, e1]
  match a with
  | ⟨0, _⟩ => show (BitVec.toNat _ + 1) * 1 ≤ 4; omega
  | ⟨1, _⟩ => show (BitVec.toNat _ + 1) * 1 ≤ 2; omega
  | ⟨2, _⟩ => show (BitVec.toNat _ + 1) * 128 ≤ 512; rw [BitVec.toNat_ofNat]; omega
  | ⟨3, _⟩ => show (BitVec.toNat _ + 1) * 1920 ≤ 1920; decide

/-! ## One block, and the reference -/

theorem origin2 : (![(0 : ℕ), 0] : Fin 2 → ℕ) = fun _ => 0 := funext fun i => match i with | ⟨0, _⟩ => rfl | ⟨1, _⟩ => rfl
theorem origin4 : (![(0 : ℕ), 0, 0, 0] : Fin 4 → ℕ) = fun _ => 0 := funext fun i => match i with | ⟨0, _⟩ => rfl | ⟨1, _⟩ => rfl | ⟨2, _⟩ => rfl | ⟨3, _⟩ => rfl

/-- A block of the result: the device's own block and the seven received ones, added up. -/
theorem block (c : Dev nD) (i : grid0.Coords) (arg2 : Memref sig .tc .vmem S1x1x128x1920 .bf16) (harg2 : arg2.IsWhole)
    (arg3 : Memref sig .tc .vmem S7x128x1920 .bf16) (harg3 : arg3.IsWhole) (arg4 : Memref sig .tc .vmem S128x1920 .f32) (harg4 : arg4.IsWhole)
    (x0 : Vec Ideal S1x1x128x1920 .bf16) (x1 : Vec Ideal S7x128x1920 .bf16) (xt0 : TbBuf0 (F := Ideal) c tbM0_0) (p : Fin 128) (q : Fin 1920) :
    (out0_A_2 (F := Ideal) c i arg2 harg2 arg3 harg3 arg4 harg4 x0 x1 xt0 (ix2 p q) : EReal)
      = x0 (ix4 0 0 p q) + ∑ k : Fin 7, (x1 (ix3 k p q) : EReal) := by
  unfold out0_A_2
  rw [View.read_writes_eq_canon _ _ _ (cover0_A_2 (F := Ideal) c i arg2 harg2 arg3 harg3 arg4 harg4 x0 x1 xt0)]
  simp only [kernelRun0_A, kernelRun0_A.sl.r]
  rw [View.canon_unit_zero (S := S128x1920) origin2]
  simp only [View.readAt_eq_ld, harg2.read_unread, harg3.read_unread, View.ld_unit_zero (S := S1x1x128x1920) origin4]
  rw [Fin.sum_univ_seven]
  pointwise [k0_pay1]
  simp only [add_assoc]

section Reference
open Cert.Reference40Ideal.Read

/-- The reference's sum, entry by entry. -/
theorem ref (P : S4x2x512x1920.Idx → EReal) (R : S7x512x1920.Idx → EReal) (sc : IVec S2 32) (a : Fin 4) (b : Fin 2)
    (ha : (sc (ix1 0)).toNat = a.val) (hb : (sc (ix1 1)).toNat = b.val) (p : Fin 512) (q : Fin 1920) :
    (val_main_v22 (F := Ideal) P R sc (ix2 p q) : EReal) = P (ix4 a b p q) + ∑ k : Fin 7, R (ix3 k p q) := by
  have h11 : ∀ k : Fin 2, (val_main_v11 (F := Ideal) P sc (ix3 k p q) : EReal) = P (ix4 a k p q) := by
    intro k
    refine Eq.trans ?_ (pick (fun j : Fin 4 => P (ix4 j k p q)) a (sc (ix1 0)) (by decide) ha)
    rw [val_main_v11_apply]
    pointwise [val_main_v10, val_main_call0_v1, val_main_call0_v2, val_main_call0_v0, val_main_cst, val_main_v9, val_main_v8, val_main_v7, val_main_v6, val_main_v5, val_main_v4, val_main_v3, val_main_cst_0]
    refine Finset.sum_congr rfl fun x _ => ?_
    rw [show idx_main_v11 (ix3 k p q) x = ix4 x k p q from funext fun | ⟨0, _⟩ => rfl | ⟨1, _⟩ => rfl | ⟨2, _⟩ => rfl | ⟨3, _⟩ => rfl]
    pointwise [id]
  have h19 : (val_main_v19 (F := Ideal) P sc (ix2 p q) : EReal) = P (ix4 a b p q) := by
    refine Eq.trans ?_ (pick (fun j : Fin 2 => P (ix4 a j p q)) b (sc (ix1 1)) (by decide) hb)
    rw [val_main_v19_apply]
    simp only [← h11]
    pointwise [val_main_v18, val_main_call1_v1, val_main_call1_v2, val_main_call1_v0, val_main_cst_1, val_main_v17, val_main_v16, val_main_v15, val_main_v14, val_main_v13, val_main_v12, val_main_cst_2]
    refine Finset.sum_congr rfl fun x _ => ?_
    rw [show idx_main_v19 (ix2 p q) x = ix3 x p q from funext fun | ⟨0, _⟩ => rfl | ⟨1, _⟩ => rfl | ⟨2, _⟩ => rfl]
    pointwise [id]
  rw [val_main_v22_apply, val_main_v21_apply, h19]
  pointwise [val_main_v20, val_main_cst_3]
  refine congrArg (_ + ·) (Finset.sum_congr rfl fun x _ => congrArg R (funext fun | ⟨0, _⟩ => rfl | ⟨1, _⟩ => rfl | ⟨2, _⟩ => rfl))
end Reference

section Whole
variable (m : (ℓ : Loc nD τ sig) → Buf (Elt Ideal) ℓ) (hO : Ok m) (c : Dev nD)
abbrev P : S4x2x512x1920.Idx → EReal := m ((c : Thread nD τ).loc main_arg0)
abbrev R : S7x512x1920.Idx → EReal := m ((c : Thread nD τ).loc main_arg1)
abbrev SC : IVec S2 32 := m ((c : Thread nD τ).loc main_arg2)

/-- The grid's points are numbered in order. -/
theorem number : ∀ t : Fin grid0.N, (BitVec.ofNat 32 (grid0.coords t 0).val).toNat = t.val := by decide +kernel

/-- The call leaves the reference's sum. -/
theorem left (a : Fin 4) (b : Fin 2) (ha : (SC m c (ix1 0)).toNat = a.val) (hb : (SC m c (ix1 1)).toNat = b.val) :
    (dats m hO 0 c).arrAt 2 (cfgM m hO).N = Cert.Reference40Ideal.Read.val_main_v22 (F := Ideal) (P m c) (R m c) (SC m c) := by
  have hc : c = 0 := Subsingleton.elim _ _
  subst hc
  have ha' : (m ((0 : Dev nD).tc.loc main_arg2) (ix1 0)).toNat = a.val := ha
  have hb' : (m ((0 : Dev nD).tc.loc main_arg2) (ix1 1)).toNat = b.val := hb
  obtain ⟨e0, e1⟩ := entry (tbl m)
  rw [show tbl m 0 = m ((0 : Dev nD).tc.loc main_arg2) from V_main_arg2 m 0] at e0 e1
  have place : ∀ (t : Fin (cfgM m hO).N) (p : Fin 128) (q : Fin 1920), (((cfgM m hO).win 2).blk t).view.emb (ix2 p q)
      = (ix2 ⟨t.val * 128 + p.val, by have := t.isLt; have : (cfgM m hO).N = 4 := N_0; omega⟩ q : S512x1920.Idx) := by
    intro t p q
    funext x; apply Fin.ext
    match x with
    | ⟨0, _⟩ => show (BitVec.ofNat 32 (grid0.coords t 0).val).toNat * 128 + 1 * p.val = t.val * 128 + p.val; rw [number t]; omega
    | ⟨1, _⟩ => show (0#32 : BitVec 32).toNat * 1920 + 1 * q.val = q.val; simp
  refine (dats m hO 0 0).arrAt_eq_of_cover 2 _ (fun t _ => ?_) fun (i : S512x1920.Idx) => ?_
  · show ((cfgM m hO).win 2).cut (grid0.coords t) ((dats m hO 0 0).after 2 t) = _
    rw [after0_2]
    unfold outsAt0
    refine funext fun (j : S128x1920.Idx) => ?_
    obtain ⟨p, q, rfl⟩ : ∃ p q, j = ix2 p q := ⟨j 0, j 1, funext fun | ⟨0, _⟩ => rfl | ⟨1, _⟩ => rfl⟩
    refine (block _ _ _ _ _ _ _ _ _ _ _ p q).trans ?_
    refine Eq.trans ?_ (congrArg (Cert.Reference40Ideal.Read.val_main_v22 (F := Ideal) (P m 0) (R m 0) (SC m 0)) (place t p q).symm)
    rw [ref _ _ _ a b ha hb]
    refine congrArg₂ (· + ·) ?_ (Finset.sum_congr rfl fun k _ => ?_)
    · refine Eq.trans (congrArg (V m 0 main_arg0) (funext fun x => Fin.ext ?_)) (congrFun (V_main_arg0 m 0) _)
      match x with
      | ⟨0, _⟩ => show ((tbl m).at 0 _ _).toNat * 1 + 1 * 0 = a.val; rw [e0, ha']; omega
      | ⟨1, _⟩ => show ((tbl m).at 0 _ _).toNat * 1 + 1 * 0 = b.val; rw [e1, hb']; omega
      | ⟨2, _⟩ => show (BitVec.ofNat 32 (grid0.coords t 0).val).toNat * 128 + 1 * p.val = t.val * 128 + p.val; rw [number t]; omega
      | ⟨3, _⟩ => show (0#32 : BitVec 32).toNat * 1920 + 1 * q.val = q.val; simp
    · refine Eq.trans (congrArg (V m 0 main_arg1) (funext fun x => Fin.ext ?_)) (congrFun (V_main_arg1 m 0) _)
      match x with
      | ⟨0, _⟩ => show (0#32 : BitVec 32).toNat * 7 + 1 * k.val = k.val; simp
      | ⟨1, _⟩ => show (BitVec.ofNat 32 (grid0.coords t 0).val).toNat * 128 + 1 * p.val = t.val * 128 + p.val; rw [number t]; omega
      | ⟨2, _⟩ => show (0#32 : BitVec 32).toNat * 1920 + 1 * q.val = q.val; simp
  · have hi : (i 0).val < 512 := (i 0).isLt
    have hN : (cfgM m hO).N = 4 := N_0
    refine ⟨⟨(i 0).val / 128, by omega⟩, flush0_2 _ _, ?_⟩
    let t : Fin (cfgM m hO).N := ⟨(i 0).val / 128, by omega⟩
    refine (congrArg (fun z => z ∈ (((cfgM m hO).win 2).blk t).view.set) ((place t ⟨(i 0).val % 128, Nat.mod_lt _ (by decide)⟩ (i 1)).trans
      (funext fun x => Fin.ext ?_))).mp (View.emb_mem_set _ _)
    match x with
    | ⟨0, _⟩ => show (i 0).val / 128 * 128 + (i 0).val % 128 = (i 0).val; omega
    | ⟨1, _⟩ => rfl

/-- What the lines after the call make of the flag, the call's array and the other half. -/
abbrev both (f : IVec S_ 1) (x o : S512x1920.Idx → EReal) : S1024x1920.Idx → EReal :=
  concatenate S1024x1920 0 [⟨S512x1920, select (broadcastInDim S512x1920 ![] bcast_S_S512x1920 f) x o⟩,
    ⟨S512x1920, select (broadcastInDim S512x1920 ![] bcast_S_S512x1920 f) o x⟩] concatenates_S512x1920_S512x1920_S1024x1920_d0

theorem alike {f f' : IVec S_ 1} {x x' o o' : S512x1920.Idx → EReal} (hf : f = f') (hx : x = x') (ho : o = o') : both f x o = both f' x' o' := by
  rw [hf, hx, ho]

/-- The lines after the call, from any contents. -/
theorem tail (W : Valuation τ sig (Elt Ideal)) :
    StableHlo.after (List.flatten [hostOps1, hostOps1_1, hostOps1_2]) W (Proc.devRef .tc main_v7)
      = extractStridedSlice S1024x512 ![0, 0] (both (W (Proc.devRef .tc main_v2)) (W (Proc.devRef .tc main_v3)) (W (Proc.devRef .tc main_arg3))) slices_S1024x1920_S1024x512_0_0
    ∧ StableHlo.after (List.flatten [hostOps1, hostOps1_1, hostOps1_2]) W (Proc.devRef .tc main_v8)
      = extractStridedSlice S1024x1408 ![0, 512] (both (W (Proc.devRef .tc main_v2)) (W (Proc.devRef .tc main_v3)) (W (Proc.devRef .tc main_arg3))) slices_S1024x1920_S1024x1408_0_512 := by
  constructor <;>
  · simp only [hostOps1, hostOps1_1, hostOps1_2, List.flatten_cons, List.flatten_nil, List.cons_append, List.nil_append, List.append_nil]
    after_results <;> rfl

/-- The flag the first lines compute. -/
theorem flag : V m c main_v2 = Cert.Reference40Ideal.Read.val_main_v2 (F := Ideal) (SC m c) := by
  entry_read
  rfl

abbrev O : S512x1920.Idx → EReal := m ((c : Thread nD τ).loc main_arg3)

open Cert.Reference40Ideal.Read in
/-- The kernel's run ends with the reference's two arrays. -/
theorem run (ρ : Dev nD → PrngReg) (h : Cert.Pre_Kernel40Ideal m) :
    θ_run defs (onTc (τ := τ) (main (F := Ideal))) ⟨m, fun _ => 0, ρ⟩ (fun r => ∀ c : Dev nD,
      r.2.mem ((c.tc : Thread nD τ).loc main_v7) = val_main_v26 (F := Ideal) (P m c) (R m c) (SC m c) (O m c)
      ∧ r.2.mem ((c.tc : Thread nD τ).loc main_v8) = val_main_v27 (F := Ideal) (P m c) (R m c) (SC m c) (O m c)) := by
  have hO := ok m h
  refine (θ_run _ _ _).mono (fun r hr c => ?_) (run_main m ρ hO)
  obtain ⟨b0, b1⟩ := bounds _ _ _ _ (h c)
  have h3 := left m hO c ⟨_, b0⟩ ⟨_, b1⟩ rfl rfl
  have q7 := (hr c).2 main_v7 (Pipeline.mem_restRefs_of main_v7 (by decide) (by exact (by decide : ∀ w, Pipeline.arrRef spec0 w ≠ main_v7)))
  have q8 := (hr c).2 main_v8 (Pipeline.mem_restRefs_of main_v8 (by decide) (by exact (by decide : ∀ w, Pipeline.arrRef spec0 w ≠ main_v8)))
  unfold Pipeline.afterTail at q7 q8
  rw [(tail _).1] at q7
  rw [(tail _).2] at q8
  have w2 := Pipeline.withArrays_of_ne spec0 c (V0 m c) (fun w => (dats m hO 0 c).arrAt w (cfgM m hO).N) main_v2
    (by exact (by decide : ∀ w, Pipeline.arrRef spec0 w ≠ main_v2))
  have wo := Pipeline.withArrays_of_ne spec0 c (V0 m c) (fun w => (dats m hO 0 c).arrAt w (cfgM m hO).N) main_arg3
    (by exact (by decide : ∀ w, Pipeline.arrRef spec0 w ≠ main_arg3))
  have w3 := Pipeline.withArrays_arr spec0 (launch0 (F := Ideal)).win.arr_inj c (V0 m c) (fun w => (dats m hO 0 c).arrAt w (cfgM m hO).N) 2
  have key := alike (w2.trans (flag m c)) (w3.trans h3) (wo.trans (V_main_arg3 m c))
  exact ⟨q7.trans (congrArg (fun z => extractStridedSlice S1024x512 ![0, 0] z slices_S1024x1920_S1024x512_0_0) key),
    q8.trans (congrArg (fun z => extractStridedSlice S1024x1408 ![0, 512] z slices_S1024x1920_S1024x1408_0_512) key)⟩

end Whole

/-- The claim: from the same arguments the kernel and the reference end with the same two arrays. -/
theorem algebraic : Cert.algebraic_Kernel40Ideal_Reference40Ideal := by
  intro m g m' g' hp h
  refine ⟨_, _, (θ_run _ _ _).mono (fun r hr c => ⟨(hr.1 c).1, (hr.1 c).2, hr.2 c⟩) (θ_run_and (run m g hp) (unchanged m g (ok m hp))),
    (θ_run _ _ _).mono (fun r hr c => ⟨(hr c).1.trans ?_, (hr c).2.1.trans ?_, (hr c).2.2⟩) (Cert.Reference40Ideal.Value.run m' g')⟩
  all_goals obtain ⟨h0, h1, h2, h3⟩ := h c; rw [h0, h1, h2, h3]
  · exact Cert.Reference40Ideal.Read.val_main_v26_eq _ _ _ _
  · exact Cert.Reference40Ideal.Read.val_main_v27_eq _ _ _ _

end Cert.Kernel40Ideal.Peers

end
-- ==== Proof.Peers41.lean ====
module

public import proofs.«01_k».proof.Proof.PeerSum
public import proofs.«01_k».proof.Proof.Gen.Kernel41.Frame
public import proofs.«01_k».proof.Proof.Gen.Kernel41Ideal.Frame
public import proofs.«01_k».proof.Proof.Gen.Pre_placed41
public import proofs.«01_k».proof.Proof.Gen.Reference41Ideal.Read
public import proofs.«01_k».proof.Defs
public import Idealize.ShloMosaic.Lib.Pointwise
public import Idealize.ShloMosaic.Lib.Tactic
public import Idealize.ShloMosaic.Lib.Pipeline.Value

/-!
# The sum over the chips of the state-space input weight's gradient

The body adds the three received blocks to the chip's own block, which it finds by the number in the index. The
precondition keeps the number in range. The reference picks the own block by a sum in which every other block counts
as zero.
-/

@[expose] public section

set_option maxRecDepth 16384

noncomputable section

/-! ## The index is in range -/

namespace Cert.Kernel41.Peers

open Cert.Kernel41 Cert.Kernel41.Gen Idealize.ShloMosaic Idealize.ShloMosaic.TcCoe Idealize.SL.Sem
open Cert.PeerSum

/-- The precondition bounds the number. -/
theorem bound {F : FTy → Type} [FloatOps F] (p : FVec F Cert.Pre_placed41.S4x512x1664 .f32) (r : FVec F Cert.Pre_placed41.S3x512x1664 .bf16)
    (sc ci : IVec S1 32) (o : FVec F Cert.Pre_placed41.S512x1664 .f32) (h : Cert.Pre_placed41.fn (F := F) p r sc ci o = fun _ => 1#1) :
    (sc (ix1 0)).toNat < 4 :=
  below _ 4 (by decide) (congrFun h (ix1 0))

/-- The word of the table. -/
theorem entry (pf : pre0.Contents (Elt Bits)) : pf.at 0 (Rect.unit (s := S1) ![0] S1.size inb_S1_S1_0) numel1_S1 = pf 0 (ix1 0) :=
  congrArg (pf 0) (funext fun | ⟨0, _⟩ => Fin.ext rfl)

/-- Every block the index names is inside the array. -/
theorem ok (m : (ℓ : Loc nD τ sig) → Buf (Elt Bits) ℓ) (h : Cert.Pre_Kernel41 m) : Ok m := by
  have b0 := bound _ _ _ _ _ (h 0)
  have e0 := entry (tbl m)
  intro i
  have hi : (i 0).val < 2 := (i 0).isLt
  refine ⟨fun a => ?_, .inl rfl⟩
  rw [show tbl m 0 = m ((0 : Dev nD).tc.loc main_arg2) from V_main_arg2 m 0] at e0
  unfold cc0_transform_0
  rw [e0]
  match a with
  | ⟨0, _⟩ => show (BitVec.toNat _ + 1) * 1 ≤ 4; omega
  | ⟨1, _⟩ => show (BitVec.toNat _ + 1) * 256 ≤ 512; rw [BitVec.toNat_ofNat]; omega
  | ⟨2, _⟩ => show (BitVec.toNat _ + 1) * 1664 ≤ 1664; decide

end Cert.Kernel41.Peers

namespace Cert.Kernel41Ideal.Peers

open Cert.Kernel41Ideal Cert.Kernel41Ideal.Gen Idealize.ShloMosaic Idealize.ShloMosaic.TcCoe Idealize.SL.Sem
open Cert.PeerSum
open Cert.Kernel41.Peers (bound)

/-- The word of the table. -/
theorem entry (pf : pre0.Contents (Elt Ideal)) : pf.at 0 (Rect.unit (s := S1) ![0] S1.size inb_S1_S1_0) numel1_S1 = pf 0 (ix1 0) :=
  congrArg (pf 0) (funext fun | ⟨0, _⟩ => Fin.ext rfl)

/-- Every block the index names is inside the array. -/
theorem ok (m : (ℓ : Loc nD τ sig) → Buf (Elt Ideal) ℓ) (h : Cert.Pre_Kernel41Ideal m) : Ok m := by
  have b0 := bound _ _ _ _ _ (h 0)
  have e0 := entry (tbl m)
  intro i
  have hi : (i 0).val < 2 := (i 0).isLt
  refine ⟨fun a => ?_, .inl rfl⟩
  rw [show tbl m 0 = m ((0 : Dev nD).tc.loc main_arg2) from V_main_arg2 m 0] at e0
  unfold cc0_transform_0
  rw [e0]
  match a with
  | ⟨0, _⟩ => show (BitVec.toNat _ + 1) * 1 ≤ 4; omega
  | ⟨1, _⟩ => show (BitVec.toNat _ + 1) * 256 ≤ 512; rw [BitVec.toNat_ofNat]; omega
  | ⟨2, _⟩ => show (BitVec.toNat _ + 1) * 1664 ≤ 1664; decide

/-! ## One block, and the reference -/

theorem origin2 : (![(0 : ℕ), 0] : Fin 2 → ℕ) = fun _ => 0 := funext fun i => match i with | ⟨0, _⟩ => rfl | ⟨1, _⟩ => rfl
theorem origin3 : (![(0 : ℕ), 0, 0] : Fin 3 → ℕ) = fun _ => 0 := funext fun i => match i with | ⟨0, _⟩ => rfl | ⟨1, _⟩ => rfl | ⟨2, _⟩ => rfl

/-- A block of the result: the chip's own block and the three received ones, added up. -/
theorem block (c : Dev nD) (i : grid0.Coords) (arg2 : Memref sig .tc .vmem S1x256x1664 .f32) (harg2 : arg2.IsWhole)
    (arg3 : Memref sig .tc .vmem S3x256x1664 .bf16) (harg3 : arg3.IsWhole) (arg4 : Memref sig .tc .vmem S256x1664 .f32) (harg4 : arg4.IsWhole)
    (x0 : Vec Ideal S1x256x1664 .f32) (x1 : Vec Ideal S3x256x1664 .bf16) (xt0 : TbBuf0 (F := Ideal) c tbM0_0) (p : Fin 256) (q : Fin 1664) :
    (out0_A_2 (F := Ideal) c i arg2 harg2 arg3 harg3 arg4 harg4 x0 x1 xt0 (ix2 p q) : EReal)
      = x0 (ix3 0 p q) + ∑ k : Fin 3, (x1 (ix3 k p q) : EReal) := by
  unfold out0_A_2
  rw [View.read_writes_eq_canon _ _ _ (cover0_A_2 (F := Ideal) c i arg2 harg2 arg3 harg3 arg4 harg4 x0 x1 xt0)]
  simp only [kernelRun0_A]
  rw [View.canon_unit_zero (S := S256x1664) origin2]
  simp only [View.readAt_eq_ld, harg2.read_unread, harg3.read_unread, View.ld_unit_zero (S := S1x256x1664) origin3]
  rw [Fin.sum_univ_three]
  pointwise [k0_pay1]
  simp only [add_assoc]

section Reference
open Cert.Reference41Ideal.Read

/-- The reference's sum, entry by entry. -/
theorem ref (P : S4x512x1664.Idx → EReal) (R : S3x512x1664.Idx → EReal) (sc : IVec S1 32) (a : Fin 4)
    (ha : (sc (ix1 0)).toNat = a.val) (p : Fin 512) (q : Fin 1664) :
    (val_main_v11 (F := Ideal) P R sc (ix2 p q) : EReal) = P (ix3 a p q) + ∑ k : Fin 3, R (ix3 k p q) := by
  have h8 : (val_main_v8 (F := Ideal) P sc (ix2 p q) : EReal) = P (ix3 a p q) := by
    refine Eq.trans ?_ (pick (fun j : Fin 4 => P (ix3 j p q)) a (sc (ix1 0)) (by decide) ha)
    rw [val_main_v8_apply]
    pointwise [val_main_v7, val_main_call0_v1, val_main_call0_v2, val_main_call0_v0, val_main_cst, val_main_v6, val_main_v5, val_main_v4, val_main_v3, val_main_v2, val_main_cst_0]
    refine Finset.sum_congr rfl fun x _ => ?_
    rw [show idx_main_v8 (ix2 p q) x = ix3 x p q from funext fun | ⟨0, _⟩ => rfl | ⟨1, _⟩ => rfl | ⟨2, _⟩ => rfl]
    pointwise [id]
  rw [val_main_v11_apply, val_main_v10_apply, h8]
  pointwise [val_main_v9, val_main_cst_1]
  refine congrArg (_ + ·) (Finset.sum_congr rfl fun x _ => congrArg R (funext fun | ⟨0, _⟩ => rfl | ⟨1, _⟩ => rfl | ⟨2, _⟩ => rfl))
end Reference

section Whole
variable (m : (ℓ : Loc nD τ sig) → Buf (Elt Ideal) ℓ) (hO : Ok m) (c : Dev nD)
abbrev P : S4x512x1664.Idx → EReal := m ((c : Thread nD τ).loc main_arg0)
abbrev R : S3x512x1664.Idx → EReal := m ((c : Thread nD τ).loc main_arg1)
abbrev SC : IVec S1 32 := m ((c : Thread nD τ).loc main_arg2)
abbrev CI : IVec S1 32 := m ((c : Thread nD τ).loc main_arg3)

/-- The grid's points are numbered in order. -/
theorem number : ∀ t : Fin grid0.N, (BitVec.ofNat 32 (grid0.coords t 0).val).toNat = t.val := by decide +kernel

/-- The call leaves the reference's sum. -/
theorem left (a : Fin 4) (ha : (SC m c (ix1 0)).toNat = a.val) :
    (dats m hO 0 c).arrAt 2 (cfgM m hO).N = Cert.Reference41Ideal.Read.val_main_v11 (F := Ideal) (P m c) (R m c) (SC m c) := by
  have hc : c = 0 := Subsingleton.elim _ _
  subst hc
  have ha' : (m ((0 : Dev nD).tc.loc main_arg2) (ix1 0)).toNat = a.val := ha
  have e0 := entry (tbl m)
  rw [show tbl m 0 = m ((0 : Dev nD).tc.loc main_arg2) from V_main_arg2 m 0] at e0
  have place : ∀ (t : Fin (cfgM m hO).N) (p : Fin 256) (q : Fin 1664), (((cfgM m hO).win 2).blk t).view.emb (ix2 p q)
      = (ix2 ⟨t.val * 256 + p.val, by have := t.isLt; have : (cfgM m hO).N = 2 := N_0; omega⟩ q : S512x1664.Idx) := by
    intro t p q
    funext x; apply Fin.ext
    match x with
    | ⟨0, _⟩ => show (BitVec.ofNat 32 (grid0.coords t 0).val).toNat * 256 + 1 * p.val = t.val * 256 + p.val; rw [number t]; omega
    | ⟨1, _⟩ => show (0#32 : BitVec 32).toNat * 1664 + 1 * q.val = q.val; simp
  refine (dats m hO 0 0).arrAt_eq_of_cover 2 _ (fun t _ => ?_) fun (i : S512x1664.Idx) => ?_
  · show ((cfgM m hO).win 2).cut (grid0.coords t) ((dats m hO 0 0).after 2 t) = _
    rw [after0_2]
    unfold outsAt0
    refine funext fun (j : S256x1664.Idx) => ?_
    obtain ⟨p, q, rfl⟩ : ∃ p q, j = ix2 p q := ⟨j 0, j 1, funext fun | ⟨0, _⟩ => rfl | ⟨1, _⟩ => rfl⟩
    refine (block _ _ _ _ _ _ _ _ _ _ _ p q).trans ?_
    refine Eq.trans ?_ (congrArg (Cert.Reference41Ideal.Read.val_main_v11 (F := Ideal) (P m 0) (R m 0) (SC m 0)) (place t p q).symm)
    rw [ref _ _ _ a ha]
    refine congrArg₂ (· + ·) ?_ (Finset.sum_congr rfl fun k _ => ?_)
    · refine Eq.trans (congrArg (V m 0 main_arg0) (funext fun x => Fin.ext ?_)) (congrFun (V_main_arg0 m 0) _)
      match x with
      | ⟨0, _⟩ => show ((tbl m).at 0 _ _).toNat * 1 + 1 * 0 = a.val; rw [e0, ha']; omega
      | ⟨1, _⟩ => show (BitVec.ofNat 32 (grid0.coords t 0).val).toNat * 256 + 1 * p.val = t.val * 256 + p.val; rw [number t]; omega
      | ⟨2, _⟩ => show (0#32 : BitVec 32).toNat * 1664 + 1 * q.val = q.val; simp
    · refine Eq.trans (congrArg (V m 0 main_arg1) (funext fun x => Fin.ext ?_)) (congrFun (V_main_arg1 m 0) _)
      match x with
      | ⟨0, _⟩ => show (0#32 : BitVec 32).toNat * 3 + 1 * k.val = k.val; simp
      | ⟨1, _⟩ => show (BitVec.ofNat 32 (grid0.coords t 0).val).toNat * 256 + 1 * p.val = t.val * 256 + p.val; rw [number t]; omega
      | ⟨2, _⟩ => show (0#32 : BitVec 32).toNat * 1664 + 1 * q.val = q.val; simp
  · have hi : (i 0).val < 512 := (i 0).isLt
    have hN : (cfgM m hO).N = 2 := N_0
    refine ⟨⟨(i 0).val / 256, by omega⟩, flush0_2 _ _, ?_⟩
    let t : Fin (cfgM m hO).N := ⟨(i 0).val / 256, by omega⟩
    refine (congrArg (fun z => z ∈ (((cfgM m hO).win 2).blk t).view.set) ((place t ⟨(i 0).val % 256, Nat.mod_lt _ (by decide)⟩ (i 1)).trans
      (funext fun x => Fin.ext ?_))).mp (View.emb_mem_set _ _)
    match x with
    | ⟨0, _⟩ => show (i 0).val / 256 * 256 + (i 0).val % 256 = (i 0).val; omega
    | ⟨1, _⟩ => rfl

/-- What the lines after the call make of the flag, the call's array and the other half. -/
abbrev both (f : IVec S_ 1) (x o : S512x1664.Idx → EReal) : S1024x1552.Idx → EReal :=
  extractStridedSlice S1024x1552 ![0, 0] (concatenate S1024x1664 0 [⟨S512x1664, select (broadcastInDim S512x1664 ![] bcast_S_S512x1664 f) x o⟩,
    ⟨S512x1664, select (broadcastInDim S512x1664 ![] bcast_S_S512x1664 f) o x⟩] concatenates_S512x1664_S512x1664_S1024x1664_d0) slices_S1024x1664_S1024x1552_0_0

theorem alike {f f' : IVec S_ 1} {x x' o o' : S512x1664.Idx → EReal} (hf : f = f') (hx : x = x') (ho : o = o') : both f x o = both f' x' o' := by
  rw [hf, hx, ho]

/-- The lines after the call, from any contents. -/
theorem tail (W : Valuation τ sig (Elt Ideal)) :
    StableHlo.after (List.flatten [hostOps1, hostOps1_1, hostOps1_2]) W (Proc.devRef .tc main_v6)
      = both (W (Proc.devRef .tc main_v1)) (W (Proc.devRef .tc main_v2)) (W (Proc.devRef .tc main_arg4)) := by
  simp only [hostOps1, hostOps1_1, hostOps1_2, List.flatten_cons, List.flatten_nil, List.cons_append, List.nil_append, List.append_nil]
  after_results <;> rfl

/-- The flag the first lines compute. -/
theorem flag : V m c main_v1 = Cert.Reference41Ideal.Read.val_main_v1 (F := Ideal) (CI m c) := by
  entry_read
  rfl

abbrev O : S512x1664.Idx → EReal := m ((c : Thread nD τ).loc main_arg4)

open Cert.Reference41Ideal.Read in
/-- The kernel's run ends with the reference's array. -/
theorem run (ρ : Dev nD → PrngReg) (h : Cert.Pre_Kernel41Ideal m) :
    θ_run defs (onTc (τ := τ) (main (F := Ideal))) ⟨m, fun _ => 0, ρ⟩ (fun r => ∀ c : Dev nD,
      r.2.mem ((c.tc : Thread nD τ).loc main_v6) = val_main_v15 (F := Ideal) (P m c) (R m c) (SC m c) (CI m c) (O m c)) := by
  have hO := ok m h
  refine (θ_run _ _ _).mono (fun r hr c => ?_) (run_main m ρ hO)
  have h3 := left m hO c ⟨_, bound _ _ _ _ _ (h c)⟩ rfl
  have q6 := (hr c).2 main_v6 (Pipeline.mem_restRefs_of main_v6 (by decide) (by exact (by decide : ∀ w, Pipeline.arrRef spec0 w ≠ main_v6)))
  unfold Pipeline.afterTail at q6
  rw [tail _] at q6
  have w2 := Pipeline.withArrays_of_ne spec0 c (V0 m c) (fun w => (dats m hO 0 c).arrAt w (cfgM m hO).N) main_v1
    (by exact (by decide : ∀ w, Pipeline.arrRef spec0 w ≠ main_v1))
  have wo := Pipeline.withArrays_of_ne spec0 c (V0 m c) (fun w => (dats m hO 0 c).arrAt w (cfgM m hO).N) main_arg4
    (by exact (by decide : ∀ w, Pipeline.arrRef spec0 w ≠ main_arg4))
  have w3 := Pipeline.withArrays_arr spec0 (launch0 (F := Ideal)).win.arr_inj c (V0 m c) (fun w => (dats m hO 0 c).arrAt w (cfgM m hO).N) 2
  have key := alike (w2.trans (flag m c)) (w3.trans h3) (wo.trans (V_main_arg4 m c))
  exact q6.trans key

end Whole

/-- The claim: from the same arguments the kernel and the reference end with the same array. -/
theorem algebraic : Cert.algebraic_Kernel41Ideal_Reference41Ideal := by
  intro m g m' g' hp h
  refine ⟨_, (θ_run _ _ _).mono (fun r hr c => ⟨hr.1 c, hr.2 c⟩) (θ_run_and (run m g hp) (unchanged m g (ok m hp))),
    (θ_run _ _ _).mono (fun r hr c => ⟨(hr c).1.trans ?_, (hr c).2⟩) (Cert.Reference41Ideal.Value.run m' g')⟩
  obtain ⟨h0, h1, h2, h3, h4⟩ := h c
  rw [h0, h1, h2, h3, h4]
  exact Cert.Reference41Ideal.Read.val_main_v15_eq _ _ _ _ _

end Cert.Kernel41Ideal.Peers

end
-- ==== Proof.Product10.lean ====
/-
  The gradient of the input of the convolution block's first product: cotangent · weightᵀ.
  Each grid point takes one block of rows against one block of the weight's rows, the contracted axis whole: here the
  result array is shown to be the whole product.
-/
module

public import proofs.«01_k».proof.Proof.Gen.Kernel10Ideal.Value
public import proofs.«01_k».proof.Proof.Gen.Reference10Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel10Ideal.Product

open Cert.Kernel10Ideal Cert.Kernel10Ideal.Gen Cert.Kernel10Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1024x2048 .bf16) (x1 : Vec Ideal S1024x2048 .bf16) (a : Fin 1024) (b : Fin 1024) :
    (out0_2 (F := Ideal) x0 x1 (ix2 a b) : EReal) = ∑ k : Fin 2048, (x0 (ix2 a k) : EReal) * (x1 (ix2 b k) : EReal) := by
  have e : out0_2 (F := Ideal) x0 x1 = k0_pay1 (F := Ideal) x0 x1 := by
    unfold out0_2
    rw [View.canon_unit_zero origin]
    simp only [View.ld_unit_zero (S := S1024x2048) origin]
  rw [e]
  pointwise [k0_pay1]

variable (m : (ℓ : Loc nD τ sig) → Buf (Elt Ideal) ℓ)

/-- The two arrays multiplied as the run finds them. -/
abbrev lhs (c : Dev nD) : S4096x2048.Idx → EReal := m ((c : Thread nD τ).loc main_arg0)
abbrev rhs (c : Dev nD) : S1024x2048.Idx → EReal := m ((c : Thread nD τ).loc main_arg1)

/-- Which blocks a grid point reads and writes. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1024) (q : Fin 2048) :
    (iblk m c 0 t (ix2 p q) : EReal) = rd (lhs m c) (1024 * (t.val) + p.val) (q.val) := by
  obtain ⟨e0, e1⟩ := index0 t
  unfold iblk
  rw [View.read_apply]
  refine eq_rd (lhs m c) _ ?_ ?_
  · show win0_0.index t (0 : Fin 2) * 1024 + 1 * p.val = _
    rw [e0]; omega
  · show win0_0.index t (1 : Fin 2) * 2048 + 1 * q.val = _
    rw [e1]; omega

theorem rhs_block (c : Dev nD) (t : Fin cfg0.N) (p : Fin 1024) (q : Fin 2048) :
    (iblk m c 1 t (ix2 p q) : EReal) = rd (rhs m c) (p.val) (q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 2048 + 1 * q.val = _
    rw [e1]; omega

/-- The result array after the run, at every row and column. -/
theorem result_sum (c : Dev nD) (i : S4096x1024.Idx) :
    ((dats m 0 c).arrAt 2 cfg0.N i : EReal) = (∑ k : Fin 2048, rd (lhs m c) (i 0).val k.val * rd (rhs m c) (i 1).val k.val) := by
  have hi0 : (i 0).val < 4096 := (i 0).isLt
  have hi1 : (i 1).val < 1024 := (i 1).isLt
  have hN : 1 * ((i 0).val / 1024) + (i 1).val / 1024 < cfg0.N := lt_of_lt_of_eq (by omega) (show 4 = cfg0.N from N_0.symm)
  obtain ⟨t, ht⟩ : ∃ t : Fin cfg0.N, t.val = 1 * ((i 0).val / 1024) + (i 1).val / 1024 := ⟨⟨_, hN⟩, rfl⟩
  obtain ⟨e0, e1⟩ := index2 t
  let y : S1024x1024.Idx := ix2 ⟨(i 0).val % 1024, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1024 + 1 * ((i 0).val % 1024) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1024 := ⟨(i 0).val % 1024, Nat.mod_lt _ (by decide)⟩
  let q : Fin 1024 := ⟨(i 1).val % 1024, Nat.mod_lt _ (by decide)⟩
  have r0 : 1024 * (t.val) + p.val = (i 0).val := by show 1024 * (t.val) + (i 0).val % 1024 = _; omega
  have r1 : q.val = (i 1).val := by show (i 1).val % 1024 = _; omega
  let X : S1024x2048.Idx → EReal := iblk m c 0 t
  let Y : S1024x2048.Idx → EReal := iblk m c 1 t
  have hs : (∑ k : Fin 2048, X (ix2 p k) * Y (ix2 q k))
      = ∑ k : Fin 2048, rd (lhs m c) (i 0).val k.val * rd (rhs m c) (i 1).val k.val :=
    Finset.sum_congr rfl fun k _ => congrArg₂ (· * ·)
      ((lhs_block m c t p k).trans (congrArg (fun r => rd (lhs m c) r k.val) r0))
      ((rhs_block m c t q k).trans (congrArg (fun r => rd (rhs m c) r k.val) r1))
  exact (hb.trans (out_entry (iblk m c 0 t) (iblk m c 1 t) p q)).trans hs

/-- The reference's result at an index, as a sum over the contracted axis. -/
theorem ref_sum (x : S4096x2048.Idx → EReal) (y : S1024x2048.Idx → EReal) (i : S4096x1024.Idx) :
    (Cert.Reference10Ideal.Read.val_main_v4 (F := Ideal) x y i : EReal) = ∑ k : Fin 2048, x (ix2 (i 0) k) * y (ix2 (i 1) k) := by
  pointwise [Cert.Reference10Ideal.Read.val_main_v4, Cert.Reference10Ideal.Read.val_main_v1, Cert.Reference10Ideal.Read.val_main_v0]

/-- The result array is the reference's: the derivative of the plain product, as it is read at each index. -/
theorem result_eq (c : Dev nD) :
    (dats m 0 c).arrAt 2 cfg0.N = Cert.Reference10Ideal.Read.val_main_v4 (F := Ideal) (lhs m c) (rhs m c) := by
  funext i
  have e : (∑ k : Fin 2048, rd (lhs m c) (i 0).val k.val * rd (rhs m c) (i 1).val k.val)
      = ∑ k : Fin 2048, lhs m c (ix2 (i 0) k) * rhs m c (ix2 (i 1) k) :=
    Finset.sum_congr rfl fun k _ => congrArg₂ (· * ·) (rd_of_lt (lhs m c) (i 0).isLt k.isLt) (rd_of_lt (rhs m c) (i 1).isLt k.isLt)
  exact (result_sum m c i).trans (e.trans (ref_sum (lhs m c) (rhs m c) i).symm)

/-- The claim: from the same arguments the kernel and the reference end with the same result array. -/
theorem algebraic : Cert.algebraic_Kernel10Ideal_Reference10Ideal := by
  intro m g m' g' _ h
  refine ⟨fun c => (dats m 0 c).arrAt 2 cfg0.N, run_blocks m g, (θ_run _ _ _).mono (fun r hr c => ?_) (Cert.Reference10Ideal.Value.run m' g')⟩
  obtain ⟨h0, h1⟩ := h c
  obtain ⟨hv, ha⟩ := hr c
  refine ⟨?_, ha⟩
  rw [hv, h0, h1]
  exact (result_eq m c).symm

end Cert.Kernel10Ideal.Product

end
-- ==== Proof.Product11.lean ====
/-
  The gradient of the convolution block's first weight: inputᵀ · cotangent.
  The kernel accumulates the product chunk by chunk along the contracted axis, in a scratch array that it resets at the
  first chunk and copies to the result's block at the last: here the result array is shown to be the whole sum.
-/
module

public import proofs.«01_k».proof.Proof.Gen.Kernel11Ideal.Value
public import proofs.«01_k».proof.Proof.Gen.Reference11Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel11Ideal.Product

open Cert.Kernel11Ideal Cert.Kernel11Ideal.Gen Cert.Kernel11Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i) (x0 : Vec F S2048x1024 .bf16) (x1 : Vec F S2048x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2048x1024) origin,
    View.ld_unit_zero (S := S2048x1024) origin]

/-- At a last chunk the body adds the chunk's product to what the scratch array held. -/
theorem scratch_B (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .bf16)
    (acc : Vec F S1024x1024 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S2048x1024) origin,
    View.ld_unit_zero (S := S2048x1024) origin, View.ld_unit_zero (S := S1024x1024) origin]

/-- At a last chunk the body copies the scratch array, as it leaves it, to the result's block. -/
theorem result_last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .bf16)
    (acc : Vec F S1024x1024 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S2048x1024) origin,
    View.ld_unit_zero (S := S2048x1024) origin, View.ld_unit_zero (S := S1024x1024) origin]

end Stores

/-! ## Over the extended reals -/

variable (m : (ℓ : Loc nD τ sig) → Buf (Elt Ideal) ℓ)

/-- The two arrays multiplied, as the run finds them. -/
abbrev lhs (c : Dev nD) : S4096x1024.Idx → EReal := m ((c : Thread nD τ).loc main_arg0)
abbrev rhs (c : Dev nD) : S4096x2048.Idx → EReal := m ((c : Thread nD τ).loc main_arg1)

/-- The product's term at position `k` of the contracted axis, for row `I` and column `J` of the result. -/
abbrev term (c : Dev nD) (I J k : ℕ) : EReal := rd (lhs m c) k I * rd (rhs m c) k J

/-- The body's product of two blocks is the sum over the chunk. -/
theorem block_product (x0 : Vec Ideal S2048x1024 .bf16) (x1 : Vec Ideal S2048x1024 .bf16) (a : Fin 1024) (b : Fin 1024) :
    k0_pay2 (F := Ideal) x0 x1 (ix2 a b) = ∑ k : Fin 2048, (x0 (ix2 k a) : EReal) * (x1 (ix2 k b) : EReal) := by
  pointwise [k0_pay2, k0_pay1]

/-- … and the accumulated one adds it to what was there. -/
theorem block_add (x0 : Vec Ideal S2048x1024 .bf16) (x1 : Vec Ideal S2048x1024 .bf16) (acc : Vec Ideal S1024x1024 .f32) (a : Fin 1024) (b : Fin 1024) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val % 2 ∧ win0_0.index t (1 : Fin 2) = t.val / 4 :=
  (by decide +kernel : ∀ t : Fin grid0.N, _)
theorem rhs_index : ∀ t : Fin cfg0.N, win0_1.index t (0 : Fin 2) = t.val % 2 ∧ win0_1.index t (1 : Fin 2) = t.val / 2 % 2 :=
  (by decide +kernel : ∀ t : Fin grid0.N, _)

/-- The operand blocks at a grid point, entry by entry. -/
theorem lhs_block (c : Dev nD) (t : Fin cfg0.N) (p : Fin 2048) (q : Fin 1024) :
    (iblk m c 0 t (ix2 p q) : EReal) = rd (lhs m c) (2048 * (t.val % 2) + p.val) (1024 * (t.val / 4) + q.val) := by
  obtain ⟨e0, e1⟩ := lhs_index t
  unfold iblk
  rw [View.read_apply]
  refine eq_rd (lhs m c) _ ?_ ?_
  · show win0_0.index t (0 : Fin 2) * 2048 + 1 * p.val = _
    rw [e0, Nat.one_mul, Nat.mul_comm]
  · show win0_0.index t (1 : Fin 2) * 1024 + 1 * q.val = _
    rw [e1, Nat.one_mul, Nat.mul_comm]
theorem rhs_block (c : Dev nD) (t : Fin cfg0.N) (p : Fin 2048) (q : Fin 1024) :
    (iblk m c 1 t (ix2 p q) : EReal) = rd (rhs m c) (2048 * (t.val % 2) + p.val) (1024 * (t.val / 2 % 2) + q.val) := by
  obtain ⟨e0, e1⟩ := rhs_index t
  unfold iblk
  rw [View.read_apply]
  refine eq_rd (rhs m c) _ ?_ ?_
  · show win0_1.index t (0 : Fin 2) * 2048 + 1 * p.val = _
    rw [e0, Nat.one_mul, Nat.mul_comm]
  · show win0_1.index t (1 : Fin 2) * 1024 + 1 * q.val = _
    rw [e1, Nat.one_mul, Nat.mul_comm]

/-- The product of the blocks at grid point `t` is the chunk of the whole product's sum. -/
theorem chunk_at (c : Dev nD) (t : Fin cfg0.N) (a : Fin 1024) (b : Fin 1024) :
    k0_pay2 (F := Ideal) (iblk m c 0 t) (iblk m c 1 t) (ix2 a b)
      = ∑ k : Fin 2048, term m c (1024 * (t.val / 4) + a.val) (1024 * (t.val / 2 % 2) + b.val) (2048 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 1024) : ∀ (n : ℕ) (h : n < cfg0.N),
    ((outsAt0 m c n h).2 (ix2 a b) : EReal)
      = ∑ k ∈ range (2048 * (n % 2 + 1)), term m c (1024 * (n / 4) + a.val) (1024 * (n / 2 % 2) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 2048 _
  | succ n ih =>
    intro h
    have hN : n + 1 < 4 := lt_of_lt_of_eq h (show cfg0.N = 4 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 2048 _
    · have e1 : (n + 1) % 2 = n % 2 + 1 := by omega
      have e2 : (n + 1) / 4 = n / 4 := by omega
      have e3 : (n + 1) / 2 % 2 = n / 2 % 2 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 2048 _ _

/-- At a last chunk the result's block is what the scratch array holds. -/
theorem result_eq_scratch (c : Dev nD) (n : ℕ) (h : n < cfg0.N) (h2 : n % 2 = 1) (a : Fin 1024) (b : Fin 1024) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4096x1024.Idx → EReal) (y : S4096x2048.Idx → EReal) (i : S1024x2048.Idx) :
    (Cert.Reference11Ideal.Read.val_main_v5 (F := Ideal) x y i : EReal)
      = ∑ k : Fin 4096, x (ix2 k (i 0)) * y (ix2 k (i 1)) := by
  pointwise [Cert.Reference11Ideal.Read.val_main_v5, Cert.Reference11Ideal.Read.val_main_v4, Cert.Reference11Ideal.Read.val_main_v1, Cert.Reference11Ideal.Read.val_main_v0]
  exact Finset.sum_congr rfl fun k _ => mul_comm _ _

/-- The result array after the run: the product's whole sum at every row and column. -/
theorem result_sum (c : Dev nD) (i : S1024x2048.Idx) :
    (G2 m c i : EReal) = ∑ k ∈ range 4096, term m c (i 0).val (i 1).val k := by
  have hi0 : (i 0).val < 1024 := (i 0).isLt
  have hi1 : (i 1).val < 2048 := (i 1).isLt
  have hv : pt2Of i = 2 * (2 * ((i 0).val / 1024) + (i 1).val / 1024) + 1 := by
    show 2 * (2 * ((i 0).val / 1024 - 0) + 1 * ((i 1).val / 1024 - 0)) + 1 = _
    omega
  have hp : pt2Of i < cfg0.N := lt_of_lt_of_eq (by rw [hv]; omega) (show 4 = cfg0.N from N_0.symm)
  have hl : loc2Of i = ix2 ⟨(i 0).val % 1024, Nat.mod_lt _ (by decide)⟩ ⟨(i 1).val % 1024, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 4) + (i 0).val % 1024 = (i 0).val := by rw [hv]; omega
  have e1 : 1024 * (pt2Of i / 2 % 2) + (i 1).val % 1024 = (i 1).val := by rw [hv]; omega
  have e2 : 2048 * (pt2Of i % 2 + 1) = 4096 := by rw [hv]; omega
  dsimp only
  rw [e0, e1, e2]

/-- The result array is the reference's: the derivative of the plain product, as it is read at each index. -/
theorem result_eq (c : Dev nD) :
    G2 m c = Cert.Reference11Ideal.Read.val_main_v5 (F := Ideal) (lhs m c) (rhs m c) := by
  funext i
  have e : ∑ k ∈ range 4096, term m c (i 0).val (i 1).val k
      = ∑ k : Fin 4096, lhs m c (ix2 k (i 0)) * rhs m c (ix2 k (i 1)) := by
    rw [← sum_fin]
    exact Finset.sum_congr rfl fun k _ => congrArg₂ (· * ·) (rd_of_lt (lhs m c) k.isLt (i 0).isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel11Ideal_Reference11Ideal := by
  intro m g m' g' _ h
  refine ⟨fun c => G2 m c, run m g, (θ_run _ _ _).mono (fun r hr c => ?_) (Cert.Reference11Ideal.Value.run m' g')⟩
  obtain ⟨h0, h1⟩ := h c
  obtain ⟨hv, ha⟩ := hr c
  refine ⟨?_, ha⟩
  rw [hv, h0, h1]
  exact (result_eq m c).symm

end Cert.Kernel11Ideal.Product

end
-- ==== Proof.Product12.lean ====
/-
  The gradient of the state-space block's input through its sequence's product, added to an array: base + cotangent · weightᵀ.
  The kernel accumulates the product chunk by chunk along the contracted axis, in a scratch array that it resets at the
  first chunk to the array it is given plus the first product, and copies to the result's block at the last: here the result array is shown to be the given array plus the whole sum.
-/
module

public import proofs.«01_k».proof.Proof.Gen.Kernel12Ideal.Value
public import proofs.«01_k».proof.Proof.Gen.Reference12Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel12Ideal.Product

open Cert.Kernel12Ideal Cert.Kernel12Ideal.Gen Cert.Kernel12Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves in the scratch array the chunk's product added to the given array's block. -/
theorem scratch_first (c : Dev nD) (i : grid0.Coords) (a3 : Memref sig .tc .vmem S1088x2048 .bf16) (h3 : a3.IsWhole)
    (a4 : Memref sig .tc .vmem S1024x2048 .bf16) (h4 : a4.IsWhole) (a5 : Memref sig .tc .vmem S1088x1024 .f32) (h5 : a5.IsWhole)
    (a6 : Memref sig .tc .vmem S1088x1024 .f32) (h6 : a6.IsWhole) (a7 : Memref sig .tc .vmem S1088x1024 .f32) (h7 : a7.IsWhole)
    (hc0 : cond0_0 i) (hc1 : ¬cond0_1 i) (hc2 : ¬cond0_2 i) (x0 : Vec F S1088x2048 .bf16) (x1 : Vec F S1024x2048 .bf16) (x2 : Vec F S1088x1024 .f32) :
    sout0_A_0 c i a3 h3 a4 h4 a5 h5 a6 h6 a7 h7 hc0 hc1 hc2 x0 x1 x2 = k0_pay2 x0 x1 x2 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero origin]
  simp only [View.readAt_eq_ld, h3.read_unread, h4.read_unread, h5.read_unread, View.ld_unit_zero (S := S1088x2048) origin,
    View.ld_unit_zero (S := S1024x2048) origin, View.ld_unit_zero (S := S1088x1024) origin]

/-- At a last chunk the body adds the chunk's product to what the scratch array held. -/
theorem scratch_B (c : Dev nD) (i : grid0.Coords) (a3 : Memref sig .tc .vmem S1088x2048 .bf16) (h3 : a3.IsWhole)
    (a4 : Memref sig .tc .vmem S1024x2048 .bf16) (h4 : a4.IsWhole) (a5 : Memref sig .tc .vmem S1088x1024 .f32) (h5 : a5.IsWhole)
    (a6 : Memref sig .tc .vmem S1088x1024 .f32) (h6 : a6.IsWhole) (a7 : Memref sig .tc .vmem S1088x1024 .f32) (h7 : a7.IsWhole)
    (hc0 : ¬cond0_0 i) (hc1 : cond0_1 i) (hc2 : cond0_2 i) (x0 : Vec F S1088x2048 .bf16) (x1 : Vec F S1024x2048 .bf16) (x2 : Vec F S1088x1024 .f32)
    (acc : Vec F S1088x1024 .f32) :
    sout0_B_0 c i a3 h3 a4 h4 a5 h5 a6 h6 a7 h7 hc0 hc1 hc2 x0 x1 x2 acc = k0_pay3 x0 x1 acc := by
  unfold sout0_B_0
  rw [View.read_writes_eq_canon _ _ _ (scover0_B_0 c i a3 h3 a4 h4 a5 h5 a6 h6 a7 h7 hc0 hc1 hc2 x0 x1 x2 acc)]
  unfold kernelRun0_B
  dsimp only
  sl_unfold_words
  rw [View.canon_unit_zero origin]
  simp only [View.readAt_eq_ld, h3.read_unread, h4.read_unread, h7.read_unread, View.ld_unit_zero (S := S1088x2048) origin,
    View.ld_unit_zero (S := S1024x2048) origin, View.ld_unit_zero (S := S1088x1024) origin]

/-- At a last chunk the body copies the scratch array, as it leaves it, to the result's block. -/
theorem result_last (c : Dev nD) (i : grid0.Coords) (a3 : Memref sig .tc .vmem S1088x2048 .bf16) (h3 : a3.IsWhole)
    (a4 : Memref sig .tc .vmem S1024x2048 .bf16) (h4 : a4.IsWhole) (a5 : Memref sig .tc .vmem S1088x1024 .f32) (h5 : a5.IsWhole)
    (a6 : Memref sig .tc .vmem S1088x1024 .f32) (h6 : a6.IsWhole) (a7 : Memref sig .tc .vmem S1088x1024 .f32) (h7 : a7.IsWhole)
    (hc0 : ¬cond0_0 i) (hc1 : cond0_1 i) (hc2 : cond0_2 i) (x0 : Vec F S1088x2048 .bf16) (x1 : Vec F S1024x2048 .bf16) (x2 : Vec F S1088x1024 .f32)
    (acc : Vec F S1088x1024 .f32) :
    out0_B_3 c i a3 h3 a4 h4 a5 h5 a6 h6 a7 h7 hc0 hc1 hc2 x0 x1 x2 acc = k0_pay3 x0 x1 acc := by
  unfold out0_B_3
  rw [View.read_writes_eq_canon _ _ _ (cover0_B_3 c i a3 h3 a4 h4 a5 h5 a6 h6 a7 h7 hc0 hc1 hc2 x0 x1 x2 acc)]
  unfold kernelRun0_B
  dsimp only
  sl_unfold_words
  rw [View.canon_unit_zero origin, View.readCov_unit_zero (S := S1088x1024) _ origin]
  simp only [View.readAt_eq_ld, h3.read_unread, h4.read_unread, h7.read_unread, View.ld_unit_zero (S := S1088x2048) origin,
    View.ld_unit_zero (S := S1024x2048) origin, View.ld_unit_zero (S := S1088x1024) origin]

end Stores

/-! ## Over the extended reals -/

variable (m : (ℓ : Loc nD τ sig) → Buf (Elt Ideal) ℓ)

/-- The two arrays multiplied, and the one added to, as the run finds them. -/
abbrev lhs (c : Dev nD) : S4352x4096.Idx → EReal := m ((c : Thread nD τ).loc main_arg0)
abbrev rhs (c : Dev nD) : S1024x4096.Idx → EReal := m ((c : Thread nD τ).loc main_arg1)
abbrev base (c : Dev nD) : S4352x1024.Idx → EReal := m ((c : Thread nD τ).loc main_arg2)

/-- The product's term at position `k` of the contracted axis, for row `I` and column `J` of the result. -/
abbrev term (c : Dev nD) (I J k : ℕ) : EReal := rd (lhs m c) I k * rd (rhs m c) J k

/-- The body's product of two blocks is the sum over the chunk. -/
theorem block_product (x0 : Vec Ideal S1088x2048 .bf16) (x1 : Vec Ideal S1024x2048 .bf16) (a : Fin 1088) (b : Fin 1024) :
    k0_pay1 (F := Ideal) x0 x1 (ix2 a b) = ∑ k : Fin 2048, (x0 (ix2 a k) : EReal) * (x1 (ix2 b k) : EReal) := by
  pointwise [k0_pay1]

/-- At a first chunk it is added to the given array's block … -/
theorem block_start (x0 : Vec Ideal S1088x2048 .bf16) (x1 : Vec Ideal S1024x2048 .bf16) (x2 : Vec Ideal S1088x1024 .f32)
    (a : Fin 1088) (b : Fin 1024) :
    k0_pay2 (F := Ideal) x0 x1 x2 (ix2 a b) = (x2 (ix2 a b) : EReal) + k0_pay1 (F := Ideal) x0 x1 (ix2 a b) := by
  rw [block_product, add_comm]
  pointwise [k0_pay2, k0_pay1]

/-- … and at a later one to what was there. -/
theorem block_add (x0 : Vec Ideal S1088x2048 .bf16) (x1 : Vec Ideal S1024x2048 .bf16) (acc : Vec Ideal S1088x1024 .f32) (a : Fin 1088) (b : Fin 1024) :
    k0_pay3 (F := Ideal) x0 x1 acc (ix2 a b) = (acc (ix2 a b) : EReal) + k0_pay1 (F := Ideal) x0 x1 (ix2 a b) := by
  rw [block_product]
  pointwise [k0_pay3, k0_pay1]

/-- Which block of each operand a grid point reads. -/
theorem lhs_index : ∀ t : Fin cfg0.N, win0_0.index t (0 : Fin 2) = t.val / 2 ∧ win0_0.index t (1 : Fin 2) = t.val % 2 :=
  (by decide +kernel : ∀ t : Fin grid0.N, _)
theorem rhs_index : ∀ t : Fin cfg0.N, win0_1.index t (0 : Fin 2) = 0 ∧ win0_1.index t (1 : Fin 2) = t.val % 2 :=
  (by decide +kernel : ∀ t : Fin grid0.N, _)

/-- The operand blocks at a grid point, entry by entry. -/
theorem lhs_block (c : Dev nD) (t : Fin cfg0.N) (p : Fin 1088) (q : Fin 2048) :
    (iblk m c 0 t (ix2 p q) : EReal) = rd (lhs m c) (1088 * (t.val / 2) + p.val) (2048 * (t.val % 2) + q.val) := by
  obtain ⟨e0, e1⟩ := lhs_index t
  unfold iblk
  rw [View.read_apply]
  refine eq_rd (lhs m c) _ ?_ ?_
  · show win0_0.index t (0 : Fin 2) * 1088 + 1 * p.val = _
    rw [e0, Nat.one_mul, Nat.mul_comm]
  · show win0_0.index t (1 : Fin 2) * 2048 + 1 * q.val = _
    rw [e1, Nat.one_mul, Nat.mul_comm]
theorem rhs_block (c : Dev nD) (t : Fin cfg0.N) (p : Fin 1024) (q : Fin 2048) :
    (iblk m c 1 t (ix2 p q) : EReal) = rd (rhs m c) (p.val) (2048 * (t.val % 2) + q.val) := by
  obtain ⟨e0, e1⟩ := rhs_index t
  unfold iblk
  rw [View.read_apply]
  refine eq_rd (rhs m c) _ ?_ ?_
  · show win0_1.index t (0 : Fin 2) * 1024 + 1 * p.val = _
    rw [e0]; omega
  · show win0_1.index t (1 : Fin 2) * 2048 + 1 * q.val = _
    rw [e1, Nat.one_mul, Nat.mul_comm]

theorem base_index : ∀ t : Fin cfg0.N, win0_2.index t (0 : Fin 2) = t.val / 2 ∧ win0_2.index t (1 : Fin 2) = 0 :=
  (by decide +kernel : ∀ t : Fin grid0.N, _)
theorem base_block (c : Dev nD) (t : Fin cfg0.N) (p : Fin 1088) (q : Fin 1024) :
    (iblk m c 2 t (ix2 p q) : EReal) = rd (base m c) (1088 * (t.val / 2) + p.val) q.val := by
  obtain ⟨e0, e1⟩ := base_index t
  unfold iblk
  rw [View.read_apply]
  refine eq_rd (base m c) _ ?_ ?_
  · show win0_2.index t (0 : Fin 2) * 1088 + 1 * p.val = _
    rw [e0]; omega
  · show win0_2.index t (1 : Fin 2) * 1024 + 1 * q.val = _
    rw [e1]; omega

/-- The product of the blocks at grid point `t` is the chunk of the whole product's sum. -/
theorem chunk_at (c : Dev nD) (t : Fin cfg0.N) (a : Fin 1088) (b : Fin 1024) :
    k0_pay1 (F := Ideal) (iblk m c 0 t) (iblk m c 1 t) (ix2 a b)
      = ∑ k : Fin 2048, term m c (1088 * (t.val / 2) + a.val) (b.val) (2048 * (t.val % 2) + k.val) := by
  rw [block_product]
  exact Finset.sum_congr rfl fun k _ => congrArg₂ (· * ·) (lhs_block m c t _ _) (rhs_block m c t _ _)

/-- After grid point `n` the scratch array holds the given array plus the sum over the chunks taken so far. -/
theorem scratch_sum (c : Dev nD) (a : Fin 1088) (b : Fin 1024) : ∀ (n : ℕ) (h : n < cfg0.N),
    ((outsAt0 m c n h).2 (ix2 a b) : EReal)
      = rd (base m c) (1088 * (n / 2) + a.val) b.val
        + ∑ k ∈ range (2048 * (n % 2 + 1)), term m c (1088 * (n / 2) + a.val) (b.val) k := by
  intro n
  induction n with
  | zero =>
    intro h
    rw [outsAt0_A m c ⟨0, h⟩ (by dsimp only) (by dsimp only; omega) (by dsimp only; omega)]
    dsimp only
    rw [scratch_first, block_start, chunk_at m c ⟨0, h⟩, base_block m c ⟨0, h⟩]
    exact congrArg _ (chunk_first 2048 _)
  | succ n ih =>
    intro h
    have hN : n + 1 < 8 := lt_of_lt_of_eq h (show cfg0.N = 8 from N_0)
    by_cases h0 : (n + 1) % 2 = 0
    · rw [outsAt0_A m c ⟨n + 1, h⟩ h0 (by dsimp only; omega) (by dsimp only; omega)]
      dsimp only
      rw [scratch_first, block_start, chunk_at m c ⟨n + 1, h⟩, base_block m c ⟨n + 1, h⟩]
      dsimp only
      rw [h0]
      exact congrArg _ (chunk_first 2048 _)
    · have e1 : (n + 1) % 2 = n % 2 + 1 := by omega
      have e2 : (n + 1) / 2 = n / 2 := by omega
      have e : ((outsAt0 m c (n + 1) h).2 (ix2 a b) : EReal) = ((outsAt0 m c n (Nat.lt_of_succ_lt h)).2 (ix2 a b) : EReal)
          + k0_pay1 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e2, add_assoc]
      exact congrArg _ (chunk_next 2048 _ _)

/-- At a last chunk the result's block is what the scratch array holds. -/
theorem result_eq_scratch (c : Dev nD) (n : ℕ) (h : n < cfg0.N) (h2 : n % 2 = 1) (a : Fin 1088) (b : Fin 1024) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4352x4096.Idx → EReal) (y : S1024x4096.Idx → EReal) (z : S4352x1024.Idx → EReal) (i : S4352x1024.Idx) :
    (Cert.Reference12Ideal.Read.val_main_v5 (F := Ideal) x y z i : EReal)
      = z i + ∑ k : Fin 4096, x (ix2 (i 0) k) * y (ix2 (i 1) k) := by
  pointwise [Cert.Reference12Ideal.Read.val_main_v5, Cert.Reference12Ideal.Read.val_main_v4, Cert.Reference12Ideal.Read.val_main_v1, Cert.Reference12Ideal.Read.val_main_v0]

/-- The result array after the run: the given array plus the product's whole sum at every row and column. -/
theorem result_sum (c : Dev nD) (i : S4352x1024.Idx) :
    (G3 m c i : EReal) = rd (base m c) (i 0).val (i 1).val + ∑ k ∈ range 4096, term m c (i 0).val (i 1).val k := by
  have hi0 : (i 0).val < 4352 := (i 0).isLt
  have hi1 : (i 1).val < 1024 := (i 1).isLt
  have hv : pt3Of i = 2 * (1 * ((i 0).val / 1088) + (i 1).val / 1024) + 1 := by
    show 2 * (1 * ((i 0).val / 1088 - 0) + 1 * ((i 1).val / 1024 - 0)) + 1 = _
    omega
  have hp : pt3Of i < cfg0.N := lt_of_lt_of_eq (by rw [hv]; omega) (show 8 = cfg0.N from N_0.symm)
  have hl : loc3Of i = ix2 ⟨(i 0).val % 1088, Nat.mod_lt _ (by decide)⟩ ⟨(i 1).val % 1024, Nat.mod_lt _ (by decide)⟩ := by
    funext x
    match x with
    | ⟨0, _⟩ => rfl
    | ⟨1, _⟩ => rfl
  unfold G3
  rw [dif_pos hp]
  have hs := outsAt0_sweep m c (pt3Of i) hp
  rw [← hs, hl, result_eq_scratch m c _ hp (by rw [hv]; omega), scratch_sum]
  have e0 : 1088 * (pt3Of i / 2) + (i 0).val % 1088 = (i 0).val := by rw [hv]; omega
  have e1 : (i 1).val % 1024 = (i 1).val := by omega
  have e2 : 2048 * (pt3Of i % 2 + 1) = 4096 := by rw [hv]; omega
  dsimp only
  rw [e0, e1, e2]

/-- The result array is the reference's: the derivative of the plain product, as it is read at each index. -/
theorem result_eq (c : Dev nD) :
    G3 m c = Cert.Reference12Ideal.Read.val_main_v5 (F := Ideal) (lhs m c) (rhs m c) (base m c) := by
  funext i
  have e : ∑ k ∈ range 4096, term m c (i 0).val (i 1).val k
      = ∑ k : Fin 4096, lhs m c (ix2 (i 0) k) * rhs m c (ix2 (i 1) k) := by
    rw [← sum_fin]
    exact Finset.sum_congr rfl fun k _ => congrArg₂ (· * ·) (rd_of_lt (lhs m c) (i 0).isLt k.isLt) (rd_of_lt (rhs m c) (i 1).isLt k.isLt)
  have e2 : rd (base m c) (i 0).val (i 1).val = base m c i := (eq_rd (base m c) i rfl rfl).symm
  refine (result_sum m c i).trans (Eq.trans ?_ (ref_sum (lhs m c) (rhs m c) (base m c) i).symm)
  rw [e, e2]

/-- The claim: from the same arguments the kernel and the reference end with the same result array. -/
theorem algebraic : Cert.algebraic_Kernel12Ideal_Reference12Ideal := by
  intro m g m' g' _ h
  refine ⟨fun c => G3 m c, run m g, (θ_run _ _ _).mono (fun r hr c => ?_) (Cert.Reference12Ideal.Value.run m' g')⟩
  obtain ⟨h0, h1, h2⟩ := h c
  obtain ⟨hv, ha⟩ := hr c
  refine ⟨?_, ha⟩
  rw [hv, h0, h1, h2]
  exact (result_eq m c).symm

end Cert.Kernel12Ideal.Product

end
-- ==== Proof.Product13.lean ====
/-
  The gradient of the state-space block's input through its gate's product: cotangent · weightᵀ.
  Each grid point takes one block of rows against one block of the weight's rows, the contracted axis whole: here the
  result array is shown to be the whole product, added to the array it is given.
-/
module

public import proofs.«01_k».proof.Proof.Gen.Kernel13Ideal.Value
public import proofs.«01_k».proof.Proof.Gen.Reference13Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel13Ideal.Product

open Cert.Kernel13Ideal Cert.Kernel13Ideal.Gen Cert.Kernel13Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks, added to the third. -/
theorem out_entry (x0 : Vec Ideal S1088x2048 .bf16) (x1 : Vec Ideal S1024x2048 .bf16) (x2 : Vec Ideal S1088x1024 .f32) (a : Fin 1088) (b : Fin 1024) :
    (out0_3 (F := Ideal) x0 x1 x2 (ix2 a b) : EReal) = (∑ k : Fin 2048, (x0 (ix2 a k) : EReal) * (x1 (ix2 b k) : EReal)) + (x2 (ix2 a b) : EReal) := by
  have e : out0_3 (F := Ideal) x0 x1 x2 = k0_pay1 (F := Ideal) x0 x1 x2 := by
    unfold out0_3
    rw [View.canon_unit_zero origin]
    simp only [View.ld_unit_zero (S := S1088x2048) origin, View.ld_unit_zero (S := S1024x2048) origin, View.ld_unit_zero (S := S1088x1024) origin]
  rw [e]
  pointwise [k0_pay1]

variable (m : (ℓ : Loc nD τ sig) → Buf (Elt Ideal) ℓ)

/-- The two arrays multiplied, and the one added to, as the run finds them. -/
abbrev lhs (c : Dev nD) : S4352x2048.Idx → EReal := m ((c : Thread nD τ).loc main_arg0)
abbrev rhs (c : Dev nD) : S1024x2048.Idx → EReal := m ((c : Thread nD τ).loc main_arg1)
abbrev base (c : Dev nD) : S4352x1024.Idx → EReal := m ((c : Thread nD τ).loc main_arg2)

/-- Which blocks a grid point reads and writes. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem flush3 : ∀ t : Fin cfg0.N, (cfg0.win 3).flush t = true :=
  (by decide +kernel : ∀ t : Fin grid0.N, win0_3.flush t = true)

/-! The operand blocks at a grid point, entry by entry. -/

theorem lhs_block (c : Dev nD) (t : Fin cfg0.N) (p : Fin 1088) (q : Fin 2048) :
    (iblk m c 0 t (ix2 p q) : EReal) = rd (lhs m c) (1088 * (t.val) + p.val) (q.val) := by
  obtain ⟨e0, e1⟩ := index0 t
  unfold iblk
  rw [View.read_apply]
  refine eq_rd (lhs m c) _ ?_ ?_
  · show win0_0.index t (0 : Fin 2) * 1088 + 1 * p.val = _
    rw [e0]; omega
  · show win0_0.index t (1 : Fin 2) * 2048 + 1 * q.val = _
    rw [e1]; omega

theorem rhs_block (c : Dev nD) (t : Fin cfg0.N) (p : Fin 1024) (q : Fin 2048) :
    (iblk m c 1 t (ix2 p q) : EReal) = rd (rhs m c) (p.val) (q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 2048 + 1 * q.val = _
    rw [e1]; omega

theorem base_block (c : Dev nD) (t : Fin cfg0.N) (p : Fin 1088) (q : Fin 1024) :
    (iblk m c 2 t (ix2 p q) : EReal) = rd (base m c) (1088 * (t.val) + p.val) (q.val) := by
  obtain ⟨e0, e1⟩ := index2 t
  unfold iblk
  rw [View.read_apply]
  refine eq_rd (base m c) _ ?_ ?_
  · show win0_2.index t (0 : Fin 2) * 1088 + 1 * p.val = _
    rw [e0]; omega
  · show win0_2.index t (1 : Fin 2) * 1024 + 1 * q.val = _
    rw [e1]; omega

/-- The result array after the run, at every row and column. -/
theorem result_sum (c : Dev nD) (i : S4352x1024.Idx) :
    ((dats m 0 c).arrAt 3 cfg0.N i : EReal) = (∑ k : Fin 2048, rd (lhs m c) (i 0).val k.val * rd (rhs m c) (i 1).val k.val) + rd (base m c) (i 0).val (i 1).val := by
  have hi0 : (i 0).val < 4352 := (i 0).isLt
  have hi1 : (i 1).val < 1024 := (i 1).isLt
  have hN : 1 * ((i 0).val / 1088) + (i 1).val / 1024 < cfg0.N := lt_of_lt_of_eq (by omega) (show 4 = cfg0.N from N_0.symm)
  obtain ⟨t, ht⟩ : ∃ t : Fin cfg0.N, t.val = 1 * ((i 0).val / 1088) + (i 1).val / 1024 := ⟨⟨_, hN⟩, rfl⟩
  obtain ⟨e0, e1⟩ := index3 t
  let y : S1088x1024.Idx := ix2 ⟨(i 0).val % 1088, Nat.mod_lt _ (by decide)⟩ ⟨(i 1).val % 1024, Nat.mod_lt _ (by decide)⟩
  have hb := congrFun ((blocks3 m c t (flush3 t)).trans (flushed3 m c t)) y
  rw [View.read_apply] at hb
  have hix : ((cfg0.win 3).blk t).view.emb y = i := by
    funext x
    match x with
    | ⟨0, _⟩ =>
      refine Fin.ext ?_
      show win0_3.index t (0 : Fin 2) * 1088 + 1 * ((i 0).val % 1088) = (i 0).val
      rw [e0]; omega
    | ⟨1, _⟩ =>
      refine Fin.ext ?_
      show win0_3.index t (1 : Fin 2) * 1024 + 1 * ((i 1).val % 1024) = (i 1).val
      rw [e1]; omega
  rw [hix] at hb
  let p : Fin 1088 := ⟨(i 0).val % 1088, Nat.mod_lt _ (by decide)⟩
  let q : Fin 1024 := ⟨(i 1).val % 1024, Nat.mod_lt _ (by decide)⟩
  have r0 : 1088 * (t.val) + p.val = (i 0).val := by show 1088 * (t.val) + (i 0).val % 1088 = _; omega
  have r1 : q.val = (i 1).val := by show (i 1).val % 1024 = _; omega
  let X : S1088x2048.Idx → EReal := iblk m c 0 t
  let Y : S1024x2048.Idx → EReal := iblk m c 1 t
  have hs : (∑ k : Fin 2048, X (ix2 p k) * Y (ix2 q k))
      = ∑ k : Fin 2048, rd (lhs m c) (i 0).val k.val * rd (rhs m c) (i 1).val k.val :=
    Finset.sum_congr rfl fun k _ => congrArg₂ (· * ·)
      ((lhs_block m c t p k).trans (congrArg (fun r => rd (lhs m c) r k.val) r0))
      ((rhs_block m c t q k).trans (congrArg (fun r => rd (rhs m c) r k.val) r1))
  have hz : (iblk m c 2 t (ix2 p q) : EReal) = rd (base m c) (i 0).val (i 1).val := by
    rw [base_block m c t p q, r0, r1]
  exact (hb.trans (out_entry (iblk m c 0 t) (iblk m c 1 t) (iblk m c 2 t) p q)).trans (congrArg₂ (· + ·) hs hz)

/-- The reference's result at an index, as a sum over the contracted axis. -/
theorem ref_sum (x : S4352x2048.Idx → EReal) (y : S1024x2048.Idx → EReal) (z : S4352x1024.Idx → EReal) (i : S4352x1024.Idx) :
    (Cert.Reference13Ideal.Read.val_main_v5 (F := Ideal) x y z i : EReal) = z i + ∑ k : Fin 2048, x (ix2 (i 0) k) * y (ix2 (i 1) k) := by
  pointwise [Cert.Reference13Ideal.Read.val_main_v5, Cert.Reference13Ideal.Read.val_main_v4, Cert.Reference13Ideal.Read.val_main_v1, Cert.Reference13Ideal.Read.val_main_v0]

/-- The result array is the reference's: the derivative of the plain product, as it is read at each index. -/
theorem result_eq (c : Dev nD) :
    (dats m 0 c).arrAt 3 cfg0.N = Cert.Reference13Ideal.Read.val_main_v5 (F := Ideal) (lhs m c) (rhs m c) (base m c) := by
  funext i
  have e : (∑ k : Fin 2048, rd (lhs m c) (i 0).val k.val * rd (rhs m c) (i 1).val k.val)
      = ∑ k : Fin 2048, lhs m c (ix2 (i 0) k) * rhs m c (ix2 (i 1) k) :=
    Finset.sum_congr rfl fun k _ => congrArg₂ (· * ·) (rd_of_lt (lhs m c) (i 0).isLt k.isLt) (rd_of_lt (rhs m c) (i 1).isLt k.isLt)
  have e2 : rd (base m c) (i 0).val (i 1).val = base m c i := (eq_rd (base m c) i rfl rfl).symm
  refine (result_sum m c i).trans (Eq.trans ?_ (ref_sum (lhs m c) (rhs m c) (base m c) i).symm)
  rw [e, e2, add_comm]

/-- The claim: from the same arguments the kernel and the reference end with the same result array. -/
theorem algebraic : Cert.algebraic_Kernel13Ideal_Reference13Ideal := by
  intro m g m' g' _ h
  refine ⟨fun c => (dats m 0 c).arrAt 3 cfg0.N, run_blocks m g, (θ_run _ _ _).mono (fun r hr c => ?_) (Cert.Reference13Ideal.Value.run m' g')⟩
  obtain ⟨h0, h1, h2⟩ := h c
  obtain ⟨hv, ha⟩ := hr c
  refine ⟨?_, ha⟩
  rw [hv, h0, h1, h2]
  exact (result_eq m c).symm

end Cert.Kernel13Ideal.Product

end
-- ==== Proof.Product14.lean ====
/-
  The gradient of the state-space block's input weight, the columns of the sequence: inputᵀ · cotangent.
  The kernel accumulates the product chunk by chunk along the contracted axis, in a scratch array that it resets at the
  first chunk and copies to the result's block at the last: here the result array is shown to be the whole sum.
-/
module

public import proofs.«01_k».proof.Proof.Gen.Kernel14Ideal.Value
public import proofs.«01_k».proof.Proof.Gen.Reference14Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel14Ideal.Product

open Cert.Kernel14Ideal Cert.Kernel14Ideal.Gen Cert.Kernel14Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S2176x1024 .bf16) (h3 : a3.IsWhole)
    (a4 : Memref sig .tc .vmem S2176x1024 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i) (x0 : Vec F S2176x1024 .bf16) (x1 : Vec F S2176x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2176x1024) origin,
    View.ld_unit_zero (S := S2176x1024) origin]

/-- At a last chunk the body adds the chunk's product to what the scratch array held. -/
theorem scratch_B (c : Dev nD) (i : grid0.Coords) (a3 : Memref sig .tc .vmem S2176x1024 .bf16) (h3 : a3.IsWhole)
    (a4 : Memref sig .tc .vmem S2176x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2176x1024 .bf16) (x1 : Vec F S2176x1024 .bf16)
    (acc : Vec F S1024x1024 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S2176x1024) origin,
    View.ld_unit_zero (S := S2176x1024) origin, View.ld_unit_zero (S := S1024x1024) origin]

/-- At a last chunk the body copies the scratch array, as it leaves it, to the result's block. -/
theorem result_last (c : Dev nD) (i : grid0.Coords) (a3 : Memref sig .tc .vmem S2176x1024 .bf16) (h3 : a3.IsWhole)
    (a4 : Memref sig .tc .vmem S2176x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2176x1024 .bf16) (x1 : Vec F S2176x1024 .bf16)
    (acc : Vec F S1024x1024 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S2176x1024) origin,
    View.ld_unit_zero (S := S2176x1024) origin, View.ld_unit_zero (S := S1024x1024) origin]

end Stores

/-! ## Over the extended reals -/

variable (m : (ℓ : Loc nD τ sig) → Buf (Elt Ideal) ℓ)

/-- The two arrays multiplied, as the run finds them. -/
abbrev lhs (c : Dev nD) : S4352x1024.Idx → EReal := m ((c : Thread nD τ).loc main_arg0)
abbrev rhs (c : Dev nD) : S4352x4096.Idx → EReal := m ((c : Thread nD τ).loc main_arg1)

/-- The product's term at position `k` of the contracted axis, for row `I` and column `J` of the result. -/
abbrev term (c : Dev nD) (I J k : ℕ) : EReal := rd (lhs m c) k I * rd (rhs m c) k J

/-- The body's product of two blocks is the sum over the chunk. -/
theorem block_product (x0 : Vec Ideal S2176x1024 .bf16) (x1 : Vec Ideal S2176x1024 .bf16) (a : Fin 1024) (b : Fin 1024) :
    k0_pay2 (F := Ideal) x0 x1 (ix2 a b) = ∑ k : Fin 2176, (x0 (ix2 k a) : EReal) * (x1 (ix2 k b) : EReal) := by
  pointwise [k0_pay2, k0_pay1]

/-- … and the accumulated one adds it to what was there. -/
theorem block_add (x0 : Vec Ideal S2176x1024 .bf16) (x1 : Vec Ideal S2176x1024 .bf16) (acc : Vec Ideal S1024x1024 .f32) (a : Fin 1024) (b : Fin 1024) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val % 2 ∧ win0_0.index t (1 : Fin 2) = t.val / 8 :=
  (by decide +kernel : ∀ t : Fin grid0.N, _)
theorem rhs_index : ∀ t : Fin cfg0.N, win0_1.index t (0 : Fin 2) = t.val % 2 ∧ win0_1.index t (1 : Fin 2) = t.val / 2 % 4 :=
  (by decide +kernel : ∀ t : Fin grid0.N, _)

/-- The operand blocks at a grid point, entry by entry. -/
theorem lhs_block (c : Dev nD) (t : Fin cfg0.N) (p : Fin 2176) (q : Fin 1024) :
    (iblk m c 0 t (ix2 p q) : EReal) = rd (lhs m c) (2176 * (t.val % 2) + p.val) (1024 * (t.val / 8) + q.val) := by
  obtain ⟨e0, e1⟩ := lhs_index t
  unfold iblk
  rw [View.read_apply]
  refine eq_rd (lhs m c) _ ?_ ?_
  · show win0_0.index t (0 : Fin 2) * 2176 + 1 * p.val = _
    rw [e0, Nat.one_mul, Nat.mul_comm]
  · show win0_0.index t (1 : Fin 2) * 1024 + 1 * q.val = _
    rw [e1, Nat.one_mul, Nat.mul_comm]
theorem rhs_block (c : Dev nD) (t : Fin cfg0.N) (p : Fin 2176) (q : Fin 1024) :
    (iblk m c 1 t (ix2 p q) : EReal) = rd (rhs m c) (2176 * (t.val % 2) + p.val) (1024 * (t.val / 2 % 4) + q.val) := by
  obtain ⟨e0, e1⟩ := rhs_index t
  unfold iblk
  rw [View.read_apply]
  refine eq_rd (rhs m c) _ ?_ ?_
  · show win0_1.index t (0 : Fin 2) * 2176 + 1 * p.val = _
    rw [e0, Nat.one_mul, Nat.mul_comm]
  · show win0_1.index t (1 : Fin 2) * 1024 + 1 * q.val = _
    rw [e1, Nat.one_mul, Nat.mul_comm]

/-- The product of the blocks at grid point `t` is the chunk of the whole product's sum. -/
theorem chunk_at (c : Dev nD) (t : Fin cfg0.N) (a : Fin 1024) (b : Fin 1024) :
    k0_pay2 (F := Ideal) (iblk m c 0 t) (iblk m c 1 t) (ix2 a b)
      = ∑ k : Fin 2176, term m c (1024 * (t.val / 8) + a.val) (1024 * (t.val / 2 % 4) + b.val) (2176 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 1024) : ∀ (n : ℕ) (h : n < cfg0.N),
    ((outsAt0 m c n h).2 (ix2 a b) : EReal)
      = ∑ k ∈ range (2176 * (n % 2 + 1)), term m c (1024 * (n / 8) + a.val) (1024 * (n / 2 % 4) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 2176 _
  | succ n ih =>
    intro h
    have hN : n + 1 < 8 := lt_of_lt_of_eq h (show cfg0.N = 8 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 2176 _
    · have e1 : (n + 1) % 2 = n % 2 + 1 := by omega
      have e2 : (n + 1) / 8 = n / 8 := by omega
      have e3 : (n + 1) / 2 % 4 = n / 2 % 4 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 2176 _ _

/-- At a last chunk the result's block is what the scratch array holds. -/
theorem result_eq_scratch (c : Dev nD) (n : ℕ) (h : n < cfg0.N) (h2 : n % 2 = 1) (a : Fin 1024) (b : Fin 1024) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4352x1024.Idx → EReal) (y : S4352x4096.Idx → EReal) (i : S1024x4096.Idx) :
    (Cert.Reference14Ideal.Read.val_main_v5 (F := Ideal) x y i : EReal)
      = ∑ k : Fin 4352, x (ix2 k (i 0)) * y (ix2 k (i 1)) := by
  pointwise [Cert.Reference14Ideal.Read.val_main_v5, Cert.Reference14Ideal.Read.val_main_v4, Cert.Reference14Ideal.Read.val_main_v1, Cert.Reference14Ideal.Read.val_main_v0]
  exact Finset.sum_congr rfl fun k _ => mul_comm _ _

/-- The result array after the run: the product's whole sum at every row and column. -/
theorem result_sum (c : Dev nD) (i : S1024x4096.Idx) :
    (G2 m c i : EReal) = ∑ k ∈ range 4352, term m c (i 0).val (i 1).val k := by
  have hi0 : (i 0).val < 1024 := (i 0).isLt
  have hi1 : (i 1).val < 4096 := (i 1).isLt
  have hv : pt2Of i = 2 * (4 * ((i 0).val / 1024) + (i 1).val / 1024) + 1 := by
    show 2 * (4 * ((i 0).val / 1024 - 0) + 1 * ((i 1).val / 1024 - 0)) + 1 = _
    omega
  have hp : pt2Of i < cfg0.N := lt_of_lt_of_eq (by rw [hv]; omega) (show 8 = cfg0.N from N_0.symm)
  have hl : loc2Of i = ix2 ⟨(i 0).val % 1024, Nat.mod_lt _ (by decide)⟩ ⟨(i 1).val % 1024, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 8) + (i 0).val % 1024 = (i 0).val := by rw [hv]; omega
  have e1 : 1024 * (pt2Of i / 2 % 4) + (i 1).val % 1024 = (i 1).val := by rw [hv]; omega
  have e2 : 2176 * (pt2Of i % 2 + 1) = 4352 := by rw [hv]; omega
  dsimp only
  rw [e0, e1, e2]

/-- The result array is the reference's: the derivative of the plain product, as it is read at each index. -/
theorem result_eq (c : Dev nD) :
    G2 m c = Cert.Reference14Ideal.Read.val_main_v5 (F := Ideal) (lhs m c) (rhs m c) := by
  funext i
  have e : ∑ k ∈ range 4352, term m c (i 0).val (i 1).val k
      = ∑ k : Fin 4352, lhs m c (ix2 k (i 0)) * rhs m c (ix2 k (i 1)) := by
    rw [← sum_fin]
    exact Finset.sum_congr rfl fun k _ => congrArg₂ (· * ·) (rd_of_lt (lhs m c) k.isLt (i 0).isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel14Ideal_Reference14Ideal := by
  intro m g m' g' _ h
  refine ⟨fun c => G2 m c, run m g, (θ_run _ _ _).mono (fun r hr c => ?_) (Cert.Reference14Ideal.Value.run m' g')⟩
  obtain ⟨h0, h1⟩ := h c
  obtain ⟨hv, ha⟩ := hr c
  refine ⟨?_, ha⟩
  rw [hv, h0, h1]
  exact (result_eq m c).symm

end Cert.Kernel14Ideal.Product

end
-- ==== Proof.Product15.lean ====
/-
  The gradient of the state-space block's input weight, the columns of the gate: inputᵀ · cotangent.
  The kernel accumulates the product chunk by chunk along the contracted axis, in a scratch array that it resets at the
  first chunk and copies to the result's block at the last: here the result array is shown to be the whole sum.
-/
module

public import proofs.«01_k».proof.Proof.Gen.Kernel15Ideal.Value
public import proofs.«01_k».proof.Proof.Gen.Reference15Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel15Ideal.Product

open Cert.Kernel15Ideal Cert.Kernel15Ideal.Gen Cert.Kernel15Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S2176x1024 .bf16) (h3 : a3.IsWhole)
    (a4 : Memref sig .tc .vmem S2176x1024 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i) (x0 : Vec F S2176x1024 .bf16) (x1 : Vec F S2176x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2176x1024) origin,
    View.ld_unit_zero (S := S2176x1024) origin]

/-- At a last chunk the body adds the chunk's product to what the scratch array held. -/
theorem scratch_B (c : Dev nD) (i : grid0.Coords) (a3 : Memref sig .tc .vmem S2176x1024 .bf16) (h3 : a3.IsWhole)
    (a4 : Memref sig .tc .vmem S2176x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2176x1024 .bf16) (x1 : Vec F S2176x1024 .bf16)
    (acc : Vec F S1024x1024 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S2176x1024) origin,
    View.ld_unit_zero (S := S2176x1024) origin, View.ld_unit_zero (S := S1024x1024) origin]

/-- At a last chunk the body copies the scratch array, as it leaves it, to the result's block. -/
theorem result_last (c : Dev nD) (i : grid0.Coords) (a3 : Memref sig .tc .vmem S2176x1024 .bf16) (h3 : a3.IsWhole)
    (a4 : Memref sig .tc .vmem S2176x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2176x1024 .bf16) (x1 : Vec F S2176x1024 .bf16)
    (acc : Vec F S1024x1024 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S2176x1024) origin,
    View.ld_unit_zero (S := S2176x1024) origin, View.ld_unit_zero (S := S1024x1024) origin]

end Stores

/-! ## Over the extended reals -/

variable (m : (ℓ : Loc nD τ sig) → Buf (Elt Ideal) ℓ)

/-- The two arrays multiplied, as the run finds them. -/
abbrev lhs (c : Dev nD) : S4352x1024.Idx → EReal := m ((c : Thread nD τ).loc main_arg0)
abbrev rhs (c : Dev nD) : S4352x2048.Idx → EReal := m ((c : Thread nD τ).loc main_arg1)

/-- The product's term at position `k` of the contracted axis, for row `I` and column `J` of the result. -/
abbrev term (c : Dev nD) (I J k : ℕ) : EReal := rd (lhs m c) k I * rd (rhs m c) k J

/-- The body's product of two blocks is the sum over the chunk. -/
theorem block_product (x0 : Vec Ideal S2176x1024 .bf16) (x1 : Vec Ideal S2176x1024 .bf16) (a : Fin 1024) (b : Fin 1024) :
    k0_pay2 (F := Ideal) x0 x1 (ix2 a b) = ∑ k : Fin 2176, (x0 (ix2 k a) : EReal) * (x1 (ix2 k b) : EReal) := by
  pointwise [k0_pay2, k0_pay1]

/-- … and the accumulated one adds it to what was there. -/
theorem block_add (x0 : Vec Ideal S2176x1024 .bf16) (x1 : Vec Ideal S2176x1024 .bf16) (acc : Vec Ideal S1024x1024 .f32) (a : Fin 1024) (b : Fin 1024) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val % 2 ∧ win0_0.index t (1 : Fin 2) = t.val / 4 :=
  (by decide +kernel : ∀ t : Fin grid0.N, _)
theorem rhs_index : ∀ t : Fin cfg0.N, win0_1.index t (0 : Fin 2) = t.val % 2 ∧ win0_1.index t (1 : Fin 2) = t.val / 2 % 2 :=
  (by decide +kernel : ∀ t : Fin grid0.N, _)

/-- The operand blocks at a grid point, entry by entry. -/
theorem lhs_block (c : Dev nD) (t : Fin cfg0.N) (p : Fin 2176) (q : Fin 1024) :
    (iblk m c 0 t (ix2 p q) : EReal) = rd (lhs m c) (2176 * (t.val % 2) + p.val) (1024 * (t.val / 4) + q.val) := by
  obtain ⟨e0, e1⟩ := lhs_index t
  unfold iblk
  rw [View.read_apply]
  refine eq_rd (lhs m c) _ ?_ ?_
  · show win0_0.index t (0 : Fin 2) * 2176 + 1 * p.val = _
    rw [e0, Nat.one_mul, Nat.mul_comm]
  · show win0_0.index t (1 : Fin 2) * 1024 + 1 * q.val = _
    rw [e1, Nat.one_mul, Nat.mul_comm]
theorem rhs_block (c : Dev nD) (t : Fin cfg0.N) (p : Fin 2176) (q : Fin 1024) :
    (iblk m c 1 t (ix2 p q) : EReal) = rd (rhs m c) (2176 * (t.val % 2) + p.val) (1024 * (t.val / 2 % 2) + q.val) := by
  obtain ⟨e0, e1⟩ := rhs_index t
  unfold iblk
  rw [View.read_apply]
  refine eq_rd (rhs m c) _ ?_ ?_
  · show win0_1.index t (0 : Fin 2) * 2176 + 1 * p.val = _
    rw [e0, Nat.one_mul, Nat.mul_comm]
  · show win0_1.index t (1 : Fin 2) * 1024 + 1 * q.val = _
    rw [e1, Nat.one_mul, Nat.mul_comm]

/-- The product of the blocks at grid point `t` is the chunk of the whole product's sum. -/
theorem chunk_at (c : Dev nD) (t : Fin cfg0.N) (a : Fin 1024) (b : Fin 1024) :
    k0_pay2 (F := Ideal) (iblk m c 0 t) (iblk m c 1 t) (ix2 a b)
      = ∑ k : Fin 2176, term m c (1024 * (t.val / 4) + a.val) (1024 * (t.val / 2 % 2) + b.val) (2176 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 1024) : ∀ (n : ℕ) (h : n < cfg0.N),
    ((outsAt0 m c n h).2 (ix2 a b) : EReal)
      = ∑ k ∈ range (2176 * (n % 2 + 1)), term m c (1024 * (n / 4) + a.val) (1024 * (n / 2 % 2) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 2176 _
  | succ n ih =>
    intro h
    have hN : n + 1 < 4 := lt_of_lt_of_eq h (show cfg0.N = 4 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 2176 _
    · have e1 : (n + 1) % 2 = n % 2 + 1 := by omega
      have e2 : (n + 1) / 4 = n / 4 := by omega
      have e3 : (n + 1) / 2 % 2 = n / 2 % 2 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 2176 _ _

/-- At a last chunk the result's block is what the scratch array holds. -/
theorem result_eq_scratch (c : Dev nD) (n : ℕ) (h : n < cfg0.N) (h2 : n % 2 = 1) (a : Fin 1024) (b : Fin 1024) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4352x1024.Idx → EReal) (y : S4352x2048.Idx → EReal) (i : S1024x2048.Idx) :
    (Cert.Reference15Ideal.Read.val_main_v5 (F := Ideal) x y i : EReal)
      = ∑ k : Fin 4352, x (ix2 k (i 0)) * y (ix2 k (i 1)) := by
  pointwise [Cert.Reference15Ideal.Read.val_main_v5, Cert.Reference15Ideal.Read.val_main_v4, Cert.Reference15Ideal.Read.val_main_v1, Cert.Reference15Ideal.Read.val_main_v0]
  exact Finset.sum_congr rfl fun k _ => mul_comm _ _

/-- The result array after the run: the product's whole sum at every row and column. -/
theorem result_sum (c : Dev nD) (i : S1024x2048.Idx) :
    (G2 m c i : EReal) = ∑ k ∈ range 4352, term m c (i 0).val (i 1).val k := by
  have hi0 : (i 0).val < 1024 := (i 0).isLt
  have hi1 : (i 1).val < 2048 := (i 1).isLt
  have hv : pt2Of i = 2 * (2 * ((i 0).val / 1024) + (i 1).val / 1024) + 1 := by
    show 2 * (2 * ((i 0).val / 1024 - 0) + 1 * ((i 1).val / 1024 - 0)) + 1 = _
    omega
  have hp : pt2Of i < cfg0.N := lt_of_lt_of_eq (by rw [hv]; omega) (show 4 = cfg0.N from N_0.symm)
  have hl : loc2Of i = ix2 ⟨(i 0).val % 1024, Nat.mod_lt _ (by decide)⟩ ⟨(i 1).val % 1024, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 4) + (i 0).val % 1024 = (i 0).val := by rw [hv]; omega
  have e1 : 1024 * (pt2Of i / 2 % 2) + (i 1).val % 1024 = (i 1).val := by rw [hv]; omega
  have e2 : 2176 * (pt2Of i % 2 + 1) = 4352 := by rw [hv]; omega
  dsimp only
  rw [e0, e1, e2]

/-- The result array is the reference's: the derivative of the plain product, as it is read at each index. -/
theorem result_eq (c : Dev nD) :
    G2 m c = Cert.Reference15Ideal.Read.val_main_v5 (F := Ideal) (lhs m c) (rhs m c) := by
  funext i
  have e : ∑ k ∈ range 4352, term m c (i 0).val (i 1).val k
      = ∑ k : Fin 4352, lhs m c (ix2 k (i 0)) * rhs m c (ix2 k (i 1)) := by
    rw [← sum_fin]
    exact Finset.sum_congr rfl fun k _ => congrArg₂ (· * ·) (rd_of_lt (lhs m c) k.isLt (i 0).isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel15Ideal_Reference15Ideal := by
  intro m g m' g' _ h
  refine ⟨fun c => G2 m c, run m g, (θ_run _ _ _).mono (fun r hr c => ?_) (Cert.Reference15Ideal.Value.run m' g')⟩
  obtain ⟨h0, h1⟩ := h c
  obtain ⟨hv, ha⟩ := hr c
  refine ⟨?_, ha⟩
  rw [hv, h0, h1]
  exact (result_eq m c).symm

end Cert.Kernel15Ideal.Product

end
-- ==== Proof.Product16.lean ====
/-
  The gradient of the state-space block's input weight, the columns of the steps: inputᵀ · cotangent.
  The kernel accumulates the product chunk by chunk along the contracted axis, in a scratch array that it resets at the
  first chunk and copies to the result's block at the last: here the result array is shown to be the whole sum.
-/
module

public import proofs.«01_k».proof.Proof.Gen.Kernel16Ideal.Value
public import proofs.«01_k».proof.Proof.Gen.Reference16Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel16Ideal.Product

open Cert.Kernel16Ideal Cert.Kernel16Ideal.Gen Cert.Kernel16Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S2176x1024 .bf16) (h3 : a3.IsWhole)
    (a4 : Memref sig .tc .vmem S2176x128 .bf16) (h4 : a4.IsWhole) (a5 : Memref sig .tc .vmem S1024x128 .f32) (h5 : a5.IsWhole)
    (a6 : Memref sig .tc .vmem S1024x128 .f32) (h6 : a6.IsWhole)
    (hc0 : cond0_0 i) (hc1 : ¬cond0_1 i) (hc2 : ¬cond0_2 i) (x0 : Vec F S2176x1024 .bf16) (x1 : Vec F S2176x128 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2176x1024) origin,
    View.ld_unit_zero (S := S2176x128) origin]

/-- At a last chunk the body adds the chunk's product to what the scratch array held. -/
theorem scratch_B (c : Dev nD) (i : grid0.Coords) (a3 : Memref sig .tc .vmem S2176x1024 .bf16) (h3 : a3.IsWhole)
    (a4 : Memref sig .tc .vmem S2176x128 .bf16) (h4 : a4.IsWhole) (a5 : Memref sig .tc .vmem S1024x128 .f32) (h5 : a5.IsWhole)
    (a6 : Memref sig .tc .vmem S1024x128 .f32) (h6 : a6.IsWhole)
    (hc0 : ¬cond0_0 i) (hc1 : cond0_1 i) (hc2 : cond0_2 i) (x0 : Vec F S2176x1024 .bf16) (x1 : Vec F S2176x128 .bf16)
    (acc : Vec F S1024x128 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S2176x1024) origin,
    View.ld_unit_zero (S := S2176x128) origin, View.ld_unit_zero (S := S1024x128) origin]

/-- At a last chunk the body copies the scratch array, as it leaves it, to the result's block. -/
theorem result_last (c : Dev nD) (i : grid0.Coords) (a3 : Memref sig .tc .vmem S2176x1024 .bf16) (h3 : a3.IsWhole)
    (a4 : Memref sig .tc .vmem S2176x128 .bf16) (h4 : a4.IsWhole) (a5 : Memref sig .tc .vmem S1024x128 .f32) (h5 : a5.IsWhole)
    (a6 : Memref sig .tc .vmem S1024x128 .f32) (h6 : a6.IsWhole)
    (hc0 : ¬cond0_0 i) (hc1 : cond0_1 i) (hc2 : cond0_2 i) (x0 : Vec F S2176x1024 .bf16) (x1 : Vec F S2176x128 .bf16)
    (acc : Vec F S1024x128 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1024x128) _ origin]
  simp only [View.readAt_eq_ld, h3.read_unread, h4.read_unread, h6.read_unread, View.ld_unit_zero (S := S2176x1024) origin,
    View.ld_unit_zero (S := S2176x128) origin, View.ld_unit_zero (S := S1024x128) origin]

end Stores

/-! ## Over the extended reals -/

variable (m : (ℓ : Loc nD τ sig) → Buf (Elt Ideal) ℓ)

/-- The two arrays multiplied, as the run finds them. -/
abbrev lhs (c : Dev nD) : S4352x1024.Idx → EReal := m ((c : Thread nD τ).loc main_arg0)
abbrev rhs (c : Dev nD) : S4352x128.Idx → EReal := m ((c : Thread nD τ).loc main_arg1)

/-- The product's term at position `k` of the contracted axis, for row `I` and column `J` of the result. -/
abbrev term (c : Dev nD) (I J k : ℕ) : EReal := rd (lhs m c) k I * rd (rhs m c) k J

/-- The body's product of two blocks is the sum over the chunk. -/
theorem block_product (x0 : Vec Ideal S2176x1024 .bf16) (x1 : Vec Ideal S2176x128 .bf16) (a : Fin 1024) (b : Fin 128) :
    k0_pay2 (F := Ideal) x0 x1 (ix2 a b) = ∑ k : Fin 2176, (x0 (ix2 k a) : EReal) * (x1 (ix2 k b) : EReal) := by
  pointwise [k0_pay2, k0_pay1]

/-- … and the accumulated one adds it to what was there. -/
theorem block_add (x0 : Vec Ideal S2176x1024 .bf16) (x1 : Vec Ideal S2176x128 .bf16) (acc : Vec Ideal S1024x128 .f32) (a : Fin 1024) (b : Fin 128) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val % 2 ∧ win0_0.index t (1 : Fin 2) = t.val / 2 :=
  (by decide +kernel : ∀ t : Fin grid0.N, _)
theorem rhs_index : ∀ t : Fin cfg0.N, win0_1.index t (0 : Fin 2) = t.val % 2 ∧ win0_1.index t (1 : Fin 2) = t.val / 2 % 1 :=
  (by decide +kernel : ∀ t : Fin grid0.N, _)

/-- The operand blocks at a grid point, entry by entry. -/
theorem lhs_block (c : Dev nD) (t : Fin cfg0.N) (p : Fin 2176) (q : Fin 1024) :
    (iblk m c 0 t (ix2 p q) : EReal) = rd (lhs m c) (2176 * (t.val % 2) + p.val) (1024 * (t.val / 2) + q.val) := by
  obtain ⟨e0, e1⟩ := lhs_index t
  unfold iblk
  rw [View.read_apply]
  refine eq_rd (lhs m c) _ ?_ ?_
  · show win0_0.index t (0 : Fin 2) * 2176 + 1 * p.val = _
    rw [e0, Nat.one_mul, Nat.mul_comm]
  · show win0_0.index t (1 : Fin 2) * 1024 + 1 * q.val = _
    rw [e1, Nat.one_mul, Nat.mul_comm]
theorem rhs_block (c : Dev nD) (t : Fin cfg0.N) (p : Fin 2176) (q : Fin 128) :
    (iblk m c 1 t (ix2 p q) : EReal) = rd (rhs m c) (2176 * (t.val % 2) + p.val) (128 * (t.val / 2 % 1) + q.val) := by
  obtain ⟨e0, e1⟩ := rhs_index t
  unfold iblk
  rw [View.read_apply]
  refine eq_rd (rhs m c) _ ?_ ?_
  · show win0_1.index t (0 : Fin 2) * 2176 + 1 * p.val = _
    rw [e0, Nat.one_mul, Nat.mul_comm]
  · show win0_1.index t (1 : Fin 2) * 128 + 1 * q.val = _
    rw [e1, Nat.one_mul, Nat.mul_comm]

/-- The product of the blocks at grid point `t` is the chunk of the whole product's sum. -/
theorem chunk_at (c : Dev nD) (t : Fin cfg0.N) (a : Fin 1024) (b : Fin 128) :
    k0_pay2 (F := Ideal) (iblk m c 0 t) (iblk m c 1 t) (ix2 a b)
      = ∑ k : Fin 2176, term m c (1024 * (t.val / 2) + a.val) (128 * (t.val / 2 % 1) + b.val) (2176 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 128) : ∀ (n : ℕ) (h : n < cfg0.N),
    ((outsAt0 m c n h).2 (ix2 a b) : EReal)
      = ∑ k ∈ range (2176 * (n % 2 + 1)), term m c (1024 * (n / 2) + a.val) (128 * (n / 2 % 1) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 2176 _
  | succ n ih =>
    intro h
    have hN : n + 1 < 2 := lt_of_lt_of_eq h (show cfg0.N = 2 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 2176 _
    · have e1 : (n + 1) % 2 = n % 2 + 1 := by omega
      have e2 : (n + 1) / 2 = n / 2 := by omega
      have e3 : (n + 1) / 2 % 1 = n / 2 % 1 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 2176 _ _

/-- At a last chunk the result's block is what the scratch array holds. -/
theorem result_eq_scratch (c : Dev nD) (n : ℕ) (h : n < cfg0.N) (h2 : n % 2 = 1) (a : Fin 1024) (b : Fin 128) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4352x1024.Idx → EReal) (y : S4352x128.Idx → EReal) (i : S1024x128.Idx) :
    (Cert.Reference16Ideal.Read.val_main_v5 (F := Ideal) x y i : EReal)
      = ∑ k : Fin 4352, x (ix2 k (i 0)) * y (ix2 k (i 1)) := by
  pointwise [Cert.Reference16Ideal.Read.val_main_v5, Cert.Reference16Ideal.Read.val_main_v4, Cert.Reference16Ideal.Read.val_main_v1, Cert.Reference16Ideal.Read.val_main_v0]
  exact Finset.sum_congr rfl fun k _ => mul_comm _ _

/-- The result array after the run: the product's whole sum at every row and column. -/
theorem result_sum (c : Dev nD) (i : S1024x128.Idx) :
    (G2 m c i : EReal) = ∑ k ∈ range 4352, term m c (i 0).val (i 1).val k := by
  have hi0 : (i 0).val < 1024 := (i 0).isLt
  have hi1 : (i 1).val < 128 := (i 1).isLt
  have hv : pt2Of i = 2 * (1 * ((i 0).val / 1024) + (i 1).val / 128) + 1 := by
    show 2 * (1 * ((i 0).val / 1024 - 0) + 1 * ((i 1).val / 128 - 0)) + 1 = _
    omega
  have hp : pt2Of i < cfg0.N := lt_of_lt_of_eq (by rw [hv]; omega) (show 2 = cfg0.N from N_0.symm)
  have hl : loc2Of i = ix2 ⟨(i 0).val % 1024, Nat.mod_lt _ (by decide)⟩ ⟨(i 1).val % 128, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 2) + (i 0).val % 1024 = (i 0).val := by rw [hv]; omega
  have e1 : 128 * (pt2Of i / 2 % 1) + (i 1).val % 128 = (i 1).val := by rw [hv]; omega
  have e2 : 2176 * (pt2Of i % 2 + 1) = 4352 := by rw [hv]; omega
  dsimp only
  rw [e0, e1, e2]

/-- The result array is the reference's: the derivative of the plain product, as it is read at each index. -/
theorem result_eq (c : Dev nD) :
    G2 m c = Cert.Reference16Ideal.Read.val_main_v5 (F := Ideal) (lhs m c) (rhs m c) := by
  funext i
  have e : ∑ k ∈ range 4352, term m c (i 0).val (i 1).val k
      = ∑ k : Fin 4352, lhs m c (ix2 k (i 0)) * rhs m c (ix2 k (i 1)) := by
    rw [← sum_fin]
    exact Finset.sum_congr rfl fun k _ => congrArg₂ (· * ·) (rd_of_lt (lhs m c) k.isLt (i 0).isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel16Ideal_Reference16Ideal := by
  intro m g m' g' _ h
  refine ⟨fun c => G2 m c, run m g, (θ_run _ _ _).mono (fun r hr c => ?_) (Cert.Reference16Ideal.Value.run m' g')⟩
  obtain ⟨h0, h1⟩ := h c
  obtain ⟨hv, ha⟩ := hr c
  refine ⟨?_, ha⟩
  rw [hv, h0, h1]
  exact (result_eq m c).symm

end Cert.Kernel16Ideal.Product

end
-- ==== Proof.Product17.lean ====
/-
  The gradient of the state-space block's input through its steps' product: cotangent · weightᵀ.
  Each grid point takes one block of rows against one block of the weight's rows, the contracted axis whole: here the
  result array is shown to be the whole product.
-/
module

public import proofs.«01_k».proof.Proof.Gen.Kernel17Ideal.Value
public import proofs.«01_k».proof.Proof.Gen.Reference17Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel17Ideal.Product

open Cert.Kernel17Ideal Cert.Kernel17Ideal.Gen Cert.Kernel17Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1088x128 .bf16) (x1 : Vec Ideal S1024x128 .bf16) (a : Fin 1088) (b : Fin 1024) :
    (out0_2 (F := Ideal) x0 x1 (ix2 a b) : EReal) = ∑ k : Fin 128, (x0 (ix2 a k) : EReal) * (x1 (ix2 b k) : EReal) := by
  have e : out0_2 (F := Ideal) x0 x1 = k0_pay1 (F := Ideal) x0 x1 := by
    unfold out0_2
    rw [View.canon_unit_zero origin]
    simp only [View.ld_unit_zero (S := S1088x128) origin, View.ld_unit_zero (S := S1024x128) origin]
  rw [e]
  pointwise [k0_pay1]

variable (m : (ℓ : Loc nD τ sig) → Buf (Elt Ideal) ℓ)

/-- The two arrays multiplied as the run finds them. -/
abbrev lhs (c : Dev nD) : S4352x128.Idx → EReal := m ((c : Thread nD τ).loc main_arg0)
abbrev rhs (c : Dev nD) : S1024x128.Idx → EReal := m ((c : Thread nD τ).loc main_arg1)

/-- Which blocks a grid point reads and writes. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1088) (q : Fin 128) :
    (iblk m c 0 t (ix2 p q) : EReal) = rd (lhs m c) (1088 * (t.val) + p.val) (q.val) := by
  obtain ⟨e0, e1⟩ := index0 t
  unfold iblk
  rw [View.read_apply]
  refine eq_rd (lhs m c) _ ?_ ?_
  · show win0_0.index t (0 : Fin 2) * 1088 + 1 * p.val = _
    rw [e0]; omega
  · show win0_0.index t (1 : Fin 2) * 128 + 1 * q.val = _
    rw [e1]; omega

theorem rhs_block (c : Dev nD) (t : Fin cfg0.N) (p : Fin 1024) (q : Fin 128) :
    (iblk m c 1 t (ix2 p q) : EReal) = rd (rhs m c) (p.val) (q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 128 + 1 * q.val = _
    rw [e1]; omega

/-- The result array after the run, at every row and column. -/
theorem result_sum (c : Dev nD) (i : S4352x1024.Idx) :
    ((dats m 0 c).arrAt 2 cfg0.N i : EReal) = (∑ k : Fin 128, rd (lhs m c) (i 0).val k.val * rd (rhs m c) (i 1).val k.val) := by
  have hi0 : (i 0).val < 4352 := (i 0).isLt
  have hi1 : (i 1).val < 1024 := (i 1).isLt
  have hN : 1 * ((i 0).val / 1088) + (i 1).val / 1024 < cfg0.N := lt_of_lt_of_eq (by omega) (show 4 = cfg0.N from N_0.symm)
  obtain ⟨t, ht⟩ : ∃ t : Fin cfg0.N, t.val = 1 * ((i 0).val / 1088) + (i 1).val / 1024 := ⟨⟨_, hN⟩, rfl⟩
  obtain ⟨e0, e1⟩ := index2 t
  let y : S1088x1024.Idx := ix2 ⟨(i 0).val % 1088, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1088 + 1 * ((i 0).val % 1088) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1088 := ⟨(i 0).val % 1088, Nat.mod_lt _ (by decide)⟩
  let q : Fin 1024 := ⟨(i 1).val % 1024, Nat.mod_lt _ (by decide)⟩
  have r0 : 1088 * (t.val) + p.val = (i 0).val := by show 1088 * (t.val) + (i 0).val % 1088 = _; omega
  have r1 : q.val = (i 1).val := by show (i 1).val % 1024 = _; omega
  let X : S1088x128.Idx → EReal := iblk m c 0 t
  let Y : S1024x128.Idx → EReal := iblk m c 1 t
  have hs : (∑ k : Fin 128, X (ix2 p k) * Y (ix2 q k))
      = ∑ k : Fin 128, rd (lhs m c) (i 0).val k.val * rd (rhs m c) (i 1).val k.val :=
    Finset.sum_congr rfl fun k _ => congrArg₂ (· * ·)
      ((lhs_block m c t p k).trans (congrArg (fun r => rd (lhs m c) r k.val) r0))
      ((rhs_block m c t q k).trans (congrArg (fun r => rd (rhs m c) r k.val) r1))
  exact (hb.trans (out_entry (iblk m c 0 t) (iblk m c 1 t) p q)).trans hs

/-- The reference's result at an index, as a sum over the contracted axis. -/
theorem ref_sum (x : S4352x128.Idx → EReal) (y : S1024x128.Idx → EReal) (i : S4352x1024.Idx) :
    (Cert.Reference17Ideal.Read.val_main_v4 (F := Ideal) x y i : EReal) = ∑ k : Fin 128, x (ix2 (i 0) k) * y (ix2 (i 1) k) := by
  pointwise [Cert.Reference17Ideal.Read.val_main_v4, Cert.Reference17Ideal.Read.val_main_v1, Cert.Reference17Ideal.Read.val_main_v0]

/-- The result array is the reference's: the derivative of the plain product, as it is read at each index. -/
theorem result_eq (c : Dev nD) :
    (dats m 0 c).arrAt 2 cfg0.N = Cert.Reference17Ideal.Read.val_main_v4 (F := Ideal) (lhs m c) (rhs m c) := by
  funext i
  have e : (∑ k : Fin 128, rd (lhs m c) (i 0).val k.val * rd (rhs m c) (i 1).val k.val)
      = ∑ k : Fin 128, lhs m c (ix2 (i 0) k) * rhs m c (ix2 (i 1) k) :=
    Finset.sum_congr rfl fun k _ => congrArg₂ (· * ·) (rd_of_lt (lhs m c) (i 0).isLt k.isLt) (rd_of_lt (rhs m c) (i 1).isLt k.isLt)
  exact (result_sum m c i).trans (e.trans (ref_sum (lhs m c) (rhs m c) i).symm)

/-- The claim: from the same arguments the kernel and the reference end with the same result array. -/
theorem algebraic : Cert.algebraic_Kernel17Ideal_Reference17Ideal := by
  intro m g m' g' _ h
  refine ⟨fun c => (dats m 0 c).arrAt 2 cfg0.N, run_blocks m g, (θ_run _ _ _).mono (fun r hr c => ?_) (Cert.Reference17Ideal.Value.run m' g')⟩
  obtain ⟨h0, h1⟩ := h c
  obtain ⟨hv, ha⟩ := hr c
  refine ⟨?_, ha⟩
  rw [hv, h0, h1]
  exact (result_eq m c).symm

end Cert.Kernel17Ideal.Product

end
-- ==== Proof.Product19.lean ====
/-
  The feed-forward block's second product: gated rows · weight.
  The kernel accumulates the product chunk by chunk along the contracted axis, in a scratch array that it resets at the
  first chunk and copies to the result's block at the last: here the result array is shown to be the whole sum.
-/
module

public import proofs.«01_k».proof.Proof.Gen.Kernel19Ideal.Value
public import proofs.«01_k».proof.Proof.Gen.Reference19Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel19Ideal.Product

open Cert.Kernel19Ideal Cert.Kernel19Ideal.Gen Cert.Kernel19Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S1024x1408 .bf16) (h3 : a3.IsWhole)
    (a4 : Memref sig .tc .vmem S1408x1024 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i) (x0 : Vec F S1024x1408 .bf16) (x1 : Vec F S1408x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S1024x1408) origin,
    View.ld_unit_zero (S := S1408x1024) origin]

/-- At a last chunk the body adds the chunk's product to what the scratch array held. -/
theorem scratch_B (c : Dev nD) (i : grid0.Coords) (a3 : Memref sig .tc .vmem S1024x1408 .bf16) (h3 : a3.IsWhole)
    (a4 : Memref sig .tc .vmem S1408x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S1024x1408 .bf16) (x1 : Vec F S1408x1024 .bf16)
    (acc : Vec F S1024x1024 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S1024x1408) origin,
    View.ld_unit_zero (S := S1408x1024) origin, View.ld_unit_zero (S := S1024x1024) origin]

/-- At a last chunk the body copies the scratch array, as it leaves it, to the result's block. -/
theorem result_last (c : Dev nD) (i : grid0.Coords) (a3 : Memref sig .tc .vmem S1024x1408 .bf16) (h3 : a3.IsWhole)
    (a4 : Memref sig .tc .vmem S1408x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S1024x1408 .bf16) (x1 : Vec F S1408x1024 .bf16)
    (acc : Vec F S1024x1024 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S1024x1408) origin,
    View.ld_unit_zero (S := S1408x1024) origin, View.ld_unit_zero (S := S1024x1024) origin]

end Stores

/-! ## Over the extended reals -/

variable (m : (ℓ : Loc nD τ sig) → Buf (Elt Ideal) ℓ)

/-- The two arrays multiplied, as the run finds them. -/
abbrev lhs (c : Dev nD) : S4096x2816.Idx → EReal := m ((c : Thread nD τ).loc main_arg0)
abbrev rhs (c : Dev nD) : S2816x1024.Idx → EReal := m ((c : Thread nD τ).loc main_arg1)

/-- The product's term at position `k` of the contracted axis, for row `I` and column `J` of the result. -/
abbrev term (c : Dev nD) (I J k : ℕ) : EReal := rd (lhs m c) I k * rd (rhs m c) k J

/-- The body's product of two blocks is the sum over the chunk. -/
theorem block_product (x0 : Vec Ideal S1024x1408 .bf16) (x1 : Vec Ideal S1408x1024 .bf16) (a : Fin 1024) (b : Fin 1024) :
    k0_pay2 (F := Ideal) x0 x1 (ix2 a b) = ∑ k : Fin 1408, (x0 (ix2 a k) : EReal) * (x1 (ix2 k b) : EReal) := by
  pointwise [k0_pay2, k0_pay1]

/-- … and the accumulated one adds it to what was there. -/
theorem block_add (x0 : Vec Ideal S1024x1408 .bf16) (x1 : Vec Ideal S1408x1024 .bf16) (acc : Vec Ideal S1024x1024 .f32) (a : Fin 1024) (b : Fin 1024) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val / 2 ∧ win0_0.index t (1 : Fin 2) = t.val % 2 :=
  (by decide +kernel : ∀ t : Fin grid0.N, _)
theorem rhs_index : ∀ t : Fin cfg0.N, win0_1.index t (0 : Fin 2) = t.val % 2 ∧ win0_1.index t (1 : Fin 2) = t.val / 2 % 1 :=
  (by decide +kernel : ∀ t : Fin grid0.N, _)

/-- The operand blocks at a grid point, entry by entry. -/
theorem lhs_block (c : Dev nD) (t : Fin cfg0.N) (p : Fin 1024) (q : Fin 1408) :
    (iblk m c 0 t (ix2 p q) : EReal) = rd (lhs m c) (1024 * (t.val / 2) + p.val) (1408 * (t.val % 2) + q.val) := by
  obtain ⟨e0, e1⟩ := lhs_index t
  unfold iblk
  rw [View.read_apply]
  refine eq_rd (lhs m c) _ ?_ ?_
  · show win0_0.index t (0 : Fin 2) * 1024 + 1 * p.val = _
    rw [e0, Nat.one_mul, Nat.mul_comm]
  · show win0_0.index t (1 : Fin 2) * 1408 + 1 * q.val = _
    rw [e1, Nat.one_mul, Nat.mul_comm]
theorem rhs_block (c : Dev nD) (t : Fin cfg0.N) (p : Fin 1408) (q : Fin 1024) :
    (iblk m c 1 t (ix2 p q) : EReal) = rd (rhs m c) (1408 * (t.val % 2) + p.val) (1024 * (t.val / 2 % 1) + q.val) := by
  obtain ⟨e0, e1⟩ := rhs_index t
  unfold iblk
  rw [View.read_apply]
  refine eq_rd (rhs m c) _ ?_ ?_
  · show win0_1.index t (0 : Fin 2) * 1408 + 1 * p.val = _
    rw [e0, Nat.one_mul, Nat.mul_comm]
  · show win0_1.index t (1 : Fin 2) * 1024 + 1 * q.val = _
    rw [e1, Nat.one_mul, Nat.mul_comm]

/-- The product of the blocks at grid point `t` is the chunk of the whole product's sum. -/
theorem chunk_at (c : Dev nD) (t : Fin cfg0.N) (a : Fin 1024) (b : Fin 1024) :
    k0_pay2 (F := Ideal) (iblk m c 0 t) (iblk m c 1 t) (ix2 a b)
      = ∑ k : Fin 1408, term m c (1024 * (t.val / 2) + a.val) (1024 * (t.val / 2 % 1) + b.val) (1408 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 1024) : ∀ (n : ℕ) (h : n < cfg0.N),
    ((outsAt0 m c n h).2 (ix2 a b) : EReal)
      = ∑ k ∈ range (1408 * (n % 2 + 1)), term m c (1024 * (n / 2) + a.val) (1024 * (n / 2 % 1) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 1408 _
  | succ n ih =>
    intro h
    have hN : n + 1 < 8 := lt_of_lt_of_eq h (show cfg0.N = 8 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 1408 _
    · have e1 : (n + 1) % 2 = n % 2 + 1 := by omega
      have e2 : (n + 1) / 2 = n / 2 := by omega
      have e3 : (n + 1) / 2 % 1 = n / 2 % 1 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 1408 _ _

/-- At a last chunk the result's block is what the scratch array holds. -/
theorem result_eq_scratch (c : Dev nD) (n : ℕ) (h : n < cfg0.N) (h2 : n % 2 = 1) (a : Fin 1024) (b : Fin 1024) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4096x2816.Idx → EReal) (y : S2816x1024.Idx → EReal) (i : S4096x1024.Idx) :
    (Cert.Reference19Ideal.Read.val_main_v2 (F := Ideal) x y i : EReal)
      = ∑ k : Fin 2816, x (ix2 (i 0) k) * y (ix2 k (i 1)) := by
  pointwise [Cert.Reference19Ideal.Read.val_main_v2, Cert.Reference19Ideal.Read.val_main_v1, Cert.Reference19Ideal.Read.val_main_v0]

/-- The result array after the run: the product's whole sum at every row and column. -/
theorem result_sum (c : Dev nD) (i : S4096x1024.Idx) :
    (G2 m c i : EReal) = ∑ k ∈ range 2816, term m c (i 0).val (i 1).val k := by
  have hi0 : (i 0).val < 4096 := (i 0).isLt
  have hi1 : (i 1).val < 1024 := (i 1).isLt
  have hv : pt2Of i = 2 * (1 * ((i 0).val / 1024) + (i 1).val / 1024) + 1 := by
    show 2 * (1 * ((i 0).val / 1024 - 0) + 1 * ((i 1).val / 1024 - 0)) + 1 = _
    omega
  have hp : pt2Of i < cfg0.N := lt_of_lt_of_eq (by rw [hv]; omega) (show 8 = cfg0.N from N_0.symm)
  have hl : loc2Of i = ix2 ⟨(i 0).val % 1024, Nat.mod_lt _ (by decide)⟩ ⟨(i 1).val % 1024, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 2) + (i 0).val % 1024 = (i 0).val := by rw [hv]; omega
  have e1 : 1024 * (pt2Of i / 2 % 1) + (i 1).val % 1024 = (i 1).val := by rw [hv]; omega
  have e2 : 1408 * (pt2Of i % 2 + 1) = 2816 := by rw [hv]; omega
  dsimp only
  rw [e0, e1, e2]

/-- The result array is the reference's: the plain product, as it is read at each index. -/
theorem result_eq (c : Dev nD) :
    G2 m c = Cert.Reference19Ideal.Read.val_main_v2 (F := Ideal) (lhs m c) (rhs m c) := by
  funext i
  have e : ∑ k ∈ range 2816, term m c (i 0).val (i 1).val k
      = ∑ k : Fin 2816, lhs m c (ix2 (i 0) k) * rhs m c (ix2 k (i 1)) := by
    rw [← sum_fin]
    exact Finset.sum_congr rfl fun k _ => congrArg₂ (· * ·) (rd_of_lt (lhs m c) (i 0).isLt k.isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel19Ideal_Reference19Ideal := by
  intro m g m' g' _ h
  refine ⟨fun c => G2 m c, run m g, (θ_run _ _ _).mono (fun r hr c => ?_) (Cert.Reference19Ideal.Value.run m' g')⟩
  obtain ⟨h0, h1⟩ := h c
  obtain ⟨hv, ha⟩ := hr c
  refine ⟨?_, ha⟩
  rw [hv, h0, h1]
  exact (result_eq m c).symm

end Cert.Kernel19Ideal.Product

end
-- ==== Proof.Product2.lean ====
/-
  The gradient of the output weight of the gated feed-forward block: activationᵀ · cotangent.
  The kernel accumulates the product chunk by chunk along the contracted axis, in a scratch array that it resets at the
  first chunk and copies to the result's block at the last: here the result array is shown to be the whole sum.
-/
module

public import proofs.«01_k».proof.Proof.Gen.Kernel2Ideal.Value
public import proofs.«01_k».proof.Proof.Gen.Reference2Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel2Ideal.Product

open Cert.Kernel2Ideal Cert.Kernel2Ideal.Gen Cert.Kernel2Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .f32) (h5 : a5.IsWhole)
    (a6 : Memref sig .tc .vmem S1408x1024 .f32) (h6 : a6.IsWhole)
    (hc0 : cond0_0 i) (hc1 : ¬cond0_1 i) (hc2 : ¬cond0_2 i) (x0 : Vec F S2048x1408 .bf16) (x1 : Vec F S2048x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2048x1408) origin,
    View.ld_unit_zero (S := S2048x1024) origin]

/-- At a last chunk the body adds the chunk's product to what the scratch array held. -/
theorem scratch_B (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .f32) (h5 : a5.IsWhole)
    (a6 : Memref sig .tc .vmem S1408x1024 .f32) (h6 : a6.IsWhole)
    (hc0 : ¬cond0_0 i) (hc1 : cond0_1 i) (hc2 : cond0_2 i) (x0 : Vec F S2048x1408 .bf16) (x1 : Vec F S2048x1024 .bf16)
    (acc : Vec F S1408x1024 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S2048x1408) origin,
    View.ld_unit_zero (S := S2048x1024) origin, View.ld_unit_zero (S := S1408x1024) origin]

/-- At a last chunk the body copies the scratch array, as it leaves it, to the result's block. -/
theorem result_last (c : Dev nD) (i : grid0.Coords) (a3 : Memref sig .tc .vmem S2048x1408 .bf16) (h3 : a3.IsWhole)
    (a4 : Memref sig .tc .vmem S2048x1024 .bf16) (h4 : a4.IsWhole) (a5 : Memref sig .tc .vmem S1408x1024 .f32) (h5 : a5.IsWhole)
    (a6 : Memref sig .tc .vmem S1408x1024 .f32) (h6 : a6.IsWhole)
    (hc0 : ¬cond0_0 i) (hc1 : cond0_1 i) (hc2 : cond0_2 i) (x0 : Vec F S2048x1408 .bf16) (x1 : Vec F S2048x1024 .bf16)
    (acc : Vec F S1408x1024 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1408x1024) _ origin]
  simp only [View.readAt_eq_ld, h3.read_unread, h4.read_unread, h6.read_unread, View.ld_unit_zero (S := S2048x1408) origin,
    View.ld_unit_zero (S := S2048x1024) origin, View.ld_unit_zero (S := S1408x1024) origin]

end Stores

/-! ## Over the extended reals -/

variable (m : (ℓ : Loc nD τ sig) → Buf (Elt Ideal) ℓ)

/-- The two arrays multiplied, as the run finds them. -/
abbrev lhs (c : Dev nD) : S4096x2816.Idx → EReal := m ((c : Thread nD τ).loc main_arg0)
abbrev rhs (c : Dev nD) : S4096x1024.Idx → EReal := m ((c : Thread nD τ).loc main_arg1)

/-- The product's term at position `k` of the contracted axis, for row `I` and column `J` of the result. -/
abbrev term (c : Dev nD) (I J k : ℕ) : EReal := rd (lhs m c) k I * rd (rhs m c) k J

/-- The body's product of two blocks is the sum over the chunk. -/
theorem block_product (x0 : Vec Ideal S2048x1408 .bf16) (x1 : Vec Ideal S2048x1024 .bf16) (a : Fin 1408) (b : Fin 1024) :
    k0_pay2 (F := Ideal) x0 x1 (ix2 a b) = ∑ k : Fin 2048, (x0 (ix2 k a) : EReal) * (x1 (ix2 k b) : EReal) := by
  pointwise [k0_pay2, k0_pay1]

/-- … and the accumulated one adds it to what was there. -/
theorem block_add (x0 : Vec Ideal S2048x1408 .bf16) (x1 : Vec Ideal S2048x1024 .bf16) (acc : Vec Ideal S1408x1024 .f32) (a : Fin 1408) (b : Fin 1024) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val % 2 ∧ win0_0.index t (1 : Fin 2) = t.val / 2 :=
  (by decide +kernel : ∀ t : Fin grid0.N, _)
theorem rhs_index : ∀ t : Fin cfg0.N, win0_1.index t (0 : Fin 2) = t.val % 2 ∧ win0_1.index t (1 : Fin 2) = t.val / 2 % 1 :=
  (by decide +kernel : ∀ t : Fin grid0.N, _)

/-- The operand blocks at a grid point, entry by entry. -/
theorem lhs_block (c : Dev nD) (t : Fin cfg0.N) (p : Fin 2048) (q : Fin 1408) :
    (iblk m c 0 t (ix2 p q) : EReal) = rd (lhs m c) (2048 * (t.val % 2) + p.val) (1408 * (t.val / 2) + q.val) := by
  obtain ⟨e0, e1⟩ := lhs_index t
  unfold iblk
  rw [View.read_apply]
  refine eq_rd (lhs m c) _ ?_ ?_
  · show win0_0.index t (0 : Fin 2) * 2048 + 1 * p.val = _
    rw [e0, Nat.one_mul, Nat.mul_comm]
  · show win0_0.index t (1 : Fin 2) * 1408 + 1 * q.val = _
    rw [e1, Nat.one_mul, Nat.mul_comm]
theorem rhs_block (c : Dev nD) (t : Fin cfg0.N) (p : Fin 2048) (q : Fin 1024) :
    (iblk m c 1 t (ix2 p q) : EReal) = rd (rhs m c) (2048 * (t.val % 2) + p.val) (1024 * (t.val / 2 % 1) + q.val) := by
  obtain ⟨e0, e1⟩ := rhs_index t
  unfold iblk
  rw [View.read_apply]
  refine eq_rd (rhs m c) _ ?_ ?_
  · show win0_1.index t (0 : Fin 2) * 2048 + 1 * p.val = _
    rw [e0, Nat.one_mul, Nat.mul_comm]
  · show win0_1.index t (1 : Fin 2) * 1024 + 1 * q.val = _
    rw [e1, Nat.one_mul, Nat.mul_comm]

/-- The product of the blocks at grid point `t` is the chunk of the whole product's sum. -/
theorem chunk_at (c : Dev nD) (t : Fin cfg0.N) (a : Fin 1408) (b : Fin 1024) :
    k0_pay2 (F := Ideal) (iblk m c 0 t) (iblk m c 1 t) (ix2 a b)
      = ∑ k : Fin 2048, term m c (1408 * (t.val / 2) + a.val) (1024 * (t.val / 2 % 1) + b.val) (2048 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1408) (b : Fin 1024) : ∀ (n : ℕ) (h : n < cfg0.N),
    ((outsAt0 m c n h).2 (ix2 a b) : EReal)
      = ∑ k ∈ range (2048 * (n % 2 + 1)), term m c (1408 * (n / 2) + a.val) (1024 * (n / 2 % 1) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 2048 _
  | succ n ih =>
    intro h
    have hN : n + 1 < 4 := lt_of_lt_of_eq h (show cfg0.N = 4 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 2048 _
    · have e1 : (n + 1) % 2 = n % 2 + 1 := by omega
      have e2 : (n + 1) / 2 = n / 2 := by omega
      have e3 : (n + 1) / 2 % 1 = n / 2 % 1 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 2048 _ _

/-- At a last chunk the result's block is what the scratch array holds. -/
theorem result_eq_scratch (c : Dev nD) (n : ℕ) (h : n < cfg0.N) (h2 : n % 2 = 1) (a : Fin 1408) (b : Fin 1024) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4096x2816.Idx → EReal) (y : S4096x1024.Idx → EReal) (i : S2816x1024.Idx) :
    (Cert.Reference2Ideal.Read.val_main_v5 (F := Ideal) x y i : EReal)
      = ∑ k : Fin 4096, x (ix2 k (i 0)) * y (ix2 k (i 1)) := by
  pointwise [Cert.Reference2Ideal.Read.val_main_v5, Cert.Reference2Ideal.Read.val_main_v4, Cert.Reference2Ideal.Read.val_main_v1, Cert.Reference2Ideal.Read.val_main_v0]
  exact Finset.sum_congr rfl fun k _ => mul_comm _ _

/-- The result array after the run: the product's whole sum at every row and column. -/
theorem result_sum (c : Dev nD) (i : S2816x1024.Idx) :
    (G2 m c i : EReal) = ∑ k ∈ range 4096, term m c (i 0).val (i 1).val k := by
  have hi0 : (i 0).val < 2816 := (i 0).isLt
  have hi1 : (i 1).val < 1024 := (i 1).isLt
  have hv : pt2Of i = 2 * (1 * ((i 0).val / 1408) + (i 1).val / 1024) + 1 := by
    show 2 * (1 * ((i 0).val / 1408 - 0) + 1 * ((i 1).val / 1024 - 0)) + 1 = _
    omega
  have hp : pt2Of i < cfg0.N := lt_of_lt_of_eq (by rw [hv]; omega) (show 4 = cfg0.N from N_0.symm)
  have hl : loc2Of i = ix2 ⟨(i 0).val % 1408, Nat.mod_lt _ (by decide)⟩ ⟨(i 1).val % 1024, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1408 * (pt2Of i / 2) + (i 0).val % 1408 = (i 0).val := by rw [hv]; omega
  have e1 : 1024 * (pt2Of i / 2 % 1) + (i 1).val % 1024 = (i 1).val := by rw [hv]; omega
  have e2 : 2048 * (pt2Of i % 2 + 1) = 4096 := by rw [hv]; omega
  dsimp only
  rw [e0, e1, e2]

/-- The result array is the reference's: the derivative of the plain product, as it is read at each index. -/
theorem result_eq (c : Dev nD) :
    G2 m c = Cert.Reference2Ideal.Read.val_main_v5 (F := Ideal) (lhs m c) (rhs m c) := by
  funext i
  have e : ∑ k ∈ range 4096, term m c (i 0).val (i 1).val k
      = ∑ k : Fin 4096, lhs m c (ix2 k (i 0)) * rhs m c (ix2 k (i 1)) := by
    rw [← sum_fin]
    exact Finset.sum_congr rfl fun k _ => congrArg₂ (· * ·) (rd_of_lt (lhs m c) k.isLt (i 0).isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel2Ideal_Reference2Ideal := by
  intro m g m' g' _ h
  refine ⟨fun c => G2 m c, run m g, (θ_run _ _ _).mono (fun r hr c => ?_) (Cert.Reference2Ideal.Value.run m' g')⟩
  obtain ⟨h0, h1⟩ := h c
  obtain ⟨hv, ha⟩ := hr c
  refine ⟨?_, ha⟩
  rw [hv, h0, h1]
  exact (result_eq m c).symm

end Cert.Kernel2Ideal.Product

end
-- ==== Proof.Product20.lean ====
/-
  The state-space block's input product, the columns of the gate: rows · weight.
  Each grid point takes one block of rows against one block of the weight's columns, the contracted axis whole: here the
  result array is shown to be the whole product.
-/
module

public import proofs.«01_k».proof.Proof.Gen.Kernel20Ideal.Value
public import proofs.«01_k».proof.Proof.Gen.Reference20Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel20Ideal.Product

open Cert.Kernel20Ideal Cert.Kernel20Ideal.Gen Cert.Kernel20Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1088x1024 .bf16) (x1 : Vec Ideal S1024x1024 .bf16) (a : Fin 1088) (b : Fin 1024) :
    (out0_2 (F := Ideal) x0 x1 (ix2 a b) : EReal) = ∑ k : Fin 1024, (x0 (ix2 a k) : EReal) * (x1 (ix2 k b) : EReal) := by
  have e : out0_2 (F := Ideal) x0 x1 = k0_pay1 (F := Ideal) x0 x1 := by
    unfold out0_2
    rw [View.canon_unit_zero origin]
    simp only [View.ld_unit_zero (S := S1088x1024) origin, View.ld_unit_zero (S := S1024x1024) origin]
  rw [e]
  pointwise [k0_pay1]

variable (m : (ℓ : Loc nD τ sig) → Buf (Elt Ideal) ℓ)

/-- The two arrays multiplied as the run finds them. -/
abbrev lhs (c : Dev nD) : S4352x1024.Idx → EReal := m ((c : Thread nD τ).loc main_arg0)
abbrev rhs (c : Dev nD) : S1024x2048.Idx → EReal := m ((c : Thread nD τ).loc main_arg1)

/-- Which blocks a grid point reads and writes. -/
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1088) (q : Fin 1024) :
    (iblk m c 0 t (ix2 p q) : EReal) = rd (lhs m c) (1088 * (t.val / 2) + p.val) (q.val) := by
  obtain ⟨e0, e1⟩ := index0 t
  unfold iblk
  rw [View.read_apply]
  refine eq_rd (lhs m c) _ ?_ ?_
  · show win0_0.index t (0 : Fin 2) * 1088 + 1 * p.val = _
    rw [e0]; omega
  · show win0_0.index t (1 : Fin 2) * 1024 + 1 * q.val = _
    rw [e1]; omega

theorem rhs_block (c : Dev nD) (t : Fin cfg0.N) (p : Fin 1024) (q : Fin 1024) :
    (iblk m c 1 t (ix2 p q) : EReal) = rd (rhs m c) (p.val) (1024 * (t.val % 2) + q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 1024 + 1 * q.val = _
    rw [e1]; omega

/-- The result array after the run, at every row and column. -/
theorem result_sum (c : Dev nD) (i : S4352x2048.Idx) :
    ((dats m 0 c).arrAt 2 cfg0.N i : EReal) = (∑ k : Fin 1024, rd (lhs m c) (i 0).val k.val * rd (rhs m c) k.val (i 1).val) := by
  have hi0 : (i 0).val < 4352 := (i 0).isLt
  have hi1 : (i 1).val < 2048 := (i 1).isLt
  have hN : 2 * ((i 0).val / 1088) + (i 1).val / 1024 < cfg0.N := lt_of_lt_of_eq (by omega) (show 8 = cfg0.N from N_0.symm)
  obtain ⟨t, ht⟩ : ∃ t : Fin cfg0.N, t.val = 2 * ((i 0).val / 1088) + (i 1).val / 1024 := ⟨⟨_, hN⟩, rfl⟩
  obtain ⟨e0, e1⟩ := index2 t
  let y : S1088x1024.Idx := ix2 ⟨(i 0).val % 1088, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1088 + 1 * ((i 0).val % 1088) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1088 := ⟨(i 0).val % 1088, Nat.mod_lt _ (by decide)⟩
  let q : Fin 1024 := ⟨(i 1).val % 1024, Nat.mod_lt _ (by decide)⟩
  have r0 : 1088 * (t.val / 2) + p.val = (i 0).val := by show 1088 * (t.val / 2) + (i 0).val % 1088 = _; omega
  have r1 : 1024 * (t.val % 2) + q.val = (i 1).val := by show 1024 * (t.val % 2) + (i 1).val % 1024 = _; omega
  let X : S1088x1024.Idx → EReal := iblk m c 0 t
  let Y : S1024x1024.Idx → EReal := iblk m c 1 t
  have hs : (∑ k : Fin 1024, X (ix2 p k) * Y (ix2 k q))
      = ∑ k : Fin 1024, rd (lhs m c) (i 0).val k.val * rd (rhs m c) k.val (i 1).val :=
    Finset.sum_congr rfl fun k _ => congrArg₂ (· * ·)
      ((lhs_block m c t p k).trans (congrArg (fun r => rd (lhs m c) r k.val) r0))
      ((rhs_block m c t k q).trans (congrArg (fun r => rd (rhs m c) k.val r) r1))
  exact (hb.trans (out_entry (iblk m c 0 t) (iblk m c 1 t) p q)).trans hs

/-- The reference's result at an index, as a sum over the contracted axis. -/
theorem ref_sum (x : S4352x1024.Idx → EReal) (y : S1024x2048.Idx → EReal) (i : S4352x2048.Idx) :
    (Cert.Reference20Ideal.Read.val_main_v3 (F := Ideal) x y i : EReal) = ∑ k : Fin 1024, x (ix2 (i 0) k) * y (ix2 k (i 1)) := by
  pointwise [Cert.Reference20Ideal.Read.val_main_v3, Cert.Reference20Ideal.Read.val_main_v2, Cert.Reference20Ideal.Read.val_main_v1, Cert.Reference20Ideal.Read.val_main_v0]

/-- The result array is the reference's: the plain product, as it is read at each index. -/
theorem result_eq (c : Dev nD) :
    (dats m 0 c).arrAt 2 cfg0.N = Cert.Reference20Ideal.Read.val_main_v3 (F := Ideal) (lhs m c) (rhs m c) := by
  funext i
  have e : (∑ k : Fin 1024, rd (lhs m c) (i 0).val k.val * rd (rhs m c) k.val (i 1).val)
      = ∑ k : Fin 1024, lhs m c (ix2 (i 0) k) * rhs m c (ix2 k (i 1)) :=
    Finset.sum_congr rfl fun k _ => congrArg₂ (· * ·) (rd_of_lt (lhs m c) (i 0).isLt k.isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel20Ideal_Reference20Ideal := by
  intro m g m' g' _ h
  refine ⟨fun c => (dats m 0 c).arrAt 2 cfg0.N, run_blocks m g, (θ_run _ _ _).mono (fun r hr c => ?_) (Cert.Reference20Ideal.Value.run m' g')⟩
  obtain ⟨h0, h1⟩ := h c
  obtain ⟨hv, ha⟩ := hr c
  refine ⟨?_, ha⟩
  rw [hv, h0, h1]
  exact (result_eq m c).symm

end Cert.Kernel20Ideal.Product

end
-- ==== Proof.Product21.lean ====
/-
  The state-space block's input product, the columns of the sequence: rows · weight.
  Each grid point takes one block of rows against one block of the weight's columns, the contracted axis whole: here the
  result array is shown to be the whole product.
-/
module

public import proofs.«01_k».proof.Proof.Gen.Kernel21Ideal.Value
public import proofs.«01_k».proof.Proof.Gen.Reference21Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel21Ideal.Product

open Cert.Kernel21Ideal Cert.Kernel21Ideal.Gen Cert.Kernel21Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1088x1024 .bf16) (x1 : Vec Ideal S1024x1024 .bf16) (a : Fin 1088) (b : Fin 1024) :
    (out0_2 (F := Ideal) x0 x1 (ix2 a b) : EReal) = ∑ k : Fin 1024, (x0 (ix2 a k) : EReal) * (x1 (ix2 k b) : EReal) := by
  have e : out0_2 (F := Ideal) x0 x1 = k0_pay1 (F := Ideal) x0 x1 := by
    unfold out0_2
    rw [View.canon_unit_zero origin]
    simp only [View.ld_unit_zero (S := S1088x1024) origin, View.ld_unit_zero (S := S1024x1024) origin]
  rw [e]
  pointwise [k0_pay1]

variable (m : (ℓ : Loc nD τ sig) → Buf (Elt Ideal) ℓ)

/-- The two arrays multiplied as the run finds them. -/
abbrev lhs (c : Dev nD) : S4352x1024.Idx → EReal := m ((c : Thread nD τ).loc main_arg0)
abbrev rhs (c : Dev nD) : S1024x4096.Idx → EReal := m ((c : Thread nD τ).loc main_arg1)

/-- Which blocks a grid point reads and writes. -/
theorem index0 : ∀ t : Fin cfg0.N, win0_0.index t (0 : Fin 2) = t.val / 4 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 4 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1088) (q : Fin 1024) :
    (iblk m c 0 t (ix2 p q) : EReal) = rd (lhs m c) (1088 * (t.val / 4) + p.val) (q.val) := by
  obtain ⟨e0, e1⟩ := index0 t
  unfold iblk
  rw [View.read_apply]
  refine eq_rd (lhs m c) _ ?_ ?_
  · show win0_0.index t (0 : Fin 2) * 1088 + 1 * p.val = _
    rw [e0]; omega
  · show win0_0.index t (1 : Fin 2) * 1024 + 1 * q.val = _
    rw [e1]; omega

theorem rhs_block (c : Dev nD) (t : Fin cfg0.N) (p : Fin 1024) (q : Fin 1024) :
    (iblk m c 1 t (ix2 p q) : EReal) = rd (rhs m c) (p.val) (1024 * (t.val % 4) + q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 1024 + 1 * q.val = _
    rw [e1]; omega

/-- The result array after the run, at every row and column. -/
theorem result_sum (c : Dev nD) (i : S4352x4096.Idx) :
    ((dats m 0 c).arrAt 2 cfg0.N i : EReal) = (∑ k : Fin 1024, rd (lhs m c) (i 0).val k.val * rd (rhs m c) k.val (i 1).val) := by
  have hi0 : (i 0).val < 4352 := (i 0).isLt
  have hi1 : (i 1).val < 4096 := (i 1).isLt
  have hN : 4 * ((i 0).val / 1088) + (i 1).val / 1024 < cfg0.N := lt_of_lt_of_eq (by omega) (show 16 = cfg0.N from N_0.symm)
  obtain ⟨t, ht⟩ : ∃ t : Fin cfg0.N, t.val = 4 * ((i 0).val / 1088) + (i 1).val / 1024 := ⟨⟨_, hN⟩, rfl⟩
  obtain ⟨e0, e1⟩ := index2 t
  let y : S1088x1024.Idx := ix2 ⟨(i 0).val % 1088, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1088 + 1 * ((i 0).val % 1088) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1088 := ⟨(i 0).val % 1088, Nat.mod_lt _ (by decide)⟩
  let q : Fin 1024 := ⟨(i 1).val % 1024, Nat.mod_lt _ (by decide)⟩
  have r0 : 1088 * (t.val / 4) + p.val = (i 0).val := by show 1088 * (t.val / 4) + (i 0).val % 1088 = _; omega
  have r1 : 1024 * (t.val % 4) + q.val = (i 1).val := by show 1024 * (t.val % 4) + (i 1).val % 1024 = _; omega
  let X : S1088x1024.Idx → EReal := iblk m c 0 t
  let Y : S1024x1024.Idx → EReal := iblk m c 1 t
  have hs : (∑ k : Fin 1024, X (ix2 p k) * Y (ix2 k q))
      = ∑ k : Fin 1024, rd (lhs m c) (i 0).val k.val * rd (rhs m c) k.val (i 1).val :=
    Finset.sum_congr rfl fun k _ => congrArg₂ (· * ·)
      ((lhs_block m c t p k).trans (congrArg (fun r => rd (lhs m c) r k.val) r0))
      ((rhs_block m c t k q).trans (congrArg (fun r => rd (rhs m c) k.val r) r1))
  exact (hb.trans (out_entry (iblk m c 0 t) (iblk m c 1 t) p q)).trans hs

/-- The reference's result at an index, as a sum over the contracted axis. -/
theorem ref_sum (x : S4352x1024.Idx → EReal) (y : S1024x4096.Idx → EReal) (i : S4352x4096.Idx) :
    (Cert.Reference21Ideal.Read.val_main_v2 (F := Ideal) x y i : EReal) = ∑ k : Fin 1024, x (ix2 (i 0) k) * y (ix2 k (i 1)) := by
  pointwise [Cert.Reference21Ideal.Read.val_main_v2, Cert.Reference21Ideal.Read.val_main_v1, Cert.Reference21Ideal.Read.val_main_v0]

/-- The result array is the reference's: the plain product, as it is read at each index. -/
theorem result_eq (c : Dev nD) :
    (dats m 0 c).arrAt 2 cfg0.N = Cert.Reference21Ideal.Read.val_main_v2 (F := Ideal) (lhs m c) (rhs m c) := by
  funext i
  have e : (∑ k : Fin 1024, rd (lhs m c) (i 0).val k.val * rd (rhs m c) k.val (i 1).val)
      = ∑ k : Fin 1024, lhs m c (ix2 (i 0) k) * rhs m c (ix2 k (i 1)) :=
    Finset.sum_congr rfl fun k _ => congrArg₂ (· * ·) (rd_of_lt (lhs m c) (i 0).isLt k.isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel21Ideal_Reference21Ideal := by
  intro m g m' g' _ h
  refine ⟨fun c => (dats m 0 c).arrAt 2 cfg0.N, run_blocks m g, (θ_run _ _ _).mono (fun r hr c => ?_) (Cert.Reference21Ideal.Value.run m' g')⟩
  obtain ⟨h0, h1⟩ := h c
  obtain ⟨hv, ha⟩ := hr c
  refine ⟨?_, ha⟩
  rw [hv, h0, h1]
  exact (result_eq m c).symm

end Cert.Kernel21Ideal.Product

end
-- ==== Proof.Product22.lean ====
/-
  The state-space block's input product, the columns of the steps: rows · weight.
  Each grid point takes one block of rows against one block of the weight's columns, the contracted axis whole: here the
  result array is shown to be the whole product.
-/
module

public import proofs.«01_k».proof.Proof.Gen.Kernel22Ideal.Value
public import proofs.«01_k».proof.Proof.Gen.Reference22Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel22Ideal.Product

open Cert.Kernel22Ideal Cert.Kernel22Ideal.Gen Cert.Kernel22Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1088x1024 .bf16) (x1 : Vec Ideal S1024x128 .bf16) (a : Fin 1088) (b : Fin 128) :
    (out0_2 (F := Ideal) x0 x1 (ix2 a b) : EReal) = ∑ k : Fin 1024, (x0 (ix2 a k) : EReal) * (x1 (ix2 k b) : EReal) := by
  have e : out0_2 (F := Ideal) x0 x1 = k0_pay1 (F := Ideal) x0 x1 := by
    unfold out0_2
    rw [View.canon_unit_zero origin]
    simp only [View.ld_unit_zero (S := S1088x1024) origin, View.ld_unit_zero (S := S1024x128) origin]
  rw [e]
  pointwise [k0_pay1]

variable (m : (ℓ : Loc nD τ sig) → Buf (Elt Ideal) ℓ)

/-- The two arrays multiplied as the run finds them. -/
abbrev lhs (c : Dev nD) : S4352x1024.Idx → EReal := m ((c : Thread nD τ).loc main_arg0)
abbrev rhs (c : Dev nD) : S1024x128.Idx → EReal := m ((c : Thread nD τ).loc main_arg1)

/-- Which blocks a grid point reads and writes. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1088) (q : Fin 1024) :
    (iblk m c 0 t (ix2 p q) : EReal) = rd (lhs m c) (1088 * (t.val) + p.val) (q.val) := by
  obtain ⟨e0, e1⟩ := index0 t
  unfold iblk
  rw [View.read_apply]
  refine eq_rd (lhs m c) _ ?_ ?_
  · show win0_0.index t (0 : Fin 2) * 1088 + 1 * p.val = _
    rw [e0]; omega
  · show win0_0.index t (1 : Fin 2) * 1024 + 1 * q.val = _
    rw [e1]; omega

theorem rhs_block (c : Dev nD) (t : Fin cfg0.N) (p : Fin 1024) (q : Fin 128) :
    (iblk m c 1 t (ix2 p q) : EReal) = rd (rhs m c) (p.val) (q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 128 + 1 * q.val = _
    rw [e1]; omega

/-- The result array after the run, at every row and column. -/
theorem result_sum (c : Dev nD) (i : S4352x128.Idx) :
    ((dats m 0 c).arrAt 2 cfg0.N i : EReal) = (∑ k : Fin 1024, rd (lhs m c) (i 0).val k.val * rd (rhs m c) k.val (i 1).val) := by
  have hi0 : (i 0).val < 4352 := (i 0).isLt
  have hi1 : (i 1).val < 128 := (i 1).isLt
  have hN : 1 * ((i 0).val / 1088) + (i 1).val / 128 < cfg0.N := lt_of_lt_of_eq (by omega) (show 4 = cfg0.N from N_0.symm)
  obtain ⟨t, ht⟩ : ∃ t : Fin cfg0.N, t.val = 1 * ((i 0).val / 1088) + (i 1).val / 128 := ⟨⟨_, hN⟩, rfl⟩
  obtain ⟨e0, e1⟩ := index2 t
  let y : S1088x128.Idx := ix2 ⟨(i 0).val % 1088, Nat.mod_lt _ (by decide)⟩ ⟨(i 1).val % 128, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1088 + 1 * ((i 0).val % 1088) = (i 0).val
      rw [e0]; omega
    | ⟨1, _⟩ =>
      refine Fin.ext ?_
      show win0_2.index t (1 : Fin 2) * 128 + 1 * ((i 1).val % 128) = (i 1).val
      rw [e1]; omega
  rw [hix] at hb
  let p : Fin 1088 := ⟨(i 0).val % 1088, Nat.mod_lt _ (by decide)⟩
  let q : Fin 128 := ⟨(i 1).val % 128, Nat.mod_lt _ (by decide)⟩
  have r0 : 1088 * (t.val) + p.val = (i 0).val := by show 1088 * (t.val) + (i 0).val % 1088 = _; omega
  have r1 : q.val = (i 1).val := by show (i 1).val % 128 = _; omega
  let X : S1088x1024.Idx → EReal := iblk m c 0 t
  let Y : S1024x128.Idx → EReal := iblk m c 1 t
  have hs : (∑ k : Fin 1024, X (ix2 p k) * Y (ix2 k q))
      = ∑ k : Fin 1024, rd (lhs m c) (i 0).val k.val * rd (rhs m c) k.val (i 1).val :=
    Finset.sum_congr rfl fun k _ => congrArg₂ (· * ·)
      ((lhs_block m c t p k).trans (congrArg (fun r => rd (lhs m c) r k.val) r0))
      ((rhs_block m c t k q).trans (congrArg (fun r => rd (rhs m c) k.val r) r1))
  exact (hb.trans (out_entry (iblk m c 0 t) (iblk m c 1 t) p q)).trans hs

/-- The reference's result at an index, as a sum over the contracted axis. -/
theorem ref_sum (x : S4352x1024.Idx → EReal) (y : S1024x128.Idx → EReal) (i : S4352x128.Idx) :
    (Cert.Reference22Ideal.Read.val_main_v2 (F := Ideal) x y i : EReal) = ∑ k : Fin 1024, x (ix2 (i 0) k) * y (ix2 k (i 1)) := by
  pointwise [Cert.Reference22Ideal.Read.val_main_v2, Cert.Reference22Ideal.Read.val_main_v1, Cert.Reference22Ideal.Read.val_main_v0]

/-- The result array is the reference's: the plain product, as it is read at each index. -/
theorem result_eq (c : Dev nD) :
    (dats m 0 c).arrAt 2 cfg0.N = Cert.Reference22Ideal.Read.val_main_v2 (F := Ideal) (lhs m c) (rhs m c) := by
  funext i
  have e : (∑ k : Fin 1024, rd (lhs m c) (i 0).val k.val * rd (rhs m c) k.val (i 1).val)
      = ∑ k : Fin 1024, lhs m c (ix2 (i 0) k) * rhs m c (ix2 k (i 1)) :=
    Finset.sum_congr rfl fun k _ => congrArg₂ (· * ·) (rd_of_lt (lhs m c) (i 0).isLt k.isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel22Ideal_Reference22Ideal := by
  intro m g m' g' _ h
  refine ⟨fun c => (dats m 0 c).arrAt 2 cfg0.N, run_blocks m g, (θ_run _ _ _).mono (fun r hr c => ?_) (Cert.Reference22Ideal.Value.run m' g')⟩
  obtain ⟨h0, h1⟩ := h c
  obtain ⟨hv, ha⟩ := hr c
  refine ⟨?_, ha⟩
  rw [hv, h0, h1]
  exact (result_eq m c).symm

end Cert.Kernel22Ideal.Product

end
-- ==== Proof.Product23.lean ====
/-
  The state-space block's output product: gated rows · weight.
  Each grid point takes one block of rows against one block of the weight's columns, the contracted axis whole: here the
  result array is shown to be the whole product.
-/
module

public import proofs.«01_k».proof.Proof.Gen.Kernel23Ideal.Value
public import proofs.«01_k».proof.Proof.Gen.Reference23Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel23Ideal.Product

open Cert.Kernel23Ideal Cert.Kernel23Ideal.Gen Cert.Kernel23Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1024x2048 .bf16) (x1 : Vec Ideal S2048x1024 .bf16) (a : Fin 1024) (b : Fin 1024) :
    (out0_2 (F := Ideal) x0 x1 (ix2 a b) : EReal) = ∑ k : Fin 2048, (x0 (ix2 a k) : EReal) * (x1 (ix2 k b) : EReal) := by
  have e : out0_2 (F := Ideal) x0 x1 = k0_pay1 (F := Ideal) x0 x1 := by
    unfold out0_2
    rw [View.canon_unit_zero origin]
    simp only [View.ld_unit_zero (S := S1024x2048) origin, View.ld_unit_zero (S := S2048x1024) origin]
  rw [e]
  pointwise [k0_pay1]

variable (m : (ℓ : Loc nD τ sig) → Buf (Elt Ideal) ℓ)

/-- The two arrays multiplied as the run finds them. -/
abbrev lhs (c : Dev nD) : S4096x2048.Idx → EReal := m ((c : Thread nD τ).loc main_arg0)
abbrev rhs (c : Dev nD) : S2048x1024.Idx → EReal := m ((c : Thread nD τ).loc main_arg1)

/-- Which blocks a grid point reads and writes. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1024) (q : Fin 2048) :
    (iblk m c 0 t (ix2 p q) : EReal) = rd (lhs m c) (1024 * (t.val) + p.val) (q.val) := by
  obtain ⟨e0, e1⟩ := index0 t
  unfold iblk
  rw [View.read_apply]
  refine eq_rd (lhs m c) _ ?_ ?_
  · show win0_0.index t (0 : Fin 2) * 1024 + 1 * p.val = _
    rw [e0]; omega
  · show win0_0.index t (1 : Fin 2) * 2048 + 1 * q.val = _
    rw [e1]; omega

theorem rhs_block (c : Dev nD) (t : Fin cfg0.N) (p : Fin 2048) (q : Fin 1024) :
    (iblk m c 1 t (ix2 p q) : EReal) = rd (rhs m c) (p.val) (q.val) := by
  obtain ⟨e0, e1⟩ := index1 t
  unfold iblk
  rw [View.read_apply]
  refine eq_rd (rhs m c) _ ?_ ?_
  · show win0_1.index t (0 : Fin 2) * 2048 + 1 * p.val = _
    rw [e0]; omega
  · show win0_1.index t (1 : Fin 2) * 1024 + 1 * q.val = _
    rw [e1]; omega

/-- The result array after the run, at every row and column. -/
theorem result_sum (c : Dev nD) (i : S4096x1024.Idx) :
    ((dats m 0 c).arrAt 2 cfg0.N i : EReal) = (∑ k : Fin 2048, rd (lhs m c) (i 0).val k.val * rd (rhs m c) k.val (i 1).val) := by
  have hi0 : (i 0).val < 4096 := (i 0).isLt
  have hi1 : (i 1).val < 1024 := (i 1).isLt
  have hN : 1 * ((i 0).val / 1024) + (i 1).val / 1024 < cfg0.N := lt_of_lt_of_eq (by omega) (show 4 = cfg0.N from N_0.symm)
  obtain ⟨t, ht⟩ : ∃ t : Fin cfg0.N, t.val = 1 * ((i 0).val / 1024) + (i 1).val / 1024 := ⟨⟨_, hN⟩, rfl⟩
  obtain ⟨e0, e1⟩ := index2 t
  let y : S1024x1024.Idx := ix2 ⟨(i 0).val % 1024, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1024 + 1 * ((i 0).val % 1024) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1024 := ⟨(i 0).val % 1024, Nat.mod_lt _ (by decide)⟩
  let q : Fin 1024 := ⟨(i 1).val % 1024, Nat.mod_lt _ (by decide)⟩
  have r0 : 1024 * (t.val) + p.val = (i 0).val := by show 1024 * (t.val) + (i 0).val % 1024 = _; omega
  have r1 : q.val = (i 1).val := by show (i 1).val % 1024 = _; omega
  let X : S1024x2048.Idx → EReal := iblk m c 0 t
  let Y : S2048x1024.Idx → EReal := iblk m c 1 t
  have hs : (∑ k : Fin 2048, X (ix2 p k) * Y (ix2 k q))
      = ∑ k : Fin 2048, rd (lhs m c) (i 0).val k.val * rd (rhs m c) k.val (i 1).val :=
    Finset.sum_congr rfl fun k _ => congrArg₂ (· * ·)
      ((lhs_block m c t p k).trans (congrArg (fun r => rd (lhs m c) r k.val) r0))
      ((rhs_block m c t k q).trans (congrArg (fun r => rd (rhs m c) k.val r) r1))
  exact (hb.trans (out_entry (iblk m c 0 t) (iblk m c 1 t) p q)).trans hs

/-- The reference's result at an index, as a sum over the contracted axis. -/
theorem ref_sum (x : S4096x2048.Idx → EReal) (y : S2048x1024.Idx → EReal) (i : S4096x1024.Idx) :
    (Cert.Reference23Ideal.Read.val_main_v2 (F := Ideal) x y i : EReal) = ∑ k : Fin 2048, x (ix2 (i 0) k) * y (ix2 k (i 1)) := by
  pointwise [Cert.Reference23Ideal.Read.val_main_v2, Cert.Reference23Ideal.Read.val_main_v1, Cert.Reference23Ideal.Read.val_main_v0]

/-- The result array is the reference's: the plain product, as it is read at each index. -/
theorem result_eq (c : Dev nD) :
    (dats m 0 c).arrAt 2 cfg0.N = Cert.Reference23Ideal.Read.val_main_v2 (F := Ideal) (lhs m c) (rhs m c) := by
  funext i
  have e : (∑ k : Fin 2048, rd (lhs m c) (i 0).val k.val * rd (rhs m c) k.val (i 1).val)
      = ∑ k : Fin 2048, lhs m c (ix2 (i 0) k) * rhs m c (ix2 k (i 1)) :=
    Finset.sum_congr rfl fun k _ => congrArg₂ (· * ·) (rd_of_lt (lhs m c) (i 0).isLt k.isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel23Ideal_Reference23Ideal := by
  intro m g m' g' _ h
  refine ⟨fun c => (dats m 0 c).arrAt 2 cfg0.N, run_blocks m g, (θ_run _ _ _).mono (fun r hr c => ?_) (Cert.Reference23Ideal.Value.run m' g')⟩
  obtain ⟨h0, h1⟩ := h c
  obtain ⟨hv, ha⟩ := hr c
  refine ⟨?_, ha⟩
  rw [hv, h0, h1]
  exact (result_eq m c).symm

end Cert.Kernel23Ideal.Product

end
-- ==== Proof.Product24.lean ====
/-
  The convolution block's first product: rows · weight.
  Each grid point takes one block of rows against one block of the weight's columns, the contracted axis whole: here the
  result array is shown to be the whole product.
-/
module

public import proofs.«01_k».proof.Proof.Gen.Kernel24Ideal.Value
public import proofs.«01_k».proof.Proof.Gen.Reference24Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel24Ideal.Product

open Cert.Kernel24Ideal Cert.Kernel24Ideal.Gen Cert.Kernel24Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1024x1024 .bf16) (x1 : Vec Ideal S1024x1024 .bf16) (a : Fin 1024) (b : Fin 1024) :
    (out0_2 (F := Ideal) x0 x1 (ix2 a b) : EReal) = ∑ k : Fin 1024, (x0 (ix2 a k) : EReal) * (x1 (ix2 k b) : EReal) := by
  have e : out0_2 (F := Ideal) x0 x1 = k0_pay1 (F := Ideal) x0 x1 := by
    unfold out0_2
    rw [View.canon_unit_zero origin]
    simp only [View.ld_unit_zero (S := S1024x1024) origin]
  rw [e]
  pointwise [k0_pay1]

variable (m : (ℓ : Loc nD τ sig) → Buf (Elt Ideal) ℓ)

/-- The two arrays multiplied as the run finds them. -/
abbrev lhs (c : Dev nD) : S4096x1024.Idx → EReal := m ((c : Thread nD τ).loc main_arg0)
abbrev rhs (c : Dev nD) : S1024x2048.Idx → EReal := m ((c : Thread nD τ).loc main_arg1)

/-- Which blocks a grid point reads and writes. -/
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 2 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1024) (q : Fin 1024) :
    (iblk m c 0 t (ix2 p q) : EReal) = rd (lhs m c) (1024 * (t.val / 2) + p.val) (q.val) := by
  obtain ⟨e0, e1⟩ := index0 t
  unfold iblk
  rw [View.read_apply]
  refine eq_rd (lhs m c) _ ?_ ?_
  · show win0_0.index t (0 : Fin 2) * 1024 + 1 * p.val = _
    rw [e0]; omega
  · show win0_0.index t (1 : Fin 2) * 1024 + 1 * q.val = _
    rw [e1]; omega

theorem rhs_block (c : Dev nD) (t : Fin cfg0.N) (p : Fin 1024) (q : Fin 1024) :
    (iblk m c 1 t (ix2 p q) : EReal) = rd (rhs m c) (p.val) (1024 * (t.val % 2) + q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 1024 + 1 * q.val = _
    rw [e1]; omega

/-- The result array after the run, at every row and column. -/
theorem result_sum (c : Dev nD) (i : S4096x2048.Idx) :
    ((dats m 0 c).arrAt 2 cfg0.N i : EReal) = (∑ k : Fin 1024, rd (lhs m c) (i 0).val k.val * rd (rhs m c) k.val (i 1).val) := by
  have hi0 : (i 0).val < 4096 := (i 0).isLt
  have hi1 : (i 1).val < 2048 := (i 1).isLt
  have hN : 2 * ((i 0).val / 1024) + (i 1).val / 1024 < cfg0.N := lt_of_lt_of_eq (by omega) (show 8 = cfg0.N from N_0.symm)
  obtain ⟨t, ht⟩ : ∃ t : Fin cfg0.N, t.val = 2 * ((i 0).val / 1024) + (i 1).val / 1024 := ⟨⟨_, hN⟩, rfl⟩
  obtain ⟨e0, e1⟩ := index2 t
  let y : S1024x1024.Idx := ix2 ⟨(i 0).val % 1024, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1024 + 1 * ((i 0).val % 1024) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1024 := ⟨(i 0).val % 1024, Nat.mod_lt _ (by decide)⟩
  let q : Fin 1024 := ⟨(i 1).val % 1024, Nat.mod_lt _ (by decide)⟩
  have r0 : 1024 * (t.val / 2) + p.val = (i 0).val := by show 1024 * (t.val / 2) + (i 0).val % 1024 = _; omega
  have r1 : 1024 * (t.val % 2) + q.val = (i 1).val := by show 1024 * (t.val % 2) + (i 1).val % 1024 = _; omega
  let X : S1024x1024.Idx → EReal := iblk m c 0 t
  let Y : S1024x1024.Idx → EReal := iblk m c 1 t
  have hs : (∑ k : Fin 1024, X (ix2 p k) * Y (ix2 k q))
      = ∑ k : Fin 1024, rd (lhs m c) (i 0).val k.val * rd (rhs m c) k.val (i 1).val :=
    Finset.sum_congr rfl fun k _ => congrArg₂ (· * ·)
      ((lhs_block m c t p k).trans (congrArg (fun r => rd (lhs m c) r k.val) r0))
      ((rhs_block m c t k q).trans (congrArg (fun r => rd (rhs m c) k.val r) r1))
  exact (hb.trans (out_entry (iblk m c 0 t) (iblk m c 1 t) p q)).trans hs

/-- The reference's result at an index, as a sum over the contracted axis. -/
theorem ref_sum (x : S4096x1024.Idx → EReal) (y : S1024x2048.Idx → EReal) (i : S4096x2048.Idx) :
    (Cert.Reference24Ideal.Read.val_main_v3 (F := Ideal) x y i : EReal) = ∑ k : Fin 1024, x (ix2 (i 0) k) * y (ix2 k (i 1)) := by
  pointwise [Cert.Reference24Ideal.Read.val_main_v3, Cert.Reference24Ideal.Read.val_main_v2, Cert.Reference24Ideal.Read.val_main_v1, Cert.Reference24Ideal.Read.val_main_v0]

/-- The result array is the reference's: the plain product, as it is read at each index. -/
theorem result_eq (c : Dev nD) :
    (dats m 0 c).arrAt 2 cfg0.N = Cert.Reference24Ideal.Read.val_main_v3 (F := Ideal) (lhs m c) (rhs m c) := by
  funext i
  have e : (∑ k : Fin 1024, rd (lhs m c) (i 0).val k.val * rd (rhs m c) k.val (i 1).val)
      = ∑ k : Fin 1024, lhs m c (ix2 (i 0) k) * rhs m c (ix2 k (i 1)) :=
    Finset.sum_congr rfl fun k _ => congrArg₂ (· * ·) (rd_of_lt (lhs m c) (i 0).isLt k.isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel24Ideal_Reference24Ideal := by
  intro m g m' g' _ h
  refine ⟨fun c => (dats m 0 c).arrAt 2 cfg0.N, run_blocks m g, (θ_run _ _ _).mono (fun r hr c => ?_) (Cert.Reference24Ideal.Value.run m' g')⟩
  obtain ⟨h0, h1⟩ := h c
  obtain ⟨hv, ha⟩ := hr c
  refine ⟨?_, ha⟩
  rw [hv, h0, h1]
  exact (result_eq m c).symm

end Cert.Kernel24Ideal.Product

end
-- ==== Proof.Product25.lean ====
/-
  The convolution block's second product: rows · weight.
  Each grid point takes one block of rows against one block of the weight's columns, the contracted axis whole: here the
  result array is shown to be the whole product.
-/
module

public import proofs.«01_k».proof.Proof.Gen.Kernel25Ideal.Value
public import proofs.«01_k».proof.Proof.Gen.Reference25Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel25Ideal.Product

open Cert.Kernel25Ideal Cert.Kernel25Ideal.Gen Cert.Kernel25Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1024x1024 .bf16) (x1 : Vec Ideal S1024x1024 .bf16) (a : Fin 1024) (b : Fin 1024) :
    (out0_2 (F := Ideal) x0 x1 (ix2 a b) : EReal) = ∑ k : Fin 1024, (x0 (ix2 a k) : EReal) * (x1 (ix2 k b) : EReal) := by
  have e : out0_2 (F := Ideal) x0 x1 = k0_pay1 (F := Ideal) x0 x1 := by
    unfold out0_2
    rw [View.canon_unit_zero origin]
    simp only [View.ld_unit_zero (S := S1024x1024) origin]
  rw [e]
  pointwise [k0_pay1]

variable (m : (ℓ : Loc nD τ sig) → Buf (Elt Ideal) ℓ)

/-- The two arrays multiplied as the run finds them. -/
abbrev lhs (c : Dev nD) : S4096x1024.Idx → EReal := m ((c : Thread nD τ).loc main_arg0)
abbrev rhs (c : Dev nD) : S1024x1024.Idx → EReal := m ((c : Thread nD τ).loc main_arg1)

/-- Which blocks a grid point reads and writes. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1024) (q : Fin 1024) :
    (iblk m c 0 t (ix2 p q) : EReal) = rd (lhs m c) (1024 * (t.val) + p.val) (q.val) := by
  obtain ⟨e0, e1⟩ := index0 t
  unfold iblk
  rw [View.read_apply]
  refine eq_rd (lhs m c) _ ?_ ?_
  · show win0_0.index t (0 : Fin 2) * 1024 + 1 * p.val = _
    rw [e0]; omega
  · show win0_0.index t (1 : Fin 2) * 1024 + 1 * q.val = _
    rw [e1]; omega

theorem rhs_block (c : Dev nD) (t : Fin cfg0.N) (p : Fin 1024) (q : Fin 1024) :
    (iblk m c 1 t (ix2 p q) : EReal) = rd (rhs m c) (p.val) (q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 1024 + 1 * q.val = _
    rw [e1]; omega

/-- The result array after the run, at every row and column. -/
theorem result_sum (c : Dev nD) (i : S4096x1024.Idx) :
    ((dats m 0 c).arrAt 2 cfg0.N i : EReal) = (∑ k : Fin 1024, rd (lhs m c) (i 0).val k.val * rd (rhs m c) k.val (i 1).val) := by
  have hi0 : (i 0).val < 4096 := (i 0).isLt
  have hi1 : (i 1).val < 1024 := (i 1).isLt
  have hN : 1 * ((i 0).val / 1024) + (i 1).val / 1024 < cfg0.N := lt_of_lt_of_eq (by omega) (show 4 = cfg0.N from N_0.symm)
  obtain ⟨t, ht⟩ : ∃ t : Fin cfg0.N, t.val = 1 * ((i 0).val / 1024) + (i 1).val / 1024 := ⟨⟨_, hN⟩, rfl⟩
  obtain ⟨e0, e1⟩ := index2 t
  let y : S1024x1024.Idx := ix2 ⟨(i 0).val % 1024, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1024 + 1 * ((i 0).val % 1024) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1024 := ⟨(i 0).val % 1024, Nat.mod_lt _ (by decide)⟩
  let q : Fin 1024 := ⟨(i 1).val % 1024, Nat.mod_lt _ (by decide)⟩
  have r0 : 1024 * (t.val) + p.val = (i 0).val := by show 1024 * (t.val) + (i 0).val % 1024 = _; omega
  have r1 : q.val = (i 1).val := by show (i 1).val % 1024 = _; omega
  let X : S1024x1024.Idx → EReal := iblk m c 0 t
  let Y : S1024x1024.Idx → EReal := iblk m c 1 t
  have hs : (∑ k : Fin 1024, X (ix2 p k) * Y (ix2 k q))
      = ∑ k : Fin 1024, rd (lhs m c) (i 0).val k.val * rd (rhs m c) k.val (i 1).val :=
    Finset.sum_congr rfl fun k _ => congrArg₂ (· * ·)
      ((lhs_block m c t p k).trans (congrArg (fun r => rd (lhs m c) r k.val) r0))
      ((rhs_block m c t k q).trans (congrArg (fun r => rd (rhs m c) k.val r) r1))
  exact (hb.trans (out_entry (iblk m c 0 t) (iblk m c 1 t) p q)).trans hs

/-- The reference's result at an index, as a sum over the contracted axis. -/
theorem ref_sum (x : S4096x1024.Idx → EReal) (y : S1024x1024.Idx → EReal) (i : S4096x1024.Idx) :
    (Cert.Reference25Ideal.Read.val_main_v2 (F := Ideal) x y i : EReal) = ∑ k : Fin 1024, x (ix2 (i 0) k) * y (ix2 k (i 1)) := by
  pointwise [Cert.Reference25Ideal.Read.val_main_v2, Cert.Reference25Ideal.Read.val_main_v1, Cert.Reference25Ideal.Read.val_main_v0]

/-- The result array is the reference's: the plain product, as it is read at each index. -/
theorem result_eq (c : Dev nD) :
    (dats m 0 c).arrAt 2 cfg0.N = Cert.Reference25Ideal.Read.val_main_v2 (F := Ideal) (lhs m c) (rhs m c) := by
  funext i
  have e : (∑ k : Fin 1024, rd (lhs m c) (i 0).val k.val * rd (rhs m c) k.val (i 1).val)
      = ∑ k : Fin 1024, lhs m c (ix2 (i 0) k) * rhs m c (ix2 k (i 1)) :=
    Finset.sum_congr rfl fun k _ => congrArg₂ (· * ·) (rd_of_lt (lhs m c) (i 0).isLt k.isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel25Ideal_Reference25Ideal := by
  intro m g m' g' _ h
  refine ⟨fun c => (dats m 0 c).arrAt 2 cfg0.N, run_blocks m g, (θ_run _ _ _).mono (fun r hr c => ?_) (Cert.Reference25Ideal.Value.run m' g')⟩
  obtain ⟨h0, h1⟩ := h c
  obtain ⟨hv, ha⟩ := hr c
  refine ⟨?_, ha⟩
  rw [hv, h0, h1]
  exact (result_eq m c).symm

end Cert.Kernel25Ideal.Product

end
-- ==== Proof.Product3.lean ====
/-
  The gradient of the input of the gated feed-forward block's first product: cotangent · weightᵀ.
  The kernel accumulates the product chunk by chunk along the contracted axis, in a scratch array that it resets at the
  first chunk and copies to the result's block at the last: here the result array is shown to be the whole sum.
-/
module

public import proofs.«01_k».proof.Proof.Gen.Kernel3Ideal.Value
public import proofs.«01_k».proof.Proof.Gen.Reference3Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel3Ideal.Product

open Cert.Kernel3Ideal Cert.Kernel3Ideal.Gen Cert.Kernel3Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S1024x1408 .bf16) (h3 : a3.IsWhole)
    (a4 : Memref sig .tc .vmem S1024x1408 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i) (x0 : Vec F S1024x1408 .bf16) (x1 : Vec F S1024x1408 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S1024x1408) origin,
    View.ld_unit_zero (S := S1024x1408) origin]

/-- At a middle chunk the body adds the chunk's product to what the scratch array held. -/
theorem scratch_B (c : Dev nD) (i : grid0.Coords) (a3 : Memref sig .tc .vmem S1024x1408 .bf16) (h3 : a3.IsWhole)
    (a4 : Memref sig .tc .vmem S1024x1408 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : ¬cond0_2 i) (x0 : Vec F S1024x1408 .bf16) (x1 : Vec F S1024x1408 .bf16)
    (acc : Vec F S1024x1024 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S1024x1408) origin,
    View.ld_unit_zero (S := S1024x1408) origin, View.ld_unit_zero (S := S1024x1024) origin]

/-- At a last chunk the body adds the chunk's product to what the scratch array held. -/
theorem scratch_C (c : Dev nD) (i : grid0.Coords) (a3 : Memref sig .tc .vmem S1024x1408 .bf16) (h3 : a3.IsWhole)
    (a4 : Memref sig .tc .vmem S1024x1408 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S1024x1408 .bf16) (x1 : Vec F S1024x1408 .bf16)
    (acc : Vec F S1024x1024 .f32) :
    sout0_C_0 c i a3 h3 a4 h4 a5 h5 a6 h6 hc0 hc1 hc2 x0 x1 acc = k0_pay3 x0 x1 acc := by
  unfold sout0_C_0
  rw [View.read_writes_eq_canon _ _ _ (scover0_C_0 c i a3 h3 a4 h4 a5 h5 a6 h6 hc0 hc1 hc2 x0 x1 acc)]
  unfold kernelRun0_C
  dsimp only
  sl_unfold_words
  rw [View.canon_unit_zero origin]
  simp only [View.readAt_eq_ld, h3.read_unread, h4.read_unread, h6.read_unread, View.ld_unit_zero (S := S1024x1408) origin,
    View.ld_unit_zero (S := S1024x1408) origin, View.ld_unit_zero (S := S1024x1024) origin]

/-- At a last chunk the body copies the scratch array, as it leaves it, to the result's block. -/
theorem result_last (c : Dev nD) (i : grid0.Coords) (a3 : Memref sig .tc .vmem S1024x1408 .bf16) (h3 : a3.IsWhole)
    (a4 : Memref sig .tc .vmem S1024x1408 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S1024x1408 .bf16) (x1 : Vec F S1024x1408 .bf16)
    (acc : Vec F S1024x1024 .f32) :
    out0_C_2 c i a3 h3 a4 h4 a5 h5 a6 h6 hc0 hc1 hc2 x0 x1 acc = k0_pay3 x0 x1 acc := by
  unfold out0_C_2
  rw [View.read_writes_eq_canon _ _ _ (cover0_C_2 c i a3 h3 a4 h4 a5 h5 a6 h6 hc0 hc1 hc2 x0 x1 acc)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1408) origin,
    View.ld_unit_zero (S := S1024x1408) origin, View.ld_unit_zero (S := S1024x1024) origin]

end Stores

/-! ## Over the extended reals -/

variable (m : (ℓ : Loc nD τ sig) → Buf (Elt Ideal) ℓ)

/-- The two arrays multiplied, as the run finds them. -/
abbrev lhs (c : Dev nD) : S4096x5632.Idx → EReal := m ((c : Thread nD τ).loc main_arg0)
abbrev rhs (c : Dev nD) : S1024x5632.Idx → EReal := m ((c : Thread nD τ).loc main_arg1)

/-- The product's term at position `k` of the contracted axis, for row `I` and column `J` of the result. -/
abbrev term (c : Dev nD) (I J k : ℕ) : EReal := rd (lhs m c) I k * rd (rhs m c) J k

/-- The body's product of two blocks is the sum over the chunk. -/
theorem block_product (x0 : Vec Ideal S1024x1408 .bf16) (x1 : Vec Ideal S1024x1408 .bf16) (a : Fin 1024) (b : Fin 1024) :
    k0_pay2 (F := Ideal) x0 x1 (ix2 a b) = ∑ k : Fin 1408, (x0 (ix2 a k) : EReal) * (x1 (ix2 b k) : EReal) := by
  pointwise [k0_pay2, k0_pay1]

/-- … and the accumulated one adds it to what was there. -/
theorem block_add (x0 : Vec Ideal S1024x1408 .bf16) (x1 : Vec Ideal S1024x1408 .bf16) (acc : Vec Ideal S1024x1024 .f32) (a : Fin 1024) (b : Fin 1024) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val / 4 ∧ win0_0.index t (1 : Fin 2) = t.val % 4 :=
  (by decide +kernel : ∀ t : Fin grid0.N, _)
theorem rhs_index : ∀ t : Fin cfg0.N, win0_1.index t (0 : Fin 2) = t.val / 4 % 1 ∧ win0_1.index t (1 : Fin 2) = t.val % 4 :=
  (by decide +kernel : ∀ t : Fin grid0.N, _)

/-- The operand blocks at a grid point, entry by entry. -/
theorem lhs_block (c : Dev nD) (t : Fin cfg0.N) (p : Fin 1024) (q : Fin 1408) :
    (iblk m c 0 t (ix2 p q) : EReal) = rd (lhs m c) (1024 * (t.val / 4) + p.val) (1408 * (t.val % 4) + q.val) := by
  obtain ⟨e0, e1⟩ := lhs_index t
  unfold iblk
  rw [View.read_apply]
  refine eq_rd (lhs m c) _ ?_ ?_
  · show win0_0.index t (0 : Fin 2) * 1024 + 1 * p.val = _
    rw [e0, Nat.one_mul, Nat.mul_comm]
  · show win0_0.index t (1 : Fin 2) * 1408 + 1 * q.val = _
    rw [e1, Nat.one_mul, Nat.mul_comm]
theorem rhs_block (c : Dev nD) (t : Fin cfg0.N) (p : Fin 1024) (q : Fin 1408) :
    (iblk m c 1 t (ix2 p q) : EReal) = rd (rhs m c) (1024 * (t.val / 4 % 1) + p.val) (1408 * (t.val % 4) + q.val) := by
  obtain ⟨e0, e1⟩ := rhs_index t
  unfold iblk
  rw [View.read_apply]
  refine eq_rd (rhs m c) _ ?_ ?_
  · show win0_1.index t (0 : Fin 2) * 1024 + 1 * p.val = _
    rw [e0, Nat.one_mul, Nat.mul_comm]
  · show win0_1.index t (1 : Fin 2) * 1408 + 1 * q.val = _
    rw [e1, Nat.one_mul, Nat.mul_comm]

/-- The product of the blocks at grid point `t` is the chunk of the whole product's sum. -/
theorem chunk_at (c : Dev nD) (t : Fin cfg0.N) (a : Fin 1024) (b : Fin 1024) :
    k0_pay2 (F := Ideal) (iblk m c 0 t) (iblk m c 1 t) (ix2 a b)
      = ∑ k : Fin 1408, term m c (1024 * (t.val / 4) + a.val) (1024 * (t.val / 4 % 1) + b.val) (1408 * (t.val % 4) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 1024) : ∀ (n : ℕ) (h : n < cfg0.N),
    ((outsAt0 m c n h).2 (ix2 a b) : EReal)
      = ∑ k ∈ range (1408 * (n % 4 + 1)), term m c (1024 * (n / 4) + a.val) (1024 * (n / 4 % 1) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 1408 _
  | succ n ih =>
    intro h
    have hN : n + 1 < 16 := lt_of_lt_of_eq h (show cfg0.N = 16 from N_0)
    by_cases h0 : (n + 1) % 4 = 0
    · rw [outsAt0_A m c ⟨n + 1, h⟩ h0 (by dsimp only; omega) (by dsimp only; omega)]
      dsimp only
      rw [scratch_first, chunk_at m c ⟨n + 1, h⟩]
      dsimp only
      rw [h0]
      exact chunk_first 1408 _
    · have e1 : (n + 1) % 4 = n % 4 + 1 := by omega
      have e2 : (n + 1) / 4 = n / 4 := by omega
      have e3 : (n + 1) / 4 % 1 = n / 4 % 1 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        by_cases h2 : (n + 1) % 4 = 3
        · rw [outsAt0_C m c ⟨n + 1, h⟩ h0 (by dsimp only; omega) h2]
          dsimp only
          rw [scratch_C]
          exact block_add _ _ _ a b
        · rw [outsAt0_B m c ⟨n + 1, h⟩ h0 (by dsimp only; omega) h2]
          dsimp only
          rw [scratch_B]
          exact block_add _ _ _ a b
      rw [e, ih, chunk_at m c ⟨n + 1, h⟩]
      dsimp only
      rw [e1, e3, e2]
      exact chunk_next 1408 _ _

/-- At a last chunk the result's block is what the scratch array holds. -/
theorem result_eq_scratch (c : Dev nD) (n : ℕ) (h : n < cfg0.N) (h2 : n % 4 = 3) (a : Fin 1024) (b : Fin 1024) :
    ((outsAt0 m c n h).1 (ix2 a b) : EReal) = ((outsAt0 m c n h).2 (ix2 a b) : EReal) := by
  rw [outsAt0_C m c ⟨n, h⟩ (by dsimp only; omega) (by dsimp only; omega) h2]
  dsimp only
  rw [result_last, scratch_C]

/-- The reference's result at an index, as a sum over the contracted axis. -/
theorem ref_sum (x : S4096x5632.Idx → EReal) (y : S1024x5632.Idx → EReal) (i : S4096x1024.Idx) :
    (Cert.Reference3Ideal.Read.val_main_v4 (F := Ideal) x y i : EReal)
      = ∑ k : Fin 5632, x (ix2 (i 0) k) * y (ix2 (i 1) k) := by
  pointwise [Cert.Reference3Ideal.Read.val_main_v4, Cert.Reference3Ideal.Read.val_main_v1, Cert.Reference3Ideal.Read.val_main_v0]

/-- The result array after the run: the product's whole sum at every row and column. -/
theorem result_sum (c : Dev nD) (i : S4096x1024.Idx) :
    (G2 m c i : EReal) = ∑ k ∈ range 5632, term m c (i 0).val (i 1).val k := by
  have hi0 : (i 0).val < 4096 := (i 0).isLt
  have hi1 : (i 1).val < 1024 := (i 1).isLt
  have hv : pt2Of i = 4 * (1 * ((i 0).val / 1024) + (i 1).val / 1024) + 3 := by
    show 4 * (1 * ((i 0).val / 1024 - 0) + 1 * ((i 1).val / 1024 - 0)) + 3 = _
    omega
  have hp : pt2Of i < cfg0.N := lt_of_lt_of_eq (by rw [hv]; omega) (show 16 = cfg0.N from N_0.symm)
  have hl : loc2Of i = ix2 ⟨(i 0).val % 1024, Nat.mod_lt _ (by decide)⟩ ⟨(i 1).val % 1024, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 4) + (i 0).val % 1024 = (i 0).val := by rw [hv]; omega
  have e1 : 1024 * (pt2Of i / 4 % 1) + (i 1).val % 1024 = (i 1).val := by rw [hv]; omega
  have e2 : 1408 * (pt2Of i % 4 + 1) = 5632 := by rw [hv]; omega
  dsimp only
  rw [e0, e1, e2]

/-- The result array is the reference's: the derivative of the plain product, as it is read at each index. -/
theorem result_eq (c : Dev nD) :
    G2 m c = Cert.Reference3Ideal.Read.val_main_v4 (F := Ideal) (lhs m c) (rhs m c) := by
  funext i
  have e : ∑ k ∈ range 5632, term m c (i 0).val (i 1).val k
      = ∑ k : Fin 5632, lhs m c (ix2 (i 0) k) * rhs m c (ix2 (i 1) k) := by
    rw [← sum_fin]
    exact Finset.sum_congr rfl fun k _ => congrArg₂ (· * ·) (rd_of_lt (lhs m c) (i 0).isLt k.isLt) (rd_of_lt (rhs m c) (i 1).isLt k.isLt)
  exact (result_sum m c i).trans (e.trans (ref_sum (lhs m c) (rhs m c) i).symm)

/-- The claim: from the same arguments the kernel and the reference end with the same result array. -/
theorem algebraic : Cert.algebraic_Kernel3Ideal_Reference3Ideal := by
  intro m g m' g' _ h
  refine ⟨fun c => G2 m c, run m g, (θ_run _ _ _).mono (fun r hr c => ?_) (Cert.Reference3Ideal.Value.run m' g')⟩
  obtain ⟨h0, h1⟩ := h c
  obtain ⟨hv, ha⟩ := hr c
  refine ⟨?_, ha⟩
  rw [hv, h0, h1]
  exact (result_eq m c).symm

end Cert.Kernel3Ideal.Product

end
-- ==== Proof.Product33.lean ====
module

public import proofs.«01_k».proof.Proof.Gen.Kernel33Ideal.Value
public import proofs.«01_k».proof.Proof.Gen.Reference33Ideal.Read
public import proofs.«01_k».proof.Defs
public import Idealize.ShloMosaic.Lib.Pointwise
public import Idealize.ShloMosaic.Lib.Tactic

/-!
# The gradient of the modulation's weight, first layer

Each of the two grid points multiplies the conditioning rows, transposed, by 768 columns of the modulation's gradient. The
result is the derivative of the plain product with respect to its weight.
-/

@[expose] public section

set_option maxRecDepth 16384

noncomputable section

namespace Cert.Kernel33Ideal.Product

open Cert.Kernel33Ideal Cert.Kernel33Ideal.Gen Cert.Kernel33Ideal.Value
open Idealize.ShloMosaic Idealize.ShloMosaic.TcCoe Idealize.SL.Sem Finset

theorem origin : (![(0 : ℕ), 0] : Fin 2 → ℕ) = fun _ => 0 := funext fun i => match i with | ⟨0, _⟩ => rfl | ⟨1, _⟩ => rfl

/-- What the body leaves in the result's block. -/
theorem block_entry (x : Vec Ideal S16x1024 .f32) (y : Vec Ideal S16x768 .f32) (p : Fin 1024) (q : Fin 768) :
    (out0_2 (F := Ideal) x y (ix2 p q) : EReal) = ∑ k : Fin 16, x (ix2 k p) * y (ix2 k q) := by
  simp only [out0_2, View.canon_unit_zero (S := S1024x768) origin, View.ld_unit_zero (S := S16x1024) origin,
    View.ld_unit_zero (S := S16x768) origin]
  pointwise [k0_pay1]

variable (m : (ℓ : Loc nD τ sig) → Buf (Elt Ideal) ℓ) (c : Dev nD)

/-- The arguments, as the run finds them. -/
abbrev cond : S16x1024.Idx → EReal := m ((c : Thread nD τ).loc main_arg0)
abbrev grad : S16x1536.Idx → EReal := m ((c : Thread nD τ).loc main_arg1)

/-- Which blocks a grid point reads and writes. -/
theorem index : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)
theorem flush : ∀ t : Fin cfg0.N, (cfg0.win 2).flush t = true := (by decide +kernel : ∀ t : Fin grid0.N, win0_2.flush t = true)

theorem left (t : Fin cfg0.N) (k : Fin 16) (p : Fin 1024) : iblk m c 0 t (ix2 k p) = cond m c (ix2 k p) := by
  obtain ⟨e0, e1, -⟩ := index t
  refine congrArg (cond m c) (funext fun x => ?_)
  match x with
  | ⟨0, _⟩ =>
    refine Fin.ext ?_
    show win0_0.index t (0 : Fin 2) * 16 + 1 * k.val = k.val
    rw [e0]; omega
  | ⟨1, _⟩ =>
    refine Fin.ext ?_
    show win0_0.index t (1 : Fin 2) * 1024 + 1 * p.val = p.val
    rw [e1]; omega

theorem right (t : Fin cfg0.N) (k : Fin 16) (q : Fin 768) (s : Fin 1536) (h : 768 * t.val + q.val = s.val) :
    iblk m c 1 t (ix2 k q) = grad m c (ix2 k s) := by
  obtain ⟨-, -, e0, e1, -⟩ := index t
  refine congrArg (grad m c) (funext fun x => ?_)
  match x with
  | ⟨0, _⟩ =>
    refine Fin.ext ?_
    show win0_1.index t (0 : Fin 2) * 16 + 1 * k.val = k.val
    rw [e0]; omega
  | ⟨1, _⟩ =>
    refine Fin.ext ?_
    show win0_1.index t (1 : Fin 2) * 768 + 1 * q.val = s.val
    rw [e1]; omega

/-- The result array after the run. -/
theorem result (p : Fin 1024) (s : Fin 1536) : ((dats m 0 c).arrAt 2 cfg0.N (ix2 p s) : EReal)
    = ∑ k : Fin 16, cond m c (ix2 k p) * grad m c (ix2 k s) := by
  have hs := s.isLt
  have hN : s.val / 768 < cfg0.N := lt_of_lt_of_eq (by omega : s.val / 768 < 2) N_0.symm
  obtain ⟨t, ht⟩ : ∃ t : Fin cfg0.N, t.val = s.val / 768 := ⟨⟨_, hN⟩, rfl⟩
  let q : Fin 768 := ⟨s.val % 768, Nat.mod_lt _ (by decide)⟩
  have hq : 768 * t.val + q.val = s.val := by show 768 * t.val + s.val % 768 = _; omega
  obtain ⟨-, -, -, -, e0, e1⟩ := index t
  have hb := congrFun ((blocks2 m c t (flush t)).trans (flushed2 m c t)) (ix2 p q)
  rw [View.read_apply] at hb
  have hix : ((cfg0.win 2).blk t).view.emb (ix2 p q) = ix2 p s := by
    funext x
    match x with
    | ⟨0, _⟩ =>
      refine Fin.ext ?_
      show win0_2.index t (0 : Fin 2) * 1024 + 1 * p.val = p.val
      rw [e0]; omega
    | ⟨1, _⟩ =>
      refine Fin.ext ?_
      show win0_2.index t (1 : Fin 2) * 768 + 1 * q.val = s.val
      rw [e1]; omega
  rw [hix] at hb
  let X : S16x1024.Idx → EReal := iblk m c 0 t
  let Y : S16x768.Idx → EReal := iblk m c 1 t
  have hx : (∑ k : Fin 16, X (ix2 k p) * Y (ix2 k q)) = ∑ k : Fin 16, cond m c (ix2 k p) * grad m c (ix2 k s) :=
    Finset.sum_congr rfl fun k _ => congrArg₂ (· * ·) (left m c t k p) (right m c t k q s hq)
  exact (hb.trans (block_entry X Y p q)).trans hx

/-- The reference's result at an index. -/
theorem ref_entry (x : S16x1024.Idx → EReal) (y : S16x1536.Idx → EReal) (p : Fin 1024) (s : Fin 1536) :
    (Cert.Reference33Ideal.Read.val_main_v3 (F := Ideal) x y (ix2 p s) : EReal) = ∑ k : Fin 16, x (ix2 k p) * y (ix2 k s) := by
  pointwise [Cert.Reference33Ideal.Read.val_main_v3, Cert.Reference33Ideal.Read.val_main_v2]
  exact Finset.sum_congr rfl fun k _ => mul_comm (y (ix2 k s)) (x (ix2 k p))

/-- The claim: from the same arguments the kernel and the reference end with the same result array. -/
theorem algebraic : Cert.algebraic_Kernel33Ideal_Reference33Ideal := by
  intro m g m' g' _ h
  refine ⟨fun c => (dats m 0 c).arrAt 2 cfg0.N, run_blocks m g,
    (θ_run _ _ _).mono (fun r hr c => ?_) (Cert.Reference33Ideal.Value.run m' g')⟩
  obtain ⟨h0, h1⟩ := h c
  obtain ⟨hv, ha⟩ := hr c
  refine ⟨?_, ha⟩
  rw [hv, h0, h1]
  refine funext fun i => ?_
  rw [eq_ix2 i]
  exact (ref_entry _ _ _ _).trans (result m c (i 0) (i 1)).symm

end Cert.Kernel33Ideal.Product

end
-- ==== Proof.Product34.lean ====
module

public import proofs.«01_k».proof.Proof.Gen.Kernel34Ideal.Value
public import proofs.«01_k».proof.Proof.Gen.Reference34Ideal.Read
public import proofs.«01_k».proof.Defs
public import Idealize.ShloMosaic.Lib.Pointwise
public import Idealize.ShloMosaic.Lib.Tactic

/-!
# The gradient of the modulation's weight, second layer

Each of the two grid points multiplies the conditioning rows, transposed, by 768 columns of the modulation's gradient. The
result is the derivative of the plain product with respect to its weight.
-/

@[expose] public section

set_option maxRecDepth 16384

noncomputable section

namespace Cert.Kernel34Ideal.Product

open Cert.Kernel34Ideal Cert.Kernel34Ideal.Gen Cert.Kernel34Ideal.Value
open Idealize.ShloMosaic Idealize.ShloMosaic.TcCoe Idealize.SL.Sem Finset

theorem origin : (![(0 : ℕ), 0] : Fin 2 → ℕ) = fun _ => 0 := funext fun i => match i with | ⟨0, _⟩ => rfl | ⟨1, _⟩ => rfl

/-- What the body leaves in the result's block. -/
theorem block_entry (x : Vec Ideal S16x1024 .f32) (y : Vec Ideal S16x768 .f32) (p : Fin 1024) (q : Fin 768) :
    (out0_2 (F := Ideal) x y (ix2 p q) : EReal) = ∑ k : Fin 16, x (ix2 k p) * y (ix2 k q) := by
  simp only [out0_2, View.canon_unit_zero (S := S1024x768) origin, View.ld_unit_zero (S := S16x1024) origin,
    View.ld_unit_zero (S := S16x768) origin]
  pointwise [k0_pay1]

variable (m : (ℓ : Loc nD τ sig) → Buf (Elt Ideal) ℓ) (c : Dev nD)

/-- The arguments, as the run finds them. -/
abbrev cond : S16x1024.Idx → EReal := m ((c : Thread nD τ).loc main_arg0)
abbrev grad : S16x1536.Idx → EReal := m ((c : Thread nD τ).loc main_arg1)

/-- Which blocks a grid point reads and writes. -/
theorem index : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)
theorem flush : ∀ t : Fin cfg0.N, (cfg0.win 2).flush t = true := (by decide +kernel : ∀ t : Fin grid0.N, win0_2.flush t = true)

theorem left (t : Fin cfg0.N) (k : Fin 16) (p : Fin 1024) : iblk m c 0 t (ix2 k p) = cond m c (ix2 k p) := by
  obtain ⟨e0, e1, -⟩ := index t
  refine congrArg (cond m c) (funext fun x => ?_)
  match x with
  | ⟨0, _⟩ =>
    refine Fin.ext ?_
    show win0_0.index t (0 : Fin 2) * 16 + 1 * k.val = k.val
    rw [e0]; omega
  | ⟨1, _⟩ =>
    refine Fin.ext ?_
    show win0_0.index t (1 : Fin 2) * 1024 + 1 * p.val = p.val
    rw [e1]; omega

theorem right (t : Fin cfg0.N) (k : Fin 16) (q : Fin 768) (s : Fin 1536) (h : 768 * t.val + q.val = s.val) :
    iblk m c 1 t (ix2 k q) = grad m c (ix2 k s) := by
  obtain ⟨-, -, e0, e1, -⟩ := index t
  refine congrArg (grad m c) (funext fun x => ?_)
  match x with
  | ⟨0, _⟩ =>
    refine Fin.ext ?_
    show win0_1.index t (0 : Fin 2) * 16 + 1 * k.val = k.val
    rw [e0]; omega
  | ⟨1, _⟩ =>
    refine Fin.ext ?_
    show win0_1.index t (1 : Fin 2) * 768 + 1 * q.val = s.val
    rw [e1]; omega

/-- The result array after the run. -/
theorem result (p : Fin 1024) (s : Fin 1536) : ((dats m 0 c).arrAt 2 cfg0.N (ix2 p s) : EReal)
    = ∑ k : Fin 16, cond m c (ix2 k p) * grad m c (ix2 k s) := by
  have hs := s.isLt
  have hN : s.val / 768 < cfg0.N := lt_of_lt_of_eq (by omega : s.val / 768 < 2) N_0.symm
  obtain ⟨t, ht⟩ : ∃ t : Fin cfg0.N, t.val = s.val / 768 := ⟨⟨_, hN⟩, rfl⟩
  let q : Fin 768 := ⟨s.val % 768, Nat.mod_lt _ (by decide)⟩
  have hq : 768 * t.val + q.val = s.val := by show 768 * t.val + s.val % 768 = _; omega
  obtain ⟨-, -, -, -, e0, e1⟩ := index t
  have hb := congrFun ((blocks2 m c t (flush t)).trans (flushed2 m c t)) (ix2 p q)
  rw [View.read_apply] at hb
  have hix : ((cfg0.win 2).blk t).view.emb (ix2 p q) = ix2 p s := by
    funext x
    match x with
    | ⟨0, _⟩ =>
      refine Fin.ext ?_
      show win0_2.index t (0 : Fin 2) * 1024 + 1 * p.val = p.val
      rw [e0]; omega
    | ⟨1, _⟩ =>
      refine Fin.ext ?_
      show win0_2.index t (1 : Fin 2) * 768 + 1 * q.val = s.val
      rw [e1]; omega
  rw [hix] at hb
  let X : S16x1024.Idx → EReal := iblk m c 0 t
  let Y : S16x768.Idx → EReal := iblk m c 1 t
  have hx : (∑ k : Fin 16, X (ix2 k p) * Y (ix2 k q)) = ∑ k : Fin 16, cond m c (ix2 k p) * grad m c (ix2 k s) :=
    Finset.sum_congr rfl fun k _ => congrArg₂ (· * ·) (left m c t k p) (right m c t k q s hq)
  exact (hb.trans (block_entry X Y p q)).trans hx

/-- The reference's result at an index. -/
theorem ref_entry (x : S16x1024.Idx → EReal) (y : S16x1536.Idx → EReal) (p : Fin 1024) (s : Fin 1536) :
    (Cert.Reference34Ideal.Read.val_main_v3 (F := Ideal) x y (ix2 p s) : EReal) = ∑ k : Fin 16, x (ix2 k p) * y (ix2 k s) := by
  pointwise [Cert.Reference34Ideal.Read.val_main_v3, Cert.Reference34Ideal.Read.val_main_v2]
  exact Finset.sum_congr rfl fun k _ => mul_comm (y (ix2 k s)) (x (ix2 k p))

/-- The claim: from the same arguments the kernel and the reference end with the same result array. -/
theorem algebraic : Cert.algebraic_Kernel34Ideal_Reference34Ideal := by
  intro m g m' g' _ h
  refine ⟨fun c => (dats m 0 c).arrAt 2 cfg0.N, run_blocks m g,
    (θ_run _ _ _).mono (fun r hr c => ?_) (Cert.Reference34Ideal.Value.run m' g')⟩
  obtain ⟨h0, h1⟩ := h c
  obtain ⟨hv, ha⟩ := hr c
  refine ⟨?_, ha⟩
  rw [hv, h0, h1]
  refine funext fun i => ?_
  rw [eq_ix2 i]
  exact (ref_entry _ _ _ _).trans (result m c (i 0) (i 1)).symm

end Cert.Kernel34Ideal.Product

end
-- ==== Proof.Product4.lean ====
/-
  The gradient of the input weight of the gated feed-forward block: inputᵀ · cotangent.
  The kernel accumulates the product chunk by chunk along the contracted axis, in a scratch array that it resets at the
  first chunk and copies to the result's block at the last: here the result array is shown to be the whole sum.
-/
module

public import proofs.«01_k».proof.Proof.Gen.Kernel4Ideal.Value
public import proofs.«01_k».proof.Proof.Gen.Reference4Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel4Ideal.Product

open Cert.Kernel4Ideal Cert.Kernel4Ideal.Gen Cert.Kernel4Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S2048x1024 .bf16) (h3 : a3.IsWhole)
    (a4 : Memref sig .tc .vmem S2048x1408 .bf16) (h4 : a4.IsWhole) (a5 : Memref sig .tc .vmem S1024x1408 .f32) (h5 : a5.IsWhole)
    (a6 : Memref sig .tc .vmem S1024x1408 .f32) (h6 : a6.IsWhole)
    (hc0 : cond0_0 i) (hc1 : ¬cond0_1 i) (hc2 : ¬cond0_2 i) (x0 : Vec F S2048x1024 .bf16) (x1 : Vec F S2048x1408 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2048x1024) origin,
    View.ld_unit_zero (S := S2048x1408) origin]

/-- At a last chunk the body adds the chunk's product to what the scratch array held. -/
theorem scratch_B (c : Dev nD) (i : grid0.Coords) (a3 : Memref sig .tc .vmem S2048x1024 .bf16) (h3 : a3.IsWhole)
    (a4 : Memref sig .tc .vmem S2048x1408 .bf16) (h4 : a4.IsWhole) (a5 : Memref sig .tc .vmem S1024x1408 .f32) (h5 : a5.IsWhole)
    (a6 : Memref sig .tc .vmem S1024x1408 .f32) (h6 : a6.IsWhole)
    (hc0 : ¬cond0_0 i) (hc1 : cond0_1 i) (hc2 : cond0_2 i) (x0 : Vec F S2048x1024 .bf16) (x1 : Vec F S2048x1408 .bf16)
    (acc : Vec F S1024x1408 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S2048x1024) origin,
    View.ld_unit_zero (S := S2048x1408) origin, View.ld_unit_zero (S := S1024x1408) origin]

/-- At a last chunk the body copies the scratch array, as it leaves it, to the result's block. -/
theorem result_last (c : Dev nD) (i : grid0.Coords) (a3 : Memref sig .tc .vmem S2048x1024 .bf16) (h3 : a3.IsWhole)
    (a4 : Memref sig .tc .vmem S2048x1408 .bf16) (h4 : a4.IsWhole) (a5 : Memref sig .tc .vmem S1024x1408 .f32) (h5 : a5.IsWhole)
    (a6 : Memref sig .tc .vmem S1024x1408 .f32) (h6 : a6.IsWhole)
    (hc0 : ¬cond0_0 i) (hc1 : cond0_1 i) (hc2 : cond0_2 i) (x0 : Vec F S2048x1024 .bf16) (x1 : Vec F S2048x1408 .bf16)
    (acc : Vec F S1024x1408 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1024x1408) _ origin]
  simp only [View.readAt_eq_ld, h3.read_unread, h4.read_unread, h6.read_unread, View.ld_unit_zero (S := S2048x1024) origin,
    View.ld_unit_zero (S := S2048x1408) origin, View.ld_unit_zero (S := S1024x1408) origin]

end Stores

/-! ## Over the extended reals -/

variable (m : (ℓ : Loc nD τ sig) → Buf (Elt Ideal) ℓ)

/-- The two arrays multiplied, as the run finds them. -/
abbrev lhs (c : Dev nD) : S4096x1024.Idx → EReal := m ((c : Thread nD τ).loc main_arg0)
abbrev rhs (c : Dev nD) : S4096x5632.Idx → EReal := m ((c : Thread nD τ).loc main_arg1)

/-- The product's term at position `k` of the contracted axis, for row `I` and column `J` of the result. -/
abbrev term (c : Dev nD) (I J k : ℕ) : EReal := rd (lhs m c) k I * rd (rhs m c) k J

/-- The body's product of two blocks is the sum over the chunk. -/
theorem block_product (x0 : Vec Ideal S2048x1024 .bf16) (x1 : Vec Ideal S2048x1408 .bf16) (a : Fin 1024) (b : Fin 1408) :
    k0_pay2 (F := Ideal) x0 x1 (ix2 a b) = ∑ k : Fin 2048, (x0 (ix2 k a) : EReal) * (x1 (ix2 k b) : EReal) := by
  pointwise [k0_pay2, k0_pay1]

/-- … and the accumulated one adds it to what was there. -/
theorem block_add (x0 : Vec Ideal S2048x1024 .bf16) (x1 : Vec Ideal S2048x1408 .bf16) (acc : Vec Ideal S1024x1408 .f32) (a : Fin 1024) (b : Fin 1408) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val % 2 ∧ win0_0.index t (1 : Fin 2) = t.val / 8 :=
  (by decide +kernel : ∀ t : Fin grid0.N, _)
theorem rhs_index : ∀ t : Fin cfg0.N, win0_1.index t (0 : Fin 2) = t.val % 2 ∧ win0_1.index t (1 : Fin 2) = t.val / 2 % 4 :=
  (by decide +kernel : ∀ t : Fin grid0.N, _)

/-- The operand blocks at a grid point, entry by entry. -/
theorem lhs_block (c : Dev nD) (t : Fin cfg0.N) (p : Fin 2048) (q : Fin 1024) :
    (iblk m c 0 t (ix2 p q) : EReal) = rd (lhs m c) (2048 * (t.val % 2) + p.val) (1024 * (t.val / 8) + q.val) := by
  obtain ⟨e0, e1⟩ := lhs_index t
  unfold iblk
  rw [View.read_apply]
  refine eq_rd (lhs m c) _ ?_ ?_
  · show win0_0.index t (0 : Fin 2) * 2048 + 1 * p.val = _
    rw [e0, Nat.one_mul, Nat.mul_comm]
  · show win0_0.index t (1 : Fin 2) * 1024 + 1 * q.val = _
    rw [e1, Nat.one_mul, Nat.mul_comm]
theorem rhs_block (c : Dev nD) (t : Fin cfg0.N) (p : Fin 2048) (q : Fin 1408) :
    (iblk m c 1 t (ix2 p q) : EReal) = rd (rhs m c) (2048 * (t.val % 2) + p.val) (1408 * (t.val / 2 % 4) + q.val) := by
  obtain ⟨e0, e1⟩ := rhs_index t
  unfold iblk
  rw [View.read_apply]
  refine eq_rd (rhs m c) _ ?_ ?_
  · show win0_1.index t (0 : Fin 2) * 2048 + 1 * p.val = _
    rw [e0, Nat.one_mul, Nat.mul_comm]
  · show win0_1.index t (1 : Fin 2) * 1408 + 1 * q.val = _
    rw [e1, Nat.one_mul, Nat.mul_comm]

/-- The product of the blocks at grid point `t` is the chunk of the whole product's sum. -/
theorem chunk_at (c : Dev nD) (t : Fin cfg0.N) (a : Fin 1024) (b : Fin 1408) :
    k0_pay2 (F := Ideal) (iblk m c 0 t) (iblk m c 1 t) (ix2 a b)
      = ∑ k : Fin 2048, term m c (1024 * (t.val / 8) + a.val) (1408 * (t.val / 2 % 4) + b.val) (2048 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 1408) : ∀ (n : ℕ) (h : n < cfg0.N),
    ((outsAt0 m c n h).2 (ix2 a b) : EReal)
      = ∑ k ∈ range (2048 * (n % 2 + 1)), term m c (1024 * (n / 8) + a.val) (1408 * (n / 2 % 4) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 2048 _
  | succ n ih =>
    intro h
    have hN : n + 1 < 8 := lt_of_lt_of_eq h (show cfg0.N = 8 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 2048 _
    · have e1 : (n + 1) % 2 = n % 2 + 1 := by omega
      have e2 : (n + 1) / 8 = n / 8 := by omega
      have e3 : (n + 1) / 2 % 4 = n / 2 % 4 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 2048 _ _

/-- At a last chunk the result's block is what the scratch array holds. -/
theorem result_eq_scratch (c : Dev nD) (n : ℕ) (h : n < cfg0.N) (h2 : n % 2 = 1) (a : Fin 1024) (b : Fin 1408) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4096x1024.Idx → EReal) (y : S4096x5632.Idx → EReal) (i : S1024x5632.Idx) :
    (Cert.Reference4Ideal.Read.val_main_v5 (F := Ideal) x y i : EReal)
      = ∑ k : Fin 4096, x (ix2 k (i 0)) * y (ix2 k (i 1)) := by
  pointwise [Cert.Reference4Ideal.Read.val_main_v5, Cert.Reference4Ideal.Read.val_main_v4, Cert.Reference4Ideal.Read.val_main_v1, Cert.Reference4Ideal.Read.val_main_v0]
  exact Finset.sum_congr rfl fun k _ => mul_comm _ _

/-- The result array after the run: the product's whole sum at every row and column. -/
theorem result_sum (c : Dev nD) (i : S1024x5632.Idx) :
    (G2 m c i : EReal) = ∑ k ∈ range 4096, term m c (i 0).val (i 1).val k := by
  have hi0 : (i 0).val < 1024 := (i 0).isLt
  have hi1 : (i 1).val < 5632 := (i 1).isLt
  have hv : pt2Of i = 2 * (4 * ((i 0).val / 1024) + (i 1).val / 1408) + 1 := by
    show 2 * (4 * ((i 0).val / 1024 - 0) + 1 * ((i 1).val / 1408 - 0)) + 1 = _
    omega
  have hp : pt2Of i < cfg0.N := lt_of_lt_of_eq (by rw [hv]; omega) (show 8 = cfg0.N from N_0.symm)
  have hl : loc2Of i = ix2 ⟨(i 0).val % 1024, Nat.mod_lt _ (by decide)⟩ ⟨(i 1).val % 1408, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 8) + (i 0).val % 1024 = (i 0).val := by rw [hv]; omega
  have e1 : 1408 * (pt2Of i / 2 % 4) + (i 1).val % 1408 = (i 1).val := by rw [hv]; omega
  have e2 : 2048 * (pt2Of i % 2 + 1) = 4096 := by rw [hv]; omega
  dsimp only
  rw [e0, e1, e2]

/-- The result array is the reference's: the derivative of the plain product, as it is read at each index. -/
theorem result_eq (c : Dev nD) :
    G2 m c = Cert.Reference4Ideal.Read.val_main_v5 (F := Ideal) (lhs m c) (rhs m c) := by
  funext i
  have e : ∑ k ∈ range 4096, term m c (i 0).val (i 1).val k
      = ∑ k : Fin 4096, lhs m c (ix2 k (i 0)) * rhs m c (ix2 k (i 1)) := by
    rw [← sum_fin]
    exact Finset.sum_congr rfl fun k _ => congrArg₂ (· * ·) (rd_of_lt (lhs m c) k.isLt (i 0).isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel4Ideal_Reference4Ideal := by
  intro m g m' g' _ h
  refine ⟨fun c => G2 m c, run m g, (θ_run _ _ _).mono (fun r hr c => ?_) (Cert.Reference4Ideal.Value.run m' g')⟩
  obtain ⟨h0, h1⟩ := h c
  obtain ⟨hv, ha⟩ := hr c
  refine ⟨?_, ha⟩
  rw [hv, h0, h1]
  exact (result_eq m c).symm

end Cert.Kernel4Ideal.Product

end
-- ==== Proof.Product6.lean ====
/-
  The gradient of the input of the state-space block's output product: cotangent · weightᵀ.
  Each grid point takes one block of rows against one block of the weight's rows, the contracted axis whole: here the
  result array is shown to be the whole product.
-/
module

public import proofs.«01_k».proof.Proof.Gen.Kernel6Ideal.Value
public import proofs.«01_k».proof.Proof.Gen.Reference6Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel6Ideal.Product

open Cert.Kernel6Ideal Cert.Kernel6Ideal.Gen Cert.Kernel6Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1024x1024 .bf16) (x1 : Vec Ideal S1024x1024 .bf16) (a : Fin 1024) (b : Fin 1024) :
    (out0_2 (F := Ideal) x0 x1 (ix2 a b) : EReal) = ∑ k : Fin 1024, (x0 (ix2 a k) : EReal) * (x1 (ix2 b k) : EReal) := by
  have e : out0_2 (F := Ideal) x0 x1 = k0_pay1 (F := Ideal) x0 x1 := by
    unfold out0_2
    rw [View.canon_unit_zero origin]
    simp only [View.ld_unit_zero (S := S1024x1024) origin]
  rw [e]
  pointwise [k0_pay1]

variable (m : (ℓ : Loc nD τ sig) → Buf (Elt Ideal) ℓ)

/-- The two arrays multiplied as the run finds them. -/
abbrev lhs (c : Dev nD) : S4096x1024.Idx → EReal := m ((c : Thread nD τ).loc main_arg0)
abbrev rhs (c : Dev nD) : S2048x1024.Idx → EReal := m ((c : Thread nD τ).loc main_arg1)

/-- Which blocks a grid point reads and writes. -/
theorem index0 : ∀ t : Fin cfg0.N, win0_0.index t (0 : Fin 2) = t.val / 2 ∧ win0_0.index t (1 : Fin 2) = 0 :=
  (by decide +kernel : ∀ t : Fin grid0.N, _)
theorem index1 : ∀ t : Fin cfg0.N, win0_1.index t (0 : Fin 2) = t.val % 2 ∧ win0_1.index t (1 : Fin 2) = 0 :=
  (by decide +kernel : ∀ t : Fin grid0.N, _)
theorem index2 : ∀ t : Fin cfg0.N, win0_2.index t (0 : Fin 2) = t.val / 2 ∧ win0_2.index t (1 : Fin 2) = t.val % 2 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1024) (q : Fin 1024) :
    (iblk m c 0 t (ix2 p q) : EReal) = rd (lhs m c) (1024 * (t.val / 2) + p.val) (q.val) := by
  obtain ⟨e0, e1⟩ := index0 t
  unfold iblk
  rw [View.read_apply]
  refine eq_rd (lhs m c) _ ?_ ?_
  · show win0_0.index t (0 : Fin 2) * 1024 + 1 * p.val = _
    rw [e0]; omega
  · show win0_0.index t (1 : Fin 2) * 1024 + 1 * q.val = _
    rw [e1]; omega

theorem rhs_block (c : Dev nD) (t : Fin cfg0.N) (p : Fin 1024) (q : Fin 1024) :
    (iblk m c 1 t (ix2 p q) : EReal) = rd (rhs m c) (1024 * (t.val % 2) + p.val) (q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 1024 + 1 * q.val = _
    rw [e1]; omega

/-- The result array after the run, at every row and column. -/
theorem result_sum (c : Dev nD) (i : S4096x2048.Idx) :
    ((dats m 0 c).arrAt 2 cfg0.N i : EReal) = (∑ k : Fin 1024, rd (lhs m c) (i 0).val k.val * rd (rhs m c) (i 1).val k.val) := by
  have hi0 : (i 0).val < 4096 := (i 0).isLt
  have hi1 : (i 1).val < 2048 := (i 1).isLt
  have hN : 2 * ((i 0).val / 1024) + (i 1).val / 1024 < cfg0.N := lt_of_lt_of_eq (by omega) (show 8 = cfg0.N from N_0.symm)
  obtain ⟨t, ht⟩ : ∃ t : Fin cfg0.N, t.val = 2 * ((i 0).val / 1024) + (i 1).val / 1024 := ⟨⟨_, hN⟩, rfl⟩
  obtain ⟨e0, e1⟩ := index2 t
  let y : S1024x1024.Idx := ix2 ⟨(i 0).val % 1024, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1024 + 1 * ((i 0).val % 1024) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1024 := ⟨(i 0).val % 1024, Nat.mod_lt _ (by decide)⟩
  let q : Fin 1024 := ⟨(i 1).val % 1024, Nat.mod_lt _ (by decide)⟩
  have r0 : 1024 * (t.val / 2) + p.val = (i 0).val := by show 1024 * (t.val / 2) + (i 0).val % 1024 = _; omega
  have r1 : 1024 * (t.val % 2) + q.val = (i 1).val := by show 1024 * (t.val % 2) + (i 1).val % 1024 = _; omega
  let X : S1024x1024.Idx → EReal := iblk m c 0 t
  let Y : S1024x1024.Idx → EReal := iblk m c 1 t
  have hs : (∑ k : Fin 1024, X (ix2 p k) * Y (ix2 q k))
      = ∑ k : Fin 1024, rd (lhs m c) (i 0).val k.val * rd (rhs m c) (i 1).val k.val :=
    Finset.sum_congr rfl fun k _ => congrArg₂ (· * ·)
      ((lhs_block m c t p k).trans (congrArg (fun r => rd (lhs m c) r k.val) r0))
      ((rhs_block m c t q k).trans (congrArg (fun r => rd (rhs m c) r k.val) r1))
  exact (hb.trans (out_entry (iblk m c 0 t) (iblk m c 1 t) p q)).trans hs

/-- The reference's result at an index, as a sum over the contracted axis. -/
theorem ref_sum (x : S4096x1024.Idx → EReal) (y : S2048x1024.Idx → EReal) (i : S4096x2048.Idx) :
    (Cert.Reference6Ideal.Read.val_main_v5 (F := Ideal) x y i : EReal) = ∑ k : Fin 1024, x (ix2 (i 0) k) * y (ix2 (i 1) k) := by
  pointwise [Cert.Reference6Ideal.Read.val_main_v5, Cert.Reference6Ideal.Read.val_main_v4, Cert.Reference6Ideal.Read.val_main_v1, Cert.Reference6Ideal.Read.val_main_v0]

/-- The result array is the reference's: the derivative of the plain product, as it is read at each index. -/
theorem result_eq (c : Dev nD) :
    (dats m 0 c).arrAt 2 cfg0.N = Cert.Reference6Ideal.Read.val_main_v5 (F := Ideal) (lhs m c) (rhs m c) := by
  funext i
  have e : (∑ k : Fin 1024, rd (lhs m c) (i 0).val k.val * rd (rhs m c) (i 1).val k.val)
      = ∑ k : Fin 1024, lhs m c (ix2 (i 0) k) * rhs m c (ix2 (i 1) k) :=
    Finset.sum_congr rfl fun k _ => congrArg₂ (· * ·) (rd_of_lt (lhs m c) (i 0).isLt k.isLt) (rd_of_lt (rhs m c) (i 1).isLt k.isLt)
  exact (result_sum m c i).trans (e.trans (ref_sum (lhs m c) (rhs m c) i).symm)

/-- The claim: from the same arguments the kernel and the reference end with the same result array. -/
theorem algebraic : Cert.algebraic_Kernel6Ideal_Reference6Ideal := by
  intro m g m' g' _ h
  refine ⟨fun c => (dats m 0 c).arrAt 2 cfg0.N, run_blocks m g, (θ_run _ _ _).mono (fun r hr c => ?_) (Cert.Reference6Ideal.Value.run m' g')⟩
  obtain ⟨h0, h1⟩ := h c
  obtain ⟨hv, ha⟩ := hr c
  refine ⟨?_, ha⟩
  rw [hv, h0, h1]
  exact (result_eq m c).symm

end Cert.Kernel6Ideal.Product

end
-- ==== Proof.Product7.lean ====
/-
  The gradient of the state-space block's output weight: gated outputᵀ · cotangent.
  The kernel accumulates the product chunk by chunk along the contracted axis, in a scratch array that it resets at the
  first chunk and copies to the result's block at the last: here the result array is shown to be the whole sum.
-/
module

public import proofs.«01_k».proof.Proof.Gen.Kernel7Ideal.Value
public import proofs.«01_k».proof.Proof.Gen.Reference7Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel7Ideal.Product

open Cert.Kernel7Ideal Cert.Kernel7Ideal.Gen Cert.Kernel7Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i) (x0 : Vec F S2048x1024 .bf16) (x1 : Vec F S2048x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2048x1024) origin,
    View.ld_unit_zero (S := S2048x1024) origin]

/-- At a last chunk the body adds the chunk's product to what the scratch array held. -/
theorem scratch_B (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .bf16)
    (acc : Vec F S1024x1024 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S2048x1024) origin,
    View.ld_unit_zero (S := S2048x1024) origin, View.ld_unit_zero (S := S1024x1024) origin]

/-- At a last chunk the body copies the scratch array, as it leaves it, to the result's block. -/
theorem result_last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .bf16)
    (acc : Vec F S1024x1024 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S2048x1024) origin,
    View.ld_unit_zero (S := S2048x1024) origin, View.ld_unit_zero (S := S1024x1024) origin]

end Stores

/-! ## Over the extended reals -/

variable (m : (ℓ : Loc nD τ sig) → Buf (Elt Ideal) ℓ)

/-- The two arrays multiplied, as the run finds them. -/
abbrev lhs (c : Dev nD) : S4096x2048.Idx → EReal := m ((c : Thread nD τ).loc main_arg0)
abbrev rhs (c : Dev nD) : S4096x1024.Idx → EReal := m ((c : Thread nD τ).loc main_arg1)

/-- The product's term at position `k` of the contracted axis, for row `I` and column `J` of the result. -/
abbrev term (c : Dev nD) (I J k : ℕ) : EReal := rd (lhs m c) k I * rd (rhs m c) k J

/-- The body's product of two blocks is the sum over the chunk. -/
theorem block_product (x0 : Vec Ideal S2048x1024 .bf16) (x1 : Vec Ideal S2048x1024 .bf16) (a : Fin 1024) (b : Fin 1024) :
    k0_pay2 (F := Ideal) x0 x1 (ix2 a b) = ∑ k : Fin 2048, (x0 (ix2 k a) : EReal) * (x1 (ix2 k b) : EReal) := by
  pointwise [k0_pay2, k0_pay1]

/-- … and the accumulated one adds it to what was there. -/
theorem block_add (x0 : Vec Ideal S2048x1024 .bf16) (x1 : Vec Ideal S2048x1024 .bf16) (acc : Vec Ideal S1024x1024 .f32) (a : Fin 1024) (b : Fin 1024) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val % 2 ∧ win0_0.index t (1 : Fin 2) = t.val / 2 :=
  (by decide +kernel : ∀ t : Fin grid0.N, _)
theorem rhs_index : ∀ t : Fin cfg0.N, win0_1.index t (0 : Fin 2) = t.val % 2 ∧ win0_1.index t (1 : Fin 2) = t.val / 2 % 1 :=
  (by decide +kernel : ∀ t : Fin grid0.N, _)

/-- The operand blocks at a grid point, entry by entry. -/
theorem lhs_block (c : Dev nD) (t : Fin cfg0.N) (p : Fin 2048) (q : Fin 1024) :
    (iblk m c 0 t (ix2 p q) : EReal) = rd (lhs m c) (2048 * (t.val % 2) + p.val) (1024 * (t.val / 2) + q.val) := by
  obtain ⟨e0, e1⟩ := lhs_index t
  unfold iblk
  rw [View.read_apply]
  refine eq_rd (lhs m c) _ ?_ ?_
  · show win0_0.index t (0 : Fin 2) * 2048 + 1 * p.val = _
    rw [e0, Nat.one_mul, Nat.mul_comm]
  · show win0_0.index t (1 : Fin 2) * 1024 + 1 * q.val = _
    rw [e1, Nat.one_mul, Nat.mul_comm]
theorem rhs_block (c : Dev nD) (t : Fin cfg0.N) (p : Fin 2048) (q : Fin 1024) :
    (iblk m c 1 t (ix2 p q) : EReal) = rd (rhs m c) (2048 * (t.val % 2) + p.val) (1024 * (t.val / 2 % 1) + q.val) := by
  obtain ⟨e0, e1⟩ := rhs_index t
  unfold iblk
  rw [View.read_apply]
  refine eq_rd (rhs m c) _ ?_ ?_
  · show win0_1.index t (0 : Fin 2) * 2048 + 1 * p.val = _
    rw [e0, Nat.one_mul, Nat.mul_comm]
  · show win0_1.index t (1 : Fin 2) * 1024 + 1 * q.val = _
    rw [e1, Nat.one_mul, Nat.mul_comm]

/-- The product of the blocks at grid point `t` is the chunk of the whole product's sum. -/
theorem chunk_at (c : Dev nD) (t : Fin cfg0.N) (a : Fin 1024) (b : Fin 1024) :
    k0_pay2 (F := Ideal) (iblk m c 0 t) (iblk m c 1 t) (ix2 a b)
      = ∑ k : Fin 2048, term m c (1024 * (t.val / 2) + a.val) (1024 * (t.val / 2 % 1) + b.val) (2048 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 1024) : ∀ (n : ℕ) (h : n < cfg0.N),
    ((outsAt0 m c n h).2 (ix2 a b) : EReal)
      = ∑ k ∈ range (2048 * (n % 2 + 1)), term m c (1024 * (n / 2) + a.val) (1024 * (n / 2 % 1) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 2048 _
  | succ n ih =>
    intro h
    have hN : n + 1 < 4 := lt_of_lt_of_eq h (show cfg0.N = 4 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 2048 _
    · have e1 : (n + 1) % 2 = n % 2 + 1 := by omega
      have e2 : (n + 1) / 2 = n / 2 := by omega
      have e3 : (n + 1) / 2 % 1 = n / 2 % 1 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 2048 _ _

/-- At a last chunk the result's block is what the scratch array holds. -/
theorem result_eq_scratch (c : Dev nD) (n : ℕ) (h : n < cfg0.N) (h2 : n % 2 = 1) (a : Fin 1024) (b : Fin 1024) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4096x2048.Idx → EReal) (y : S4096x1024.Idx → EReal) (i : S2048x1024.Idx) :
    (Cert.Reference7Ideal.Read.val_main_v5 (F := Ideal) x y i : EReal)
      = ∑ k : Fin 4096, x (ix2 k (i 0)) * y (ix2 k (i 1)) := by
  pointwise [Cert.Reference7Ideal.Read.val_main_v5, Cert.Reference7Ideal.Read.val_main_v4, Cert.Reference7Ideal.Read.val_main_v1, Cert.Reference7Ideal.Read.val_main_v0]
  exact Finset.sum_congr rfl fun k _ => mul_comm _ _

/-- The result array after the run: the product's whole sum at every row and column. -/
theorem result_sum (c : Dev nD) (i : S2048x1024.Idx) :
    (G2 m c i : EReal) = ∑ k ∈ range 4096, term m c (i 0).val (i 1).val k := by
  have hi0 : (i 0).val < 2048 := (i 0).isLt
  have hi1 : (i 1).val < 1024 := (i 1).isLt
  have hv : pt2Of i = 2 * (1 * ((i 0).val / 1024) + (i 1).val / 1024) + 1 := by
    show 2 * (1 * ((i 0).val / 1024 - 0) + 1 * ((i 1).val / 1024 - 0)) + 1 = _
    omega
  have hp : pt2Of i < cfg0.N := lt_of_lt_of_eq (by rw [hv]; omega) (show 4 = cfg0.N from N_0.symm)
  have hl : loc2Of i = ix2 ⟨(i 0).val % 1024, Nat.mod_lt _ (by decide)⟩ ⟨(i 1).val % 1024, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 2) + (i 0).val % 1024 = (i 0).val := by rw [hv]; omega
  have e1 : 1024 * (pt2Of i / 2 % 1) + (i 1).val % 1024 = (i 1).val := by rw [hv]; omega
  have e2 : 2048 * (pt2Of i % 2 + 1) = 4096 := by rw [hv]; omega
  dsimp only
  rw [e0, e1, e2]

/-- The result array is the reference's: the derivative of the plain product, as it is read at each index. -/
theorem result_eq (c : Dev nD) :
    G2 m c = Cert.Reference7Ideal.Read.val_main_v5 (F := Ideal) (lhs m c) (rhs m c) := by
  funext i
  have e : ∑ k ∈ range 4096, term m c (i 0).val (i 1).val k
      = ∑ k : Fin 4096, lhs m c (ix2 k (i 0)) * rhs m c (ix2 k (i 1)) := by
    rw [← sum_fin]
    exact Finset.sum_congr rfl fun k _ => congrArg₂ (· * ·) (rd_of_lt (lhs m c) k.isLt (i 0).isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel7Ideal_Reference7Ideal := by
  intro m g m' g' _ h
  refine ⟨fun c => G2 m c, run m g, (θ_run _ _ _).mono (fun r hr c => ?_) (Cert.Reference7Ideal.Value.run m' g')⟩
  obtain ⟨h0, h1⟩ := h c
  obtain ⟨hv, ha⟩ := hr c
  refine ⟨?_, ha⟩
  rw [hv, h0, h1]
  exact (result_eq m c).symm

end Cert.Kernel7Ideal.Product

end
-- ==== Proof.Product8.lean ====
/-
  The gradient of the input of the convolution block's second product: cotangent · weightᵀ.
  Each grid point takes one block of rows against one block of the weight's rows, the contracted axis whole: here the
  result array is shown to be the whole product.
-/
module

public import proofs.«01_k».proof.Proof.Gen.Kernel8Ideal.Value
public import proofs.«01_k».proof.Proof.Gen.Reference8Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel8Ideal.Product

open Cert.Kernel8Ideal Cert.Kernel8Ideal.Gen Cert.Kernel8Ideal.Value Cert.Blocked
open Idealize.ShloMosaic Idealize.ShloMosaic.TcCoe Idealize.SL.Sem Finset

theorem origin : (![0, 0] : Fin 2 → Nat) = fun _ => 0 := funext fun a => by fin_cases a <;> rfl

/-- What the body leaves in the result's block: the product of the two blocks. -/
theorem out_entry (x0 : Vec Ideal S1024x1024 .bf16) (x1 : Vec Ideal S1024x1024 .bf16) (a : Fin 1024) (b : Fin 1024) :
    (out0_2 (F := Ideal) x0 x1 (ix2 a b) : EReal) = ∑ k : Fin 1024, (x0 (ix2 a k) : EReal) * (x1 (ix2 b k) : EReal) := by
  have e : out0_2 (F := Ideal) x0 x1 = k0_pay1 (F := Ideal) x0 x1 := by
    unfold out0_2
    rw [View.canon_unit_zero origin]
    simp only [View.ld_unit_zero (S := S1024x1024) origin]
  rw [e]
  pointwise [k0_pay1]

variable (m : (ℓ : Loc nD τ sig) → Buf (Elt Ideal) ℓ)

/-- The two arrays multiplied as the run finds them. -/
abbrev lhs (c : Dev nD) : S4096x1024.Idx → EReal := m ((c : Thread nD τ).loc main_arg0)
abbrev rhs (c : Dev nD) : S1024x1024.Idx → EReal := m ((c : Thread nD τ).loc main_arg1)

/-- Which blocks a grid point reads and writes. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

/-! The operand blocks at a grid point, entry by entry. -/

theorem lhs_block (c : Dev nD) (t : Fin cfg0.N) (p : Fin 1024) (q : Fin 1024) :
    (iblk m c 0 t (ix2 p q) : EReal) = rd (lhs m c) (1024 * (t.val) + p.val) (q.val) := by
  obtain ⟨e0, e1⟩ := index0 t
  unfold iblk
  rw [View.read_apply]
  refine eq_rd (lhs m c) _ ?_ ?_
  · show win0_0.index t (0 : Fin 2) * 1024 + 1 * p.val = _
    rw [e0]; omega
  · show win0_0.index t (1 : Fin 2) * 1024 + 1 * q.val = _
    rw [e1]; omega

theorem rhs_block (c : Dev nD) (t : Fin cfg0.N) (p : Fin 1024) (q : Fin 1024) :
    (iblk m c 1 t (ix2 p q) : EReal) = rd (rhs m c) (p.val) (q.val) := by
  obtain ⟨e0, e1⟩ := index1 t
  unfold iblk
  rw [View.read_apply]
  refine eq_rd (rhs m c) _ ?_ ?_
  · show win0_1.index t (0 : Fin 2) * 1024 + 1 * p.val = _
    rw [e0]; omega
  · show win0_1.index t (1 : Fin 2) * 1024 + 1 * q.val = _
    rw [e1]; omega

/-- The result array after the run, at every row and column. -/
theorem result_sum (c : Dev nD) (i : S4096x1024.Idx) :
    ((dats m 0 c).arrAt 2 cfg0.N i : EReal) = (∑ k : Fin 1024, rd (lhs m c) (i 0).val k.val * rd (rhs m c) (i 1).val k.val) := by
  have hi0 : (i 0).val < 4096 := (i 0).isLt
  have hi1 : (i 1).val < 1024 := (i 1).isLt
  have hN : 1 * ((i 0).val / 1024) + (i 1).val / 1024 < cfg0.N := lt_of_lt_of_eq (by omega) (show 4 = cfg0.N from N_0.symm)
  obtain ⟨t, ht⟩ : ∃ t : Fin cfg0.N, t.val = 1 * ((i 0).val / 1024) + (i 1).val / 1024 := ⟨⟨_, hN⟩, rfl⟩
  obtain ⟨e0, e1⟩ := index2 t
  let y : S1024x1024.Idx := ix2 ⟨(i 0).val % 1024, Nat.mod_lt _ (by decide)⟩ ⟨(i 1).val % 1024, Nat.mod_lt _ (by decide)⟩
  have hb := congrFun ((blocks2 m c t (flush2 t)).trans (flushed2 m c t)) y
  rw [View.read_apply] at hb
  have hix : ((cfg0.win 2).blk t).view.emb y = i := by
    funext x
    match x with
    | ⟨0, _⟩ =>
      refine Fin.ext ?_
      show win0_2.index t (0 : Fin 2) * 1024 + 1 * ((i 0).val % 1024) = (i 0).val
      rw [e0]; omega
    | ⟨1, _⟩ =>
      refine Fin.ext ?_
      show win0_2.index t (1 : Fin 2) * 1024 + 1 * ((i 1).val % 1024) = (i 1).val
      rw [e1]; omega
  rw [hix] at hb
  let p : Fin 1024 := ⟨(i 0).val % 1024, Nat.mod_lt _ (by decide)⟩
  let q : Fin 1024 := ⟨(i 1).val % 1024, Nat.mod_lt _ (by decide)⟩
  have r0 : 1024 * (t.val) + p.val = (i 0).val := by show 1024 * (t.val) + (i 0).val % 1024 = _; omega
  have r1 : q.val = (i 1).val := by show (i 1).val % 1024 = _; omega
  let X : S1024x1024.Idx → EReal := iblk m c 0 t
  let Y : S1024x1024.Idx → EReal := iblk m c 1 t
  have hs : (∑ k : Fin 1024, X (ix2 p k) * Y (ix2 q k))
      = ∑ k : Fin 1024, rd (lhs m c) (i 0).val k.val * rd (rhs m c) (i 1).val k.val :=
    Finset.sum_congr rfl fun k _ => congrArg₂ (· * ·)
      ((lhs_block m c t p k).trans (congrArg (fun r => rd (lhs m c) r k.val) r0))
      ((rhs_block m c t q k).trans (congrArg (fun r => rd (rhs m c) r k.val) r1))
  exact (hb.trans (out_entry (iblk m c 0 t) (iblk m c 1 t) p q)).trans hs

/-- The reference's result at an index, as a sum over the contracted axis. -/
theorem ref_sum (x : S4096x1024.Idx → EReal) (y : S1024x1024.Idx → EReal) (i : S4096x1024.Idx) :
    (Cert.Reference8Ideal.Read.val_main_v5 (F := Ideal) x y i : EReal) = ∑ k : Fin 1024, x (ix2 (i 0) k) * y (ix2 (i 1) k) := by
  pointwise [Cert.Reference8Ideal.Read.val_main_v5, Cert.Reference8Ideal.Read.val_main_v4, Cert.Reference8Ideal.Read.val_main_v1, Cert.Reference8Ideal.Read.val_main_v0]

/-- The result array is the reference's: the derivative of the plain product, as it is read at each index. -/
theorem result_eq (c : Dev nD) :
    (dats m 0 c).arrAt 2 cfg0.N = Cert.Reference8Ideal.Read.val_main_v5 (F := Ideal) (lhs m c) (rhs m c) := by
  funext i
  have e : (∑ k : Fin 1024, rd (lhs m c) (i 0).val k.val * rd (rhs m c) (i 1).val k.val)
      = ∑ k : Fin 1024, lhs m c (ix2 (i 0) k) * rhs m c (ix2 (i 1) k) :=
    Finset.sum_congr rfl fun k _ => congrArg₂ (· * ·) (rd_of_lt (lhs m c) (i 0).isLt k.isLt) (rd_of_lt (rhs m c) (i 1).isLt k.isLt)
  exact (result_sum m c i).trans (e.trans (ref_sum (lhs m c) (rhs m c) i).symm)

/-- The claim: from the same arguments the kernel and the reference end with the same result array. -/
theorem algebraic : Cert.algebraic_Kernel8Ideal_Reference8Ideal := by
  intro m g m' g' _ h
  refine ⟨fun c => (dats m 0 c).arrAt 2 cfg0.N, run_blocks m g, (θ_run _ _ _).mono (fun r hr c => ?_) (Cert.Reference8Ideal.Value.run m' g')⟩
  obtain ⟨h0, h1⟩ := h c
  obtain ⟨hv, ha⟩ := hr c
  refine ⟨?_, ha⟩
  rw [hv, h0, h1]
  exact (result_eq m c).symm

end Cert.Kernel8Ideal.Product

end
-- ==== Proof.Product9.lean ====
/-
  The gradient of the convolution block's second weight: inputᵀ · cotangent.
  The kernel accumulates the product chunk by chunk along the contracted axis, in a scratch array that it resets at the
  first chunk and copies to the result's block at the last: here the result array is shown to be the whole sum.
-/
module

public import proofs.«01_k».proof.Proof.Gen.Kernel9Ideal.Value
public import proofs.«01_k».proof.Proof.Gen.Reference9Ideal.Read
public import proofs.«01_k».proof.Proof.Math
public import proofs.«01_k».proof.Defs
public import Idealize.ShloMosaic.Lib.Pointwise
public import Idealize.ShloMosaic.Lib.Tactic

@[expose] public section

set_option maxRecDepth 16384

noncomputable section

namespace Cert.Kernel9Ideal.Product

open Cert.Kernel9Ideal Cert.Kernel9Ideal.Gen Cert.Kernel9Ideal.Value Cert.Blocked
open Idealize.ShloMosaic Idealize.ShloMosaic.TcCoe Idealize.SL.Sem Finset

theorem origin : (![0, 0] : Fin 2 → Nat) = fun _ => 0 := funext fun a => by fin_cases a <;> rfl

section Stores
variable {F : FTy → Type} [FloatOps F]

/-- At a first chunk the body leaves the chunk's product in the scratch array. -/
theorem scratch_first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : cond0_0 i) (hc1 : ¬cond0_1 i) (hc2 : ¬cond0_2 i) (x0 : Vec F S2048x1024 .bf16) (x1 : Vec F S2048x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero origin]
  simp only [View.readAt_eq_ld, h3.read_unread, h4.read_unread, View.ld_unit_zero (S := S2048x1024) origin,
    View.ld_unit_zero (S := S2048x1024) origin]

/-- At a last chunk the body adds the chunk's product to what the scratch array held. -/
theorem scratch_B (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .bf16)
    (acc : Vec F S1024x1024 .f32) :
    sout0_B_0 c i a3 h3 a4 h4 a5 h5 a6 h6 hc0 hc1 hc2 x0 x1 acc = k0_pay3 x0 x1 acc := by
  unfold sout0_B_0
  rw [View.read_writes_eq_canon _ _ _ (scover0_B_0 c i a3 h3 a4 h4 a5 h5 a6 h6 hc0 hc1 hc2 x0 x1 acc)]
  unfold kernelRun0_B
  dsimp only
  sl_unfold_words
  rw [View.canon_unit_zero origin]
  simp only [View.readAt_eq_ld, h3.read_unread, h4.read_unread, h6.read_unread, View.ld_unit_zero (S := S2048x1024) origin,
    View.ld_unit_zero (S := S2048x1024) origin, View.ld_unit_zero (S := S1024x1024) origin]

/-- At a last chunk the body copies the scratch array, as it leaves it, to the result's block. -/
theorem result_last (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1024x1024 .f32) (h6 : a6.IsWhole)
    (hc0 : ¬cond0_0 i) (hc1 : cond0_1 i) (hc2 : cond0_2 i) (x0 : Vec F S2048x1024 .bf16) (x1 : Vec F S2048x1024 .bf16)
    (acc : Vec F S1024x1024 .f32) :
    out0_B_2 c i a3 h3 a4 h4 a5 h5 a6 h6 hc0 hc1 hc2 x0 x1 acc = k0_pay3 x0 x1 acc := by
  unfold out0_B_2
  rw [View.read_writes_eq_canon _ _ _ (cover0_B_2 c i a3 h3 a4 h4 a5 h5 a6 h6 hc0 hc1 hc2 x0 x1 acc)]
  unfold kernelRun0_B
  dsimp only
  sl_unfold_words
  rw [View.canon_unit_zero origin, View.readCov_unit_zero (S := S1024x1024) _ origin]
  simp only [View.readAt_eq_ld, h3.read_unread, h4.read_unread, h6.read_unread, View.ld_unit_zero (S := S2048x1024) origin,
    View.ld_unit_zero (S := S2048x1024) origin, View.ld_unit_zero (S := S1024x1024) origin]

end Stores

/-! ## Over the extended reals -/

variable (m : (ℓ : Loc nD τ sig) → Buf (Elt Ideal) ℓ)

/-- The two arrays multiplied, as the run finds them. -/
abbrev lhs (c : Dev nD) : S4096x1024.Idx → EReal := m ((c : Thread nD τ).loc main_arg0)
abbrev rhs (c : Dev nD) : S4096x1024.Idx → EReal := m ((c : Thread nD τ).loc main_arg1)

/-- The product's term at position `k` of the contracted axis, for row `I` and column `J` of the result. -/
abbrev term (c : Dev nD) (I J k : ℕ) : EReal := rd (lhs m c) k I * rd (rhs m c) k J

/-- The body's product of two blocks is the sum over the chunk. -/
theorem block_product (x0 : Vec Ideal S2048x1024 .bf16) (x1 : Vec Ideal S2048x1024 .bf16) (a : Fin 1024) (b : Fin 1024) :
    k0_pay2 (F := Ideal) x0 x1 (ix2 a b) = ∑ k : Fin 2048, (x0 (ix2 k a) : EReal) * (x1 (ix2 k b) : EReal) := by
  pointwise [k0_pay2, k0_pay1]

/-- … and the accumulated one adds it to what was there. -/
theorem block_add (x0 : Vec Ideal S2048x1024 .bf16) (x1 : Vec Ideal S2048x1024 .bf16) (acc : Vec Ideal S1024x1024 .f32) (a : Fin 1024) (b : Fin 1024) :
    k0_pay3 (F := Ideal) x0 x1 acc (ix2 a b) = (acc (ix2 a b) : EReal) + k0_pay2 (F := Ideal) x0 x1 (ix2 a b) := by
  rw [block_product]
  pointwise [k0_pay3, k0_pay1]

/-- Which block of each operand a grid point reads. -/
theorem lhs_index : ∀ t : Fin cfg0.N, win0_0.index t (0 : Fin 2) = t.val % 2 ∧ win0_0.index t (1 : Fin 2) = t.val / 2 :=
  (by decide +kernel : ∀ t : Fin grid0.N, _)
theorem rhs_index : ∀ t : Fin cfg0.N, win0_1.index t (0 : Fin 2) = t.val % 2 ∧ win0_1.index t (1 : Fin 2) = t.val / 2 % 1 :=
  (by decide +kernel : ∀ t : Fin grid0.N, _)

/-- The operand blocks at a grid point, entry by entry. -/
theorem lhs_block (c : Dev nD) (t : Fin cfg0.N) (p : Fin 2048) (q : Fin 1024) :
    (iblk m c 0 t (ix2 p q) : EReal) = rd (lhs m c) (2048 * (t.val % 2) + p.val) (1024 * (t.val / 2) + q.val) := by
  obtain ⟨e0, e1⟩ := lhs_index t
  unfold iblk
  rw [View.read_apply]
  refine eq_rd (lhs m c) _ ?_ ?_
  · show win0_0.index t (0 : Fin 2) * 2048 + 1 * p.val = _
    rw [e0, Nat.one_mul, Nat.mul_comm]
  · show win0_0.index t (1 : Fin 2) * 1024 + 1 * q.val = _
    rw [e1, Nat.one_mul, Nat.mul_comm]
theorem rhs_block (c : Dev nD) (t : Fin cfg0.N) (p : Fin 2048) (q : Fin 1024) :
    (iblk m c 1 t (ix2 p q) : EReal) = rd (rhs m c) (2048 * (t.val % 2) + p.val) (1024 * (t.val / 2 % 1) + q.val) := by
  obtain ⟨e0, e1⟩ := rhs_index t
  unfold iblk
  rw [View.read_apply]
  refine eq_rd (rhs m c) _ ?_ ?_
  · show win0_1.index t (0 : Fin 2) * 2048 + 1 * p.val = _
    rw [e0, Nat.one_mul, Nat.mul_comm]
  · show win0_1.index t (1 : Fin 2) * 1024 + 1 * q.val = _
    rw [e1, Nat.one_mul, Nat.mul_comm]

/-- The product of the blocks at grid point `t` is the chunk of the whole product's sum. -/
theorem chunk_at (c : Dev nD) (t : Fin cfg0.N) (a : Fin 1024) (b : Fin 1024) :
    k0_pay2 (F := Ideal) (iblk m c 0 t) (iblk m c 1 t) (ix2 a b)
      = ∑ k : Fin 2048, term m c (1024 * (t.val / 2) + a.val) (1024 * (t.val / 2 % 1) + b.val) (2048 * (t.val % 2) + k.val) := by
  rw [block_product]
  exact Finset.sum_congr rfl fun k _ => congrArg₂ (· * ·) (lhs_block m c t _ _) (rhs_block m c t _ _)

/-- After grid point `n` the scratch array holds the sum over the chunks taken so far. -/
theorem scratch_sum (c : Dev nD) (a : Fin 1024) (b : Fin 1024) : ∀ (n : ℕ) (h : n < cfg0.N),
    ((outsAt0 m c n h).2 (ix2 a b) : EReal)
      = ∑ k ∈ range (2048 * (n % 2 + 1)), term m c (1024 * (n / 2) + a.val) (1024 * (n / 2 % 1) + b.val) k := by
  intro n
  induction n with
  | zero =>
    intro h
    rw [outsAt0_A m c ⟨0, h⟩ (by dsimp only) (by dsimp only; omega) (by dsimp only; omega)]
    dsimp only
    rw [scratch_first, chunk_at m c ⟨0, h⟩]
    exact chunk_first 2048 _
  | succ n ih =>
    intro h
    have hN : n + 1 < 2 := lt_of_lt_of_eq h (show cfg0.N = 2 from N_0)
    by_cases h0 : (n + 1) % 2 = 0
    · rw [outsAt0_A m c ⟨n + 1, h⟩ h0 (by dsimp only; omega) (by dsimp only; omega)]
      dsimp only
      rw [scratch_first, chunk_at m c ⟨n + 1, h⟩]
      dsimp only
      rw [h0]
      exact chunk_first 2048 _
    · have e1 : (n + 1) % 2 = n % 2 + 1 := by omega
      have e2 : (n + 1) / 2 = n / 2 := by omega
      have e3 : (n + 1) / 2 % 1 = n / 2 % 1 := by omega
      have e : ((outsAt0 m c (n + 1) h).2 (ix2 a b) : EReal) = ((outsAt0 m c n (Nat.lt_of_succ_lt h)).2 (ix2 a b) : EReal)
          + k0_pay2 (F := Ideal) (iblk m c 0 ⟨n + 1, h⟩) (iblk m c 1 ⟨n + 1, h⟩) (ix2 a b) := by
        rw [outsAt0_B m c ⟨n + 1, h⟩ h0 (by dsimp only; omega) (by dsimp only; omega)]
        dsimp only
        rw [scratch_B]
        exact block_add _ _ _ a b
      rw [e, ih, chunk_at m c ⟨n + 1, h⟩]
      dsimp only
      rw [e1, e3, e2]
      exact chunk_next 2048 _ _

/-- At a last chunk the result's block is what the scratch array holds. -/
theorem result_eq_scratch (c : Dev nD) (n : ℕ) (h : n < cfg0.N) (h2 : n % 2 = 1) (a : Fin 1024) (b : Fin 1024) :
    ((outsAt0 m c n h).1 (ix2 a b) : EReal) = ((outsAt0 m c n h).2 (ix2 a b) : EReal) := by
  rw [outsAt0_B m c ⟨n, h⟩ (by dsimp only; omega) (by dsimp only; omega) h2]
  dsimp only
  rw [result_last, scratch_B]

/-- The reference's result at an index, as a sum over the contracted axis. -/
theorem ref_sum (x : S4096x1024.Idx → EReal) (y : S4096x1024.Idx → EReal) (i : S1024x1024.Idx) :
    (Cert.Reference9Ideal.Read.val_main_v5 (F := Ideal) x y i : EReal)
      = ∑ k : Fin 4096, x (ix2 k (i 0)) * y (ix2 k (i 1)) := by
  pointwise [Cert.Reference9Ideal.Read.val_main_v5, Cert.Reference9Ideal.Read.val_main_v4, Cert.Reference9Ideal.Read.val_main_v1, Cert.Reference9Ideal.Read.val_main_v0]
  exact Finset.sum_congr rfl fun k _ => mul_comm _ _

/-- The result array after the run: the product's whole sum at every row and column. -/
theorem result_sum (c : Dev nD) (i : S1024x1024.Idx) :
    (G2 m c i : EReal) = ∑ k ∈ range 4096, term m c (i 0).val (i 1).val k := by
  have hi0 : (i 0).val < 1024 := (i 0).isLt
  have hi1 : (i 1).val < 1024 := (i 1).isLt
  have hv : pt2Of i = 2 * (1 * ((i 0).val / 1024) + (i 1).val / 1024) + 1 := by
    show 2 * (1 * ((i 0).val / 1024 - 0) + 1 * ((i 1).val / 1024 - 0)) + 1 = _
    omega
  have hp : pt2Of i < cfg0.N := lt_of_lt_of_eq (by rw [hv]; omega) (show 2 = cfg0.N from N_0.symm)
  have hl : loc2Of i = ix2 ⟨(i 0).val % 1024, Nat.mod_lt _ (by decide)⟩ ⟨(i 1).val % 1024, Nat.mod_lt _ (by decide)⟩ := by
    funext x
    match x with
    | ⟨0, _⟩ => rfl
    | ⟨1, _⟩ => rfl
  unfold G2
  rw [dif_pos hp]
  have hs := outsAt0_sweep m c (pt2Of i) hp
  rw [← hs, hl, result_eq_scratch m c _ hp (by rw [hv]; omega), scratch_sum]
  have e0 : 1024 * (pt2Of i / 2) + (i 0).val % 1024 = (i 0).val := by rw [hv]; omega
  have e1 : 1024 * (pt2Of i / 2 % 1) + (i 1).val % 1024 = (i 1).val := by rw [hv]; omega
  have e2 : 2048 * (pt2Of i % 2 + 1) = 4096 := by rw [hv]; omega
  dsimp only
  rw [e0, e1, e2]

/-- The result array is the reference's: the derivative of the plain product, as it is read at each index. -/
theorem result_eq (c : Dev nD) :
    G2 m c = Cert.Reference9Ideal.Read.val_main_v5 (F := Ideal) (lhs m c) (rhs m c) := by
  funext i
  have e : ∑ k ∈ range 4096, term m c (i 0).val (i 1).val k
      = ∑ k : Fin 4096, lhs m c (ix2 k (i 0)) * rhs m c (ix2 k (i 1)) := by
    rw [← sum_fin]
    exact Finset.sum_congr rfl fun k _ => congrArg₂ (· * ·) (rd_of_lt (lhs m c) k.isLt (i 0).isLt) (rd_of_lt (rhs m c) k.isLt (i 1).isLt)
  exact (result_sum m c i).trans (e.trans (ref_sum (lhs m c) (rhs m c) i).symm)

/-- The claim: from the same arguments the kernel and the reference end with the same result array. -/
theorem algebraic : Cert.algebraic_Kernel9Ideal_Reference9Ideal := by
  intro m g m' g' _ h
  refine ⟨fun c => G2 m c, run m g, (θ_run _ _ _).mono (fun r hr c => ?_) (Cert.Reference9Ideal.Value.run m' g')⟩
  obtain ⟨h0, h1⟩ := h c
  obtain ⟨hv, ha⟩ := hr c
  refine ⟨?_, ha⟩
  rw [hv, h0, h1]
  exact (result_eq m c).symm

end Cert.Kernel9Ideal.Product

end
-- ==== Proof.ScanSums.lean ====
/-
  Sums over the reals behind the gradient of the state-space recurrence, taken chunk by chunk of 256 tokens from the
  last chunk to the first: the part of a sum over later tokens that lies in later chunks is carried in a state.
-/
module

public import Mathlib.Analysis.SpecialFunctions.Exp
public import Mathlib.Data.EReal.Operations
public import Mathlib.Algebra.BigOperators.Intervals

@[expose] public section

noncomputable section

namespace Cert.Scan

open Finset

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The decay from token `S` to token `T`: zero unless `T` is `S` or later; `P n` is the sum of the increments of the
    first `n` tokens. -/
def decay (P : ℕ → ℝ) (T S : ℕ) : ℝ := if S ≤ T then Real.exp (P (T + 1) - P (S + 1)) else 0

/-- What later chunks hand to chunk `k`: the sum over their tokens of the decay since the end of chunk `k` times `f`. -/
def carry (P : ℕ → ℝ) (f : ℕ → ℝ) (k : ℕ) : ℝ :=
  ∑ T ∈ Ico (256 * (k + 1)) 4352, Real.exp (P (T + 1) - P (256 * (k + 1))) * f T

theorem carry_last (P f : ℕ → ℝ) : carry P f 16 = 0 := by
  unfold carry
  norm_num

/-- A sum over all tokens of something that is zero before token `256 k + s`: the chunk's part and the later chunks'. -/
theorem sum_split (f : ℕ → ℝ) (k s : ℕ) (hk : k ≤ 16) (h : ∀ T, T < 256 * k + s → f T = 0) :
    ∑ T ∈ range 4352, f T = ∑ t ∈ range 256, f (256 * k + t) + ∑ T ∈ Ico (256 * (k + 1)) 4352, f T := by
  rw [range_eq_Ico, ← Finset.sum_Ico_consecutive f (Nat.zero_le (256 * k)) (by omega : 256 * k ≤ 4352),
    ← Finset.sum_Ico_consecutive f (by omega : 256 * k ≤ 256 * (k + 1)) (by omega : 256 * (k + 1) ≤ 4352),
    Finset.sum_eq_zero (s := Ico 0 (256 * k)) (fun T hT => h T (by have := (mem_Ico.mp hT).2; omega)), zero_add,
    Finset.sum_Ico_eq_sum_range f (256 * k) (256 * (k + 1)), show 256 * (k + 1) - 256 * k = 256 by omega]

/-- Going one chunk back: the carried sum decays over the chunk and gains the chunk's own tokens. -/
theorem carry_step (P f : ℕ → ℝ) (k : ℕ) (hk : k + 1 ≤ 16) :
    Real.exp (P (256 * (k + 1) + 256) - P (256 * (k + 1))) * carry P f (k + 1)
        + ∑ t ∈ range 256, Real.exp (P (256 * (k + 1) + t + 1) - P (256 * (k + 1))) * f (256 * (k + 1) + t)
      = carry P f k := by
  unfold carry
  rw [← Finset.sum_Ico_consecutive _ (by omega : 256 * (k + 1) ≤ 256 * (k + 1 + 1)) (by omega : 256 * (k + 1 + 1) ≤ 4352),
    Finset.sum_Ico_eq_sum_range _ (256 * (k + 1)) (256 * (k + 1 + 1)), show 256 * (k + 1 + 1) - 256 * (k + 1) = 256 by omega,
    add_comm, Finset.mul_sum]
  refine congrArg₂ (· + ·) rfl (Finset.sum_congr rfl fun T _ => ?_)
  rw [← mul_assoc, ← Real.exp_add, show 256 * (k + 1) + 256 = 256 * (k + 1 + 1) by omega]
  congr 2
  ring

/-- The gradient at token `256 k + s`: the chunk's own part and the carried one make up the sum over all tokens. -/
theorem chunk_total {n : ℕ} (P : ℕ → ℝ) (α : ℕ → Fin n → ℝ) (b : Fin n → ℝ) (y : ℕ → ℝ) (k s : ℕ) (hk : k ≤ 16) (hs : s < 256) :
    (∑ t ∈ range 256, (∑ i, b i * α (256 * k + t) i) * decay P (256 * k + t) (256 * k + s) * y (256 * k + t))
        + Real.exp (P (256 * k + 256) - P (256 * k + s + 1)) * ∑ i, b i * carry P (fun T => α T i * y T) k
      = ∑ T ∈ range 4352, (∑ i, b i * α T i) * decay P T (256 * k + s) * y T := by
  rw [sum_split (fun T => (∑ i, b i * α T i) * decay P T (256 * k + s) * y T) k s hk]
  · congr 1
    unfold carry
    simp only [Finset.mul_sum, Finset.sum_mul]
    rw [Finset.sum_comm]
    refine Finset.sum_congr rfl fun T hT => Finset.sum_congr rfl fun i _ => ?_
    have hT' := (mem_Ico.mp hT).1
    rw [decay, if_pos (by omega), show 256 * k + 256 = 256 * (k + 1) by omega]
    have e : Real.exp (P (T + 1) - P (256 * k + s + 1))
        = Real.exp (P (256 * (k + 1)) - P (256 * k + s + 1)) * Real.exp (P (T + 1) - P (256 * (k + 1))) := by
      rw [← Real.exp_add]; congr 1; ring
    rw [e]
    ring
  · intro T hT
    rw [decay, if_neg (by omega)]
    ring

end Cert.Scan

end
-- ==== Proof.ScanHead.lean ====
/-
  One head of one chunk of the recurrence's gradient: the vectors the kernel computes for it, as functions of the
  head's columns of the chunk's arrays, and their entries where those columns hold reals.
-/
module

public import proofs.«01_k».proof.Proof.Gen.Kernel5Ideal.Value
public import proofs.«01_k».proof.Proof.ScanSums
public import Idealize.ShloMosaic.Lib.Pointwise

@[expose] public section

set_option maxRecDepth 16384

noncomputable section

namespace Cert.Scan

open Idealize.ShloMosaic Idealize.ShloMosaic.TcCoe Finset
open Cert.Kernel5Ideal Cert.Kernel5Ideal.Gen

/-! ## The vectors -/

section Vectors
variable {F : FTy → Type} [FloatOps F]

/-- The decays from a chunk's tokens (rows) to its later tokens (columns), from the running sums of the increments. -/
def decayV (cc : FVec F S256x1 .f32) (cr : FVec F S1x256 .f32) : FVec F S256x256 .f32 :=
  exp (select (cmpi .sle (iota .tc S256x256 32 [0] iota_S256x256_d0_w32) (iota .tc S256x256 32 [1] iota_S256x256_d1_w32))
    (subf (broadcastTo S256x256 cr broadcasts_S1x256_S256x256) (broadcastTo S256x256 cc broadcasts_S256x1_S256x256))
    (broadcast S256x256 (Scalar.ofBits .f32 0xFF800000#32)))

/-- `x * dt`. -/
def xdtV (x : FVec F S256x64 .f32) (dt : FVec F S256x1 .f32) : FVec F S256x64 .f32 :=
  mulf x (broadcastTo S256x64 dt broadcasts_S256x1_S256x64)

/-- The gradient at `x * dt`. -/
def dxdtV (bg cg : FVec F S256x128 .f32) (cc : FVec F S256x1 .f32) (cr : FVec F S1x256 .f32)
    (dc : FVec F S256x1 .f32) (dh : FVec F S64x128 .f32) (dy : FVec F S256x64 .f32) : FVec F S256x64 .f32 :=
  addf
    (matmul dot_S256x256_S256x64_S256x64_1_0_0_1_n_n none
      (truncf .bf16 (mulf (matmul dot_S256x128_S256x128_S256x256_1_1_0_0_n_n none (truncf .bf16 bg bitsLt_bf16_f32)
        (truncf .bf16 cg bitsLt_bf16_f32) (constant S256x256 .f32 0x00000000#32)) (decayV cc cr)) bitsLt_bf16_f32)
      (truncf .bf16 dy bitsLt_bf16_f32) (constant S256x64 .f32 0x00000000#32))
    (mulf (broadcastTo S256x64 dc broadcasts_S256x1_S256x64)
      (matmul dot_S256x128_S64x128_S256x64_1_1_0_0_n_n none (truncf .bf16 bg bitsLt_bf16_f32)
        (truncf .bf16 dh bitsLt_bf16_f32) (constant S256x64 .f32 0x00000000#32)))

/-- The sums over a head's columns of the gradient times `x`: what the gradient gives `dt`. -/
def ddtV (x dxdt : FVec F S256x64 .f32) : FVec F S256x1 .f32 :=
  shapeCast S256x1 (multiReduction .add [1] S256 (mulf dxdt x) 0x00000000#32 reduces_S256x64_S256 (.inl rfl) rfl)
    shapeCasts_S256_S256x1

/-- The gradient at a group's input matrix, `acc` before this head. -/
def dbV (acc cg : FVec F S256x128 .f32) (cc : FVec F S256x1 .f32) (cr : FVec F S1x256 .f32)
    (dc dt : FVec F S256x1 .f32) (dh : FVec F S64x128 .f32) (x dy : FVec F S256x64 .f32) : FVec F S256x128 .f32 :=
  addf
    (addf acc (matmul dot_S256x256_S256x128_S256x128_1_0_0_1_n_n none
      (truncf .bf16 (mulf (matmul dot_S256x64_S256x64_S256x256_1_1_0_0_n_n none (truncf .bf16 (xdtV x dt) bitsLt_bf16_f32)
        (truncf .bf16 dy bitsLt_bf16_f32) (constant S256x256 .f32 0x00000000#32)) (decayV cc cr)) bitsLt_bf16_f32)
      (truncf .bf16 cg bitsLt_bf16_f32) (constant S256x128 .f32 0x00000000#32)))
    (mulf (broadcastTo S256x128 dc broadcasts_S256x1_S256x128)
      (matmul dot_S256x64_S64x128_S256x128_1_0_0_1_n_n none (truncf .bf16 (xdtV x dt) bitsLt_bf16_f32)
        (truncf .bf16 dh bitsLt_bf16_f32) (constant S256x128 .f32 0x00000000#32)))

/-- The gradient at the state the chunk starts from. -/
def dhV (er : FVec F S1x256 .f32) (et : FVec F S1x1 .f32) (cg : FVec F S256x128 .f32) (dh : FVec F S64x128 .f32)
    (dyt : FVec F S1x64x256 .f32) : FVec F S1x64x128 .f32 :=
  shapeCast S1x64x128
    (addf (mulf (broadcastTo S64x128 et broadcasts_S1x1_S64x128) dh)
      (matmul dot_S64x256_S256x128_S64x128_1_0_0_1_n_n none
        (truncf .bf16 (mulf (shapeCast S64x256 dyt shapeCasts_S1x64x256_S64x256)
          (broadcastTo S64x256 er broadcasts_S1x256_S64x256)) bitsLt_bf16_f32)
        (truncf .bf16 cg bitsLt_bf16_f32) (constant S64x128 .f32 0x00000000#32)))
    shapeCasts_S64x128_S1x64x128

end Vectors

/-! ## Their entries over the reals -/

/-- The decay from token `s` of a chunk to token `t`, from the running sums `q`. -/
def ltR (q : ℕ → ℝ) (s t : ℕ) : ℝ := if s ≤ t then Real.exp (q t - q s) else 0

def dxdtR (b c : ℕ → ℕ → ℝ) (q : ℕ → ℝ) (dh dy : ℕ → ℕ → ℝ) (s p : ℕ) : ℝ :=
  ∑ t ∈ range 256, (∑ n ∈ range 128, b s n * c t n) * ltR q s t * dy t p
    + Real.exp (q 255 - q s) * ∑ n ∈ range 128, b s n * dh p n

def ddtR (x : ℕ → ℕ → ℝ) (d : ℕ → ℕ → ℝ) (s : ℕ) : ℝ := ∑ p ∈ range 64, d s p * x s p

def dbR (c : ℕ → ℕ → ℝ) (q dt : ℕ → ℝ) (dh x dy : ℕ → ℕ → ℝ) (s n : ℕ) : ℝ :=
  ∑ t ∈ range 256, (∑ p ∈ range 64, x s p * dt s * dy t p) * ltR q s t * c t n
    + Real.exp (q 255 - q s) * ∑ p ∈ range 64, x s p * dt s * dh p n

def dhR (c : ℕ → ℕ → ℝ) (q : ℕ → ℝ) (dh dy : ℕ → ℕ → ℝ) (p n : ℕ) : ℝ :=
  Real.exp (q 255) * dh p n + ∑ t ∈ range 256, dy t p * Real.exp (q t) * c t n

/-- A sum of the first naturals' values, read in the extended reals over the indices below a bound. -/
theorem coe_range (n : ℕ) (f : ℕ → ℝ) : ((∑ i ∈ range n, f i : ℝ) : EReal) = ∑ i : Fin n, ((f i : ℝ) : EReal) := by
  rw [Finset.sum_range, coe_sum]

theorem exp_select (s t : Fin 256) (a : ℝ) :
    Ideal.exp (Scalar.select (IntOp.cmpi .sle (BitVec.ofNat 32 s) (BitVec.ofNat 32 t)) (a : EReal)
      (Ideal.ofBits .f32 0xFF800000#32)) = ((if s.val ≤ t.val then Real.exp a else 0 : ℝ) : EReal) := by
  have e : Ideal.ofBits .f32 0xFF800000#32 = ⊥ := by simp [Ideal.ofBits, Ideal.ieee]
  rw [WordCmp.cmpi_sle_ofNat (by have := s.isLt; norm_num; omega) (by have := t.isLt; norm_num; omega), e]
  by_cases h : s.val ≤ t.val
  · simp [h, Scalar.select]
  · simp [h, Scalar.select]

section Values
variable {b c dh dy x : ℕ → ℕ → ℝ} {q dt : ℕ → ℝ}
variable {bg cg : FVec Ideal S256x128 .f32} {cc : FVec Ideal S256x1 .f32} {cr : FVec Ideal S1x256 .f32}
variable {dc dtv : FVec Ideal S256x1 .f32} {dhv : FVec Ideal S64x128 .f32} {xv dyv : FVec Ideal S256x64 .f32}

theorem dxdtV_real (hb : ∀ (s : Fin 256) (n : Fin 128), bg (ix2 s n) = ((b s n : ℝ) : EReal))
    (hc : ∀ (s : Fin 256) (n : Fin 128), cg (ix2 s n) = ((c s n : ℝ) : EReal))
    (hcc : ∀ s : Fin 256, cc (ix2 s 0) = ((q s : ℝ) : EReal)) (hcr : ∀ s : Fin 256, cr (ix2 0 s) = ((q s : ℝ) : EReal))
    (hdc : ∀ s : Fin 256, dc (ix2 s 0) = ((Real.exp (q 255 - q s) : ℝ) : EReal))
    (hdh : ∀ (p : Fin 64) (n : Fin 128), dhv (ix2 p n) = ((dh p n : ℝ) : EReal))
    (hdy : ∀ (s : Fin 256) (p : Fin 64), dyv (ix2 s p) = ((dy s p : ℝ) : EReal)) (s : Fin 256) (p : Fin 64) :
    dxdtV bg cg cc cr dc dhv dyv (ix2 s p) = ((dxdtR b c q dh dy s p : ℝ) : EReal) := by
  pointwise [dxdtV, decayV]
  simp only [hb, hc, hcc, hcr, hdc, hdh, hdy, ← EReal.coe_sub, exp_select, dxdtR, ltR, EReal.coe_add, EReal.coe_mul, coe_range]

theorem dxV_real {d : ℕ → ℕ → ℝ} {dv : FVec Ideal S256x64 .f32} (hd : ∀ (s : Fin 256) (p : Fin 64), dv (ix2 s p) = ((d s p : ℝ) : EReal))
    (hdt : ∀ s : Fin 256, dtv (ix2 s 0) = ((dt s : ℝ) : EReal)) (s : Fin 256) (p : Fin 64) :
    xdtV dv dtv (ix2 s p) = ((d s p * dt s : ℝ) : EReal) := by
  pointwise [xdtV]
  simp only [hd, hdt, EReal.coe_mul]

theorem ddtV_real {d : ℕ → ℕ → ℝ} {dv : FVec Ideal S256x64 .f32} (hd : ∀ (s : Fin 256) (p : Fin 64), dv (ix2 s p) = ((d s p : ℝ) : EReal))
    (hx : ∀ (s : Fin 256) (p : Fin 64), xv (ix2 s p) = ((x s p : ℝ) : EReal)) (s : Fin 256) :
    ddtV xv dv (ix2 s 0) = ((ddtR x d s : ℝ) : EReal) := by
  pointwise [ddtV]
  simp only [hd, hx, ddtR, EReal.coe_mul, coe_range]

theorem dbV_real {acc : FVec Ideal S256x128 .f32} {a : ℕ → ℕ → ℝ}
    (ha : ∀ (s : Fin 256) (n : Fin 128), acc (ix2 s n) = ((a s n : ℝ) : EReal))
    (hc : ∀ (s : Fin 256) (n : Fin 128), cg (ix2 s n) = ((c s n : ℝ) : EReal))
    (hcc : ∀ s : Fin 256, cc (ix2 s 0) = ((q s : ℝ) : EReal)) (hcr : ∀ s : Fin 256, cr (ix2 0 s) = ((q s : ℝ) : EReal))
    (hdc : ∀ s : Fin 256, dc (ix2 s 0) = ((Real.exp (q 255 - q s) : ℝ) : EReal))
    (hdt : ∀ s : Fin 256, dtv (ix2 s 0) = ((dt s : ℝ) : EReal))
    (hdh : ∀ (p : Fin 64) (n : Fin 128), dhv (ix2 p n) = ((dh p n : ℝ) : EReal))
    (hx : ∀ (s : Fin 256) (p : Fin 64), xv (ix2 s p) = ((x s p : ℝ) : EReal))
    (hdy : ∀ (s : Fin 256) (p : Fin 64), dyv (ix2 s p) = ((dy s p : ℝ) : EReal)) (s : Fin 256) (n : Fin 128) :
    dbV acc cg cc cr dc dtv dhv xv dyv (ix2 s n) = ((a s n + dbR c q dt dh x dy s n : ℝ) : EReal) := by
  pointwise [dbV, decayV, xdtV]
  simp only [ha, hx, hdt, hc, hcc, hcr, hdc, hdh, hdy, ← EReal.coe_sub, exp_select, dbR, ltR, EReal.coe_add, EReal.coe_mul,
    coe_range, add_assoc]

theorem dhV_real {er : FVec Ideal S1x256 .f32} {et : FVec Ideal S1x1 .f32} {dyt : FVec Ideal S1x64x256 .f32}
    (her : ∀ s : Fin 256, er (ix2 0 s) = ((Real.exp (q s) : ℝ) : EReal)) (het : et (ix2 0 0) = ((Real.exp (q 255) : ℝ) : EReal))
    (hc : ∀ (s : Fin 256) (n : Fin 128), cg (ix2 s n) = ((c s n : ℝ) : EReal))
    (hdh : ∀ (p : Fin 64) (n : Fin 128), dhv (ix2 p n) = ((dh p n : ℝ) : EReal))
    (hdy : ∀ (s : Fin 256) (p : Fin 64), dyt (ix3 0 p s) = ((dy s p : ℝ) : EReal)) (p : Fin 64) (n : Fin 128) :
    dhV er et cg dhv dyt (ix3 0 p n) = ((dhR c q dh dy p n : ℝ) : EReal) := by
  pointwise [dhV]
  simp only [her, het, hc, hdh, hdy, dhR, EReal.coe_add, EReal.coe_mul, coe_range]

end Values

end Cert.Scan
end
-- ==== Proof.ScanBlock.lean ====
/-
  One chunk of the recurrence's gradient: what the kernel's stores leave in its output blocks and in the carried state,
  over the reals, from the chunk's blocks of the arguments and the state carried in.
-/
module

public import proofs.«01_k».proof.Proof.ScanHead
public import Idealize.ShloMosaic.Lib.Pipeline.ReadBack

@[expose] public section

set_option maxRecDepth 16384

noncomputable section

namespace Cert.Scan

open Idealize.ShloMosaic Idealize.ShloMosaic.TcCoe Finset
open Cert.Kernel5Ideal Cert.Kernel5Ideal.Gen

/-! ## Columns of a chunk's blocks -/

/-- The group of a head: four heads share one input and one output matrix. -/
def grp (h : Fin 32) : Fin 8 := ⟨h.val / 4, by omega⟩

theorem inb64 (h : Fin 32) : ∀ a, (![0, 64 * h.val] : Fin 2 → Nat) a + S256x64.size a ≤ S256x2048.size a := by
  intro a; fin_cases a
  · show 0 + 256 ≤ 256; omega
  · show 64 * h.val + 64 ≤ 2048; omega
theorem inb128 (g : Fin 8) : ∀ a, (![0, 128 * g.val] : Fin 2 → Nat) a + S256x128.size a ≤ S256x1024.size a := by
  intro a; fin_cases a
  · show 0 + 256 ≤ 256; omega
  · show 128 * g.val + 128 ≤ 1024; omega
theorem inbT (h : Fin 32) : ∀ a, (![0, 64 * h.val, 0] : Fin 3 → Nat) a + S1x64x256.size a ≤ S1x2048x256.size a := by
  intro a; fin_cases a
  · show 0 + 1 ≤ 1; omega
  · show 64 * h.val + 64 ≤ 2048; omega
  · show 0 + 256 ≤ 256; omega
theorem inbS (h : Fin 32) : ∀ a, (![h.val, 0, 0] : Fin 3 → Nat) a + S1x64x128.size a ≤ S32x64x128.size a := by
  intro a; fin_cases a
  · show h.val + 1 ≤ 32; omega
  · show 0 + 64 ≤ 64; omega
  · show 0 + 128 ≤ 128; omega
theorem inbD (h : Fin 32) : ∀ a, (![0, h.val] : Fin 2 → Nat) a + S256x1.size a ≤ S256x32.size a := by
  intro a; fin_cases a
  · show 0 + 256 ≤ 256; omega
  · show h.val + 1 ≤ 32; omega
theorem slc (h : Fin 32) : S256x32.Slices ![0, h.val] S256x1 := ⟨rfl, inbD h⟩
theorem slr (h : Fin 32) : S32x256.Slices ![h.val, 0] S1x256 := ⟨rfl, by
  intro a; fin_cases a
  · show h.val + 1 ≤ 32; omega
  · show 0 + 256 ≤ 256; omega⟩
theorem sls (h : Fin 32) : S32x1.Slices ![h.val, 0] S1x1 := ⟨rfl, by
  intro a; fin_cases a
  · show h.val + 1 ≤ 32; omega
  · show 0 + 1 ≤ 1; omega⟩

section Vectors
variable {F : FTy → Type} [FloatOps F]

/-- A head's columns of a block of 2048, a group's of a block of 1024, a head's rows of a transposed block, and a
    head's part of the carried state, as the kernel loads them. -/
def cols64 (m : Memref sig .tc .vmem S256x2048 .f32) (hm : m.IsWhole) (x : Vec F S256x2048 .f32) (h : Fin 32) : Vec F S256x64 .f32 :=
  View.readAt (Elt F) m.view (Rect.unit (s := S256x2048) ![0, 64 * h.val] S256x64.size (inb64 h)).toLoadRect (hm.unread x)
def cols128 (m : Memref sig .tc .vmem S256x1024 .f32) (hm : m.IsWhole) (x : Vec F S256x1024 .f32) (g : Fin 8) : Vec F S256x128 .f32 :=
  View.readAt (Elt F) m.view (Rect.unit (s := S256x1024) ![0, 128 * g.val] S256x128.size (inb128 g)).toLoadRect (hm.unread x)
def rowsT (m : Memref sig .tc .vmem S1x2048x256 .f32) (hm : m.IsWhole) (x : Vec F S1x2048x256 .f32) (h : Fin 32) : Vec F S1x64x256 .f32 :=
  View.readAt (Elt F) m.view (Rect.unit (s := S1x2048x256) ![0, 64 * h.val, 0] S1x64x256.size (inbT h)).toLoadRect (hm.unread x)
def stateOf (m : Memref sig .tc .vmem S32x64x128 .f32) (hm : m.IsWhole) (x : Vec F S32x64x128 .f32) (h : Fin 32) : Vec F S1x64x128 .f32 :=
  View.readAt (Elt F) m.view (Rect.unit (s := S32x64x128) ![h.val, 0, 0] S1x64x128.size (inbS h)).toLoadRect (hm.unread x)

variable (F) in
/-- The chunk's running sums of the increments and their exponentials, and its `dt`: tokens down (`c`), tokens across (`r`). -/
structure Sums where
  c : FVec F S256x32 .f32
  r : FVec F S32x256 .f32
  d : FVec F S256x32 .f32
  e : FVec F S32x256 .f32
  t : FVec F S32x1 .f32
  dt : FVec F S256x32 .f32

/-- What the kernel computes for head `h`, from the chunk's sums and the head's columns. -/
def dxdtH (P : Sums F) (h : Fin 32) (bg cg : Vec F S256x128 .f32) (dh : Vec F S1x64x128 .f32) (dy : Vec F S256x64 .f32) : FVec F S256x64 .f32 :=
  dxdtV bg cg (extractStridedSlice S256x1 ![0, h.val] P.c (slc h)) (extractStridedSlice S1x256 ![h.val, 0] P.r (slr h))
    (extractStridedSlice S256x1 ![0, h.val] P.d (slc h)) (shapeCast S64x128 dh shapeCasts_S1x64x128_S64x128) dy
def dxH (P : Sums F) (h : Fin 32) (bg cg : Vec F S256x128 .f32) (dh : Vec F S1x64x128 .f32) (dy : Vec F S256x64 .f32) : FVec F S256x64 .f32 :=
  xdtV (dxdtH P h bg cg dh dy) (extractStridedSlice S256x1 ![0, h.val] P.dt (slc h))
def ddtH (P : Sums F) (h : Fin 32) (bg cg : Vec F S256x128 .f32) (dh : Vec F S1x64x128 .f32) (x dy : Vec F S256x64 .f32) : FVec F S256x1 .f32 :=
  ddtV x (dxdtH P h bg cg dh dy)
def dbH (P : Sums F) (h : Fin 32) (acc : FVec F S256x128 .f32) (cg : Vec F S256x128 .f32) (dh : Vec F S1x64x128 .f32) (x dy : Vec F S256x64 .f32) :
    FVec F S256x128 .f32 :=
  dbV acc cg (extractStridedSlice S256x1 ![0, h.val] P.c (slc h)) (extractStridedSlice S1x256 ![h.val, 0] P.r (slr h))
    (extractStridedSlice S256x1 ![0, h.val] P.d (slc h)) (extractStridedSlice S256x1 ![0, h.val] P.dt (slc h))
    (shapeCast S64x128 dh shapeCasts_S1x64x128_S64x128) x dy
def dhH (P : Sums F) (h : Fin 32) (cg : Vec F S256x128 .f32) (dh : Vec F S1x64x128 .f32) (dyt : Vec F S1x64x256 .f32) : FVec F S1x64x128 .f32 :=
  dhV (extractStridedSlice S1x256 ![h.val, 0] P.e (slr h)) (extractStridedSlice S1x1 ![h.val, 0] P.t (sls h)) cg
    (shapeCast S64x128 dh shapeCasts_S1x64x128_S64x128) dyt

/-- The sums as functions of the chunk's blocks of `dt` and of `a`. -/
def sumsOf (x4 : Vec F S1x256x32 .f32) (x5 : Vec F S1x32x256 .f32) (x6 : Vec F S1x32 .f32) (x7 : Vec F S32x1 .f32) : Sums F :=
  ⟨k0_pay6 x4 x6, k0_pay7 x5 x7, k0_pay10 x4 x6, k0_pay9 x5 x7, k0_pay11 x5 x7, k0_pay3 x4⟩

end Vectors

/-! ## Over the reals -/

/-- The chunk's blocks hold reals: `X`, `B`, `C`, `DY` by token and column, `DT` by token and head, `A` by head. -/
structure Blk (X B C DT DY : ℕ → ℕ → ℝ) (A : ℕ → ℝ) (x0 : Vec Ideal S256x2048 .f32) (x2 x3 : Vec Ideal S256x1024 .f32)
    (x4 : Vec Ideal S1x256x32 .f32) (x5 : Vec Ideal S1x32x256 .f32) (x6 : Vec Ideal S1x32 .f32) (x7 : Vec Ideal S32x1 .f32)
    (x9 : Vec Ideal S256x2048 .f32) (x10 : Vec Ideal S1x2048x256 .f32) : Prop where
  h0 : ∀ (s : Fin 256) (m : Fin 2048), x0 (ix2 s m) = ((X s m : ℝ) : EReal)
  h2 : ∀ (s : Fin 256) (m : Fin 1024), x2 (ix2 s m) = ((B s m : ℝ) : EReal)
  h3 : ∀ (s : Fin 256) (m : Fin 1024), x3 (ix2 s m) = ((C s m : ℝ) : EReal)
  h4 : ∀ (s : Fin 256) (h : Fin 32), x4 (ix3 0 s h) = ((DT s h : ℝ) : EReal)
  h5 : ∀ (s : Fin 256) (h : Fin 32), x5 (ix3 0 h s) = ((DT s h : ℝ) : EReal)
  h6 : ∀ h : Fin 32, x6 (ix2 0 h) = ((A h : ℝ) : EReal)
  h7 : ∀ h : Fin 32, x7 (ix2 h 0) = ((A h : ℝ) : EReal)
  h9 : ∀ (s : Fin 256) (m : Fin 2048), x9 (ix2 s m) = ((DY s m : ℝ) : EReal)
  h10 : ∀ (s : Fin 256) (m : Fin 2048), x10 (ix3 0 m s) = ((DY s m : ℝ) : EReal)

/-- The running sum of head `h`'s increments up to token `q` of the chunk. -/
def cum (DT : ℕ → ℕ → ℝ) (A : ℕ → ℝ) (h q : ℕ) : ℝ := ∑ r ∈ range (q + 1), DT r h * A h

/-- The sums hold the reals they should. -/
structure SumsR (DT : ℕ → ℕ → ℝ) (A : ℕ → ℝ) (P : Sums Ideal) : Prop where
  c : ∀ (s : Fin 256) (h : Fin 32), P.c (ix2 s h) = ((cum DT A h s : ℝ) : EReal)
  r : ∀ (s : Fin 256) (h : Fin 32), P.r (ix2 h s) = ((cum DT A h s : ℝ) : EReal)
  d : ∀ (s : Fin 256) (h : Fin 32), P.d (ix2 s h) = ((Real.exp (cum DT A h 255 - cum DT A h s) : ℝ) : EReal)
  e : ∀ (s : Fin 256) (h : Fin 32), P.e (ix2 h s) = ((Real.exp (cum DT A h s) : ℝ) : EReal)
  t : ∀ h : Fin 32, P.t (ix2 h 0) = ((Real.exp (cum DT A h 255) : ℝ) : EReal)
  dt : ∀ (s : Fin 256) (h : Fin 32), P.dt (ix2 s h) = ((DT s h : ℝ) : EReal)

theorem bit_real (p : Prop) [Decidable p] :
    FloatOps.sitofp (F := Ideal) .f32 (BitVec.setWidth 32 (BitVec.ofBool (decide p))) = ((if p then 1 else 0 : ℝ) : EReal) := by
  by_cases h : p
  · simp only [h, decide_true, if_true]
    show (((BitVec.setWidth 32 (BitVec.ofBool true)).toInt : ℝ) : EReal) = _
    rw [show (BitVec.setWidth 32 (BitVec.ofBool true)).toInt = 1 by decide, Int.cast_one]
  · simp only [h, decide_false, if_false]
    show (((BitVec.setWidth 32 (BitVec.ofBool false)).toInt : ℝ) : EReal) = _
    rw [show (BitVec.setWidth 32 (BitVec.ofBool false)).toInt = 0 by decide, Int.cast_zero]

theorem sum_le (f : ℕ → ℝ) (q : Fin 256) : ∑ r ∈ range 256, (if r ≤ q.val then 1 else 0) * f r = ∑ r ∈ range (q.val + 1), f r := by
  have hq := q.isLt
  rw [← Finset.sum_subset (s₁ := range (q.val + 1)) (fun r hr => by simp only [mem_range] at hr ⊢; omega)
    (fun r _ hr => by simp only [mem_range] at hr; rw [if_neg (by omega), zero_mul])]
  exact Finset.sum_congr rfl fun r hr => by simp only [mem_range] at hr; rw [if_pos (by omega), one_mul]

section Sums
variable {DT : ℕ → ℕ → ℝ} {A : ℕ → ℝ}
variable {x4 : Vec Ideal S1x256x32 .f32} {x5 : Vec Ideal S1x32x256 .f32} {x6 : Vec Ideal S1x32 .f32} {x7 : Vec Ideal S32x1 .f32}
variable (h4 : ∀ (s : Fin 256) (h : Fin 32), x4 (ix3 0 s h) = ((DT s h : ℝ) : EReal))
variable (h5 : ∀ (s : Fin 256) (h : Fin 32), x5 (ix3 0 h s) = ((DT s h : ℝ) : EReal))
variable (h6 : ∀ h : Fin 32, x6 (ix2 0 h) = ((A h : ℝ) : EReal)) (h7 : ∀ h : Fin 32, x7 (ix2 h 0) = ((A h : ℝ) : EReal))

include h4 h6 in
theorem cumc_real (q : Fin 256) (h : Fin 32) : k0_pay6 (F := Ideal) x4 x6 (ix2 q h) = ((cum DT A h q : ℝ) : EReal) := by
  pointwise [k0_pay6, k0_pay4, k0_pay3]
  have e : ∀ r : Fin 256, IntOp.cmpi CmpIPredicate.sge (BitVec.ofNat 32 q.val) (BitVec.ofNat 32 r.val) = BitVec.ofBool (decide (r.val ≤ q.val)) :=
    fun r => WordCmp.cmpi_sge_ofNat (by have := q.isLt; norm_num; omega) (by have := r.isLt; norm_num; omega)
  simp only [e, bit_real, h4, h6, cum, ← EReal.coe_mul]
  rw [← sum_le (fun r => DT r h * A h) q, coe_range]

include h5 h7 in
theorem cumr_real (q : Fin 256) (h : Fin 32) : k0_pay7 (F := Ideal) x5 x7 (ix2 h q) = ((cum DT A h q : ℝ) : EReal) := by
  pointwise [k0_pay7, k0_pay5]
  have e : ∀ r : Fin 256, IntOp.cmpi CmpIPredicate.sle (BitVec.ofNat 32 r.val) (BitVec.ofNat 32 q.val) = BitVec.ofBool (decide (r.val ≤ q.val)) :=
    fun r => WordCmp.cmpi_sle_ofNat (by have := r.isLt; norm_num; omega) (by have := q.isLt; norm_num; omega)
  simp only [e, bit_real, h5, h7, cum, ← EReal.coe_mul]
  rw [← sum_le (fun r => DT r h * A h) q, coe_range]
  exact Finset.sum_congr rfl fun r _ => by rw [mul_comm]

include h4 h5 h6 h7 in
theorem sums_real : SumsR DT A (sumsOf x4 x5 x6 x7) where
  c := cumc_real h4 h6
  r := cumr_real h5 h7
  d s h := by
    show k0_pay10 (F := Ideal) x4 x6 (ix2 s h) = _
    pointwise [k0_pay10, k0_pay4, k0_pay3]
    simp only [cumc_real h4 h6, h4, h6]
    rw [show cum DT A h 255 = ∑ r ∈ range 256, DT r h * A h from rfl, ← Ideal.exp_coe, EReal.coe_sub, coe_range]
    simp only [EReal.coe_mul]
  e s h := by
    show k0_pay9 (F := Ideal) x5 x7 (ix2 h s) = _
    pointwise [k0_pay9]
    rw [cumr_real h5 h7, Ideal.exp_coe]
  t h := by
    show k0_pay11 (F := Ideal) x5 x7 (ix2 h 0) = _
    pointwise [k0_pay11, k0_pay5]
    simp only [h5, h7]
    rw [show cum DT A h 255 = ∑ r ∈ range 256, DT r h * A h from rfl, ← Ideal.exp_coe, coe_range]
    simp only [EReal.coe_mul]
  dt s h := by
    show k0_pay3 (F := Ideal) x4 (ix2 s h) = _
    pointwise [k0_pay3]
    exact h4 s h

end Sums

section Columns
theorem cols64_apply (m : Memref sig .tc .vmem S256x2048 .f32) (hm : m.IsWhole) (x : Vec Ideal S256x2048 .f32) (h : Fin 32)
    (s : Fin 256) (p : Fin 64) : cols64 m hm x h (ix2 s p) = x (ix2 s ⟨64 * h.val + p.val, by omega⟩) := by
  unfold cols64
  rw [View.readAt_eq_ld, hm.read_unread]
  refine congrArg x (funext fun a => Fin.ext ?_)
  fin_cases a
  · show 0 + 1 * s.val = s.val; omega
  · show 64 * h.val + 1 * p.val = 64 * h.val + p.val; omega
theorem cols128_apply (m : Memref sig .tc .vmem S256x1024 .f32) (hm : m.IsWhole) (x : Vec Ideal S256x1024 .f32) (g : Fin 8)
    (s : Fin 256) (n : Fin 128) : cols128 m hm x g (ix2 s n) = x (ix2 s ⟨128 * g.val + n.val, by omega⟩) := by
  unfold cols128
  rw [View.readAt_eq_ld, hm.read_unread]
  refine congrArg x (funext fun a => Fin.ext ?_)
  fin_cases a
  · show 0 + 1 * s.val = s.val; omega
  · show 128 * g.val + 1 * n.val = 128 * g.val + n.val; omega
theorem rowsT_apply (m : Memref sig .tc .vmem S1x2048x256 .f32) (hm : m.IsWhole) (x : Vec Ideal S1x2048x256 .f32) (h : Fin 32)
    (s : Fin 256) (p : Fin 64) : rowsT m hm x h (ix3 0 p s) = x (ix3 0 ⟨64 * h.val + p.val, by omega⟩ s) := by
  unfold rowsT
  rw [View.readAt_eq_ld, hm.read_unread]
  refine congrArg x (funext fun a => Fin.ext ?_)
  fin_cases a
  · rfl
  · show 64 * h.val + 1 * p.val = 64 * h.val + p.val; omega
  · show 0 + 1 * s.val = s.val; omega
theorem stateOf_apply (m : Memref sig .tc .vmem S32x64x128 .f32) (hm : m.IsWhole) (x : Vec Ideal S32x64x128 .f32) (h : Fin 32)
    (p : Fin 64) (n : Fin 128) : stateOf m hm x h (ix3 0 p n) = x (ix3 h p n) := by
  unfold stateOf
  rw [View.readAt_eq_ld, hm.read_unread]
  refine congrArg x (funext fun a => Fin.ext ?_)
  fin_cases a
  · show h.val + 1 * 0 = h.val; omega
  · show 0 + 1 * p.val = p.val; omega
  · show 0 + 1 * n.val = n.val; omega

theorem slc_apply (v : FVec Ideal S256x32 .f32) (h : Fin 32) (s : Fin 256) : extractStridedSlice S256x1 ![0, h.val] v (slc h) (ix2 s 0) = v (ix2 s h) := by
  refine congrArg v (funext fun a => Fin.ext ?_)
  fin_cases a
  · show 0 + s.val = s.val; omega
  · show h.val + 0 = h.val; omega
theorem slr_apply (v : FVec Ideal S32x256 .f32) (h : Fin 32) (s : Fin 256) : extractStridedSlice S1x256 ![h.val, 0] v (slr h) (ix2 0 s) = v (ix2 h s) := by
  refine congrArg v (funext fun a => Fin.ext ?_)
  fin_cases a
  · show h.val + 0 = h.val; omega
  · show 0 + s.val = s.val; omega
theorem sls_apply (v : FVec Ideal S32x1 .f32) (h : Fin 32) : extractStridedSlice S1x1 ![h.val, 0] v (sls h) (ix2 0 0) = v (ix2 h 0) := by
  refine congrArg v (funext fun a => Fin.ext ?_)
  fin_cases a
  · show h.val + 0 = h.val; omega
  · rfl
theorem cast_apply (v : FVec Ideal S1x64x128 .f32) (p : Fin 64) (n : Fin 128) :
    shapeCast S64x128 v shapeCasts_S1x64x128_S64x128 (ix2 p n) = v (ix3 0 p n) := by
  pointwise []
end Columns

/-! ## The head's entries -/

section Heads
variable {b c dh dy x : ℕ → ℕ → ℝ} {DT : ℕ → ℕ → ℝ} {A : ℕ → ℝ} {P : Sums Ideal} {h : Fin 32}
variable {bg cg : Vec Ideal S256x128 .f32} {dhv : Vec Ideal S1x64x128 .f32} {xv dyv : Vec Ideal S256x64 .f32} {dyt : Vec Ideal S1x64x256 .f32}
variable (hP : SumsR DT A P)
variable (hb : ∀ (s : Fin 256) (n : Fin 128), bg (ix2 s n) = ((b s n : ℝ) : EReal))
variable (hc : ∀ (s : Fin 256) (n : Fin 128), cg (ix2 s n) = ((c s n : ℝ) : EReal))
variable (hdh : ∀ (p : Fin 64) (n : Fin 128), dhv (ix3 0 p n) = ((dh p n : ℝ) : EReal))
variable (hdy : ∀ (s : Fin 256) (p : Fin 64), dyv (ix2 s p) = ((dy s p : ℝ) : EReal))
variable (hx : ∀ (s : Fin 256) (p : Fin 64), xv (ix2 s p) = ((x s p : ℝ) : EReal))
variable (hdyt : ∀ (s : Fin 256) (p : Fin 64), dyt (ix3 0 p s) = ((dy s p : ℝ) : EReal))

include hP hb hc hdh hdy in
theorem dxdtH_real (s : Fin 256) (p : Fin 64) :
    dxdtH P h bg cg dhv dyv (ix2 s p) = ((dxdtR b c (cum DT A h) dh dy s p : ℝ) : EReal) :=
  dxdtV_real hb hc (fun s => (slc_apply _ h s).trans (hP.c s h)) (fun s => (slr_apply _ h s).trans (hP.r s h))
    (fun s => (slc_apply _ h s).trans (hP.d s h)) (fun p n => (cast_apply dhv p n).trans (hdh p n)) hdy s p

include hP hb hc hdh hdy in
theorem dxH_real (s : Fin 256) (p : Fin 64) :
    dxH P h bg cg dhv dyv (ix2 s p) = ((dxdtR b c (cum DT A h) dh dy s p * DT s h : ℝ) : EReal) :=
  dxV_real (dt := fun s => DT s h) (dxdtH_real hP hb hc hdh hdy) (fun s => (slc_apply _ h s).trans (hP.dt s h)) s p

include hP hb hc hdh hdy hx in
theorem ddtH_real (s : Fin 256) :
    ddtH P h bg cg dhv xv dyv (ix2 s 0) = ((ddtR x (dxdtR b c (cum DT A h) dh dy) s : ℝ) : EReal) :=
  ddtV_real (dxdtH_real hP hb hc hdh hdy) hx s

include hP hc hdh hdy hx in
theorem dbH_real {acc : FVec Ideal S256x128 .f32} {a : ℕ → ℕ → ℝ}
    (ha : ∀ (s : Fin 256) (n : Fin 128), acc (ix2 s n) = ((a s n : ℝ) : EReal)) (s : Fin 256) (n : Fin 128) :
    dbH P h acc cg dhv xv dyv (ix2 s n) = ((a s n + dbR c (cum DT A h) (fun s => DT s h) dh x dy s n : ℝ) : EReal) :=
  dbV_real (dt := fun s => DT s h) ha hc (fun s => (slc_apply _ h s).trans (hP.c s h)) (fun s => (slr_apply _ h s).trans (hP.r s h))
    (fun s => (slc_apply _ h s).trans (hP.d s h)) (fun s => (slc_apply _ h s).trans (hP.dt s h))
    (fun p n => (cast_apply dhv p n).trans (hdh p n)) hx hdy s n

include hP hc hdh hdyt in
theorem dhH_real (p : Fin 64) (n : Fin 128) :
    dhH P h cg dhv dyt (ix3 0 p n) = ((dhR c (cum DT A h) dh dy p n : ℝ) : EReal) :=
  dhV_real (fun s => (slr_apply _ h s).trans (hP.e s h)) ((sls_apply _ h).trans (hP.t h)) hc
    (fun p n => (cast_apply dhv p n).trans (hdh p n)) hdyt p n

end Heads

end Cert.Scan
end
-- ==== Proof.ScanChunk.lean ====
/-
  The blocks one chunk of the recurrence's gradient leaves, over the reals: each word the kernel stores is the part of a
  block where it is stored, the block being a function of the chunk's arguments and the state carried in.
-/
module

public import proofs.«01_k».proof.Proof.ScanBlock

@[expose] public section

set_option maxRecDepth 16384

noncomputable section

namespace Cert.Scan

open Idealize.ShloMosaic Idealize.ShloMosaic.TcCoe Finset
open Cert.Kernel5Ideal Cert.Kernel5Ideal.Gen

/-- Columns of width `w` from block `k` on. -/
def colsR (w : ℕ) (X : ℕ → ℕ → ℝ) (k s p : ℕ) : ℝ := X s (w * k + p)

/-- The gradient at `x * dt` of head `h`, token `s` of the chunk and column `p`. -/
def dxdtC (B C DT DY : ℕ → ℕ → ℝ) (A : ℕ → ℝ) (D : ℕ → ℕ → ℕ → ℝ) (h s p : ℕ) : ℝ :=
  dxdtR (colsR 128 B (h / 4)) (colsR 128 C (h / 4)) (cum DT A h) (D h) (colsR 64 DY h) s p
/-- What head `h` gives the gradient at its group's input matrix. -/
def dbC (X C DT DY : ℕ → ℕ → ℝ) (A : ℕ → ℝ) (D : ℕ → ℕ → ℕ → ℝ) (h s n : ℕ) : ℝ :=
  dbR (colsR 128 C (h / 4)) (cum DT A h) (fun s => DT s h) (D h) (colsR 64 X h) (colsR 64 DY h) s n
/-- The gradient at the state the chunk starts from. -/
def dhC (C DT DY : ℕ → ℕ → ℝ) (A : ℕ → ℝ) (D : ℕ → ℕ → ℕ → ℝ) (h p n : ℕ) : ℝ :=
  dhR (colsR 128 C (h / 4)) (cum DT A h) (D h) (colsR 64 DY h) p n

/-- The chunk's blocks of the gradients at `x`, at the input matrices, at `dt` and at the state. -/
def dxG (B C DT DY : ℕ → ℕ → ℝ) (A : ℕ → ℝ) (D : ℕ → ℕ → ℕ → ℝ) (y : S256x2048.Idx) : EReal :=
  ((dxdtC B C DT DY A D ((y 1).val / 64) (y 0).val ((y 1).val % 64) * DT (y 0).val ((y 1).val / 64) : ℝ) : EReal)
def dbG (X C DT DY : ℕ → ℕ → ℝ) (A : ℕ → ℝ) (D : ℕ → ℕ → ℕ → ℝ) (y : S256x1024.Idx) : EReal :=
  ((∑ j ∈ range 4, dbC X C DT DY A D (4 * ((y 1).val / 128) + j) (y 0).val ((y 1).val % 128) : ℝ) : EReal)
def ddtG (X B C DT DY : ℕ → ℕ → ℝ) (A : ℕ → ℝ) (D : ℕ → ℕ → ℕ → ℝ) (y : S256x32.Idx) : EReal :=
  ((ddtR (colsR 64 X (y 1).val) (dxdtC B C DT DY A D (y 1).val) (y 0).val : ℝ) : EReal)
def dhG (C DT DY : ℕ → ℕ → ℝ) (A : ℕ → ℝ) (D : ℕ → ℕ → ℕ → ℝ) (y : S32x64x128.Idx) : EReal :=
  ((dhC C DT DY A D (y 0).val (y 1).val (y 2).val : ℝ) : EReal)

theorem zero_real (s : Fin 256) (n : Fin 128) :
    (broadcast S256x128 (Scalar.ofBits (F := Ideal) .f32 0x00000000#32) : FVec Ideal S256x128 .f32) (ix2 s n) = (((0 : ℝ)) : EReal) := by
  show Ideal.ofBits .f32 0x00000000#32 = _
  simp [Ideal.ofBits, Ideal.ieee]

section Pieces
variable {X B C DT DY : ℕ → ℕ → ℝ} {A : ℕ → ℝ} {D : ℕ → ℕ → ℕ → ℝ} {P : Sums Ideal}
variable {x0 : Vec Ideal S256x2048 .f32} {x2 x3 : Vec Ideal S256x1024 .f32}
    {x4 : Vec Ideal S1x256x32 .f32} {x5 : Vec Ideal S1x32x256 .f32} {x6 : Vec Ideal S1x32 .f32} {x7 : Vec Ideal S32x1 .f32}
    {x9 : Vec Ideal S256x2048 .f32} {x10 : Vec Ideal S1x2048x256 .f32}
variable {m1 m10 : Memref sig .tc .vmem S256x2048 .f32} {hm1 : m1.IsWhole} {hm10 : m10.IsWhole}
variable {m3 m4 : Memref sig .tc .vmem S256x1024 .f32} {hm3 : m3.IsWhole} {hm4 : m4.IsWhole}
variable {m11 : Memref sig .tc .vmem S1x2048x256 .f32} {hm11 : m11.IsWhole}
variable (hB : Blk X B C DT DY A x0 x2 x3 x4 x5 x6 x7 x9 x10) (hP : SumsR DT A P)

include hB in
theorem x_cols (h : Fin 32) (s : Fin 256) (p : Fin 64) : cols64 m1 hm1 x0 h (ix2 s p) = ((colsR 64 X h s p : ℝ) : EReal) :=
  (cols64_apply m1 hm1 x0 h s p).trans (hB.h0 s _)
include hB in
theorem dy_cols (h : Fin 32) (s : Fin 256) (p : Fin 64) : cols64 m10 hm10 x9 h (ix2 s p) = ((colsR 64 DY h s p : ℝ) : EReal) :=
  (cols64_apply m10 hm10 x9 h s p).trans (hB.h9 s _)
include hB in
theorem dyt_rows (h : Fin 32) (s : Fin 256) (p : Fin 64) : rowsT m11 hm11 x10 h (ix3 0 p s) = ((colsR 64 DY h s p : ℝ) : EReal) :=
  (rowsT_apply m11 hm11 x10 h s p).trans (hB.h10 s _)
include hB in
theorem b_cols (g : Fin 8) (s : Fin 256) (n : Fin 128) : cols128 m3 hm3 x2 g (ix2 s n) = ((colsR 128 B g s n : ℝ) : EReal) :=
  (cols128_apply m3 hm3 x2 g s n).trans (hB.h2 s _)
include hB in
theorem c_cols (g : Fin 8) (s : Fin 256) (n : Fin 128) : cols128 m4 hm4 x3 g (ix2 s n) = ((colsR 128 C g s n : ℝ) : EReal) :=
  (cols128_apply m4 hm4 x3 g s n).trans (hB.h3 s _)

include hB hP in
theorem dx_piece (h : Fin 32) {w : Vec Ideal S256x64 .f32} {dh : Vec Ideal S1x64x128 .f32}
    (hw : w = dxH P h (cols128 m3 hm3 x2 (grp h)) (cols128 m4 hm4 x3 (grp h)) dh (cols64 m10 hm10 x9 h))
    (hD : ∀ (p : Fin 64) (n : Fin 128), dh (ix3 0 p n) = ((D h p n : ℝ) : EReal)) (x : S256x64.Idx) :
    w x = dxG B C DT DY A D ((Rect.unit (s := S256x2048) ![0, 64 * h.val] S256x64.size (inb64 h)).emb x) := by
  obtain ⟨s, p, rfl⟩ : ∃ (s : Fin 256) (p : Fin 64), x = ix2 s p := ⟨x 0, x 1, eq_ix2 x⟩
  rw [hw, dxH_real hP (b_cols hB (grp h)) (c_cols hB (grp h)) hD (dy_cols hB h)]
  have e : dxG B C DT DY A D ((Rect.unit (s := S256x2048) ![0, 64 * h.val] S256x64.size (inb64 h)).emb (ix2 s p))
      = ((dxdtC B C DT DY A D ((64 * h.val + 1 * p.val) / 64) (0 + 1 * s.val) ((64 * h.val + 1 * p.val) % 64)
        * DT (0 + 1 * s.val) ((64 * h.val + 1 * p.val) / 64) : ℝ) : EReal) := rfl
  rw [e, show (64 * h.val + 1 * p.val) / 64 = h.val by omega, show (64 * h.val + 1 * p.val) % 64 = p.val by omega,
    show 0 + 1 * s.val = s.val by omega]
  rfl

include hB hP in
theorem ddt_piece (h : Fin 32) {w : Vec Ideal S256x1 .f32} {dh : Vec Ideal S1x64x128 .f32}
    (hw : w = shapeCast S256x1 (ddtH P h (cols128 m3 hm3 x2 (grp h)) (cols128 m4 hm4 x3 (grp h)) dh (cols64 m1 hm1 x0 h)
      (cols64 m10 hm10 x9 h)) shapeCasts_S256x1_S256x1)
    (hD : ∀ (p : Fin 64) (n : Fin 128), dh (ix3 0 p n) = ((D h p n : ℝ) : EReal)) (x : S256x1.Idx) :
    w x = ddtG X B C DT DY A D ((Rect.unit (s := S256x32) ![0, h.val] S256x1.size (inbD h)).emb x) := by
  obtain ⟨s, rfl⟩ : ∃ s : Fin 256, x = ix2 s 0 := ⟨x 0, (eq_ix2 x).trans (congrArg (ix2 (x 0)) (Subsingleton.elim (α := Fin 1) _ _))⟩
  have e1 (v : FVec Ideal S256x1 .f32) : shapeCast S256x1 v shapeCasts_S256x1_S256x1 (ix2 s 0) = v (ix2 s 0) := by pointwise []
  rw [hw, e1, ddtH_real hP (b_cols hB (grp h)) (c_cols hB (grp h)) hD (dy_cols hB h) (x_cols hB h)]
  have e : ddtG X B C DT DY A D ((Rect.unit (s := S256x32) ![0, h.val] S256x1.size (inbD h)).emb (ix2 s 0))
      = ((ddtR (colsR 64 X (h.val + 1 * 0)) (dxdtC B C DT DY A D (h.val + 1 * 0)) (0 + 1 * s.val) : ℝ) : EReal) := rfl
  rw [e, show 0 + 1 * s.val = s.val by omega]
  rfl

include hB hP in
theorem dbH_C (h : Fin 32) (g : Fin 8) (hg : h.val / 4 = g.val) {dh : Vec Ideal S1x64x128 .f32} {acc : FVec Ideal S256x128 .f32} (a : ℕ → ℕ → ℝ)
    (hD : ∀ (p : Fin 64) (n : Fin 128), dh (ix3 0 p n) = ((D h p n : ℝ) : EReal))
    (ha : ∀ (s : Fin 256) (n : Fin 128), acc (ix2 s n) = ((a s n : ℝ) : EReal)) (s : Fin 256) (n : Fin 128) :
    dbH P h acc (cols128 m4 hm4 x3 g) dh (cols64 m1 hm1 x0 h) (cols64 m10 hm10 x9 h) (ix2 s n)
      = ((a s n + dbC X C DT DY A D h s n : ℝ) : EReal) := by
  rw [dbH_real hP (c_cols hB g) hD (dy_cols hB h) (x_cols hB h) ha, dbC, hg]

include hB hP in
theorem db_piece (g : Fin 8) (h0 h1 h2 h3 : Fin 32) (e0 : h0.val = 4 * g.val) (e1 : h1.val = 4 * g.val + 1)
    (e2 : h2.val = 4 * g.val + 2) (e3 : h3.val = 4 * g.val + 3) {w : Vec Ideal S256x128 .f32} {d0 d1 d2 d3 : Vec Ideal S1x64x128 .f32}
    (hw : w = dbH P h3 (dbH P h2 (dbH P h1 (dbH P h0 (broadcast S256x128 (Scalar.ofBits .f32 0x00000000#32)) (cols128 m4 hm4 x3 g)
      d0 (cols64 m1 hm1 x0 h0) (cols64 m10 hm10 x9 h0)) (cols128 m4 hm4 x3 g)
      d1 (cols64 m1 hm1 x0 h1) (cols64 m10 hm10 x9 h1)) (cols128 m4 hm4 x3 g)
      d2 (cols64 m1 hm1 x0 h2) (cols64 m10 hm10 x9 h2)) (cols128 m4 hm4 x3 g)
      d3 (cols64 m1 hm1 x0 h3) (cols64 m10 hm10 x9 h3))
    (hD0 : ∀ (p : Fin 64) (n : Fin 128), d0 (ix3 0 p n) = ((D h0 p n : ℝ) : EReal))
    (hD1 : ∀ (p : Fin 64) (n : Fin 128), d1 (ix3 0 p n) = ((D h1 p n : ℝ) : EReal))
    (hD2 : ∀ (p : Fin 64) (n : Fin 128), d2 (ix3 0 p n) = ((D h2 p n : ℝ) : EReal))
    (hD3 : ∀ (p : Fin 64) (n : Fin 128), d3 (ix3 0 p n) = ((D h3 p n : ℝ) : EReal)) (x : S256x128.Idx) :
    w x = dbG X C DT DY A D ((Rect.unit (s := S256x1024) ![0, 128 * g.val] S256x128.size (inb128 g)).emb x) := by
  obtain ⟨s, n, rfl⟩ : ∃ (s : Fin 256) (n : Fin 128), x = ix2 s n := ⟨x 0, x 1, eq_ix2 x⟩
  rw [hw, dbH_C hB hP h3 g (by omega) (fun s n => 0 + dbC X C DT DY A D h0 s n + dbC X C DT DY A D h1 s n + dbC X C DT DY A D h2 s n) hD3
    (dbH_C hB hP h2 g (by omega) (fun s n => 0 + dbC X C DT DY A D h0 s n + dbC X C DT DY A D h1 s n) hD2
    (dbH_C hB hP h1 g (by omega) (fun s n => 0 + dbC X C DT DY A D h0 s n) hD1
    (dbH_C hB hP h0 g (by omega) (fun _ _ => 0) hD0 zero_real)))]
  have e : dbG X C DT DY A D ((Rect.unit (s := S256x1024) ![0, 128 * g.val] S256x128.size (inb128 g)).emb (ix2 s n))
      = ((∑ j ∈ range 4, dbC X C DT DY A D (4 * ((128 * g.val + 1 * n.val) / 128) + j) (0 + 1 * s.val) ((128 * g.val + 1 * n.val) % 128) : ℝ)
        : EReal) := rfl
  rw [e, show (128 * g.val + 1 * n.val) / 128 = g.val by omega, show (128 * g.val + 1 * n.val) % 128 = n.val by omega,
    show 0 + 1 * s.val = s.val by omega]
  simp only [Finset.sum_range_succ, Finset.sum_range_zero, zero_add, add_zero, e0, e1, e2, e3]

include hB hP in
theorem dh_piece (h : Fin 32) {w : Vec Ideal S1x64x128 .f32} {dh : Vec Ideal S1x64x128 .f32}
    (hw : w = dhH P h (cols128 m4 hm4 x3 (grp h)) dh (rowsT m11 hm11 x10 h))
    (hD : ∀ (p : Fin 64) (n : Fin 128), dh (ix3 0 p n) = ((D h p n : ℝ) : EReal)) (x : S1x64x128.Idx) :
    w x = dhG C DT DY A D ((Rect.unit (s := S32x64x128) ![h.val, 0, 0] S1x64x128.size (inbS h)).emb x) := by
  obtain ⟨p, n, rfl⟩ : ∃ (p : Fin 64) (n : Fin 128), x = ix3 0 p n := ⟨x 1, x 2, (eq_ix3 x).trans
    (congrArg (fun i => ix3 i (x 1) (x 2)) (Subsingleton.elim (α := Fin 1) _ _))⟩
  rw [hw, dhH_real hP (c_cols hB (grp h)) hD (dyt_rows hB h)]
  have e : dhG C DT DY A D ((Rect.unit (s := S32x64x128) ![h.val, 0, 0] S1x64x128.size (inbS h)).emb (ix3 0 p n))
      = ((dhC C DT DY A D (h.val + 1 * 0) (0 + 1 * p.val) (0 + 1 * n.val) : ℝ) : EReal) := rfl
  rw [e, show 0 + 1 * p.val = p.val by omega, show 0 + 1 * n.val = n.val by omega]
  rfl

end Pieces

end Cert.Scan
end
-- ==== Proof.ScanTotal.lean ====
/-
  From chunks to the whole sequence, over the reals: the state carried into a chunk is the later tokens' part of the
  gradients' sums, so a chunk's gradients are sums over all tokens.
-/
module

public import proofs.«01_k».proof.Proof.ScanChunk

@[expose] public section

noncomputable section

namespace Cert.Scan

open Finset

variable (X B C DT DY : ℕ → ℕ → ℝ) (A : ℕ → ℝ)

/-- The sum of head `h`'s increments over the first `n` tokens. -/
def inc (h n : ℕ) : ℝ := ∑ r ∈ range n, DT r h * A h

/-- An array from token `256 k` on. -/
def fromR (k : ℕ) (Y : ℕ → ℕ → ℝ) (s m : ℕ) : ℝ := Y (256 * k + s) m

/-- The state carried into chunk `k`. -/
def stateR (k h p n : ℕ) : ℝ := carry (inc DT A h) (fun T => DY T (64 * h + p) * C T (128 * (h / 4) + n)) k

/-- The gradient at `x * dt`, at head `h`, token `S` and column `p`: a sum over all tokens. -/
def dxdtT (S h p : ℕ) : ℝ :=
  ∑ T ∈ range 4352, (∑ i : Fin 128, B S (128 * (h / 4) + i) * C T (128 * (h / 4) + i)) * decay (inc DT A h) T S * DY T (64 * h + p)
/-- What head `h` gives the gradient at its group's input matrix: a sum over all tokens. -/
def dbT (S h n : ℕ) : ℝ :=
  ∑ T ∈ range 4352, (∑ i : Fin 64, X S (64 * h + i) * DT S h * DY T (64 * h + i)) * decay (inc DT A h) T S * C T (128 * (h / 4) + n)

variable {X B C DT DY A}

theorem cum_inc (k h q : ℕ) : cum (fromR k DT) A h q = inc DT A h (256 * k + q + 1) - inc DT A h (256 * k) := by
  unfold cum inc fromR
  rw [show 256 * k + q + 1 = 256 * k + (q + 1) by omega, Finset.sum_range_add _ (256 * k) (q + 1), add_sub_cancel_left]

theorem ltR_decay (k h s t : ℕ) :
    ltR (cum (fromR k DT) A h) s t = decay (inc DT A h) (256 * k + t) (256 * k + s) := by
  unfold ltR decay
  simp only [cum_inc]
  by_cases e : s ≤ t
  · rw [if_pos e, if_pos (by omega)]
    congr 1
    ring
  · rw [if_neg e, if_neg (by omega)]

theorem last_inc (k h s : ℕ) :
    cum (fromR k DT) A h 255 - cum (fromR k DT) A h s = inc DT A h (256 * k + 256) - inc DT A h (256 * k + s + 1) := by
  simp only [cum_inc, show 256 * k + 255 + 1 = 256 * k + 256 by omega]
  ring

theorem state_last (h p n : ℕ) : stateR C DT DY A 16 h p n = 0 := carry_last _ _

/-- The state a chunk hands on is the one carried into the chunk before it. -/
theorem state_step (k : ℕ) (hk : k + 1 ≤ 16) (h p n : ℕ) :
    dhC (fromR (k + 1) C) (fromR (k + 1) DT) (fromR (k + 1) DY) A (stateR C DT DY A (k + 1)) h p n = stateR C DT DY A k h p n := by
  rw [stateR, ← carry_step _ _ k hk]
  unfold dhC dhR
  refine congrArg₂ (· + ·) ?_ (Finset.sum_congr rfl fun t _ => ?_)
  · rw [cum_inc, show 256 * (k + 1) + 255 + 1 = 256 * (k + 1) + 256 by omega]
    rfl
  · rw [cum_inc]
    unfold colsR fromR
    ring

/-- The chunk's gradient at `x * dt` is the sum over all tokens. -/
theorem dxdt_total (k : ℕ) (hk : k ≤ 16) (h s p : ℕ) (hs : s < 256) :
    dxdtC (fromR k B) (fromR k C) (fromR k DT) (fromR k DY) A (stateR C DT DY A k) h s p = dxdtT B C DT DY A (256 * k + s) h p := by
  have e := chunk_total (n := 128) (inc DT A h) (fun T i => C T (128 * (h / 4) + i)) (fun i => B (256 * k + s) (128 * (h / 4) + i))
    (fun T => DY T (64 * h + p)) k s hk hs
  unfold dxdtT
  rw [← e]
  unfold dxdtC dxdtR
  refine congrArg₂ (· + ·) (Finset.sum_congr rfl fun t _ => ?_) ?_
  · rw [ltR_decay, Finset.sum_range]
    rfl
  · rw [last_inc, Finset.sum_range]
    refine congrArg₂ (· * ·) rfl (Finset.sum_congr rfl fun i _ => ?_)
    unfold stateR colsR fromR
    simp only [mul_comm]

/-- The chunk's gradient at the input matrices is the sum over all tokens. -/
theorem db_total (k : ℕ) (hk : k ≤ 16) (h s n : ℕ) (hs : s < 256) :
    dbC (fromR k X) (fromR k C) (fromR k DT) (fromR k DY) A (stateR C DT DY A k) h s n = dbT X C DT DY A (256 * k + s) h n := by
  have e := chunk_total (n := 64) (inc DT A h) (fun T i => DY T (64 * h + i)) (fun i => X (256 * k + s) (64 * h + i) * DT (256 * k + s) h)
    (fun T => C T (128 * (h / 4) + n)) k s hk hs
  unfold dbT
  rw [← e]
  unfold dbC dbR
  refine congrArg₂ (· + ·) (Finset.sum_congr rfl fun t _ => ?_) ?_
  · rw [ltR_decay, Finset.sum_range]
    rfl
  · rw [last_inc, Finset.sum_range]
    rfl

end Cert.Scan
end
-- ==== Proof.ScanRef.lean ====
/-
  The reference's results over the reals: read one operation at a time, at finite arguments, the gradients of the
  recurrence's dual form are sums over all tokens.
-/
module

public import proofs.«01_k».proof.Proof.ScanTotal
public import proofs.«01_k».proof.Proof.Gen.Reference5Ideal.Read

@[expose] public section

set_option maxRecDepth 16384

noncomputable section

namespace Cert.Scan

open Idealize.ShloMosaic Idealize.ShloMosaic.TcCoe Finset
open Cert.Reference5Ideal Cert.Reference5Ideal.Gen Cert.Reference5Ideal.Read

/-- The columns of an array from column `o` on. -/
def fromC (o : ℕ) (Y : ℕ → ℕ → ℝ) (s m : ℕ) : ℝ := Y s (o + m)

/-- The mask of the pairs of tokens in order, as a number. -/
theorem bit_nat (p : Prop) [Decidable p] :
    FloatOps.uitofp (F := Ideal) .f32 (BitVec.ofBool (decide p)) = ((if p then 1 else 0 : ℝ) : EReal) := by
  by_cases h : p
  · simp only [h, decide_true, if_true]
    show (((BitVec.ofBool true).toNat : ℝ) : EReal) = _
    simp
  · simp only [h, decide_false, if_false]
    show (((BitVec.ofBool false).toNat : ℝ) : EReal) = _
    simp

/-- Summing a masked row is summing its first part. -/
theorem sum_first (f : ℕ → ℝ) (q : ℕ) (hq : q < 4352) :
    ∑ r ∈ range 4352, (if r ≤ q then 1 else 0) * f r = ∑ r ∈ range (q + 1), f r := by
  rw [← Finset.sum_subset (s₁ := range (q + 1)) (fun r hr => by simp only [mem_range] at hr ⊢; omega)
    (fun r _ hr => by simp only [mem_range] at hr; rw [if_neg (by omega), zero_mul])]
  exact Finset.sum_congr rfl fun r hr => by simp only [mem_range] at hr; rw [if_pos (by omega), one_mul]

/-- The float zero a sum starts from. -/
theorem zero_start (i : S_.Idx) : val_main_cst_0 (F := Ideal) i = 0 ∧ val_main_cst_1 (F := Ideal) i = 0 ∧ val_main_cst_2 (F := Ideal) i = 0
    ∧ val_main_cst_3 (F := Ideal) i = 0 := by
  have e : Ideal.ofBits .f32 0x00000000#32 = 0 := by simp [Ideal.ofBits, Ideal.ieee]
  exact ⟨e, e, e, e⟩

/-- The token pairs in order. -/
theorem mask_apply (i : S4352x4352.Idx) : val_main_v15 (F := Ideal) i = BitVec.ofBool (decide ((i 1).val ≤ (i 0).val)) := by
  rw [val_main_v15_apply, val_main_v13_apply, val_main_v10_apply, val_main_v9_apply, val_main_v14_apply, val_main_v12_apply, val_main_v11_apply]
  have h0 : (i 0).val < 4352 := (i 0).isLt
  have h1 : (i 1).val < 4352 := (i 1).isLt
  exact WordCmp.cmpi_sge_ofNat (by norm_num; omega) (by norm_num; omega)

section Reads
variable {W DT DY : ℕ → ℕ → ℝ} {A : ℕ → ℝ}
variable {x0 : FVec Ideal S4352x4096 .f32} {x1 : FVec Ideal S4352x32 .f32} {x2 : FVec Ideal S32 .f32} {x4 : FVec Ideal S4352x2048 .f32}
variable (h0 : ∀ i, x0 i = ((W (i 0).val (i 1).val : ℝ) : EReal)) (h1 : ∀ i, x1 i = ((DT (i 0).val (i 1).val : ℝ) : EReal))
variable (h2 : ∀ i, x2 i = ((A (i 0).val : ℝ) : EReal)) (h4 : ∀ i, x4 i = ((DY (i 0).val (i 1).val : ℝ) : EReal))

include h0 in
/-- The inputs by heads. -/
theorem x_apply (i : S4352x32x64.Idx) : val_main_v1 (F := Ideal) x0 i = ((W (i 0).val (64 * (i 1).val + (i 2).val) : ℝ) : EReal) := by
  rw [val_main_v1_apply, val_main_v0_apply, h0]
  have b1 : (i 1).val < 32 := (i 1).isLt
  have b2 : (i 2).val < 64 := (i 2).isLt
  refine congrArg _ (congrArg₂ W ?_ ?_)
  · show (((i 0).val * 32 + (i 1).val) * 64 + (i 2).val) / 2048 = (i 0).val
    omega
  · show (((i 0).val * 32 + (i 1).val) * 64 + (i 2).val) % 2048 = 64 * (i 1).val + (i 2).val
    omega

include h0 in
/-- The input matrices by groups. -/
theorem b_apply (i : S4352x8x128.Idx) :
    val_main_v3 (F := Ideal) x0 i = ((fromC 2048 W (i 0).val (128 * (i 1).val + (i 2).val) : ℝ) : EReal) := by
  rw [val_main_v3_apply, val_main_v2_apply, h0]
  have b1 : (i 1).val < 8 := (i 1).isLt
  have b2 : (i 2).val < 128 := (i 2).isLt
  refine congrArg _ (congrArg₂ W ?_ ?_)
  · show (((i 0).val * 8 + (i 1).val) * 128 + (i 2).val) / 1024 = (i 0).val
    omega
  · show 2048 + (((i 0).val * 8 + (i 1).val) * 128 + (i 2).val) % 1024 = 2048 + (128 * (i 1).val + (i 2).val)
    omega

include h0 in
/-- The output matrices by groups. -/
theorem c_apply (i : S4352x8x128.Idx) :
    val_main_v5 (F := Ideal) x0 i = ((fromC 3072 W (i 0).val (128 * (i 1).val + (i 2).val) : ℝ) : EReal) := by
  rw [val_main_v5_apply, val_main_v4_apply, h0]
  have b1 : (i 1).val < 8 := (i 1).isLt
  have b2 : (i 2).val < 128 := (i 2).isLt
  refine congrArg _ (congrArg₂ W ?_ ?_)
  · show (((i 0).val * 8 + (i 1).val) * 128 + (i 2).val) / 1024 = (i 0).val
    omega
  · show 3072 + (((i 0).val * 8 + (i 1).val) * 128 + (i 2).val) % 1024 = 3072 + (128 * (i 1).val + (i 2).val)
    omega

include h1 h2 in
/-- The increments. -/
theorem inc_apply (i : S4352x32.Idx) : val_main_v8 (F := Ideal) x1 x2 i = ((DT (i 0).val (i 1).val * A (i 1).val : ℝ) : EReal) := by
  rw [val_main_v8_apply, val_main_v7_apply, val_main_v6_apply, h1, h2]
  exact (EReal.coe_mul _ _).symm

include h1 h2 in
/-- The running sums of the increments. -/
theorem cum_apply (i : S4352x32.Idx) : val_main_v17 (F := Ideal) x1 x2 i = ((inc DT A (i 1).val ((i 0).val + 1) : ℝ) : EReal) := by
  rw [val_main_v17_apply]
  have b0 : (i 0).val < 4352 := (i 0).isLt
  unfold inc
  rw [← sum_first (fun r => DT r (i 1).val * A (i 1).val) (i 0).val b0, coe_range]
  refine Finset.sum_congr rfl fun k _ => ?_
  rw [val_main_v16_apply, mask_apply, bit_nat, inc_apply h1 h2, ← EReal.coe_mul]

include h1 h2 in
/-- The decay between two tokens. -/
theorem decay_apply (i : S4352x4352x32.Idx) :
    val_main_v25 (F := Ideal) x1 x2 i = ((decay (inc DT A (i 2).val) (i 0).val (i 1).val : ℝ) : EReal) := by
  have e : Ideal.ofBits .f32 0xFF800000#32 = ⊥ := by simp [Ideal.ofBits, Ideal.ieee]
  rw [val_main_v25_apply, val_main_v24_apply, val_main_call0_v1_apply, val_main_v18_apply, mask_apply, val_main_v23_apply,
    val_main_v21_apply, val_main_v19_apply, cum_apply h1 h2, val_main_v22_apply, val_main_v20_apply, cum_apply h1 h2,
    val_main_call0_v2_apply, val_main_call0_v0_apply, val_main_cst_apply]
  show Ideal.exp (Scalar.select (BitVec.ofBool (decide ((i 1).val ≤ (i 0).val)))
    (((inc DT A (i 2).val ((i 0).val + 1) : ℝ) : EReal) - ((inc DT A (i 2).val ((i 1).val + 1) : ℝ) : EReal)) (Ideal.ofBits .f32 0xFF800000#32)) = _
  rw [e, ← EReal.coe_sub]
  unfold decay
  by_cases h : (i 1).val ≤ (i 0).val
  · simp [h, Scalar.select]
    rw [← EReal.coe_sub, Ideal.exp_coe]
  · simp [h, Scalar.select]

include h1 h2 in
/-- The decay between two tokens, heads by groups. -/
theorem decay_group (i : S4352x4352x8x4.Idx) :
    val_main_v29 (F := Ideal) x1 x2 i = ((decay (inc DT A (4 * (i 2).val + (i 3).val)) (i 0).val (i 1).val : ℝ) : EReal) := by
  rw [val_main_v29_apply, decay_apply h1 h2]
  have b0 : (i 0).val < 4352 := (i 0).isLt
  have b1 : (i 1).val < 4352 := (i 1).isLt
  have b2 : (i 2).val < 8 := (i 2).isLt
  have b3 : (i 3).val < 4 := (i 3).isLt
  have e0 : ((((i 0).val * 4352 + (i 1).val) * 8 + (i 2).val) * 4 + (i 3).val) / 139264 = (i 0).val := by omega
  have e1 : ((((i 0).val * 4352 + (i 1).val) * 8 + (i 2).val) * 4 + (i 3).val) / 32 % 4352 = (i 1).val := by omega
  have e2 : ((((i 0).val * 4352 + (i 1).val) * 8 + (i 2).val) * 4 + (i 3).val) % 32 = 4 * (i 2).val + (i 3).val := by omega
  show ((decay (inc DT A (((((i 0).val * 4352 + (i 1).val) * 8 + (i 2).val) * 4 + (i 3).val) % 32))
    (((((i 0).val * 4352 + (i 1).val) * 8 + (i 2).val) * 4 + (i 3).val) / 139264)
    (((((i 0).val * 4352 + (i 1).val) * 8 + (i 2).val) * 4 + (i 3).val) / 32 % 4352) : ℝ) : EReal) = _
  rw [e0, e1, e2]

include h0 h1 h2 in
/-- The weight of token `s` in token `t`'s output. -/
theorem weight_apply (i : S4352x4352x8x4.Idx) : val_main_v31 (F := Ideal) x0 x1 x2 i
    = (((∑ k : Fin 128, fromC 2048 W (i 1).val (128 * (i 2).val + k) * fromC 3072 W (i 0).val (128 * (i 2).val + k))
        * decay (inc DT A (4 * (i 2).val + (i 3).val)) (i 0).val (i 1).val : ℝ) : EReal) := by
  rw [val_main_v31_apply, decay_group h1 h2, val_main_v30_apply, val_main_v28_apply, val_main_v27_apply, val_main_v26_apply, EReal.coe_mul, coe_sum]
  refine congrArg (fun u : EReal => u * _) (Finset.sum_congr rfl fun k _ => ?_)
  rw [b_apply h0, c_apply h0, EReal.coe_mul]

include h0 h1 in
/-- The inputs times `dt`, heads by groups. -/
theorem xdt_apply (i : S4352x8x4x64.Idx) : val_main_v35 (F := Ideal) x0 x1 i
    = ((W (i 0).val (64 * (4 * (i 1).val + (i 2).val) + (i 3).val) * DT (i 0).val (4 * (i 1).val + (i 2).val) : ℝ) : EReal) := by
  rw [val_main_v35_apply, val_main_v34_apply, x_apply h0, val_main_v33_apply, val_main_v32_apply, h1]
  have b1 : (i 1).val < 8 := (i 1).isLt
  have b2 : (i 2).val < 4 := (i 2).isLt
  have b3 : (i 3).val < 64 := (i 3).isLt
  have e0 : ((((i 0).val * 8 + (i 1).val) * 4 + (i 2).val) * 64 + (i 3).val) / 2048 = (i 0).val := by omega
  have e1 : ((((i 0).val * 8 + (i 1).val) * 4 + (i 2).val) * 64 + (i 3).val) / 64 % 32 = 4 * (i 1).val + (i 2).val := by omega
  have e2 : ((((i 0).val * 8 + (i 1).val) * 4 + (i 2).val) * 64 + (i 3).val) % 64 = (i 3).val := by omega
  show ((W (((((i 0).val * 8 + (i 1).val) * 4 + (i 2).val) * 64 + (i 3).val) / 2048)
      (64 * (((((i 0).val * 8 + (i 1).val) * 4 + (i 2).val) * 64 + (i 3).val) / 64 % 32) + ((((i 0).val * 8 + (i 1).val) * 4 + (i 2).val) * 64 + (i 3).val) % 64) : ℝ) : EReal)
    * ((DT (((((i 0).val * 8 + (i 1).val) * 4 + (i 2).val) * 64 + (i 3).val) / 2048)
      (((((i 0).val * 8 + (i 1).val) * 4 + (i 2).val) * 64 + (i 3).val) / 64 % 32) : ℝ) : EReal) = _
  rw [e0, e1, e2, EReal.coe_mul]

include h4 in
/-- The output gradients, transposed. -/
theorem dy_apply (i : S8x4x64x4352.Idx) : val_main_v39 (F := Ideal) x4 i
    = ((DY (i 3).val (64 * (4 * (i 0).val + (i 1).val) + (i 2).val) : ℝ) : EReal) := by
  rw [val_main_v39_apply, val_main_v38_apply, h4]
  have b0 : (i 0).val < 8 := (i 0).isLt
  have b1 : (i 1).val < 4 := (i 1).isLt
  have b2 : (i 2).val < 64 := (i 2).isLt
  refine congrArg _ (congrArg₂ DY ?_ ?_)
  · show ((((i 3).val * 8 + (i 0).val) * 4 + (i 1).val) * 64 + (i 2).val) / 2048 = (i 3).val
    omega
  · show ((((i 3).val * 8 + (i 0).val) * 4 + (i 1).val) * 64 + (i 2).val) % 2048 = 64 * (4 * (i 0).val + (i 1).val) + (i 2).val
    omega

include h0 h1 h2 h4 in
/-- The gradient at `x * dt`. -/
theorem dxdt_apply (i : S8x4x64x4352.Idx) : val_main_v42 (F := Ideal) x0 x1 x2 x4 i
    = ((dxdtT (fromC 2048 W) (fromC 3072 W) DT DY A (i 3).val (4 * (i 0).val + (i 1).val) (i 2).val : ℝ) : EReal) := by
  rw [val_main_v42_apply]
  unfold dxdtT
  rw [coe_range]
  refine Finset.sum_congr rfl fun T _ => ?_
  rw [dy_apply h4, weight_apply h0 h1 h2, ← EReal.coe_mul]
  have b1 : (i 1).val < 4 := (i 1).isLt
  rw [show (4 * (i 0).val + (i 1).val) / 4 = (i 0).val by omega]
  exact congrArg _ (mul_comm _ _)

include h0 h1 h2 h4 in
/-- The gradient at `x * dt`, by heads. -/
theorem dxdt_head (i : S4352x32x64.Idx) : val_main_v44 (F := Ideal) x0 x1 x2 x4 i
    = ((dxdtT (fromC 2048 W) (fromC 3072 W) DT DY A (i 0).val (i 1).val (i 2).val : ℝ) : EReal) := by
  rw [val_main_v44_apply, val_main_v43_apply, dxdt_apply h0 h1 h2 h4]
  have b1 : (i 1).val < 32 := (i 1).isLt
  have b2 : (i 2).val < 64 := (i 2).isLt
  have e0 : (((i 0).val * 32 + (i 1).val) * 64 + (i 2).val) / 2048 = (i 0).val := by omega
  have e1 : 4 * ((((i 0).val * 32 + (i 1).val) * 64 + (i 2).val) / 256 % 8) + (((i 0).val * 32 + (i 1).val) * 64 + (i 2).val) / 64 % 4 = (i 1).val := by omega
  have e2 : (((i 0).val * 32 + (i 1).val) * 64 + (i 2).val) % 64 = (i 2).val := by omega
  show ((dxdtT (fromC 2048 W) (fromC 3072 W) DT DY A ((((i 0).val * 32 + (i 1).val) * 64 + (i 2).val) / 2048)
    (4 * ((((i 0).val * 32 + (i 1).val) * 64 + (i 2).val) / 256 % 8) + (((i 0).val * 32 + (i 1).val) * 64 + (i 2).val) / 64 % 4)
    ((((i 0).val * 32 + (i 1).val) * 64 + (i 2).val) % 64) : ℝ) : EReal) = _
  rw [e0, e1, e2]

include h0 h1 h2 h4 in
/-- The first result: the gradient at `x`. -/
theorem ref_dx (i : S4352x2048.Idx) : val_main_v58 (F := Ideal) x0 x1 x2 x4 i
    = ((dxdtT (fromC 2048 W) (fromC 3072 W) DT DY A (i 0).val ((i 1).val / 64) ((i 1).val % 64) * DT (i 0).val ((i 1).val / 64) : ℝ) : EReal) := by
  rw [val_main_v58_apply, val_main_v49_apply, dxdt_head h0 h1 h2 h4, val_main_v48_apply, val_main_v32_apply, h1]
  have b1 : (i 1).val < 2048 := (i 1).isLt
  have e0 : ((i 0).val * 2048 + (i 1).val) / 2048 = (i 0).val := by omega
  have e1 : ((i 0).val * 2048 + (i 1).val) / 64 % 32 = (i 1).val / 64 := by omega
  have e2 : ((i 0).val * 2048 + (i 1).val) % 64 = (i 1).val % 64 := by omega
  show ((dxdtT (fromC 2048 W) (fromC 3072 W) DT DY A (((i 0).val * 2048 + (i 1).val) / 2048) (((i 0).val * 2048 + (i 1).val) / 64 % 32)
      (((i 0).val * 2048 + (i 1).val) % 64) : ℝ) : EReal)
    * ((DT (((i 0).val * 2048 + (i 1).val) / 2048) (((i 0).val * 2048 + (i 1).val) / 64 % 32) : ℝ) : EReal) = _
  rw [e0, e1, e2, EReal.coe_mul]

include h0 h1 h2 h4 in
/-- The gradient at `dt` where it scales `x`. -/
theorem ddt_apply (i : S4352x32.Idx) : val_main_v50 (F := Ideal) x0 x1 x2 x4 i
    = ((∑ p ∈ range 64, W (i 0).val (64 * (i 1).val + p) * dxdtT (fromC 2048 W) (fromC 3072 W) DT DY A (i 0).val (i 1).val p : ℝ) : EReal) := by
  rw [val_main_v50_apply, (zero_start _).2.1, zero_add, Fin.sum_univ_one, val_main_v47_apply, val_main_v46_apply, (zero_start _).1, zero_add, coe_range]
  refine Finset.sum_congr rfl fun p _ => ?_
  rw [val_main_v45_apply, x_apply h0, dxdt_head h0 h1 h2 h4]
  have b1 : (i 1).val < 32 := (i 1).isLt
  have e0 : (((i 0).val * 32 + (i 1).val) * 1 + 0) / 32 = (i 0).val := by omega
  have e1 : (((i 0).val * 32 + (i 1).val) * 1 + 0) % 32 = (i 1).val := by omega
  show ((W ((((i 0).val * 32 + (i 1).val) * 1 + 0) / 32) (64 * ((((i 0).val * 32 + (i 1).val) * 1 + 0) % 32) + p.val) : ℝ) : EReal)
    * ((dxdtT (fromC 2048 W) (fromC 3072 W) DT DY A ((((i 0).val * 32 + (i 1).val) * 1 + 0) / 32)
      ((((i 0).val * 32 + (i 1).val) * 1 + 0) % 32) p.val : ℝ) : EReal) = _
  rw [e0, e1, EReal.coe_mul]

include h0 h1 h2 h4 in
/-- The third result: the gradient at `dt` where it scales `x`, by chunks. -/
theorem ref_ddt (i : S17x256x32.Idx) : val_main_v60 (F := Ideal) x0 x1 x2 x4 i
    = ((∑ p ∈ range 64, W (256 * (i 0).val + (i 1).val) (64 * (i 2).val + p)
        * dxdtT (fromC 2048 W) (fromC 3072 W) DT DY A (256 * (i 0).val + (i 1).val) (i 2).val p : ℝ) : EReal) := by
  rw [val_main_v60_apply, ddt_apply h0 h1 h2 h4]
  have b2 : (i 2).val < 32 := (i 2).isLt
  have e0 : (((i 0).val * 256 + (i 1).val) * 32 + (i 2).val) / 32 = 256 * (i 0).val + (i 1).val := by omega
  have e1 : (((i 0).val * 256 + (i 1).val) * 32 + (i 2).val) % 32 = (i 2).val := by omega
  show ((∑ p ∈ range 64, W ((((i 0).val * 256 + (i 1).val) * 32 + (i 2).val) / 32) (64 * ((((i 0).val * 256 + (i 1).val) * 32 + (i 2).val) % 32) + p)
        * dxdtT (fromC 2048 W) (fromC 3072 W) DT DY A ((((i 0).val * 256 + (i 1).val) * 32 + (i 2).val) / 32)
          ((((i 0).val * 256 + (i 1).val) * 32 + (i 2).val) % 32) p : ℝ) : EReal) = _
  rw [e0, e1]

include h0 h1 h4 in
/-- The products of the output gradients with `x * dt`. -/
theorem dyx_apply (i : S4352x4352x8x4.Idx) : val_main_v41 (F := Ideal) x0 x1 x4 i
    = ((∑ p : Fin 64, W (i 1).val (64 * (4 * (i 2).val + (i 3).val) + p) * DT (i 1).val (4 * (i 2).val + (i 3).val)
        * DY (i 0).val (64 * (4 * (i 2).val + (i 3).val) + p) : ℝ) : EReal) := by
  rw [val_main_v41_apply, val_main_v40_apply, coe_sum]
  refine Finset.sum_congr rfl fun p _ => ?_
  rw [dy_apply h4, xdt_apply h0 h1, ← EReal.coe_mul]
  exact congrArg _ (mul_comm _ _)

include h0 h1 h2 h4 in
/-- The gradient at the scores. -/
theorem dscores_apply (i : S4352x4352x8.Idx) : val_main_v54 (F := Ideal) x0 x1 x2 x4 i
    = ((∑ j ∈ range 4, (∑ p : Fin 64, W (i 1).val (64 * (4 * (i 2).val + j) + p) * DT (i 1).val (4 * (i 2).val + j)
        * DY (i 0).val (64 * (4 * (i 2).val + j) + p)) * decay (inc DT A (4 * (i 2).val + j)) (i 0).val (i 1).val : ℝ) : EReal) := by
  rw [val_main_v54_apply, (zero_start _).2.2.2, zero_add, Fin.sum_univ_one, val_main_v53_apply, val_main_v52_apply, (zero_start _).2.2.1, zero_add, coe_range]
  refine Finset.sum_congr rfl fun j _ => ?_
  rw [val_main_v51_apply, dyx_apply h0 h1 h4, decay_group h1 h2]
  have b0 : (i 0).val < 4352 := (i 0).isLt
  have b1 : (i 1).val < 4352 := (i 1).isLt
  have b2 : (i 2).val < 8 := (i 2).isLt
  have e0 : ((((i 0).val * 4352 + (i 1).val) * 8 + (i 2).val) * 1 + 0) / 34816 = (i 0).val := by omega
  have e1 : ((((i 0).val * 4352 + (i 1).val) * 8 + (i 2).val) * 1 + 0) / 8 % 4352 = (i 1).val := by omega
  have e2 : ((((i 0).val * 4352 + (i 1).val) * 8 + (i 2).val) * 1 + 0) % 8 = (i 2).val := by omega
  show ((∑ p : Fin 64, W (((((i 0).val * 4352 + (i 1).val) * 8 + (i 2).val) * 1 + 0) / 8 % 4352)
        (64 * (4 * (((((i 0).val * 4352 + (i 1).val) * 8 + (i 2).val) * 1 + 0) % 8) + j.val) + p)
      * DT (((((i 0).val * 4352 + (i 1).val) * 8 + (i 2).val) * 1 + 0) / 8 % 4352) (4 * (((((i 0).val * 4352 + (i 1).val) * 8 + (i 2).val) * 1 + 0) % 8) + j.val)
      * DY (((((i 0).val * 4352 + (i 1).val) * 8 + (i 2).val) * 1 + 0) / 34816)
        (64 * (4 * (((((i 0).val * 4352 + (i 1).val) * 8 + (i 2).val) * 1 + 0) % 8) + j.val) + p) : ℝ) : EReal)
    * ((decay (inc DT A (4 * (((((i 0).val * 4352 + (i 1).val) * 8 + (i 2).val) * 1 + 0) % 8) + j.val))
      (((((i 0).val * 4352 + (i 1).val) * 8 + (i 2).val) * 1 + 0) / 34816) (((((i 0).val * 4352 + (i 1).val) * 8 + (i 2).val) * 1 + 0) / 8 % 4352) : ℝ) : EReal) = _
  rw [e0, e1, e2, EReal.coe_mul]

include h0 h1 h2 h4 in
/-- The gradient at the input matrices, by groups. -/
theorem db_apply (i : S8x4352x128.Idx) : val_main_v56 (F := Ideal) x0 x1 x2 x4 i
    = ((∑ j ∈ range 4, dbT W (fromC 3072 W) DT DY A (i 1).val (4 * (i 0).val + j) (i 2).val : ℝ) : EReal) := by
  rw [val_main_v56_apply]
  unfold dbT
  rw [Finset.sum_comm, coe_range]
  refine Finset.sum_congr rfl fun T _ => ?_
  rw [val_main_v55_apply, dscores_apply h0 h1 h2 h4, c_apply h0, ← EReal.coe_mul]
  refine congrArg _ ?_
  rw [Finset.sum_mul]
  refine Finset.sum_congr rfl fun j hj => ?_
  have hj' := mem_range.mp hj
  rw [show (4 * (i 0).val + j) / 4 = (i 0).val by omega]

include h0 h1 h2 h4 in
/-- The second result: the gradient at the input matrices. -/
theorem ref_db (i : S4352x1024.Idx) : val_main_v59 (F := Ideal) x0 x1 x2 x4 i
    = ((∑ j ∈ range 4, dbT W (fromC 3072 W) DT DY A (i 0).val (4 * ((i 1).val / 128) + j) ((i 1).val % 128) : ℝ) : EReal) := by
  rw [val_main_v59_apply, val_main_v57_apply, db_apply h0 h1 h2 h4]
  have b1 : (i 1).val < 1024 := (i 1).isLt
  have e0 : ((i 0).val * 1024 + (i 1).val) / 1024 = (i 0).val := by omega
  have e1 : ((i 0).val * 1024 + (i 1).val) / 128 % 8 = (i 1).val / 128 := by omega
  have e2 : ((i 0).val * 1024 + (i 1).val) % 128 = (i 1).val % 128 := by omega
  show ((∑ j ∈ range 4, dbT W (fromC 3072 W) DT DY A (((i 0).val * 1024 + (i 1).val) / 1024) (4 * (((i 0).val * 1024 + (i 1).val) / 128 % 8) + j)
    (((i 0).val * 1024 + (i 1).val) % 128) : ℝ) : EReal) = _
  rw [e0, e1, e2]

end Reads

end Cert.Scan

end
-- ==== Proof.ScanArgs.lean ====
/-
  The blocks the gradient kernel reads at a grid point: chunk `16 - t` of the arguments, over the reals.
-/
module

public import proofs.«01_k».proof.Proof.ScanRef
public import proofs.«01_k».proof.Proof.Gen.Kernel5Ideal.Value
public import Idealize.ShloMosaic.Lib.Pointwise
public import Idealize.ShloMosaic.Lib.Tactic
public import Idealize.ShloMosaic.Lib.Claim
public import Idealize.ShloMosaic.Lib.Pipeline.Value

@[expose] public section

set_option maxRecDepth 16384

noncomputable section

namespace Cert.Scan

open Idealize.ShloMosaic Idealize.ShloMosaic.TcCoe Idealize.SL.Sem Finset
open Cert.Kernel5Ideal Cert.Kernel5Ideal.Gen Cert.Kernel5Ideal.Value

variable (m : (ℓ : Loc nD τ sig) → Buf (Elt Ideal) ℓ)

/-- The arguments on core `c` hold reals: `W` the inputs, input matrices and output matrices side by side, `DT` the
    steps, `A` the rates, `DY` the output's gradients. -/
structure Args (W DT DY : ℕ → ℕ → ℝ) (A : ℕ → ℝ) (c : Dev nD) : Prop where
  w : ∀ i : S4352x4096.Idx, (m ((c : Thread nD τ).loc main_arg0) i : EReal) = ((W (i 0).val (i 1).val : ℝ) : EReal)
  dt : ∀ i : S4352x32.Idx, (m ((c : Thread nD τ).loc main_arg1) i : EReal) = ((DT (i 0).val (i 1).val : ℝ) : EReal)
  a : ∀ i : S32.Idx, (m ((c : Thread nD τ).loc main_arg2) i : EReal) = ((A (i 0).val : ℝ) : EReal)
  dy : ∀ i : S4352x2048.Idx, (m ((c : Thread nD τ).loc main_arg4) i : EReal) = ((DY (i 0).val (i 1).val : ℝ) : EReal)

variable {m} {W DT DY : ℕ → ℕ → ℝ} {A : ℕ → ℝ} {c : Dev nD} (H : Args m W DT DY A c)

include H

/-- What the host prepares: `dt` by chunks, tokens down and tokens across, the rates as a row and as a column, and the
    output's gradients by chunks with tokens across. -/
theorem host_dt (i : S17x256x32.Idx) : (V m c main_v3 i : EReal) = ((DT (256 * (i 0).val + (i 1).val) (i 2).val : ℝ) : EReal) := by
  have b0 : (i 0).val < 17 := (i 0).isLt
  have b1 : (i 1).val < 256 := (i 1).isLt
  have b2 : (i 2).val < 32 := (i 2).isLt
  entry_read
  refine (shapeCast_apply _ _ i (ix2 ⟨256 * (i 0).val + (i 1).val, by omega⟩ ⟨(i 2).val, b2⟩) ?_).trans (H.dt _)
  rw [Shape.rowMajor_val_two, Shape.rowMajor_val_three]
  show (256 * (i 0).val + (i 1).val) * 32 + (i 2).val = ((i 0).val * 256 + (i 1).val) * 32 + (i 2).val
  omega

theorem host_dtT (i : S17x32x256.Idx) : (V m c main_v5 i : EReal) = ((DT (256 * (i 0).val + (i 2).val) (i 1).val : ℝ) : EReal) := by
  have b0 : (i 0).val < 17 := (i 0).isLt
  have b1 : (i 1).val < 32 := (i 1).isLt
  have b2 : (i 2).val < 256 := (i 2).isLt
  entry_read
  refine (transpose_apply [0, 2, 1] _ transposes_S17x256x32_S17x32x256_0_2_1 i (ix3 (i 0) (i 2) (i 1)) (fun b => match b with
    | ⟨0, _⟩ => rfl
    | ⟨1, _⟩ => rfl
    | ⟨2, _⟩ => rfl)).trans ?_
  refine (shapeCast_apply _ _ _ (ix2 ⟨256 * (i 0).val + (i 2).val, by omega⟩ ⟨(i 1).val, b1⟩) ?_).trans (H.dt _)
  rw [Shape.rowMajor_val_two]
  refine Eq.trans ?_ (Shape.rowMajor_val_three (ix3 (⟨(i 0).val, b0⟩ : Fin 17) (⟨(i 2).val, b2⟩ : Fin 256) (⟨(i 1).val, b1⟩ : Fin 32))).symm
  show (256 * (i 0).val + (i 2).val) * 32 + (i 1).val = ((i 0).val * 256 + (i 2).val) * 32 + (i 1).val
  omega

theorem host_a (i : S1x32.Idx) : (V m c main_v6 i : EReal) = ((A (i 1).val : ℝ) : EReal) := by
  entry_read
  refine (broadcastInDim_apply _ bcast_S32_S1x32_1 _ i (fun a => match a with | ⟨0, _⟩ => i 1) (fun a => match a with
    | ⟨0, _⟩ => rfl)).trans (H.a _)

theorem host_aT (i : S32x1.Idx) : (V m c main_v7 i : EReal) = ((A (i 0).val : ℝ) : EReal) := by
  entry_read
  refine (broadcastInDim_apply _ bcast_S32_S32x1_0 _ i (fun a => match a with | ⟨0, _⟩ => i 0) (fun a => match a with
    | ⟨0, _⟩ => rfl)).trans (H.a _)

theorem host_dy (i : S17x2048x256.Idx) : (V m c main_v9 i : EReal) = ((DY (256 * (i 0).val + (i 2).val) (i 1).val : ℝ) : EReal) := by
  have b0 : (i 0).val < 17 := (i 0).isLt
  have b1 : (i 1).val < 2048 := (i 1).isLt
  have b2 : (i 2).val < 256 := (i 2).isLt
  entry_read
  refine (transpose_apply [0, 2, 1] _ transposes_S17x256x2048_S17x2048x256_0_2_1 i (ix3 (i 0) (i 2) (i 1)) (fun b => match b with
    | ⟨0, _⟩ => rfl
    | ⟨1, _⟩ => rfl
    | ⟨2, _⟩ => rfl)).trans ?_
  refine (shapeCast_apply _ _ _ (ix2 ⟨256 * (i 0).val + (i 2).val, by omega⟩ ⟨(i 1).val, b1⟩) ?_).trans (H.dy _)
  rw [Shape.rowMajor_val_two]
  refine Eq.trans ?_ (Shape.rowMajor_val_three (ix3 (⟨(i 0).val, b0⟩ : Fin 17) (⟨(i 2).val, b2⟩ : Fin 256) (⟨(i 1).val, b1⟩ : Fin 2048))).symm
  show (256 * (i 0).val + (i 2).val) * 2048 + (i 1).val = ((i 0).val * 256 + (i 2).val) * 2048 + (i 1).val
  omega

omit H in
/-- Which block of each array a grid point reads or writes. -/
theorem index2 : ∀ t : Fin cfg0.N,
    (win0_0.index t (0 : Fin 2) = 16 - t.val ∧ win0_0.index t (1 : Fin 2) = 0)
    ∧ (win0_2.index t (0 : Fin 2) = 16 - t.val ∧ win0_2.index t (1 : Fin 2) = 2)
    ∧ (win0_3.index t (0 : Fin 2) = 16 - t.val ∧ win0_3.index t (1 : Fin 2) = 3)
    ∧ (win0_6.index t (0 : Fin 2) = 0 ∧ win0_6.index t (1 : Fin 2) = 0)
    ∧ (win0_7.index t (0 : Fin 2) = 0 ∧ win0_7.index t (1 : Fin 2) = 0)
    ∧ (win0_9.index t (0 : Fin 2) = 16 - t.val ∧ win0_9.index t (1 : Fin 2) = 0)
    ∧ (win0_11.index t (0 : Fin 2) = 16 - t.val ∧ win0_11.index t (1 : Fin 2) = 0)
    ∧ (win0_12.index t (0 : Fin 2) = 16 - t.val ∧ win0_12.index t (1 : Fin 2) = 0) :=
  (by decide +kernel : ∀ t : Fin grid0.N, _)
omit H in
theorem index3 : ∀ t : Fin cfg0.N,
    (win0_4.index t (0 : Fin 3) = 16 - t.val ∧ win0_4.index t (1 : Fin 3) = 0 ∧ win0_4.index t (2 : Fin 3) = 0)
    ∧ (win0_5.index t (0 : Fin 3) = 16 - t.val ∧ win0_5.index t (1 : Fin 3) = 0 ∧ win0_5.index t (2 : Fin 3) = 0)
    ∧ (win0_10.index t (0 : Fin 3) = 16 - t.val ∧ win0_10.index t (1 : Fin 3) = 0 ∧ win0_10.index t (2 : Fin 3) = 0)
    ∧ (win0_15.index t (0 : Fin 3) = 16 - t.val ∧ win0_15.index t (1 : Fin 3) = 0 ∧ win0_15.index t (2 : Fin 3) = 0) :=
  (by decide +kernel : ∀ t : Fin grid0.N, _)

/-- The blocks at grid point `t` are chunk `16 - t` of the arguments. -/
theorem blocks_real (t : Fin cfg0.N) :
    Blk (fromR (16 - t.val) W) (fromR (16 - t.val) (fromC 2048 W)) (fromR (16 - t.val) (fromC 3072 W)) (fromR (16 - t.val) DT)
      (fromR (16 - t.val) DY) A (iblk m c 0 t) (iblk m c 2 t) (iblk m c 3 t) (iblk m c 4 t) (iblk m c 5 t) (iblk m c 6 t)
      (iblk m c 7 t) (iblk m c 9 t) (iblk m c 10 t) := by
  obtain ⟨⟨e00, e01⟩, ⟨e20, e21⟩, ⟨e30, e31⟩, ⟨e60, e61⟩, ⟨e70, e71⟩, ⟨e90, e91⟩, _, _⟩ := index2 t
  obtain ⟨⟨e40, e41, e42⟩, ⟨e50, e51, e52⟩, ⟨ea0, ea1, ea2⟩, _⟩ := index3 t
  refine ⟨fun s k => ?_, fun s k => ?_, fun s k => ?_, fun s h => ?_, fun s h => ?_, fun h => ?_, fun h => ?_, fun s k => ?_, fun s k => ?_⟩
  · unfold iblk
    rw [View.read_apply]
    refine (congrFun (V_main_arg0 m c) _).trans ((H.w _).trans (congrArg _ (congrArg₂ W ?_ ?_)))
    · show win0_0.index t (0 : Fin 2) * 256 + 1 * s.val = 256 * (16 - t.val) + s.val
      rw [e00]; omega
    · show win0_0.index t (1 : Fin 2) * 2048 + 1 * k.val = k.val
      rw [e01]; omega
  · unfold iblk
    rw [View.read_apply]
    refine (congrFun (V_main_arg0 m c) _).trans ((H.w _).trans (congrArg _ (congrArg₂ W ?_ ?_)))
    · show win0_2.index t (0 : Fin 2) * 256 + 1 * s.val = 256 * (16 - t.val) + s.val
      rw [e20]; omega
    · show win0_2.index t (1 : Fin 2) * 1024 + 1 * k.val = 2048 + k.val
      rw [e21]; omega
  · unfold iblk
    rw [View.read_apply]
    refine (congrFun (V_main_arg0 m c) _).trans ((H.w _).trans (congrArg _ (congrArg₂ W ?_ ?_)))
    · show win0_3.index t (0 : Fin 2) * 256 + 1 * s.val = 256 * (16 - t.val) + s.val
      rw [e30]; omega
    · show win0_3.index t (1 : Fin 2) * 1024 + 1 * k.val = 3072 + k.val
      rw [e31]; omega
  · unfold iblk
    rw [View.read_apply]
    refine (host_dt H _).trans (congrArg _ (congrArg₂ DT ?_ ?_))
    · show 256 * (win0_4.index t (0 : Fin 3) * 1 + 1 * 0) + (win0_4.index t (1 : Fin 3) * 256 + 1 * s.val) = 256 * (16 - t.val) + s.val
      rw [e40, e41]; omega
    · show win0_4.index t (2 : Fin 3) * 32 + 1 * h.val = h.val
      rw [e42]; omega
  · unfold iblk
    rw [View.read_apply]
    refine (host_dtT H _).trans (congrArg _ (congrArg₂ DT ?_ ?_))
    · show 256 * (win0_5.index t (0 : Fin 3) * 1 + 1 * 0) + (win0_5.index t (2 : Fin 3) * 256 + 1 * s.val) = 256 * (16 - t.val) + s.val
      rw [e50, e52]; omega
    · show win0_5.index t (1 : Fin 3) * 32 + 1 * h.val = h.val
      rw [e51]; omega
  · unfold iblk
    rw [View.read_apply]
    refine (host_a H _).trans (congrArg _ (congrArg A ?_))
    show win0_6.index t (1 : Fin 2) * 32 + 1 * h.val = h.val
    rw [e61]; omega
  · unfold iblk
    rw [View.read_apply]
    refine (host_aT H _).trans (congrArg _ (congrArg A ?_))
    show win0_7.index t (0 : Fin 2) * 32 + 1 * h.val = h.val
    rw [e70]; omega
  · unfold iblk
    rw [View.read_apply]
    refine (congrFun (V_main_arg4 m c) _).trans ((H.dy _).trans (congrArg _ (congrArg₂ DY ?_ ?_)))
    · show win0_9.index t (0 : Fin 2) * 256 + 1 * s.val = 256 * (16 - t.val) + s.val
      rw [e90]; omega
    · show win0_9.index t (1 : Fin 2) * 2048 + 1 * k.val = k.val
      rw [e91]; omega
  · unfold iblk
    rw [View.read_apply]
    refine (host_dy H _).trans (congrArg _ (congrArg₂ DY ?_ ?_))
    · show 256 * (win0_10.index t (0 : Fin 3) * 1 + 1 * 0) + (win0_10.index t (2 : Fin 3) * 256 + 1 * s.val) = 256 * (16 - t.val) + s.val
      rw [ea0, ea2]; omega
    · show win0_10.index t (1 : Fin 3) * 2048 + 1 * k.val = k.val
      rw [ea1]; omega

end Cert.Scan

end
-- ==== Proof.ScanWordsA.lean ====
/-
  The words the kernel stores for each head in the first chunk visited, where the carried state is zero, each equal to the head's function of the
  chunk's columns and sums (`ScanBlock`).
-/
module

public import proofs.«01_k».proof.Proof.ScanBlock

@[expose] public section

set_option maxRecDepth 16384

noncomputable section

namespace Cert.Scan.A

open Idealize.ShloMosaic Idealize.ShloMosaic.TcCoe
open Cert.Kernel5Ideal Cert.Kernel5Ideal.Gen Cert.Kernel5Ideal.Gen.kernelRun0_A.sl

variable {F : FTy → Type} [FloatOps F] {c : Dev nD}
variable {arg1 arg10 : Memref sig .tc .vmem S256x2048 .f32} {harg1 : arg1.IsWhole} {harg10 : arg10.IsWhole}
variable {arg3 arg4 : Memref sig .tc .vmem S256x1024 .f32} {harg3 : arg3.IsWhole} {harg4 : arg4.IsWhole}
variable {arg5 : Memref sig .tc .vmem S1x256x32 .f32} {harg5 : arg5.IsWhole} {arg6 : Memref sig .tc .vmem S1x32x256 .f32} {harg6 : arg6.IsWhole}
variable {arg7 : Memref sig .tc .vmem S1x32 .f32} {harg7 : arg7.IsWhole} {arg8 : Memref sig .tc .vmem S32x1 .f32} {harg8 : arg8.IsWhole}
variable {arg11 : Memref sig .tc .vmem S1x2048x256 .f32} {harg11 : arg11.IsWhole} {arg17 : Memref sig .tc .vmem S32x64x128 .f32} {harg17 : arg17.IsWhole}
variable {x0 x9 : Vec F S256x2048 .f32} {x2 x3 : Vec F S256x1024 .f32} {x4 : Vec F S1x256x32 .f32} {x5 : Vec F S1x32x256 .f32}
variable {x6 : Vec F S1x32 .f32} {x7 : Vec F S32x1 .f32} {x10 : Vec F S1x2048x256 .f32} {xs0 : Vec F S32x64x128 .f32}

/-- The chunk's sums as the kernel computes them from its loads. -/
def sums (c : Dev nD) (harg5 : arg5.IsWhole) (harg6 : arg6.IsWhole) (harg7 : arg7.IsWhole) (harg8 : arg8.IsWhole)
    (x4 : Vec F S1x256x32 .f32) (x5 : Vec F S1x32x256 .f32) (x6 : Vec F S1x32 .f32) (x7 : Vec F S32x1 .f32) : Sums F :=
  ⟨r_1 c arg5 harg5 arg7 harg7 x4 x6, r_2 c arg6 harg6 arg8 harg8 x5 x7,
    r_5 c arg5 harg5 arg7 harg7 x4 x6, r_4 c arg6 harg6 arg8 harg8 x5 x7,
    r_6 c arg6 harg6 arg8 harg8 x5 x7, r c arg5 harg5 x4⟩

theorem sums_eq : sums c harg5 harg6 harg7 harg8 x4 x5 x6 x7 = sumsOf x4 x5 x6 x7 := by
  unfold sums r_1 r_2 r_4 r_5 r_6 r
  have o2 : (![0, 0] : Fin 2 → Nat) = fun _ => 0 := by decide
  have o3 : (![0, 0, 0] : Fin 3 → Nat) = fun _ => 0 := by decide
  simp only [View.readAt_eq_ld, harg5.read_unread, harg6.read_unread, harg7.read_unread, harg8.read_unread]
  rw [View.ld_unit_zero (S := S1x256x32) o3, View.ld_unit_zero (S := S1x32) o2, View.ld_unit_zero (S := S1x32x256) o3,
    View.ld_unit_zero (S := S32x1) o2]
  rfl

theorem dx0 : r_31 c arg3 harg3 arg4 harg4 arg5 harg5 arg6 harg6 arg7 harg7 arg8 harg8 arg10 harg10 arg17 x2 x3 x4 x5 x6 x7 x9
    = dxH (sums c harg5 harg6 harg7 harg8 x4 x5 x6 x7) 0 (cols128 arg3 harg3 x2 0) (cols128 arg4 harg4 x3 0) (v58 c arg17) (cols64 arg10 harg10 x9 0) := rfl
theorem ddt0 : k0_pay107 (r_30 c arg1 harg1 arg3 harg3 arg4 harg4 arg5 harg5 arg6 harg6 arg7 harg7 arg8 harg8 arg10 harg10 arg17 x0 x2 x3 x4 x5 x6 x7 x9)
    = shapeCast S256x1 (ddtH (sums c harg5 harg6 harg7 harg8 x4 x5 x6 x7) 0 (cols128 arg3 harg3 x2 0) (cols128 arg4 harg4 x3 0) (v58 c arg17) (cols64 arg1 harg1 x0 0) (cols64 arg10 harg10 x9 0)) shapeCasts_S256x1_S256x1 := rfl
theorem dh0 : k0_pay104 (r_27 c arg4 harg4 arg6 harg6 arg8 harg8 arg11 harg11 arg17 x3 x5 x7 x10)
    = dhH (sums c harg5 harg6 harg7 harg8 x4 x5 x6 x7) 0 (cols128 arg4 harg4 x3 0) (v58 c arg17) (rowsT arg11 harg11 x10 0) := rfl

theorem dx1 : r_52 c arg3 harg3 arg4 harg4 arg5 harg5 arg6 harg6 arg7 harg7 arg8 harg8 arg10 harg10 arg17 x2 x3 x4 x5 x6 x7 x9
    = dxH (sums c harg5 harg6 harg7 harg8 x4 x5 x6 x7) 1 (cols128 arg3 harg3 x2 0) (cols128 arg4 harg4 x3 0) (v60 c arg17) (cols64 arg10 harg10 x9 1) := rfl
theorem ddt1 : v538 c arg1 harg1 arg3 harg3 arg4 harg4 arg5 harg5 arg6 harg6 arg7 harg7 arg8 harg8 arg10 harg10 arg17 x0 x2 x3 x4 x5 x6 x7 x9
    = shapeCast S256x1 (ddtH (sums c harg5 harg6 harg7 harg8 x4 x5 x6 x7) 1 (cols128 arg3 harg3 x2 0) (cols128 arg4 harg4 x3 0) (v60 c arg17) (cols64 arg1 harg1 x0 1) (cols64 arg10 harg10 x9 1)) shapeCasts_S256x1_S256x1 := rfl
theorem dh1 : k0_pay108 (r_44 c arg4 harg4 arg6 harg6 arg8 harg8 arg11 harg11 arg17 x3 x5 x7 x10)
    = dhH (sums c harg5 harg6 harg7 harg8 x4 x5 x6 x7) 1 (cols128 arg4 harg4 x3 0) (v60 c arg17) (rowsT arg11 harg11 x10 1) := rfl

theorem dx2 : r_72 c arg3 harg3 arg4 harg4 arg5 harg5 arg6 harg6 arg7 harg7 arg8 harg8 arg10 harg10 arg17 x2 x3 x4 x5 x6 x7 x9
    = dxH (sums c harg5 harg6 harg7 harg8 x4 x5 x6 x7) 2 (cols128 arg3 harg3 x2 0) (cols128 arg4 harg4 x3 0) (v62 c arg17) (cols64 arg10 harg10 x9 2) := rfl
theorem ddt2 : v551 c arg1 harg1 arg3 harg3 arg4 harg4 arg5 harg5 arg6 harg6 arg7 harg7 arg8 harg8 arg10 harg10 arg17 x0 x2 x3 x4 x5 x6 x7 x9
    = shapeCast S256x1 (ddtH (sums c harg5 harg6 harg7 harg8 x4 x5 x6 x7) 2 (cols128 arg3 harg3 x2 0) (cols128 arg4 harg4 x3 0) (v62 c arg17) (cols64 arg1 harg1 x0 2) (cols64 arg10 harg10 x9 2)) shapeCasts_S256x1_S256x1 := rfl
theorem dh2 : v542 c arg4 harg4 arg6 harg6 arg8 harg8 arg11 harg11 arg17 x3 x5 x7 x10
    = dhH (sums c harg5 harg6 harg7 harg8 x4 x5 x6 x7) 2 (cols128 arg4 harg4 x3 0) (v62 c arg17) (rowsT arg11 harg11 x10 2) := rfl

theorem dx3 : r_92 c arg3 harg3 arg4 harg4 arg5 harg5 arg6 harg6 arg7 harg7 arg8 harg8 arg10 harg10 arg17 x2 x3 x4 x5 x6 x7 x9
    = dxH (sums c harg5 harg6 harg7 harg8 x4 x5 x6 x7) 3 (cols128 arg3 harg3 x2 0) (cols128 arg4 harg4 x3 0) (v64 c arg17) (cols64 arg10 harg10 x9 3) := rfl
theorem ddt3 : k0_pay119 (r_91 c arg1 harg1 arg3 harg3 arg4 harg4 arg5 harg5 arg6 harg6 arg7 harg7 arg8 harg8 arg10 harg10 arg17 x0 x2 x3 x4 x5 x6 x7 x9)
    = shapeCast S256x1 (ddtH (sums c harg5 harg6 harg7 harg8 x4 x5 x6 x7) 3 (cols128 arg3 harg3 x2 0) (cols128 arg4 harg4 x3 0) (v64 c arg17) (cols64 arg1 harg1 x0 3) (cols64 arg10 harg10 x9 3)) shapeCasts_S256x1_S256x1 := rfl
theorem dh3 : v555 c arg4 harg4 arg6 harg6 arg8 harg8 arg11 harg11 arg17 x3 x5 x7 x10
    = dhH (sums c harg5 harg6 harg7 harg8 x4 x5 x6 x7) 3 (cols128 arg4 harg4 x3 0) (v64 c arg17) (rowsT arg11 harg11 x10 3) := rfl

theorem dx4 : r_122 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 4 (cols128 arg3 harg3 x2 1) (cols128 arg4 harg4 x3 1) (v578 c arg4 harg4 arg6 harg6 arg8 harg8 arg11 harg11 arg17 x3 x5 x7 x10) (cols64 arg10 harg10 x9 4) := rfl
theorem ddt4 : k0_pay213 (r_121 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 4 (cols128 arg3 harg3 x2 1) (cols128 arg4 harg4 x3 1) (v578 c arg4 harg4 arg6 harg6 arg8 harg8 arg11 harg11 arg17 x3 x5 x7 x10) (cols64 arg1 harg1 x0 4) (cols64 arg10 harg10 x9 4)) shapeCasts_S256x1_S256x1 := rfl
theorem dh4 : k0_pay210 (r_114 c arg4 harg4 arg6 harg6 arg8 harg8 arg11 harg11 arg17 x3 x5 x7 x10)
    = dhH (sums c harg5 harg6 harg7 harg8 x4 x5 x6 x7) 4 (cols128 arg4 harg4 x3 1) (v578 c arg4 harg4 arg6 harg6 arg8 harg8 arg11 harg11 arg17 x3 x5 x7 x10) (rowsT arg11 harg11 x10 4) := rfl

theorem dx5 : r_143 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 5 (cols128 arg3 harg3 x2 1) (cols128 arg4 harg4 x3 1) (v580 c arg4 harg4 arg6 harg6 arg8 harg8 arg11 harg11 arg17 x3 x5 x7 x10) (cols64 arg10 harg10 x9 5) := rfl
theorem ddt5 : v1058 c arg1 harg1 arg3 harg3 arg4 harg4 arg5 harg5 arg6 harg6 arg7 harg7 arg8 harg8 arg10 harg10 arg11 harg11 arg17 x0 x2 x3 x4 x5 x6 x7 x9 x10
    = shapeCast S256x1 (ddtH (sums c harg5 harg6 harg7 harg8 x4 x5 x6 x7) 5 (cols128 arg3 harg3 x2 1) (cols128 arg4 harg4 x3 1) (v580 c arg4 harg4 arg6 harg6 arg8 harg8 arg11 harg11 arg17 x3 x5 x7 x10) (cols64 arg1 harg1 x0 5) (cols64 arg10 harg10 x9 5)) shapeCasts_S256x1_S256x1 := rfl
theorem dh5 : k0_pay214 (r_137 c arg4 harg4 arg6 harg6 arg8 harg8 arg11 harg11 arg17 x3 x5 x7 x10)
    = dhH (sums c harg5 harg6 harg7 harg8 x4 x5 x6 x7) 5 (cols128 arg4 harg4 x3 1) (v580 c arg4 harg4 arg6 harg6 arg8 harg8 arg11 harg11 arg17 x3 x5 x7 x10) (rowsT arg11 harg11 x10 5) := rfl

theorem dx6 : r_162 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 6 (cols128 arg3 harg3 x2 1) (cols128 arg4 harg4 x3 1) (v582 c arg4 harg4 arg6 harg6 arg8 harg8 arg11 harg11 arg17 x3 x5 x7 x10) (cols64 arg10 harg10 x9 6) := rfl
theorem ddt6 : v1071 c arg1 harg1 arg3 harg3 arg4 harg4 arg5 harg5 arg6 harg6 arg7 harg7 arg8 harg8 arg10 harg10 arg11 harg11 arg17 x0 x2 x3 x4 x5 x6 x7 x9 x10
    = shapeCast S256x1 (ddtH (sums c harg5 harg6 harg7 harg8 x4 x5 x6 x7) 6 (cols128 arg3 harg3 x2 1) (cols128 arg4 harg4 x3 1) (v582 c arg4 harg4 arg6 harg6 arg8 harg8 arg11 harg11 arg17 x3 x5 x7 x10) (cols64 arg1 harg1 x0 6) (cols64 arg10 harg10 x9 6)) shapeCasts_S256x1_S256x1 := rfl
theorem dh6 : v1062 c arg4 harg4 arg6 harg6 arg8 harg8 arg11 harg11 arg17 x3 x5 x7 x10
    = dhH (sums c harg5 harg6 harg7 harg8 x4 x5 x6 x7) 6 (cols128 arg4 harg4 x3 1) (v582 c arg4 harg4 arg6 harg6 arg8 harg8 arg11 harg11 arg17 x3 x5 x7 x10) (rowsT arg11 harg11 x10 6) := rfl

theorem dx7 : r_180 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 7 (cols128 arg3 harg3 x2 1) (cols128 arg4 harg4 x3 1) (v584 c arg4 harg4 arg6 harg6 arg8 harg8 arg11 harg11 arg17 x3 x5 x7 x10) (cols64 arg10 harg10 x9 7) := rfl
theorem ddt7 : k0_pay225 (r_179 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 7 (cols128 arg3 harg3 x2 1) (cols128 arg4 harg4 x3 1) (v584 c arg4 harg4 arg6 harg6 arg8 harg8 arg11 harg11 arg17 x3 x5 x7 x10) (cols64 arg1 harg1 x0 7) (cols64 arg10 harg10 x9 7)) shapeCasts_S256x1_S256x1 := rfl
theorem dh7 : v1075 c arg4 harg4 arg6 harg6 arg8 harg8 arg11 harg11 arg17 x3 x5 x7 x10
    = dhH (sums c harg5 harg6 harg7 harg8 x4 x5 x6 x7) 7 (cols128 arg4 harg4 x3 1) (v584 c arg4 harg4 arg6 harg6 arg8 harg8 arg11 harg11 arg17 x3 x5 x7 x10) (rowsT arg11 harg11 x10 7) := rfl

theorem dx8 : r_208 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 8 (cols128 arg3 harg3 x2 2) (cols128 arg4 harg4 x3 2) (v1098 c arg4 harg4 arg6 harg6 arg8 harg8 arg11 harg11 arg17 x3 x5 x7 x10) (cols64 arg10 harg10 x9 8) := rfl
theorem ddt8 : k0_pay317 (r_207 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 8 (cols128 arg3 harg3 x2 2) (cols128 arg4 harg4 x3 2) (v1098 c arg4 harg4 arg6 harg6 arg8 harg8 arg11 harg11 arg17 x3 x5 x7 x10) (cols64 arg1 harg1 x0 8) (cols64 arg10 harg10 x9 8)) shapeCasts_S256x1_S256x1 := rfl
theorem dh8 : k0_pay314 (r_200 c arg4 harg4 arg6 harg6 arg8 harg8 arg11 harg11 arg17 x3 x5 x7 x10)
    = dhH (sums c harg5 harg6 harg7 harg8 x4 x5 x6 x7) 8 (cols128 arg4 harg4 x3 2) (v1098 c arg4 harg4 arg6 harg6 arg8 harg8 arg11 harg11 arg17 x3 x5 x7 x10) (rowsT arg11 harg11 x10 8) := rfl

theorem dx9 : r_227 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 9 (cols128 arg3 harg3 x2 2) (cols128 arg4 harg4 x3 2) (v1100 c arg4 harg4 arg6 harg6 arg8 harg8 arg11 harg11 arg17 x3 x5 x7 x10) (cols64 arg10 harg10 x9 9) := rfl
theorem ddt9 : v1578 c arg1 harg1 arg3 harg3 arg4 harg4 arg5 harg5 arg6 harg6 arg7 harg7 arg8 harg8 arg10 harg10 arg11 harg11 arg17 x0 x2 x3 x4 x5 x6 x7 x9 x10
    = shapeCast S256x1 (ddtH (sums c harg5 harg6 harg7 harg8 x4 x5 x6 x7) 9 (cols128 arg3 harg3 x2 2) (cols128 arg4 harg4 x3 2) (v1100 c arg4 harg4 arg6 harg6 arg8 harg8 arg11 harg11 arg17 x3 x5 x7 x10) (cols64 arg1 harg1 x0 9) (cols64 arg10 harg10 x9 9)) shapeCasts_S256x1_S256x1 := rfl
theorem dh9 : v1569 c arg4 harg4 arg6 harg6 arg8 harg8 arg11 harg11 arg17 x3 x5 x7 x10
    = dhH (sums c harg5 harg6 harg7 harg8 x4 x5 x6 x7) 9 (cols128 arg4 harg4 x3 2) (v1100 c arg4 harg4 arg6 harg6 arg8 harg8 arg11 harg11 arg17 x3 x5 x7 x10) (rowsT arg11 harg11 x10 9) := rfl

theorem dx10 : r_247 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 10 (cols128 arg3 harg3 x2 2) (cols128 arg4 harg4 x3 2) (v1102 c arg4 harg4 arg6 harg6 arg8 harg8 arg11 harg11 arg17 x3 x5 x7 x10) (cols64 arg10 harg10 x9 10) := rfl
theorem ddt10 : v1591 c arg1 harg1 arg3 harg3 arg4 harg4 arg5 harg5 arg6 harg6 arg7 harg7 arg8 harg8 arg10 harg10 arg11 harg11 arg17 x0 x2 x3 x4 x5 x6 x7 x9 x10
    = shapeCast S256x1 (ddtH (sums c harg5 harg6 harg7 harg8 x4 x5 x6 x7) 10 (cols128 arg3 harg3 x2 2) (cols128 arg4 harg4 x3 2) (v1102 c arg4 harg4 arg6 harg6 arg8 harg8 arg11 harg11 arg17 x3 x5 x7 x10) (cols64 arg1 harg1 x0 10) (cols64 arg10 harg10 x9 10)) shapeCasts_S256x1_S256x1 := rfl
theorem dh10 : v1582 c arg4 harg4 arg6 harg6 arg8 harg8 arg11 harg11 arg17 x3 x5 x7 x10
    = dhH (sums c harg5 harg6 harg7 harg8 x4 x5 x6 x7) 10 (cols128 arg4 harg4 x3 2) (v1102 c arg4 harg4 arg6 harg6 arg8 harg8 arg11 harg11 arg17 x3 x5 x7 x10) (rowsT arg11 harg11 x10 10) := rfl

theorem dx11 : r_267 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 11 (cols128 arg3 harg3 x2 2) (cols128 arg4 harg4 x3 2) (v1104 c arg4 harg4 arg6 harg6 arg8 harg8 arg11 harg11 arg17 x3 x5 x7 x10) (cols64 arg10 harg10 x9 11) := rfl
theorem ddt11 : k0_pay329 (r_266 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 11 (cols128 arg3 harg3 x2 2) (cols128 arg4 harg4 x3 2) (v1104 c arg4 harg4 arg6 harg6 arg8 harg8 arg11 harg11 arg17 x3 x5 x7 x10) (cols64 arg1 harg1 x0 11) (cols64 arg10 harg10 x9 11)) shapeCasts_S256x1_S256x1 := rfl
theorem dh11 : k0_pay326 (r_261 c arg4 harg4 arg6 harg6 arg8 harg8 arg11 harg11 arg17 x3 x5 x7 x10)
    = dhH (sums c harg5 harg6 harg7 harg8 x4 x5 x6 x7) 11 (cols128 arg4 harg4 x3 2) (v1104 c arg4 harg4 arg6 harg6 arg8 harg8 arg11 harg11 arg17 x3 x5 x7 x10) (rowsT arg11 harg11 x10 11) := rfl

theorem dx12 : r_295 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 12 (cols128 arg3 harg3 x2 3) (cols128 arg4 harg4 x3 3) (v1618 c arg4 harg4 arg6 harg6 arg8 harg8 arg11 harg11 arg17 x3 x5 x7 x10) (cols64 arg10 harg10 x9 12) := rfl
theorem ddt12 : v2085 c arg1 harg1 arg3 harg3 arg4 harg4 arg5 harg5 arg6 harg6 arg7 harg7 arg8 harg8 arg10 harg10 arg11 harg11 arg17 x0 x2 x3 x4 x5 x6 x7 x9 x10
    = shapeCast S256x1 (ddtH (sums c harg5 harg6 harg7 harg8 x4 x5 x6 x7) 12 (cols128 arg3 harg3 x2 3) (cols128 arg4 harg4 x3 3) (v1618 c arg4 harg4 arg6 harg6 arg8 harg8 arg11 harg11 arg17 x3 x5 x7 x10) (cols64 arg1 harg1 x0 12) (cols64 arg10 harg10 x9 12)) shapeCasts_S256x1_S256x1 := rfl
theorem dh12 : k0_pay412 (r_289 c arg4 harg4 arg6 harg6 arg8 harg8 arg11 harg11 arg17 x3 x5 x7 x10)
    = dhH (sums c harg5 harg6 harg7 harg8 x4 x5 x6 x7) 12 (cols128 arg4 harg4 x3 3) (v1618 c arg4 harg4 arg6 harg6 arg8 harg8 arg11 harg11 arg17 x3 x5 x7 x10) (rowsT arg11 harg11 x10 12) := rfl

theorem dx13 : r_312 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 13 (cols128 arg3 harg3 x2 3) (cols128 arg4 harg4 x3 3) (v1620 c arg4 harg4 arg6 harg6 arg8 harg8 arg11 harg11 arg17 x3 x5 x7 x10) (cols64 arg10 harg10 x9 13) := rfl
theorem ddt13 : v2098 c arg1 harg1 arg3 harg3 arg4 harg4 arg5 harg5 arg6 harg6 arg7 harg7 arg8 harg8 arg10 harg10 arg11 harg11 arg17 x0 x2 x3 x4 x5 x6 x7 x9 x10
    = shapeCast S256x1 (ddtH (sums c harg5 harg6 harg7 harg8 x4 x5 x6 x7) 13 (cols128 arg3 harg3 x2 3) (cols128 arg4 harg4 x3 3) (v1620 c arg4 harg4 arg6 harg6 arg8 harg8 arg11 harg11 arg17 x3 x5 x7 x10) (cols64 arg1 harg1 x0 13) (cols64 arg10 harg10 x9 13)) shapeCasts_S256x1_S256x1 := rfl
theorem dh13 : v2089 c arg4 harg4 arg6 harg6 arg8 harg8 arg11 harg11 arg17 x3 x5 x7 x10
    = dhH (sums c harg5 harg6 harg7 harg8 x4 x5 x6 x7) 13 (cols128 arg4 harg4 x3 3) (v1620 c arg4 harg4 arg6 harg6 arg8 harg8 arg11 harg11 arg17 x3 x5 x7 x10) (rowsT arg11 harg11 x10 13) := rfl

theorem dx14 : r_331 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 14 (cols128 arg3 harg3 x2 3) (cols128 arg4 harg4 x3 3) (v1622 c arg4 harg4 arg6 harg6 arg8 harg8 arg11 harg11 arg17 x3 x5 x7 x10) (cols64 arg10 harg10 x9 14) := rfl
theorem ddt14 : k0_pay423 (r_330 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 14 (cols128 arg3 harg3 x2 3) (cols128 arg4 harg4 x3 3) (v1622 c arg4 harg4 arg6 harg6 arg8 harg8 arg11 harg11 arg17 x3 x5 x7 x10) (cols64 arg1 harg1 x0 14) (cols64 arg10 harg10 x9 14)) shapeCasts_S256x1_S256x1 := rfl
theorem dh14 : v2102 c arg4 harg4 arg6 harg6 arg8 harg8 arg11 harg11 arg17 x3 x5 x7 x10
    = dhH (sums c harg5 harg6 harg7 harg8 x4 x5 x6 x7) 14 (cols128 arg4 harg4 x3 3) (v1622 c arg4 harg4 arg6 harg6 arg8 harg8 arg11 harg11 arg17 x3 x5 x7 x10) (rowsT arg11 harg11 x10 14) := rfl

theorem dx15 : r_350 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 15 (cols128 arg3 harg3 x2 3) (cols128 arg4 harg4 x3 3) (v1624 c arg4 harg4 arg6 harg6 arg8 harg8 arg11 harg11 arg17 x3 x5 x7 x10) (cols64 arg10 harg10 x9 15) := rfl
theorem ddt15 : k0_pay427 (r_349 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 15 (cols128 arg3 harg3 x2 3) (cols128 arg4 harg4 x3 3) (v1624 c arg4 harg4 arg6 harg6 arg8 harg8 arg11 harg11 arg17 x3 x5 x7 x10) (cols64 arg1 harg1 x0 15) (cols64 arg10 harg10 x9 15)) shapeCasts_S256x1_S256x1 := rfl
theorem dh15 : k0_pay424 (r_345 c arg4 harg4 arg6 harg6 arg8 harg8 arg11 harg11 arg17 x3 x5 x7 x10)
    = dhH (sums c harg5 harg6 harg7 harg8 x4 x5 x6 x7) 15 (cols128 arg4 harg4 x3 3) (v1624 c arg4 harg4 arg6 harg6 arg8 harg8 arg11 harg11 arg17 x3 x5 x7 x10) (rowsT arg11 harg11 x10 15) := rfl

theorem dx16 : r_380 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 16 (cols128 arg3 harg3 x2 4) (cols128 arg4 harg4 x3 4) (v2138 c arg4 harg4 arg6 harg6 arg8 harg8 arg11 harg11 arg17 x3 x5 x7 x10) (cols64 arg10 harg10 x9 16) := rfl
theorem ddt16 : k0_pay519 (r_379 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 16 (cols128 arg3 harg3 x2 4) (cols128 arg4 harg4 x3 4) (v2138 c arg4 harg4 arg6 harg6 arg8 harg8 arg11 harg11 arg17 x3 x5 x7 x10) (cols64 arg1 harg1 x0 16) (cols64 arg10 harg10 x9 16)) shapeCasts_S256x1_S256x1 := rfl
theorem dh16 : k0_pay516 (r_376 c arg4 harg4 arg6 harg6 arg8 harg8 arg11 harg11 arg17 x3 x5 x7 x10)
    = dhH (sums c harg5 harg6 harg7 harg8 x4 x5 x6 x7) 16 (cols128 arg4 harg4 x3 4) (v2138 c arg4 harg4 arg6 harg6 arg8 harg8 arg11 harg11 arg17 x3 x5 x7 x10) (rowsT arg11 harg11 x10 16) := rfl

theorem dx17 : r_399 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 17 (cols128 arg3 harg3 x2 4) (cols128 arg4 harg4 x3 4) (v2140 c arg4 harg4 arg6 harg6 arg8 harg8 arg11 harg11 arg17 x3 x5 x7 x10) (cols64 arg10 harg10 x9 17) := rfl
theorem ddt17 : k0_pay523 (r_398 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 17 (cols128 arg3 harg3 x2 4) (cols128 arg4 harg4 x3 4) (v2140 c arg4 harg4 arg6 harg6 arg8 harg8 arg11 harg11 arg17 x3 x5 x7 x10) (cols64 arg1 harg1 x0 17) (cols64 arg10 harg10 x9 17)) shapeCasts_S256x1_S256x1 := rfl
theorem dh17 : k0_pay520 (r_393 c arg4 harg4 arg6 harg6 arg8 harg8 arg11 harg11 arg17 x3 x5 x7 x10)
    = dhH (sums c harg5 harg6 harg7 harg8 x4 x5 x6 x7) 17 (cols128 arg4 harg4 x3 4) (v2140 c arg4 harg4 arg6 harg6 arg8 harg8 arg11 harg11 arg17 x3 x5 x7 x10) (rowsT arg11 harg11 x10 17) := rfl

theorem dx18 : r_417 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 18 (cols128 arg3 harg3 x2 4) (cols128 arg4 harg4 x3 4) (v2142 c arg4 harg4 arg6 harg6 arg8 harg8 arg11 harg11 arg17 x3 x5 x7 x10) (cols64 arg10 harg10 x9 18) := rfl
theorem ddt18 : k0_pay527 (r_416 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 18 (cols128 arg3 harg3 x2 4) (cols128 arg4 harg4 x3 4) (v2142 c arg4 harg4 arg6 harg6 arg8 harg8 arg11 harg11 arg17 x3 x5 x7 x10) (cols64 arg1 harg1 x0 18) (cols64 arg10 harg10 x9 18)) shapeCasts_S256x1_S256x1 := rfl
theorem dh18 : k0_pay524 (r_411 c arg4 harg4 arg6 harg6 arg8 harg8 arg11 harg11 arg17 x3 x5 x7 x10)
    = dhH (sums c harg5 harg6 harg7 harg8 x4 x5 x6 x7) 18 (cols128 arg4 harg4 x3 4) (v2142 c arg4 harg4 arg6 harg6 arg8 harg8 arg11 harg11 arg17 x3 x5 x7 x10) (rowsT arg11 harg11 x10 18) := rfl

theorem dx19 : r_436 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 19 (cols128 arg3 harg3 x2 4) (cols128 arg4 harg4 x3 4) (v2144 c arg4 harg4 arg6 harg6 arg8 harg8 arg11 harg11 arg17 x3 x5 x7 x10) (cols64 arg10 harg10 x9 19) := rfl
theorem ddt19 : k0_pay531 (r_435 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 19 (cols128 arg3 harg3 x2 4) (cols128 arg4 harg4 x3 4) (v2144 c arg4 harg4 arg6 harg6 arg8 harg8 arg11 harg11 arg17 x3 x5 x7 x10) (cols64 arg1 harg1 x0 19) (cols64 arg10 harg10 x9 19)) shapeCasts_S256x1_S256x1 := rfl
theorem dh19 : k0_pay528 (r_432 c arg4 harg4 arg6 harg6 arg8 harg8 arg11 harg11 arg17 x3 x5 x7 x10)
    = dhH (sums c harg5 harg6 harg7 harg8 x4 x5 x6 x7) 19 (cols128 arg4 harg4 x3 4) (v2144 c arg4 harg4 arg6 harg6 arg8 harg8 arg11 harg11 arg17 x3 x5 x7 x10) (rowsT arg11 harg11 x10 19) := rfl

theorem dx20 : r_461 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 20 (cols128 arg3 harg3 x2 5) (cols128 arg4 harg4 x3 5) (v2658 c arg4 harg4 arg6 harg6 arg8 harg8 arg11 harg11 arg17 x3 x5 x7 x10) (cols64 arg10 harg10 x9 20) := rfl
theorem ddt20 : k0_pay622 (r_460 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 20 (cols128 arg3 harg3 x2 5) (cols128 arg4 harg4 x3 5) (v2658 c arg4 harg4 arg6 harg6 arg8 harg8 arg11 harg11 arg17 x3 x5 x7 x10) (cols64 arg1 harg1 x0 20) (cols64 arg10 harg10 x9 20)) shapeCasts_S256x1_S256x1 := rfl
theorem dh20 : k0_pay619 (r_457 c arg4 harg4 arg6 harg6 arg8 harg8 arg11 harg11 arg17 x3 x5 x7 x10)
    = dhH (sums c harg5 harg6 harg7 harg8 x4 x5 x6 x7) 20 (cols128 arg4 harg4 x3 5) (v2658 c arg4 harg4 arg6 harg6 arg8 harg8 arg11 harg11 arg17 x3 x5 x7 x10) (rowsT arg11 harg11 x10 20) := rfl

theorem dx21 : r_483 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 21 (cols128 arg3 harg3 x2 5) (cols128 arg4 harg4 x3 5) (v2660 c arg4 harg4 arg6 harg6 arg8 harg8 arg11 harg11 arg17 x3 x5 x7 x10) (cols64 arg10 harg10 x9 21) := rfl
theorem ddt21 : k0_pay626 (r_482 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 21 (cols128 arg3 harg3 x2 5) (cols128 arg4 harg4 x3 5) (v2660 c arg4 harg4 arg6 harg6 arg8 harg8 arg11 harg11 arg17 x3 x5 x7 x10) (cols64 arg1 harg1 x0 21) (cols64 arg10 harg10 x9 21)) shapeCasts_S256x1_S256x1 := rfl
theorem dh21 : k0_pay623 (r_476 c arg4 harg4 arg6 harg6 arg8 harg8 arg11 harg11 arg17 x3 x5 x7 x10)
    = dhH (sums c harg5 harg6 harg7 harg8 x4 x5 x6 x7) 21 (cols128 arg4 harg4 x3 5) (v2660 c arg4 harg4 arg6 harg6 arg8 harg8 arg11 harg11 arg17 x3 x5 x7 x10) (rowsT arg11 harg11 x10 21) := rfl

theorem dx22 : r_503 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 22 (cols128 arg3 harg3 x2 5) (cols128 arg4 harg4 x3 5) (v2662 c arg4 harg4 arg6 harg6 arg8 harg8 arg11 harg11 arg17 x3 x5 x7 x10) (cols64 arg10 harg10 x9 22) := rfl
theorem ddt22 : k0_pay630 (r_502 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 22 (cols128 arg3 harg3 x2 5) (cols128 arg4 harg4 x3 5) (v2662 c arg4 harg4 arg6 harg6 arg8 harg8 arg11 harg11 arg17 x3 x5 x7 x10) (cols64 arg1 harg1 x0 22) (cols64 arg10 harg10 x9 22)) shapeCasts_S256x1_S256x1 := rfl
theorem dh22 : k0_pay627 (r_498 c arg4 harg4 arg6 harg6 arg8 harg8 arg11 harg11 arg17 x3 x5 x7 x10)
    = dhH (sums c harg5 harg6 harg7 harg8 x4 x5 x6 x7) 22 (cols128 arg4 harg4 x3 5) (v2662 c arg4 harg4 arg6 harg6 arg8 harg8 arg11 harg11 arg17 x3 x5 x7 x10) (rowsT arg11 harg11 x10 22) := rfl

theorem dx23 : r_522 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 23 (cols128 arg3 harg3 x2 5) (cols128 arg4 harg4 x3 5) (v2664 c arg4 harg4 arg6 harg6 arg8 harg8 arg11 harg11 arg17 x3 x5 x7 x10) (cols64 arg10 harg10 x9 23) := rfl
theorem ddt23 : k0_pay634 (r_521 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 23 (cols128 arg3 harg3 x2 5) (cols128 arg4 harg4 x3 5) (v2664 c arg4 harg4 arg6 harg6 arg8 harg8 arg11 harg11 arg17 x3 x5 x7 x10) (cols64 arg1 harg1 x0 23) (cols64 arg10 harg10 x9 23)) shapeCasts_S256x1_S256x1 := rfl
theorem dh23 : k0_pay631 (r_518 c arg4 harg4 arg6 harg6 arg8 harg8 arg11 harg11 arg17 x3 x5 x7 x10)
    = dhH (sums c harg5 harg6 harg7 harg8 x4 x5 x6 x7) 23 (cols128 arg4 harg4 x3 5) (v2664 c arg4 harg4 arg6 harg6 arg8 harg8 arg11 harg11 arg17 x3 x5 x7 x10) (rowsT arg11 harg11 x10 23) := rfl

theorem dx24 : r_547 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 24 (cols128 arg3 harg3 x2 6) (cols128 arg4 harg4 x3 6) (v3178 c arg4 harg4 arg6 harg6 arg8 harg8 arg11 harg11 arg17 x3 x5 x7 x10) (cols64 arg10 harg10 x9 24) := rfl
theorem ddt24 : k0_pay727 (r_546 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 24 (cols128 arg3 harg3 x2 6) (cols128 arg4 harg4 x3 6) (v3178 c arg4 harg4 arg6 harg6 arg8 harg8 arg11 harg11 arg17 x3 x5 x7 x10) (cols64 arg1 harg1 x0 24) (cols64 arg10 harg10 x9 24)) shapeCasts_S256x1_S256x1 := rfl
theorem dh24 : k0_pay724 (r_543 c arg4 harg4 arg6 harg6 arg8 harg8 arg11 harg11 arg17 x3 x5 x7 x10)
    = dhH (sums c harg5 harg6 harg7 harg8 x4 x5 x6 x7) 24 (cols128 arg4 harg4 x3 6) (v3178 c arg4 harg4 arg6 harg6 arg8 harg8 arg11 harg11 arg17 x3 x5 x7 x10) (rowsT arg11 harg11 x10 24) := rfl

theorem dx25 : r_568 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 25 (cols128 arg3 harg3 x2 6) (cols128 arg4 harg4 x3 6) (v3180 c arg4 harg4 arg6 harg6 arg8 harg8 arg11 harg11 arg17 x3 x5 x7 x10) (cols64 arg10 harg10 x9 25) := rfl
theorem ddt25 : k0_pay731 (r_567 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 25 (cols128 arg3 harg3 x2 6) (cols128 arg4 harg4 x3 6) (v3180 c arg4 harg4 arg6 harg6 arg8 harg8 arg11 harg11 arg17 x3 x5 x7 x10) (cols64 arg1 harg1 x0 25) (cols64 arg10 harg10 x9 25)) shapeCasts_S256x1_S256x1 := rfl
theorem dh25 : k0_pay728 (r_560 c arg4 harg4 arg6 harg6 arg8 harg8 arg11 harg11 arg17 x3 x5 x7 x10)
    = dhH (sums c harg5 harg6 harg7 harg8 x4 x5 x6 x7) 25 (cols128 arg4 harg4 x3 6) (v3180 c arg4 harg4 arg6 harg6 arg8 harg8 arg11 harg11 arg17 x3 x5 x7 x10) (rowsT arg11 harg11 x10 25) := rfl

theorem dx26 : r_588 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 26 (cols128 arg3 harg3 x2 6) (cols128 arg4 harg4 x3 6) (v3182 c arg4 harg4 arg6 harg6 arg8 harg8 arg11 harg11 arg17 x3 x5 x7 x10) (cols64 arg10 harg10 x9 26) := rfl
theorem ddt26 : k0_pay735 (r_587 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 26 (cols128 arg3 harg3 x2 6) (cols128 arg4 harg4 x3 6) (v3182 c arg4 harg4 arg6 harg6 arg8 harg8 arg11 harg11 arg17 x3 x5 x7 x10) (cols64 arg1 harg1 x0 26) (cols64 arg10 harg10 x9 26)) shapeCasts_S256x1_S256x1 := rfl
theorem dh26 : k0_pay732 (r_584 c arg4 harg4 arg6 harg6 arg8 harg8 arg11 harg11 arg17 x3 x5 x7 x10)
    = dhH (sums c harg5 harg6 harg7 harg8 x4 x5 x6 x7) 26 (cols128 arg4 harg4 x3 6) (v3182 c arg4 harg4 arg6 harg6 arg8 harg8 arg11 harg11 arg17 x3 x5 x7 x10) (rowsT arg11 harg11 x10 26) := rfl

theorem dx27 : r_608 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 27 (cols128 arg3 harg3 x2 6) (cols128 arg4 harg4 x3 6) (v3184 c arg4 harg4 arg6 harg6 arg8 harg8 arg11 harg11 arg17 x3 x5 x7 x10) (cols64 arg10 harg10 x9 27) := rfl
theorem ddt27 : k0_pay739 (r_607 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 27 (cols128 arg3 harg3 x2 6) (cols128 arg4 harg4 x3 6) (v3184 c arg4 harg4 arg6 harg6 arg8 harg8 arg11 harg11 arg17 x3 x5 x7 x10) (cols64 arg1 harg1 x0 27) (cols64 arg10 harg10 x9 27)) shapeCasts_S256x1_S256x1 := rfl
theorem dh27 : k0_pay736 (r_600 c arg4 harg4 arg6 harg6 arg8 harg8 arg11 harg11 arg17 x3 x5 x7 x10)
    = dhH (sums c harg5 harg6 harg7 harg8 x4 x5 x6 x7) 27 (cols128 arg4 harg4 x3 6) (v3184 c arg4 harg4 arg6 harg6 arg8 harg8 arg11 harg11 arg17 x3 x5 x7 x10) (rowsT arg11 harg11 x10 27) := rfl

theorem dx28 : r_638 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 28 (cols128 arg3 harg3 x2 7) (cols128 arg4 harg4 x3 7) (v3698 c arg4 harg4 arg6 harg6 arg8 harg8 arg11 harg11 arg17 x3 x5 x7 x10) (cols64 arg10 harg10 x9 28) := rfl
theorem ddt28 : k0_pay833 (r_637 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 28 (cols128 arg3 harg3 x2 7) (cols128 arg4 harg4 x3 7) (v3698 c arg4 harg4 arg6 harg6 arg8 harg8 arg11 harg11 arg17 x3 x5 x7 x10) (cols64 arg1 harg1 x0 28) (cols64 arg10 harg10 x9 28)) shapeCasts_S256x1_S256x1 := rfl
theorem dh28 : k0_pay830 (r_630 c arg4 harg4 arg6 harg6 arg8 harg8 arg11 harg11 arg17 x3 x5 x7 x10)
    = dhH (sums c harg5 harg6 harg7 harg8 x4 x5 x6 x7) 28 (cols128 arg4 harg4 x3 7) (v3698 c arg4 harg4 arg6 harg6 arg8 harg8 arg11 harg11 arg17 x3 x5 x7 x10) (rowsT arg11 harg11 x10 28) := rfl

theorem dx29 : r_659 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 29 (cols128 arg3 harg3 x2 7) (cols128 arg4 harg4 x3 7) (v3700 c arg4 harg4 arg6 harg6 arg8 harg8 arg11 harg11 arg17 x3 x5 x7 x10) (cols64 arg10 harg10 x9 29) := rfl
theorem ddt29 : k0_pay837 (r_658 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 29 (cols128 arg3 harg3 x2 7) (cols128 arg4 harg4 x3 7) (v3700 c arg4 harg4 arg6 harg6 arg8 harg8 arg11 harg11 arg17 x3 x5 x7 x10) (cols64 arg1 harg1 x0 29) (cols64 arg10 harg10 x9 29)) shapeCasts_S256x1_S256x1 := rfl
theorem dh29 : k0_pay834 (r_653 c arg4 harg4 arg6 harg6 arg8 harg8 arg11 harg11 arg17 x3 x5 x7 x10)
    = dhH (sums c harg5 harg6 harg7 harg8 x4 x5 x6 x7) 29 (cols128 arg4 harg4 x3 7) (v3700 c arg4 harg4 arg6 harg6 arg8 harg8 arg11 harg11 arg17 x3 x5 x7 x10) (rowsT arg11 harg11 x10 29) := rfl

theorem dx30 : r_678 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 30 (cols128 arg3 harg3 x2 7) (cols128 arg4 harg4 x3 7) (v3702 c arg4 harg4 arg6 harg6 arg8 harg8 arg11 harg11 arg17 x3 x5 x7 x10) (cols64 arg10 harg10 x9 30) := rfl
theorem ddt30 : k0_pay841 (r_676 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 30 (cols128 arg3 harg3 x2 7) (cols128 arg4 harg4 x3 7) (v3702 c arg4 harg4 arg6 harg6 arg8 harg8 arg11 harg11 arg17 x3 x5 x7 x10) (cols64 arg1 harg1 x0 30) (cols64 arg10 harg10 x9 30)) shapeCasts_S256x1_S256x1 := rfl
theorem dh30 : k0_pay838 (r_673 c arg4 harg4 arg6 harg6 arg8 harg8 arg11 harg11 arg17 x3 x5 x7 x10)
    = dhH (sums c harg5 harg6 harg7 harg8 x4 x5 x6 x7) 30 (cols128 arg4 harg4 x3 7) (v3702 c arg4 harg4 arg6 harg6 arg8 harg8 arg11 harg11 arg17 x3 x5 x7 x10) (rowsT arg11 harg11 x10 30) := rfl

theorem dx31 : r_696 c arg3 harg3 arg4 harg4 arg5 harg5 arg6 harg6 arg7 harg7 arg8 harg8 arg10 harg10 arg11 harg11 arg17 x2 x3 x4 x5 x6 x7 x9 x10
    = dxH (sums c harg5 harg6 harg7 harg8 x4 x5 x6 x7) 31 (cols128 arg3 harg3 x2 7) (cols128 arg4 harg4 x3 7) (v3704 c arg4 harg4 arg6 harg6 arg8 harg8 arg11 harg11 arg17 x3 x5 x7 x10) (cols64 arg10 harg10 x9 31) := rfl
theorem ddt31 : k0_pay845 (r_695 c arg1 harg1 arg3 harg3 arg4 harg4 arg5 harg5 arg6 harg6 arg7 harg7 arg8 harg8 arg10 harg10 arg11 harg11 arg17 x0 x2 x3 x4 x5 x6 x7 x9 x10)
    = shapeCast S256x1 (ddtH (sums c harg5 harg6 harg7 harg8 x4 x5 x6 x7) 31 (cols128 arg3 harg3 x2 7) (cols128 arg4 harg4 x3 7) (v3704 c arg4 harg4 arg6 harg6 arg8 harg8 arg11 harg11 arg17 x3 x5 x7 x10) (cols64 arg1 harg1 x0 31) (cols64 arg10 harg10 x9 31)) shapeCasts_S256x1_S256x1 := rfl
theorem dh31 : k0_pay842 (r_690 c arg4 harg4 arg6 harg6 arg8 harg8 arg11 harg11 arg17 x3 x5 x7 x10)
    = dhH (sums c harg5 harg6 harg7 harg8 x4 x5 x6 x7) 31 (cols128 arg4 harg4 x3 7) (v3704 c arg4 harg4 arg6 harg6 arg8 harg8 arg11 harg11 arg17 x3 x5 x7 x10) (rowsT arg11 harg11 x10 31) := rfl

theorem db0 : r_83 c arg1 harg1 arg4 harg4 arg5 harg5 arg6 harg6 arg7 harg7 arg8 harg8 arg10 harg10 arg17 x0 x3 x4 x5 x6 x7 x9
    = dbH (sums c harg5 harg6 harg7 harg8 x4 x5 x6 x7) 3 (dbH (sums c harg5 harg6 harg7 harg8 x4 x5 x6 x7) 2 (dbH (sums c harg5 harg6 harg7 harg8 x4 x5 x6 x7) 1 (dbH (sums c harg5 harg6 harg7 harg8 x4 x5 x6 x7) 0 (broadcast S256x128 (Scalar.ofBits .f32 0x00000000#32)) (cols128 arg4 harg4 x3 0) (v58 c arg17) (cols64 arg1 harg1 x0 0) (cols64 arg10 harg10 x9 0)) (cols128 arg4 harg4 x3 0) (v60 c arg17) (cols64 arg1 harg1 x0 1) (cols64 arg10 harg10 x9 1)) (cols128 arg4 harg4 x3 0) (v62 c arg17) (cols64 arg1 harg1 x0 2) (cols64 arg10 harg10 x9 2)) (cols128 arg4 harg4 x3 0) (v64 c arg17) (cols64 arg1 harg1 x0 3) (cols64 arg10 harg10 x9 3) := rfl

theorem db1 : r_173 c arg1 harg1 arg4 harg4 arg5 harg5 arg6 harg6 arg7 harg7 arg8 harg8 arg10 harg10 arg11 harg11 arg17 x0 x3 x4 x5 x6 x7 x9 x10
    = dbH (sums c harg5 harg6 harg7 harg8 x4 x5 x6 x7) 7 (dbH (sums c harg5 harg6 harg7 harg8 x4 x5 x6 x7) 6 (dbH (sums c harg5 harg6 harg7 harg8 x4 x5 x6 x7) 5 (dbH (sums c harg5 harg6 harg7 harg8 x4 x5 x6 x7) 4 (broadcast S256x128 (Scalar.ofBits .f32 0x00000000#32)) (cols128 arg4 harg4 x3 1) (v578 c arg4 harg4 arg6 harg6 arg8 harg8 arg11 harg11 arg17 x3 x5 x7 x10) (cols64 arg1 harg1 x0 4) (cols64 arg10 harg10 x9 4)) (cols128 arg4 harg4 x3 1) (v580 c arg4 harg4 arg6 harg6 arg8 harg8 arg11 harg11 arg17 x3 x5 x7 x10) (cols64 arg1 harg1 x0 5) (cols64 arg10 harg10 x9 5)) (cols128 arg4 harg4 x3 1) (v582 c arg4 harg4 arg6 harg6 arg8 harg8 arg11 harg11 arg17 x3 x5 x7 x10) (cols64 arg1 harg1 x0 6) (cols64 arg10 harg10 x9 6)) (cols128 arg4 harg4 x3 1) (v584 c arg4 harg4 arg6 harg6 arg8 harg8 arg11 harg11 arg17 x3 x5 x7 x10) (cols64 arg1 harg1 x0 7) (cols64 arg10 harg10 x9 7) := rfl

theorem db2 : r_260 c arg1 harg1 arg4 harg4 arg5 harg5 arg6 harg6 arg7 harg7 arg8 harg8 arg10 harg10 arg11 harg11 arg17 x0 x3 x4 x5 x6 x7 x9 x10
    = dbH (sums c harg5 harg6 harg7 harg8 x4 x5 x6 x7) 11 (dbH (sums c harg5 harg6 harg7 harg8 x4 x5 x6 x7) 10 (dbH (sums c harg5 harg6 harg7 harg8 x4 x5 x6 x7) 9 (dbH (sums c harg5 harg6 harg7 harg8 x4 x5 x6 x7) 8 (broadcast S256x128 (Scalar.ofBits .f32 0x00000000#32)) (cols128 arg4 harg4 x3 2) (v1098 c arg4 harg4 arg6 harg6 arg8 harg8 arg11 harg11 arg17 x3 x5 x7 x10) (cols64 arg1 harg1 x0 8) (cols64 arg10 harg10 x9 8)) (cols128 arg4 harg4 x3 2) (v1100 c arg4 harg4 arg6 harg6 arg8 harg8 arg11 harg11 arg17 x3 x5 x7 x10) (cols64 arg1 harg1 x0 9) (cols64 arg10 harg10 x9 9)) (cols128 arg4 harg4 x3 2) (v1102 c arg4 harg4 arg6 harg6 arg8 harg8 arg11 harg11 arg17 x3 x5 x7 x10) (cols64 arg1 harg1 x0 10) (cols64 arg10 harg10 x9 10)) (cols128 arg4 harg4 x3 2) (v1104 c arg4 harg4 arg6 harg6 arg8 harg8 arg11 harg11 arg17 x3 x5 x7 x10) (cols64 arg1 harg1 x0 11) (cols64 arg10 harg10 x9 11) := rfl

theorem db3 : r_344 c arg1 harg1 arg4 harg4 arg5 harg5 arg6 harg6 arg7 harg7 arg8 harg8 arg10 harg10 arg11 harg11 arg17 x0 x3 x4 x5 x6 x7 x9 x10
    = dbH (sums c harg5 harg6 harg7 harg8 x4 x5 x6 x7) 15 (dbH (sums c harg5 harg6 harg7 harg8 x4 x5 x6 x7) 14 (dbH (sums c harg5 harg6 harg7 harg8 x4 x5 x6 x7) 13 (dbH (sums c harg5 harg6 harg7 harg8 x4 x5 x6 x7) 12 (broadcast S256x128 (Scalar.ofBits .f32 0x00000000#32)) (cols128 arg4 harg4 x3 3) (v1618 c arg4 harg4 arg6 harg6 arg8 harg8 arg11 harg11 arg17 x3 x5 x7 x10) (cols64 arg1 harg1 x0 12) (cols64 arg10 harg10 x9 12)) (cols128 arg4 harg4 x3 3) (v1620 c arg4 harg4 arg6 harg6 arg8 harg8 arg11 harg11 arg17 x3 x5 x7 x10) (cols64 arg1 harg1 x0 13) (cols64 arg10 harg10 x9 13)) (cols128 arg4 harg4 x3 3) (v1622 c arg4 harg4 arg6 harg6 arg8 harg8 arg11 harg11 arg17 x3 x5 x7 x10) (cols64 arg1 harg1 x0 14) (cols64 arg10 harg10 x9 14)) (cols128 arg4 harg4 x3 3) (v1624 c arg4 harg4 arg6 harg6 arg8 harg8 arg11 harg11 arg17 x3 x5 x7 x10) (cols64 arg1 harg1 x0 15) (cols64 arg10 harg10 x9 15) := rfl

theorem db4 : r_429 c arg1 harg1 arg4 harg4 arg5 harg5 arg6 harg6 arg7 harg7 arg8 harg8 arg10 harg10 arg11 harg11 arg17 x0 x3 x4 x5 x6 x7 x9 x10
    = dbH (sums c harg5 harg6 harg7 harg8 x4 x5 x6 x7) 19 (dbH (sums c harg5 harg6 harg7 harg8 x4 x5 x6 x7) 18 (dbH (sums c harg5 harg6 harg7 harg8 x4 x5 x6 x7) 17 (dbH (sums c harg5 harg6 harg7 harg8 x4 x5 x6 x7) 16 (broadcast S256x128 (Scalar.ofBits .f32 0x00000000#32)) (cols128 arg4 harg4 x3 4) (v2138 c arg4 harg4 arg6 harg6 arg8 harg8 arg11 harg11 arg17 x3 x5 x7 x10) (cols64 arg1 harg1 x0 16) (cols64 arg10 harg10 x9 16)) (cols128 arg4 harg4 x3 4) (v2140 c arg4 harg4 arg6 harg6 arg8 harg8 arg11 harg11 arg17 x3 x5 x7 x10) (cols64 arg1 harg1 x0 17) (cols64 arg10 harg10 x9 17)) (cols128 arg4 harg4 x3 4) (v2142 c arg4 harg4 arg6 harg6 arg8 harg8 arg11 harg11 arg17 x3 x5 x7 x10) (cols64 arg1 harg1 x0 18) (cols64 arg10 harg10 x9 18)) (cols128 arg4 harg4 x3 4) (v2144 c arg4 harg4 arg6 harg6 arg8 harg8 arg11 harg11 arg17 x3 x5 x7 x10) (cols64 arg1 harg1 x0 19) (cols64 arg10 harg10 x9 19) := rfl

theorem db5 : r_517 c arg1 harg1 arg4 harg4 arg5 harg5 arg6 harg6 arg7 harg7 arg8 harg8 arg10 harg10 arg11 harg11 arg17 x0 x3 x4 x5 x6 x7 x9 x10
    = dbH (sums c harg5 harg6 harg7 harg8 x4 x5 x6 x7) 23 (dbH (sums c harg5 harg6 harg7 harg8 x4 x5 x6 x7) 22 (dbH (sums c harg5 harg6 harg7 harg8 x4 x5 x6 x7) 21 (dbH (sums c harg5 harg6 harg7 harg8 x4 x5 x6 x7) 20 (broadcast S256x128 (Scalar.ofBits .f32 0x00000000#32)) (cols128 arg4 harg4 x3 5) (v2658 c arg4 harg4 arg6 harg6 arg8 harg8 arg11 harg11 arg17 x3 x5 x7 x10) (cols64 arg1 harg1 x0 20) (cols64 arg10 harg10 x9 20)) (cols128 arg4 harg4 x3 5) (v2660 c arg4 harg4 arg6 harg6 arg8 harg8 arg11 harg11 arg17 x3 x5 x7 x10) (cols64 arg1 harg1 x0 21) (cols64 arg10 harg10 x9 21)) (cols128 arg4 harg4 x3 5) (v2662 c arg4 harg4 arg6 harg6 arg8 harg8 arg11 harg11 arg17 x3 x5 x7 x10) (cols64 arg1 harg1 x0 22) (cols64 arg10 harg10 x9 22)) (cols128 arg4 harg4 x3 5) (v2664 c arg4 harg4 arg6 harg6 arg8 harg8 arg11 harg11 arg17 x3 x5 x7 x10) (cols64 arg1 harg1 x0 23) (cols64 arg10 harg10 x9 23) := rfl

theorem db6 : r_599 c arg1 harg1 arg4 harg4 arg5 harg5 arg6 harg6 arg7 harg7 arg8 harg8 arg10 harg10 arg11 harg11 arg17 x0 x3 x4 x5 x6 x7 x9 x10
    = dbH (sums c harg5 harg6 harg7 harg8 x4 x5 x6 x7) 27 (dbH (sums c harg5 harg6 harg7 harg8 x4 x5 x6 x7) 26 (dbH (sums c harg5 harg6 harg7 harg8 x4 x5 x6 x7) 25 (dbH (sums c harg5 harg6 harg7 harg8 x4 x5 x6 x7) 24 (broadcast S256x128 (Scalar.ofBits .f32 0x00000000#32)) (cols128 arg4 harg4 x3 6) (v3178 c arg4 harg4 arg6 harg6 arg8 harg8 arg11 harg11 arg17 x3 x5 x7 x10) (cols64 arg1 harg1 x0 24) (cols64 arg10 harg10 x9 24)) (cols128 arg4 harg4 x3 6) (v3180 c arg4 harg4 arg6 harg6 arg8 harg8 arg11 harg11 arg17 x3 x5 x7 x10) (cols64 arg1 harg1 x0 25) (cols64 arg10 harg10 x9 25)) (cols128 arg4 harg4 x3 6) (v3182 c arg4 harg4 arg6 harg6 arg8 harg8 arg11 harg11 arg17 x3 x5 x7 x10) (cols64 arg1 harg1 x0 26) (cols64 arg10 harg10 x9 26)) (cols128 arg4 harg4 x3 6) (v3184 c arg4 harg4 arg6 harg6 arg8 harg8 arg11 harg11 arg17 x3 x5 x7 x10) (cols64 arg1 harg1 x0 27) (cols64 arg10 harg10 x9 27) := rfl

theorem db7 : r_689 c arg1 harg1 arg4 harg4 arg5 harg5 arg6 harg6 arg7 harg7 arg8 harg8 arg10 harg10 arg11 harg11 arg17 x0 x3 x4 x5 x6 x7 x9 x10
    = dbH (sums c harg5 harg6 harg7 harg8 x4 x5 x6 x7) 31 (dbH (sums c harg5 harg6 harg7 harg8 x4 x5 x6 x7) 30 (dbH (sums c harg5 harg6 harg7 harg8 x4 x5 x6 x7) 29 (dbH (sums c harg5 harg6 harg7 harg8 x4 x5 x6 x7) 28 (broadcast S256x128 (Scalar.ofBits .f32 0x00000000#32)) (cols128 arg4 harg4 x3 7) (v3698 c arg4 harg4 arg6 harg6 arg8 harg8 arg11 harg11 arg17 x3 x5 x7 x10) (cols64 arg1 harg1 x0 28) (cols64 arg10 harg10 x9 28)) (cols128 arg4 harg4 x3 7) (v3700 c arg4 harg4 arg6 harg6 arg8 harg8 arg11 harg11 arg17 x3 x5 x7 x10) (cols64 arg1 harg1 x0 29) (cols64 arg10 harg10 x9 29)) (cols128 arg4 harg4 x3 7) (v3702 c arg4 harg4 arg6 harg6 arg8 harg8 arg11 harg11 arg17 x3 x5 x7 x10) (cols64 arg1 harg1 x0 30) (cols64 arg10 harg10 x9 30)) (cols128 arg4 harg4 x3 7) (v3704 c arg4 harg4 arg6 harg6 arg8 harg8 arg11 harg11 arg17 x3 x5 x7 x10) (cols64 arg1 harg1 x0 31) (cols64 arg10 harg10 x9 31) := rfl

end Cert.Scan.A
end
-- ==== Proof.ScanOutA.lean ====
/-
  The blocks and the state the first chunk visited leaves, where the carried state is zero, over the reals.
-/
module

public import proofs.«01_k».proof.Proof.ScanWordsA
public import proofs.«01_k».proof.Proof.ScanChunk

@[expose] public section

set_option maxRecDepth 16384

noncomputable section

namespace Cert.Scan.A

open Idealize.ShloMosaic Idealize.ShloMosaic.TcCoe Idealize.ShloMosaic.Pipeline Finset
open Cert.Kernel5Ideal Cert.Kernel5Ideal.Gen Cert.Kernel5Ideal.Gen.kernelRun0_A.sl

variable {X B C DT DY : ℕ → ℕ → ℝ} {A : ℕ → ℝ} {D : ℕ → ℕ → ℕ → ℝ}
variable {c : Dev nD} {i : grid0.Coords}
variable {arg1 : Memref sig .tc .vmem S256x2048 .f32} {harg1 : arg1.IsWhole} {arg2 : Memref sig .tc .vmem S1x2048x256 .f32} {harg2 : arg2.IsWhole} {arg3 : Memref sig .tc .vmem S256x1024 .f32} {harg3 : arg3.IsWhole} {arg4 : Memref sig .tc .vmem S256x1024 .f32} {harg4 : arg4.IsWhole}
variable {arg5 : Memref sig .tc .vmem S1x256x32 .f32} {harg5 : arg5.IsWhole} {arg6 : Memref sig .tc .vmem S1x32x256 .f32} {harg6 : arg6.IsWhole} {arg7 : Memref sig .tc .vmem S1x32 .f32} {harg7 : arg7.IsWhole} {arg8 : Memref sig .tc .vmem S32x1 .f32} {harg8 : arg8.IsWhole}
variable {arg9 : Memref sig .tc .vmem S1x32x64x128 .f32} {harg9 : arg9.IsWhole} {arg10 : Memref sig .tc .vmem S256x2048 .f32} {harg10 : arg10.IsWhole} {arg11 : Memref sig .tc .vmem S1x2048x256 .f32} {harg11 : arg11.IsWhole} {arg12 : Memref sig .tc .vmem S256x2048 .f32} {harg12 : arg12.IsWhole}
variable {arg13 : Memref sig .tc .vmem S256x1024 .f32} {harg13 : arg13.IsWhole} {arg14 : Memref sig .tc .vmem S256x1024 .f32} {harg14 : arg14.IsWhole} {arg15 : Memref sig .tc .vmem S1x256x32 .f32} {harg15 : arg15.IsWhole} {arg16 : Memref sig .tc .vmem S1x256x32 .f32} {harg16 : arg16.IsWhole}
variable {arg17 : Memref sig .tc .vmem S32x64x128 .f32} {harg17 : arg17.IsWhole} {arg18 : Memref sig .tc .vmem S256x32 .f32} {harg18 : arg18.IsWhole} {arg19 : Memref sig .tc .vmem S256x32 .f32} {harg19 : arg19.IsWhole} {arg20 : Memref sig .tc .vmem S32x256 .f32} {harg20 : arg20.IsWhole}
variable {hc0 : cond0_0 i}
variable {x0 : Vec Ideal S256x2048 .f32} {x1 : Vec Ideal S1x2048x256 .f32} {x2 x3 : Vec Ideal S256x1024 .f32}
    {x4 : Vec Ideal S1x256x32 .f32} {x5 : Vec Ideal S1x32x256 .f32} {x6 : Vec Ideal S1x32 .f32} {x7 : Vec Ideal S32x1 .f32}
    {x8 : Vec Ideal S1x32x64x128 .f32} {x9 : Vec Ideal S256x2048 .f32} {x10 : Vec Ideal S1x2048x256 .f32}

/-- Off a head's part, a store there changes nothing. -/
theorem off_part (h : ℕ) (inb) (y : S32x64x128.Idx) (hy : h < (y 0).val) :
    y ∉ (Rect.unit (s := S32x64x128) ![h, 0, 0] S1x64x128.size inb).set := fun hm => by
  have := (Rect.mem_set_unit.mp hm 0).2
  have e : (y 0).val < h + 1 := this
  omega

theorem cons_skip {s : Shape} {e : EltTy} (r : Rect s) (w : r.shape.Idx → Elt Ideal e) (L : List (View.Piece (Elt Ideal) s e)) (y : s.Idx)
    (h : y ∉ r.set) {v : Elt Ideal e} (hL : View.canon L y = v) : View.canon (⟨r, w⟩ :: L) y = v := by
  rw [View.canon_cons_of_not_mem _ _ h, hL]

theorem cons_hit {s : Shape} {e : EltTy} (r : Rect s) (w : r.shape.Idx → Elt Ideal e) (L : List (View.Piece (Elt Ideal) s e)) (y : s.Idx)
    {G : s.Idx → Elt Ideal e} (hw : ∀ x, w x = G (r.emb x)) (hL : y ∉ r.set → View.canon L y = G y) : View.canon (⟨r, w⟩ :: L) y = G y := by
  by_cases hm : y ∈ r.set
  · obtain ⟨x, rfl⟩ := r.exists_idx_of_mem hm
    exact (View.canon_cons_emb r w L x).trans (hw x)
  · rw [View.canon_cons_of_not_mem _ _ hm, hL hm]

theorem zero_cons (h : ℕ) (inb) (w : Vec Ideal S1x64x128 .f32) (L : List (View.Piece (Elt Ideal) S32x64x128 .f32)) (y : S32x64x128.Idx) (hy : h < (y 0).val)
    (hL : View.canon L y = 0) :
    View.canon (Val := Elt Ideal) (e := .f32) (⟨Rect.unit (s := S32x64x128) ![h, 0, 0] S1x64x128.size inb, w⟩ :: L) y = 0 :=
  cons_skip _ w L y (off_part h inb y hy) hL

/-- A store at a head's part over stores that leave `G` elsewhere. -/
theorem state_cons {G : S32x64x128.Idx → EReal} {y : S32x64x128.Idx} (h : Fin 32) (k : ℕ) (hk : h.val = k) {w : Vec Ideal S1x64x128 .f32}
    {L : List (View.Piece (Elt Ideal) S32x64x128 .f32)}
    (hw : ∀ x, w x = G ((Rect.unit (s := S32x64x128) ![h.val, 0, 0] S1x64x128.size (inbS h)).emb x))
    (hL : (y 0).val ≠ k → View.canon L y = G y) :
    View.canon (Val := Elt Ideal) (e := .f32) (⟨Rect.unit (s := S32x64x128) ![h.val, 0, 0] S1x64x128.size (inbS h), w⟩ :: L) y = G y := by
  refine cons_hit _ w L y (G := G) hw fun hm => hL fun e => hm (Rect.mem_set_unit.mpr fun a => ?_)
  fin_cases a
  · show h.val ≤ (y 0).val ∧ (y 0).val < h.val + 1
    omega
  · exact ⟨Nat.zero_le _, by have := (y 1).isLt; show (y 1).val < 0 + 64; have e : (y 1).val < 64 := this; omega⟩
  · exact ⟨Nat.zero_le _, by have := (y 2).isLt; show (y 2).val < 0 + 128; have e : (y 2).val < 128 := this; omega⟩

/-- A head's part of the state, read after stores that leave zero there. -/
theorem part_zero {m : Memref sig .tc .vmem S32x64x128 .f32} {L : List (View.Piece (Elt Ideal) S32x64x128 .f32)} (h : Fin 32) (k : ℕ) (hk : k ≤ h.val)
    (hZ : ∀ y : S32x64x128.Idx, k ≤ (y 0).val → View.canon L y = 0) (p : Fin 64) (n : Fin 128) :
    m.view.readCov L (Rect.unit (s := S32x64x128) ![h.val, 0, 0] S1x64x128.size (inbS h)).toLoadRect (ix3 0 p n) = ((0 : ℝ) : EReal) := by
  rw [View.readCov_eq_canon']
  exact (hZ _ (by show k ≤ h.val + 1 * 0; omega)).trans EReal.coe_zero.symm

theorem zeros_0 (y : S32x64x128.Idx) (_ : 0 ≤ (y 0).val) : View.canon (HS0_1 (F := Ideal)) y = 0 := by
  unfold HS0_1
  have o3 : (![0, 0, 0] : Fin 3 → Nat) = fun _ => 0 := by decide
  rw [View.canon_unit_zero (S := S32x64x128) o3]
  show Ideal.ofBits .f32 0x00000000#32 = 0
  simp [Ideal.ofBits, Ideal.ieee]
theorem st_0 (p : Fin 64) (n : Fin 128) : v58 (F := Ideal) c arg17 (ix3 0 p n) = ((0 : ℝ) : EReal) :=
  part_zero 0 0 (by decide) zeros_0 p n
theorem st_1 (p : Fin 64) (n : Fin 128) : v60 (F := Ideal) c arg17 (ix3 0 p n) = ((0 : ℝ) : EReal) :=
  part_zero 1 0 (by decide) zeros_0 p n
theorem st_2 (p : Fin 64) (n : Fin 128) : v62 (F := Ideal) c arg17 (ix3 0 p n) = ((0 : ℝ) : EReal) :=
  part_zero 2 0 (by decide) zeros_0 p n
theorem st_3 (p : Fin 64) (n : Fin 128) : v64 (F := Ideal) c arg17 (ix3 0 p n) = ((0 : ℝ) : EReal) :=
  part_zero 3 0 (by decide) zeros_0 p n

theorem zeros_1 (y : S32x64x128.Idx) (hy : 4 ≤ (y 0).val) : View.canon (HS0_5 (F := Ideal) c arg4 harg4 arg6 harg6 arg8 harg8 arg11 harg11 arg17 x3 x5 x7 x10) y = 0 := by
  unfold HS0_5 HS0_4 HS0_3
  exact zero_cons 3 _ _ _ y (by omega) (zero_cons 2 _ _ _ y (by omega) (zero_cons 1 _ _ _ y (by omega)
    (zero_cons 0 _ _ _ y (by omega) (zeros_0 y (by omega)))))
theorem st_4 (p : Fin 64) (n : Fin 128) : v578 (F := Ideal) c arg4 harg4 arg6 harg6 arg8 harg8 arg11 harg11 arg17 x3 x5 x7 x10 (ix3 0 p n) = ((0 : ℝ) : EReal) :=
  part_zero 4 4 (by decide) zeros_1 p n
theorem st_5 (p : Fin 64) (n : Fin 128) : v580 (F := Ideal) c arg4 harg4 arg6 harg6 arg8 harg8 arg11 harg11 arg17 x3 x5 x7 x10 (ix3 0 p n) = ((0 : ℝ) : EReal) :=
  part_zero 5 4 (by decide) zeros_1 p n
theorem st_6 (p : Fin 64) (n : Fin 128) : v582 (F := Ideal) c arg4 harg4 arg6 harg6 arg8 harg8 arg11 harg11 arg17 x3 x5 x7 x10 (ix3 0 p n) = ((0 : ℝ) : EReal) :=
  part_zero 6 4 (by decide) zeros_1 p n
theorem st_7 (p : Fin 64) (n : Fin 128) : v584 (F := Ideal) c arg4 harg4 arg6 harg6 arg8 harg8 arg11 harg11 arg17 x3 x5 x7 x10 (ix3 0 p n) = ((0 : ℝ) : EReal) :=
  part_zero 7 4 (by decide) zeros_1 p n

theorem zeros_2 (y : S32x64x128.Idx) (hy : 8 ≤ (y 0).val) : View.canon (HS0_9 (F := Ideal) c arg4 harg4 arg6 harg6 arg8 harg8 arg11 harg11 arg17 x3 x5 x7 x10) y = 0 := by
  unfold HS0_9 HS0_8 HS0_7
  exact zero_cons 7 _ _ _ y (by omega) (zero_cons 6 _ _ _ y (by omega) (zero_cons 5 _ _ _ y (by omega)
    (zero_cons 4 _ _ _ y (by omega) (zeros_1 y (by omega)))))
theorem st_8 (p : Fin 64) (n : Fin 128) : v1098 (F := Ideal) c arg4 harg4 arg6 harg6 arg8 harg8 arg11 harg11 arg17 x3 x5 x7 x10 (ix3 0 p n) = ((0 : ℝ) : EReal) :=
  part_zero 8 8 (by decide) zeros_2 p n
theorem st_9 (p : Fin 64) (n : Fin 128) : v1100 (F := Ideal) c arg4 harg4 arg6 harg6 arg8 harg8 arg11 harg11 arg17 x3 x5 x7 x10 (ix3 0 p n) = ((0 : ℝ) : EReal) :=
  part_zero 9 8 (by decide) zeros_2 p n
theorem st_10 (p : Fin 64) (n : Fin 128) : v1102 (F := Ideal) c arg4 harg4 arg6 harg6 arg8 harg8 arg11 harg11 arg17 x3 x5 x7 x10 (ix3 0 p n) = ((0 : ℝ) : EReal) :=
  part_zero 10 8 (by decide) zeros_2 p n
theorem st_11 (p : Fin 64) (n : Fin 128) : v1104 (F := Ideal) c arg4 harg4 arg6 harg6 arg8 harg8 arg11 harg11 arg17 x3 x5 x7 x10 (ix3 0 p n) = ((0 : ℝ) : EReal) :=
  part_zero 11 8 (by decide) zeros_2 p n

theorem zeros_3 (y : S32x64x128.Idx) (hy : 12 ≤ (y 0).val) : View.canon (HS0_13 (F := Ideal) c arg4 harg4 arg6 harg6 arg8 harg8 arg11 harg11 arg17 x3 x5 x7 x10) y = 0 := by
  unfold HS0_13 HS0_11 HS0_10
  exact zero_cons 11 _ _ _ y (by omega) (zero_cons 10 _ _ _ y (by omega) (zero_cons 9 _ _ _ y (by omega)
    (zero_cons 8 _ _ _ y (by omega) (zeros_2 y (by omega)))))
theorem st_12 (p : Fin 64) (n : Fin 128) : v1618 (F := Ideal) c arg4 harg4 arg6 harg6 arg8 harg8 arg11 harg11 arg17 x3 x5 x7 x10 (ix3 0 p n) = ((0 : ℝ) : EReal) :=
  part_zero 12 12 (by decide) zeros_3 p n
theorem st_13 (p : Fin 64) (n : Fin 128) : v1620 (F := Ideal) c arg4 harg4 arg6 harg6 arg8 harg8 arg11 harg11 arg17 x3 x5 x7 x10 (ix3 0 p n) = ((0 : ℝ) : EReal) :=
  part_zero 13 12 (by decide) zeros_3 p n
theorem st_14 (p : Fin 64) (n : Fin 128) : v1622 (F := Ideal) c arg4 harg4 arg6 harg6 arg8 harg8 arg11 harg11 arg17 x3 x5 x7 x10 (ix3 0 p n) = ((0 : ℝ) : EReal) :=
  part_zero 14 12 (by decide) zeros_3 p n
theorem st_15 (p : Fin 64) (n : Fin 128) : v1624 (F := Ideal) c arg4 harg4 arg6 harg6 arg8 harg8 arg11 harg11 arg17 x3 x5 x7 x10 (ix3 0 p n) = ((0 : ℝ) : EReal) :=
  part_zero 15 12 (by decide) zeros_3 p n

theorem zeros_4 (y : S32x64x128.Idx) (hy : 16 ≤ (y 0).val) : View.canon (HS0_17 (F := Ideal) c arg4 harg4 arg6 harg6 arg8 harg8 arg11 harg11 arg17 x3 x5 x7 x10) y = 0 := by
  unfold HS0_17 HS0_15 HS0_14
  exact zero_cons 15 _ _ _ y (by omega) (zero_cons 14 _ _ _ y (by omega) (zero_cons 13 _ _ _ y (by omega)
    (zero_cons 12 _ _ _ y (by omega) (zeros_3 y (by omega)))))
theorem st_16 (p : Fin 64) (n : Fin 128) : v2138 (F := Ideal) c arg4 harg4 arg6 harg6 arg8 harg8 arg11 harg11 arg17 x3 x5 x7 x10 (ix3 0 p n) = ((0 : ℝ) : EReal) :=
  part_zero 16 16 (by decide) zeros_4 p n
theorem st_17 (p : Fin 64) (n : Fin 128) : v2140 (F := Ideal) c arg4 harg4 arg6 harg6 arg8 harg8 arg11 harg11 arg17 x3 x5 x7 x10 (ix3 0 p n) = ((0 : ℝ) : EReal) :=
  part_zero 17 16 (by decide) zeros_4 p n
theorem st_18 (p : Fin 64) (n : Fin 128) : v2142 (F := Ideal) c arg4 harg4 arg6 harg6 arg8 harg8 arg11 harg11 arg17 x3 x5 x7 x10 (ix3 0 p n) = ((0 : ℝ) : EReal) :=
  part_zero 18 16 (by decide) zeros_4 p n
theorem st_19 (p : Fin 64) (n : Fin 128) : v2144 (F := Ideal) c arg4 harg4 arg6 harg6 arg8 harg8 arg11 harg11 arg17 x3 x5 x7 x10 (ix3 0 p n) = ((0 : ℝ) : EReal) :=
  part_zero 19 16 (by decide) zeros_4 p n

theorem zeros_5 (y : S32x64x128.Idx) (hy : 20 ≤ (y 0).val) : View.canon (HS0_21 (F := Ideal) c arg4 harg4 arg6 harg6 arg8 harg8 arg11 harg11 arg17 x3 x5 x7 x10) y = 0 := by
  unfold HS0_21
  exact zero_cons 19 _ _ _ y (by omega) (zero_cons 18 _ _ _ y (by omega) (zero_cons 17 _ _ _ y (by omega)
    (zero_cons 16 _ _ _ y (by omega) (zeros_4 y (by omega)))))
theorem st_20 (p : Fin 64) (n : Fin 128) : v2658 (F := Ideal) c arg4 harg4 arg6 harg6 arg8 harg8 arg11 harg11 arg17 x3 x5 x7 x10 (ix3 0 p n) = ((0 : ℝ) : EReal) :=
  part_zero 20 20 (by decide) zeros_5 p n
theorem st_21 (p : Fin 64) (n : Fin 128) : v2660 (F := Ideal) c arg4 harg4 arg6 harg6 arg8 harg8 arg11 harg11 arg17 x3 x5 x7 x10 (ix3 0 p n) = ((0 : ℝ) : EReal) :=
  part_zero 21 20 (by decide) zeros_5 p n
theorem st_22 (p : Fin 64) (n : Fin 128) : v2662 (F := Ideal) c arg4 harg4 arg6 harg6 arg8 harg8 arg11 harg11 arg17 x3 x5 x7 x10 (ix3 0 p n) = ((0 : ℝ) : EReal) :=
  part_zero 22 20 (by decide) zeros_5 p n
theorem st_23 (p : Fin 64) (n : Fin 128) : v2664 (F := Ideal) c arg4 harg4 arg6 harg6 arg8 harg8 arg11 harg11 arg17 x3 x5 x7 x10 (ix3 0 p n) = ((0 : ℝ) : EReal) :=
  part_zero 23 20 (by decide) zeros_5 p n

theorem zeros_6 (y : S32x64x128.Idx) (hy : 24 ≤ (y 0).val) : View.canon (HS0_25 (F := Ideal) c arg4 harg4 arg6 harg6 arg8 harg8 arg11 harg11 arg17 x3 x5 x7 x10) y = 0 := by
  unfold HS0_25
  exact zero_cons 23 _ _ _ y (by omega) (zero_cons 22 _ _ _ y (by omega) (zero_cons 21 _ _ _ y (by omega)
    (zero_cons 20 _ _ _ y (by omega) (zeros_5 y (by omega)))))
theorem st_24 (p : Fin 64) (n : Fin 128) : v3178 (F := Ideal) c arg4 harg4 arg6 harg6 arg8 harg8 arg11 harg11 arg17 x3 x5 x7 x10 (ix3 0 p n) = ((0 : ℝ) : EReal) :=
  part_zero 24 24 (by decide) zeros_6 p n
theorem st_25 (p : Fin 64) (n : Fin 128) : v3180 (F := Ideal) c arg4 harg4 arg6 harg6 arg8 harg8 arg11 harg11 arg17 x3 x5 x7 x10 (ix3 0 p n) = ((0 : ℝ) : EReal) :=
  part_zero 25 24 (by decide) zeros_6 p n
theorem st_26 (p : Fin 64) (n : Fin 128) : v3182 (F := Ideal) c arg4 harg4 arg6 harg6 arg8 harg8 arg11 harg11 arg17 x3 x5 x7 x10 (ix3 0 p n) = ((0 : ℝ) : EReal) :=
  part_zero 26 24 (by decide) zeros_6 p n
theorem st_27 (p : Fin 64) (n : Fin 128) : v3184 (F := Ideal) c arg4 harg4 arg6 harg6 arg8 harg8 arg11 harg11 arg17 x3 x5 x7 x10 (ix3 0 p n) = ((0 : ℝ) : EReal) :=
  part_zero 27 24 (by decide) zeros_6 p n

theorem zeros_7 (y : S32x64x128.Idx) (hy : 28 ≤ (y 0).val) : View.canon (HS0_29 (F := Ideal) c arg4 harg4 arg6 harg6 arg8 harg8 arg11 harg11 arg17 x3 x5 x7 x10) y = 0 := by
  unfold HS0_29
  exact zero_cons 27 _ _ _ y (by omega) (zero_cons 26 _ _ _ y (by omega) (zero_cons 25 _ _ _ y (by omega)
    (zero_cons 24 _ _ _ y (by omega) (zeros_6 y (by omega)))))
theorem st_28 (p : Fin 64) (n : Fin 128) : v3698 (F := Ideal) c arg4 harg4 arg6 harg6 arg8 harg8 arg11 harg11 arg17 x3 x5 x7 x10 (ix3 0 p n) = ((0 : ℝ) : EReal) :=
  part_zero 28 28 (by decide) zeros_7 p n
theorem st_29 (p : Fin 64) (n : Fin 128) : v3700 (F := Ideal) c arg4 harg4 arg6 harg6 arg8 harg8 arg11 harg11 arg17 x3 x5 x7 x10 (ix3 0 p n) = ((0 : ℝ) : EReal) :=
  part_zero 29 28 (by decide) zeros_7 p n
theorem st_30 (p : Fin 64) (n : Fin 128) : v3702 (F := Ideal) c arg4 harg4 arg6 harg6 arg8 harg8 arg11 harg11 arg17 x3 x5 x7 x10 (ix3 0 p n) = ((0 : ℝ) : EReal) :=
  part_zero 30 28 (by decide) zeros_7 p n
theorem st_31 (p : Fin 64) (n : Fin 128) : v3704 (F := Ideal) c arg4 harg4 arg6 harg6 arg8 harg8 arg11 harg11 arg17 x3 x5 x7 x10 (ix3 0 p n) = ((0 : ℝ) : EReal) :=
  part_zero 31 28 (by decide) zeros_7 p n

/-- The chunk's sums are the ones of its `dt` and the heads' rates. -/
theorem P_A (hB : Blk X B C DT DY A x0 x2 x3 x4 x5 x6 x7 x9 x10) : SumsR DT A (sums c harg5 harg6 harg7 harg8 x4 x5 x6 x7) := by
  rw [sums_eq]
  exact sums_real hB.h4 hB.h5 hB.h6 hB.h7

theorem dx_pieces (hB : Blk X B C DT DY A x0 x2 x3 x4 x5 x6 x7 x9 x10) :
    View.PiecesOf (Val := Elt Ideal) (e := .f32) (dxG B C DT DY A (fun _ _ _ => 0)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1 := by
  unfold kernelRun0_A
  dsimp only
  have hP := P_A (c := c) (arg5 := arg5) (harg5 := harg5) (arg6 := arg6) (harg6 := harg6) (arg7 := arg7) (harg7 := harg7) (arg8 := arg8) (harg8 := harg8) hB
  exact ⟨dx_piece (D := fun _ _ _ => 0) hB hP 31 dx31 (st_31),
    dx_piece (D := fun _ _ _ => 0) hB hP 30 dx30 (st_30),
    dx_piece (D := fun _ _ _ => 0) hB hP 29 dx29 (st_29),
    dx_piece (D := fun _ _ _ => 0) hB hP 28 dx28 (st_28),
    dx_piece (D := fun _ _ _ => 0) hB hP 27 dx27 (st_27),
    dx_piece (D := fun _ _ _ => 0) hB hP 26 dx26 (st_26),
    dx_piece (D := fun _ _ _ => 0) hB hP 25 dx25 (st_25),
    dx_piece (D := fun _ _ _ => 0) hB hP 24 dx24 (st_24),
    dx_piece (D := fun _ _ _ => 0) hB hP 23 dx23 (st_23),
    dx_piece (D := fun _ _ _ => 0) hB hP 22 dx22 (st_22),
    dx_piece (D := fun _ _ _ => 0) hB hP 21 dx21 (st_21),
    dx_piece (D := fun _ _ _ => 0) hB hP 20 dx20 (st_20),
    dx_piece (D := fun _ _ _ => 0) hB hP 19 dx19 (st_19),
    dx_piece (D := fun _ _ _ => 0) hB hP 18 dx18 (st_18),
    dx_piece (D := fun _ _ _ => 0) hB hP 17 dx17 (st_17),
    dx_piece (D := fun _ _ _ => 0) hB hP 16 dx16 (st_16),
    dx_piece (D := fun _ _ _ => 0) hB hP 15 dx15 (st_15),
    dx_piece (D := fun _ _ _ => 0) hB hP 14 dx14 (st_14),
    dx_piece (D := fun _ _ _ => 0) hB hP 13 dx13 (st_13),
    dx_piece (D := fun _ _ _ => 0) hB hP 12 dx12 (st_12),
    dx_piece (D := fun _ _ _ => 0) hB hP 11 dx11 (st_11),
    dx_piece (D := fun _ _ _ => 0) hB hP 10 dx10 (st_10),
    dx_piece (D := fun _ _ _ => 0) hB hP 9 dx9 (st_9),
    dx_piece (D := fun _ _ _ => 0) hB hP 8 dx8 (st_8),
    dx_piece (D := fun _ _ _ => 0) hB hP 7 dx7 (st_7),
    dx_piece (D := fun _ _ _ => 0) hB hP 6 dx6 (st_6),
    dx_piece (D := fun _ _ _ => 0) hB hP 5 dx5 (st_5),
    dx_piece (D := fun _ _ _ => 0) hB hP 4 dx4 (st_4),
    dx_piece (D := fun _ _ _ => 0) hB hP 3 dx3 (st_3),
    dx_piece (D := fun _ _ _ => 0) hB hP 2 dx2 (st_2),
    dx_piece (D := fun _ _ _ => 0) hB hP 1 dx1 (st_1),
    dx_piece (D := fun _ _ _ => 0) hB hP 0 dx0 (st_0), trivial⟩

/-- The chunk's block of the gradient at `x`. -/
theorem dx_out (hB : Blk X B C DT DY A x0 x2 x3 x4 x5 x6 x7 x9 x10) (y : S256x2048.Idx) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 y = dxG B C DT DY A (fun _ _ _ => 0) y := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  exact View.canon_apply_of_pieces (Val := Elt Ideal) (e := .f32) _ _ (dx_pieces hB).mem y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 y)

theorem db_pieces (hB : Blk X B C DT DY A x0 x2 x3 x4 x5 x6 x7 x9 x10) :
    View.PiecesOf (Val := Elt Ideal) (e := .f32) (dbG X C DT DY A (fun _ _ _ => 0)) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.1 := by
  unfold kernelRun0_A
  dsimp only
  have hP := P_A (c := c) (arg5 := arg5) (harg5 := harg5) (arg6 := arg6) (harg6 := harg6) (arg7 := arg7) (harg7 := harg7) (arg8 := arg8) (harg8 := harg8) hB
  exact ⟨db_piece (D := fun _ _ _ => 0) hB hP 7 28 29 30 31 rfl rfl rfl rfl db7 (st_28) (st_29) (st_30) (st_31),
    db_piece (D := fun _ _ _ => 0) hB hP 6 24 25 26 27 rfl rfl rfl rfl db6 (st_24) (st_25) (st_26) (st_27),
    db_piece (D := fun _ _ _ => 0) hB hP 5 20 21 22 23 rfl rfl rfl rfl db5 (st_20) (st_21) (st_22) (st_23),
    db_piece (D := fun _ _ _ => 0) hB hP 4 16 17 18 19 rfl rfl rfl rfl db4 (st_16) (st_17) (st_18) (st_19),
    db_piece (D := fun _ _ _ => 0) hB hP 3 12 13 14 15 rfl rfl rfl rfl db3 (st_12) (st_13) (st_14) (st_15),
    db_piece (D := fun _ _ _ => 0) hB hP 2 8 9 10 11 rfl rfl rfl rfl db2 (st_8) (st_9) (st_10) (st_11),
    db_piece (D := fun _ _ _ => 0) hB hP 1 4 5 6 7 rfl rfl rfl rfl db1 (st_4) (st_5) (st_6) (st_7),
    db_piece (D := fun _ _ _ => 0) hB hP 0 0 1 2 3 rfl rfl rfl rfl db0 (st_0) (st_1) (st_2) (st_3), trivial⟩

/-- The chunk's block of the gradient at the input matrices. -/
theorem db_out (hB : Blk X B C DT DY A x0 x2 x3 x4 x5 x6 x7 x9 x10) (y : S256x1024.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 y = dbG X C DT DY A (fun _ _ _ => 0) y := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  exact View.canon_apply_of_pieces (Val := Elt Ideal) (e := .f32) _ _ (db_pieces hB).mem y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 y)

theorem ddt_pieces (hB : Blk X B C DT DY A x0 x2 x3 x4 x5 x6 x7 x9 x10) :
    View.PiecesOf (Val := Elt Ideal) (e := .f32) (ddtG X B C DT DY A (fun _ _ _ => 0)) (HS2_32 (F := Ideal) c arg1 harg1 arg3 harg3 arg4 harg4 arg5 harg5 arg6 harg6 arg7 harg7 arg8 harg8 arg10 harg10 arg11 harg11 arg17 x0 x2 x3 x4 x5 x6 x7 x9 x10) := by
  unfold HS2_32
  have hP := P_A (c := c) (arg5 := arg5) (harg5 := harg5) (arg6 := arg6) (harg6 := harg6) (arg7 := arg7) (harg7 := harg7) (arg8 := arg8) (harg8 := harg8) hB
  exact ⟨ddt_piece (D := fun _ _ _ => 0) hB hP 31 ddt31 (st_31),
    ddt_piece (D := fun _ _ _ => 0) hB hP 30 ddt30 (st_30),
    ddt_piece (D := fun _ _ _ => 0) hB hP 29 ddt29 (st_29),
    ddt_piece (D := fun _ _ _ => 0) hB hP 28 ddt28 (st_28),
    ddt_piece (D := fun _ _ _ => 0) hB hP 27 ddt27 (st_27),
    ddt_piece (D := fun _ _ _ => 0) hB hP 26 ddt26 (st_26),
    ddt_piece (D := fun _ _ _ => 0) hB hP 25 ddt25 (st_25),
    ddt_piece (D := fun _ _ _ => 0) hB hP 24 ddt24 (st_24),
    ddt_piece (D := fun _ _ _ => 0) hB hP 23 ddt23 (st_23),
    ddt_piece (D := fun _ _ _ => 0) hB hP 22 ddt22 (st_22),
    ddt_piece (D := fun _ _ _ => 0) hB hP 21 ddt21 (st_21),
    ddt_piece (D := fun _ _ _ => 0) hB hP 20 ddt20 (st_20),
    ddt_piece (D := fun _ _ _ => 0) hB hP 19 ddt19 (st_19),
    ddt_piece (D := fun _ _ _ => 0) hB hP 18 ddt18 (st_18),
    ddt_piece (D := fun _ _ _ => 0) hB hP 17 ddt17 (st_17),
    ddt_piece (D := fun _ _ _ => 0) hB hP 16 ddt16 (st_16),
    ddt_piece (D := fun _ _ _ => 0) hB hP 15 ddt15 (st_15),
    ddt_piece (D := fun _ _ _ => 0) hB hP 14 ddt14 (st_14),
    ddt_piece (D := fun _ _ _ => 0) hB hP 13 ddt13 (st_13),
    ddt_piece (D := fun _ _ _ => 0) hB hP 12 ddt12 (st_12),
    ddt_piece (D := fun _ _ _ => 0) hB hP 11 ddt11 (st_11),
    ddt_piece (D := fun _ _ _ => 0) hB hP 10 ddt10 (st_10),
    ddt_piece (D := fun _ _ _ => 0) hB hP 9 ddt9 (st_9),
    ddt_piece (D := fun _ _ _ => 0) hB hP 8 ddt8 (st_8),
    ddt_piece (D := fun _ _ _ => 0) hB hP 7 ddt7 (st_7),
    ddt_piece (D := fun _ _ _ => 0) hB hP 6 ddt6 (st_6),
    ddt_piece (D := fun _ _ _ => 0) hB hP 5 ddt5 (st_5),
    ddt_piece (D := fun _ _ _ => 0) hB hP 4 ddt4 (st_4),
    ddt_piece (D := fun _ _ _ => 0) hB hP 3 ddt3 (st_3),
    ddt_piece (D := fun _ _ _ => 0) hB hP 2 ddt2 (st_2),
    ddt_piece (D := fun _ _ _ => 0) hB hP 1 ddt1 (st_1),
    ddt_piece (D := fun _ _ _ => 0) hB hP 0 ddt0 (st_0), trivial⟩

theorem ddt_word (hB : Blk X B C DT DY A x0 x2 x3 x4 x5 x6 x7 x9 x10) (y : S256x32.Idx) :
    v4226 (F := Ideal) c arg1 harg1 arg3 harg3 arg4 harg4 arg5 harg5 arg6 harg6 arg7 harg7 arg8 harg8 arg10 harg10 arg11 harg11 arg17 arg19 x0 x2 x3 x4 x5 x6 x7 x9 x10 y = ddtG X B C DT DY A (fun _ _ _ => 0) y := by
  have hc : ∀ y, ∃ p ∈ HS2_32 (F := Ideal) c arg1 harg1 arg3 harg3 arg4 harg4 arg5 harg5 arg6 harg6 arg7 harg7 arg8 harg8 arg10 harg10 arg11 harg11 arg17 x0 x2 x3 x4 x5 x6 x7 x9 x10, y ∈ p.1.set :=
    fun y => View.cover_of_tiledL (HS2_32 (F := Ideal) c arg1 harg1 arg3 harg3 arg4 harg4 arg5 harg5 arg6 harg6 arg7 harg7 arg8 harg8 arg10 harg10 arg11 harg11 arg17 x0 x2 x3 x4 x5 x6 x7 x9 x10) S256x1.size (by sl_kernel_rfl) y
  have o2 : (![0, 0] : Fin 2 → Nat) = fun _ => 0 := by decide
  unfold v4226
  rw [View.readCov_eq_canon_ld _ _ _ hc, View.ld_unit_zero (S := S256x32) o2]
  exact View.canon_apply_of_pieces (Val := Elt Ideal) (e := .f32) _ _ (ddt_pieces hB).mem y (hc y)

/-- The chunk's block of the gradient at `dt`. -/
theorem ddt_out (hB : Blk X B C DT DY A x0 x2 x3 x4 x5 x6 x7 x9 x10) (s : Fin 256) (h : Fin 32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 (ix3 0 s h) = ddtG X B C DT DY A (fun _ _ _ => 0) (ix2 s h) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  have o3 : (![0, 0, 0] : Fin 3 → Nat) = fun _ => 0 := by decide
  rw [View.canon_unit_zero (S := S1x256x32) o3]
  pointwise [k0_pay1]
  exact ddt_word hB (ix2 s h)

include arg5 harg5 arg7 harg7 in
theorem kept_1 (hB : Blk X B C DT DY A x0 x2 x3 x4 x5 x6 x7 x9 x10) (y : S32x64x128.Idx) (hy : (y 0).val < 4) :
    View.canon (HS0_5 (F := Ideal) c arg4 harg4 arg6 harg6 arg8 harg8 arg11 harg11 arg17 x3 x5 x7 x10) y = dhG C DT DY A (fun _ _ _ => 0) y := by
  have hP := P_A (c := c) (arg5 := arg5) (harg5 := harg5) (arg6 := arg6) (harg6 := harg6) (arg7 := arg7) (harg7 := harg7) (arg8 := arg8) (harg8 := harg8) hB
  unfold HS0_5 HS0_4 HS0_3
  exact state_cons 3 3 rfl (dh_piece (D := fun _ _ _ => 0) hB hP 3 dh3 st_3) fun n3 =>
    state_cons 2 2 rfl (dh_piece (D := fun _ _ _ => 0) hB hP 2 dh2 st_2) fun n2 =>
    state_cons 1 1 rfl (dh_piece (D := fun _ _ _ => 0) hB hP 1 dh1 st_1) fun n1 =>
    state_cons 0 0 rfl (dh_piece (D := fun _ _ _ => 0) hB hP 0 dh0 st_0) fun n0 =>
    absurd hy (by omega)

include arg5 harg5 arg7 harg7 in
theorem kept_2 (hB : Blk X B C DT DY A x0 x2 x3 x4 x5 x6 x7 x9 x10) (y : S32x64x128.Idx) (hy : (y 0).val < 8) :
    View.canon (HS0_9 (F := Ideal) c arg4 harg4 arg6 harg6 arg8 harg8 arg11 harg11 arg17 x3 x5 x7 x10) y = dhG C DT DY A (fun _ _ _ => 0) y := by
  have hP := P_A (c := c) (arg5 := arg5) (harg5 := harg5) (arg6 := arg6) (harg6 := harg6) (arg7 := arg7) (harg7 := harg7) (arg8 := arg8) (harg8 := harg8) hB
  unfold HS0_9 HS0_8 HS0_7
  exact state_cons 7 7 rfl (dh_piece (D := fun _ _ _ => 0) hB hP 7 dh7 st_7) fun n7 =>
    state_cons 6 6 rfl (dh_piece (D := fun _ _ _ => 0) hB hP 6 dh6 st_6) fun n6 =>
    state_cons 5 5 rfl (dh_piece (D := fun _ _ _ => 0) hB hP 5 dh5 st_5) fun n5 =>
    state_cons 4 4 rfl (dh_piece (D := fun _ _ _ => 0) hB hP 4 dh4 st_4) fun n4 =>
    kept_1 (arg5 := arg5) (harg5 := harg5) (arg7 := arg7) (harg7 := harg7) hB y (by omega)

include arg5 harg5 arg7 harg7 in
theorem kept_3 (hB : Blk X B C DT DY A x0 x2 x3 x4 x5 x6 x7 x9 x10) (y : S32x64x128.Idx) (hy : (y 0).val < 12) :
    View.canon (HS0_13 (F := Ideal) c arg4 harg4 arg6 harg6 arg8 harg8 arg11 harg11 arg17 x3 x5 x7 x10) y = dhG C DT DY A (fun _ _ _ => 0) y := by
  have hP := P_A (c := c) (arg5 := arg5) (harg5 := harg5) (arg6 := arg6) (harg6 := harg6) (arg7 := arg7) (harg7 := harg7) (arg8 := arg8) (harg8 := harg8) hB
  unfold HS0_13 HS0_11 HS0_10
  exact state_cons 11 11 rfl (dh_piece (D := fun _ _ _ => 0) hB hP 11 dh11 st_11) fun n11 =>
    state_cons 10 10 rfl (dh_piece (D := fun _ _ _ => 0) hB hP 10 dh10 st_10) fun n10 =>
    state_cons 9 9 rfl (dh_piece (D := fun _ _ _ => 0) hB hP 9 dh9 st_9) fun n9 =>
    state_cons 8 8 rfl (dh_piece (D := fun _ _ _ => 0) hB hP 8 dh8 st_8) fun n8 =>
    kept_2 (arg5 := arg5) (harg5 := harg5) (arg7 := arg7) (harg7 := harg7) hB y (by omega)

include arg5 harg5 arg7 harg7 in
theorem kept_4 (hB : Blk X B C DT DY A x0 x2 x3 x4 x5 x6 x7 x9 x10) (y : S32x64x128.Idx) (hy : (y 0).val < 16) :
    View.canon (HS0_17 (F := Ideal) c arg4 harg4 arg6 harg6 arg8 harg8 arg11 harg11 arg17 x3 x5 x7 x10) y = dhG C DT DY A (fun _ _ _ => 0) y := by
  have hP := P_A (c := c) (arg5 := arg5) (harg5 := harg5) (arg6 := arg6) (harg6 := harg6) (arg7 := arg7) (harg7 := harg7) (arg8 := arg8) (harg8 := harg8) hB
  unfold HS0_17 HS0_15 HS0_14
  exact state_cons 15 15 rfl (dh_piece (D := fun _ _ _ => 0) hB hP 15 dh15 st_15) fun n15 =>
    state_cons 14 14 rfl (dh_piece (D := fun _ _ _ => 0) hB hP 14 dh14 st_14) fun n14 =>
    state_cons 13 13 rfl (dh_piece (D := fun _ _ _ => 0) hB hP 13 dh13 st_13) fun n13 =>
    state_cons 12 12 rfl (dh_piece (D := fun _ _ _ => 0) hB hP 12 dh12 st_12) fun n12 =>
    kept_3 (arg5 := arg5) (harg5 := harg5) (arg7 := arg7) (harg7 := harg7) hB y (by omega)

include arg5 harg5 arg7 harg7 in
theorem kept_5 (hB : Blk X B C DT DY A x0 x2 x3 x4 x5 x6 x7 x9 x10) (y : S32x64x128.Idx) (hy : (y 0).val < 20) :
    View.canon (HS0_21 (F := Ideal) c arg4 harg4 arg6 harg6 arg8 harg8 arg11 harg11 arg17 x3 x5 x7 x10) y = dhG C DT DY A (fun _ _ _ => 0) y := by
  have hP := P_A (c := c) (arg5 := arg5) (harg5 := harg5) (arg6 := arg6) (harg6 := harg6) (arg7 := arg7) (harg7 := harg7) (arg8 := arg8) (harg8 := harg8) hB
  unfold HS0_21
  exact state_cons 19 19 rfl (dh_piece (D := fun _ _ _ => 0) hB hP 19 dh19 st_19) fun n19 =>
    state_cons 18 18 rfl (dh_piece (D := fun _ _ _ => 0) hB hP 18 dh18 st_18) fun n18 =>
    state_cons 17 17 rfl (dh_piece (D := fun _ _ _ => 0) hB hP 17 dh17 st_17) fun n17 =>
    state_cons 16 16 rfl (dh_piece (D := fun _ _ _ => 0) hB hP 16 dh16 st_16) fun n16 =>
    kept_4 (arg5 := arg5) (harg5 := harg5) (arg7 := arg7) (harg7 := harg7) hB y (by omega)

include arg5 harg5 arg7 harg7 in
theorem kept_6 (hB : Blk X B C DT DY A x0 x2 x3 x4 x5 x6 x7 x9 x10) (y : S32x64x128.Idx) (hy : (y 0).val < 24) :
    View.canon (HS0_25 (F := Ideal) c arg4 harg4 arg6 harg6 arg8 harg8 arg11 harg11 arg17 x3 x5 x7 x10) y = dhG C DT DY A (fun _ _ _ => 0) y := by
  have hP := P_A (c := c) (arg5 := arg5) (harg5 := harg5) (arg6 := arg6) (harg6 := harg6) (arg7 := arg7) (harg7 := harg7) (arg8 := arg8) (harg8 := harg8) hB
  unfold HS0_25
  exact state_cons 23 23 rfl (dh_piece (D := fun _ _ _ => 0) hB hP 23 dh23 st_23) fun n23 =>
    state_cons 22 22 rfl (dh_piece (D := fun _ _ _ => 0) hB hP 22 dh22 st_22) fun n22 =>
    state_cons 21 21 rfl (dh_piece (D := fun _ _ _ => 0) hB hP 21 dh21 st_21) fun n21 =>
    state_cons 20 20 rfl (dh_piece (D := fun _ _ _ => 0) hB hP 20 dh20 st_20) fun n20 =>
    kept_5 (arg5 := arg5) (harg5 := harg5) (arg7 := arg7) (harg7 := harg7) hB y (by omega)

include arg5 harg5 arg7 harg7 in
theorem kept_7 (hB : Blk X B C DT DY A x0 x2 x3 x4 x5 x6 x7 x9 x10) (y : S32x64x128.Idx) (hy : (y 0).val < 28) :
    View.canon (HS0_29 (F := Ideal) c arg4 harg4 arg6 harg6 arg8 harg8 arg11 harg11 arg17 x3 x5 x7 x10) y = dhG C DT DY A (fun _ _ _ => 0) y := by
  have hP := P_A (c := c) (arg5 := arg5) (harg5 := harg5) (arg6 := arg6) (harg6 := harg6) (arg7 := arg7) (harg7 := harg7) (arg8 := arg8) (harg8 := harg8) hB
  unfold HS0_29
  exact state_cons 27 27 rfl (dh_piece (D := fun _ _ _ => 0) hB hP 27 dh27 st_27) fun n27 =>
    state_cons 26 26 rfl (dh_piece (D := fun _ _ _ => 0) hB hP 26 dh26 st_26) fun n26 =>
    state_cons 25 25 rfl (dh_piece (D := fun _ _ _ => 0) hB hP 25 dh25 st_25) fun n25 =>
    state_cons 24 24 rfl (dh_piece (D := fun _ _ _ => 0) hB hP 24 dh24 st_24) fun n24 =>
    kept_6 (arg5 := arg5) (harg5 := harg5) (arg7 := arg7) (harg7 := harg7) hB y (by omega)

/-- The state the chunk hands on. -/
theorem dh_out (hB : Blk X B C DT DY A x0 x2 x3 x4 x5 x6 x7 x9 x10) (y : S32x64x128.Idx) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 y = dhG C DT DY A (fun _ _ _ => 0) y := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)]
  unfold kernelRun0_A
  dsimp only
  have hP := P_A (c := c) (arg5 := arg5) (harg5 := harg5) (arg6 := arg6) (harg6 := harg6) (arg7 := arg7) (harg7 := harg7) (arg8 := arg8) (harg8 := harg8) hB
  exact state_cons 31 31 rfl (dh_piece (D := fun _ _ _ => 0) hB hP 31 dh31 st_31) fun n31 =>
    state_cons 30 30 rfl (dh_piece (D := fun _ _ _ => 0) hB hP 30 dh30 st_30) fun n30 =>
    state_cons 29 29 rfl (dh_piece (D := fun _ _ _ => 0) hB hP 29 dh29 st_29) fun n29 =>
    state_cons 28 28 rfl (dh_piece (D := fun _ _ _ => 0) hB hP 28 dh28 st_28) fun n28 =>
    kept_7 (arg5 := arg5) (harg5 := harg5) (arg7 := arg7) (harg7 := harg7) hB y (by have e : (y 0).val < 32 := (y 0).isLt; omega)

end Cert.Scan.A
end
-- ==== Proof.ScanWordsB.lean ====
/-
  The words the kernel stores for each head in a later chunk, each equal to the head's function of the
  chunk's columns and sums (`ScanBlock`).
-/
module

public import proofs.«01_k».proof.Proof.ScanBlock

@[expose] public section

set_option maxRecDepth 16384

noncomputable section

namespace Cert.Scan.B

open Idealize.ShloMosaic Idealize.ShloMosaic.TcCoe
open Cert.Kernel5Ideal Cert.Kernel5Ideal.Gen Cert.Kernel5Ideal.Gen.kernelRun0_B.sl

variable {F : FTy → Type} [FloatOps F] {c : Dev nD}
variable {arg1 arg10 : Memref sig .tc .vmem S256x2048 .f32} {harg1 : arg1.IsWhole} {harg10 : arg10.IsWhole}
variable {arg3 arg4 : Memref sig .tc .vmem S256x1024 .f32} {harg3 : arg3.IsWhole} {harg4 : arg4.IsWhole}
variable {arg5 : Memref sig .tc .vmem S1x256x32 .f32} {harg5 : arg5.IsWhole} {arg6 : Memref sig .tc .vmem S1x32x256 .f32} {harg6 : arg6.IsWhole}
variable {arg7 : Memref sig .tc .vmem S1x32 .f32} {harg7 : arg7.IsWhole} {arg8 : Memref sig .tc .vmem S32x1 .f32} {harg8 : arg8.IsWhole}
variable {arg11 : Memref sig .tc .vmem S1x2048x256 .f32} {harg11 : arg11.IsWhole} {arg17 : Memref sig .tc .vmem S32x64x128 .f32} {harg17 : arg17.IsWhole}
variable {x0 x9 : Vec F S256x2048 .f32} {x2 x3 : Vec F S256x1024 .f32} {x4 : Vec F S1x256x32 .f32} {x5 : Vec F S1x32x256 .f32}
variable {x6 : Vec F S1x32 .f32} {x7 : Vec F S32x1 .f32} {x10 : Vec F S1x2048x256 .f32} {xs0 : Vec F S32x64x128 .f32}

/-- The chunk's sums as the kernel computes them from its loads. -/
def sums (c : Dev nD) (harg5 : arg5.IsWhole) (harg6 : arg6.IsWhole) (harg7 : arg7.IsWhole) (harg8 : arg8.IsWhole)
    (x4 : Vec F S1x256x32 .f32) (x5 : Vec F S1x32x256 .f32) (x6 : Vec F S1x32 .f32) (x7 : Vec F S32x1 .f32) : Sums F :=
  ⟨r_1 c arg5 harg5 arg7 harg7 x4 x6, r_2 c arg6 harg6 arg8 harg8 x5 x7,
    r_5 c arg5 harg5 arg7 harg7 x4 x6, r_4 c arg6 harg6 arg8 harg8 x5 x7,
    r_6 c arg6 harg6 arg8 harg8 x5 x7, r c arg5 harg5 x4⟩

theorem sums_eq : sums c harg5 harg6 harg7 harg8 x4 x5 x6 x7 = sumsOf x4 x5 x6 x7 := by
  unfold sums r_1 r_2 r_4 r_5 r_6 r
  have o2 : (![0, 0] : Fin 2 → Nat) = fun _ => 0 := by decide
  have o3 : (![0, 0, 0] : Fin 3 → Nat) = fun _ => 0 := by decide
  simp only [View.readAt_eq_ld, harg5.read_unread, harg6.read_unread, harg7.read_unread, harg8.read_unread]
  rw [View.ld_unit_zero (S := S1x256x32) o3, View.ld_unit_zero (S := S1x32) o2, View.ld_unit_zero (S := S1x32x256) o3,
    View.ld_unit_zero (S := S32x1) o2]
  rfl

theorem dx0 : r_31 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 0 (cols128 arg3 harg3 x2 0) (cols128 arg4 harg4 x3 0) (stateOf arg17 harg17 xs0 0) (cols64 arg10 harg10 x9 0) := rfl
theorem ddt0 : k0_pay107 (r_30 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 0 (cols128 arg3 harg3 x2 0) (cols128 arg4 harg4 x3 0) (stateOf arg17 harg17 xs0 0) (cols64 arg1 harg1 x0 0) (cols64 arg10 harg10 x9 0)) shapeCasts_S256x1_S256x1 := rfl
theorem dh0 : k0_pay104 (r_27 c arg4 harg4 arg6 harg6 arg8 harg8 arg11 harg11 arg17 harg17 x3 x5 x7 x10 xs0)
    = dhH (sums c harg5 harg6 harg7 harg8 x4 x5 x6 x7) 0 (cols128 arg4 harg4 x3 0) (stateOf arg17 harg17 xs0 0) (rowsT arg11 harg11 x10 0) := rfl

theorem dx1 : r_52 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 1 (cols128 arg3 harg3 x2 0) (cols128 arg4 harg4 x3 0) (stateOf arg17 harg17 xs0 1) (cols64 arg10 harg10 x9 1) := rfl
theorem ddt1 : v538 c arg1 harg1 arg3 harg3 arg4 harg4 arg5 harg5 arg6 harg6 arg7 harg7 arg8 harg8 arg10 harg10 arg17 harg17 x0 x2 x3 x4 x5 x6 x7 x9 xs0
    = shapeCast S256x1 (ddtH (sums c harg5 harg6 harg7 harg8 x4 x5 x6 x7) 1 (cols128 arg3 harg3 x2 0) (cols128 arg4 harg4 x3 0) (stateOf arg17 harg17 xs0 1) (cols64 arg1 harg1 x0 1) (cols64 arg10 harg10 x9 1)) shapeCasts_S256x1_S256x1 := rfl
theorem dh1 : k0_pay108 (r_44 c arg4 harg4 arg6 harg6 arg8 harg8 arg11 harg11 arg17 harg17 x3 x5 x7 x10 xs0)
    = dhH (sums c harg5 harg6 harg7 harg8 x4 x5 x6 x7) 1 (cols128 arg4 harg4 x3 0) (stateOf arg17 harg17 xs0 1) (rowsT arg11 harg11 x10 1) := rfl

theorem dx2 : r_72 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 2 (cols128 arg3 harg3 x2 0) (cols128 arg4 harg4 x3 0) (stateOf arg17 harg17 xs0 2) (cols64 arg10 harg10 x9 2) := rfl
theorem ddt2 : v551 c arg1 harg1 arg3 harg3 arg4 harg4 arg5 harg5 arg6 harg6 arg7 harg7 arg8 harg8 arg10 harg10 arg17 harg17 x0 x2 x3 x4 x5 x6 x7 x9 xs0
    = shapeCast S256x1 (ddtH (sums c harg5 harg6 harg7 harg8 x4 x5 x6 x7) 2 (cols128 arg3 harg3 x2 0) (cols128 arg4 harg4 x3 0) (stateOf arg17 harg17 xs0 2) (cols64 arg1 harg1 x0 2) (cols64 arg10 harg10 x9 2)) shapeCasts_S256x1_S256x1 := rfl
theorem dh2 : v542 c arg4 harg4 arg6 harg6 arg8 harg8 arg11 harg11 arg17 harg17 x3 x5 x7 x10 xs0
    = dhH (sums c harg5 harg6 harg7 harg8 x4 x5 x6 x7) 2 (cols128 arg4 harg4 x3 0) (stateOf arg17 harg17 xs0 2) (rowsT arg11 harg11 x10 2) := rfl

theorem dx3 : r_92 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 3 (cols128 arg3 harg3 x2 0) (cols128 arg4 harg4 x3 0) (stateOf arg17 harg17 xs0 3) (cols64 arg10 harg10 x9 3) := rfl
theorem ddt3 : k0_pay119 (r_91 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 3 (cols128 arg3 harg3 x2 0) (cols128 arg4 harg4 x3 0) (stateOf arg17 harg17 xs0 3) (cols64 arg1 harg1 x0 3) (cols64 arg10 harg10 x9 3)) shapeCasts_S256x1_S256x1 := rfl
theorem dh3 : v555 c arg4 harg4 arg6 harg6 arg8 harg8 arg11 harg11 arg17 harg17 x3 x5 x7 x10 xs0
    = dhH (sums c harg5 harg6 harg7 harg8 x4 x5 x6 x7) 3 (cols128 arg4 harg4 x3 0) (stateOf arg17 harg17 xs0 3) (rowsT arg11 harg11 x10 3) := rfl

theorem dx4 : r_122 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 4 (cols128 arg3 harg3 x2 1) (cols128 arg4 harg4 x3 1) (stateOf arg17 harg17 xs0 4) (cols64 arg10 harg10 x9 4) := rfl
theorem ddt4 : k0_pay213 (r_121 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 4 (cols128 arg3 harg3 x2 1) (cols128 arg4 harg4 x3 1) (stateOf arg17 harg17 xs0 4) (cols64 arg1 harg1 x0 4) (cols64 arg10 harg10 x9 4)) shapeCasts_S256x1_S256x1 := rfl
theorem dh4 : k0_pay210 (r_114 c arg4 harg4 arg6 harg6 arg8 harg8 arg11 harg11 arg17 harg17 x3 x5 x7 x10 xs0)
    = dhH (sums c harg5 harg6 harg7 harg8 x4 x5 x6 x7) 4 (cols128 arg4 harg4 x3 1) (stateOf arg17 harg17 xs0 4) (rowsT arg11 harg11 x10 4) := rfl

theorem dx5 : r_143 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 5 (cols128 arg3 harg3 x2 1) (cols128 arg4 harg4 x3 1) (stateOf arg17 harg17 xs0 5) (cols64 arg10 harg10 x9 5) := rfl
theorem ddt5 : v1058 c arg1 harg1 arg3 harg3 arg4 harg4 arg5 harg5 arg6 harg6 arg7 harg7 arg8 harg8 arg10 harg10 arg17 harg17 x0 x2 x3 x4 x5 x6 x7 x9 xs0
    = shapeCast S256x1 (ddtH (sums c harg5 harg6 harg7 harg8 x4 x5 x6 x7) 5 (cols128 arg3 harg3 x2 1) (cols128 arg4 harg4 x3 1) (stateOf arg17 harg17 xs0 5) (cols64 arg1 harg1 x0 5) (cols64 arg10 harg10 x9 5)) shapeCasts_S256x1_S256x1 := rfl
theorem dh5 : k0_pay214 (r_137 c arg4 harg4 arg6 harg6 arg8 harg8 arg11 harg11 arg17 harg17 x3 x5 x7 x10 xs0)
    = dhH (sums c harg5 harg6 harg7 harg8 x4 x5 x6 x7) 5 (cols128 arg4 harg4 x3 1) (stateOf arg17 harg17 xs0 5) (rowsT arg11 harg11 x10 5) := rfl

theorem dx6 : r_162 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 6 (cols128 arg3 harg3 x2 1) (cols128 arg4 harg4 x3 1) (stateOf arg17 harg17 xs0 6) (cols64 arg10 harg10 x9 6) := rfl
theorem ddt6 : v1071 c arg1 harg1 arg3 harg3 arg4 harg4 arg5 harg5 arg6 harg6 arg7 harg7 arg8 harg8 arg10 harg10 arg17 harg17 x0 x2 x3 x4 x5 x6 x7 x9 xs0
    = shapeCast S256x1 (ddtH (sums c harg5 harg6 harg7 harg8 x4 x5 x6 x7) 6 (cols128 arg3 harg3 x2 1) (cols128 arg4 harg4 x3 1) (stateOf arg17 harg17 xs0 6) (cols64 arg1 harg1 x0 6) (cols64 arg10 harg10 x9 6)) shapeCasts_S256x1_S256x1 := rfl
theorem dh6 : v1062 c arg4 harg4 arg6 harg6 arg8 harg8 arg11 harg11 arg17 harg17 x3 x5 x7 x10 xs0
    = dhH (sums c harg5 harg6 harg7 harg8 x4 x5 x6 x7) 6 (cols128 arg4 harg4 x3 1) (stateOf arg17 harg17 xs0 6) (rowsT arg11 harg11 x10 6) := rfl

theorem dx7 : r_180 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 7 (cols128 arg3 harg3 x2 1) (cols128 arg4 harg4 x3 1) (stateOf arg17 harg17 xs0 7) (cols64 arg10 harg10 x9 7) := rfl
theorem ddt7 : k0_pay225 (r_179 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 7 (cols128 arg3 harg3 x2 1) (cols128 arg4 harg4 x3 1) (stateOf arg17 harg17 xs0 7) (cols64 arg1 harg1 x0 7) (cols64 arg10 harg10 x9 7)) shapeCasts_S256x1_S256x1 := rfl
theorem dh7 : v1075 c arg4 harg4 arg6 harg6 arg8 harg8 arg11 harg11 arg17 harg17 x3 x5 x7 x10 xs0
    = dhH (sums c harg5 harg6 harg7 harg8 x4 x5 x6 x7) 7 (cols128 arg4 harg4 x3 1) (stateOf arg17 harg17 xs0 7) (rowsT arg11 harg11 x10 7) := rfl

theorem dx8 : r_208 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 8 (cols128 arg3 harg3 x2 2) (cols128 arg4 harg4 x3 2) (stateOf arg17 harg17 xs0 8) (cols64 arg10 harg10 x9 8) := rfl
theorem ddt8 : k0_pay317 (r_207 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 8 (cols128 arg3 harg3 x2 2) (cols128 arg4 harg4 x3 2) (stateOf arg17 harg17 xs0 8) (cols64 arg1 harg1 x0 8) (cols64 arg10 harg10 x9 8)) shapeCasts_S256x1_S256x1 := rfl
theorem dh8 : k0_pay314 (r_200 c arg4 harg4 arg6 harg6 arg8 harg8 arg11 harg11 arg17 harg17 x3 x5 x7 x10 xs0)
    = dhH (sums c harg5 harg6 harg7 harg8 x4 x5 x6 x7) 8 (cols128 arg4 harg4 x3 2) (stateOf arg17 harg17 xs0 8) (rowsT arg11 harg11 x10 8) := rfl

theorem dx9 : r_227 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 9 (cols128 arg3 harg3 x2 2) (cols128 arg4 harg4 x3 2) (stateOf arg17 harg17 xs0 9) (cols64 arg10 harg10 x9 9) := rfl
theorem ddt9 : v1578 c arg1 harg1 arg3 harg3 arg4 harg4 arg5 harg5 arg6 harg6 arg7 harg7 arg8 harg8 arg10 harg10 arg17 harg17 x0 x2 x3 x4 x5 x6 x7 x9 xs0
    = shapeCast S256x1 (ddtH (sums c harg5 harg6 harg7 harg8 x4 x5 x6 x7) 9 (cols128 arg3 harg3 x2 2) (cols128 arg4 harg4 x3 2) (stateOf arg17 harg17 xs0 9) (cols64 arg1 harg1 x0 9) (cols64 arg10 harg10 x9 9)) shapeCasts_S256x1_S256x1 := rfl
theorem dh9 : v1569 c arg4 harg4 arg6 harg6 arg8 harg8 arg11 harg11 arg17 harg17 x3 x5 x7 x10 xs0
    = dhH (sums c harg5 harg6 harg7 harg8 x4 x5 x6 x7) 9 (cols128 arg4 harg4 x3 2) (stateOf arg17 harg17 xs0 9) (rowsT arg11 harg11 x10 9) := rfl

theorem dx10 : r_247 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 10 (cols128 arg3 harg3 x2 2) (cols128 arg4 harg4 x3 2) (stateOf arg17 harg17 xs0 10) (cols64 arg10 harg10 x9 10) := rfl
theorem ddt10 : v1591 c arg1 harg1 arg3 harg3 arg4 harg4 arg5 harg5 arg6 harg6 arg7 harg7 arg8 harg8 arg10 harg10 arg17 harg17 x0 x2 x3 x4 x5 x6 x7 x9 xs0
    = shapeCast S256x1 (ddtH (sums c harg5 harg6 harg7 harg8 x4 x5 x6 x7) 10 (cols128 arg3 harg3 x2 2) (cols128 arg4 harg4 x3 2) (stateOf arg17 harg17 xs0 10) (cols64 arg1 harg1 x0 10) (cols64 arg10 harg10 x9 10)) shapeCasts_S256x1_S256x1 := rfl
theorem dh10 : v1582 c arg4 harg4 arg6 harg6 arg8 harg8 arg11 harg11 arg17 harg17 x3 x5 x7 x10 xs0
    = dhH (sums c harg5 harg6 harg7 harg8 x4 x5 x6 x7) 10 (cols128 arg4 harg4 x3 2) (stateOf arg17 harg17 xs0 10) (rowsT arg11 harg11 x10 10) := rfl

theorem dx11 : r_267 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 11 (cols128 arg3 harg3 x2 2) (cols128 arg4 harg4 x3 2) (stateOf arg17 harg17 xs0 11) (cols64 arg10 harg10 x9 11) := rfl
theorem ddt11 : k0_pay329 (r_266 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 11 (cols128 arg3 harg3 x2 2) (cols128 arg4 harg4 x3 2) (stateOf arg17 harg17 xs0 11) (cols64 arg1 harg1 x0 11) (cols64 arg10 harg10 x9 11)) shapeCasts_S256x1_S256x1 := rfl
theorem dh11 : k0_pay326 (r_261 c arg4 harg4 arg6 harg6 arg8 harg8 arg11 harg11 arg17 harg17 x3 x5 x7 x10 xs0)
    = dhH (sums c harg5 harg6 harg7 harg8 x4 x5 x6 x7) 11 (cols128 arg4 harg4 x3 2) (stateOf arg17 harg17 xs0 11) (rowsT arg11 harg11 x10 11) := rfl

theorem dx12 : r_295 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 12 (cols128 arg3 harg3 x2 3) (cols128 arg4 harg4 x3 3) (stateOf arg17 harg17 xs0 12) (cols64 arg10 harg10 x9 12) := rfl
theorem ddt12 : v2085 c arg1 harg1 arg3 harg3 arg4 harg4 arg5 harg5 arg6 harg6 arg7 harg7 arg8 harg8 arg10 harg10 arg17 harg17 x0 x2 x3 x4 x5 x6 x7 x9 xs0
    = shapeCast S256x1 (ddtH (sums c harg5 harg6 harg7 harg8 x4 x5 x6 x7) 12 (cols128 arg3 harg3 x2 3) (cols128 arg4 harg4 x3 3) (stateOf arg17 harg17 xs0 12) (cols64 arg1 harg1 x0 12) (cols64 arg10 harg10 x9 12)) shapeCasts_S256x1_S256x1 := rfl
theorem dh12 : k0_pay412 (r_289 c arg4 harg4 arg6 harg6 arg8 harg8 arg11 harg11 arg17 harg17 x3 x5 x7 x10 xs0)
    = dhH (sums c harg5 harg6 harg7 harg8 x4 x5 x6 x7) 12 (cols128 arg4 harg4 x3 3) (stateOf arg17 harg17 xs0 12) (rowsT arg11 harg11 x10 12) := rfl

theorem dx13 : r_312 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 13 (cols128 arg3 harg3 x2 3) (cols128 arg4 harg4 x3 3) (stateOf arg17 harg17 xs0 13) (cols64 arg10 harg10 x9 13) := rfl
theorem ddt13 : v2098 c arg1 harg1 arg3 harg3 arg4 harg4 arg5 harg5 arg6 harg6 arg7 harg7 arg8 harg8 arg10 harg10 arg17 harg17 x0 x2 x3 x4 x5 x6 x7 x9 xs0
    = shapeCast S256x1 (ddtH (sums c harg5 harg6 harg7 harg8 x4 x5 x6 x7) 13 (cols128 arg3 harg3 x2 3) (cols128 arg4 harg4 x3 3) (stateOf arg17 harg17 xs0 13) (cols64 arg1 harg1 x0 13) (cols64 arg10 harg10 x9 13)) shapeCasts_S256x1_S256x1 := rfl
theorem dh13 : v2089 c arg4 harg4 arg6 harg6 arg8 harg8 arg11 harg11 arg17 harg17 x3 x5 x7 x10 xs0
    = dhH (sums c harg5 harg6 harg7 harg8 x4 x5 x6 x7) 13 (cols128 arg4 harg4 x3 3) (stateOf arg17 harg17 xs0 13) (rowsT arg11 harg11 x10 13) := rfl

theorem dx14 : r_331 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 14 (cols128 arg3 harg3 x2 3) (cols128 arg4 harg4 x3 3) (stateOf arg17 harg17 xs0 14) (cols64 arg10 harg10 x9 14) := rfl
theorem ddt14 : k0_pay423 (r_330 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 14 (cols128 arg3 harg3 x2 3) (cols128 arg4 harg4 x3 3) (stateOf arg17 harg17 xs0 14) (cols64 arg1 harg1 x0 14) (cols64 arg10 harg10 x9 14)) shapeCasts_S256x1_S256x1 := rfl
theorem dh14 : v2102 c arg4 harg4 arg6 harg6 arg8 harg8 arg11 harg11 arg17 harg17 x3 x5 x7 x10 xs0
    = dhH (sums c harg5 harg6 harg7 harg8 x4 x5 x6 x7) 14 (cols128 arg4 harg4 x3 3) (stateOf arg17 harg17 xs0 14) (rowsT arg11 harg11 x10 14) := rfl

theorem dx15 : r_350 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 15 (cols128 arg3 harg3 x2 3) (cols128 arg4 harg4 x3 3) (stateOf arg17 harg17 xs0 15) (cols64 arg10 harg10 x9 15) := rfl
theorem ddt15 : k0_pay427 (r_349 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 15 (cols128 arg3 harg3 x2 3) (cols128 arg4 harg4 x3 3) (stateOf arg17 harg17 xs0 15) (cols64 arg1 harg1 x0 15) (cols64 arg10 harg10 x9 15)) shapeCasts_S256x1_S256x1 := rfl
theorem dh15 : k0_pay424 (r_345 c arg4 harg4 arg6 harg6 arg8 harg8 arg11 harg11 arg17 harg17 x3 x5 x7 x10 xs0)
    = dhH (sums c harg5 harg6 harg7 harg8 x4 x5 x6 x7) 15 (cols128 arg4 harg4 x3 3) (stateOf arg17 harg17 xs0 15) (rowsT arg11 harg11 x10 15) := rfl

theorem dx16 : r_380 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 16 (cols128 arg3 harg3 x2 4) (cols128 arg4 harg4 x3 4) (stateOf arg17 harg17 xs0 16) (cols64 arg10 harg10 x9 16) := rfl
theorem ddt16 : k0_pay519 (r_379 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 16 (cols128 arg3 harg3 x2 4) (cols128 arg4 harg4 x3 4) (stateOf arg17 harg17 xs0 16) (cols64 arg1 harg1 x0 16) (cols64 arg10 harg10 x9 16)) shapeCasts_S256x1_S256x1 := rfl
theorem dh16 : k0_pay516 (r_376 c arg4 harg4 arg6 harg6 arg8 harg8 arg11 harg11 arg17 harg17 x3 x5 x7 x10 xs0)
    = dhH (sums c harg5 harg6 harg7 harg8 x4 x5 x6 x7) 16 (cols128 arg4 harg4 x3 4) (stateOf arg17 harg17 xs0 16) (rowsT arg11 harg11 x10 16) := rfl

theorem dx17 : r_399 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 17 (cols128 arg3 harg3 x2 4) (cols128 arg4 harg4 x3 4) (stateOf arg17 harg17 xs0 17) (cols64 arg10 harg10 x9 17) := rfl
theorem ddt17 : k0_pay523 (r_398 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 17 (cols128 arg3 harg3 x2 4) (cols128 arg4 harg4 x3 4) (stateOf arg17 harg17 xs0 17) (cols64 arg1 harg1 x0 17) (cols64 arg10 harg10 x9 17)) shapeCasts_S256x1_S256x1 := rfl
theorem dh17 : k0_pay520 (r_393 c arg4 harg4 arg6 harg6 arg8 harg8 arg11 harg11 arg17 harg17 x3 x5 x7 x10 xs0)
    = dhH (sums c harg5 harg6 harg7 harg8 x4 x5 x6 x7) 17 (cols128 arg4 harg4 x3 4) (stateOf arg17 harg17 xs0 17) (rowsT arg11 harg11 x10 17) := rfl

theorem dx18 : r_417 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 18 (cols128 arg3 harg3 x2 4) (cols128 arg4 harg4 x3 4) (stateOf arg17 harg17 xs0 18) (cols64 arg10 harg10 x9 18) := rfl
theorem ddt18 : k0_pay527 (r_416 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 18 (cols128 arg3 harg3 x2 4) (cols128 arg4 harg4 x3 4) (stateOf arg17 harg17 xs0 18) (cols64 arg1 harg1 x0 18) (cols64 arg10 harg10 x9 18)) shapeCasts_S256x1_S256x1 := rfl
theorem dh18 : k0_pay524 (r_411 c arg4 harg4 arg6 harg6 arg8 harg8 arg11 harg11 arg17 harg17 x3 x5 x7 x10 xs0)
    = dhH (sums c harg5 harg6 harg7 harg8 x4 x5 x6 x7) 18 (cols128 arg4 harg4 x3 4) (stateOf arg17 harg17 xs0 18) (rowsT arg11 harg11 x10 18) := rfl

theorem dx19 : r_436 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 19 (cols128 arg3 harg3 x2 4) (cols128 arg4 harg4 x3 4) (stateOf arg17 harg17 xs0 19) (cols64 arg10 harg10 x9 19) := rfl
theorem ddt19 : k0_pay531 (r_435 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 19 (cols128 arg3 harg3 x2 4) (cols128 arg4 harg4 x3 4) (stateOf arg17 harg17 xs0 19) (cols64 arg1 harg1 x0 19) (cols64 arg10 harg10 x9 19)) shapeCasts_S256x1_S256x1 := rfl
theorem dh19 : k0_pay528 (r_432 c arg4 harg4 arg6 harg6 arg8 harg8 arg11 harg11 arg17 harg17 x3 x5 x7 x10 xs0)
    = dhH (sums c harg5 harg6 harg7 harg8 x4 x5 x6 x7) 19 (cols128 arg4 harg4 x3 4) (stateOf arg17 harg17 xs0 19) (rowsT arg11 harg11 x10 19) := rfl

theorem dx20 : r_461 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 20 (cols128 arg3 harg3 x2 5) (cols128 arg4 harg4 x3 5) (stateOf arg17 harg17 xs0 20) (cols64 arg10 harg10 x9 20) := rfl
theorem ddt20 : k0_pay622 (r_460 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 20 (cols128 arg3 harg3 x2 5) (cols128 arg4 harg4 x3 5) (stateOf arg17 harg17 xs0 20) (cols64 arg1 harg1 x0 20) (cols64 arg10 harg10 x9 20)) shapeCasts_S256x1_S256x1 := rfl
theorem dh20 : k0_pay619 (r_457 c arg4 harg4 arg6 harg6 arg8 harg8 arg11 harg11 arg17 harg17 x3 x5 x7 x10 xs0)
    = dhH (sums c harg5 harg6 harg7 harg8 x4 x5 x6 x7) 20 (cols128 arg4 harg4 x3 5) (stateOf arg17 harg17 xs0 20) (rowsT arg11 harg11 x10 20) := rfl

theorem dx21 : r_483 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 21 (cols128 arg3 harg3 x2 5) (cols128 arg4 harg4 x3 5) (stateOf arg17 harg17 xs0 21) (cols64 arg10 harg10 x9 21) := rfl
theorem ddt21 : k0_pay626 (r_482 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 21 (cols128 arg3 harg3 x2 5) (cols128 arg4 harg4 x3 5) (stateOf arg17 harg17 xs0 21) (cols64 arg1 harg1 x0 21) (cols64 arg10 harg10 x9 21)) shapeCasts_S256x1_S256x1 := rfl
theorem dh21 : k0_pay623 (r_476 c arg4 harg4 arg6 harg6 arg8 harg8 arg11 harg11 arg17 harg17 x3 x5 x7 x10 xs0)
    = dhH (sums c harg5 harg6 harg7 harg8 x4 x5 x6 x7) 21 (cols128 arg4 harg4 x3 5) (stateOf arg17 harg17 xs0 21) (rowsT arg11 harg11 x10 21) := rfl

theorem dx22 : r_503 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 22 (cols128 arg3 harg3 x2 5) (cols128 arg4 harg4 x3 5) (stateOf arg17 harg17 xs0 22) (cols64 arg10 harg10 x9 22) := rfl
theorem ddt22 : k0_pay630 (r_502 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 22 (cols128 arg3 harg3 x2 5) (cols128 arg4 harg4 x3 5) (stateOf arg17 harg17 xs0 22) (cols64 arg1 harg1 x0 22) (cols64 arg10 harg10 x9 22)) shapeCasts_S256x1_S256x1 := rfl
theorem dh22 : k0_pay627 (r_498 c arg4 harg4 arg6 harg6 arg8 harg8 arg11 harg11 arg17 harg17 x3 x5 x7 x10 xs0)
    = dhH (sums c harg5 harg6 harg7 harg8 x4 x5 x6 x7) 22 (cols128 arg4 harg4 x3 5) (stateOf arg17 harg17 xs0 22) (rowsT arg11 harg11 x10 22) := rfl

theorem dx23 : r_522 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 23 (cols128 arg3 harg3 x2 5) (cols128 arg4 harg4 x3 5) (stateOf arg17 harg17 xs0 23) (cols64 arg10 harg10 x9 23) := rfl
theorem ddt23 : k0_pay634 (r_521 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 23 (cols128 arg3 harg3 x2 5) (cols128 arg4 harg4 x3 5) (stateOf arg17 harg17 xs0 23) (cols64 arg1 harg1 x0 23) (cols64 arg10 harg10 x9 23)) shapeCasts_S256x1_S256x1 := rfl
theorem dh23 : k0_pay631 (r_518 c arg4 harg4 arg6 harg6 arg8 harg8 arg11 harg11 arg17 harg17 x3 x5 x7 x10 xs0)
    = dhH (sums c harg5 harg6 harg7 harg8 x4 x5 x6 x7) 23 (cols128 arg4 harg4 x3 5) (stateOf arg17 harg17 xs0 23) (rowsT arg11 harg11 x10 23) := rfl

theorem dx24 : r_547 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 24 (cols128 arg3 harg3 x2 6) (cols128 arg4 harg4 x3 6) (stateOf arg17 harg17 xs0 24) (cols64 arg10 harg10 x9 24) := rfl
theorem ddt24 : k0_pay727 (r_546 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 24 (cols128 arg3 harg3 x2 6) (cols128 arg4 harg4 x3 6) (stateOf arg17 harg17 xs0 24) (cols64 arg1 harg1 x0 24) (cols64 arg10 harg10 x9 24)) shapeCasts_S256x1_S256x1 := rfl
theorem dh24 : k0_pay724 (r_543 c arg4 harg4 arg6 harg6 arg8 harg8 arg11 harg11 arg17 harg17 x3 x5 x7 x10 xs0)
    = dhH (sums c harg5 harg6 harg7 harg8 x4 x5 x6 x7) 24 (cols128 arg4 harg4 x3 6) (stateOf arg17 harg17 xs0 24) (rowsT arg11 harg11 x10 24) := rfl

theorem dx25 : r_568 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 25 (cols128 arg3 harg3 x2 6) (cols128 arg4 harg4 x3 6) (stateOf arg17 harg17 xs0 25) (cols64 arg10 harg10 x9 25) := rfl
theorem ddt25 : k0_pay731 (r_567 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 25 (cols128 arg3 harg3 x2 6) (cols128 arg4 harg4 x3 6) (stateOf arg17 harg17 xs0 25) (cols64 arg1 harg1 x0 25) (cols64 arg10 harg10 x9 25)) shapeCasts_S256x1_S256x1 := rfl
theorem dh25 : k0_pay728 (r_560 c arg4 harg4 arg6 harg6 arg8 harg8 arg11 harg11 arg17 harg17 x3 x5 x7 x10 xs0)
    = dhH (sums c harg5 harg6 harg7 harg8 x4 x5 x6 x7) 25 (cols128 arg4 harg4 x3 6) (stateOf arg17 harg17 xs0 25) (rowsT arg11 harg11 x10 25) := rfl

theorem dx26 : r_588 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 26 (cols128 arg3 harg3 x2 6) (cols128 arg4 harg4 x3 6) (stateOf arg17 harg17 xs0 26) (cols64 arg10 harg10 x9 26) := rfl
theorem ddt26 : k0_pay735 (r_587 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 26 (cols128 arg3 harg3 x2 6) (cols128 arg4 harg4 x3 6) (stateOf arg17 harg17 xs0 26) (cols64 arg1 harg1 x0 26) (cols64 arg10 harg10 x9 26)) shapeCasts_S256x1_S256x1 := rfl
theorem dh26 : k0_pay732 (r_584 c arg4 harg4 arg6 harg6 arg8 harg8 arg11 harg11 arg17 harg17 x3 x5 x7 x10 xs0)
    = dhH (sums c harg5 harg6 harg7 harg8 x4 x5 x6 x7) 26 (cols128 arg4 harg4 x3 6) (stateOf arg17 harg17 xs0 26) (rowsT arg11 harg11 x10 26) := rfl

theorem dx27 : r_608 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 27 (cols128 arg3 harg3 x2 6) (cols128 arg4 harg4 x3 6) (stateOf arg17 harg17 xs0 27) (cols64 arg10 harg10 x9 27) := rfl
theorem ddt27 : k0_pay739 (r_607 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 27 (cols128 arg3 harg3 x2 6) (cols128 arg4 harg4 x3 6) (stateOf arg17 harg17 xs0 27) (cols64 arg1 harg1 x0 27) (cols64 arg10 harg10 x9 27)) shapeCasts_S256x1_S256x1 := rfl
theorem dh27 : k0_pay736 (r_600 c arg4 harg4 arg6 harg6 arg8 harg8 arg11 harg11 arg17 harg17 x3 x5 x7 x10 xs0)
    = dhH (sums c harg5 harg6 harg7 harg8 x4 x5 x6 x7) 27 (cols128 arg4 harg4 x3 6) (stateOf arg17 harg17 xs0 27) (rowsT arg11 harg11 x10 27) := rfl

theorem dx28 : r_638 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 28 (cols128 arg3 harg3 x2 7) (cols128 arg4 harg4 x3 7) (stateOf arg17 harg17 xs0 28) (cols64 arg10 harg10 x9 28) := rfl
theorem ddt28 : k0_pay833 (r_637 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 28 (cols128 arg3 harg3 x2 7) (cols128 arg4 harg4 x3 7) (stateOf arg17 harg17 xs0 28) (cols64 arg1 harg1 x0 28) (cols64 arg10 harg10 x9 28)) shapeCasts_S256x1_S256x1 := rfl
theorem dh28 : k0_pay830 (r_630 c arg4 harg4 arg6 harg6 arg8 harg8 arg11 harg11 arg17 harg17 x3 x5 x7 x10 xs0)
    = dhH (sums c harg5 harg6 harg7 harg8 x4 x5 x6 x7) 28 (cols128 arg4 harg4 x3 7) (stateOf arg17 harg17 xs0 28) (rowsT arg11 harg11 x10 28) := rfl

theorem dx29 : r_659 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 29 (cols128 arg3 harg3 x2 7) (cols128 arg4 harg4 x3 7) (stateOf arg17 harg17 xs0 29) (cols64 arg10 harg10 x9 29) := rfl
theorem ddt29 : k0_pay837 (r_658 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 29 (cols128 arg3 harg3 x2 7) (cols128 arg4 harg4 x3 7) (stateOf arg17 harg17 xs0 29) (cols64 arg1 harg1 x0 29) (cols64 arg10 harg10 x9 29)) shapeCasts_S256x1_S256x1 := rfl
theorem dh29 : k0_pay834 (r_653 c arg4 harg4 arg6 harg6 arg8 harg8 arg11 harg11 arg17 harg17 x3 x5 x7 x10 xs0)
    = dhH (sums c harg5 harg6 harg7 harg8 x4 x5 x6 x7) 29 (cols128 arg4 harg4 x3 7) (stateOf arg17 harg17 xs0 29) (rowsT arg11 harg11 x10 29) := rfl

theorem dx30 : r_678 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 30 (cols128 arg3 harg3 x2 7) (cols128 arg4 harg4 x3 7) (stateOf arg17 harg17 xs0 30) (cols64 arg10 harg10 x9 30) := rfl
theorem ddt30 : k0_pay841 (r_676 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 30 (cols128 arg3 harg3 x2 7) (cols128 arg4 harg4 x3 7) (stateOf arg17 harg17 xs0 30) (cols64 arg1 harg1 x0 30) (cols64 arg10 harg10 x9 30)) shapeCasts_S256x1_S256x1 := rfl
theorem dh30 : k0_pay838 (r_673 c arg4 harg4 arg6 harg6 arg8 harg8 arg11 harg11 arg17 harg17 x3 x5 x7 x10 xs0)
    = dhH (sums c harg5 harg6 harg7 harg8 x4 x5 x6 x7) 30 (cols128 arg4 harg4 x3 7) (stateOf arg17 harg17 xs0 30) (rowsT arg11 harg11 x10 30) := rfl

theorem dx31 : r_696 c arg3 harg3 arg4 harg4 arg5 harg5 arg6 harg6 arg7 harg7 arg8 harg8 arg10 harg10 arg17 harg17 x2 x3 x4 x5 x6 x7 x9 xs0
    = dxH (sums c harg5 harg6 harg7 harg8 x4 x5 x6 x7) 31 (cols128 arg3 harg3 x2 7) (cols128 arg4 harg4 x3 7) (stateOf arg17 harg17 xs0 31) (cols64 arg10 harg10 x9 31) := rfl
theorem ddt31 : k0_pay845 (r_695 c arg1 harg1 arg3 harg3 arg4 harg4 arg5 harg5 arg6 harg6 arg7 harg7 arg8 harg8 arg10 harg10 arg17 harg17 x0 x2 x3 x4 x5 x6 x7 x9 xs0)
    = shapeCast S256x1 (ddtH (sums c harg5 harg6 harg7 harg8 x4 x5 x6 x7) 31 (cols128 arg3 harg3 x2 7) (cols128 arg4 harg4 x3 7) (stateOf arg17 harg17 xs0 31) (cols64 arg1 harg1 x0 31) (cols64 arg10 harg10 x9 31)) shapeCasts_S256x1_S256x1 := rfl
theorem dh31 : k0_pay842 (r_690 c arg4 harg4 arg6 harg6 arg8 harg8 arg11 harg11 arg17 harg17 x3 x5 x7 x10 xs0)
    = dhH (sums c harg5 harg6 harg7 harg8 x4 x5 x6 x7) 31 (cols128 arg4 harg4 x3 7) (stateOf arg17 harg17 xs0 31) (rowsT arg11 harg11 x10 31) := rfl

theorem db0 : r_83 c arg1 harg1 arg4 harg4 arg5 harg5 arg6 harg6 arg7 harg7 arg8 harg8 arg10 harg10 arg17 harg17 x0 x3 x4 x5 x6 x7 x9 xs0
    = dbH (sums c harg5 harg6 harg7 harg8 x4 x5 x6 x7) 3 (dbH (sums c harg5 harg6 harg7 harg8 x4 x5 x6 x7) 2 (dbH (sums c harg5 harg6 harg7 harg8 x4 x5 x6 x7) 1 (dbH (sums c harg5 harg6 harg7 harg8 x4 x5 x6 x7) 0 (broadcast S256x128 (Scalar.ofBits .f32 0x00000000#32)) (cols128 arg4 harg4 x3 0) (stateOf arg17 harg17 xs0 0) (cols64 arg1 harg1 x0 0) (cols64 arg10 harg10 x9 0)) (cols128 arg4 harg4 x3 0) (stateOf arg17 harg17 xs0 1) (cols64 arg1 harg1 x0 1) (cols64 arg10 harg10 x9 1)) (cols128 arg4 harg4 x3 0) (stateOf arg17 harg17 xs0 2) (cols64 arg1 harg1 x0 2) (cols64 arg10 harg10 x9 2)) (cols128 arg4 harg4 x3 0) (stateOf arg17 harg17 xs0 3) (cols64 arg1 harg1 x0 3) (cols64 arg10 harg10 x9 3) := rfl

theorem db1 : r_173 c arg1 harg1 arg4 harg4 arg5 harg5 arg6 harg6 arg7 harg7 arg8 harg8 arg10 harg10 arg17 harg17 x0 x3 x4 x5 x6 x7 x9 xs0
    = dbH (sums c harg5 harg6 harg7 harg8 x4 x5 x6 x7) 7 (dbH (sums c harg5 harg6 harg7 harg8 x4 x5 x6 x7) 6 (dbH (sums c harg5 harg6 harg7 harg8 x4 x5 x6 x7) 5 (dbH (sums c harg5 harg6 harg7 harg8 x4 x5 x6 x7) 4 (broadcast S256x128 (Scalar.ofBits .f32 0x00000000#32)) (cols128 arg4 harg4 x3 1) (stateOf arg17 harg17 xs0 4) (cols64 arg1 harg1 x0 4) (cols64 arg10 harg10 x9 4)) (cols128 arg4 harg4 x3 1) (stateOf arg17 harg17 xs0 5) (cols64 arg1 harg1 x0 5) (cols64 arg10 harg10 x9 5)) (cols128 arg4 harg4 x3 1) (stateOf arg17 harg17 xs0 6) (cols64 arg1 harg1 x0 6) (cols64 arg10 harg10 x9 6)) (cols128 arg4 harg4 x3 1) (stateOf arg17 harg17 xs0 7) (cols64 arg1 harg1 x0 7) (cols64 arg10 harg10 x9 7) := rfl

theorem db2 : r_260 c arg1 harg1 arg4 harg4 arg5 harg5 arg6 harg6 arg7 harg7 arg8 harg8 arg10 harg10 arg17 harg17 x0 x3 x4 x5 x6 x7 x9 xs0
    = dbH (sums c harg5 harg6 harg7 harg8 x4 x5 x6 x7) 11 (dbH (sums c harg5 harg6 harg7 harg8 x4 x5 x6 x7) 10 (dbH (sums c harg5 harg6 harg7 harg8 x4 x5 x6 x7) 9 (dbH (sums c harg5 harg6 harg7 harg8 x4 x5 x6 x7) 8 (broadcast S256x128 (Scalar.ofBits .f32 0x00000000#32)) (cols128 arg4 harg4 x3 2) (stateOf arg17 harg17 xs0 8) (cols64 arg1 harg1 x0 8) (cols64 arg10 harg10 x9 8)) (cols128 arg4 harg4 x3 2) (stateOf arg17 harg17 xs0 9) (cols64 arg1 harg1 x0 9) (cols64 arg10 harg10 x9 9)) (cols128 arg4 harg4 x3 2) (stateOf arg17 harg17 xs0 10) (cols64 arg1 harg1 x0 10) (cols64 arg10 harg10 x9 10)) (cols128 arg4 harg4 x3 2) (stateOf arg17 harg17 xs0 11) (cols64 arg1 harg1 x0 11) (cols64 arg10 harg10 x9 11) := rfl

theorem db3 : r_344 c arg1 harg1 arg4 harg4 arg5 harg5 arg6 harg6 arg7 harg7 arg8 harg8 arg10 harg10 arg17 harg17 x0 x3 x4 x5 x6 x7 x9 xs0
    = dbH (sums c harg5 harg6 harg7 harg8 x4 x5 x6 x7) 15 (dbH (sums c harg5 harg6 harg7 harg8 x4 x5 x6 x7) 14 (dbH (sums c harg5 harg6 harg7 harg8 x4 x5 x6 x7) 13 (dbH (sums c harg5 harg6 harg7 harg8 x4 x5 x6 x7) 12 (broadcast S256x128 (Scalar.ofBits .f32 0x00000000#32)) (cols128 arg4 harg4 x3 3) (stateOf arg17 harg17 xs0 12) (cols64 arg1 harg1 x0 12) (cols64 arg10 harg10 x9 12)) (cols128 arg4 harg4 x3 3) (stateOf arg17 harg17 xs0 13) (cols64 arg1 harg1 x0 13) (cols64 arg10 harg10 x9 13)) (cols128 arg4 harg4 x3 3) (stateOf arg17 harg17 xs0 14) (cols64 arg1 harg1 x0 14) (cols64 arg10 harg10 x9 14)) (cols128 arg4 harg4 x3 3) (stateOf arg17 harg17 xs0 15) (cols64 arg1 harg1 x0 15) (cols64 arg10 harg10 x9 15) := rfl

theorem db4 : r_429 c arg1 harg1 arg4 harg4 arg5 harg5 arg6 harg6 arg7 harg7 arg8 harg8 arg10 harg10 arg17 harg17 x0 x3 x4 x5 x6 x7 x9 xs0
    = dbH (sums c harg5 harg6 harg7 harg8 x4 x5 x6 x7) 19 (dbH (sums c harg5 harg6 harg7 harg8 x4 x5 x6 x7) 18 (dbH (sums c harg5 harg6 harg7 harg8 x4 x5 x6 x7) 17 (dbH (sums c harg5 harg6 harg7 harg8 x4 x5 x6 x7) 16 (broadcast S256x128 (Scalar.ofBits .f32 0x00000000#32)) (cols128 arg4 harg4 x3 4) (stateOf arg17 harg17 xs0 16) (cols64 arg1 harg1 x0 16) (cols64 arg10 harg10 x9 16)) (cols128 arg4 harg4 x3 4) (stateOf arg17 harg17 xs0 17) (cols64 arg1 harg1 x0 17) (cols64 arg10 harg10 x9 17)) (cols128 arg4 harg4 x3 4) (stateOf arg17 harg17 xs0 18) (cols64 arg1 harg1 x0 18) (cols64 arg10 harg10 x9 18)) (cols128 arg4 harg4 x3 4) (stateOf arg17 harg17 xs0 19) (cols64 arg1 harg1 x0 19) (cols64 arg10 harg10 x9 19) := rfl

theorem db5 : r_517 c arg1 harg1 arg4 harg4 arg5 harg5 arg6 harg6 arg7 harg7 arg8 harg8 arg10 harg10 arg17 harg17 x0 x3 x4 x5 x6 x7 x9 xs0
    = dbH (sums c harg5 harg6 harg7 harg8 x4 x5 x6 x7) 23 (dbH (sums c harg5 harg6 harg7 harg8 x4 x5 x6 x7) 22 (dbH (sums c harg5 harg6 harg7 harg8 x4 x5 x6 x7) 21 (dbH (sums c harg5 harg6 harg7 harg8 x4 x5 x6 x7) 20 (broadcast S256x128 (Scalar.ofBits .f32 0x00000000#32)) (cols128 arg4 harg4 x3 5) (stateOf arg17 harg17 xs0 20) (cols64 arg1 harg1 x0 20) (cols64 arg10 harg10 x9 20)) (cols128 arg4 harg4 x3 5) (stateOf arg17 harg17 xs0 21) (cols64 arg1 harg1 x0 21) (cols64 arg10 harg10 x9 21)) (cols128 arg4 harg4 x3 5) (stateOf arg17 harg17 xs0 22) (cols64 arg1 harg1 x0 22) (cols64 arg10 harg10 x9 22)) (cols128 arg4 harg4 x3 5) (stateOf arg17 harg17 xs0 23) (cols64 arg1 harg1 x0 23) (cols64 arg10 harg10 x9 23) := rfl

theorem db6 : r_599 c arg1 harg1 arg4 harg4 arg5 harg5 arg6 harg6 arg7 harg7 arg8 harg8 arg10 harg10 arg17 harg17 x0 x3 x4 x5 x6 x7 x9 xs0
    = dbH (sums c harg5 harg6 harg7 harg8 x4 x5 x6 x7) 27 (dbH (sums c harg5 harg6 harg7 harg8 x4 x5 x6 x7) 26 (dbH (sums c harg5 harg6 harg7 harg8 x4 x5 x6 x7) 25 (dbH (sums c harg5 harg6 harg7 harg8 x4 x5 x6 x7) 24 (broadcast S256x128 (Scalar.ofBits .f32 0x00000000#32)) (cols128 arg4 harg4 x3 6) (stateOf arg17 harg17 xs0 24) (cols64 arg1 harg1 x0 24) (cols64 arg10 harg10 x9 24)) (cols128 arg4 harg4 x3 6) (stateOf arg17 harg17 xs0 25) (cols64 arg1 harg1 x0 25) (cols64 arg10 harg10 x9 25)) (cols128 arg4 harg4 x3 6) (stateOf arg17 harg17 xs0 26) (cols64 arg1 harg1 x0 26) (cols64 arg10 harg10 x9 26)) (cols128 arg4 harg4 x3 6) (stateOf arg17 harg17 xs0 27) (cols64 arg1 harg1 x0 27) (cols64 arg10 harg10 x9 27) := rfl

theorem db7 : r_689 c arg1 harg1 arg4 harg4 arg5 harg5 arg6 harg6 arg7 harg7 arg8 harg8 arg10 harg10 arg17 harg17 x0 x3 x4 x5 x6 x7 x9 xs0
    = dbH (sums c harg5 harg6 harg7 harg8 x4 x5 x6 x7) 31 (dbH (sums c harg5 harg6 harg7 harg8 x4 x5 x6 x7) 30 (dbH (sums c harg5 harg6 harg7 harg8 x4 x5 x6 x7) 29 (dbH (sums c harg5 harg6 harg7 harg8 x4 x5 x6 x7) 28 (broadcast S256x128 (Scalar.ofBits .f32 0x00000000#32)) (cols128 arg4 harg4 x3 7) (stateOf arg17 harg17 xs0 28) (cols64 arg1 harg1 x0 28) (cols64 arg10 harg10 x9 28)) (cols128 arg4 harg4 x3 7) (stateOf arg17 harg17 xs0 29) (cols64 arg1 harg1 x0 29) (cols64 arg10 harg10 x9 29)) (cols128 arg4 harg4 x3 7) (stateOf arg17 harg17 xs0 30) (cols64 arg1 harg1 x0 30) (cols64 arg10 harg10 x9 30)) (cols128 arg4 harg4 x3 7) (stateOf arg17 harg17 xs0 31) (cols64 arg1 harg1 x0 31) (cols64 arg10 harg10 x9 31) := rfl

end Cert.Scan.B
end
-- ==== Proof.ScanOutB.lean ====
/-
  The blocks and the state a later chunk leaves, over the reals.
-/
module

public import proofs.«01_k».proof.Proof.ScanWordsB
public import proofs.«01_k».proof.Proof.ScanChunk

@[expose] public section

set_option maxRecDepth 16384

noncomputable section

namespace Cert.Scan.B

open Idealize.ShloMosaic Idealize.ShloMosaic.TcCoe Idealize.ShloMosaic.Pipeline Finset
open Cert.Kernel5Ideal Cert.Kernel5Ideal.Gen

variable {X B C DT DY : ℕ → ℕ → ℝ} {A : ℕ → ℝ} {D : ℕ → ℕ → ℕ → ℝ}
variable {c : Dev nD} {i : grid0.Coords}
variable {arg1 : Memref sig .tc .vmem S256x2048 .f32} {harg1 : arg1.IsWhole} {arg2 : Memref sig .tc .vmem S1x2048x256 .f32} {harg2 : arg2.IsWhole} {arg3 : Memref sig .tc .vmem S256x1024 .f32} {harg3 : arg3.IsWhole} {arg4 : Memref sig .tc .vmem S256x1024 .f32} {harg4 : arg4.IsWhole}
variable {arg5 : Memref sig .tc .vmem S1x256x32 .f32} {harg5 : arg5.IsWhole} {arg6 : Memref sig .tc .vmem S1x32x256 .f32} {harg6 : arg6.IsWhole} {arg7 : Memref sig .tc .vmem S1x32 .f32} {harg7 : arg7.IsWhole} {arg8 : Memref sig .tc .vmem S32x1 .f32} {harg8 : arg8.IsWhole}
variable {arg9 : Memref sig .tc .vmem S1x32x64x128 .f32} {harg9 : arg9.IsWhole} {arg10 : Memref sig .tc .vmem S256x2048 .f32} {harg10 : arg10.IsWhole} {arg11 : Memref sig .tc .vmem S1x2048x256 .f32} {harg11 : arg11.IsWhole} {arg12 : Memref sig .tc .vmem S256x2048 .f32} {harg12 : arg12.IsWhole}
variable {arg13 : Memref sig .tc .vmem S256x1024 .f32} {harg13 : arg13.IsWhole} {arg14 : Memref sig .tc .vmem S256x1024 .f32} {harg14 : arg14.IsWhole} {arg15 : Memref sig .tc .vmem S1x256x32 .f32} {harg15 : arg15.IsWhole} {arg16 : Memref sig .tc .vmem S1x256x32 .f32} {harg16 : arg16.IsWhole}
variable {arg17 : Memref sig .tc .vmem S32x64x128 .f32} {harg17 : arg17.IsWhole} {arg18 : Memref sig .tc .vmem S256x32 .f32} {harg18 : arg18.IsWhole} {arg19 : Memref sig .tc .vmem S256x32 .f32} {harg19 : arg19.IsWhole} {arg20 : Memref sig .tc .vmem S32x256 .f32} {harg20 : arg20.IsWhole}
variable {hc0 : ¬cond0_0 i}
variable {x0 : Vec Ideal S256x2048 .f32} {x1 : Vec Ideal S1x2048x256 .f32} {x2 x3 : Vec Ideal S256x1024 .f32}
    {x4 : Vec Ideal S1x256x32 .f32} {x5 : Vec Ideal S1x32x256 .f32} {x6 : Vec Ideal S1x32 .f32} {x7 : Vec Ideal S32x1 .f32}
    {x8 : Vec Ideal S1x32x64x128 .f32} {x9 : Vec Ideal S256x2048 .f32} {x10 : Vec Ideal S1x2048x256 .f32} {xs0 : Vec Ideal S32x64x128 .f32}

/-- The chunk's sums are the ones of its `dt` and the heads' rates. -/
theorem P_B (hB : Blk X B C DT DY A x0 x2 x3 x4 x5 x6 x7 x9 x10) : SumsR DT A (sums c harg5 harg6 harg7 harg8 x4 x5 x6 x7) := by
  rw [sums_eq]
  exact sums_real hB.h4 hB.h5 hB.h6 hB.h7

theorem state_B (hS : ∀ (h : Fin 32) (p : Fin 64) (n : Fin 128), xs0 (ix3 h p n) = ((D h p n : ℝ) : EReal)) (h : Fin 32) (p : Fin 64) (n : Fin 128) :
    stateOf arg17 harg17 xs0 h (ix3 0 p n) = ((D h p n : ℝ) : EReal) :=
  (stateOf_apply arg17 harg17 xs0 h p n).trans (hS h p n)

theorem dx_pieces (hB : Blk X B C DT DY A x0 x2 x3 x4 x5 x6 x7 x9 x10) (hS : ∀ (h : Fin 32) (p : Fin 64) (n : Fin 128), xs0 (ix3 h p n) = ((D h p n : ℝ) : EReal)) :
    View.PiecesOf (Val := Elt Ideal) (e := .f32) (dxG B C DT DY A D) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0).1 := by
  unfold kernelRun0_B
  dsimp only
  have hP := P_B (c := c) (arg5 := arg5) (harg5 := harg5) (arg6 := arg6) (harg6 := harg6) (arg7 := arg7) (harg7 := harg7) (arg8 := arg8) (harg8 := harg8) hB
  exact ⟨dx_piece (D := D) hB hP 31 dx31 (state_B hS 31),
    dx_piece (D := D) hB hP 30 dx30 (state_B hS 30),
    dx_piece (D := D) hB hP 29 dx29 (state_B hS 29),
    dx_piece (D := D) hB hP 28 dx28 (state_B hS 28),
    dx_piece (D := D) hB hP 27 dx27 (state_B hS 27),
    dx_piece (D := D) hB hP 26 dx26 (state_B hS 26),
    dx_piece (D := D) hB hP 25 dx25 (state_B hS 25),
    dx_piece (D := D) hB hP 24 dx24 (state_B hS 24),
    dx_piece (D := D) hB hP 23 dx23 (state_B hS 23),
    dx_piece (D := D) hB hP 22 dx22 (state_B hS 22),
    dx_piece (D := D) hB hP 21 dx21 (state_B hS 21),
    dx_piece (D := D) hB hP 20 dx20 (state_B hS 20),
    dx_piece (D := D) hB hP 19 dx19 (state_B hS 19),
    dx_piece (D := D) hB hP 18 dx18 (state_B hS 18),
    dx_piece (D := D) hB hP 17 dx17 (state_B hS 17),
    dx_piece (D := D) hB hP 16 dx16 (state_B hS 16),
    dx_piece (D := D) hB hP 15 dx15 (state_B hS 15),
    dx_piece (D := D) hB hP 14 dx14 (state_B hS 14),
    dx_piece (D := D) hB hP 13 dx13 (state_B hS 13),
    dx_piece (D := D) hB hP 12 dx12 (state_B hS 12),
    dx_piece (D := D) hB hP 11 dx11 (state_B hS 11),
    dx_piece (D := D) hB hP 10 dx10 (state_B hS 10),
    dx_piece (D := D) hB hP 9 dx9 (state_B hS 9),
    dx_piece (D := D) hB hP 8 dx8 (state_B hS 8),
    dx_piece (D := D) hB hP 7 dx7 (state_B hS 7),
    dx_piece (D := D) hB hP 6 dx6 (state_B hS 6),
    dx_piece (D := D) hB hP 5 dx5 (state_B hS 5),
    dx_piece (D := D) hB hP 4 dx4 (state_B hS 4),
    dx_piece (D := D) hB hP 3 dx3 (state_B hS 3),
    dx_piece (D := D) hB hP 2 dx2 (state_B hS 2),
    dx_piece (D := D) hB hP 1 dx1 (state_B hS 1),
    dx_piece (D := D) hB hP 0 dx0 (state_B hS 0), trivial⟩

/-- The chunk's block of the gradient at `x`. -/
theorem dx_out (hB : Blk X B C DT DY A x0 x2 x3 x4 x5 x6 x7 x9 x10) (hS : ∀ (h : Fin 32) (p : Fin 64) (n : Fin 128), xs0 (ix3 h p n) = ((D h p n : ℝ) : EReal)) (y : S256x2048.Idx) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 y = dxG B C DT DY A D y := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  exact View.canon_apply_of_pieces (Val := Elt Ideal) (e := .f32) _ _ (dx_pieces hB hS).mem y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 y)

theorem db_pieces (hB : Blk X B C DT DY A x0 x2 x3 x4 x5 x6 x7 x9 x10) (hS : ∀ (h : Fin 32) (p : Fin 64) (n : Fin 128), xs0 (ix3 h p n) = ((D h p n : ℝ) : EReal)) :
    View.PiecesOf (Val := Elt Ideal) (e := .f32) (dbG X C DT DY A D) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0).2.1 := by
  unfold kernelRun0_B
  dsimp only
  have hP := P_B (c := c) (arg5 := arg5) (harg5 := harg5) (arg6 := arg6) (harg6 := harg6) (arg7 := arg7) (harg7 := harg7) (arg8 := arg8) (harg8 := harg8) hB
  exact ⟨db_piece (D := D) hB hP 7 28 29 30 31 rfl rfl rfl rfl db7 (state_B hS 28) (state_B hS 29) (state_B hS 30) (state_B hS 31),
    db_piece (D := D) hB hP 6 24 25 26 27 rfl rfl rfl rfl db6 (state_B hS 24) (state_B hS 25) (state_B hS 26) (state_B hS 27),
    db_piece (D := D) hB hP 5 20 21 22 23 rfl rfl rfl rfl db5 (state_B hS 20) (state_B hS 21) (state_B hS 22) (state_B hS 23),
    db_piece (D := D) hB hP 4 16 17 18 19 rfl rfl rfl rfl db4 (state_B hS 16) (state_B hS 17) (state_B hS 18) (state_B hS 19),
    db_piece (D := D) hB hP 3 12 13 14 15 rfl rfl rfl rfl db3 (state_B hS 12) (state_B hS 13) (state_B hS 14) (state_B hS 15),
    db_piece (D := D) hB hP 2 8 9 10 11 rfl rfl rfl rfl db2 (state_B hS 8) (state_B hS 9) (state_B hS 10) (state_B hS 11),
    db_piece (D := D) hB hP 1 4 5 6 7 rfl rfl rfl rfl db1 (state_B hS 4) (state_B hS 5) (state_B hS 6) (state_B hS 7),
    db_piece (D := D) hB hP 0 0 1 2 3 rfl rfl rfl rfl db0 (state_B hS 0) (state_B hS 1) (state_B hS 2) (state_B hS 3), trivial⟩

/-- The chunk's block of the gradient at the input matrices. -/
theorem db_out (hB : Blk X B C DT DY A x0 x2 x3 x4 x5 x6 x7 x9 x10) (hS : ∀ (h : Fin 32) (p : Fin 64) (n : Fin 128), xs0 (ix3 h p n) = ((D h p n : ℝ) : EReal)) (y : S256x1024.Idx) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 y = dbG X C DT DY A D y := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  exact View.canon_apply_of_pieces (Val := Elt Ideal) (e := .f32) _ _ (db_pieces hB hS).mem y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 y)

theorem ddt_pieces (hB : Blk X B C DT DY A x0 x2 x3 x4 x5 x6 x7 x9 x10) (hS : ∀ (h : Fin 32) (p : Fin 64) (n : Fin 128), xs0 (ix3 h p n) = ((D h p n : ℝ) : EReal)) :
    View.PiecesOf (Val := Elt Ideal) (e := .f32) (ddtG X B C DT DY A D) (kernelRun0_B.sl.HS2_32 (F := Ideal) c arg1 harg1 arg3 harg3 arg4 harg4 arg5 harg5 arg6 harg6 arg7 harg7 arg8 harg8 arg10 harg10 arg17 harg17 x0 x2 x3 x4 x5 x6 x7 x9 xs0) := by
  unfold kernelRun0_B.sl.HS2_32
  have hP := P_B (c := c) (arg5 := arg5) (harg5 := harg5) (arg6 := arg6) (harg6 := harg6) (arg7 := arg7) (harg7 := harg7) (arg8 := arg8) (harg8 := harg8) hB
  exact ⟨ddt_piece (D := D) hB hP 31 ddt31 (state_B hS 31),
    ddt_piece (D := D) hB hP 30 ddt30 (state_B hS 30),
    ddt_piece (D := D) hB hP 29 ddt29 (state_B hS 29),
    ddt_piece (D := D) hB hP 28 ddt28 (state_B hS 28),
    ddt_piece (D := D) hB hP 27 ddt27 (state_B hS 27),
    ddt_piece (D := D) hB hP 26 ddt26 (state_B hS 26),
    ddt_piece (D := D) hB hP 25 ddt25 (state_B hS 25),
    ddt_piece (D := D) hB hP 24 ddt24 (state_B hS 24),
    ddt_piece (D := D) hB hP 23 ddt23 (state_B hS 23),
    ddt_piece (D := D) hB hP 22 ddt22 (state_B hS 22),
    ddt_piece (D := D) hB hP 21 ddt21 (state_B hS 21),
    ddt_piece (D := D) hB hP 20 ddt20 (state_B hS 20),
    ddt_piece (D := D) hB hP 19 ddt19 (state_B hS 19),
    ddt_piece (D := D) hB hP 18 ddt18 (state_B hS 18),
    ddt_piece (D := D) hB hP 17 ddt17 (state_B hS 17),
    ddt_piece (D := D) hB hP 16 ddt16 (state_B hS 16),
    ddt_piece (D := D) hB hP 15 ddt15 (state_B hS 15),
    ddt_piece (D := D) hB hP 14 ddt14 (state_B hS 14),
    ddt_piece (D := D) hB hP 13 ddt13 (state_B hS 13),
    ddt_piece (D := D) hB hP 12 ddt12 (state_B hS 12),
    ddt_piece (D := D) hB hP 11 ddt11 (state_B hS 11),
    ddt_piece (D := D) hB hP 10 ddt10 (state_B hS 10),
    ddt_piece (D := D) hB hP 9 ddt9 (state_B hS 9),
    ddt_piece (D := D) hB hP 8 ddt8 (state_B hS 8),
    ddt_piece (D := D) hB hP 7 ddt7 (state_B hS 7),
    ddt_piece (D := D) hB hP 6 ddt6 (state_B hS 6),
    ddt_piece (D := D) hB hP 5 ddt5 (state_B hS 5),
    ddt_piece (D := D) hB hP 4 ddt4 (state_B hS 4),
    ddt_piece (D := D) hB hP 3 ddt3 (state_B hS 3),
    ddt_piece (D := D) hB hP 2 ddt2 (state_B hS 2),
    ddt_piece (D := D) hB hP 1 ddt1 (state_B hS 1),
    ddt_piece (D := D) hB hP 0 ddt0 (state_B hS 0), trivial⟩

theorem ddt_word (hB : Blk X B C DT DY A x0 x2 x3 x4 x5 x6 x7 x9 x10) (hS : ∀ (h : Fin 32) (p : Fin 64) (n : Fin 128), xs0 (ix3 h p n) = ((D h p n : ℝ) : EReal)) (y : S256x32.Idx) :
    kernelRun0_B.sl.v4226 (F := Ideal) c arg1 harg1 arg3 harg3 arg4 harg4 arg5 harg5 arg6 harg6 arg7 harg7 arg8 harg8 arg10 harg10 arg17 harg17 arg19 x0 x2 x3 x4 x5 x6 x7 x9 xs0 y = ddtG X B C DT DY A D y := by
  have hc : ∀ y, ∃ p ∈ kernelRun0_B.sl.HS2_32 (F := Ideal) c arg1 harg1 arg3 harg3 arg4 harg4 arg5 harg5 arg6 harg6 arg7 harg7 arg8 harg8 arg10 harg10 arg17 harg17 x0 x2 x3 x4 x5 x6 x7 x9 xs0, y ∈ p.1.set :=
    fun y => View.cover_of_tiledL (kernelRun0_B.sl.HS2_32 (F := Ideal) c arg1 harg1 arg3 harg3 arg4 harg4 arg5 harg5 arg6 harg6 arg7 harg7 arg8 harg8 arg10 harg10 arg17 harg17 x0 x2 x3 x4 x5 x6 x7 x9 xs0) S256x1.size (by sl_kernel_rfl) y
  have o2 : (![0, 0] : Fin 2 → Nat) = fun _ => 0 := by decide
  unfold kernelRun0_B.sl.v4226
  rw [View.readCov_eq_canon_ld _ _ _ hc, View.ld_unit_zero (S := S256x32) o2]
  exact View.canon_apply_of_pieces (Val := Elt Ideal) (e := .f32) _ _ (ddt_pieces hB hS).mem y (hc y)

/-- The chunk's block of the gradient at `dt`. -/
theorem ddt_out (hB : Blk X B C DT DY A x0 x2 x3 x4 x5 x6 x7 x9 x10) (hS : ∀ (h : Fin 32) (p : Fin 64) (n : Fin 128), xs0 (ix3 h p n) = ((D h p n : ℝ) : EReal)) (s : Fin 256) (h : Fin 32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 (ix3 0 s h) = ddtG X B C DT DY A D (ix2 s h) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  unfold kernelRun0_B
  dsimp only
  have o3 : (![0, 0, 0] : Fin 3 → Nat) = fun _ => 0 := by decide
  rw [View.canon_unit_zero (S := S1x256x32) o3]
  pointwise [k0_pay1]
  exact ddt_word hB hS (ix2 s h)

theorem dh_pieces (hB : Blk X B C DT DY A x0 x2 x3 x4 x5 x6 x7 x9 x10) (hS : ∀ (h : Fin 32) (p : Fin 64) (n : Fin 128), xs0 (ix3 h p n) = ((D h p n : ℝ) : EReal)) :
    View.PiecesOf (Val := Elt Ideal) (e := .f32) (dhG C DT DY A D) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0).2.2.2.2.2.1 := by
  unfold kernelRun0_B
  dsimp only
  have hP := P_B (c := c) (arg5 := arg5) (harg5 := harg5) (arg6 := arg6) (harg6 := harg6) (arg7 := arg7) (harg7 := harg7) (arg8 := arg8) (harg8 := harg8) hB
  exact ⟨dh_piece (D := D) hB hP 31 dh31 (state_B hS 31),
    dh_piece (D := D) hB hP 30 dh30 (state_B hS 30),
    dh_piece (D := D) hB hP 29 dh29 (state_B hS 29),
    dh_piece (D := D) hB hP 28 dh28 (state_B hS 28),
    dh_piece (D := D) hB hP 27 dh27 (state_B hS 27),
    dh_piece (D := D) hB hP 26 dh26 (state_B hS 26),
    dh_piece (D := D) hB hP 25 dh25 (state_B hS 25),
    dh_piece (D := D) hB hP 24 dh24 (state_B hS 24),
    dh_piece (D := D) hB hP 23 dh23 (state_B hS 23),
    dh_piece (D := D) hB hP 22 dh22 (state_B hS 22),
    dh_piece (D := D) hB hP 21 dh21 (state_B hS 21),
    dh_piece (D := D) hB hP 20 dh20 (state_B hS 20),
    dh_piece (D := D) hB hP 19 dh19 (state_B hS 19),
    dh_piece (D := D) hB hP 18 dh18 (state_B hS 18),
    dh_piece (D := D) hB hP 17 dh17 (state_B hS 17),
    dh_piece (D := D) hB hP 16 dh16 (state_B hS 16),
    dh_piece (D := D) hB hP 15 dh15 (state_B hS 15),
    dh_piece (D := D) hB hP 14 dh14 (state_B hS 14),
    dh_piece (D := D) hB hP 13 dh13 (state_B hS 13),
    dh_piece (D := D) hB hP 12 dh12 (state_B hS 12),
    dh_piece (D := D) hB hP 11 dh11 (state_B hS 11),
    dh_piece (D := D) hB hP 10 dh10 (state_B hS 10),
    dh_piece (D := D) hB hP 9 dh9 (state_B hS 9),
    dh_piece (D := D) hB hP 8 dh8 (state_B hS 8),
    dh_piece (D := D) hB hP 7 dh7 (state_B hS 7),
    dh_piece (D := D) hB hP 6 dh6 (state_B hS 6),
    dh_piece (D := D) hB hP 5 dh5 (state_B hS 5),
    dh_piece (D := D) hB hP 4 dh4 (state_B hS 4),
    dh_piece (D := D) hB hP 3 dh3 (state_B hS 3),
    dh_piece (D := D) hB hP 2 dh2 (state_B hS 2),
    dh_piece (D := D) hB hP 1 dh1 (state_B hS 1),
    dh_piece (D := D) hB hP 0 dh0 (state_B hS 0), trivial⟩

/-- The state the chunk hands on. -/
theorem dh_out (hB : Blk X B C DT DY A x0 x2 x3 x4 x5 x6 x7 x9 x10) (hS : ∀ (h : Fin 32) (p : Fin 64) (n : Fin 128), xs0 (ix3 h p n) = ((D h p n : ℝ) : EReal)) (y : S32x64x128.Idx) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 y = dhG C DT DY A D y := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0)]
  exact View.canon_apply_of_pieces (Val := Elt Ideal) (e := .f32) _ _ (dh_pieces hB hS).mem y (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 y)

end Cert.Scan.B
end
-- ==== Proof.ScanPoints.lean ====
/-
  The gradient kernel's result arrays over the reals: point by point of the grid, from the last chunk to the first, the
  carried state is the later tokens' part of the sums, and so each written block holds sums over all tokens.
-/
module

public import proofs.«01_k».proof.Proof.ScanArgs
public import proofs.«01_k».proof.Proof.ScanOutA
public import proofs.«01_k».proof.Proof.ScanOutB

@[expose] public section

set_option maxRecDepth 16384

noncomputable section

namespace Cert.Scan

open Idealize.ShloMosaic Idealize.ShloMosaic.TcCoe Idealize.SL.Sem Finset
open Cert.Kernel5Ideal Cert.Kernel5Ideal.Gen Cert.Kernel5Ideal.Value

variable {m : (ℓ : Loc nD τ sig) → Buf (Elt Ideal) ℓ}
variable {W DT DY : ℕ → ℕ → ℝ} {A : ℕ → ℝ} {c : Dev nD} (H : Args m W DT DY A c)

/-- Into the last chunk nothing is carried. -/
theorem state_zero : stateR (fromC 3072 W) DT DY A 16 = fun _ _ _ => 0 :=
  funext fun h => funext fun p => funext fun n => state_last h p n

include H

/-- What the first grid point leaves in the carried state. -/
theorem state_first (t : Fin cfg0.N) (h0 : t.val % 17 = 0) (ht : t.val = 0) (h : Fin 32) (p : Fin 64) (n : Fin 128) :
    ((outsAt0 m c t.val t.isLt).2.2.2.2.2 (ix3 h p n) : EReal) = ((stateR (fromC 3072 W) DT DY A 15 h p n : ℝ) : EReal) := by
  rw [outsAt0_A m c t h0]
  dsimp only
  rw [Cert.Scan.A.dh_out (blocks_real H t)]
  unfold dhG
  rw [ht, ← state_zero (W := W) (DT := DT) (DY := DY) (A := A)]
  exact congrArg _ (state_step 15 (by omega) h.val p.val n.val)

/-- What a later grid point leaves in the carried state, from what the point before left. -/
theorem state_next (t : Fin cfg0.N) (h0 : ¬t.val % 17 = 0) (ht : t.val < 16)
    (ih : ∀ (h : Fin 32) (p : Fin 64) (n : Fin 128), ((outsAt0 m c (t.val - 1) (Nat.lt_of_le_of_lt (Nat.sub_le _ _) t.isLt)).2.2.2.2.2 (ix3 h p n) : EReal)
      = ((stateR (fromC 3072 W) DT DY A (16 - t.val) h p n : ℝ) : EReal)) (h : Fin 32) (p : Fin 64) (n : Fin 128) :
    ((outsAt0 m c t.val t.isLt).2.2.2.2.2 (ix3 h p n) : EReal) = ((stateR (fromC 3072 W) DT DY A (15 - t.val) h p n : ℝ) : EReal) := by
  rw [outsAt0_B m c t h0]
  dsimp only
  rw [Cert.Scan.B.dh_out (blocks_real H t) ih]
  unfold dhG
  have e : 16 - t.val = 15 - t.val + 1 := by omega
  rw [e]
  exact congrArg _ (state_step (15 - t.val) (by omega) h.val p.val n.val)

/-- After grid point `n` the carried state is the one of chunk `15 - n`. -/
theorem state_after : ∀ (n : ℕ) (hn : n < cfg0.N) (_ : n < 16) (h : Fin 32) (p : Fin 64) (k : Fin 128),
    ((outsAt0 m c n hn).2.2.2.2.2 (ix3 h p k) : EReal) = ((stateR (fromC 3072 W) DT DY A (15 - n) h p k : ℝ) : EReal) := by
  intro n
  induction n with
  | zero => exact fun hn _ => state_first H ⟨0, hn⟩ rfl rfl
  | succ n ih =>
    intro hn h16
    refine state_next H ⟨n + 1, hn⟩ (by dsimp only; omega) h16 ?_
    have e : 16 - (n + 1) = 15 - n := by omega
    dsimp only
    rw [e]
    exact ih (Nat.lt_of_succ_lt hn) (by omega)

/-- The state a later grid point finds. -/
theorem state_before (t : Fin cfg0.N) (h0 : ¬t.val % 17 = 0) (h : Fin 32) (p : Fin 64) (n : Fin 128) :
    ((outsAt0 m c (t.val - 1) (Nat.lt_of_le_of_lt (Nat.sub_le _ _) t.isLt)).2.2.2.2.2 (ix3 h p n) : EReal)
      = ((stateR (fromC 3072 W) DT DY A (16 - t.val) h p n : ℝ) : EReal) := by
  have hN : t.val < 17 := lt_of_lt_of_eq t.isLt (show cfg0.N = 17 from N_0)
  have e : 16 - t.val = 15 - (t.val - 1) := by omega
  rw [e]
  exact state_after H (t.val - 1) _ (by omega) h p n

/-- The three written blocks at a grid point. -/
theorem dx_at (t : Fin cfg0.N) (y : S256x2048.Idx) : ((outsAt0 m c t.val t.isLt).1 y : EReal)
    = dxG (fromR (16 - t.val) (fromC 2048 W)) (fromR (16 - t.val) (fromC 3072 W)) (fromR (16 - t.val) DT) (fromR (16 - t.val) DY) A
        (stateR (fromC 3072 W) DT DY A (16 - t.val)) y := by
  have hN : t.val < 17 := lt_of_lt_of_eq t.isLt (show cfg0.N = 17 from N_0)
  by_cases h0 : t.val % 17 = 0
  · rw [outsAt0_A m c t h0]
    dsimp only
    rw [Cert.Scan.A.dx_out (blocks_real H t), show 16 - t.val = 16 by omega, state_zero]
  · rw [outsAt0_B m c t h0]
    dsimp only
    exact Cert.Scan.B.dx_out (blocks_real H t) (state_before H t h0) y

theorem db_at (t : Fin cfg0.N) (y : S256x1024.Idx) : ((outsAt0 m c t.val t.isLt).2.1 y : EReal)
    = dbG (fromR (16 - t.val) W) (fromR (16 - t.val) (fromC 3072 W)) (fromR (16 - t.val) DT) (fromR (16 - t.val) DY) A
        (stateR (fromC 3072 W) DT DY A (16 - t.val)) y := by
  have hN : t.val < 17 := lt_of_lt_of_eq t.isLt (show cfg0.N = 17 from N_0)
  by_cases h0 : t.val % 17 = 0
  · rw [outsAt0_A m c t h0]
    dsimp only
    rw [Cert.Scan.A.db_out (blocks_real H t), show 16 - t.val = 16 by omega, state_zero]
  · rw [outsAt0_B m c t h0]
    dsimp only
    exact Cert.Scan.B.db_out (blocks_real H t) (state_before H t h0) y

theorem ddt_at (t : Fin cfg0.N) (s : Fin 256) (h : Fin 32) : ((outsAt0 m c t.val t.isLt).2.2.2.2.1 (ix3 0 s h) : EReal)
    = ddtG (fromR (16 - t.val) W) (fromR (16 - t.val) (fromC 2048 W)) (fromR (16 - t.val) (fromC 3072 W)) (fromR (16 - t.val) DT)
        (fromR (16 - t.val) DY) A (stateR (fromC 3072 W) DT DY A (16 - t.val)) (ix2 s h) := by
  have hN : t.val < 17 := lt_of_lt_of_eq t.isLt (show cfg0.N = 17 from N_0)
  by_cases h0 : t.val % 17 = 0
  · rw [outsAt0_A m c t h0]
    dsimp only
    rw [Cert.Scan.A.ddt_out (blocks_real H t), show 16 - t.val = 16 by omega, state_zero]
  · rw [outsAt0_B m c t h0]
    dsimp only
    exact Cert.Scan.B.ddt_out (blocks_real H t) (state_before H t h0) s h

omit H in
/-- Every grid point writes its block back. -/
theorem flushes : ∀ t : Fin cfg0.N, (cfg0.win 11).flush t = true ∧ (cfg0.win 12).flush t = true ∧ (cfg0.win 15).flush t = true :=
  (by decide +kernel : ∀ t : Fin grid0.N, _)

/-- The first result: the gradient at `x`. -/
theorem ker_dx (i : S4352x2048.Idx) : ((dats m 0 c).arrAt 11 cfg0.N i : EReal)
    = ((dxdtT (fromC 2048 W) (fromC 3072 W) DT DY A (i 0).val ((i 1).val / 64) ((i 1).val % 64) * DT (i 0).val ((i 1).val / 64) : ℝ) : EReal) := by
  have b0 : (i 0).val < 4352 := (i 0).isLt
  have b1 : (i 1).val < 2048 := (i 1).isLt
  have hN : cfg0.N = 17 := N_0
  let t : Fin cfg0.N := ⟨16 - (i 0).val / 256, by omega⟩
  have ht : 16 - t.val = (i 0).val / 256 := by show 16 - (16 - (i 0).val / 256) = _; omega
  let y : S256x2048.Idx := ix2 ⟨(i 0).val % 256, Nat.mod_lt _ (by decide)⟩ ⟨(i 1).val, b1⟩
  have e := congrFun (blocks11 m c t (flushes t).1) y
  rw [View.read_apply, flushed11] at e
  have ei : ((cfg0.win 11).blk t).view.emb y = i := by
    obtain ⟨_, _, _, _, _, _, ⟨e0, e1⟩, _⟩ := index2 t
    funext a
    match a with
    | ⟨0, _⟩ =>
      refine Fin.ext ?_
      show win0_11.index t (0 : Fin 2) * 256 + 1 * ((i 0).val % 256) = (i 0).val
      rw [e0, ht]; omega
    | ⟨1, _⟩ =>
      refine Fin.ext ?_
      show win0_11.index t (1 : Fin 2) * 2048 + 1 * (i 1).val = (i 1).val
      rw [e1]; omega
  rw [ei] at e
  refine e.trans ((dx_at H t y).trans ?_)
  unfold dxG
  rw [ht]
  refine congrArg _ (congrArg₂ (· * ·) ((dxdt_total _ (by omega) _ _ _ (Nat.mod_lt _ (by decide))).trans ?_) ?_)
  · show dxdtT _ _ _ _ _ (256 * ((i 0).val / 256) + (i 0).val % 256) ((i 1).val / 64) ((i 1).val % 64) = _
    rw [Nat.div_add_mod]
  · show DT (256 * ((i 0).val / 256) + (i 0).val % 256) ((i 1).val / 64) = _
    rw [Nat.div_add_mod]

/-- The second result: the gradient at the input matrices. -/
theorem ker_db (i : S4352x1024.Idx) : ((dats m 0 c).arrAt 12 cfg0.N i : EReal)
    = ((∑ j ∈ range 4, dbT W (fromC 3072 W) DT DY A (i 0).val (4 * ((i 1).val / 128) + j) ((i 1).val % 128) : ℝ) : EReal) := by
  have b0 : (i 0).val < 4352 := (i 0).isLt
  have b1 : (i 1).val < 1024 := (i 1).isLt
  have hN : cfg0.N = 17 := N_0
  let t : Fin cfg0.N := ⟨16 - (i 0).val / 256, by omega⟩
  have ht : 16 - t.val = (i 0).val / 256 := by show 16 - (16 - (i 0).val / 256) = _; omega
  let y : S256x1024.Idx := ix2 ⟨(i 0).val % 256, Nat.mod_lt _ (by decide)⟩ ⟨(i 1).val, b1⟩
  have e := congrFun (blocks12 m c t (flushes t).2.1) y
  rw [View.read_apply, flushed12] at e
  have ei : ((cfg0.win 12).blk t).view.emb y = i := by
    obtain ⟨_, _, _, _, _, _, _, ⟨e0, e1⟩⟩ := index2 t
    funext a
    match a with
    | ⟨0, _⟩ =>
      refine Fin.ext ?_
      show win0_12.index t (0 : Fin 2) * 256 + 1 * ((i 0).val % 256) = (i 0).val
      rw [e0, ht]; omega
    | ⟨1, _⟩ =>
      refine Fin.ext ?_
      show win0_12.index t (1 : Fin 2) * 1024 + 1 * (i 1).val = (i 1).val
      rw [e1]; omega
  rw [ei] at e
  refine e.trans ((db_at H t y).trans ?_)
  unfold dbG
  rw [ht]
  refine congrArg _ (Finset.sum_congr rfl fun j _ => ?_)
  refine (db_total _ (by omega) _ _ _ (Nat.mod_lt _ (by decide))).trans ?_
  show dbT _ _ _ _ _ (256 * ((i 0).val / 256) + (i 0).val % 256) (4 * ((i 1).val / 128) + j) ((i 1).val % 128) = _
  rw [Nat.div_add_mod]

/-- The third result: the gradient at `dt` where it scales `x`. -/
theorem ker_ddt (i : S17x256x32.Idx) : ((dats m 0 c).arrAt 15 cfg0.N i : EReal)
    = ((∑ p ∈ range 64, W (256 * (i 0).val + (i 1).val) (64 * (i 2).val + p)
        * dxdtT (fromC 2048 W) (fromC 3072 W) DT DY A (256 * (i 0).val + (i 1).val) (i 2).val p : ℝ) : EReal) := by
  have b0 : (i 0).val < 17 := (i 0).isLt
  have b1 : (i 1).val < 256 := (i 1).isLt
  have b2 : (i 2).val < 32 := (i 2).isLt
  have hN : cfg0.N = 17 := N_0
  let t : Fin cfg0.N := ⟨16 - (i 0).val, by omega⟩
  have ht : 16 - t.val = (i 0).val := by show 16 - (16 - (i 0).val) = _; omega
  let y : S1x256x32.Idx := ix3 0 ⟨(i 1).val, b1⟩ ⟨(i 2).val, b2⟩
  have e := congrFun (blocks15 m c t (flushes t).2.2) y
  rw [View.read_apply, flushed15] at e
  have ei : ((cfg0.win 15).blk t).view.emb y = i := by
    obtain ⟨_, _, _, ⟨e0, e1, e2⟩⟩ := index3 t
    funext a
    match a with
    | ⟨0, _⟩ =>
      refine Fin.ext ?_
      show win0_15.index t (0 : Fin 3) * 1 + 1 * 0 = (i 0).val
      rw [e0, ht]; omega
    | ⟨1, _⟩ =>
      refine Fin.ext ?_
      show win0_15.index t (1 : Fin 3) * 256 + 1 * (i 1).val = (i 1).val
      rw [e1]; omega
    | ⟨2, _⟩ =>
      refine Fin.ext ?_
      show win0_15.index t (2 : Fin 3) * 32 + 1 * (i 2).val = (i 2).val
      rw [e2]; omega
  rw [ei] at e
  refine e.trans ((ddt_at H t ⟨(i 1).val, b1⟩ ⟨(i 2).val, b2⟩).trans ?_)
  unfold ddtG
  rw [ht]
  refine congrArg _ ?_
  unfold ddtR
  refine Finset.sum_congr rfl fun p _ => ?_
  refine (congrArg₂ (· * ·) (dxdt_total _ (by omega) _ _ _ b1) rfl).trans ?_
  exact mul_comm _ _

end Cert.Scan

end
-- ==== Proof.ScanClaim.lean ====
/-
  The gradient of the state-space scan: on finite arguments the kernel's three results are the reference's.
-/
module

public import proofs.«01_k».proof.Proof.Gate
public import proofs.«01_k».proof.Proof.ScanPoints
public import proofs.«01_k».proof.Proof.Gen.Pre_finite5
public import proofs.«01_k».proof.Defs

@[expose] public section

set_option maxRecDepth 16384

noncomputable section

namespace Cert.Scan

open Idealize.ShloMosaic Idealize.ShloMosaic.TcCoe Idealize.SL.Sem Finset
open Cert.Kernel5Ideal Cert.Kernel5Ideal.Gen Cert.Kernel5Ideal.Value

/-! ## What the precondition gives -/

section Finite
variable [Cert.Pre_finite5.Facts] (x0 : S4352x4096.Idx → EReal) (x1 : S4352x32.Idx → EReal) (x2 : S32.Idx → EReal)
  (x3 : S17x32x64x128.Idx → EReal) (x4 : S4352x2048.Idx → EReal)

/-- Every entry of the sequence (inputs, input matrices and output matrices) is finite. -/
theorem finite_seq (i : S4352x4096.Idx) (h : (Cert.Pre_finite5.fn (F := Ideal) x0 x1 x2 x3 x4).1 = fun _ => 1#1) :
    x0 i ≠ ⊤ ∧ x0 i ≠ ⊥ := by
  refine Cert.KernelIdeal.Gate.finite_of_bit ?_
  have e := congrFun h i
  unfold Cert.Pre_finite5.fn at e
  dsimp only at e
  revert e
  pointwise
  exact id

/-- Every step is finite. -/
theorem finite_step (i : S4352x32.Idx) (h : (Cert.Pre_finite5.fn (F := Ideal) x0 x1 x2 x3 x4).2.1 = fun _ => 1#1) :
    x1 i ≠ ⊤ ∧ x1 i ≠ ⊥ := by
  refine Cert.KernelIdeal.Gate.finite_of_bit ?_
  have e := congrFun h i
  unfold Cert.Pre_finite5.fn at e
  dsimp only at e
  revert e
  pointwise
  exact id

/-- Every rate is finite. -/
theorem finite_rate (i : S32.Idx) (h : (Cert.Pre_finite5.fn (F := Ideal) x0 x1 x2 x3 x4).2.2.1 = fun _ => 1#1) :
    x2 i ≠ ⊤ ∧ x2 i ≠ ⊥ := by
  refine Cert.KernelIdeal.Gate.finite_of_bit ?_
  have e := congrFun h i
  unfold Cert.Pre_finite5.fn at e
  dsimp only at e
  revert e
  pointwise
  exact id

/-- Every entry of the output's gradient is finite. -/
theorem finite_cotangent (i : S4352x2048.Idx) (h : (Cert.Pre_finite5.fn (F := Ideal) x0 x1 x2 x3 x4).2.2.2 = fun _ => 1#1) :
    x4 i ≠ ⊤ ∧ x4 i ≠ ⊥ := by
  refine Cert.KernelIdeal.Gate.finite_of_bit ?_
  have e := congrFun h i
  unfold Cert.Pre_finite5.fn at e
  dsimp only at e
  revert e
  pointwise
  exact id

end Finite

/-- An array of finite entries, read as reals by row and column. -/
def real2 {R C : ℕ} (x : (⟨2, ![R, C]⟩ : Shape).Idx → EReal) (r k : ℕ) : ℝ :=
  if h : r < R ∧ k < C then (x (ix2 ⟨r, h.1⟩ ⟨k, h.2⟩)).toReal else 0

theorem real2_spec {R C : ℕ} (x : (⟨2, ![R, C]⟩ : Shape).Idx → EReal) (hx : ∀ i, x i ≠ ⊤ ∧ x i ≠ ⊥)
    (i : (⟨2, ![R, C]⟩ : Shape).Idx) : x i = ((real2 x (i 0).val (i 1).val : ℝ) : EReal) := by
  have e : real2 x (i 0).val (i 1).val = (x i).toReal := by
    unfold real2
    rw [dif_pos ⟨(i 0).isLt, (i 1).isLt⟩]
    exact congrArg (fun j => (x j).toReal) (eq_ix2 i).symm
  rw [e]
  exact (EReal.coe_toReal (hx i).1 (hx i).2).symm

/-- The same for a vector. -/
def real1 {R : ℕ} (x : (⟨1, ![R]⟩ : Shape).Idx → EReal) (r : ℕ) : ℝ :=
  if h : r < R then (x (ix1 ⟨r, h⟩)).toReal else 0

theorem real1_spec {R : ℕ} (x : (⟨1, ![R]⟩ : Shape).Idx → EReal) (hx : ∀ i, x i ≠ ⊤ ∧ x i ≠ ⊥)
    (i : (⟨1, ![R]⟩ : Shape).Idx) : x i = ((real1 x (i 0).val : ℝ) : EReal) := by
  have e : real1 x (i 0).val = (x i).toReal := by
    unfold real1
    have hlt : (i 0).val < R := (i 0).isLt
    rw [dif_pos hlt]
    exact congrArg (fun j => (x j).toReal) (eq_ix1 i).symm
  rw [e]
  exact (EReal.coe_toReal (hx i).1 (hx i).2).symm

variable (m : (ℓ : Loc nD τ sig) → Buf (Elt Ideal) ℓ)

/-- The sequence, the steps, the rates and the output's gradient on core `c`. -/
abbrev seqOf (c : Dev nD) : S4352x4096.Idx → EReal := m ((c : Thread nD τ).loc main_arg0)
abbrev stepOf (c : Dev nD) : S4352x32.Idx → EReal := m ((c : Thread nD τ).loc main_arg1)
abbrev rateOf (c : Dev nD) : S32.Idx → EReal := m ((c : Thread nD τ).loc main_arg2)
abbrev cotOf (c : Dev nD) : S4352x2048.Idx → EReal := m ((c : Thread nD τ).loc main_arg4)

variable {m}

/-- On finite arguments every argument is an array of reals. -/
theorem args_real (hm : Cert.Pre_Kernel5Ideal_finite5 m) (c : Dev nD) :
    Args m (real2 (seqOf m c)) (real2 (stepOf m c)) (real2 (cotOf m c)) (real1 (rateOf m c)) c := by
  obtain ⟨h0, h1, h2, h4⟩ := hm c
  exact ⟨real2_spec _ fun i => finite_seq _ _ _ _ _ i h0, real2_spec _ fun i => finite_step _ _ _ _ _ i h1,
    real1_spec _ fun i => finite_rate _ _ _ _ _ i h2, real2_spec _ fun i => finite_cotangent _ _ _ _ _ i h4⟩

/-- The gradient of the inputs is the reference's. -/
theorem dx_eq (hm : Cert.Pre_Kernel5Ideal_finite5 m) (c : Dev nD) : (dats m 0 c).arrAt 11 cfg0.N
    = Cert.Reference5Ideal.Read.val_main_v58 (F := Ideal) (seqOf m c) (stepOf m c) (rateOf m c) (cotOf m c) := by
  have H := args_real hm c
  funext i
  exact (ker_dx H i).trans (ref_dx H.w H.dt H.a H.dy i).symm

/-- The gradient of the input matrices is the reference's. -/
theorem db_eq (hm : Cert.Pre_Kernel5Ideal_finite5 m) (c : Dev nD) : (dats m 0 c).arrAt 12 cfg0.N
    = Cert.Reference5Ideal.Read.val_main_v59 (F := Ideal) (seqOf m c) (stepOf m c) (rateOf m c) (cotOf m c) := by
  have H := args_real hm c
  funext i
  exact (ker_db H i).trans (ref_db H.w H.dt H.a H.dy i).symm

/-- The gradient of the steps, where they scale the inputs, is the reference's. -/
theorem ddt_eq (hm : Cert.Pre_Kernel5Ideal_finite5 m) (c : Dev nD) : (dats m 0 c).arrAt 15 cfg0.N
    = Cert.Reference5Ideal.Read.val_main_v60 (F := Ideal) (seqOf m c) (stepOf m c) (rateOf m c) (cotOf m c) := by
  have H := args_real hm c
  funext i
  exact (ker_ddt H i).trans (ref_ddt H.w H.dt H.a H.dy i).symm

/-- The claim: from the same finite arguments the kernel and the reference end with the same three arrays. -/
theorem algebraic : Cert.algebraic_Kernel5Ideal_Reference5Ideal_pre_finite5 := by
  intro m g m' g' hm h
  refine ⟨fun c => (dats m 0 c).arrAt 11 cfg0.N, fun c => (dats m 0 c).arrAt 12 cfg0.N, fun c => (dats m 0 c).arrAt 15 cfg0.N,
    (θ_run _ _ _).mono (fun r hr c => ?_) (run_blocks m g), (θ_run _ _ _).mono (fun r hr c => ?_) (Cert.Reference5Ideal.Value.run m' g')⟩
  · obtain ⟨r0, r1, -, -, r4, ha⟩ := hr c
    exact ⟨r0, r1, r4, ha⟩
  · obtain ⟨h0, h1, h2, -, h4⟩ := h c
    obtain ⟨r0, r1, r2, ha⟩ := hr c
    refine ⟨?_, ?_, ?_, ha⟩
    · rw [r0, Cert.Reference5Ideal.Read.val_main_v58_eq, h0, h1, h2, h4]
      exact (dx_eq hm c).symm
    · rw [r1, Cert.Reference5Ideal.Read.val_main_v59_eq, h0, h1, h2, h4]
      exact (db_eq hm c).symm
    · rw [r2, Cert.Reference5Ideal.Read.val_main_v60_eq, h0, h1, h2, h4]
      exact (ddt_eq hm c).symm

end Cert.Scan

end
-- ==== Proof.lean ====
/- Every claim of `Cert.Claim`, each by the module that proves it. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel10.Frame
public import proofs.«01_k».proof.Proof.Gen.Kernel10Ideal.Frame
public import proofs.«01_k».proof.Proof.Gen.Reference10Ideal
public import proofs.«01_k».proof.Proof.Gen.Kernel11.Frame
public import proofs.«01_k».proof.Proof.Gen.Kernel11Ideal.Frame
public import proofs.«01_k».proof.Proof.Gen.Reference11Ideal
public import proofs.«01_k».proof.Proof.Gen.Kernel12.Frame
public import proofs.«01_k».proof.Proof.Gen.Kernel12Ideal.Frame
public import proofs.«01_k».proof.Proof.Gen.Reference12Ideal
public import proofs.«01_k».proof.Proof.Gen.Kernel13.Frame
public import proofs.«01_k».proof.Proof.Gen.Kernel13Ideal.Frame
public import proofs.«01_k».proof.Proof.Gen.Reference13Ideal
public import proofs.«01_k».proof.Proof.Gen.Kernel14.Frame
public import proofs.«01_k».proof.Proof.Gen.Kernel14Ideal.Frame
public import proofs.«01_k».proof.Proof.Gen.Reference14Ideal
public import proofs.«01_k».proof.Proof.Gen.Kernel15.Frame
public import proofs.«01_k».proof.Proof.Gen.Kernel15Ideal.Frame
public import proofs.«01_k».proof.Proof.Gen.Reference15Ideal
public import proofs.«01_k».proof.Proof.Gen.Kernel16.Frame
public import proofs.«01_k».proof.Proof.Gen.Kernel16Ideal.Frame
public import proofs.«01_k».proof.Proof.Gen.Reference16Ideal
public import proofs.«01_k».proof.Proof.Gen.Kernel17.Frame
public import proofs.«01_k».proof.Proof.Gen.Kernel17Ideal.Frame
public import proofs.«01_k».proof.Proof.Gen.Reference17Ideal
public import proofs.«01_k».proof.Proof.Gen.Kernel18.Frame
public import proofs.«01_k».proof.Proof.Gen.Kernel18Ideal.Frame
public import proofs.«01_k».proof.Proof.Gen.Reference18Ideal
public import proofs.«01_k».proof.Proof.Gen.Kernel19.Frame
public import proofs.«01_k».proof.Proof.Gen.Kernel19Ideal.Frame
public import proofs.«01_k».proof.Proof.Gen.Reference19Ideal
public import proofs.«01_k».proof.Proof.Gen.Kernel20.Frame
public import proofs.«01_k».proof.Proof.Gen.Kernel20Ideal.Frame
public import proofs.«01_k».proof.Proof.Gen.Reference20Ideal
public import proofs.«01_k».proof.Proof.Gen.Kernel21.Frame
public import proofs.«01_k».proof.Proof.Gen.Kernel21Ideal.Frame
public import proofs.«01_k».proof.Proof.Gen.Reference21Ideal
public import proofs.«01_k».proof.Proof.Gen.Kernel22.Frame
public import proofs.«01_k».proof.Proof.Gen.Kernel22Ideal.Frame
public import proofs.«01_k».proof.Proof.Gen.Reference22Ideal
public import proofs.«01_k».proof.Proof.Gen.Kernel23.Frame
public import proofs.«01_k».proof.Proof.Gen.Kernel23Ideal.Frame
public import proofs.«01_k».proof.Proof.Gen.Reference23Ideal
public import proofs.«01_k».proof.Proof.Gen.Kernel24.Frame
public import proofs.«01_k».proof.Proof.Gen.Kernel24Ideal.Frame
public import proofs.«01_k».proof.Proof.Gen.Reference24Ideal
public import proofs.«01_k».proof.Proof.Gen.Kernel25.Frame
public import proofs.«01_k».proof.Proof.Gen.Kernel25Ideal.Frame
public import proofs.«01_k».proof.Proof.Gen.Reference25Ideal
public import proofs.«01_k».proof.Proof.Gen.Kernel26.Frame
public import proofs.«01_k».proof.Proof.Gen.Kernel26Ideal.Frame
public import proofs.«01_k».proof.Proof.Gen.Reference26Ideal
public import proofs.«01_k».proof.Proof.Gen.Kernel27.Frame
public import proofs.«01_k».proof.Proof.Gen.Kernel27Ideal.Frame
public import proofs.«01_k».proof.Proof.Gen.Reference27Ideal
public import proofs.«01_k».proof.Proof.Gen.Kernel28.Frame
public import proofs.«01_k».proof.Proof.Gen.Kernel28Ideal.Frame
public import proofs.«01_k».proof.Proof.Gen.Reference28Ideal
public import proofs.«01_k».proof.Proof.Gen.Kernel29.Frame
public import proofs.«01_k».proof.Proof.Gen.Kernel29Ideal.Frame
public import proofs.«01_k».proof.Proof.Gen.Reference29Ideal
public import proofs.«01_k».proof.Proof.Gen.Kernel30.Frame
public import proofs.«01_k».proof.Proof.Gen.Kernel30Ideal.Frame
public import proofs.«01_k».proof.Proof.Gen.Reference30Ideal
public import proofs.«01_k».proof.Proof.Gen.Kernel31.Frame
public import proofs.«01_k».proof.Proof.Gen.Kernel31Ideal.Frame
public import proofs.«01_k».proof.Proof.Gen.Reference31Ideal
public import proofs.«01_k».proof.Proof.Gen.Kernel32.Frame
public import proofs.«01_k».proof.Proof.Gen.Kernel32Ideal.Frame
public import proofs.«01_k».proof.Proof.Gen.Reference32Ideal
public import proofs.«01_k».proof.Proof.Gen.Kernel33.Frame
public import proofs.«01_k».proof.Proof.Gen.Kernel33Ideal.Frame
public import proofs.«01_k».proof.Proof.Gen.Reference33Ideal
public import proofs.«01_k».proof.Proof.Gen.Kernel34.Frame
public import proofs.«01_k».proof.Proof.Gen.Kernel34Ideal.Frame
public import proofs.«01_k».proof.Proof.Gen.Reference34Ideal
public import proofs.«01_k».proof.Proof.Gen.Kernel35.Frame
public import proofs.«01_k».proof.Proof.Gen.Kernel36.Frame
public import proofs.«01_k».proof.Proof.Gen.Kernel35Ideal.Frame
public import proofs.«01_k».proof.Proof.Gen.Kernel36Ideal.Frame
public import proofs.«01_k».proof.Proof.Gen.Reference35Ideal
public import proofs.«01_k».proof.Proof.Gen.Reference36Ideal
public import proofs.«01_k».proof.Proof.Gen.Kernel37.Frame
public import proofs.«01_k».proof.Proof.Gen.Kernel37Ideal.Frame
public import proofs.«01_k».proof.Proof.Gen.Reference37Ideal
public import proofs.«01_k».proof.Proof.Gen.Kernel38.Frame
public import proofs.«01_k».proof.Proof.Gen.Kernel38Ideal.Frame
public import proofs.«01_k».proof.Proof.Gen.Reference38Ideal
public import proofs.«01_k».proof.Proof.Gen.Kernel39.Frame
public import proofs.«01_k».proof.Proof.Gen.Kernel39Ideal.Frame
public import proofs.«01_k».proof.Proof.Gen.Reference39Ideal
public import proofs.«01_k».proof.Proof.Gen.Kernel40.Frame
public import proofs.«01_k».proof.Proof.Gen.Kernel41.Frame
public import proofs.«01_k».proof.Proof.Gen.Kernel40Ideal.Frame
public import proofs.«01_k».proof.Proof.Gen.Kernel41Ideal.Frame
public import proofs.«01_k».proof.Proof.Gen.Reference40Ideal
public import proofs.«01_k».proof.Proof.Gen.Reference41Ideal
public import proofs.«01_k».proof.Proof.Gen.Pre_finite
public import proofs.«01_k».proof.Proof.Gen.Pre_finite5
public import proofs.«01_k».proof.Proof.Gen.Pre_placed37
public import proofs.«01_k».proof.Proof.Gen.Pre_placed38
public import proofs.«01_k».proof.Proof.Gen.Pre_placed39
public import proofs.«01_k».proof.Proof.Gen.Pre_placed40
public import proofs.«01_k».proof.Proof.Gen.Pre_placed41
public import proofs.«01_k».proof.Proof.Gen.KernelIdeal.Value
public import proofs.«01_k».proof.Proof.Gen.ReferenceIdeal.Read
public import proofs.«01_k».proof.Proof.Gen.Kernel2Ideal.Value
public import proofs.«01_k».proof.Proof.Gen.Reference2Ideal.Read
public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel6Ideal.Value
public import proofs.«01_k».proof.Proof.Gen.Reference6Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import proofs.«01_k».proof.Proof.Gen.Kernel23Ideal.Value
public import proofs.«01_k».proof.Proof.Gen.Reference23Ideal.Read
public import proofs.«01_k».proof.Proof.Gen.Kernel24Ideal.Value
public import proofs.«01_k».proof.Proof.Gen.Reference24Ideal.Read
public import proofs.«01_k».proof.Proof.Gen.Kernel25Ideal.Value
public import proofs.«01_k».proof.Proof.Gen.Reference25Ideal.Read
public import proofs.«01_k».proof.Proof.Gen.Kernel26Ideal.Value
public import proofs.«01_k».proof.Proof.Gen.Reference26Ideal.Read
public import proofs.«01_k».proof.Proof.Gen.Kernel27Ideal.Value
public import proofs.«01_k».proof.Proof.Gen.Reference27Ideal.Read
public import proofs.«01_k».proof.Proof.Gen.Kernel28Ideal.Value
public import proofs.«01_k».proof.Proof.Gen.Reference28Ideal.Read
public import proofs.«01_k».proof.Proof.Gen.Kernel29Ideal.Value
public import proofs.«01_k».proof.Proof.Gen.Reference29Ideal.Read
public import proofs.«01_k».proof.Proof.Gen.Kernel30Ideal.Value
public import proofs.«01_k».proof.Proof.Gen.Reference30Ideal.Read
public import proofs.«01_k».proof.Proof.Gen.Kernel31Ideal.Value
public import proofs.«01_k».proof.Proof.Gen.Reference31Ideal.Read
public import proofs.«01_k».proof.Proof.Gen.Kernel32Ideal.Value
public import proofs.«01_k».proof.Proof.Gen.Reference32Ideal.Read
public import proofs.«01_k».proof.Proof.Gen.Kernel33Ideal.Value
public import proofs.«01_k».proof.Proof.Gen.Reference33Ideal.Read
public import proofs.«01_k».proof.Proof.Gen.Kernel34Ideal.Value
public import proofs.«01_k».proof.Proof.Gen.Reference34Ideal.Read
public import proofs.«01_k».proof.Proof.Gen.Kernel35Ideal.Run
public import proofs.«01_k».proof.Proof.Gen.Kernel36Ideal.Run
public import proofs.«01_k».proof.Proof.Gen.Reference35Ideal.Run
public import proofs.«01_k».proof.Proof.Gen.Reference36Ideal.Run
public import proofs.«01_k».proof.Proof.Gen.Reference37Ideal.Run
public import proofs.«01_k».proof.Proof.Gen.Reference38Ideal.Run
public import proofs.«01_k».proof.Proof.Gen.Reference39Ideal.Run
public import proofs.«01_k».proof.Proof.Gen.Reference40Ideal.Run
public import proofs.«01_k».proof.Proof.Gen.Reference41Ideal.Run
public import proofs.«01_k».proof.Proof.Adam26
public import proofs.«01_k».proof.Proof.Adam27
public import proofs.«01_k».proof.Proof.Adam28
public import proofs.«01_k».proof.Proof.Adam29
public import proofs.«01_k».proof.Proof.Adam30
public import proofs.«01_k».proof.Proof.Adam31
public import proofs.«01_k».proof.Proof.Adam32
public import proofs.«01_k».proof.Proof.AdamStep
public import proofs.«01_k».proof.Proof.Chips35
public import proofs.«01_k».proof.Proof.Context36
public import proofs.«01_k».proof.Proof.Gate
public import proofs.«01_k».proof.Proof.GateForward
public import proofs.«01_k».proof.Proof.Math
public import proofs.«01_k».proof.Proof.PeerSum
public import proofs.«01_k».proof.Proof.Peers37
public import proofs.«01_k».proof.Proof.Peers38
public import proofs.«01_k».proof.Proof.Peers39
public import proofs.«01_k».proof.Proof.Peers40
public import proofs.«01_k».proof.Proof.Peers41
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Product15
public import proofs.«01_k».proof.Proof.Product16
public import proofs.«01_k».proof.Proof.Product17
public import proofs.«01_k».proof.Proof.Product19
public import proofs.«01_k».proof.Proof.Product2
public import proofs.«01_k».proof.Proof.Product20
public import proofs.«01_k».proof.Proof.Product21
public import proofs.«01_k».proof.Proof.Product22
public import proofs.«01_k».proof.Proof.Product23
public import proofs.«01_k».proof.Proof.Product24
public import proofs.«01_k».proof.Proof.Product25
public import proofs.«01_k».proof.Proof.Product3
public import proofs.«01_k».proof.Proof.Product33
public import proofs.«01_k».proof.Proof.Product34
public import proofs.«01_k».proof.Proof.Product4
public import proofs.«01_k».proof.Proof.Product6
public import proofs.«01_k».proof.Proof.Product7
public import proofs.«01_k».proof.Proof.Product8
public import proofs.«01_k».proof.Proof.Product9
public import proofs.«01_k».proof.Proof.ScanArgs
public import proofs.«01_k».proof.Proof.ScanBlock
public import proofs.«01_k».proof.Proof.ScanChunk
public import proofs.«01_k».proof.Proof.ScanClaim
public import proofs.«01_k».proof.Proof.ScanHead
public import proofs.«01_k».proof.Proof.ScanOutA
public import proofs.«01_k».proof.Proof.ScanOutB
public import proofs.«01_k».proof.Proof.ScanPoints
public import proofs.«01_k».proof.Proof.ScanRef
public import proofs.«01_k».proof.Proof.ScanSums
public import proofs.«01_k».proof.Proof.ScanTotal
public import proofs.«01_k».proof.Proof.ScanWordsA
public import proofs.«01_k».proof.Proof.ScanWordsB
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Pre_finite.Gen.facts, Cert.Pre_finite5.Gen.facts, Cert.Pre_placed37.Gen.facts, Cert.Pre_placed38.Gen.facts, Cert.Pre_placed39.Gen.facts, Cert.Pre_placed40.Gen.facts, Cert.Pre_placed41.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩)
    (Cert.Reference3Ideal.Value.run (F := Ideal) m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems (by decide) r.2⟩)
    (Cert.Reference4Ideal.Value.run (F := Ideal) m ρ),
  fun m ρ _ => Cert.Kernel5.Gen.frame m ρ,
  fun m ρ _ => Cert.Kernel5Ideal.Gen.frame m ρ,
  fun m ρ _ => Cert.Kernel5Ideal.Gen.frame m ρ,
  fun m ρ _ => (θ_run Cert.Reference5Ideal.defs _ _).mono (fun r h => ⟨fun c => (h c).2.2.2, sem_eq_zero_of_no_sems (by decide) r.2⟩)
    (Cert.Reference5Ideal.Value.run (F := Ideal) m ρ),
  fun m ρ _ => (θ_run Cert.Reference5Ideal.defs _ _).mono (fun r h => ⟨fun c => (h c).2.2.2, sem_eq_zero_of_no_sems (by decide) r.2⟩)
    (Cert.Reference5Ideal.Value.run (F := Ideal) m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems (by decide) r.2⟩)
    (Cert.Reference6Ideal.Value.run (F := Ideal) m ρ),
  fun m ρ _ => Cert.Kernel7.Gen.frame m ρ,
  fun m ρ _ => Cert.Kernel7Ideal.Gen.frame m ρ,
  fun m ρ _ => (θ_run Cert.Reference7Ideal.defs _ _).mono (fun r h => ⟨fun c => (h c).2, sem_eq_zero_of_no_sems (by decide) r.2⟩)
    (Cert.Reference7Ideal.Value.run (F := Ideal) m ρ),
  fun m ρ _ => Cert.Kernel8.Gen.frame m ρ,
  fun m ρ _ => Cert.Kernel8Ideal.Gen.frame m ρ,
  fun m ρ _ => (θ_run Cert.Reference8Ideal.defs _ _).mono (fun r h => ⟨fun c => (h c).2, sem_eq_zero_of_no_sems (by decide) r.2⟩)
    (Cert.Reference8Ideal.Value.run (F := Ideal) m ρ),
  fun m ρ _ => Cert.Kernel9.Gen.frame m ρ,
  fun m ρ _ => Cert.Kernel9Ideal.Gen.frame m ρ,
  fun m ρ _ => (θ_run Cert.Reference9Ideal.defs _ _).mono (fun r h => ⟨fun c => (h c).2, sem_eq_zero_of_no_sems (by decide) r.2⟩)
    (Cert.Reference9Ideal.Value.run (F := Ideal) m ρ),
  fun m ρ _ => Cert.Kernel10.Gen.frame m ρ,
  fun m ρ _ => Cert.Kernel10Ideal.Gen.frame m ρ,
  fun m ρ _ => (θ_run Cert.Reference10Ideal.defs _ _).mono (fun r h => ⟨fun c => (h c).2, sem_eq_zero_of_no_sems (by decide) r.2⟩)
    (Cert.Reference10Ideal.Value.run (F := Ideal) m ρ),
  fun m ρ _ => Cert.Kernel11.Gen.frame m ρ,
  fun m ρ _ => Cert.Kernel11Ideal.Gen.frame m ρ,
  fun m ρ _ => (θ_run Cert.Reference11Ideal.defs _ _).mono (fun r h => ⟨fun c => (h c).2, sem_eq_zero_of_no_sems (by decide) r.2⟩)
    (Cert.Reference11Ideal.Value.run (F := Ideal) m ρ),
  fun m ρ _ => Cert.Kernel12.Gen.frame m ρ,
  fun m ρ _ => Cert.Kernel12Ideal.Gen.frame m ρ,
  fun m ρ _ => (θ_run Cert.Reference12Ideal.defs _ _).mono (fun r h => ⟨fun c => (h c).2, sem_eq_zero_of_no_sems (by decide) r.2⟩)
    (Cert.Reference12Ideal.Value.run (F := Ideal) m ρ),
  fun m ρ _ => Cert.Kernel13.Gen.frame m ρ,
  fun m ρ _ => Cert.Kernel13Ideal.Gen.frame m ρ,
  fun m ρ _ => (θ_run Cert.Reference13Ideal.defs _ _).mono (fun r h => ⟨fun c => (h c).2, sem_eq_zero_of_no_sems (by decide) r.2⟩)
    (Cert.Reference13Ideal.Value.run (F := Ideal) m ρ),
  fun m ρ _ => Cert.Kernel14.Gen.frame m ρ,
  fun m ρ _ => Cert.Kernel14Ideal.Gen.frame m ρ,
  fun m ρ _ => (θ_run Cert.Reference14Ideal.defs _ _).mono (fun r h => ⟨fun c => (h c).2, sem_eq_zero_of_no_sems (by decide) r.2⟩)
    (Cert.Reference14Ideal.Value.run (F := Ideal) m ρ),
  fun m ρ _ => Cert.Kernel15.Gen.frame m ρ,
  fun m ρ _ => Cert.Kernel15Ideal.Gen.frame m ρ,
  fun m ρ _ => (θ_run Cert.Reference15Ideal.defs _ _).mono (fun r h => ⟨fun c => (h c).2, sem_eq_zero_of_no_sems (by decide) r.2⟩)
    (Cert.Reference15Ideal.Value.run (F := Ideal) m ρ),
  fun m ρ _ => Cert.Kernel16.Gen.frame m ρ,
  fun m ρ _ => Cert.Kernel16Ideal.Gen.frame m ρ,
  fun m ρ _ => (θ_run Cert.Reference16Ideal.defs _ _).mono (fun r h => ⟨fun c => (h c).2, sem_eq_zero_of_no_sems (by decide) r.2⟩)
    (Cert.Reference16Ideal.Value.run (F := Ideal) m ρ),
  fun m ρ _ => Cert.Kernel17.Gen.frame m ρ,
  fun m ρ _ => Cert.Kernel17Ideal.Gen.frame m ρ,
  fun m ρ _ => (θ_run Cert.Reference17Ideal.defs _ _).mono (fun r h => ⟨fun c => (h c).2, sem_eq_zero_of_no_sems (by decide) r.2⟩)
    (Cert.Reference17Ideal.Value.run (F := Ideal) m ρ),
  fun m ρ _ => Cert.Kernel18.Gen.frame m ρ,
  fun m ρ _ => Cert.Kernel18Ideal.Gen.frame m ρ,
  fun m ρ _ => (θ_run Cert.Reference18Ideal.defs _ _).mono (fun r h => ⟨fun c => (h c).2.2, sem_eq_zero_of_no_sems (by decide) r.2⟩)
    (Cert.Reference18Ideal.Value.run (F := Ideal) m ρ),
  fun m ρ _ => Cert.Kernel19.Gen.frame m ρ,
  fun m ρ _ => Cert.Kernel19Ideal.Gen.frame m ρ,
  fun m ρ _ => (θ_run Cert.Reference19Ideal.defs _ _).mono (fun r h => ⟨fun c => (h c).2, sem_eq_zero_of_no_sems (by decide) r.2⟩)
    (Cert.Reference19Ideal.Value.run (F := Ideal) m ρ),
  fun m ρ _ => Cert.Kernel20.Gen.frame m ρ,
  fun m ρ _ => Cert.Kernel20Ideal.Gen.frame m ρ,
  fun m ρ _ => (θ_run Cert.Reference20Ideal.defs _ _).mono (fun r h => ⟨fun c => (h c).2, sem_eq_zero_of_no_sems (by decide) r.2⟩)
    (Cert.Reference20Ideal.Value.run (F := Ideal) m ρ),
  fun m ρ _ => Cert.Kernel21.Gen.frame m ρ,
  fun m ρ _ => Cert.Kernel21Ideal.Gen.frame m ρ,
  fun m ρ _ => (θ_run Cert.Reference21Ideal.defs _ _).mono (fun r h => ⟨fun c => (h c).2, sem_eq_zero_of_no_sems (by decide) r.2⟩)
    (Cert.Reference21Ideal.Value.run (F := Ideal) m ρ),
  fun m ρ _ => Cert.Kernel22.Gen.frame m ρ,
  fun m ρ _ => Cert.Kernel22Ideal.Gen.frame m ρ,
  fun m ρ _ => (θ_run Cert.Reference22Ideal.defs _ _).mono (fun r h => ⟨fun c => (h c).2, sem_eq_zero_of_no_sems (by decide) r.2⟩)
    (Cert.Reference22Ideal.Value.run (F := Ideal) m ρ),
  fun m ρ _ => Cert.Kernel23.Gen.frame m ρ,
  fun m ρ _ => Cert.Kernel23Ideal.Gen.frame m ρ,
  fun m ρ _ => (θ_run Cert.Reference23Ideal.defs _ _).mono (fun r h => ⟨fun c => (h c).2, sem_eq_zero_of_no_sems (by decide) r.2⟩)
    (Cert.Reference23Ideal.Value.run (F := Ideal) m ρ),
  fun m ρ _ => Cert.Kernel24.Gen.frame m ρ,
  fun m ρ _ => Cert.Kernel24Ideal.Gen.frame m ρ,
  fun m ρ _ => (θ_run Cert.Reference24Ideal.defs _ _).mono (fun r h => ⟨fun c => (h c).2, sem_eq_zero_of_no_sems (by decide) r.2⟩)
    (Cert.Reference24Ideal.Value.run (F := Ideal) m ρ),
  fun m ρ _ => Cert.Kernel25.Gen.frame m ρ,
  fun m ρ _ => Cert.Kernel25Ideal.Gen.frame m ρ,
  fun m ρ _ => (θ_run Cert.Reference25Ideal.defs _ _).mono (fun r h => ⟨fun c => (h c).2, sem_eq_zero_of_no_sems (by decide) r.2⟩)
    (Cert.Reference25Ideal.Value.run (F := Ideal) m ρ),
  fun m ρ _ => Cert.Kernel26.Gen.frame m ρ,
  fun m ρ _ => Cert.Kernel26Ideal.Gen.frame m ρ,
  fun m ρ _ => (θ_run Cert.Reference26Ideal.defs _ _).mono (fun r h => ⟨fun c => (h c).2.2.2, sem_eq_zero_of_no_sems (by decide) r.2⟩)
    (Cert.Reference26Ideal.Value.run (F := Ideal) m ρ),
  fun m ρ _ => Cert.Kernel27.Gen.frame m ρ,
  fun m ρ _ => Cert.Kernel27Ideal.Gen.frame m ρ,
  fun m ρ _ => (θ_run Cert.Reference27Ideal.defs _ _).mono (fun r h => ⟨fun c => (h c).2.2.2, sem_eq_zero_of_no_sems (by decide) r.2⟩)
    (Cert.Reference27Ideal.Value.run (F := Ideal) m ρ),
  fun m ρ _ => Cert.Kernel28.Gen.frame m ρ,
  fun m ρ _ => Cert.Kernel28Ideal.Gen.frame m ρ,
  fun m ρ _ => (θ_run Cert.Reference28Ideal.defs _ _).mono (fun r h => ⟨fun c => (h c).2.2.2, sem_eq_zero_of_no_sems (by decide) r.2⟩)
    (Cert.Reference28Ideal.Value.run (F := Ideal) m ρ),
  fun m ρ _ => Cert.Kernel29.Gen.frame m ρ,
  fun m ρ _ => Cert.Kernel29Ideal.Gen.frame m ρ,
  fun m ρ _ => (θ_run Cert.Reference29Ideal.defs _ _).mono (fun r h => ⟨fun c => (h c).2.2.2, sem_eq_zero_of_no_sems (by decide) r.2⟩)
    (Cert.Reference29Ideal.Value.run (F := Ideal) m ρ),
  fun m ρ _ => Cert.Kernel30.Gen.frame m ρ,
  fun m ρ _ => Cert.Kernel30Ideal.Gen.frame m ρ,
  fun m ρ _ => (θ_run Cert.Reference30Ideal.defs _ _).mono (fun r h => ⟨fun c => (h c).2.2.2, sem_eq_zero_of_no_sems (by decide) r.2⟩)
    (Cert.Reference30Ideal.Value.run (F := Ideal) m ρ),
  fun m ρ _ => Cert.Kernel31.Gen.frame m ρ,
  fun m ρ _ => Cert.Kernel31Ideal.Gen.frame m ρ,
  fun m ρ _ => (θ_run Cert.Reference31Ideal.defs _ _).mono (fun r h => ⟨fun c => (h c).2.2.2, sem_eq_zero_of_no_sems (by decide) r.2⟩)
    (Cert.Reference31Ideal.Value.run (F := Ideal) m ρ),
  fun m ρ _ => Cert.Kernel32.Gen.frame m ρ,
  fun m ρ _ => Cert.Kernel32Ideal.Gen.frame m ρ,
  fun m ρ _ => (θ_run Cert.Reference32Ideal.defs _ _).mono (fun r h => ⟨fun c => (h c).2.2.2, sem_eq_zero_of_no_sems (by decide) r.2⟩)
    (Cert.Reference32Ideal.Value.run (F := Ideal) m ρ),
  fun m ρ _ => Cert.Kernel33.Gen.frame m ρ,
  fun m ρ _ => Cert.Kernel33Ideal.Gen.frame m ρ,
  fun m ρ _ => (θ_run Cert.Reference33Ideal.defs _ _).mono (fun r h => ⟨fun c => (h c).2, sem_eq_zero_of_no_sems (by decide) r.2⟩)
    (Cert.Reference33Ideal.Value.run (F := Ideal) m ρ),
  fun m ρ _ => Cert.Kernel34.Gen.frame m ρ,
  fun m ρ _ => Cert.Kernel34Ideal.Gen.frame m ρ,
  fun m ρ _ => (θ_run Cert.Reference34Ideal.defs _ _).mono (fun r h => ⟨fun c => (h c).2, sem_eq_zero_of_no_sems (by decide) r.2⟩)
    (Cert.Reference34Ideal.Value.run (F := Ideal) m ρ),
  fun m ρ _ => Cert.Kernel35.Gen.frame m ρ,
  fun m ρ _ => Cert.Kernel35Ideal.Gen.frame m ρ,
  fun m ρ _ => (θ_run Cert.Reference35Ideal.defs _ _).mono (fun r h => ⟨fun c => (h c).2.2.2.2.2.2.2.2.2.2.2.2.2.2.2.2.2.2.2, sem_eq_zero_of_no_sems (by decide) r.2⟩)
    (Cert.Reference35Ideal.Value.run (F := Ideal) m ρ),
  fun m ρ _ => Cert.Kernel36.Gen.frame m ρ,
  fun m ρ _ => Cert.Kernel36Ideal.Gen.frame m ρ,
  fun m ρ _ => (θ_run Cert.Reference36Ideal.defs _ _).mono (fun r h => ⟨fun c => (h c).2, sem_eq_zero_of_no_sems (by decide) r.2⟩)
    (Cert.Reference36Ideal.Value.run (F := Ideal) m ρ),
  fun m ρ h => Cert.Kernel37.Gen.frame m ρ (Cert.Kernel37.Peers.ok m h),
  fun m ρ h => Cert.Kernel37Ideal.Gen.frame m ρ (Cert.Kernel37Ideal.Peers.ok m h),
  fun m ρ _ => (θ_run Cert.Reference37Ideal.defs _ _).mono (fun r h => ⟨fun c => (h c).2.2, sem_eq_zero_of_no_sems (by decide) r.2⟩)
    (Cert.Reference37Ideal.Value.run (F := Ideal) m ρ),
  fun m ρ _ => (θ_run Cert.Reference37Ideal.defs _ _).mono (fun r h => ⟨fun c => (h c).2.2, sem_eq_zero_of_no_sems (by decide) r.2⟩)
    (Cert.Reference37Ideal.Value.run (F := Ideal) m ρ),
  fun m ρ h => Cert.Kernel38.Gen.frame m ρ (Cert.Kernel38.Peers.ok m h),
  fun m ρ h => Cert.Kernel38Ideal.Gen.frame m ρ (Cert.Kernel38Ideal.Peers.ok m h),
  fun m ρ _ => (θ_run Cert.Reference38Ideal.defs _ _).mono (fun r h => ⟨fun c => (h c).2.2, sem_eq_zero_of_no_sems (by decide) r.2⟩)
    (Cert.Reference38Ideal.Value.run (F := Ideal) m ρ),
  fun m ρ _ => (θ_run Cert.Reference38Ideal.defs _ _).mono (fun r h => ⟨fun c => (h c).2.2, sem_eq_zero_of_no_sems (by decide) r.2⟩)
    (Cert.Reference38Ideal.Value.run (F := Ideal) m ρ),
  fun m ρ h => Cert.Kernel39.Gen.frame m ρ (Cert.Kernel39.Peers.ok m h),
  fun m ρ h => Cert.Kernel39Ideal.Gen.frame m ρ (Cert.Kernel39Ideal.Peers.ok m h),
  fun m ρ _ => (θ_run Cert.Reference39Ideal.defs _ _).mono (fun r h => ⟨fun c => (h c).2, sem_eq_zero_of_no_sems (by decide) r.2⟩)
    (Cert.Reference39Ideal.Value.run (F := Ideal) m ρ),
  fun m ρ _ => (θ_run Cert.Reference39Ideal.defs _ _).mono (fun r h => ⟨fun c => (h c).2, sem_eq_zero_of_no_sems (by decide) r.2⟩)
    (Cert.Reference39Ideal.Value.run (F := Ideal) m ρ),
  fun m ρ h => Cert.Kernel40.Gen.frame m ρ (Cert.Kernel40.Peers.ok m h),
  fun m ρ h => Cert.Kernel40Ideal.Gen.frame m ρ (Cert.Kernel40Ideal.Peers.ok m h),
  fun m ρ _ => (θ_run Cert.Reference40Ideal.defs _ _).mono (fun r h => ⟨fun c => (h c).2.2, sem_eq_zero_of_no_sems (by decide) r.2⟩)
    (Cert.Reference40Ideal.Value.run (F := Ideal) m ρ),
  fun m ρ _ => (θ_run Cert.Reference40Ideal.defs _ _).mono (fun r h => ⟨fun c => (h c).2.2, sem_eq_zero_of_no_sems (by decide) r.2⟩)
    (Cert.Reference40Ideal.Value.run (F := Ideal) m ρ),
  fun m ρ h => Cert.Kernel41.Gen.frame m ρ (Cert.Kernel41.Peers.ok m h),
  fun m ρ h => Cert.Kernel41Ideal.Gen.frame m ρ (Cert.Kernel41Ideal.Peers.ok m h),
  fun m ρ _ => (θ_run Cert.Reference41Ideal.defs _ _).mono (fun r h => ⟨fun c => (h c).2, sem_eq_zero_of_no_sems (by decide) r.2⟩)
    (Cert.Reference41Ideal.Value.run (F := Ideal) m ρ),
  fun m ρ _ => (θ_run Cert.Reference41Ideal.defs _ _).mono (fun r h => ⟨fun c => (h c).2, sem_eq_zero_of_no_sems (by decide) r.2⟩)
    (Cert.Reference41Ideal.Value.run (F := Ideal) m ρ),
  trivial,
  Cert.KernelIdeal.Gate.algebraic,
  trivial,
  Cert.Kernel2Ideal.Product.algebraic,
  trivial,
  Cert.Kernel3Ideal.Product.algebraic,
  trivial,
  Cert.Kernel4Ideal.Product.algebraic,
  trivial,
  Cert.Scan.algebraic,
  trivial,
  Cert.Kernel6Ideal.Product.algebraic,
  trivial,
  Cert.Kernel7Ideal.Product.algebraic,
  trivial,
  Cert.Kernel8Ideal.Product.algebraic,
  trivial,
  Cert.Kernel9Ideal.Product.algebraic,
  trivial,
  Cert.Kernel10Ideal.Product.algebraic,
  trivial,
  Cert.Kernel11Ideal.Product.algebraic,
  trivial,
  Cert.Kernel12Ideal.Product.algebraic,
  trivial,
  Cert.Kernel13Ideal.Product.algebraic,
  trivial,
  Cert.Kernel14Ideal.Product.algebraic,
  trivial,
  Cert.Kernel15Ideal.Product.algebraic,
  trivial,
  Cert.Kernel16Ideal.Product.algebraic,
  trivial,
  Cert.Kernel17Ideal.Product.algebraic,
  trivial,
  Cert.Kernel18Ideal.Gate.algebraic,
  trivial,
  Cert.Kernel19Ideal.Product.algebraic,
  trivial,
  Cert.Kernel20Ideal.Product.algebraic,
  trivial,
  Cert.Kernel21Ideal.Product.algebraic,
  trivial,
  Cert.Kernel22Ideal.Product.algebraic,
  trivial,
  Cert.Kernel23Ideal.Product.algebraic,
  trivial,
  Cert.Kernel24Ideal.Product.algebraic,
  trivial,
  Cert.Kernel25Ideal.Product.algebraic,
  trivial,
  Cert.Kernel26Ideal.Adam.algebraic,
  trivial,
  Cert.Kernel27Ideal.Adam.algebraic,
  trivial,
  Cert.Kernel28Ideal.Adam.algebraic,
  trivial,
  Cert.Kernel29Ideal.Adam.algebraic,
  trivial,
  Cert.Kernel30Ideal.Adam.algebraic,
  trivial,
  Cert.Kernel31Ideal.Adam.algebraic,
  trivial,
  Cert.Kernel32Ideal.Adam.algebraic,
  trivial,
  Cert.Kernel33Ideal.Product.algebraic,
  trivial,
  Cert.Kernel34Ideal.Product.algebraic,
  trivial,
  Cert.Kernel35Ideal.Chips.algebraic,
  trivial,
  Cert.Kernel36Ideal.Context.algebraic,
  trivial,
  Cert.Kernel37Ideal.Peers.algebraic,
  trivial,
  Cert.Kernel38Ideal.Peers.algebraic,
  trivial,
  Cert.Kernel39Ideal.Peers.algebraic,
  trivial,
  Cert.Kernel40Ideal.Peers.algebraic,
  trivial,
  Cert.Kernel41Ideal.Peers.algebraic⟩

end Cert.Proof

end
